-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Reference13Ideal (m : (ℓ : Loc Cert.Reference13Ideal.nD Cert.Reference13Ideal.τ Cert.Reference13Ideal.sig) → Buf (Elt Ideal) ℓ) : Prop :=
  True

def Pre_Kernel14 (m : (ℓ : Loc Cert.Kernel14.nD Cert.Kernel14.τ Cert.Kernel14.sig) → Buf (Elt Bits) ℓ) : Prop :=
  True

def Pre_Kernel14Ideal (m : (ℓ : Loc Cert.Kernel14Ideal.nD Cert.Kernel14Ideal.τ Cert.Kernel14Ideal.sig) → Buf (Elt Ideal) ℓ) : Prop :=
  True

def Pre_Reference14Ideal (m : (ℓ : Loc Cert.Reference14Ideal.nD Cert.Reference14Ideal.τ Cert.Reference14Ideal.sig) → Buf (Elt Ideal) ℓ) : Prop :=
  True

def Pre_Kernel15 (m : (ℓ : Loc Cert.Kernel15.nD Cert.Kernel15.τ Cert.Kernel15.sig) → Buf (Elt Bits) ℓ) : Prop :=
  True

def Pre_Kernel15Ideal (m : (ℓ : Loc Cert.Kernel15Ideal.nD Cert.Kernel15Ideal.τ Cert.Kernel15Ideal.sig) → Buf (Elt Ideal) ℓ) : Prop :=
  True

def Pre_Reference15Ideal (m : (ℓ : Loc Cert.Reference15Ideal.nD Cert.Reference15Ideal.τ Cert.Reference15Ideal.sig) → Buf (Elt Ideal) ℓ) : Prop :=
  True

def Pre_Kernel16 (m : (ℓ : Loc Cert.Kernel16.nD Cert.Kernel16.τ Cert.Kernel16.sig) → Buf (Elt Bits) ℓ) : Prop :=
  True

def Pre_Kernel16Ideal (m : (ℓ : Loc Cert.Kernel16Ideal.nD Cert.Kernel16Ideal.τ Cert.Kernel16Ideal.sig) → Buf (Elt Ideal) ℓ) : Prop :=
  True

def Pre_Reference16Ideal (m : (ℓ : Loc Cert.Reference16Ideal.nD Cert.Reference16Ideal.τ Cert.Reference16Ideal.sig) → Buf (Elt Ideal) ℓ) : Prop :=
  True

def Pre_Kernel17 (m : (ℓ : Loc Cert.Kernel17.nD Cert.Kernel17.τ Cert.Kernel17.sig) → Buf (Elt Bits) ℓ) : Prop :=
  True

def Pre_Kernel17Ideal (m : (ℓ : Loc Cert.Kernel17Ideal.nD Cert.Kernel17Ideal.τ Cert.Kernel17Ideal.sig) → Buf (Elt Ideal) ℓ) : Prop :=
  True

def Pre_Reference17Ideal (m : (ℓ : Loc Cert.Reference17Ideal.nD Cert.Reference17Ideal.τ Cert.Reference17Ideal.sig) → Buf (Elt Ideal) ℓ) : Prop :=
  True

def Pre_Kernel18 (m : (ℓ : Loc Cert.Kernel18.nD Cert.Kernel18.τ Cert.Kernel18.sig) → Buf (Elt Bits) ℓ) : Prop :=
  True

def Pre_Kernel18Ideal (m : (ℓ : Loc Cert.Kernel18Ideal.nD Cert.Kernel18Ideal.τ Cert.Kernel18Ideal.sig) → Buf (Elt Ideal) ℓ) : Prop :=
  True

def Pre_Reference18Ideal (m : (ℓ : Loc Cert.Reference18Ideal.nD Cert.Reference18Ideal.τ Cert.Reference18Ideal.sig) → Buf (Elt Ideal) ℓ) : Prop :=
  True

def Pre_Kernel19 (m : (ℓ : Loc Cert.Kernel19.nD Cert.Kernel19.τ Cert.Kernel19.sig) → Buf (Elt Bits) ℓ) : Prop :=
  True

def Pre_Kernel19Ideal (m : (ℓ : Loc Cert.Kernel19Ideal.nD Cert.Kernel19Ideal.τ Cert.Kernel19Ideal.sig) → Buf (Elt Ideal) ℓ) : Prop :=
  True

def Pre_Reference19Ideal (m : (ℓ : Loc Cert.Reference19Ideal.nD Cert.Reference19Ideal.τ Cert.Reference19Ideal.sig) → Buf (Elt Ideal) ℓ) : Prop :=
  True

def Pre_Kernel20 (m : (ℓ : Loc Cert.Kernel20.nD Cert.Kernel20.τ Cert.Kernel20.sig) → Buf (Elt Bits) ℓ) : Prop :=
  True

def Pre_Kernel20Ideal (m : (ℓ : Loc Cert.Kernel20Ideal.nD Cert.Kernel20Ideal.τ Cert.Kernel20Ideal.sig) → Buf (Elt Ideal) ℓ) : Prop :=
  True

def Pre_Reference20Ideal (m : (ℓ : Loc Cert.Reference20Ideal.nD Cert.Reference20Ideal.τ Cert.Reference20Ideal.sig) → Buf (Elt Ideal) ℓ) : Prop :=
  True

def Pre_Kernel21 (m : (ℓ : Loc Cert.Kernel21.nD Cert.Kernel21.τ Cert.Kernel21.sig) → Buf (Elt Bits) ℓ) : Prop :=
  True

def Pre_Kernel21Ideal (m : (ℓ : Loc Cert.Kernel21Ideal.nD Cert.Kernel21Ideal.τ Cert.Kernel21Ideal.sig) → Buf (Elt Ideal) ℓ) : Prop :=
  True

def Pre_Kernel21Ideal_norm_finite [hPre_norm_finite : Cert.Pre_norm_finite.Facts] (m : (ℓ : Loc Cert.Kernel21Ideal.nD Cert.Kernel21Ideal.τ Cert.Kernel21Ideal.sig) → Buf (Elt Ideal) ℓ) : Prop :=
  ∀ c : Dev Cert.Kernel21Ideal.nD,
    (Cert.Pre_norm_finite.fn (F := Ideal) (m ((c.tc : Thread Cert.Kernel21Ideal.nD Cert.Kernel21Ideal.τ).loc Cert.Kernel21Ideal.main_arg0)) (m ((c.tc : Thread Cert.Kernel21Ideal.nD Cert.Kernel21Ideal.τ).loc Cert.Kernel21Ideal.main_arg1)) (m ((c.tc : Thread Cert.Kernel21Ideal.nD Cert.Kernel21Ideal.τ).loc Cert.Kernel21Ideal.main_arg2)) (m ((c.tc : Thread Cert.Kernel21Ideal.nD Cert.Kernel21Ideal.τ).loc Cert.Kernel21Ideal.main_arg3))).1 = (fun _ => 1#1)
    ∧ (Cert.Pre_norm_finite.fn (F := Ideal) (m ((c.tc : Thread Cert.Kernel21Ideal.nD Cert.Kernel21Ideal.τ).loc Cert.Kernel21Ideal.main_arg0)) (m ((c.tc : Thread Cert.Kernel21Ideal.nD Cert.Kernel21Ideal.τ).loc Cert.Kernel21Ideal.main_arg1)) (m ((c.tc : Thread Cert.Kernel21Ideal.nD Cert.Kernel21Ideal.τ).loc Cert.Kernel21Ideal.main_arg2)) (m ((c.tc : Thread Cert.Kernel21Ideal.nD Cert.Kernel21Ideal.τ).loc Cert.Kernel21Ideal.main_arg3))).2.1 = (fun _ => 1#1)
    ∧ (Cert.Pre_norm_finite.fn (F := Ideal) (m ((c.tc : Thread Cert.Kernel21Ideal.nD Cert.Kernel21Ideal.τ).loc Cert.Kernel21Ideal.main_arg0)) (m ((c.tc : Thread Cert.Kernel21Ideal.nD Cert.Kernel21Ideal.τ).loc Cert.Kernel21Ideal.main_arg1)) (m ((c.tc : Thread Cert.Kernel21Ideal.nD Cert.Kernel21Ideal.τ).loc Cert.Kernel21Ideal.main_arg2)) (m ((c.tc : Thread Cert.Kernel21Ideal.nD Cert.Kernel21Ideal.τ).loc Cert.Kernel21Ideal.main_arg3))).2.2 = (fun _ => 1#1)

def Pre_Reference21Ideal (m : (ℓ : Loc Cert.Reference21Ideal.nD Cert.Reference21Ideal.τ Cert.Reference21Ideal.sig) → Buf (Elt Ideal) ℓ) : Prop :=
  True

def Pre_Reference21Ideal_norm_finite [hPre_norm_finite : Cert.Pre_norm_finite.Facts] (m : (ℓ : Loc Cert.Reference21Ideal.nD Cert.Reference21Ideal.τ Cert.Reference21Ideal.sig) → Buf (Elt Ideal) ℓ) : Prop :=
  ∀ c : Dev Cert.Reference21Ideal.nD,
    (Cert.Pre_norm_finite.fn (F := Ideal) (m ((c.tc : Thread Cert.Reference21Ideal.nD Cert.Reference21Ideal.τ).loc Cert.Reference21Ideal.main_arg0)) (m ((c.tc : Thread Cert.Reference21Ideal.nD Cert.Reference21Ideal.τ).loc Cert.Reference21Ideal.main_arg1)) (m ((c.tc : Thread Cert.Reference21Ideal.nD Cert.Reference21Ideal.τ).loc Cert.Reference21Ideal.main_arg2)) (m ((c.tc : Thread Cert.Reference21Ideal.nD Cert.Reference21Ideal.τ).loc Cert.Reference21Ideal.main_arg3))).1 = (fun _ => 1#1)
    ∧ (Cert.Pre_norm_finite.fn (F := Ideal) (m ((c.tc : Thread Cert.Reference21Ideal.nD Cert.Reference21Ideal.τ).loc Cert.Reference21Ideal.main_arg0)) (m ((c.tc : Thread Cert.Reference21Ideal.nD Cert.Reference21Ideal.τ).loc Cert.Reference21Ideal.main_arg1)) (m ((c.tc : Thread Cert.Reference21Ideal.nD Cert.Reference21Ideal.τ).loc Cert.Reference21Ideal.main_arg2)) (m ((c.tc : Thread Cert.Reference21Ideal.nD Cert.Reference21Ideal.τ).loc Cert.Reference21Ideal.main_arg3))).2.1 = (fun _ => 1#1)
    ∧ (Cert.Pre_norm_finite.fn (F := Ideal) (m ((c.tc : Thread Cert.Reference21Ideal.nD Cert.Reference21Ideal.τ).loc Cert.Reference21Ideal.main_arg0)) (m ((c.tc : Thread Cert.Reference21Ideal.nD Cert.Reference21Ideal.τ).loc Cert.Reference21Ideal.main_arg1)) (m ((c.tc : Thread Cert.Reference21Ideal.nD Cert.Reference21Ideal.τ).loc Cert.Reference21Ideal.main_arg2)) (m ((c.tc : Thread Cert.Reference21Ideal.nD Cert.Reference21Ideal.τ).loc Cert.Reference21Ideal.main_arg3))).2.2 = (fun _ => 1#1)

def Pre_Kernel22 (m : (ℓ : Loc Cert.Kernel22.nD Cert.Kernel22.τ Cert.Kernel22.sig) → Buf (Elt Bits) ℓ) : Prop :=
  True

def Pre_Kernel22Ideal (m : (ℓ : Loc Cert.Kernel22Ideal.nD Cert.Kernel22Ideal.τ Cert.Kernel22Ideal.sig) → Buf (Elt Ideal) ℓ) : Prop :=
  True

def Pre_Kernel22Ideal_loss_finite [hPre_loss_finite : Cert.Pre_loss_finite.Facts] (m : (ℓ : Loc Cert.Kernel22Ideal.nD Cert.Kernel22Ideal.τ Cert.Kernel22Ideal.sig) → Buf (Elt Ideal) ℓ) : Prop :=
  ∀ c : Dev Cert.Kernel22Ideal.nD,
    (Cert.Pre_loss_finite.fn (F := Ideal) (m ((c.tc : Thread Cert.Kernel22Ideal.nD Cert.Kernel22Ideal.τ).loc Cert.Kernel22Ideal.main_arg0)) (m ((c.tc : Thread Cert.Kernel22Ideal.nD Cert.Kernel22Ideal.τ).loc Cert.Kernel22Ideal.main_arg1)) (m ((c.tc : Thread Cert.Kernel22Ideal.nD Cert.Kernel22Ideal.τ).loc Cert.Kernel22Ideal.main_arg2))).1 = (fun _ => 1#1)
    ∧ (Cert.Pre_loss_finite.fn (F := Ideal) (m ((c.tc : Thread Cert.Kernel22Ideal.nD Cert.Kernel22Ideal.τ).loc Cert.Kernel22Ideal.main_arg0)) (m ((c.tc : Thread Cert.Kernel22Ideal.nD Cert.Kernel22Ideal.τ).loc Cert.Kernel22Ideal.main_arg1)) (m ((c.tc : Thread Cert.Kernel22Ideal.nD Cert.Kernel22Ideal.τ).loc Cert.Kernel22Ideal.main_arg2))).2.1 = (fun _ => 1#1)
    ∧ (Cert.Pre_loss_finite.fn (F := Ideal) (m ((c.tc : Thread Cert.Kernel22Ideal.nD Cert.Kernel22Ideal.τ).loc Cert.Kernel22Ideal.main_arg0)) (m ((c.tc : Thread Cert.Kernel22Ideal.nD Cert.Kernel22Ideal.τ).loc Cert.Kernel22Ideal.main_arg1)) (m ((c.tc : Thread Cert.Kernel22Ideal.nD Cert.Kernel22Ideal.τ).loc Cert.Kernel22Ideal.main_arg2))).2.2 = (fun _ => 1#1)

def Pre_Reference22Ideal (m : (ℓ : Loc Cert.Reference22Ideal.nD Cert.Reference22Ideal.τ Cert.Reference22Ideal.sig) → Buf (Elt Ideal) ℓ) : Prop :=
  True

def Pre_Reference22Ideal_loss_finite [hPre_loss_finite : Cert.Pre_loss_finite.Facts] (m : (ℓ : Loc Cert.Reference22Ideal.nD Cert.Reference22Ideal.τ Cert.Reference22Ideal.sig) → Buf (Elt Ideal) ℓ) : Prop :=
  ∀ c : Dev Cert.Reference22Ideal.nD,
    (Cert.Pre_loss_finite.fn (F := Ideal) (m ((c.tc : Thread Cert.Reference22Ideal.nD Cert.Reference22Ideal.τ).loc Cert.Reference22Ideal.main_arg0)) (m ((c.tc : Thread Cert.Reference22Ideal.nD Cert.Reference22Ideal.τ).loc Cert.Reference22Ideal.main_arg1)) (m ((c.tc : Thread Cert.Reference22Ideal.nD Cert.Reference22Ideal.τ).loc Cert.Reference22Ideal.main_arg2))).1 = (fun _ => 1#1)
    ∧ (Cert.Pre_loss_finite.fn (F := Ideal) (m ((c.tc : Thread Cert.Reference22Ideal.nD Cert.Reference22Ideal.τ).loc Cert.Reference22Ideal.main_arg0)) (m ((c.tc : Thread Cert.Reference22Ideal.nD Cert.Reference22Ideal.τ).loc Cert.Reference22Ideal.main_arg1)) (m ((c.tc : Thread Cert.Reference22Ideal.nD Cert.Reference22Ideal.τ).loc Cert.Reference22Ideal.main_arg2))).2.1 = (fun _ => 1#1)
    ∧ (Cert.Pre_loss_finite.fn (F := Ideal) (m ((c.tc : Thread Cert.Reference22Ideal.nD Cert.Reference22Ideal.τ).loc Cert.Reference22Ideal.main_arg0)) (m ((c.tc : Thread Cert.Reference22Ideal.nD Cert.Reference22Ideal.τ).loc Cert.Reference22Ideal.main_arg1)) (m ((c.tc : Thread Cert.Reference22Ideal.nD Cert.Reference22Ideal.τ).loc Cert.Reference22Ideal.main_arg2))).2.2 = (fun _ => 1#1)

def Pre_Kernel23 (m : (ℓ : Loc Cert.Kernel23.nD Cert.Kernel23.τ Cert.Kernel23.sig) → Buf (Elt Bits) ℓ) : Prop :=
  True

def Pre_Kernel23Ideal (m : (ℓ : Loc Cert.Kernel23Ideal.nD Cert.Kernel23Ideal.τ Cert.Kernel23Ideal.sig) → Buf (Elt Ideal) ℓ) : Prop :=
  True

def Pre_Kernel23Ideal_gate_finite [hPre_gate_finite : Cert.Pre_gate_finite.Facts] (m : (ℓ : Loc Cert.Kernel23Ideal.nD Cert.Kernel23Ideal.τ Cert.Kernel23Ideal.sig) → Buf (Elt Ideal) ℓ) : Prop :=
  ∀ c : Dev Cert.Kernel23Ideal.nD,
    (Cert.Pre_gate_finite.fn (F := Ideal) (m ((c.tc : Thread Cert.Kernel23Ideal.nD Cert.Kernel23Ideal.τ).loc Cert.Kernel23Ideal.main_arg0)) (m ((c.tc : Thread Cert.Kernel23Ideal.nD Cert.Kernel23Ideal.τ).loc Cert.Kernel23Ideal.main_arg1)) (m ((c.tc : Thread Cert.Kernel23Ideal.nD Cert.Kernel23Ideal.τ).loc Cert.Kernel23Ideal.main_arg2)) (m ((c.tc : Thread Cert.Kernel23Ideal.nD Cert.Kernel23Ideal.τ).loc Cert.Kernel23Ideal.main_arg3)) (m ((c.tc : Thread Cert.Kernel23Ideal.nD Cert.Kernel23Ideal.τ).loc Cert.Kernel23Ideal.main_arg4))).1 = (fun _ => 1#1)
    ∧ (Cert.Pre_gate_finite.fn (F := Ideal) (m ((c.tc : Thread Cert.Kernel23Ideal.nD Cert.Kernel23Ideal.τ).loc Cert.Kernel23Ideal.main_arg0)) (m ((c.tc : Thread Cert.Kernel23Ideal.nD Cert.Kernel23Ideal.τ).loc Cert.Kernel23Ideal.main_arg1)) (m ((c.tc : Thread Cert.Kernel23Ideal.nD Cert.Kernel23Ideal.τ).loc Cert.Kernel23Ideal.main_arg2)) (m ((c.tc : Thread Cert.Kernel23Ideal.nD Cert.Kernel23Ideal.τ).loc Cert.Kernel23Ideal.main_arg3)) (m ((c.tc : Thread Cert.Kernel23Ideal.nD Cert.Kernel23Ideal.τ).loc Cert.Kernel23Ideal.main_arg4))).2 = (fun _ => 1#1)

def Pre_Reference23Ideal (m : (ℓ : Loc Cert.Reference23Ideal.nD Cert.Reference23Ideal.τ Cert.Reference23Ideal.sig) → Buf (Elt Ideal) ℓ) : Prop :=
  True

def Pre_Reference23Ideal_gate_finite [hPre_gate_finite : Cert.Pre_gate_finite.Facts] (m : (ℓ : Loc Cert.Reference23Ideal.nD Cert.Reference23Ideal.τ Cert.Reference23Ideal.sig) → Buf (Elt Ideal) ℓ) : Prop :=
  ∀ c : Dev Cert.Reference23Ideal.nD,
    (Cert.Pre_gate_finite.fn (F := Ideal) (m ((c.tc : Thread Cert.Reference23Ideal.nD Cert.Reference23Ideal.τ).loc Cert.Reference23Ideal.main_arg0)) (m ((c.tc : Thread Cert.Reference23Ideal.nD Cert.Reference23Ideal.τ).loc Cert.Reference23Ideal.main_arg1)) (m ((c.tc : Thread Cert.Reference23Ideal.nD Cert.Reference23Ideal.τ).loc Cert.Reference23Ideal.main_arg2)) (m ((c.tc : Thread Cert.Reference23Ideal.nD Cert.Reference23Ideal.τ).loc Cert.Reference23Ideal.main_arg3)) (m ((c.tc : Thread Cert.Reference23Ideal.nD Cert.Reference23Ideal.τ).loc Cert.Reference23Ideal.main_arg4))).1 = (fun _ => 1#1)
    ∧ (Cert.Pre_gate_finite.fn (F := Ideal) (m ((c.tc : Thread Cert.Reference23Ideal.nD Cert.Reference23Ideal.τ).loc Cert.Reference23Ideal.main_arg0)) (m ((c.tc : Thread Cert.Reference23Ideal.nD Cert.Reference23Ideal.τ).loc Cert.Reference23Ideal.main_arg1)) (m ((c.tc : Thread Cert.Reference23Ideal.nD Cert.Reference23Ideal.τ).loc Cert.Reference23Ideal.main_arg2)) (m ((c.tc : Thread Cert.Reference23Ideal.nD Cert.Reference23Ideal.τ).loc Cert.Reference23Ideal.main_arg3)) (m ((c.tc : Thread Cert.Reference23Ideal.nD Cert.Reference23Ideal.τ).loc Cert.Reference23Ideal.main_arg4))).2 = (fun _ => 1#1)

def Pre_Kernel24 (m : (ℓ : Loc Cert.Kernel24.nD Cert.Kernel24.τ Cert.Kernel24.sig) → Buf (Elt Bits) ℓ) : Prop :=
  True

def Pre_Kernel24Ideal (m : (ℓ : Loc Cert.Kernel24Ideal.nD Cert.Kernel24Ideal.τ Cert.Kernel24Ideal.sig) → Buf (Elt Ideal) ℓ) : Prop :=
  True

def Pre_Reference24Ideal (m : (ℓ : Loc Cert.Reference24Ideal.nD Cert.Reference24Ideal.τ Cert.Reference24Ideal.sig) → Buf (Elt Ideal) ℓ) : Prop :=
  True

def Pre_Kernel25 (m : (ℓ : Loc Cert.Kernel25.nD Cert.Kernel25.τ Cert.Kernel25.sig) → Buf (Elt Bits) ℓ) : Prop :=
  True

def Pre_Kernel25Ideal (m : (ℓ : Loc Cert.Kernel25Ideal.nD Cert.Kernel25Ideal.τ Cert.Kernel25Ideal.sig) → Buf (Elt Ideal) ℓ) : Prop :=
  True

def Pre_Reference25Ideal (m : (ℓ : Loc Cert.Reference25Ideal.nD Cert.Reference25Ideal.τ Cert.Reference25Ideal.sig) → Buf (Elt Ideal) ℓ) : Prop :=
  True

def Pre_Kernel26 (m : (ℓ : Loc Cert.Kernel26.nD Cert.Kernel26.τ Cert.Kernel26.sig) → Buf (Elt Bits) ℓ) : Prop :=
  True

def Pre_Kernel26Ideal (m : (ℓ : Loc Cert.Kernel26Ideal.nD Cert.Kernel26Ideal.τ Cert.Kernel26Ideal.sig) → Buf (Elt Ideal) ℓ) : Prop :=
  True

def Pre_Reference26Ideal (m : (ℓ : Loc Cert.Reference26Ideal.nD Cert.Reference26Ideal.τ Cert.Reference26Ideal.sig) → Buf (Elt Ideal) ℓ) : Prop :=
  True

def Pre_Kernel27 (m : (ℓ : Loc Cert.Kernel27.nD Cert.Kernel27.τ Cert.Kernel27.sig) → Buf (Elt Bits) ℓ) : Prop :=
  True

def Pre_Kernel27Ideal (m : (ℓ : Loc Cert.Kernel27Ideal.nD Cert.Kernel27Ideal.τ Cert.Kernel27Ideal.sig) → Buf (Elt Ideal) ℓ) : Prop :=
  True

def Pre_Reference27Ideal (m : (ℓ : Loc Cert.Reference27Ideal.nD Cert.Reference27Ideal.τ Cert.Reference27Ideal.sig) → Buf (Elt Ideal) ℓ) : Prop :=
  True

def Pre_Kernel28 (m : (ℓ : Loc Cert.Kernel28.nD Cert.Kernel28.τ Cert.Kernel28.sig) → Buf (Elt Bits) ℓ) : Prop :=
  True

def Pre_Kernel28Ideal (m : (ℓ : Loc Cert.Kernel28Ideal.nD Cert.Kernel28Ideal.τ Cert.Kernel28Ideal.sig) → Buf (Elt Ideal) ℓ) : Prop :=
  True

def Pre_Reference28Ideal (m : (ℓ : Loc Cert.Reference28Ideal.nD Cert.Reference28Ideal.τ Cert.Reference28Ideal.sig) → Buf (Elt Ideal) ℓ) : Prop :=
  True

def Pre_Kernel29 (m : (ℓ : Loc Cert.Kernel29.nD Cert.Kernel29.τ Cert.Kernel29.sig) → Buf (Elt Bits) ℓ) : Prop :=
  True

def Pre_Kernel29Ideal (m : (ℓ : Loc Cert.Kernel29Ideal.nD Cert.Kernel29Ideal.τ Cert.Kernel29Ideal.sig) → Buf (Elt Ideal) ℓ) : Prop :=
  True

def Pre_Reference29Ideal (m : (ℓ : Loc Cert.Reference29Ideal.nD Cert.Reference29Ideal.τ Cert.Reference29Ideal.sig) → Buf (Elt Ideal) ℓ) : Prop :=
  True

def Pre_Kernel30 (m : (ℓ : Loc Cert.Kernel30.nD Cert.Kernel30.τ Cert.Kernel30.sig) → Buf (Elt Bits) ℓ) : Prop :=
  True

def Pre_Kernel30Ideal (m : (ℓ : Loc Cert.Kernel30Ideal.nD Cert.Kernel30Ideal.τ Cert.Kernel30Ideal.sig) → Buf (Elt Ideal) ℓ) : Prop :=
  True

def Pre_Reference30Ideal (m : (ℓ : Loc Cert.Reference30Ideal.nD Cert.Reference30Ideal.τ Cert.Reference30Ideal.sig) → Buf (Elt Ideal) ℓ) : Prop :=
  True

def Pre_Kernel31 (m : (ℓ : Loc Cert.Kernel31.nD Cert.Kernel31.τ Cert.Kernel31.sig) → Buf (Elt Bits) ℓ) : Prop :=
  True

def Pre_Kernel31Ideal (m : (ℓ : Loc Cert.Kernel31Ideal.nD Cert.Kernel31Ideal.τ Cert.Kernel31Ideal.sig) → Buf (Elt Ideal) ℓ) : Prop :=
  True

def Pre_Reference31Ideal (m : (ℓ : Loc Cert.Reference31Ideal.nD Cert.Reference31Ideal.τ Cert.Reference31Ideal.sig) → Buf (Elt Ideal) ℓ) : Prop :=
  True

def Pre_Kernel32 (m : (ℓ : Loc Cert.Kernel32.nD Cert.Kernel32.τ Cert.Kernel32.sig) → Buf (Elt Bits) ℓ) : Prop :=
  True

def Pre_Kernel32Ideal (m : (ℓ : Loc Cert.Kernel32Ideal.nD Cert.Kernel32Ideal.τ Cert.Kernel32Ideal.sig) → Buf (Elt Ideal) ℓ) : Prop :=
  True

def Pre_Kernel32Ideal_embed_finite [hPre_embed_finite : Cert.Pre_embed_finite.Facts] (m : (ℓ : Loc Cert.Kernel32Ideal.nD Cert.Kernel32Ideal.τ Cert.Kernel32Ideal.sig) → Buf (Elt Ideal) ℓ) : Prop :=
  ∀ c : Dev Cert.Kernel32Ideal.nD,
    (Cert.Pre_embed_finite.fn (F := Ideal) (m ((c.tc : Thread Cert.Kernel32Ideal.nD Cert.Kernel32Ideal.τ).loc Cert.Kernel32Ideal.main_arg0)) (m ((c.tc : Thread Cert.Kernel32Ideal.nD Cert.Kernel32Ideal.τ).loc Cert.Kernel32Ideal.main_arg1)) (m ((c.tc : Thread Cert.Kernel32Ideal.nD Cert.Kernel32Ideal.τ).loc Cert.Kernel32Ideal.main_arg2)) (m ((c.tc : Thread Cert.Kernel32Ideal.nD Cert.Kernel32Ideal.τ).loc Cert.Kernel32Ideal.main_arg3))).1 = (fun _ => 1#1)
    ∧ (Cert.Pre_embed_finite.fn (F := Ideal) (m ((c.tc : Thread Cert.Kernel32Ideal.nD Cert.Kernel32Ideal.τ).loc Cert.Kernel32Ideal.main_arg0)) (m ((c.tc : Thread Cert.Kernel32Ideal.nD Cert.Kernel32Ideal.τ).loc Cert.Kernel32Ideal.main_arg1)) (m ((c.tc : Thread Cert.Kernel32Ideal.nD Cert.Kernel32Ideal.τ).loc Cert.Kernel32Ideal.main_arg2)) (m ((c.tc : Thread Cert.Kernel32Ideal.nD Cert.Kernel32Ideal.τ).loc Cert.Kernel32Ideal.main_arg3))).2.1 = (fun _ => 1#1)
    ∧ (Cert.Pre_embed_finite.fn (F := Ideal) (m ((c.tc : Thread Cert.Kernel32Ideal.nD Cert.Kernel32Ideal.τ).loc Cert.Kernel32Ideal.main_arg0)) (m ((c.tc : Thread Cert.Kernel32Ideal.nD Cert.Kernel32Ideal.τ).loc Cert.Kernel32Ideal.main_arg1)) (m ((c.tc : Thread Cert.Kernel32Ideal.nD Cert.Kernel32Ideal.τ).loc Cert.Kernel32Ideal.main_arg2)) (m ((c.tc : Thread Cert.Kernel32Ideal.nD Cert.Kernel32Ideal.τ).loc Cert.Kernel32Ideal.main_arg3))).2.2 = (fun _ => 1#1)

def Pre_Reference32Ideal (m : (ℓ : Loc Cert.Reference32Ideal.nD Cert.Reference32Ideal.τ Cert.Reference32Ideal.sig) → Buf (Elt Ideal) ℓ) : Prop :=
  True

def Pre_Reference32Ideal_embed_finite [hPre_embed_finite : Cert.Pre_embed_finite.Facts] (m : (ℓ : Loc Cert.Reference32Ideal.nD Cert.Reference32Ideal.τ Cert.Reference32Ideal.sig) → Buf (Elt Ideal) ℓ) : Prop :=
  ∀ c : Dev Cert.Reference32Ideal.nD,
    (Cert.Pre_embed_finite.fn (F := Ideal) (m ((c.tc : Thread Cert.Reference32Ideal.nD Cert.Reference32Ideal.τ).loc Cert.Reference32Ideal.main_arg0)) (m ((c.tc : Thread Cert.Reference32Ideal.nD Cert.Reference32Ideal.τ).loc Cert.Reference32Ideal.main_arg1)) (m ((c.tc : Thread Cert.Reference32Ideal.nD Cert.Reference32Ideal.τ).loc Cert.Reference32Ideal.main_arg2)) (m ((c.tc : Thread Cert.Reference32Ideal.nD Cert.Reference32Ideal.τ).loc Cert.Reference32Ideal.main_arg3))).1 = (fun _ => 1#1)
    ∧ (Cert.Pre_embed_finite.fn (F := Ideal) (m ((c.tc : Thread Cert.Reference32Ideal.nD Cert.Reference32Ideal.τ).loc Cert.Reference32Ideal.main_arg0)) (m ((c.tc : Thread Cert.Reference32Ideal.nD Cert.Reference32Ideal.τ).loc Cert.Reference32Ideal.main_arg1)) (m ((c.tc : Thread Cert.Reference32Ideal.nD Cert.Reference32Ideal.τ).loc Cert.Reference32Ideal.main_arg2)) (m ((c.tc : Thread Cert.Reference32Ideal.nD Cert.Reference32Ideal.τ).loc Cert.Reference32Ideal.main_arg3))).2.1 = (fun _ => 1#1)
    ∧ (Cert.Pre_embed_finite.fn (F := Ideal) (m ((c.tc : Thread Cert.Reference32Ideal.nD Cert.Reference32Ideal.τ).loc Cert.Reference32Ideal.main_arg0)) (m ((c.tc : Thread Cert.Reference32Ideal.nD Cert.Reference32Ideal.τ).loc Cert.Reference32Ideal.main_arg1)) (m ((c.tc : Thread Cert.Reference32Ideal.nD Cert.Reference32Ideal.τ).loc Cert.Reference32Ideal.main_arg2)) (m ((c.tc : Thread Cert.Reference32Ideal.nD Cert.Reference32Ideal.τ).loc Cert.Reference32Ideal.main_arg3))).2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1)
      ∧ r.2.mem ((c.tc : Thread Cert.Kernel10.nD Cert.Kernel10.τ).loc Cert.Kernel10.main_arg2) = m ((c.tc : Thread Cert.Kernel10.nD Cert.Kernel10.τ).loc Cert.Kernel10.main_arg2))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
      ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1)
      ∧ r.2.mem ((c.tc : Thread Cert.Reference10Ideal.nD Cert.Reference10Ideal.τ).loc Cert.Reference10Ideal.main_arg2) = m ((c.tc : Thread Cert.Reference10Ideal.nD Cert.Reference10Ideal.τ).loc Cert.Reference10Ideal.main_arg2))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1)
      ∧ r.2.mem ((c.tc : Thread Cert.Kernel12.nD Cert.Kernel12.τ).loc Cert.Kernel12.main_arg2) = m ((c.tc : Thread Cert.Kernel12.nD Cert.Kernel12.τ).loc Cert.Kernel12.main_arg2))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
      ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1)
      ∧ r.2.mem ((c.tc : Thread Cert.Reference12Ideal.nD Cert.Reference12Ideal.τ).loc Cert.Reference12Ideal.main_arg2) = m ((c.tc : Thread Cert.Reference12Ideal.nD Cert.Reference12Ideal.τ).loc Cert.Reference12Ideal.main_arg2))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0)
      ∧ r.2.mem ((c.tc : Thread Cert.Kernel13.nD Cert.Kernel13.τ).loc Cert.Kernel13.main_arg1) = m ((c.tc : Thread Cert.Kernel13.nD Cert.Kernel13.τ).loc Cert.Kernel13.main_arg1))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1))
      ∧ r.2.sem = fun _ => 0)

def quiescent_Kernel14 [hKernel14 : Cert.Kernel14.Facts] : Prop :=
  ∀ (m : (ℓ : Loc Cert.Kernel14.nD Cert.Kernel14.τ Cert.Kernel14.sig) → Buf (Elt Bits) ℓ) (g : Dev Cert.Kernel14.nD → PrngReg), Pre_Kernel14 m →
    θ_run (Cert.Kernel14.defs (F := Bits)) (onTc (τ := Cert.Kernel14.τ) (Cert.Kernel14.main (F := Bits))) ⟨m, fun _ => 0, g⟩ (fun r => (∀ c : Dev Cert.Kernel14.nD,
      r.2.mem ((c.tc : Thread Cert.Kernel14.nD Cert.Kernel14.τ).loc Cert.Kernel14.main_arg0) = m ((c.tc : Thread Cert.Kernel14.nD Cert.Kernel14.τ).loc Cert.Kernel14.main_arg0)
      ∧ r.2.mem ((c.tc : Thread Cert.Kernel14.nD Cert.Kernel14.τ).loc Cert.Kernel14.main_arg1) = m ((c.tc : Thread Cert.Kernel14.nD Cert.Kernel14.τ).loc Cert.Kernel14.main_arg1)
      ∧ r.2.mem ((c.tc : Thread Cert.Kernel14.nD Cert.Kernel14.τ).loc Cert.Kernel14.main_arg2) = m ((c.tc : Thread Cert.Kernel14.nD Cert.Kernel14.τ).loc Cert.Kernel14.main_arg2)
      ∧ r.2.mem ((c.tc : Thread Cert.Kernel14.nD Cert.Kernel14.τ).loc Cert.Kernel14.main_arg3) = m ((c.tc : Thread Cert.Kernel14.nD Cert.Kernel14.τ).loc Cert.Kernel14.main_arg3))
      ∧ r.2.sem = fun _ => 0)

def quiescent_Kernel14Ideal [hKernel14Ideal : Cert.Kernel14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg), Pre_Kernel14Ideal m →
    θ_run (Cert.Kernel14Ideal.defs (F := Ideal)) (onTc (τ := Cert.Kernel14Ideal.τ) (Cert.Kernel14Ideal.main (F := Ideal))) ⟨m, fun _ => 0, g⟩ (fun r => (∀ c : Dev Cert.Kernel14Ideal.nD,
      r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
      ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
      ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2)
      ∧ r.2.mem ((c.tc : Thread Cert.Kernel14Ideal.nD Cert.Kernel14Ideal.τ).loc Cert.Kernel14Ideal.main_arg3) = m ((c.tc : Thread Cert.Kernel14Ideal.nD Cert.Kernel14Ideal.τ).loc Cert.Kernel14Ideal.main_arg3))
      ∧ r.2.sem = fun _ => 0)

def quiescent_Reference14Ideal [hReference14Ideal : Cert.Reference14Ideal.Facts] : Prop :=
  ∀ (m : (ℓ : Loc Cert.Reference14Ideal.nD Cert.Reference14Ideal.τ Cert.Reference14Ideal.sig) → Buf (Elt Ideal) ℓ) (g : Dev Cert.Reference14Ideal.nD → PrngReg), Pre_Reference14Ideal m →
    θ_run (Cert.Reference14Ideal.defs (F := Ideal)) (onTc (τ := Cert.Reference14Ideal.τ) (Cert.Reference14Ideal.main (F := Ideal))) ⟨m, fun _ => 0, g⟩ (fun r => (∀ c : Dev Cert.Reference14Ideal.nD,
      r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0)
      ∧ r.2.mem ((c.tc : Thread Cert.Reference14Ideal.nD Cert.Reference14Ideal.τ).loc Cert.Reference14Ideal.main_arg1) = m ((c.tc : Thread Cert.Reference14Ideal.nD Cert.Reference14Ideal.τ).loc Cert.Reference14Ideal.main_arg1)
      ∧ r.2.mem ((c.tc : Thread Cert.Reference14Ideal.nD Cert.Reference14Ideal.τ).loc Cert.Reference14Ideal.main_arg2) = m ((c.tc : Thread Cert.Reference14Ideal.nD Cert.Reference14Ideal.τ).loc Cert.Reference14Ideal.main_arg2)
      ∧ r.2.mem ((c.tc : Thread Cert.Reference14Ideal.nD Cert.Reference14Ideal.τ).loc Cert.Reference14Ideal.main_arg3) = m ((c.tc : Thread Cert.Reference14Ideal.nD Cert.Reference14Ideal.τ).loc Cert.Reference14Ideal.main_arg3))
      ∧ r.2.sem = fun _ => 0)

def quiescent_Kernel15 [hKernel15 : Cert.Kernel15.Facts] : Prop :=
  ∀ (m : (ℓ : Loc Cert.Kernel15.nD Cert.Kernel15.τ Cert.Kernel15.sig) → Buf (Elt Bits) ℓ) (g : Dev Cert.Kernel15.nD → PrngReg), Pre_Kernel15 m →
    θ_run (Cert.Kernel15.defs (F := Bits)) (onTc (τ := Cert.Kernel15.τ) (Cert.Kernel15.main (F := Bits))) ⟨m, fun _ => 0, g⟩ (fun r => (∀ c : Dev Cert.Kernel15.nD,
      r.2.mem ((c.tc : Thread Cert.Kernel15.nD Cert.Kernel15.τ).loc Cert.Kernel15.main_arg0) = m ((c.tc : Thread Cert.Kernel15.nD Cert.Kernel15.τ).loc Cert.Kernel15.main_arg0)
      ∧ r.2.mem ((c.tc : Thread Cert.Kernel15.nD Cert.Kernel15.τ).loc Cert.Kernel15.main_arg1) = m ((c.tc : Thread Cert.Kernel15.nD Cert.Kernel15.τ).loc Cert.Kernel15.main_arg1)
      ∧ r.2.mem ((c.tc : Thread Cert.Kernel15.nD Cert.Kernel15.τ).loc Cert.Kernel15.main_arg2) = m ((c.tc : Thread Cert.Kernel15.nD Cert.Kernel15.τ).loc Cert.Kernel15.main_arg2)
      ∧ r.2.mem ((c.tc : Thread Cert.Kernel15.nD Cert.Kernel15.τ).loc Cert.Kernel15.main_arg3) = m ((c.tc : Thread Cert.Kernel15.nD Cert.Kernel15.τ).loc Cert.Kernel15.main_arg3))
      ∧ r.2.sem = fun _ => 0)

def quiescent_Kernel15Ideal [hKernel15Ideal : Cert.Kernel15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg), Pre_Kernel15Ideal m →
    θ_run (Cert.Kernel15Ideal.defs (F := Ideal)) (onTc (τ := Cert.Kernel15Ideal.τ) (Cert.Kernel15Ideal.main (F := Ideal))) ⟨m, fun _ => 0, g⟩ (fun r => (∀ c : Dev Cert.Kernel15Ideal.nD,
      r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
      ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
      ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2)
      ∧ r.2.mem ((c.tc : Thread Cert.Kernel15Ideal.nD Cert.Kernel15Ideal.τ).loc Cert.Kernel15Ideal.main_arg3) = m ((c.tc : Thread Cert.Kernel15Ideal.nD Cert.Kernel15Ideal.τ).loc Cert.Kernel15Ideal.main_arg3))
      ∧ r.2.sem = fun _ => 0)

def quiescent_Reference15Ideal [hReference15Ideal : Cert.Reference15Ideal.Facts] : Prop :=
  ∀ (m : (ℓ : Loc Cert.Reference15Ideal.nD Cert.Reference15Ideal.τ Cert.Reference15Ideal.sig) → Buf (Elt Ideal) ℓ) (g : Dev Cert.Reference15Ideal.nD → PrngReg), Pre_Reference15Ideal m →
    θ_run (Cert.Reference15Ideal.defs (F := Ideal)) (onTc (τ := Cert.Reference15Ideal.τ) (Cert.Reference15Ideal.main (F := Ideal))) ⟨m, fun _ => 0, g⟩ (fun r => (∀ c : Dev Cert.Reference15Ideal.nD,
      r.2.mem ((c.tc : Thread Cert.Reference15Ideal.nD Cert.Reference15Ideal.τ).loc Cert.Reference15Ideal.main_arg0) = m ((c.tc : Thread Cert.Reference15Ideal.nD Cert.Reference15Ideal.τ).loc Cert.Reference15Ideal.main_arg0)
      ∧ r.2.mem ((c.tc : Thread Cert.Reference15Ideal.nD Cert.Reference15Ideal.τ).loc Cert.Reference15Ideal.main_arg1) = m ((c.tc : Thread Cert.Reference15Ideal.nD Cert.Reference15Ideal.τ).loc Cert.Reference15Ideal.main_arg1)
      ∧ r.2.mem ((c.tc : Thread Cert.Reference15Ideal.nD Cert.Reference15Ideal.τ).loc Cert.Reference15Ideal.main_arg2) = m ((c.tc : Thread Cert.Reference15Ideal.nD Cert.Reference15Ideal.τ).loc Cert.Reference15Ideal.main_arg2)
      ∧ r.2.mem ((c.tc : Thread Cert.Reference15Ideal.nD Cert.Reference15Ideal.τ).loc Cert.Reference15Ideal.main_arg3) = m ((c.tc : Thread Cert.Reference15Ideal.nD Cert.Reference15Ideal.τ).loc Cert.Reference15Ideal.main_arg3))
      ∧ r.2.sem = fun _ => 0)

def quiescent_Kernel16 [hKernel16 : Cert.Kernel16.Facts] : Prop :=
  ∀ (m : (ℓ : Loc Cert.Kernel16.nD Cert.Kernel16.τ Cert.Kernel16.sig) → Buf (Elt Bits) ℓ) (g : Dev Cert.Kernel16.nD → PrngReg), Pre_Kernel16 m →
    θ_run (Cert.Kernel16.defs (F := Bits)) (onTc (τ := Cert.Kernel16.τ) (Cert.Kernel16.main (F := Bits))) ⟨m, fun _ => 0, g⟩ (fun r => (∀ c : Dev Cert.Kernel16.nD,
      r.2.mem ((c.tc : Thread Cert.Kernel16.nD Cert.Kernel16.τ).loc Cert.Kernel16.main_arg0) = m ((c.tc : Thread Cert.Kernel16.nD Cert.Kernel16.τ).loc Cert.Kernel16.main_arg0)
      ∧ r.2.mem ((c.tc : Thread Cert.Kernel16.nD Cert.Kernel16.τ).loc Cert.Kernel16.main_arg1) = m ((c.tc : Thread Cert.Kernel16.nD Cert.Kernel16.τ).loc Cert.Kernel16.main_arg1)
      ∧ r.2.mem ((c.tc : Thread Cert.Kernel16.nD Cert.Kernel16.τ).loc Cert.Kernel16.main_arg2) = m ((c.tc : Thread Cert.Kernel16.nD Cert.Kernel16.τ).loc Cert.Kernel16.main_arg2)
      ∧ r.2.mem ((c.tc : Thread Cert.Kernel16.nD Cert.Kernel16.τ).loc Cert.Kernel16.main_arg3) = m ((c.tc : Thread Cert.Kernel16.nD Cert.Kernel16.τ).loc Cert.Kernel16.main_arg3))
      ∧ r.2.sem = fun _ => 0)

def quiescent_Kernel16Ideal [hKernel16Ideal : Cert.Kernel16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg), Pre_Kernel16Ideal m →
    θ_run (Cert.Kernel16Ideal.defs (F := Ideal)) (onTc (τ := Cert.Kernel16Ideal.τ) (Cert.Kernel16Ideal.main (F := Ideal))) ⟨m, fun _ => 0, g⟩ (fun r => (∀ c : Dev Cert.Kernel16Ideal.nD,
      r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
      ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1)
      ∧ r.2.mem ((c.tc : Thread Cert.Kernel16Ideal.nD Cert.Kernel16Ideal.τ).loc Cert.Kernel16Ideal.main_arg2) = m ((c.tc : Thread Cert.Kernel16Ideal.nD Cert.Kernel16Ideal.τ).loc Cert.Kernel16Ideal.main_arg2)
      ∧ r.2.mem ((c.tc : Thread Cert.Kernel16Ideal.nD Cert.Kernel16Ideal.τ).loc Cert.Kernel16Ideal.main_arg3) = m ((c.tc : Thread Cert.Kernel16Ideal.nD Cert.Kernel16Ideal.τ).loc Cert.Kernel16Ideal.main_arg3))
      ∧ r.2.sem = fun _ => 0)

def quiescent_Reference16Ideal [hReference16Ideal : Cert.Reference16Ideal.Facts] : Prop :=
  ∀ (m : (ℓ : Loc Cert.Reference16Ideal.nD Cert.Reference16Ideal.τ Cert.Reference16Ideal.sig) → Buf (Elt Ideal) ℓ) (g : Dev Cert.Reference16Ideal.nD → PrngReg), Pre_Reference16Ideal m →
    θ_run (Cert.Reference16Ideal.defs (F := Ideal)) (onTc (τ := Cert.Reference16Ideal.τ) (Cert.Reference16Ideal.main (F := Ideal))) ⟨m, fun _ => 0, g⟩ (fun r => (∀ c : Dev Cert.Reference16Ideal.nD,
      r.2.mem ((c.tc : Thread Cert.Reference16Ideal.nD Cert.Reference16Ideal.τ).loc Cert.Reference16Ideal.main_arg0) = m ((c.tc : Thread Cert.Reference16Ideal.nD Cert.Reference16Ideal.τ).loc Cert.Reference16Ideal.main_arg0)
      ∧ r.2.mem ((c.tc : Thread Cert.Reference16Ideal.nD Cert.Reference16Ideal.τ).loc Cert.Reference16Ideal.main_arg1) = m ((c.tc : Thread Cert.Reference16Ideal.nD Cert.Reference16Ideal.τ).loc Cert.Reference16Ideal.main_arg1)
      ∧ r.2.mem ((c.tc : Thread Cert.Reference16Ideal.nD Cert.Reference16Ideal.τ).loc Cert.Reference16Ideal.main_arg2) = m ((c.tc : Thread Cert.Reference16Ideal.nD Cert.Reference16Ideal.τ).loc Cert.Reference16Ideal.main_arg2)
      ∧ r.2.mem ((c.tc : Thread Cert.Reference16Ideal.nD Cert.Reference16Ideal.τ).loc Cert.Reference16Ideal.main_arg3) = m ((c.tc : Thread Cert.Reference16Ideal.nD Cert.Reference16Ideal.τ).loc Cert.Reference16Ideal.main_arg3))
      ∧ r.2.sem = fun _ => 0)

def quiescent_Kernel17 [hKernel17 : Cert.Kernel17.Facts] : Prop :=
  ∀ (m : (ℓ : Loc Cert.Kernel17.nD Cert.Kernel17.τ Cert.Kernel17.sig) → Buf (Elt Bits) ℓ) (g : Dev Cert.Kernel17.nD → PrngReg), Pre_Kernel17 m →
    θ_run (Cert.Kernel17.defs (F := Bits)) (onTc (τ := Cert.Kernel17.τ) (Cert.Kernel17.main (F := Bits))) ⟨m, fun _ => 0, g⟩ (fun r => (∀ c : Dev Cert.Kernel17.nD,
      r.2.mem ((c.tc : Thread Cert.Kernel17.nD Cert.Kernel17.τ).loc Cert.Kernel17.main_arg0) = m ((c.tc : Thread Cert.Kernel17.nD Cert.Kernel17.τ).loc Cert.Kernel17.main_arg0)
      ∧ r.2.mem ((c.tc : Thread Cert.Kernel17.nD Cert.Kernel17.τ).loc Cert.Kernel17.main_arg1) = m ((c.tc : Thread Cert.Kernel17.nD Cert.Kernel17.τ).loc Cert.Kernel17.main_arg1)
      ∧ r.2.mem ((c.tc : Thread Cert.Kernel17.nD Cert.Kernel17.τ).loc Cert.Kernel17.main_arg2) = m ((c.tc : Thread Cert.Kernel17.nD Cert.Kernel17.τ).loc Cert.Kernel17.main_arg2)
      ∧ r.2.mem ((c.tc : Thread Cert.Kernel17.nD Cert.Kernel17.τ).loc Cert.Kernel17.main_arg3) = m ((c.tc : Thread Cert.Kernel17.nD Cert.Kernel17.τ).loc Cert.Kernel17.main_arg3))
      ∧ r.2.sem = fun _ => 0)

def quiescent_Kernel17Ideal [hKernel17Ideal : Cert.Kernel17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg), Pre_Kernel17Ideal m →
    θ_run (Cert.Kernel17Ideal.defs (F := Ideal)) (onTc (τ := Cert.Kernel17Ideal.τ) (Cert.Kernel17Ideal.main (F := Ideal))) ⟨m, fun _ => 0, g⟩ (fun r => (∀ c : Dev Cert.Kernel17Ideal.nD,
      r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
      ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1)
      ∧ r.2.mem ((c.tc : Thread Cert.Kernel17Ideal.nD Cert.Kernel17Ideal.τ).loc Cert.Kernel17Ideal.main_arg2) = m ((c.tc : Thread Cert.Kernel17Ideal.nD Cert.Kernel17Ideal.τ).loc Cert.Kernel17Ideal.main_arg2)
      ∧ r.2.mem ((c.tc : Thread Cert.Kernel17Ideal.nD Cert.Kernel17Ideal.τ).loc Cert.Kernel17Ideal.main_arg3) = m ((c.tc : Thread Cert.Kernel17Ideal.nD Cert.Kernel17Ideal.τ).loc Cert.Kernel17Ideal.main_arg3))
      ∧ r.2.sem = fun _ => 0)

def quiescent_Reference17Ideal [hReference17Ideal : Cert.Reference17Ideal.Facts] : Prop :=
  ∀ (m : (ℓ : Loc Cert.Reference17Ideal.nD Cert.Reference17Ideal.τ Cert.Reference17Ideal.sig) → Buf (Elt Ideal) ℓ) (g : Dev Cert.Reference17Ideal.nD → PrngReg), Pre_Reference17Ideal m →
    θ_run (Cert.Reference17Ideal.defs (F := Ideal)) (onTc (τ := Cert.Reference17Ideal.τ) (Cert.Reference17Ideal.main (F := Ideal))) ⟨m, fun _ => 0, g⟩ (fun r => (∀ c : Dev Cert.Reference17Ideal.nD,
      r.2.mem ((c.tc : Thread Cert.Reference17Ideal.nD Cert.Reference17Ideal.τ).loc Cert.Reference17Ideal.main_arg0) = m ((c.tc : Thread Cert.Reference17Ideal.nD Cert.Reference17Ideal.τ).loc Cert.Reference17Ideal.main_arg0)
      ∧ r.2.mem ((c.tc : Thread Cert.Reference17Ideal.nD Cert.Reference17Ideal.τ).loc Cert.Reference17Ideal.main_arg1) = m ((c.tc : Thread Cert.Reference17Ideal.nD Cert.Reference17Ideal.τ).loc Cert.Reference17Ideal.main_arg1)
      ∧ r.2.mem ((c.tc : Thread Cert.Reference17Ideal.nD Cert.Reference17Ideal.τ).loc Cert.Reference17Ideal.main_arg2) = m ((c.tc : Thread Cert.Reference17Ideal.nD Cert.Reference17Ideal.τ).loc Cert.Reference17Ideal.main_arg2)
      ∧ r.2.mem ((c.tc : Thread Cert.Reference17Ideal.nD Cert.Reference17Ideal.τ).loc Cert.Reference17Ideal.main_arg3) = m ((c.tc : Thread Cert.Reference17Ideal.nD Cert.Reference17Ideal.τ).loc Cert.Reference17Ideal.main_arg3))
      ∧ r.2.sem = fun _ => 0)

def quiescent_Kernel18 [hKernel18 : Cert.Kernel18.Facts] : Prop :=
  ∀ (m : (ℓ : Loc Cert.Kernel18.nD Cert.Kernel18.τ Cert.Kernel18.sig) → Buf (Elt Bits) ℓ) (g : Dev Cert.Kernel18.nD → PrngReg), Pre_Kernel18 m →
    θ_run (Cert.Kernel18.defs (F := Bits)) (onTc (τ := Cert.Kernel18.τ) (Cert.Kernel18.main (F := Bits))) ⟨m, fun _ => 0, g⟩ (fun r => (∀ c : Dev Cert.Kernel18.nD,
      r.2.mem ((c.tc : Thread Cert.Kernel18.nD Cert.Kernel18.τ).loc Cert.Kernel18.main_arg0) = m ((c.tc : Thread Cert.Kernel18.nD Cert.Kernel18.τ).loc Cert.Kernel18.main_arg0)
      ∧ r.2.mem ((c.tc : Thread Cert.Kernel18.nD Cert.Kernel18.τ).loc Cert.Kernel18.main_arg1) = m ((c.tc : Thread Cert.Kernel18.nD Cert.Kernel18.τ).loc Cert.Kernel18.main_arg1)
      ∧ r.2.mem ((c.tc : Thread Cert.Kernel18.nD Cert.Kernel18.τ).loc Cert.Kernel18.main_arg2) = m ((c.tc : Thread Cert.Kernel18.nD Cert.Kernel18.τ).loc Cert.Kernel18.main_arg2)
      ∧ r.2.mem ((c.tc : Thread Cert.Kernel18.nD Cert.Kernel18.τ).loc Cert.Kernel18.main_arg3) = m ((c.tc : Thread Cert.Kernel18.nD Cert.Kernel18.τ).loc Cert.Kernel18.main_arg3))
      ∧ r.2.sem = fun _ => 0)

def quiescent_Kernel18Ideal [hKernel18Ideal : Cert.Kernel18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg), Pre_Kernel18Ideal m →
    θ_run (Cert.Kernel18Ideal.defs (F := Ideal)) (onTc (τ := Cert.Kernel18Ideal.τ) (Cert.Kernel18Ideal.main (F := Ideal))) ⟨m, fun _ => 0, g⟩ (fun r => (∀ c : Dev Cert.Kernel18Ideal.nD,
      r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
      ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1)
      ∧ r.2.mem ((c.tc : Thread Cert.Kernel18Ideal.nD Cert.Kernel18Ideal.τ).loc Cert.Kernel18Ideal.main_arg2) = m ((c.tc : Thread Cert.Kernel18Ideal.nD Cert.Kernel18Ideal.τ).loc Cert.Kernel18Ideal.main_arg2)
      ∧ r.2.mem ((c.tc : Thread Cert.Kernel18Ideal.nD Cert.Kernel18Ideal.τ).loc Cert.Kernel18Ideal.main_arg3) = m ((c.tc : Thread Cert.Kernel18Ideal.nD Cert.Kernel18Ideal.τ).loc Cert.Kernel18Ideal.main_arg3))
      ∧ r.2.sem = fun _ => 0)

def quiescent_Reference18Ideal [hReference18Ideal : Cert.Reference18Ideal.Facts] : Prop :=
  ∀ (m : (ℓ : Loc Cert.Reference18Ideal.nD Cert.Reference18Ideal.τ Cert.Reference18Ideal.sig) → Buf (Elt Ideal) ℓ) (g : Dev Cert.Reference18Ideal.nD → PrngReg), Pre_Reference18Ideal m →
    θ_run (Cert.Reference18Ideal.defs (F := Ideal)) (onTc (τ := Cert.Reference18Ideal.τ) (Cert.Reference18Ideal.main (F := Ideal))) ⟨m, fun _ => 0, g⟩ (fun r => (∀ c : Dev Cert.Reference18Ideal.nD,
      r.2.mem ((c.tc : Thread Cert.Reference18Ideal.nD Cert.Reference18Ideal.τ).loc Cert.Reference18Ideal.main_arg0) = m ((c.tc : Thread Cert.Reference18Ideal.nD Cert.Reference18Ideal.τ).loc Cert.Reference18Ideal.main_arg0)
      ∧ r.2.mem ((c.tc : Thread Cert.Reference18Ideal.nD Cert.Reference18Ideal.τ).loc Cert.Reference18Ideal.main_arg1) = m ((c.tc : Thread Cert.Reference18Ideal.nD Cert.Reference18Ideal.τ).loc Cert.Reference18Ideal.main_arg1)
      ∧ r.2.mem ((c.tc : Thread Cert.Reference18Ideal.nD Cert.Reference18Ideal.τ).loc Cert.Reference18Ideal.main_arg2) = m ((c.tc : Thread Cert.Reference18Ideal.nD Cert.Reference18Ideal.τ).loc Cert.Reference18Ideal.main_arg2)
      ∧ r.2.mem ((c.tc : Thread Cert.Reference18Ideal.nD Cert.Reference18Ideal.τ).loc Cert.Reference18Ideal.main_arg3) = m ((c.tc : Thread Cert.Reference18Ideal.nD Cert.Reference18Ideal.τ).loc Cert.Reference18Ideal.main_arg3))
      ∧ r.2.sem = fun _ => 0)

def quiescent_Kernel19 [hKernel19 : Cert.Kernel19.Facts] : Prop :=
  ∀ (m : (ℓ : Loc Cert.Kernel19.nD Cert.Kernel19.τ Cert.Kernel19.sig) → Buf (Elt Bits) ℓ) (g : Dev Cert.Kernel19.nD → PrngReg), Pre_Kernel19 m →
    θ_run (Cert.Kernel19.defs (F := Bits)) (onTc (τ := Cert.Kernel19.τ) (Cert.Kernel19.main (F := Bits))) ⟨m, fun _ => 0, g⟩ (fun r => (∀ c : Dev Cert.Kernel19.nD,
      r.2.mem ((c.tc : Thread Cert.Kernel19.nD Cert.Kernel19.τ).loc Cert.Kernel19.main_arg0) = m ((c.tc : Thread Cert.Kernel19.nD Cert.Kernel19.τ).loc Cert.Kernel19.main_arg0)
      ∧ r.2.mem ((c.tc : Thread Cert.Kernel19.nD Cert.Kernel19.τ).loc Cert.Kernel19.main_arg1) = m ((c.tc : Thread Cert.Kernel19.nD Cert.Kernel19.τ).loc Cert.Kernel19.main_arg1)
      ∧ r.2.mem ((c.tc : Thread Cert.Kernel19.nD Cert.Kernel19.τ).loc Cert.Kernel19.main_arg2) = m ((c.tc : Thread Cert.Kernel19.nD Cert.Kernel19.τ).loc Cert.Kernel19.main_arg2)
      ∧ r.2.mem ((c.tc : Thread Cert.Kernel19.nD Cert.Kernel19.τ).loc Cert.Kernel19.main_arg3) = m ((c.tc : Thread Cert.Kernel19.nD Cert.Kernel19.τ).loc Cert.Kernel19.main_arg3))
      ∧ r.2.sem = fun _ => 0)

def quiescent_Kernel19Ideal [hKernel19Ideal : Cert.Kernel19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg), Pre_Kernel19Ideal m →
    θ_run (Cert.Kernel19Ideal.defs (F := Ideal)) (onTc (τ := Cert.Kernel19Ideal.τ) (Cert.Kernel19Ideal.main (F := Ideal))) ⟨m, fun _ => 0, g⟩ (fun r => (∀ c : Dev Cert.Kernel19Ideal.nD,
      r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
      ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1)
      ∧ r.2.mem ((c.tc : Thread Cert.Kernel19Ideal.nD Cert.Kernel19Ideal.τ).loc Cert.Kernel19Ideal.main_arg2) = m ((c.tc : Thread Cert.Kernel19Ideal.nD Cert.Kernel19Ideal.τ).loc Cert.Kernel19Ideal.main_arg2)
      ∧ r.2.mem ((c.tc : Thread Cert.Kernel19Ideal.nD Cert.Kernel19Ideal.τ).loc Cert.Kernel19Ideal.main_arg3) = m ((c.tc : Thread Cert.Kernel19Ideal.nD Cert.Kernel19Ideal.τ).loc Cert.Kernel19Ideal.main_arg3))
      ∧ r.2.sem = fun _ => 0)

def quiescent_Reference19Ideal [hReference19Ideal : Cert.Reference19Ideal.Facts] : Prop :=
  ∀ (m : (ℓ : Loc Cert.Reference19Ideal.nD Cert.Reference19Ideal.τ Cert.Reference19Ideal.sig) → Buf (Elt Ideal) ℓ) (g : Dev Cert.Reference19Ideal.nD → PrngReg), Pre_Reference19Ideal m →
    θ_run (Cert.Reference19Ideal.defs (F := Ideal)) (onTc (τ := Cert.Reference19Ideal.τ) (Cert.Reference19Ideal.main (F := Ideal))) ⟨m, fun _ => 0, g⟩ (fun r => (∀ c : Dev Cert.Reference19Ideal.nD,
      r.2.mem ((c.tc : Thread Cert.Reference19Ideal.nD Cert.Reference19Ideal.τ).loc Cert.Reference19Ideal.main_arg0) = m ((c.tc : Thread Cert.Reference19Ideal.nD Cert.Reference19Ideal.τ).loc Cert.Reference19Ideal.main_arg0)
      ∧ r.2.mem ((c.tc : Thread Cert.Reference19Ideal.nD Cert.Reference19Ideal.τ).loc Cert.Reference19Ideal.main_arg1) = m ((c.tc : Thread Cert.Reference19Ideal.nD Cert.Reference19Ideal.τ).loc Cert.Reference19Ideal.main_arg1)
      ∧ r.2.mem ((c.tc : Thread Cert.Reference19Ideal.nD Cert.Reference19Ideal.τ).loc Cert.Reference19Ideal.main_arg2) = m ((c.tc : Thread Cert.Reference19Ideal.nD Cert.Reference19Ideal.τ).loc Cert.Reference19Ideal.main_arg2)
      ∧ r.2.mem ((c.tc : Thread Cert.Reference19Ideal.nD Cert.Reference19Ideal.τ).loc Cert.Reference19Ideal.main_arg3) = m ((c.tc : Thread Cert.Reference19Ideal.nD Cert.Reference19Ideal.τ).loc Cert.Reference19Ideal.main_arg3))
      ∧ r.2.sem = fun _ => 0)

def quiescent_Kernel20 [hKernel20 : Cert.Kernel20.Facts] : Prop :=
  ∀ (m : (ℓ : Loc Cert.Kernel20.nD Cert.Kernel20.τ Cert.Kernel20.sig) → Buf (Elt Bits) ℓ) (g : Dev Cert.Kernel20.nD → PrngReg), Pre_Kernel20 m →
    θ_run (Cert.Kernel20.defs (F := Bits)) (onTc (τ := Cert.Kernel20.τ) (Cert.Kernel20.main (F := Bits))) ⟨m, fun _ => 0, g⟩ (fun r => (∀ c : Dev Cert.Kernel20.nD,
      r.2.mem ((c.tc : Thread Cert.Kernel20.nD Cert.Kernel20.τ).loc Cert.Kernel20.main_arg0) = m ((c.tc : Thread Cert.Kernel20.nD Cert.Kernel20.τ).loc Cert.Kernel20.main_arg0)
      ∧ r.2.mem ((c.tc : Thread Cert.Kernel20.nD Cert.Kernel20.τ).loc Cert.Kernel20.main_arg1) = m ((c.tc : Thread Cert.Kernel20.nD Cert.Kernel20.τ).loc Cert.Kernel20.main_arg1)
      ∧ r.2.mem ((c.tc : Thread Cert.Kernel20.nD Cert.Kernel20.τ).loc Cert.Kernel20.main_arg2) = m ((c.tc : Thread Cert.Kernel20.nD Cert.Kernel20.τ).loc Cert.Kernel20.main_arg2)
      ∧ r.2.mem ((c.tc : Thread Cert.Kernel20.nD Cert.Kernel20.τ).loc Cert.Kernel20.main_arg3) = m ((c.tc : Thread Cert.Kernel20.nD Cert.Kernel20.τ).loc Cert.Kernel20.main_arg3))
      ∧ r.2.sem = fun _ => 0)

def quiescent_Kernel20Ideal [hKernel20Ideal : Cert.Kernel20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg), Pre_Kernel20Ideal m →
    θ_run (Cert.Kernel20Ideal.defs (F := Ideal)) (onTc (τ := Cert.Kernel20Ideal.τ) (Cert.Kernel20Ideal.main (F := Ideal))) ⟨m, fun _ => 0, g⟩ (fun r => (∀ c : Dev Cert.Kernel20Ideal.nD,
      r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
      ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1)
      ∧ r.2.mem ((c.tc : Thread Cert.Kernel20Ideal.nD Cert.Kernel20Ideal.τ).loc Cert.Kernel20Ideal.main_arg2) = m ((c.tc : Thread Cert.Kernel20Ideal.nD Cert.Kernel20Ideal.τ).loc Cert.Kernel20Ideal.main_arg2)
      ∧ r.2.mem ((c.tc : Thread Cert.Kernel20Ideal.nD Cert.Kernel20Ideal.τ).loc Cert.Kernel20Ideal.main_arg3) = m ((c.tc : Thread Cert.Kernel20Ideal.nD Cert.Kernel20Ideal.τ).loc Cert.Kernel20Ideal.main_arg3))
      ∧ r.2.sem = fun _ => 0)

def quiescent_Reference20Ideal [hReference20Ideal : Cert.Reference20Ideal.Facts] : Prop :=
  ∀ (m : (ℓ : Loc Cert.Reference20Ideal.nD Cert.Reference20Ideal.τ Cert.Reference20Ideal.sig) → Buf (Elt Ideal) ℓ) (g : Dev Cert.Reference20Ideal.nD → PrngReg), Pre_Reference20Ideal m →
    θ_run (Cert.Reference20Ideal.defs (F := Ideal)) (onTc (τ := Cert.Reference20Ideal.τ) (Cert.Reference20Ideal.main (F := Ideal))) ⟨m, fun _ => 0, g⟩ (fun r => (∀ c : Dev Cert.Reference20Ideal.nD,
      r.2.mem ((c.tc : Thread Cert.Reference20Ideal.nD Cert.Reference20Ideal.τ).loc Cert.Reference20Ideal.main_arg0) = m ((c.tc : Thread Cert.Reference20Ideal.nD Cert.Reference20Ideal.τ).loc Cert.Reference20Ideal.main_arg0)
      ∧ r.2.mem ((c.tc : Thread Cert.Reference20Ideal.nD Cert.Reference20Ideal.τ).loc Cert.Reference20Ideal.main_arg1) = m ((c.tc : Thread Cert.Reference20Ideal.nD Cert.Reference20Ideal.τ).loc Cert.Reference20Ideal.main_arg1)
      ∧ r.2.mem ((c.tc : Thread Cert.Reference20Ideal.nD Cert.Reference20Ideal.τ).loc Cert.Reference20Ideal.main_arg2) = m ((c.tc : Thread Cert.Reference20Ideal.nD Cert.Reference20Ideal.τ).loc Cert.Reference20Ideal.main_arg2)
      ∧ r.2.mem ((c.tc : Thread Cert.Reference20Ideal.nD Cert.Reference20Ideal.τ).loc Cert.Reference20Ideal.main_arg3) = m ((c.tc : Thread Cert.Reference20Ideal.nD Cert.Reference20Ideal.τ).loc Cert.Reference20Ideal.main_arg3))
      ∧ r.2.sem = fun _ => 0)

def quiescent_Kernel21 [hKernel21 : Cert.Kernel21.Facts] : Prop :=
  ∀ (m : (ℓ : Loc Cert.Kernel21.nD Cert.Kernel21.τ Cert.Kernel21.sig) → Buf (Elt Bits) ℓ) (g : Dev Cert.Kernel21.nD → PrngReg), Pre_Kernel21 m →
    θ_run (Cert.Kernel21.defs (F := Bits)) (onTc (τ := Cert.Kernel21.τ) (Cert.Kernel21.main (F := Bits))) ⟨m, fun _ => 0, g⟩ (fun r => (∀ c : Dev Cert.Kernel21.nD,
      r.2.mem ((c.tc : Thread Cert.Kernel21.nD Cert.Kernel21.τ).loc Cert.Kernel21.main_arg0) = m ((c.tc : Thread Cert.Kernel21.nD Cert.Kernel21.τ).loc Cert.Kernel21.main_arg0)
      ∧ r.2.mem ((c.tc : Thread Cert.Kernel21.nD Cert.Kernel21.τ).loc Cert.Kernel21.main_arg1) = m ((c.tc : Thread Cert.Kernel21.nD Cert.Kernel21.τ).loc Cert.Kernel21.main_arg1)
      ∧ r.2.mem ((c.tc : Thread Cert.Kernel21.nD Cert.Kernel21.τ).loc Cert.Kernel21.main_arg2) = m ((c.tc : Thread Cert.Kernel21.nD Cert.Kernel21.τ).loc Cert.Kernel21.main_arg2)
      ∧ r.2.mem ((c.tc : Thread Cert.Kernel21.nD Cert.Kernel21.τ).loc Cert.Kernel21.main_arg3) = m ((c.tc : Thread Cert.Kernel21.nD Cert.Kernel21.τ).loc Cert.Kernel21.main_arg3))
      ∧ r.2.sem = fun _ => 0)

def quiescent_Kernel21Ideal [hKernel21Ideal : Cert.Kernel21Ideal.Facts] : Prop :=
  ∀ (m : (ℓ : Loc Cert.Kernel21Ideal.nD Cert.Kernel21Ideal.τ Cert.Kernel21Ideal.sig) → Buf (Elt Ideal) ℓ) (g : Dev Cert.Kernel21Ideal.nD → PrngReg), Pre_Kernel21Ideal m →
    θ_run (Cert.Kernel21Ideal.defs (F := Ideal)) (onTc (τ := Cert.Kernel21Ideal.τ) (Cert.Kernel21Ideal.main (F := Ideal))) ⟨m, fun _ => 0, g⟩ (fun r => (∀ c : Dev Cert.Kernel21Ideal.nD,
      r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0)
      ∧ r.2.mem ((c.tc : Thread Cert.Kernel21Ideal.nD Cert.Kernel21Ideal.τ).loc Cert.Kernel21Ideal.main_arg1) = m ((c.tc : Thread Cert.Kernel21Ideal.nD Cert.Kernel21Ideal.τ).loc Cert.Kernel21Ideal.main_arg1)
      ∧ r.2.mem ((c.tc : Thread Cert.Kernel21Ideal.nD Cert.Kernel21Ideal.τ).loc Cert.Kernel21Ideal.main_arg2) = m ((c.tc : Thread Cert.Kernel21Ideal.nD Cert.Kernel21Ideal.τ).loc Cert.Kernel21Ideal.main_arg2)
      ∧ r.2.mem ((c.tc : Thread Cert.Kernel21Ideal.nD Cert.Kernel21Ideal.τ).loc Cert.Kernel21Ideal.main_arg3) = m ((c.tc : Thread Cert.Kernel21Ideal.nD Cert.Kernel21Ideal.τ).loc Cert.Kernel21Ideal.main_arg3))
      ∧ r.2.sem = fun _ => 0)

def quiescent_Kernel21Ideal_pre_norm_finite [hKernel21Ideal : Cert.Kernel21Ideal.Facts] [hPre_norm_finite : Cert.Pre_norm_finite.Facts] : Prop :=
  ∀ (m : (ℓ : Loc Cert.Kernel21Ideal.nD Cert.Kernel21Ideal.τ Cert.Kernel21Ideal.sig) → Buf (Elt Ideal) ℓ) (g : Dev Cert.Kernel21Ideal.nD → PrngReg), Pre_Kernel21Ideal_norm_finite m →
    θ_run (Cert.Kernel21Ideal.defs (F := Ideal)) (onTc (τ := Cert.Kernel21Ideal.τ) (Cert.Kernel21Ideal.main (F := Ideal))) ⟨m, fun _ => 0, g⟩ (fun r => (∀ c : Dev Cert.Kernel21Ideal.nD,
      r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0)
      ∧ r.2.mem ((c.tc : Thread Cert.Kernel21Ideal.nD Cert.Kernel21Ideal.τ).loc Cert.Kernel21Ideal.main_arg1) = m ((c.tc : Thread Cert.Kernel21Ideal.nD Cert.Kernel21Ideal.τ).loc Cert.Kernel21Ideal.main_arg1)
      ∧ r.2.mem ((c.tc : Thread Cert.Kernel21Ideal.nD Cert.Kernel21Ideal.τ).loc Cert.Kernel21Ideal.main_arg2) = m ((c.tc : Thread Cert.Kernel21Ideal.nD Cert.Kernel21Ideal.τ).loc Cert.Kernel21Ideal.main_arg2)
      ∧ r.2.mem ((c.tc : Thread Cert.Kernel21Ideal.nD Cert.Kernel21Ideal.τ).loc Cert.Kernel21Ideal.main_arg3) = m ((c.tc : Thread Cert.Kernel21Ideal.nD Cert.Kernel21Ideal.τ).loc Cert.Kernel21Ideal.main_arg3))
      ∧ r.2.sem = fun _ => 0)

def quiescent_Reference21Ideal [hReference21Ideal : Cert.Reference21Ideal.Facts] : Prop :=
  ∀ (m : (ℓ : Loc Cert.Reference21Ideal.nD Cert.Reference21Ideal.τ Cert.Reference21Ideal.sig) → Buf (Elt Ideal) ℓ) (g : Dev Cert.Reference21Ideal.nD → PrngReg), Pre_Reference21Ideal m →
    θ_run (Cert.Reference21Ideal.defs (F := Ideal)) (onTc (τ := Cert.Reference21Ideal.τ) (Cert.Reference21Ideal.main (F := Ideal))) ⟨m, fun _ => 0, g⟩ (fun r => (∀ c : Dev Cert.Reference21Ideal.nD,
      r.2.mem ((c.tc : Thread Cert.Reference21Ideal.nD Cert.Reference21Ideal.τ).loc Cert.Reference21Ideal.main_arg0) = m ((c.tc : Thread Cert.Reference21Ideal.nD Cert.Reference21Ideal.τ).loc Cert.Reference21Ideal.main_arg0)
      ∧ r.2.mem ((c.tc : Thread Cert.Reference21Ideal.nD Cert.Reference21Ideal.τ).loc Cert.Reference21Ideal.main_arg1) = m ((c.tc : Thread Cert.Reference21Ideal.nD Cert.Reference21Ideal.τ).loc Cert.Reference21Ideal.main_arg1)
      ∧ r.2.mem ((c.tc : Thread Cert.Reference21Ideal.nD Cert.Reference21Ideal.τ).loc Cert.Reference21Ideal.main_arg2) = m ((c.tc : Thread Cert.Reference21Ideal.nD Cert.Reference21Ideal.τ).loc Cert.Reference21Ideal.main_arg2)
      ∧ r.2.mem ((c.tc : Thread Cert.Reference21Ideal.nD Cert.Reference21Ideal.τ).loc Cert.Reference21Ideal.main_arg3) = m ((c.tc : Thread Cert.Reference21Ideal.nD Cert.Reference21Ideal.τ).loc Cert.Reference21Ideal.main_arg3))
      ∧ r.2.sem = fun _ => 0)

def quiescent_Reference21Ideal_pre_norm_finite [hReference21Ideal : Cert.Reference21Ideal.Facts] [hPre_norm_finite : Cert.Pre_norm_finite.Facts] : Prop :=
  ∀ (m : (ℓ : Loc Cert.Reference21Ideal.nD Cert.Reference21Ideal.τ Cert.Reference21Ideal.sig) → Buf (Elt Ideal) ℓ) (g : Dev Cert.Reference21Ideal.nD → PrngReg), Pre_Reference21Ideal_norm_finite m →
    θ_run (Cert.Reference21Ideal.defs (F := Ideal)) (onTc (τ := Cert.Reference21Ideal.τ) (Cert.Reference21Ideal.main (F := Ideal))) ⟨m, fun _ => 0, g⟩ (fun r => (∀ c : Dev Cert.Reference21Ideal.nD,
      r.2.mem ((c.tc : Thread Cert.Reference21Ideal.nD Cert.Reference21Ideal.τ).loc Cert.Reference21Ideal.main_arg0) = m ((c.tc : Thread Cert.Reference21Ideal.nD Cert.Reference21Ideal.τ).loc Cert.Reference21Ideal.main_arg0)
      ∧ r.2.mem ((c.tc : Thread Cert.Reference21Ideal.nD Cert.Reference21Ideal.τ).loc Cert.Reference21Ideal.main_arg1) = m ((c.tc : Thread Cert.Reference21Ideal.nD Cert.Reference21Ideal.τ).loc Cert.Reference21Ideal.main_arg1)
      ∧ r.2.mem ((c.tc : Thread Cert.Reference21Ideal.nD Cert.Reference21Ideal.τ).loc Cert.Reference21Ideal.main_arg2) = m ((c.tc : Thread Cert.Reference21Ideal.nD Cert.Reference21Ideal.τ).loc Cert.Reference21Ideal.main_arg2)
      ∧ r.2.mem ((c.tc : Thread Cert.Reference21Ideal.nD Cert.Reference21Ideal.τ).loc Cert.Reference21Ideal.main_arg3) = m ((c.tc : Thread Cert.Reference21Ideal.nD Cert.Reference21Ideal.τ).loc Cert.Reference21Ideal.main_arg3))
      ∧ r.2.sem = fun _ => 0)

def quiescent_Kernel22 [hKernel22 : Cert.Kernel22.Facts] : Prop :=
  ∀ (m : (ℓ : Loc Cert.Kernel22.nD Cert.Kernel22.τ Cert.Kernel22.sig) → Buf (Elt Bits) ℓ) (g : Dev Cert.Kernel22.nD → PrngReg), Pre_Kernel22 m →
    θ_run (Cert.Kernel22.defs (F := Bits)) (onTc (τ := Cert.Kernel22.τ) (Cert.Kernel22.main (F := Bits))) ⟨m, fun _ => 0, g⟩ (fun r => (∀ c : Dev Cert.Kernel22.nD,
      r.2.mem ((c.tc : Thread Cert.Kernel22.nD Cert.Kernel22.τ).loc Cert.Kernel22.main_arg0) = m ((c.tc : Thread Cert.Kernel22.nD Cert.Kernel22.τ).loc Cert.Kernel22.main_arg0)
      ∧ r.2.mem ((c.tc : Thread Cert.Kernel22.nD Cert.Kernel22.τ).loc Cert.Kernel22.main_arg1) = m ((c.tc : Thread Cert.Kernel22.nD Cert.Kernel22.τ).loc Cert.Kernel22.main_arg1)
      ∧ r.2.mem ((c.tc : Thread Cert.Kernel22.nD Cert.Kernel22.τ).loc Cert.Kernel22.main_arg2) = m ((c.tc : Thread Cert.Kernel22.nD Cert.Kernel22.τ).loc Cert.Kernel22.main_arg2))
      ∧ r.2.sem = fun _ => 0)

def quiescent_Kernel22Ideal [hKernel22Ideal : Cert.Kernel22Ideal.Facts] : Prop :=
  ∀ (m : (ℓ : Loc Cert.Kernel22Ideal.nD Cert.Kernel22Ideal.τ Cert.Kernel22Ideal.sig) → Buf (Elt Ideal) ℓ) (g : Dev Cert.Kernel22Ideal.nD → PrngReg), Pre_Kernel22Ideal m →
    θ_run (Cert.Kernel22Ideal.defs (F := Ideal)) (onTc (τ := Cert.Kernel22Ideal.τ) (Cert.Kernel22Ideal.main (F := Ideal))) ⟨m, fun _ => 0, g⟩ (fun r => (∀ c : Dev Cert.Kernel22Ideal.nD,
      r.2.mem ((c.tc : Thread Cert.Kernel22Ideal.nD Cert.Kernel22Ideal.τ).loc Cert.Kernel22Ideal.main_arg0) = m ((c.tc : Thread Cert.Kernel22Ideal.nD Cert.Kernel22Ideal.τ).loc Cert.Kernel22Ideal.main_arg0)
      ∧ r.2.mem ((c.tc : Thread Cert.Kernel22Ideal.nD Cert.Kernel22Ideal.τ).loc Cert.Kernel22Ideal.main_arg1) = m ((c.tc : Thread Cert.Kernel22Ideal.nD Cert.Kernel22Ideal.τ).loc Cert.Kernel22Ideal.main_arg1)
      ∧ r.2.mem ((c.tc : Thread Cert.Kernel22Ideal.nD Cert.Kernel22Ideal.τ).loc Cert.Kernel22Ideal.main_arg2) = m ((c.tc : Thread Cert.Kernel22Ideal.nD Cert.Kernel22Ideal.τ).loc Cert.Kernel22Ideal.main_arg2))
      ∧ r.2.sem = fun _ => 0)

def quiescent_Kernel22Ideal_pre_loss_finite [hKernel22Ideal : Cert.Kernel22Ideal.Facts] [hPre_loss_finite : Cert.Pre_loss_finite.Facts] : Prop :=
  ∀ (m : (ℓ : Loc Cert.Kernel22Ideal.nD Cert.Kernel22Ideal.τ Cert.Kernel22Ideal.sig) → Buf (Elt Ideal) ℓ) (g : Dev Cert.Kernel22Ideal.nD → PrngReg), Pre_Kernel22Ideal_loss_finite m →
    θ_run (Cert.Kernel22Ideal.defs (F := Ideal)) (onTc (τ := Cert.Kernel22Ideal.τ) (Cert.Kernel22Ideal.main (F := Ideal))) ⟨m, fun _ => 0, g⟩ (fun r => (∀ c : Dev Cert.Kernel22Ideal.nD,
      r.2.mem ((c.tc : Thread Cert.Kernel22Ideal.nD Cert.Kernel22Ideal.τ).loc Cert.Kernel22Ideal.main_arg0) = m ((c.tc : Thread Cert.Kernel22Ideal.nD Cert.Kernel22Ideal.τ).loc Cert.Kernel22Ideal.main_arg0)
      ∧ r.2.mem ((c.tc : Thread Cert.Kernel22Ideal.nD Cert.Kernel22Ideal.τ).loc Cert.Kernel22Ideal.main_arg1) = m ((c.tc : Thread Cert.Kernel22Ideal.nD Cert.Kernel22Ideal.τ).loc Cert.Kernel22Ideal.main_arg1)
      ∧ r.2.mem ((c.tc : Thread Cert.Kernel22Ideal.nD Cert.Kernel22Ideal.τ).loc Cert.Kernel22Ideal.main_arg2) = m ((c.tc : Thread Cert.Kernel22Ideal.nD Cert.Kernel22Ideal.τ).loc Cert.Kernel22Ideal.main_arg2))
      ∧ r.2.sem = fun _ => 0)

def quiescent_Reference22Ideal [hReference22Ideal : Cert.Reference22Ideal.Facts] : Prop :=
  ∀ (m : (ℓ : Loc Cert.Reference22Ideal.nD Cert.Reference22Ideal.τ Cert.Reference22Ideal.sig) → Buf (Elt Ideal) ℓ) (g : Dev Cert.Reference22Ideal.nD → PrngReg), Pre_Reference22Ideal m →
    θ_run (Cert.Reference22Ideal.defs (F := Ideal)) (onTc (τ := Cert.Reference22Ideal.τ) (Cert.Reference22Ideal.main (F := Ideal))) ⟨m, fun _ => 0, g⟩ (fun r => (∀ c : Dev Cert.Reference22Ideal.nD,
      r.2.mem ((c.tc : Thread Cert.Reference22Ideal.nD Cert.Reference22Ideal.τ).loc Cert.Reference22Ideal.main_arg0) = m ((c.tc : Thread Cert.Reference22Ideal.nD Cert.Reference22Ideal.τ).loc Cert.Reference22Ideal.main_arg0)
      ∧ r.2.mem ((c.tc : Thread Cert.Reference22Ideal.nD Cert.Reference22Ideal.τ).loc Cert.Reference22Ideal.main_arg1) = m ((c.tc : Thread Cert.Reference22Ideal.nD Cert.Reference22Ideal.τ).loc Cert.Reference22Ideal.main_arg1)
      ∧ r.2.mem ((c.tc : Thread Cert.Reference22Ideal.nD Cert.Reference22Ideal.τ).loc Cert.Reference22Ideal.main_arg2) = m ((c.tc : Thread Cert.Reference22Ideal.nD Cert.Reference22Ideal.τ).loc Cert.Reference22Ideal.main_arg2))
      ∧ r.2.sem = fun _ => 0)

def quiescent_Reference22Ideal_pre_loss_finite [hReference22Ideal : Cert.Reference22Ideal.Facts] [hPre_loss_finite : Cert.Pre_loss_finite.Facts] : Prop :=
  ∀ (m : (ℓ : Loc Cert.Reference22Ideal.nD Cert.Reference22Ideal.τ Cert.Reference22Ideal.sig) → Buf (Elt Ideal) ℓ) (g : Dev Cert.Reference22Ideal.nD → PrngReg), Pre_Reference22Ideal_loss_finite m →
    θ_run (Cert.Reference22Ideal.defs (F := Ideal)) (onTc (τ := Cert.Reference22Ideal.τ) (Cert.Reference22Ideal.main (F := Ideal))) ⟨m, fun _ => 0, g⟩ (fun r => (∀ c : Dev Cert.Reference22Ideal.nD,
      r.2.mem ((c.tc : Thread Cert.Reference22Ideal.nD Cert.Reference22Ideal.τ).loc Cert.Reference22Ideal.main_arg0) = m ((c.tc : Thread Cert.Reference22Ideal.nD Cert.Reference22Ideal.τ).loc Cert.Reference22Ideal.main_arg0)
      ∧ r.2.mem ((c.tc : Thread Cert.Reference22Ideal.nD Cert.Reference22Ideal.τ).loc Cert.Reference22Ideal.main_arg1) = m ((c.tc : Thread Cert.Reference22Ideal.nD Cert.Reference22Ideal.τ).loc Cert.Reference22Ideal.main_arg1)
      ∧ r.2.mem ((c.tc : Thread Cert.Reference22Ideal.nD Cert.Reference22Ideal.τ).loc Cert.Reference22Ideal.main_arg2) = m ((c.tc : Thread Cert.Reference22Ideal.nD Cert.Reference22Ideal.τ).loc Cert.Reference22Ideal.main_arg2))
      ∧ r.2.sem = fun _ => 0)

def quiescent_Kernel23 [hKernel23 : Cert.Kernel23.Facts] : Prop :=
  ∀ (m : (ℓ : Loc Cert.Kernel23.nD Cert.Kernel23.τ Cert.Kernel23.sig) → Buf (Elt Bits) ℓ) (g : Dev Cert.Kernel23.nD → PrngReg), Pre_Kernel23 m →
    θ_run (Cert.Kernel23.defs (F := Bits)) (onTc (τ := Cert.Kernel23.τ) (Cert.Kernel23.main (F := Bits))) ⟨m, fun _ => 0, g⟩ (fun r => (∀ c : Dev Cert.Kernel23.nD,
      r.2.mem ((c.tc : Thread Cert.Kernel23.nD Cert.Kernel23.τ).loc Cert.Kernel23.main_arg0) = m ((c.tc : Thread Cert.Kernel23.nD Cert.Kernel23.τ).loc Cert.Kernel23.main_arg0)
      ∧ r.2.mem ((c.tc : Thread Cert.Kernel23.nD Cert.Kernel23.τ).loc Cert.Kernel23.main_arg1) = m ((c.tc : Thread Cert.Kernel23.nD Cert.Kernel23.τ).loc Cert.Kernel23.main_arg1)
      ∧ r.2.mem ((c.tc : Thread Cert.Kernel23.nD Cert.Kernel23.τ).loc Cert.Kernel23.main_arg2) = m ((c.tc : Thread Cert.Kernel23.nD Cert.Kernel23.τ).loc Cert.Kernel23.main_arg2)
      ∧ r.2.mem ((c.tc : Thread Cert.Kernel23.nD Cert.Kernel23.τ).loc Cert.Kernel23.main_arg3) = m ((c.tc : Thread Cert.Kernel23.nD Cert.Kernel23.τ).loc Cert.Kernel23.main_arg3)
      ∧ r.2.mem ((c.tc : Thread Cert.Kernel23.nD Cert.Kernel23.τ).loc Cert.Kernel23.main_arg4) = m ((c.tc : Thread Cert.Kernel23.nD Cert.Kernel23.τ).loc Cert.Kernel23.main_arg4))
      ∧ r.2.sem = fun _ => 0)

def quiescent_Kernel23Ideal [hKernel23Ideal : Cert.Kernel23Ideal.Facts] : Prop :=
  ∀ (m : (ℓ : Loc Cert.Kernel23Ideal.nD Cert.Kernel23Ideal.τ Cert.Kernel23Ideal.sig) → Buf (Elt Ideal) ℓ) (g : Dev Cert.Kernel23Ideal.nD → PrngReg), Pre_Kernel23Ideal m →
    θ_run (Cert.Kernel23Ideal.defs (F := Ideal)) (onTc (τ := Cert.Kernel23Ideal.τ) (Cert.Kernel23Ideal.main (F := Ideal))) ⟨m, fun _ => 0, g⟩ (fun r => (∀ c : Dev Cert.Kernel23Ideal.nD,
      r.2.mem ((c.tc : Thread Cert.Kernel23Ideal.nD Cert.Kernel23Ideal.τ).loc Cert.Kernel23Ideal.main_arg0) = m ((c.tc : Thread Cert.Kernel23Ideal.nD Cert.Kernel23Ideal.τ).loc Cert.Kernel23Ideal.main_arg0)
      ∧ r.2.mem ((c.tc : Thread Cert.Kernel23Ideal.nD Cert.Kernel23Ideal.τ).loc Cert.Kernel23Ideal.main_arg1) = m ((c.tc : Thread Cert.Kernel23Ideal.nD Cert.Kernel23Ideal.τ).loc Cert.Kernel23Ideal.main_arg1)
      ∧ r.2.mem ((c.tc : Thread Cert.Kernel23Ideal.nD Cert.Kernel23Ideal.τ).loc Cert.Kernel23Ideal.main_arg2) = m ((c.tc : Thread Cert.Kernel23Ideal.nD Cert.Kernel23Ideal.τ).loc Cert.Kernel23Ideal.main_arg2)
      ∧ r.2.mem ((c.tc : Thread Cert.Kernel23Ideal.nD Cert.Kernel23Ideal.τ).loc Cert.Kernel23Ideal.main_arg3) = m ((c.tc : Thread Cert.Kernel23Ideal.nD Cert.Kernel23Ideal.τ).loc Cert.Kernel23Ideal.main_arg3)
      ∧ r.2.mem ((c.tc : Thread Cert.Kernel23Ideal.nD Cert.Kernel23Ideal.τ).loc Cert.Kernel23Ideal.main_arg4) = m ((c.tc : Thread Cert.Kernel23Ideal.nD Cert.Kernel23Ideal.τ).loc Cert.Kernel23Ideal.main_arg4))
      ∧ r.2.sem = fun _ => 0)

def quiescent_Kernel23Ideal_pre_gate_finite [hKernel23Ideal : Cert.Kernel23Ideal.Facts] [hPre_gate_finite : Cert.Pre_gate_finite.Facts] : Prop :=
  ∀ (m : (ℓ : Loc Cert.Kernel23Ideal.nD Cert.Kernel23Ideal.τ Cert.Kernel23Ideal.sig) → Buf (Elt Ideal) ℓ) (g : Dev Cert.Kernel23Ideal.nD → PrngReg), Pre_Kernel23Ideal_gate_finite m →
    θ_run (Cert.Kernel23Ideal.defs (F := Ideal)) (onTc (τ := Cert.Kernel23Ideal.τ) (Cert.Kernel23Ideal.main (F := Ideal))) ⟨m, fun _ => 0, g⟩ (fun r => (∀ c : Dev Cert.Kernel23Ideal.nD,
      r.2.mem ((c.tc : Thread Cert.Kernel23Ideal.nD Cert.Kernel23Ideal.τ).loc Cert.Kernel23Ideal.main_arg0) = m ((c.tc : Thread Cert.Kernel23Ideal.nD Cert.Kernel23Ideal.τ).loc Cert.Kernel23Ideal.main_arg0)
      ∧ r.2.mem ((c.tc : Thread Cert.Kernel23Ideal.nD Cert.Kernel23Ideal.τ).loc Cert.Kernel23Ideal.main_arg1) = m ((c.tc : Thread Cert.Kernel23Ideal.nD Cert.Kernel23Ideal.τ).loc Cert.Kernel23Ideal.main_arg1)
      ∧ r.2.mem ((c.tc : Thread Cert.Kernel23Ideal.nD Cert.Kernel23Ideal.τ).loc Cert.Kernel23Ideal.main_arg2) = m ((c.tc : Thread Cert.Kernel23Ideal.nD Cert.Kernel23Ideal.τ).loc Cert.Kernel23Ideal.main_arg2)
      ∧ r.2.mem ((c.tc : Thread Cert.Kernel23Ideal.nD Cert.Kernel23Ideal.τ).loc Cert.Kernel23Ideal.main_arg3) = m ((c.tc : Thread Cert.Kernel23Ideal.nD Cert.Kernel23Ideal.τ).loc Cert.Kernel23Ideal.main_arg3)
      ∧ r.2.mem ((c.tc : Thread Cert.Kernel23Ideal.nD Cert.Kernel23Ideal.τ).loc Cert.Kernel23Ideal.main_arg4) = m ((c.tc : Thread Cert.Kernel23Ideal.nD Cert.Kernel23Ideal.τ).loc Cert.Kernel23Ideal.main_arg4))
      ∧ r.2.sem = fun _ => 0)

def quiescent_Reference23Ideal [hReference23Ideal : Cert.Reference23Ideal.Facts] : Prop :=
  ∀ (m : (ℓ : Loc Cert.Reference23Ideal.nD Cert.Reference23Ideal.τ Cert.Reference23Ideal.sig) → Buf (Elt Ideal) ℓ) (g : Dev Cert.Reference23Ideal.nD → PrngReg), Pre_Reference23Ideal m →
    θ_run (Cert.Reference23Ideal.defs (F := Ideal)) (onTc (τ := Cert.Reference23Ideal.τ) (Cert.Reference23Ideal.main (F := Ideal))) ⟨m, fun _ => 0, g⟩ (fun r => (∀ c : Dev Cert.Reference23Ideal.nD,
      r.2.mem ((c.tc : Thread Cert.Reference23Ideal.nD Cert.Reference23Ideal.τ).loc Cert.Reference23Ideal.main_arg0) = m ((c.tc : Thread Cert.Reference23Ideal.nD Cert.Reference23Ideal.τ).loc Cert.Reference23Ideal.main_arg0)
      ∧ r.2.mem ((c.tc : Thread Cert.Reference23Ideal.nD Cert.Reference23Ideal.τ).loc Cert.Reference23Ideal.main_arg1) = m ((c.tc : Thread Cert.Reference23Ideal.nD Cert.Reference23Ideal.τ).loc Cert.Reference23Ideal.main_arg1)
      ∧ r.2.mem ((c.tc : Thread Cert.Reference23Ideal.nD Cert.Reference23Ideal.τ).loc Cert.Reference23Ideal.main_arg2) = m ((c.tc : Thread Cert.Reference23Ideal.nD Cert.Reference23Ideal.τ).loc Cert.Reference23Ideal.main_arg2)
      ∧ r.2.mem ((c.tc : Thread Cert.Reference23Ideal.nD Cert.Reference23Ideal.τ).loc Cert.Reference23Ideal.main_arg3) = m ((c.tc : Thread Cert.Reference23Ideal.nD Cert.Reference23Ideal.τ).loc Cert.Reference23Ideal.main_arg3)
      ∧ r.2.mem ((c.tc : Thread Cert.Reference23Ideal.nD Cert.Reference23Ideal.τ).loc Cert.Reference23Ideal.main_arg4) = m ((c.tc : Thread Cert.Reference23Ideal.nD Cert.Reference23Ideal.τ).loc Cert.Reference23Ideal.main_arg4))
      ∧ r.2.sem = fun _ => 0)

def quiescent_Reference23Ideal_pre_gate_finite [hReference23Ideal : Cert.Reference23Ideal.Facts] [hPre_gate_finite : Cert.Pre_gate_finite.Facts] : Prop :=
  ∀ (m : (ℓ : Loc Cert.Reference23Ideal.nD Cert.Reference23Ideal.τ Cert.Reference23Ideal.sig) → Buf (Elt Ideal) ℓ) (g : Dev Cert.Reference23Ideal.nD → PrngReg), Pre_Reference23Ideal_gate_finite m →
    θ_run (Cert.Reference23Ideal.defs (F := Ideal)) (onTc (τ := Cert.Reference23Ideal.τ) (Cert.Reference23Ideal.main (F := Ideal))) ⟨m, fun _ => 0, g⟩ (fun r => (∀ c : Dev Cert.Reference23Ideal.nD,
      r.2.mem ((c.tc : Thread Cert.Reference23Ideal.nD Cert.Reference23Ideal.τ).loc Cert.Reference23Ideal.main_arg0) = m ((c.tc : Thread Cert.Reference23Ideal.nD Cert.Reference23Ideal.τ).loc Cert.Reference23Ideal.main_arg0)
      ∧ r.2.mem ((c.tc : Thread Cert.Reference23Ideal.nD Cert.Reference23Ideal.τ).loc Cert.Reference23Ideal.main_arg1) = m ((c.tc : Thread Cert.Reference23Ideal.nD Cert.Reference23Ideal.τ).loc Cert.Reference23Ideal.main_arg1)
      ∧ r.2.mem ((c.tc : Thread Cert.Reference23Ideal.nD Cert.Reference23Ideal.τ).loc Cert.Reference23Ideal.main_arg2) = m ((c.tc : Thread Cert.Reference23Ideal.nD Cert.Reference23Ideal.τ).loc Cert.Reference23Ideal.main_arg2)
      ∧ r.2.mem ((c.tc : Thread Cert.Reference23Ideal.nD Cert.Reference23Ideal.τ).loc Cert.Reference23Ideal.main_arg3) = m ((c.tc : Thread Cert.Reference23Ideal.nD Cert.Reference23Ideal.τ).loc Cert.Reference23Ideal.main_arg3)
      ∧ r.2.mem ((c.tc : Thread Cert.Reference23Ideal.nD Cert.Reference23Ideal.τ).loc Cert.Reference23Ideal.main_arg4) = m ((c.tc : Thread Cert.Reference23Ideal.nD Cert.Reference23Ideal.τ).loc Cert.Reference23Ideal.main_arg4))
      ∧ r.2.sem = fun _ => 0)

def quiescent_Kernel24 [hKernel24 : Cert.Kernel24.Facts] : Prop :=
  ∀ (m : (ℓ : Loc Cert.Kernel24.nD Cert.Kernel24.τ Cert.Kernel24.sig) → Buf (Elt Bits) ℓ) (g : Dev Cert.Kernel24.nD → PrngReg), Pre_Kernel24 m →
    θ_run (Cert.Kernel24.defs (F := Bits)) (onTc (τ := Cert.Kernel24.τ) (Cert.Kernel24.main (F := Bits))) ⟨m, fun _ => 0, g⟩ (fun r => (∀ c : Dev Cert.Kernel24.nD,
      r.2.mem ((c.tc : Thread Cert.Kernel24.nD Cert.Kernel24.τ).loc Cert.Kernel24.main_arg0) = m ((c.tc : Thread Cert.Kernel24.nD Cert.Kernel24.τ).loc Cert.Kernel24.main_arg0)
      ∧ r.2.mem ((c.tc : Thread Cert.Kernel24.nD Cert.Kernel24.τ).loc Cert.Kernel24.main_arg1) = m ((c.tc : Thread Cert.Kernel24.nD Cert.Kernel24.τ).loc Cert.Kernel24.main_arg1))
      ∧ r.2.sem = fun _ => 0)

def quiescent_Kernel24Ideal [hKernel24Ideal : Cert.Kernel24Ideal.Facts] : Prop :=
  ∀ (m : (ℓ : Loc Cert.Kernel24Ideal.nD Cert.Kernel24Ideal.τ Cert.Kernel24Ideal.sig) → Buf (Elt Ideal) ℓ) (g : Dev Cert.Kernel24Ideal.nD → PrngReg), Pre_Kernel24Ideal m →
    θ_run (Cert.Kernel24Ideal.defs (F := Ideal)) (onTc (τ := Cert.Kernel24Ideal.τ) (Cert.Kernel24Ideal.main (F := Ideal))) ⟨m, fun _ => 0, g⟩ (fun r => (∀ c : Dev Cert.Kernel24Ideal.nD,
      r.2.mem ((c.tc : Thread Cert.Kernel24Ideal.nD Cert.Kernel24Ideal.τ).loc Cert.Kernel24Ideal.main_arg0) = m ((c.tc : Thread Cert.Kernel24Ideal.nD Cert.Kernel24Ideal.τ).loc Cert.Kernel24Ideal.main_arg0)
      ∧ r.2.mem ((c.tc : Thread Cert.Kernel24Ideal.nD Cert.Kernel24Ideal.τ).loc Cert.Kernel24Ideal.main_arg1) = m ((c.tc : Thread Cert.Kernel24Ideal.nD Cert.Kernel24Ideal.τ).loc Cert.Kernel24Ideal.main_arg1))
      ∧ r.2.sem = fun _ => 0)

def quiescent_Reference24Ideal [hReference24Ideal : Cert.Reference24Ideal.Facts] : Prop :=
  ∀ (m : (ℓ : Loc Cert.Reference24Ideal.nD Cert.Reference24Ideal.τ Cert.Reference24Ideal.sig) → Buf (Elt Ideal) ℓ) (g : Dev Cert.Reference24Ideal.nD → PrngReg), Pre_Reference24Ideal m →
    θ_run (Cert.Reference24Ideal.defs (F := Ideal)) (onTc (τ := Cert.Reference24Ideal.τ) (Cert.Reference24Ideal.main (F := Ideal))) ⟨m, fun _ => 0, g⟩ (fun r => (∀ c : Dev Cert.Reference24Ideal.nD,
      r.2.mem ((c.tc : Thread Cert.Reference24Ideal.nD Cert.Reference24Ideal.τ).loc Cert.Reference24Ideal.main_arg0) = m ((c.tc : Thread Cert.Reference24Ideal.nD Cert.Reference24Ideal.τ).loc Cert.Reference24Ideal.main_arg0)
      ∧ r.2.mem ((c.tc : Thread Cert.Reference24Ideal.nD Cert.Reference24Ideal.τ).loc Cert.Reference24Ideal.main_arg1) = m ((c.tc : Thread Cert.Reference24Ideal.nD Cert.Reference24Ideal.τ).loc Cert.Reference24Ideal.main_arg1))
      ∧ r.2.sem = fun _ => 0)

def quiescent_Kernel25 [hKernel25 : Cert.Kernel25.Facts] : Prop :=
  ∀ (m : (ℓ : Loc Cert.Kernel25.nD Cert.Kernel25.τ Cert.Kernel25.sig) → Buf (Elt Bits) ℓ) (g : Dev Cert.Kernel25.nD → PrngReg), Pre_Kernel25 m →
    θ_run (Cert.Kernel25.defs (F := Bits)) (onTc (τ := Cert.Kernel25.τ) (Cert.Kernel25.main (F := Bits))) ⟨m, fun _ => 0, g⟩ (fun r => (∀ c : Dev Cert.Kernel25.nD,
      r.2.mem ((c.tc : Thread Cert.Kernel25.nD Cert.Kernel25.τ).loc Cert.Kernel25.main_arg0) = m ((c.tc : Thread Cert.Kernel25.nD Cert.Kernel25.τ).loc Cert.Kernel25.main_arg0)
      ∧ r.2.mem ((c.tc : Thread Cert.Kernel25.nD Cert.Kernel25.τ).loc Cert.Kernel25.main_arg1) = m ((c.tc : Thread Cert.Kernel25.nD Cert.Kernel25.τ).loc Cert.Kernel25.main_arg1))
      ∧ r.2.sem = fun _ => 0)

def quiescent_Kernel25Ideal [hKernel25Ideal : Cert.Kernel25Ideal.Facts] : Prop :=
  ∀ (m : (ℓ : Loc Cert.Kernel25Ideal.nD Cert.Kernel25Ideal.τ Cert.Kernel25Ideal.sig) → Buf (Elt Ideal) ℓ) (g : Dev Cert.Kernel25Ideal.nD → PrngReg), Pre_Kernel25Ideal m →
    θ_run (Cert.Kernel25Ideal.defs (F := Ideal)) (onTc (τ := Cert.Kernel25Ideal.τ) (Cert.Kernel25Ideal.main (F := Ideal))) ⟨m, fun _ => 0, g⟩ (fun r => (∀ c : Dev Cert.Kernel25Ideal.nD,
      r.2.mem ((c.tc : Thread Cert.Kernel25Ideal.nD Cert.Kernel25Ideal.τ).loc Cert.Kernel25Ideal.main_arg0) = m ((c.tc : Thread Cert.Kernel25Ideal.nD Cert.Kernel25Ideal.τ).loc Cert.Kernel25Ideal.main_arg0)
      ∧ r.2.mem ((c.tc : Thread Cert.Kernel25Ideal.nD Cert.Kernel25Ideal.τ).loc Cert.Kernel25Ideal.main_arg1) = m ((c.tc : Thread Cert.Kernel25Ideal.nD Cert.Kernel25Ideal.τ).loc Cert.Kernel25Ideal.main_arg1))
      ∧ r.2.sem = fun _ => 0)

def quiescent_Reference25Ideal [hReference25Ideal : Cert.Reference25Ideal.Facts] : Prop :=
  ∀ (m : (ℓ : Loc Cert.Reference25Ideal.nD Cert.Reference25Ideal.τ Cert.Reference25Ideal.sig) → Buf (Elt Ideal) ℓ) (g : Dev Cert.Reference25Ideal.nD → PrngReg), Pre_Reference25Ideal m →
    θ_run (Cert.Reference25Ideal.defs (F := Ideal)) (onTc (τ := Cert.Reference25Ideal.τ) (Cert.Reference25Ideal.main (F := Ideal))) ⟨m, fun _ => 0, g⟩ (fun r => (∀ c : Dev Cert.Reference25Ideal.nD,
      r.2.mem ((c.tc : Thread Cert.Reference25Ideal.nD Cert.Reference25Ideal.τ).loc Cert.Reference25Ideal.main_arg0) = m ((c.tc : Thread Cert.Reference25Ideal.nD Cert.Reference25Ideal.τ).loc Cert.Reference25Ideal.main_arg0)
      ∧ r.2.mem ((c.tc : Thread Cert.Reference25Ideal.nD Cert.Reference25Ideal.τ).loc Cert.Reference25Ideal.main_arg1) = m ((c.tc : Thread Cert.Reference25Ideal.nD Cert.Reference25Ideal.τ).loc Cert.Reference25Ideal.main_arg1))
      ∧ r.2.sem = fun _ => 0)

def quiescent_Kernel26 [hKernel26 : Cert.Kernel26.Facts] : Prop :=
  ∀ (m : (ℓ : Loc Cert.Kernel26.nD Cert.Kernel26.τ Cert.Kernel26.sig) → Buf (Elt Bits) ℓ) (g : Dev Cert.Kernel26.nD → PrngReg), Pre_Kernel26 m →
    θ_run (Cert.Kernel26.defs (F := Bits)) (onTc (τ := Cert.Kernel26.τ) (Cert.Kernel26.main (F := Bits))) ⟨m, fun _ => 0, g⟩ (fun r => (∀ c : Dev Cert.Kernel26.nD,
      r.2.mem ((c.tc : Thread Cert.Kernel26.nD Cert.Kernel26.τ).loc Cert.Kernel26.main_arg0) = m ((c.tc : Thread Cert.Kernel26.nD Cert.Kernel26.τ).loc Cert.Kernel26.main_arg0)
      ∧ r.2.mem ((c.tc : Thread Cert.Kernel26.nD Cert.Kernel26.τ).loc Cert.Kernel26.main_arg1) = m ((c.tc : Thread Cert.Kernel26.nD Cert.Kernel26.τ).loc Cert.Kernel26.main_arg1))
      ∧ r.2.sem = fun _ => 0)

def quiescent_Kernel26Ideal [hKernel26Ideal : Cert.Kernel26Ideal.Facts] : Prop :=
  ∀ (m : (ℓ : Loc Cert.Kernel26Ideal.nD Cert.Kernel26Ideal.τ Cert.Kernel26Ideal.sig) → Buf (Elt Ideal) ℓ) (g : Dev Cert.Kernel26Ideal.nD → PrngReg), Pre_Kernel26Ideal m →
    θ_run (Cert.Kernel26Ideal.defs (F := Ideal)) (onTc (τ := Cert.Kernel26Ideal.τ) (Cert.Kernel26Ideal.main (F := Ideal))) ⟨m, fun _ => 0, g⟩ (fun r => (∀ c : Dev Cert.Kernel26Ideal.nD,
      r.2.mem ((c.tc : Thread Cert.Kernel26Ideal.nD Cert.Kernel26Ideal.τ).loc Cert.Kernel26Ideal.main_arg0) = m ((c.tc : Thread Cert.Kernel26Ideal.nD Cert.Kernel26Ideal.τ).loc Cert.Kernel26Ideal.main_arg0)
      ∧ r.2.mem ((c.tc : Thread Cert.Kernel26Ideal.nD Cert.Kernel26Ideal.τ).loc Cert.Kernel26Ideal.main_arg1) = m ((c.tc : Thread Cert.Kernel26Ideal.nD Cert.Kernel26Ideal.τ).loc Cert.Kernel26Ideal.main_arg1))
      ∧ r.2.sem = fun _ => 0)

def quiescent_Reference26Ideal [hReference26Ideal : Cert.Reference26Ideal.Facts] : Prop :=
  ∀ (m : (ℓ : Loc Cert.Reference26Ideal.nD Cert.Reference26Ideal.τ Cert.Reference26Ideal.sig) → Buf (Elt Ideal) ℓ) (g : Dev Cert.Reference26Ideal.nD → PrngReg), Pre_Reference26Ideal m →
    θ_run (Cert.Reference26Ideal.defs (F := Ideal)) (onTc (τ := Cert.Reference26Ideal.τ) (Cert.Reference26Ideal.main (F := Ideal))) ⟨m, fun _ => 0, g⟩ (fun r => (∀ c : Dev Cert.Reference26Ideal.nD,
      r.2.mem ((c.tc : Thread Cert.Reference26Ideal.nD Cert.Reference26Ideal.τ).loc Cert.Reference26Ideal.main_arg0) = m ((c.tc : Thread Cert.Reference26Ideal.nD Cert.Reference26Ideal.τ).loc Cert.Reference26Ideal.main_arg0)
      ∧ r.2.mem ((c.tc : Thread Cert.Reference26Ideal.nD Cert.Reference26Ideal.τ).loc Cert.Reference26Ideal.main_arg1) = m ((c.tc : Thread Cert.Reference26Ideal.nD Cert.Reference26Ideal.τ).loc Cert.Reference26Ideal.main_arg1))
      ∧ r.2.sem = fun _ => 0)

def quiescent_Kernel27 [hKernel27 : Cert.Kernel27.Facts] : Prop :=
  ∀ (m : (ℓ : Loc Cert.Kernel27.nD Cert.Kernel27.τ Cert.Kernel27.sig) → Buf (Elt Bits) ℓ) (g : Dev Cert.Kernel27.nD → PrngReg), Pre_Kernel27 m →
    θ_run (Cert.Kernel27.defs (F := Bits)) (onTc (τ := Cert.Kernel27.τ) (Cert.Kernel27.main (F := Bits))) ⟨m, fun _ => 0, g⟩ (fun r => (∀ c : Dev Cert.Kernel27.nD,
      r.2.mem ((c.tc : Thread Cert.Kernel27.nD Cert.Kernel27.τ).loc Cert.Kernel27.main_arg0) = m ((c.tc : Thread Cert.Kernel27.nD Cert.Kernel27.τ).loc Cert.Kernel27.main_arg0)
      ∧ r.2.mem ((c.tc : Thread Cert.Kernel27.nD Cert.Kernel27.τ).loc Cert.Kernel27.main_arg1) = m ((c.tc : Thread Cert.Kernel27.nD Cert.Kernel27.τ).loc Cert.Kernel27.main_arg1)
      ∧ r.2.mem ((c.tc : Thread Cert.Kernel27.nD Cert.Kernel27.τ).loc Cert.Kernel27.main_arg2) = m ((c.tc : Thread Cert.Kernel27.nD Cert.Kernel27.τ).loc Cert.Kernel27.main_arg2))
      ∧ r.2.sem = fun _ => 0)

def quiescent_Kernel27Ideal [hKernel27Ideal : Cert.Kernel27Ideal.Facts] : Prop :=
  ∀ (m : (ℓ : Loc Cert.Kernel27Ideal.nD Cert.Kernel27Ideal.τ Cert.Kernel27Ideal.sig) → Buf (Elt Ideal) ℓ) (g : Dev Cert.Kernel27Ideal.nD → PrngReg), Pre_Kernel27Ideal m →
    θ_run (Cert.Kernel27Ideal.defs (F := Ideal)) (onTc (τ := Cert.Kernel27Ideal.τ) (Cert.Kernel27Ideal.main (F := Ideal))) ⟨m, fun _ => 0, g⟩ (fun r => (∀ c : Dev Cert.Kernel27Ideal.nD,
      r.2.mem ((c.tc : Thread Cert.Kernel27Ideal.nD Cert.Kernel27Ideal.τ).loc Cert.Kernel27Ideal.main_arg0) = m ((c.tc : Thread Cert.Kernel27Ideal.nD Cert.Kernel27Ideal.τ).loc Cert.Kernel27Ideal.main_arg0)
      ∧ r.2.mem ((c.tc : Thread Cert.Kernel27Ideal.nD Cert.Kernel27Ideal.τ).loc Cert.Kernel27Ideal.main_arg1) = m ((c.tc : Thread Cert.Kernel27Ideal.nD Cert.Kernel27Ideal.τ).loc Cert.Kernel27Ideal.main_arg1)
      ∧ r.2.mem ((c.tc : Thread Cert.Kernel27Ideal.nD Cert.Kernel27Ideal.τ).loc Cert.Kernel27Ideal.main_arg2) = m ((c.tc : Thread Cert.Kernel27Ideal.nD Cert.Kernel27Ideal.τ).loc Cert.Kernel27Ideal.main_arg2))
      ∧ r.2.sem = fun _ => 0)

def quiescent_Reference27Ideal [hReference27Ideal : Cert.Reference27Ideal.Facts] : Prop :=
  ∀ (m : (ℓ : Loc Cert.Reference27Ideal.nD Cert.Reference27Ideal.τ Cert.Reference27Ideal.sig) → Buf (Elt Ideal) ℓ) (g : Dev Cert.Reference27Ideal.nD → PrngReg), Pre_Reference27Ideal m →
    θ_run (Cert.Reference27Ideal.defs (F := Ideal)) (onTc (τ := Cert.Reference27Ideal.τ) (Cert.Reference27Ideal.main (F := Ideal))) ⟨m, fun _ => 0, g⟩ (fun r => (∀ c : Dev Cert.Reference27Ideal.nD,
      r.2.mem ((c.tc : Thread Cert.Reference27Ideal.nD Cert.Reference27Ideal.τ).loc Cert.Reference27Ideal.main_arg0) = m ((c.tc : Thread Cert.Reference27Ideal.nD Cert.Reference27Ideal.τ).loc Cert.Reference27Ideal.main_arg0)
      ∧ r.2.mem ((c.tc : Thread Cert.Reference27Ideal.nD Cert.Reference27Ideal.τ).loc Cert.Reference27Ideal.main_arg1) = m ((c.tc : Thread Cert.Reference27Ideal.nD Cert.Reference27Ideal.τ).loc Cert.Reference27Ideal.main_arg1)
      ∧ r.2.mem ((c.tc : Thread Cert.Reference27Ideal.nD Cert.Reference27Ideal.τ).loc Cert.Reference27Ideal.main_arg2) = m ((c.tc : Thread Cert.Reference27Ideal.nD Cert.Reference27Ideal.τ).loc Cert.Reference27Ideal.main_arg2))
      ∧ r.2.sem = fun _ => 0)

def quiescent_Kernel28 [hKernel28 : Cert.Kernel28.Facts] : Prop :=
  ∀ (m : (ℓ : Loc Cert.Kernel28.nD Cert.Kernel28.τ Cert.Kernel28.sig) → Buf (Elt Bits) ℓ) (g : Dev Cert.Kernel28.nD → PrngReg), Pre_Kernel28 m →
    θ_run (Cert.Kernel28.defs (F := Bits)) (onTc (τ := Cert.Kernel28.τ) (Cert.Kernel28.main (F := Bits))) ⟨m, fun _ => 0, g⟩ (fun r => (∀ c : Dev Cert.Kernel28.nD,
      r.2.mem ((c.tc : Thread Cert.Kernel28.nD Cert.Kernel28.τ).loc Cert.Kernel28.main_arg0) = m ((c.tc : Thread Cert.Kernel28.nD Cert.Kernel28.τ).loc Cert.Kernel28.main_arg0)
      ∧ r.2.mem ((c.tc : Thread Cert.Kernel28.nD Cert.Kernel28.τ).loc Cert.Kernel28.main_arg1) = m ((c.tc : Thread Cert.Kernel28.nD Cert.Kernel28.τ).loc Cert.Kernel28.main_arg1))
      ∧ r.2.sem = fun _ => 0)

def quiescent_Kernel28Ideal [hKernel28Ideal : Cert.Kernel28Ideal.Facts] : Prop :=
  ∀ (m : (ℓ : Loc Cert.Kernel28Ideal.nD Cert.Kernel28Ideal.τ Cert.Kernel28Ideal.sig) → Buf (Elt Ideal) ℓ) (g : Dev Cert.Kernel28Ideal.nD → PrngReg), Pre_Kernel28Ideal m →
    θ_run (Cert.Kernel28Ideal.defs (F := Ideal)) (onTc (τ := Cert.Kernel28Ideal.τ) (Cert.Kernel28Ideal.main (F := Ideal))) ⟨m, fun _ => 0, g⟩ (fun r => (∀ c : Dev Cert.Kernel28Ideal.nD,
      r.2.mem ((c.tc : Thread Cert.Kernel28Ideal.nD Cert.Kernel28Ideal.τ).loc Cert.Kernel28Ideal.main_arg0) = m ((c.tc : Thread Cert.Kernel28Ideal.nD Cert.Kernel28Ideal.τ).loc Cert.Kernel28Ideal.main_arg0)
      ∧ r.2.mem ((c.tc : Thread Cert.Kernel28Ideal.nD Cert.Kernel28Ideal.τ).loc Cert.Kernel28Ideal.main_arg1) = m ((c.tc : Thread Cert.Kernel28Ideal.nD Cert.Kernel28Ideal.τ).loc Cert.Kernel28Ideal.main_arg1))
      ∧ r.2.sem = fun _ => 0)

def quiescent_Reference28Ideal [hReference28Ideal : Cert.Reference28Ideal.Facts] : Prop :=
  ∀ (m : (ℓ : Loc Cert.Reference28Ideal.nD Cert.Reference28Ideal.τ Cert.Reference28Ideal.sig) → Buf (Elt Ideal) ℓ) (g : Dev Cert.Reference28Ideal.nD → PrngReg), Pre_Reference28Ideal m →
    θ_run (Cert.Reference28Ideal.defs (F := Ideal)) (onTc (τ := Cert.Reference28Ideal.τ) (Cert.Reference28Ideal.main (F := Ideal))) ⟨m, fun _ => 0, g⟩ (fun r => (∀ c : Dev Cert.Reference28Ideal.nD,
      r.2.mem ((c.tc : Thread Cert.Reference28Ideal.nD Cert.Reference28Ideal.τ).loc Cert.Reference28Ideal.main_arg0) = m ((c.tc : Thread Cert.Reference28Ideal.nD Cert.Reference28Ideal.τ).loc Cert.Reference28Ideal.main_arg0)
      ∧ r.2.mem ((c.tc : Thread Cert.Reference28Ideal.nD Cert.Reference28Ideal.τ).loc Cert.Reference28Ideal.main_arg1) = m ((c.tc : Thread Cert.Reference28Ideal.nD Cert.Reference28Ideal.τ).loc Cert.Reference28Ideal.main_arg1))
      ∧ r.2.sem = fun _ => 0)

def quiescent_Kernel29 [hKernel29 : Cert.Kernel29.Facts] : Prop :=
  ∀ (m : (ℓ : Loc Cert.Kernel29.nD Cert.Kernel29.τ Cert.Kernel29.sig) → Buf (Elt Bits) ℓ) (g : Dev Cert.Kernel29.nD → PrngReg), Pre_Kernel29 m →
    θ_run (Cert.Kernel29.defs (F := Bits)) (onTc (τ := Cert.Kernel29.τ) (Cert.Kernel29.main (F := Bits))) ⟨m, fun _ => 0, g⟩ (fun r => (∀ c : Dev Cert.Kernel29.nD,
      r.2.mem ((c.tc : Thread Cert.Kernel29.nD Cert.Kernel29.τ).loc Cert.Kernel29.main_arg0) = m ((c.tc : Thread Cert.Kernel29.nD Cert.Kernel29.τ).loc Cert.Kernel29.main_arg0)
      ∧ r.2.mem ((c.tc : Thread Cert.Kernel29.nD Cert.Kernel29.τ).loc Cert.Kernel29.main_arg1) = m ((c.tc : Thread Cert.Kernel29.nD Cert.Kernel29.τ).loc Cert.Kernel29.main_arg1))
      ∧ r.2.sem = fun _ => 0)

def quiescent_Kernel29Ideal [hKernel29Ideal : Cert.Kernel29Ideal.Facts] : Prop :=
  ∀ (m : (ℓ : Loc Cert.Kernel29Ideal.nD Cert.Kernel29Ideal.τ Cert.Kernel29Ideal.sig) → Buf (Elt Ideal) ℓ) (g : Dev Cert.Kernel29Ideal.nD → PrngReg), Pre_Kernel29Ideal m →
    θ_run (Cert.Kernel29Ideal.defs (F := Ideal)) (onTc (τ := Cert.Kernel29Ideal.τ) (Cert.Kernel29Ideal.main (F := Ideal))) ⟨m, fun _ => 0, g⟩ (fun r => (∀ c : Dev Cert.Kernel29Ideal.nD,
      r.2.mem ((c.tc : Thread Cert.Kernel29Ideal.nD Cert.Kernel29Ideal.τ).loc Cert.Kernel29Ideal.main_arg0) = m ((c.tc : Thread Cert.Kernel29Ideal.nD Cert.Kernel29Ideal.τ).loc Cert.Kernel29Ideal.main_arg0)
      ∧ r.2.mem ((c.tc : Thread Cert.Kernel29Ideal.nD Cert.Kernel29Ideal.τ).loc Cert.Kernel29Ideal.main_arg1) = m ((c.tc : Thread Cert.Kernel29Ideal.nD Cert.Kernel29Ideal.τ).loc Cert.Kernel29Ideal.main_arg1))
      ∧ r.2.sem = fun _ => 0)

def quiescent_Reference29Ideal [hReference29Ideal : Cert.Reference29Ideal.Facts] : Prop :=
  ∀ (m : (ℓ : Loc Cert.Reference29Ideal.nD Cert.Reference29Ideal.τ Cert.Reference29Ideal.sig) → Buf (Elt Ideal) ℓ) (g : Dev Cert.Reference29Ideal.nD → PrngReg), Pre_Reference29Ideal m →
    θ_run (Cert.Reference29Ideal.defs (F := Ideal)) (onTc (τ := Cert.Reference29Ideal.τ) (Cert.Reference29Ideal.main (F := Ideal))) ⟨m, fun _ => 0, g⟩ (fun r => (∀ c : Dev Cert.Reference29Ideal.nD,
      r.2.mem ((c.tc : Thread Cert.Reference29Ideal.nD Cert.Reference29Ideal.τ).loc Cert.Reference29Ideal.main_arg0) = m ((c.tc : Thread Cert.Reference29Ideal.nD Cert.Reference29Ideal.τ).loc Cert.Reference29Ideal.main_arg0)
      ∧ r.2.mem ((c.tc : Thread Cert.Reference29Ideal.nD Cert.Reference29Ideal.τ).loc Cert.Reference29Ideal.main_arg1) = m ((c.tc : Thread Cert.Reference29Ideal.nD Cert.Reference29Ideal.τ).loc Cert.Reference29Ideal.main_arg1))
      ∧ r.2.sem = fun _ => 0)

def quiescent_Kernel30 [hKernel30 : Cert.Kernel30.Facts] : Prop :=
  ∀ (m : (ℓ : Loc Cert.Kernel30.nD Cert.Kernel30.τ Cert.Kernel30.sig) → Buf (Elt Bits) ℓ) (g : Dev Cert.Kernel30.nD → PrngReg), Pre_Kernel30 m →
    θ_run (Cert.Kernel30.defs (F := Bits)) (onTc (τ := Cert.Kernel30.τ) (Cert.Kernel30.main (F := Bits))) ⟨m, fun _ => 0, g⟩ (fun r => (∀ c : Dev Cert.Kernel30.nD,
      r.2.mem ((c.tc : Thread Cert.Kernel30.nD Cert.Kernel30.τ).loc Cert.Kernel30.main_arg0) = m ((c.tc : Thread Cert.Kernel30.nD Cert.Kernel30.τ).loc Cert.Kernel30.main_arg0)
      ∧ r.2.mem ((c.tc : Thread Cert.Kernel30.nD Cert.Kernel30.τ).loc Cert.Kernel30.main_arg1) = m ((c.tc : Thread Cert.Kernel30.nD Cert.Kernel30.τ).loc Cert.Kernel30.main_arg1)
      ∧ r.2.mem ((c.tc : Thread Cert.Kernel30.nD Cert.Kernel30.τ).loc Cert.Kernel30.main_arg2) = m ((c.tc : Thread Cert.Kernel30.nD Cert.Kernel30.τ).loc Cert.Kernel30.main_arg2)
      ∧ r.2.mem ((c.tc : Thread Cert.Kernel30.nD Cert.Kernel30.τ).loc Cert.Kernel30.main_arg3) = m ((c.tc : Thread Cert.Kernel30.nD Cert.Kernel30.τ).loc Cert.Kernel30.main_arg3)
      ∧ r.2.mem ((c.tc : Thread Cert.Kernel30.nD Cert.Kernel30.τ).loc Cert.Kernel30.main_arg4) = m ((c.tc : Thread Cert.Kernel30.nD Cert.Kernel30.τ).loc Cert.Kernel30.main_arg4)
      ∧ r.2.mem ((c.tc : Thread Cert.Kernel30.nD Cert.Kernel30.τ).loc Cert.Kernel30.main_arg5) = m ((c.tc : Thread Cert.Kernel30.nD Cert.Kernel30.τ).loc Cert.Kernel30.main_arg5)
      ∧ r.2.mem ((c.tc : Thread Cert.Kernel30.nD Cert.Kernel30.τ).loc Cert.Kernel30.main_arg6) = m ((c.tc : Thread Cert.Kernel30.nD Cert.Kernel30.τ).loc Cert.Kernel30.main_arg6)
      ∧ r.2.mem ((c.tc : Thread Cert.Kernel30.nD Cert.Kernel30.τ).loc Cert.Kernel30.main_arg7) = m ((c.tc : Thread Cert.Kernel30.nD Cert.Kernel30.τ).loc Cert.Kernel30.main_arg7)
      ∧ r.2.mem ((c.tc : Thread Cert.Kernel30.nD Cert.Kernel30.τ).loc Cert.Kernel30.main_arg8) = m ((c.tc : Thread Cert.Kernel30.nD Cert.Kernel30.τ).loc Cert.Kernel30.main_arg8)
      ∧ r.2.mem ((c.tc : Thread Cert.Kernel30.nD Cert.Kernel30.τ).loc Cert.Kernel30.main_arg9) = m ((c.tc : Thread Cert.Kernel30.nD Cert.Kernel30.τ).loc Cert.Kernel30.main_arg9)
      ∧ r.2.mem ((c.tc : Thread Cert.Kernel30.nD Cert.Kernel30.τ).loc Cert.Kernel30.main_arg10) = m ((c.tc : Thread Cert.Kernel30.nD Cert.Kernel30.τ).loc Cert.Kernel30.main_arg10))
      ∧ r.2.sem = fun _ => 0)

def quiescent_Kernel30Ideal [hKernel30Ideal : Cert.Kernel30Ideal.Facts] : Prop :=
  ∀ (m : (ℓ : Loc Cert.Kernel30Ideal.nD Cert.Kernel30Ideal.τ Cert.Kernel30Ideal.sig) → Buf (Elt Ideal) ℓ) (g : Dev Cert.Kernel30Ideal.nD → PrngReg), Pre_Kernel30Ideal m →
    θ_run (Cert.Kernel30Ideal.defs (F := Ideal)) (onTc (τ := Cert.Kernel30Ideal.τ) (Cert.Kernel30Ideal.main (F := Ideal))) ⟨m, fun _ => 0, g⟩ (fun r => (∀ c : Dev Cert.Kernel30Ideal.nD,
      r.2.mem ((c.tc : Thread Cert.Kernel30Ideal.nD Cert.Kernel30Ideal.τ).loc Cert.Kernel30Ideal.main_arg0) = m ((c.tc : Thread Cert.Kernel30Ideal.nD Cert.Kernel30Ideal.τ).loc Cert.Kernel30Ideal.main_arg0)
      ∧ r.2.mem ((c.tc : Thread Cert.Kernel30Ideal.nD Cert.Kernel30Ideal.τ).loc Cert.Kernel30Ideal.main_arg1) = m ((c.tc : Thread Cert.Kernel30Ideal.nD Cert.Kernel30Ideal.τ).loc Cert.Kernel30Ideal.main_arg1)
      ∧ r.2.mem ((c.tc : Thread Cert.Kernel30Ideal.nD Cert.Kernel30Ideal.τ).loc Cert.Kernel30Ideal.main_arg2) = m ((c.tc : Thread Cert.Kernel30Ideal.nD Cert.Kernel30Ideal.τ).loc Cert.Kernel30Ideal.main_arg2)
      ∧ r.2.mem ((c.tc : Thread Cert.Kernel30Ideal.nD Cert.Kernel30Ideal.τ).loc Cert.Kernel30Ideal.main_arg3) = m ((c.tc : Thread Cert.Kernel30Ideal.nD Cert.Kernel30Ideal.τ).loc Cert.Kernel30Ideal.main_arg3)
      ∧ r.2.mem ((c.tc : Thread Cert.Kernel30Ideal.nD Cert.Kernel30Ideal.τ).loc Cert.Kernel30Ideal.main_arg4) = m ((c.tc : Thread Cert.Kernel30Ideal.nD Cert.Kernel30Ideal.τ).loc Cert.Kernel30Ideal.main_arg4)
      ∧ r.2.mem ((c.tc : Thread Cert.Kernel30Ideal.nD Cert.Kernel30Ideal.τ).loc Cert.Kernel30Ideal.main_arg5) = m ((c.tc : Thread Cert.Kernel30Ideal.nD Cert.Kernel30Ideal.τ).loc Cert.Kernel30Ideal.main_arg5)
      ∧ r.2.mem ((c.tc : Thread Cert.Kernel30Ideal.nD Cert.Kernel30Ideal.τ).loc Cert.Kernel30Ideal.main_arg6) = m ((c.tc : Thread Cert.Kernel30Ideal.nD Cert.Kernel30Ideal.τ).loc Cert.Kernel30Ideal.main_arg6)
      ∧ r.2.mem ((c.tc : Thread Cert.Kernel30Ideal.nD Cert.Kernel30Ideal.τ).loc Cert.Kernel30Ideal.main_arg7) = m ((c.tc : Thread Cert.Kernel30Ideal.nD Cert.Kernel30Ideal.τ).loc Cert.Kernel30Ideal.main_arg7)
      ∧ r.2.mem ((c.tc : Thread Cert.Kernel30Ideal.nD Cert.Kernel30Ideal.τ).loc Cert.Kernel30Ideal.main_arg8) = m ((c.tc : Thread Cert.Kernel30Ideal.nD Cert.Kernel30Ideal.τ).loc Cert.Kernel30Ideal.main_arg8)
      ∧ r.2.mem ((c.tc : Thread Cert.Kernel30Ideal.nD Cert.Kernel30Ideal.τ).loc Cert.Kernel30Ideal.main_arg9) = m ((c.tc : Thread Cert.Kernel30Ideal.nD Cert.Kernel30Ideal.τ).loc Cert.Kernel30Ideal.main_arg9)
      ∧ r.2.mem ((c.tc : Thread Cert.Kernel30Ideal.nD Cert.Kernel30Ideal.τ).loc Cert.Kernel30Ideal.main_arg10) = m ((c.tc : Thread Cert.Kernel30Ideal.nD Cert.Kernel30Ideal.τ).loc Cert.Kernel30Ideal.main_arg10))
      ∧ r.2.sem = fun _ => 0)

def quiescent_Reference30Ideal [hReference30Ideal : Cert.Reference30Ideal.Facts] : Prop :=
  ∀ (m : (ℓ : Loc Cert.Reference30Ideal.nD Cert.Reference30Ideal.τ Cert.Reference30Ideal.sig) → Buf (Elt Ideal) ℓ) (g : Dev Cert.Reference30Ideal.nD → PrngReg), Pre_Reference30Ideal m →
    θ_run (Cert.Reference30Ideal.defs (F := Ideal)) (onTc (τ := Cert.Reference30Ideal.τ) (Cert.Reference30Ideal.main (F := Ideal))) ⟨m, fun _ => 0, g⟩ (fun r => (∀ c : Dev Cert.Reference30Ideal.nD,
      r.2.mem ((c.tc : Thread Cert.Reference30Ideal.nD Cert.Reference30Ideal.τ).loc Cert.Reference30Ideal.main_arg0) = m ((c.tc : Thread Cert.Reference30Ideal.nD Cert.Reference30Ideal.τ).loc Cert.Reference30Ideal.main_arg0)
      ∧ r.2.mem ((c.tc : Thread Cert.Reference30Ideal.nD Cert.Reference30Ideal.τ).loc Cert.Reference30Ideal.main_arg1) = m ((c.tc : Thread Cert.Reference30Ideal.nD Cert.Reference30Ideal.τ).loc Cert.Reference30Ideal.main_arg1)
      ∧ r.2.mem ((c.tc : Thread Cert.Reference30Ideal.nD Cert.Reference30Ideal.τ).loc Cert.Reference30Ideal.main_arg2) = m ((c.tc : Thread Cert.Reference30Ideal.nD Cert.Reference30Ideal.τ).loc Cert.Reference30Ideal.main_arg2)
      ∧ r.2.mem ((c.tc : Thread Cert.Reference30Ideal.nD Cert.Reference30Ideal.τ).loc Cert.Reference30Ideal.main_arg3) = m ((c.tc : Thread Cert.Reference30Ideal.nD Cert.Reference30Ideal.τ).loc Cert.Reference30Ideal.main_arg3)
      ∧ r.2.mem ((c.tc : Thread Cert.Reference30Ideal.nD Cert.Reference30Ideal.τ).loc Cert.Reference30Ideal.main_arg4) = m ((c.tc : Thread Cert.Reference30Ideal.nD Cert.Reference30Ideal.τ).loc Cert.Reference30Ideal.main_arg4)
      ∧ r.2.mem ((c.tc : Thread Cert.Reference30Ideal.nD Cert.Reference30Ideal.τ).loc Cert.Reference30Ideal.main_arg5) = m ((c.tc : Thread Cert.Reference30Ideal.nD Cert.Reference30Ideal.τ).loc Cert.Reference30Ideal.main_arg5)
      ∧ r.2.mem ((c.tc : Thread Cert.Reference30Ideal.nD Cert.Reference30Ideal.τ).loc Cert.Reference30Ideal.main_arg6) = m ((c.tc : Thread Cert.Reference30Ideal.nD Cert.Reference30Ideal.τ).loc Cert.Reference30Ideal.main_arg6)
      ∧ r.2.mem ((c.tc : Thread Cert.Reference30Ideal.nD Cert.Reference30Ideal.τ).loc Cert.Reference30Ideal.main_arg7) = m ((c.tc : Thread Cert.Reference30Ideal.nD Cert.Reference30Ideal.τ).loc Cert.Reference30Ideal.main_arg7)
      ∧ r.2.mem ((c.tc : Thread Cert.Reference30Ideal.nD Cert.Reference30Ideal.τ).loc Cert.Reference30Ideal.main_arg8) = m ((c.tc : Thread Cert.Reference30Ideal.nD Cert.Reference30Ideal.τ).loc Cert.Reference30Ideal.main_arg8)
      ∧ r.2.mem ((c.tc : Thread Cert.Reference30Ideal.nD Cert.Reference30Ideal.τ).loc Cert.Reference30Ideal.main_arg9) = m ((c.tc : Thread Cert.Reference30Ideal.nD Cert.Reference30Ideal.τ).loc Cert.Reference30Ideal.main_arg9)
      ∧ r.2.mem ((c.tc : Thread Cert.Reference30Ideal.nD Cert.Reference30Ideal.τ).loc Cert.Reference30Ideal.main_arg10) = m ((c.tc : Thread Cert.Reference30Ideal.nD Cert.Reference30Ideal.τ).loc Cert.Reference30Ideal.main_arg10))
      ∧ r.2.sem = fun _ => 0)

def quiescent_Kernel31 [hKernel31 : Cert.Kernel31.Facts] : Prop :=
  ∀ (m : (ℓ : Loc Cert.Kernel31.nD Cert.Kernel31.τ Cert.Kernel31.sig) → Buf (Elt Bits) ℓ) (g : Dev Cert.Kernel31.nD → PrngReg), Pre_Kernel31 m →
    θ_run (Cert.Kernel31.defs (F := Bits)) (onTc (τ := Cert.Kernel31.τ) (Cert.Kernel31.main (F := Bits))) ⟨m, fun _ => 0, g⟩ (fun r => (∀ c : Dev Cert.Kernel31.nD,
      r.2.mem ((c.tc : Thread Cert.Kernel31.nD Cert.Kernel31.τ).loc Cert.Kernel31.main_arg0) = m ((c.tc : Thread Cert.Kernel31.nD Cert.Kernel31.τ).loc Cert.Kernel31.main_arg0)
      ∧ r.2.mem ((c.tc : Thread Cert.Kernel31.nD Cert.Kernel31.τ).loc Cert.Kernel31.main_arg1) = m ((c.tc : Thread Cert.Kernel31.nD Cert.Kernel31.τ).loc Cert.Kernel31.main_arg1)
      ∧ r.2.mem ((c.tc : Thread Cert.Kernel31.nD Cert.Kernel31.τ).loc Cert.Kernel31.main_arg2) = m ((c.tc : Thread Cert.Kernel31.nD Cert.Kernel31.τ).loc Cert.Kernel31.main_arg2)
      ∧ r.2.mem ((c.tc : Thread Cert.Kernel31.nD Cert.Kernel31.τ).loc Cert.Kernel31.main_arg3) = m ((c.tc : Thread Cert.Kernel31.nD Cert.Kernel31.τ).loc Cert.Kernel31.main_arg3)
      ∧ r.2.mem ((c.tc : Thread Cert.Kernel31.nD Cert.Kernel31.τ).loc Cert.Kernel31.main_arg4) = m ((c.tc : Thread Cert.Kernel31.nD Cert.Kernel31.τ).loc Cert.Kernel31.main_arg4)
      ∧ r.2.mem ((c.tc : Thread Cert.Kernel31.nD Cert.Kernel31.τ).loc Cert.Kernel31.main_arg5) = m ((c.tc : Thread Cert.Kernel31.nD Cert.Kernel31.τ).loc Cert.Kernel31.main_arg5)
      ∧ r.2.mem ((c.tc : Thread Cert.Kernel31.nD Cert.Kernel31.τ).loc Cert.Kernel31.main_arg6) = m ((c.tc : Thread Cert.Kernel31.nD Cert.Kernel31.τ).loc Cert.Kernel31.main_arg6))
      ∧ r.2.sem = fun _ => 0)

def quiescent_Kernel31Ideal [hKernel31Ideal : Cert.Kernel31Ideal.Facts] : Prop :=
  ∀ (m : (ℓ : Loc Cert.Kernel31Ideal.nD Cert.Kernel31Ideal.τ Cert.Kernel31Ideal.sig) → Buf (Elt Ideal) ℓ) (g : Dev Cert.Kernel31Ideal.nD → PrngReg), Pre_Kernel31Ideal m →
    θ_run (Cert.Kernel31Ideal.defs (F := Ideal)) (onTc (τ := Cert.Kernel31Ideal.τ) (Cert.Kernel31Ideal.main (F := Ideal))) ⟨m, fun _ => 0, g⟩ (fun r => (∀ c : Dev Cert.Kernel31Ideal.nD,
      r.2.mem ((c.tc : Thread Cert.Kernel31Ideal.nD Cert.Kernel31Ideal.τ).loc Cert.Kernel31Ideal.main_arg0) = m ((c.tc : Thread Cert.Kernel31Ideal.nD Cert.Kernel31Ideal.τ).loc Cert.Kernel31Ideal.main_arg0)
      ∧ r.2.mem ((c.tc : Thread Cert.Kernel31Ideal.nD Cert.Kernel31Ideal.τ).loc Cert.Kernel31Ideal.main_arg1) = m ((c.tc : Thread Cert.Kernel31Ideal.nD Cert.Kernel31Ideal.τ).loc Cert.Kernel31Ideal.main_arg1)
      ∧ r.2.mem ((c.tc : Thread Cert.Kernel31Ideal.nD Cert.Kernel31Ideal.τ).loc Cert.Kernel31Ideal.main_arg2) = m ((c.tc : Thread Cert.Kernel31Ideal.nD Cert.Kernel31Ideal.τ).loc Cert.Kernel31Ideal.main_arg2)
      ∧ r.2.mem ((c.tc : Thread Cert.Kernel31Ideal.nD Cert.Kernel31Ideal.τ).loc Cert.Kernel31Ideal.main_arg3) = m ((c.tc : Thread Cert.Kernel31Ideal.nD Cert.Kernel31Ideal.τ).loc Cert.Kernel31Ideal.main_arg3)
      ∧ r.2.mem ((c.tc : Thread Cert.Kernel31Ideal.nD Cert.Kernel31Ideal.τ).loc Cert.Kernel31Ideal.main_arg4) = m ((c.tc : Thread Cert.Kernel31Ideal.nD Cert.Kernel31Ideal.τ).loc Cert.Kernel31Ideal.main_arg4)
      ∧ r.2.mem ((c.tc : Thread Cert.Kernel31Ideal.nD Cert.Kernel31Ideal.τ).loc Cert.Kernel31Ideal.main_arg5) = m ((c.tc : Thread Cert.Kernel31Ideal.nD Cert.Kernel31Ideal.τ).loc Cert.Kernel31Ideal.main_arg5)
      ∧ r.2.mem ((c.tc : Thread Cert.Kernel31Ideal.nD Cert.Kernel31Ideal.τ).loc Cert.Kernel31Ideal.main_arg6) = m ((c.tc : Thread Cert.Kernel31Ideal.nD Cert.Kernel31Ideal.τ).loc Cert.Kernel31Ideal.main_arg6))
      ∧ r.2.sem = fun _ => 0)

def quiescent_Reference31Ideal [hReference31Ideal : Cert.Reference31Ideal.Facts] : Prop :=
  ∀ (m : (ℓ : Loc Cert.Reference31Ideal.nD Cert.Reference31Ideal.τ Cert.Reference31Ideal.sig) → Buf (Elt Ideal) ℓ) (g : Dev Cert.Reference31Ideal.nD → PrngReg), Pre_Reference31Ideal m →
    θ_run (Cert.Reference31Ideal.defs (F := Ideal)) (onTc (τ := Cert.Reference31Ideal.τ) (Cert.Reference31Ideal.main (F := Ideal))) ⟨m, fun _ => 0, g⟩ (fun r => (∀ c : Dev Cert.Reference31Ideal.nD,
      r.2.mem ((c.tc : Thread Cert.Reference31Ideal.nD Cert.Reference31Ideal.τ).loc Cert.Reference31Ideal.main_arg0) = m ((c.tc : Thread Cert.Reference31Ideal.nD Cert.Reference31Ideal.τ).loc Cert.Reference31Ideal.main_arg0)
      ∧ r.2.mem ((c.tc : Thread Cert.Reference31Ideal.nD Cert.Reference31Ideal.τ).loc Cert.Reference31Ideal.main_arg1) = m ((c.tc : Thread Cert.Reference31Ideal.nD Cert.Reference31Ideal.τ).loc Cert.Reference31Ideal.main_arg1)
      ∧ r.2.mem ((c.tc : Thread Cert.Reference31Ideal.nD Cert.Reference31Ideal.τ).loc Cert.Reference31Ideal.main_arg2) = m ((c.tc : Thread Cert.Reference31Ideal.nD Cert.Reference31Ideal.τ).loc Cert.Reference31Ideal.main_arg2)
      ∧ r.2.mem ((c.tc : Thread Cert.Reference31Ideal.nD Cert.Reference31Ideal.τ).loc Cert.Reference31Ideal.main_arg3) = m ((c.tc : Thread Cert.Reference31Ideal.nD Cert.Reference31Ideal.τ).loc Cert.Reference31Ideal.main_arg3)
      ∧ r.2.mem ((c.tc : Thread Cert.Reference31Ideal.nD Cert.Reference31Ideal.τ).loc Cert.Reference31Ideal.main_arg4) = m ((c.tc : Thread Cert.Reference31Ideal.nD Cert.Reference31Ideal.τ).loc Cert.Reference31Ideal.main_arg4)
      ∧ r.2.mem ((c.tc : Thread Cert.Reference31Ideal.nD Cert.Reference31Ideal.τ).loc Cert.Reference31Ideal.main_arg5) = m ((c.tc : Thread Cert.Reference31Ideal.nD Cert.Reference31Ideal.τ).loc Cert.Reference31Ideal.main_arg5)
      ∧ r.2.mem ((c.tc : Thread Cert.Reference31Ideal.nD Cert.Reference31Ideal.τ).loc Cert.Reference31Ideal.main_arg6) = m ((c.tc : Thread Cert.Reference31Ideal.nD Cert.Reference31Ideal.τ).loc Cert.Reference31Ideal.main_arg6))
      ∧ r.2.sem = fun _ => 0)

def quiescent_Kernel32 [hKernel32 : Cert.Kernel32.Facts] : Prop :=
  ∀ (m : (ℓ : Loc Cert.Kernel32.nD Cert.Kernel32.τ Cert.Kernel32.sig) → Buf (Elt Bits) ℓ) (g : Dev Cert.Kernel32.nD → PrngReg), Pre_Kernel32 m →
    θ_run (Cert.Kernel32.defs (F := Bits)) (onTc (τ := Cert.Kernel32.τ) (Cert.Kernel32.main (F := Bits))) ⟨m, fun _ => 0, g⟩ (fun r => (∀ c : Dev Cert.Kernel32.nD,
      r.2.mem ((c.tc : Thread Cert.Kernel32.nD Cert.Kernel32.τ).loc Cert.Kernel32.main_arg0) = m ((c.tc : Thread Cert.Kernel32.nD Cert.Kernel32.τ).loc Cert.Kernel32.main_arg0)
      ∧ r.2.mem ((c.tc : Thread Cert.Kernel32.nD Cert.Kernel32.τ).loc Cert.Kernel32.main_arg1) = m ((c.tc : Thread Cert.Kernel32.nD Cert.Kernel32.τ).loc Cert.Kernel32.main_arg1)
      ∧ r.2.mem ((c.tc : Thread Cert.Kernel32.nD Cert.Kernel32.τ).loc Cert.Kernel32.main_arg2) = m ((c.tc : Thread Cert.Kernel32.nD Cert.Kernel32.τ).loc Cert.Kernel32.main_arg2)
      ∧ r.2.mem ((c.tc : Thread Cert.Kernel32.nD Cert.Kernel32.τ).loc Cert.Kernel32.main_arg3) = m ((c.tc : Thread Cert.Kernel32.nD Cert.Kernel32.τ).loc Cert.Kernel32.main_arg3))
      ∧ r.2.sem = fun _ => 0)

def quiescent_Kernel32Ideal [hKernel32Ideal : Cert.Kernel32Ideal.Facts] : Prop :=
  ∀ (m : (ℓ : Loc Cert.Kernel32Ideal.nD Cert.Kernel32Ideal.τ Cert.Kernel32Ideal.sig) → Buf (Elt Ideal) ℓ) (g : Dev Cert.Kernel32Ideal.nD → PrngReg), Pre_Kernel32Ideal m →
    θ_run (Cert.Kernel32Ideal.defs (F := Ideal)) (onTc (τ := Cert.Kernel32Ideal.τ) (Cert.Kernel32Ideal.main (F := Ideal))) ⟨m, fun _ => 0, g⟩ (fun r => (∀ c : Dev Cert.Kernel32Ideal.nD,
      r.2.mem ((c.tc : Thread Cert.Kernel32Ideal.nD Cert.Kernel32Ideal.τ).loc Cert.Kernel32Ideal.main_arg0) = m ((c.tc : Thread Cert.Kernel32Ideal.nD Cert.Kernel32Ideal.τ).loc Cert.Kernel32Ideal.main_arg0)
      ∧ r.2.mem ((c.tc : Thread Cert.Kernel32Ideal.nD Cert.Kernel32Ideal.τ).loc Cert.Kernel32Ideal.main_arg1) = m ((c.tc : Thread Cert.Kernel32Ideal.nD Cert.Kernel32Ideal.τ).loc Cert.Kernel32Ideal.main_arg1)
      ∧ r.2.mem ((c.tc : Thread Cert.Kernel32Ideal.nD Cert.Kernel32Ideal.τ).loc Cert.Kernel32Ideal.main_arg2) = m ((c.tc : Thread Cert.Kernel32Ideal.nD Cert.Kernel32Ideal.τ).loc Cert.Kernel32Ideal.main_arg2)
      ∧ r.2.mem ((c.tc : Thread Cert.Kernel32Ideal.nD Cert.Kernel32Ideal.τ).loc Cert.Kernel32Ideal.main_arg3) = m ((c.tc : Thread Cert.Kernel32Ideal.nD Cert.Kernel32Ideal.τ).loc Cert.Kernel32Ideal.main_arg3))
      ∧ r.2.sem = fun _ => 0)

def quiescent_Kernel32Ideal_pre_embed_finite [hKernel32Ideal : Cert.Kernel32Ideal.Facts] [hPre_embed_finite : Cert.Pre_embed_finite.Facts] : Prop :=
  ∀ (m : (ℓ : Loc Cert.Kernel32Ideal.nD Cert.Kernel32Ideal.τ Cert.Kernel32Ideal.sig) → Buf (Elt Ideal) ℓ) (g : Dev Cert.Kernel32Ideal.nD → PrngReg), Pre_Kernel32Ideal_embed_finite m →
    θ_run (Cert.Kernel32Ideal.defs (F := Ideal)) (onTc (τ := Cert.Kernel32Ideal.τ) (Cert.Kernel32Ideal.main (F := Ideal))) ⟨m, fun _ => 0, g⟩ (fun r => (∀ c : Dev Cert.Kernel32Ideal.nD,
      r.2.mem ((c.tc : Thread Cert.Kernel32Ideal.nD Cert.Kernel32Ideal.τ).loc Cert.Kernel32Ideal.main_arg0) = m ((c.tc : Thread Cert.Kernel32Ideal.nD Cert.Kernel32Ideal.τ).loc Cert.Kernel32Ideal.main_arg0)
      ∧ r.2.mem ((c.tc : Thread Cert.Kernel32Ideal.nD Cert.Kernel32Ideal.τ).loc Cert.Kernel32Ideal.main_arg1) = m ((c.tc : Thread Cert.Kernel32Ideal.nD Cert.Kernel32Ideal.τ).loc Cert.Kernel32Ideal.main_arg1)
      ∧ r.2.mem ((c.tc : Thread Cert.Kernel32Ideal.nD Cert.Kernel32Ideal.τ).loc Cert.Kernel32Ideal.main_arg2) = m ((c.tc : Thread Cert.Kernel32Ideal.nD Cert.Kernel32Ideal.τ).loc Cert.Kernel32Ideal.main_arg2)
      ∧ r.2.mem ((c.tc : Thread Cert.Kernel32Ideal.nD Cert.Kernel32Ideal.τ).loc Cert.Kernel32Ideal.main_arg3) = m ((c.tc : Thread Cert.Kernel32Ideal.nD Cert.Kernel32Ideal.τ).loc Cert.Kernel32Ideal.main_arg3))
      ∧ r.2.sem = fun _ => 0)

def quiescent_Reference32Ideal [hReference32Ideal : Cert.Reference32Ideal.Facts] : Prop :=
  ∀ (m : (ℓ : Loc Cert.Reference32Ideal.nD Cert.Reference32Ideal.τ Cert.Reference32Ideal.sig) → Buf (Elt Ideal) ℓ) (g : Dev Cert.Reference32Ideal.nD → PrngReg), Pre_Reference32Ideal m →
    θ_run (Cert.Reference32Ideal.defs (F := Ideal)) (onTc (τ := Cert.Reference32Ideal.τ) (Cert.Reference32Ideal.main (F := Ideal))) ⟨m, fun _ => 0, g⟩ (fun r => (∀ c : Dev Cert.Reference32Ideal.nD,
      r.2.mem ((c.tc : Thread Cert.Reference32Ideal.nD Cert.Reference32Ideal.τ).loc Cert.Reference32Ideal.main_arg0) = m ((c.tc : Thread Cert.Reference32Ideal.nD Cert.Reference32Ideal.τ).loc Cert.Reference32Ideal.main_arg0)
      ∧ r.2.mem ((c.tc : Thread Cert.Reference32Ideal.nD Cert.Reference32Ideal.τ).loc Cert.Reference32Ideal.main_arg1) = m ((c.tc : Thread Cert.Reference32Ideal.nD Cert.Reference32Ideal.τ).loc Cert.Reference32Ideal.main_arg1)
      ∧ r.2.mem ((c.tc : Thread Cert.Reference32Ideal.nD Cert.Reference32Ideal.τ).loc Cert.Reference32Ideal.main_arg2) = m ((c.tc : Thread Cert.Reference32Ideal.nD Cert.Reference32Ideal.τ).loc Cert.Reference32Ideal.main_arg2)
      ∧ r.2.mem ((c.tc : Thread Cert.Reference32Ideal.nD Cert.Reference32Ideal.τ).loc Cert.Reference32Ideal.main_arg3) = m ((c.tc : Thread Cert.Reference32Ideal.nD Cert.Reference32Ideal.τ).loc Cert.Reference32Ideal.main_arg3))
      ∧ r.2.sem = fun _ => 0)

def quiescent_Reference32Ideal_pre_embed_finite [hReference32Ideal : Cert.Reference32Ideal.Facts] [hPre_embed_finite : Cert.Pre_embed_finite.Facts] : Prop :=
  ∀ (m : (ℓ : Loc Cert.Reference32Ideal.nD Cert.Reference32Ideal.τ Cert.Reference32Ideal.sig) → Buf (Elt Ideal) ℓ) (g : Dev Cert.Reference32Ideal.nD → PrngReg), Pre_Reference32Ideal_embed_finite m →
    θ_run (Cert.Reference32Ideal.defs (F := Ideal)) (onTc (τ := Cert.Reference32Ideal.τ) (Cert.Reference32Ideal.main (F := Ideal))) ⟨m, fun _ => 0, g⟩ (fun r => (∀ c : Dev Cert.Reference32Ideal.nD,
      r.2.mem ((c.tc : Thread Cert.Reference32Ideal.nD Cert.Reference32Ideal.τ).loc Cert.Reference32Ideal.main_arg0) = m ((c.tc : Thread Cert.Reference32Ideal.nD Cert.Reference32Ideal.τ).loc Cert.Reference32Ideal.main_arg0)
      ∧ r.2.mem ((c.tc : Thread Cert.Reference32Ideal.nD Cert.Reference32Ideal.τ).loc Cert.Reference32Ideal.main_arg1) = m ((c.tc : Thread Cert.Reference32Ideal.nD Cert.Reference32Ideal.τ).loc Cert.Reference32Ideal.main_arg1)
      ∧ r.2.mem ((c.tc : Thread Cert.Reference32Ideal.nD Cert.Reference32Ideal.τ).loc Cert.Reference32Ideal.main_arg2) = m ((c.tc : Thread Cert.Reference32Ideal.nD Cert.Reference32Ideal.τ).loc Cert.Reference32Ideal.main_arg2)
      ∧ r.2.mem ((c.tc : Thread Cert.Reference32Ideal.nD Cert.Reference32Ideal.τ).loc Cert.Reference32Ideal.main_arg3) = m ((c.tc : Thread Cert.Reference32Ideal.nD Cert.Reference32Ideal.τ).loc Cert.Reference32Ideal.main_arg3))
      ∧ r.2.sem = fun _ => 0)

def preserves_Kernel_KernelIdeal : Prop :=
  True

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)) →
    ∃ (v0 : (c : Dev Cert.Kernel2Ideal.nD) → Buf (Elt Ideal) ((c.tc : Thread Cert.Kernel2Ideal.nD Cert.Kernel2Ideal.τ).loc Cert.Kernel2Ideal.main_v0)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v0) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v5) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1))

def preserves_Kernel3_Kernel3Ideal : Prop :=
  True

def algebraic_Kernel3Ideal_Reference3Ideal_on_first_rows [hKernel3Ideal : Cert.Kernel3Ideal.Facts] [hReference3Ideal : Cert.Reference3Ideal.Facts] [hOn_first_rows : Cert.On_first_rows.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)) →
    ∃ (v0 : (c : Dev Cert.Kernel3Ideal.nD) → Buf (Elt Ideal) ((c.tc : Thread Cert.Kernel3Ideal.nD Cert.Kernel3Ideal.τ).loc Cert.Kernel3Ideal.main_v0)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          (∀ i : (⟨2, ![4224, 2048]⟩ : Shape).Idx, (Cert.On_first_rows.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1))) i = 1#1 → r.2.mem ((c.tc : Thread Cert.Kernel3Ideal.nD Cert.Kernel3Ideal.τ).loc Cert.Kernel3Ideal.main_v0) i = v0 c i)
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          (∀ i : (⟨2, ![4224, 2048]⟩ : Shape).Idx, (Cert.On_first_rows.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1))) i = 1#1 → r.2.mem ((c.tc : Thread Cert.Reference3Ideal.nD Cert.Reference3Ideal.τ).loc Cert.Reference3Ideal.main_v4) i = v0 c i)
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)) →
    ∃ (v0 : (c : Dev Cert.Kernel4Ideal.nD) → Buf (Elt Ideal) ((c.tc : Thread Cert.Kernel4Ideal.nD Cert.Kernel4Ideal.τ).loc Cert.Kernel4Ideal.main_v0)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v0) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v7) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)) →
    ∃ (v0 : (c : Dev Cert.Kernel5Ideal.nD) → Buf (Elt Ideal) ((c.tc : Thread Cert.Kernel5Ideal.nD Cert.Kernel5Ideal.τ).loc Cert.Kernel5Ideal.main_v0)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v0) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v2) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)) →
    ∃ (v0 : (c : Dev Cert.Kernel6Ideal.nD) → Buf (Elt Ideal) ((c.tc : Thread Cert.Kernel6Ideal.nD Cert.Kernel6Ideal.τ).loc Cert.Kernel6Ideal.main_v0)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v0) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v5) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)) →
    ∃ (v0 : (c : Dev Cert.Kernel7Ideal.nD) → Buf (Elt Ideal) ((c.tc : Thread Cert.Kernel7Ideal.nD Cert.Kernel7Ideal.τ).loc Cert.Kernel7Ideal.main_v0)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v0) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v4) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)) →
    ∃ (v0 : (c : Dev Cert.Kernel8Ideal.nD) → Buf (Elt Ideal) ((c.tc : Thread Cert.Kernel8Ideal.nD Cert.Kernel8Ideal.τ).loc Cert.Kernel8Ideal.main_v0)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v0) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v4) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)) →
    ∃ (v0 : (c : Dev Cert.Kernel9Ideal.nD) → Buf (Elt Ideal) ((c.tc : Thread Cert.Kernel9Ideal.nD Cert.Kernel9Ideal.τ).loc Cert.Kernel9Ideal.main_v0)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v0) = v0 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v3) = v0 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)
      ∧ m' ((c.tc : Thread Cert.Reference10Ideal.nD Cert.Reference10Ideal.τ).loc Cert.Reference10Ideal.main_arg2) = m ((c.tc : Thread Cert.Kernel10Ideal.nD Cert.Kernel10Ideal.τ).loc Cert.Kernel10Ideal.main_arg2)) →
    ∃ (v0 : (c : Dev Cert.Kernel10Ideal.nD) → Buf (Elt Ideal) ((c.tc : Thread Cert.Kernel10Ideal.nD Cert.Kernel10Ideal.τ).loc Cert.Kernel10Ideal.main_v0)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v0) = v0 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
          ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v3) = v0 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1)
          ∧ r.2.mem ((c.tc : Thread Cert.Reference10Ideal.nD Cert.Reference10Ideal.τ).loc Cert.Reference10Ideal.main_arg2) = m' ((c.tc : Thread Cert.Reference10Ideal.nD Cert.Reference10Ideal.τ).loc Cert.Reference10Ideal.main_arg2))

def preserves_Kernel11_Kernel11Ideal : Prop :=
  True

def algebraic_Kernel11Ideal_Reference11Ideal_on_ret_rows [hKernel11Ideal : Cert.Kernel11Ideal.Facts] [hReference11Ideal : Cert.Reference11Ideal.Facts] [hOn_ret_rows : Cert.On_ret_rows.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)) →
    ∃ (v0 : (c : Dev Cert.Kernel11Ideal.nD) → Buf (Elt Ideal) ((c.tc : Thread Cert.Kernel11Ideal.nD Cert.Kernel11Ideal.τ).loc Cert.Kernel11Ideal.main_v0)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          (∀ i : (⟨2, ![3072, 2048]⟩ : Shape).Idx, (Cert.On_ret_rows.fn (F := Ideal) (m ((c.tc : Thread Cert.Kernel11Ideal.nD Cert.Kernel11Ideal.τ).loc Cert.Kernel11Ideal.main_arg0)) (m ((c.tc : Thread Cert.Kernel11Ideal.nD Cert.Kernel11Ideal.τ).loc Cert.Kernel11Ideal.main_arg1))) i = 1#1 → r.2.mem ((c.tc : Thread Cert.Kernel11Ideal.nD Cert.Kernel11Ideal.τ).loc Cert.Kernel11Ideal.main_v0) i = v0 c i)
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          (∀ i : (⟨2, ![3072, 2048]⟩ : Shape).Idx, (Cert.On_ret_rows.fn (F := Ideal) (m ((c.tc : Thread Cert.Kernel11Ideal.nD Cert.Kernel11Ideal.τ).loc Cert.Kernel11Ideal.main_arg0)) (m ((c.tc : Thread Cert.Kernel11Ideal.nD Cert.Kernel11Ideal.τ).loc Cert.Kernel11Ideal.main_arg1))) i = 1#1 → r.2.mem ((c.tc : Thread Cert.Reference11Ideal.nD Cert.Reference11Ideal.τ).loc Cert.Reference11Ideal.main_v6) i = v0 c i)
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1))

def preserves_Kernel12_Kernel12Ideal : Prop :=
  True

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)
      ∧ m' ((c.tc : Thread Cert.Reference12Ideal.nD Cert.Reference12Ideal.τ).loc Cert.Reference12Ideal.main_arg2) = m ((c.tc : Thread Cert.Kernel12Ideal.nD Cert.Kernel12Ideal.τ).loc Cert.Kernel12Ideal.main_arg2)) →
    ∃ (v0 : (c : Dev Cert.Kernel12Ideal.nD) → Buf (Elt Ideal) ((c.tc : Thread Cert.Kernel12Ideal.nD Cert.Kernel12Ideal.τ).loc Cert.Kernel12Ideal.main_v0)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v0) = v0 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
          ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v6) = v0 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1)
          ∧ r.2.mem ((c.tc : Thread Cert.Reference12Ideal.nD Cert.Reference12Ideal.τ).loc Cert.Reference12Ideal.main_arg2) = m' ((c.tc : Thread Cert.Reference12Ideal.nD Cert.Reference12Ideal.τ).loc Cert.Reference12Ideal.main_arg2))

def preserves_Kernel13_Kernel13Ideal : Prop :=
  True

def algebraic_Kernel13Ideal_Reference13Ideal [hKernel13Ideal : Cert.Kernel13Ideal.Facts] [hReference13Ideal : Cert.Reference13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)
      ∧ m' ((c.tc : Thread Cert.Reference13Ideal.nD Cert.Reference13Ideal.τ).loc Cert.Reference13Ideal.main_arg1) = m ((c.tc : Thread Cert.Kernel13Ideal.nD Cert.Kernel13Ideal.τ).loc Cert.Kernel13Ideal.main_arg1)) →
    ∃ (v0 : (c : Dev Cert.Kernel13Ideal.nD) → Buf (Elt Ideal) ((c.tc : Thread Cert.Kernel13Ideal.nD Cert.Kernel13Ideal.τ).loc Cert.Kernel13Ideal.main_v0)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v0) = v0 c
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
          ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          r.2.mem ((c.tc : Thread Cert.Reference13Ideal.nD Cert.Reference13Ideal.τ).loc Cert.Reference13Ideal.main_v3) = v0 c
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0)
          ∧ r.2.mem ((c.tc : Thread Cert.Reference13Ideal.nD Cert.Reference13Ideal.τ).loc Cert.Reference13Ideal.main_arg1) = m' ((c.tc : Thread Cert.Reference13Ideal.nD Cert.Reference13Ideal.τ).loc Cert.Reference13Ideal.main_arg1))

def preserves_Kernel14_Kernel14Ideal : Prop :=
  True

def algebraic_Kernel14Ideal_Reference14Ideal [hKernel14Ideal : Cert.Kernel14Ideal.Facts] [hReference14Ideal : Cert.Reference14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg)
    (m' : (ℓ : Loc Cert.Reference14Ideal.nD Cert.Reference14Ideal.τ Cert.Reference14Ideal.sig) → Buf (Elt Ideal) ℓ) (g' : Dev Cert.Reference14Ideal.nD → PrngReg), Pre_Kernel14Ideal m →
    (∀ c : Dev Cert.Kernel14Ideal.nD,
      m' ((c.tc : Thread Cert.Reference14Ideal.nD Cert.Reference14Ideal.τ).loc Cert.Reference14Ideal.main_arg0) = m ((c.tc : Thread Cert.Kernel14Ideal.nD Cert.Kernel14Ideal.τ).loc Cert.Kernel14Ideal.main_arg0)
      ∧ m' ((c.tc : Thread Cert.Reference14Ideal.nD Cert.Reference14Ideal.τ).loc Cert.Reference14Ideal.main_arg1) = m ((c.tc : Thread Cert.Kernel14Ideal.nD Cert.Kernel14Ideal.τ).loc Cert.Kernel14Ideal.main_arg1)
      ∧ m' ((c.tc : Thread Cert.Reference14Ideal.nD Cert.Reference14Ideal.τ).loc Cert.Reference14Ideal.main_arg2) = m ((c.tc : Thread Cert.Kernel14Ideal.nD Cert.Kernel14Ideal.τ).loc Cert.Kernel14Ideal.main_arg2)
      ∧ m' ((c.tc : Thread Cert.Reference14Ideal.nD Cert.Reference14Ideal.τ).loc Cert.Reference14Ideal.main_arg3) = m ((c.tc : Thread Cert.Kernel14Ideal.nD Cert.Kernel14Ideal.τ).loc Cert.Kernel14Ideal.main_arg3)) →
    ∃ (v0 : (c : Dev Cert.Kernel14Ideal.nD) → Buf (Elt Ideal) ((c.tc : Thread Cert.Kernel14Ideal.nD Cert.Kernel14Ideal.τ).loc Cert.Kernel14Ideal.main_v0)),
      θ_run (Cert.Kernel14Ideal.defs (F := Ideal)) (onTc (τ := Cert.Kernel14Ideal.τ) (Cert.Kernel14Ideal.main (F := Ideal))) ⟨m, fun _ => 0, g⟩ (fun r => ∀ c : Dev Cert.Kernel14Ideal.nD,
          r.2.mem ((c.tc : Thread Cert.Kernel14Ideal.nD Cert.Kernel14Ideal.τ).loc Cert.Kernel14Ideal.main_v0) = v0 c
          ∧ r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
          ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
          ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2)
          ∧ r.2.mem ((c.tc : Thread Cert.Kernel14Ideal.nD Cert.Kernel14Ideal.τ).loc Cert.Kernel14Ideal.main_arg3) = m ((c.tc : Thread Cert.Kernel14Ideal.nD Cert.Kernel14Ideal.τ).loc Cert.Kernel14Ideal.main_arg3))
      ∧ θ_run (Cert.Reference14Ideal.defs (F := Ideal)) (onTc (τ := Cert.Reference14Ideal.τ) (Cert.Reference14Ideal.main (F := Ideal))) ⟨m', fun _ => 0, g'⟩ (fun r => ∀ c : Dev Cert.Reference14Ideal.nD,
          r.2.mem ((c.tc : Thread Cert.Reference14Ideal.nD Cert.Reference14Ideal.τ).loc Cert.Reference14Ideal.main_v4) = v0 c
          ∧ r.2.mem ((c.tc : Thread Cert.Reference14Ideal.nD Cert.Reference14Ideal.τ).loc Cert.Reference14Ideal.main_arg0) = m' ((c.tc : Thread Cert.Reference14Ideal.nD Cert.Reference14Ideal.τ).loc Cert.Reference14Ideal.main_arg0)
          ∧ r.2.mem ((c.tc : Thread Cert.Reference14Ideal.nD Cert.Reference14Ideal.τ).loc Cert.Reference14Ideal.main_arg1) = m' ((c.tc : Thread Cert.Reference14Ideal.nD Cert.Reference14Ideal.τ).loc Cert.Reference14Ideal.main_arg1)
          ∧ r.2.mem ((c.tc : Thread Cert.Reference14Ideal.nD Cert.Reference14Ideal.τ).loc Cert.Reference14Ideal.main_arg2) = m' ((c.tc : Thread Cert.Reference14Ideal.nD Cert.Reference14Ideal.τ).loc Cert.Reference14Ideal.main_arg2)
          ∧ r.2.mem ((c.tc : Thread Cert.Reference14Ideal.nD Cert.Reference14Ideal.τ).loc Cert.Reference14Ideal.main_arg3) = m' ((c.tc : Thread Cert.Reference14Ideal.nD Cert.Reference14Ideal.τ).loc Cert.Reference14Ideal.main_arg3))

def preserves_Kernel15_Kernel15Ideal : Prop :=
  True

def algebraic_Kernel15Ideal_Reference15Ideal [hKernel15Ideal : Cert.Kernel15Ideal.Facts] [hReference15Ideal : Cert.Reference15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg)
    (m' : (ℓ : Loc Cert.Reference15Ideal.nD Cert.Reference15Ideal.τ Cert.Reference15Ideal.sig) → Buf (Elt Ideal) ℓ) (g' : Dev Cert.Reference15Ideal.nD → PrngReg), Pre_Kernel15Ideal m →
    (∀ c : Dev Cert.Kernel15Ideal.nD,
      m' ((c.tc : Thread Cert.Reference15Ideal.nD Cert.Reference15Ideal.τ).loc Cert.Reference15Ideal.main_arg0) = m ((c.tc : Thread Cert.Kernel15Ideal.nD Cert.Kernel15Ideal.τ).loc Cert.Kernel15Ideal.main_arg0)
      ∧ m' ((c.tc : Thread Cert.Reference15Ideal.nD Cert.Reference15Ideal.τ).loc Cert.Reference15Ideal.main_arg1) = m ((c.tc : Thread Cert.Kernel15Ideal.nD Cert.Kernel15Ideal.τ).loc Cert.Kernel15Ideal.main_arg1)
      ∧ m' ((c.tc : Thread Cert.Reference15Ideal.nD Cert.Reference15Ideal.τ).loc Cert.Reference15Ideal.main_arg2) = m ((c.tc : Thread Cert.Kernel15Ideal.nD Cert.Kernel15Ideal.τ).loc Cert.Kernel15Ideal.main_arg2)
      ∧ m' ((c.tc : Thread Cert.Reference15Ideal.nD Cert.Reference15Ideal.τ).loc Cert.Reference15Ideal.main_arg3) = m ((c.tc : Thread Cert.Kernel15Ideal.nD Cert.Kernel15Ideal.τ).loc Cert.Kernel15Ideal.main_arg3)) →
    ∃ (v0 : (c : Dev Cert.Kernel15Ideal.nD) → Buf (Elt Ideal) ((c.tc : Thread Cert.Kernel15Ideal.nD Cert.Kernel15Ideal.τ).loc Cert.Kernel15Ideal.main_v0_0)) (v1 : (c : Dev Cert.Kernel15Ideal.nD) → Buf (Elt Ideal) ((c.tc : Thread Cert.Kernel15Ideal.nD Cert.Kernel15Ideal.τ).loc Cert.Kernel15Ideal.main_v0_1)) (v2 : (c : Dev Cert.Kernel15Ideal.nD) → Buf (Elt Ideal) ((c.tc : Thread Cert.Kernel15Ideal.nD Cert.Kernel15Ideal.τ).loc Cert.Kernel15Ideal.main_v0_2)),
      θ_run (Cert.Kernel15Ideal.defs (F := Ideal)) (onTc (τ := Cert.Kernel15Ideal.τ) (Cert.Kernel15Ideal.main (F := Ideal))) ⟨m, fun _ => 0, g⟩ (fun r => ∀ c : Dev Cert.Kernel15Ideal.nD,
          r.2.mem ((c.tc : Thread Cert.Kernel15Ideal.nD Cert.Kernel15Ideal.τ).loc Cert.Kernel15Ideal.main_v0_0) = v0 c
          ∧ r.2.mem ((c.tc : Thread Cert.Kernel15Ideal.nD Cert.Kernel15Ideal.τ).loc Cert.Kernel15Ideal.main_v0_1) = v1 c
          ∧ r.2.mem ((c.tc : Thread Cert.Kernel15Ideal.nD Cert.Kernel15Ideal.τ).loc Cert.Kernel15Ideal.main_v0_2) = v2 c
          ∧ r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
          ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
          ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2)
          ∧ r.2.mem ((c.tc : Thread Cert.Kernel15Ideal.nD Cert.Kernel15Ideal.τ).loc Cert.Kernel15Ideal.main_arg3) = m ((c.tc : Thread Cert.Kernel15Ideal.nD Cert.Kernel15Ideal.τ).loc Cert.Kernel15Ideal.main_arg3))
      ∧ θ_run (Cert.Reference15Ideal.defs (F := Ideal)) (onTc (τ := Cert.Reference15Ideal.τ) (Cert.Reference15Ideal.main (F := Ideal))) ⟨m', fun _ => 0, g'⟩ (fun r => ∀ c : Dev Cert.Reference15Ideal.nD,
          r.2.mem ((c.tc : Thread Cert.Reference15Ideal.nD Cert.Reference15Ideal.τ).loc Cert.Reference15Ideal.main_v23) = v0 c
          ∧ r.2.mem ((c.tc : Thread Cert.Reference15Ideal.nD Cert.Reference15Ideal.τ).loc Cert.Reference15Ideal.main_v4) = v1 c
          ∧ r.2.mem ((c.tc : Thread Cert.Reference15Ideal.nD Cert.Reference15Ideal.τ).loc Cert.Reference15Ideal.main_v10) = v2 c
          ∧ r.2.mem ((c.tc : Thread Cert.Reference15Ideal.nD Cert.Reference15Ideal.τ).loc Cert.Reference15Ideal.main_arg0) = m' ((c.tc : Thread Cert.Reference15Ideal.nD Cert.Reference15Ideal.τ).loc Cert.Reference15Ideal.main_arg0)
          ∧ r.2.mem ((c.tc : Thread Cert.Reference15Ideal.nD Cert.Reference15Ideal.τ).loc Cert.Reference15Ideal.main_arg1) = m' ((c.tc : Thread Cert.Reference15Ideal.nD Cert.Reference15Ideal.τ).loc Cert.Reference15Ideal.main_arg1)
          ∧ r.2.mem ((c.tc : Thread Cert.Reference15Ideal.nD Cert.Reference15Ideal.τ).loc Cert.Reference15Ideal.main_arg2) = m' ((c.tc : Thread Cert.Reference15Ideal.nD Cert.Reference15Ideal.τ).loc Cert.Reference15Ideal.main_arg2)
          ∧ r.2.mem ((c.tc : Thread Cert.Reference15Ideal.nD Cert.Reference15Ideal.τ).loc Cert.Reference15Ideal.main_arg3) = m' ((c.tc : Thread Cert.Reference15Ideal.nD Cert.Reference15Ideal.τ).loc Cert.Reference15Ideal.main_arg3))

def preserves_Kernel16_Kernel16Ideal : Prop :=
  True

def algebraic_Kernel16Ideal_Reference16Ideal [hKernel16Ideal : Cert.Kernel16Ideal.Facts] [hReference16Ideal : Cert.Reference16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg)
    (m' : (ℓ : Loc Cert.Reference16Ideal.nD Cert.Reference16Ideal.τ Cert.Reference16Ideal.sig) → Buf (Elt Ideal) ℓ) (g' : Dev Cert.Reference16Ideal.nD → PrngReg), Pre_Kernel16Ideal m →
    (∀ c : Dev Cert.Kernel16Ideal.nD,
      m' ((c.tc : Thread Cert.Reference16Ideal.nD Cert.Reference16Ideal.τ).loc Cert.Reference16Ideal.main_arg0) = m ((c.tc : Thread Cert.Kernel16Ideal.nD Cert.Kernel16Ideal.τ).loc Cert.Kernel16Ideal.main_arg0)
      ∧ m' ((c.tc : Thread Cert.Reference16Ideal.nD Cert.Reference16Ideal.τ).loc Cert.Reference16Ideal.main_arg1) = m ((c.tc : Thread Cert.Kernel16Ideal.nD Cert.Kernel16Ideal.τ).loc Cert.Kernel16Ideal.main_arg1)
      ∧ m' ((c.tc : Thread Cert.Reference16Ideal.nD Cert.Reference16Ideal.τ).loc Cert.Reference16Ideal.main_arg2) = m ((c.tc : Thread Cert.Kernel16Ideal.nD Cert.Kernel16Ideal.τ).loc Cert.Kernel16Ideal.main_arg2)
      ∧ m' ((c.tc : Thread Cert.Reference16Ideal.nD Cert.Reference16Ideal.τ).loc Cert.Reference16Ideal.main_arg3) = m ((c.tc : Thread Cert.Kernel16Ideal.nD Cert.Kernel16Ideal.τ).loc Cert.Kernel16Ideal.main_arg3)) →
    ∃ (v0 : (c : Dev Cert.Kernel16Ideal.nD) → Buf (Elt Ideal) ((c.tc : Thread Cert.Kernel16Ideal.nD Cert.Kernel16Ideal.τ).loc Cert.Kernel16Ideal.main_v0_0)) (v1 : (c : Dev Cert.Kernel16Ideal.nD) → Buf (Elt Ideal) ((c.tc : Thread Cert.Kernel16Ideal.nD Cert.Kernel16Ideal.τ).loc Cert.Kernel16Ideal.main_v0_1)) (v2 : (c : Dev Cert.Kernel16Ideal.nD) → Buf (Elt Ideal) ((c.tc : Thread Cert.Kernel16Ideal.nD Cert.Kernel16Ideal.τ).loc Cert.Kernel16Ideal.main_v0_2)),
      θ_run (Cert.Kernel16Ideal.defs (F := Ideal)) (onTc (τ := Cert.Kernel16Ideal.τ) (Cert.Kernel16Ideal.main (F := Ideal))) ⟨m, fun _ => 0, g⟩ (fun r => ∀ c : Dev Cert.Kernel16Ideal.nD,
          r.2.mem ((c.tc : Thread Cert.Kernel16Ideal.nD Cert.Kernel16Ideal.τ).loc Cert.Kernel16Ideal.main_v0_0) = v0 c
          ∧ r.2.mem ((c.tc : Thread Cert.Kernel16Ideal.nD Cert.Kernel16Ideal.τ).loc Cert.Kernel16Ideal.main_v0_1) = v1 c
          ∧ r.2.mem ((c.tc : Thread Cert.Kernel16Ideal.nD Cert.Kernel16Ideal.τ).loc Cert.Kernel16Ideal.main_v0_2) = v2 c
          ∧ r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
          ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1)
          ∧ r.2.mem ((c.tc : Thread Cert.Kernel16Ideal.nD Cert.Kernel16Ideal.τ).loc Cert.Kernel16Ideal.main_arg2) = m ((c.tc : Thread Cert.Kernel16Ideal.nD Cert.Kernel16Ideal.τ).loc Cert.Kernel16Ideal.main_arg2)
          ∧ r.2.mem ((c.tc : Thread Cert.Kernel16Ideal.nD Cert.Kernel16Ideal.τ).loc Cert.Kernel16Ideal.main_arg3) = m ((c.tc : Thread Cert.Kernel16Ideal.nD Cert.Kernel16Ideal.τ).loc Cert.Kernel16Ideal.main_arg3))
      ∧ θ_run (Cert.Reference16Ideal.defs (F := Ideal)) (onTc (τ := Cert.Reference16Ideal.τ) (Cert.Reference16Ideal.main (F := Ideal))) ⟨m', fun _ => 0, g'⟩ (fun r => ∀ c : Dev Cert.Reference16Ideal.nD,
          r.2.mem ((c.tc : Thread Cert.Reference16Ideal.nD Cert.Reference16Ideal.τ).loc Cert.Reference16Ideal.main_v23) = v0 c
          ∧ r.2.mem ((c.tc : Thread Cert.Reference16Ideal.nD Cert.Reference16Ideal.τ).loc Cert.Reference16Ideal.main_v4) = v1 c
          ∧ r.2.mem ((c.tc : Thread Cert.Reference16Ideal.nD Cert.Reference16Ideal.τ).loc Cert.Reference16Ideal.main_v10) = v2 c
          ∧ r.2.mem ((c.tc : Thread Cert.Reference16Ideal.nD Cert.Reference16Ideal.τ).loc Cert.Reference16Ideal.main_arg0) = m' ((c.tc : Thread Cert.Reference16Ideal.nD Cert.Reference16Ideal.τ).loc Cert.Reference16Ideal.main_arg0)
          ∧ r.2.mem ((c.tc : Thread Cert.Reference16Ideal.nD Cert.Reference16Ideal.τ).loc Cert.Reference16Ideal.main_arg1) = m' ((c.tc : Thread Cert.Reference16Ideal.nD Cert.Reference16Ideal.τ).loc Cert.Reference16Ideal.main_arg1)
          ∧ r.2.mem ((c.tc : Thread Cert.Reference16Ideal.nD Cert.Reference16Ideal.τ).loc Cert.Reference16Ideal.main_arg2) = m' ((c.tc : Thread Cert.Reference16Ideal.nD Cert.Reference16Ideal.τ).loc Cert.Reference16Ideal.main_arg2)
          ∧ r.2.mem ((c.tc : Thread Cert.Reference16Ideal.nD Cert.Reference16Ideal.τ).loc Cert.Reference16Ideal.main_arg3) = m' ((c.tc : Thread Cert.Reference16Ideal.nD Cert.Reference16Ideal.τ).loc Cert.Reference16Ideal.main_arg3))

def preserves_Kernel17_Kernel17Ideal : Prop :=
  True

def algebraic_Kernel17Ideal_Reference17Ideal [hKernel17Ideal : Cert.Kernel17Ideal.Facts] [hReference17Ideal : Cert.Reference17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg)
    (m' : (ℓ : Loc Cert.Reference17Ideal.nD Cert.Reference17Ideal.τ Cert.Reference17Ideal.sig) → Buf (Elt Ideal) ℓ) (g' : Dev Cert.Reference17Ideal.nD → PrngReg), Pre_Kernel17Ideal m →
    (∀ c : Dev Cert.Kernel17Ideal.nD,
      m' ((c.tc : Thread Cert.Reference17Ideal.nD Cert.Reference17Ideal.τ).loc Cert.Reference17Ideal.main_arg0) = m ((c.tc : Thread Cert.Kernel17Ideal.nD Cert.Kernel17Ideal.τ).loc Cert.Kernel17Ideal.main_arg0)
      ∧ m' ((c.tc : Thread Cert.Reference17Ideal.nD Cert.Reference17Ideal.τ).loc Cert.Reference17Ideal.main_arg1) = m ((c.tc : Thread Cert.Kernel17Ideal.nD Cert.Kernel17Ideal.τ).loc Cert.Kernel17Ideal.main_arg1)
      ∧ m' ((c.tc : Thread Cert.Reference17Ideal.nD Cert.Reference17Ideal.τ).loc Cert.Reference17Ideal.main_arg2) = m ((c.tc : Thread Cert.Kernel17Ideal.nD Cert.Kernel17Ideal.τ).loc Cert.Kernel17Ideal.main_arg2)
      ∧ m' ((c.tc : Thread Cert.Reference17Ideal.nD Cert.Reference17Ideal.τ).loc Cert.Reference17Ideal.main_arg3) = m ((c.tc : Thread Cert.Kernel17Ideal.nD Cert.Kernel17Ideal.τ).loc Cert.Kernel17Ideal.main_arg3)) →
    ∃ (v0 : (c : Dev Cert.Kernel17Ideal.nD) → Buf (Elt Ideal) ((c.tc : Thread Cert.Kernel17Ideal.nD Cert.Kernel17Ideal.τ).loc Cert.Kernel17Ideal.main_v0_0)) (v1 : (c : Dev Cert.Kernel17Ideal.nD) → Buf (Elt Ideal) ((c.tc : Thread Cert.Kernel17Ideal.nD Cert.Kernel17Ideal.τ).loc Cert.Kernel17Ideal.main_v0_1)) (v2 : (c : Dev Cert.Kernel17Ideal.nD) → Buf (Elt Ideal) ((c.tc : Thread Cert.Kernel17Ideal.nD Cert.Kernel17Ideal.τ).loc Cert.Kernel17Ideal.main_v0_2)),
      θ_run (Cert.Kernel17Ideal.defs (F := Ideal)) (onTc (τ := Cert.Kernel17Ideal.τ) (Cert.Kernel17Ideal.main (F := Ideal))) ⟨m, fun _ => 0, g⟩ (fun r => ∀ c : Dev Cert.Kernel17Ideal.nD,
          r.2.mem ((c.tc : Thread Cert.Kernel17Ideal.nD Cert.Kernel17Ideal.τ).loc Cert.Kernel17Ideal.main_v0_0) = v0 c
          ∧ r.2.mem ((c.tc : Thread Cert.Kernel17Ideal.nD Cert.Kernel17Ideal.τ).loc Cert.Kernel17Ideal.main_v0_1) = v1 c
          ∧ r.2.mem ((c.tc : Thread Cert.Kernel17Ideal.nD Cert.Kernel17Ideal.τ).loc Cert.Kernel17Ideal.main_v0_2) = v2 c
          ∧ r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
          ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1)
          ∧ r.2.mem ((c.tc : Thread Cert.Kernel17Ideal.nD Cert.Kernel17Ideal.τ).loc Cert.Kernel17Ideal.main_arg2) = m ((c.tc : Thread Cert.Kernel17Ideal.nD Cert.Kernel17Ideal.τ).loc Cert.Kernel17Ideal.main_arg2)
          ∧ r.2.mem ((c.tc : Thread Cert.Kernel17Ideal.nD Cert.Kernel17Ideal.τ).loc Cert.Kernel17Ideal.main_arg3) = m ((c.tc : Thread Cert.Kernel17Ideal.nD Cert.Kernel17Ideal.τ).loc Cert.Kernel17Ideal.main_arg3))
      ∧ θ_run (Cert.Reference17Ideal.defs (F := Ideal)) (onTc (τ := Cert.Reference17Ideal.τ) (Cert.Reference17Ideal.main (F := Ideal))) ⟨m', fun _ => 0, g'⟩ (fun r => ∀ c : Dev Cert.Reference17Ideal.nD,
          r.2.mem ((c.tc : Thread Cert.Reference17Ideal.nD Cert.Reference17Ideal.τ).loc Cert.Reference17Ideal.main_v23) = v0 c
          ∧ r.2.mem ((c.tc : Thread Cert.Reference17Ideal.nD Cert.Reference17Ideal.τ).loc Cert.Reference17Ideal.main_v4) = v1 c
          ∧ r.2.mem ((c.tc : Thread Cert.Reference17Ideal.nD Cert.Reference17Ideal.τ).loc Cert.Reference17Ideal.main_v10) = v2 c
          ∧ r.2.mem ((c.tc : Thread Cert.Reference17Ideal.nD Cert.Reference17Ideal.τ).loc Cert.Reference17Ideal.main_arg0) = m' ((c.tc : Thread Cert.Reference17Ideal.nD Cert.Reference17Ideal.τ).loc Cert.Reference17Ideal.main_arg0)
          ∧ r.2.mem ((c.tc : Thread Cert.Reference17Ideal.nD Cert.Reference17Ideal.τ).loc Cert.Reference17Ideal.main_arg1) = m' ((c.tc : Thread Cert.Reference17Ideal.nD Cert.Reference17Ideal.τ).loc Cert.Reference17Ideal.main_arg1)
          ∧ r.2.mem ((c.tc : Thread Cert.Reference17Ideal.nD Cert.Reference17Ideal.τ).loc Cert.Reference17Ideal.main_arg2) = m' ((c.tc : Thread Cert.Reference17Ideal.nD Cert.Reference17Ideal.τ).loc Cert.Reference17Ideal.main_arg2)
          ∧ r.2.mem ((c.tc : Thread Cert.Reference17Ideal.nD Cert.Reference17Ideal.τ).loc Cert.Reference17Ideal.main_arg3) = m' ((c.tc : Thread Cert.Reference17Ideal.nD Cert.Reference17Ideal.τ).loc Cert.Reference17Ideal.main_arg3))

def preserves_Kernel18_Kernel18Ideal : Prop :=
  True

def algebraic_Kernel18Ideal_Reference18Ideal [hKernel18Ideal : Cert.Kernel18Ideal.Facts] [hReference18Ideal : Cert.Reference18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg)
    (m' : (ℓ : Loc Cert.Reference18Ideal.nD Cert.Reference18Ideal.τ Cert.Reference18Ideal.sig) → Buf (Elt Ideal) ℓ) (g' : Dev Cert.Reference18Ideal.nD → PrngReg), Pre_Kernel18Ideal m →
    (∀ c : Dev Cert.Kernel18Ideal.nD,
      m' ((c.tc : Thread Cert.Reference18Ideal.nD Cert.Reference18Ideal.τ).loc Cert.Reference18Ideal.main_arg0) = m ((c.tc : Thread Cert.Kernel18Ideal.nD Cert.Kernel18Ideal.τ).loc Cert.Kernel18Ideal.main_arg0)
      ∧ m' ((c.tc : Thread Cert.Reference18Ideal.nD Cert.Reference18Ideal.τ).loc Cert.Reference18Ideal.main_arg1) = m ((c.tc : Thread Cert.Kernel18Ideal.nD Cert.Kernel18Ideal.τ).loc Cert.Kernel18Ideal.main_arg1)
      ∧ m' ((c.tc : Thread Cert.Reference18Ideal.nD Cert.Reference18Ideal.τ).loc Cert.Reference18Ideal.main_arg2) = m ((c.tc : Thread Cert.Kernel18Ideal.nD Cert.Kernel18Ideal.τ).loc Cert.Kernel18Ideal.main_arg2)
      ∧ m' ((c.tc : Thread Cert.Reference18Ideal.nD Cert.Reference18Ideal.τ).loc Cert.Reference18Ideal.main_arg3) = m ((c.tc : Thread Cert.Kernel18Ideal.nD Cert.Kernel18Ideal.τ).loc Cert.Kernel18Ideal.main_arg3)) →
    ∃ (v0 : (c : Dev Cert.Kernel18Ideal.nD) → Buf (Elt Ideal) ((c.tc : Thread Cert.Kernel18Ideal.nD Cert.Kernel18Ideal.τ).loc Cert.Kernel18Ideal.main_v0_0)) (v1 : (c : Dev Cert.Kernel18Ideal.nD) → Buf (Elt Ideal) ((c.tc : Thread Cert.Kernel18Ideal.nD Cert.Kernel18Ideal.τ).loc Cert.Kernel18Ideal.main_v0_1)) (v2 : (c : Dev Cert.Kernel18Ideal.nD) → Buf (Elt Ideal) ((c.tc : Thread Cert.Kernel18Ideal.nD Cert.Kernel18Ideal.τ).loc Cert.Kernel18Ideal.main_v0_2)),
      θ_run (Cert.Kernel18Ideal.defs (F := Ideal)) (onTc (τ := Cert.Kernel18Ideal.τ) (Cert.Kernel18Ideal.main (F := Ideal))) ⟨m, fun _ => 0, g⟩ (fun r => ∀ c : Dev Cert.Kernel18Ideal.nD,
          r.2.mem ((c.tc : Thread Cert.Kernel18Ideal.nD Cert.Kernel18Ideal.τ).loc Cert.Kernel18Ideal.main_v0_0) = v0 c
          ∧ r.2.mem ((c.tc : Thread Cert.Kernel18Ideal.nD Cert.Kernel18Ideal.τ).loc Cert.Kernel18Ideal.main_v0_1) = v1 c
          ∧ r.2.mem ((c.tc : Thread Cert.Kernel18Ideal.nD Cert.Kernel18Ideal.τ).loc Cert.Kernel18Ideal.main_v0_2) = v2 c
          ∧ r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
          ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1)
          ∧ r.2.mem ((c.tc : Thread Cert.Kernel18Ideal.nD Cert.Kernel18Ideal.τ).loc Cert.Kernel18Ideal.main_arg2) = m ((c.tc : Thread Cert.Kernel18Ideal.nD Cert.Kernel18Ideal.τ).loc Cert.Kernel18Ideal.main_arg2)
          ∧ r.2.mem ((c.tc : Thread Cert.Kernel18Ideal.nD Cert.Kernel18Ideal.τ).loc Cert.Kernel18Ideal.main_arg3) = m ((c.tc : Thread Cert.Kernel18Ideal.nD Cert.Kernel18Ideal.τ).loc Cert.Kernel18Ideal.main_arg3))
      ∧ θ_run (Cert.Reference18Ideal.defs (F := Ideal)) (onTc (τ := Cert.Reference18Ideal.τ) (Cert.Reference18Ideal.main (F := Ideal))) ⟨m', fun _ => 0, g'⟩ (fun r => ∀ c : Dev Cert.Reference18Ideal.nD,
          r.2.mem ((c.tc : Thread Cert.Reference18Ideal.nD Cert.Reference18Ideal.τ).loc Cert.Reference18Ideal.main_v23) = v0 c
          ∧ r.2.mem ((c.tc : Thread Cert.Reference18Ideal.nD Cert.Reference18Ideal.τ).loc Cert.Reference18Ideal.main_v4) = v1 c
          ∧ r.2.mem ((c.tc : Thread Cert.Reference18Ideal.nD Cert.Reference18Ideal.τ).loc Cert.Reference18Ideal.main_v10) = v2 c
          ∧ r.2.mem ((c.tc : Thread Cert.Reference18Ideal.nD Cert.Reference18Ideal.τ).loc Cert.Reference18Ideal.main_arg0) = m' ((c.tc : Thread Cert.Reference18Ideal.nD Cert.Reference18Ideal.τ).loc Cert.Reference18Ideal.main_arg0)
          ∧ r.2.mem ((c.tc : Thread Cert.Reference18Ideal.nD Cert.Reference18Ideal.τ).loc Cert.Reference18Ideal.main_arg1) = m' ((c.tc : Thread Cert.Reference18Ideal.nD Cert.Reference18Ideal.τ).loc Cert.Reference18Ideal.main_arg1)
          ∧ r.2.mem ((c.tc : Thread Cert.Reference18Ideal.nD Cert.Reference18Ideal.τ).loc Cert.Reference18Ideal.main_arg2) = m' ((c.tc : Thread Cert.Reference18Ideal.nD Cert.Reference18Ideal.τ).loc Cert.Reference18Ideal.main_arg2)
          ∧ r.2.mem ((c.tc : Thread Cert.Reference18Ideal.nD Cert.Reference18Ideal.τ).loc Cert.Reference18Ideal.main_arg3) = m' ((c.tc : Thread Cert.Reference18Ideal.nD Cert.Reference18Ideal.τ).loc Cert.Reference18Ideal.main_arg3))

def preserves_Kernel19_Kernel19Ideal : Prop :=
  True

def algebraic_Kernel19Ideal_Reference19Ideal [hKernel19Ideal : Cert.Kernel19Ideal.Facts] [hReference19Ideal : Cert.Reference19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg)
    (m' : (ℓ : Loc Cert.Reference19Ideal.nD Cert.Reference19Ideal.τ Cert.Reference19Ideal.sig) → Buf (Elt Ideal) ℓ) (g' : Dev Cert.Reference19Ideal.nD → PrngReg), Pre_Kernel19Ideal m →
    (∀ c : Dev Cert.Kernel19Ideal.nD,
      m' ((c.tc : Thread Cert.Reference19Ideal.nD Cert.Reference19Ideal.τ).loc Cert.Reference19Ideal.main_arg0) = m ((c.tc : Thread Cert.Kernel19Ideal.nD Cert.Kernel19Ideal.τ).loc Cert.Kernel19Ideal.main_arg0)
      ∧ m' ((c.tc : Thread Cert.Reference19Ideal.nD Cert.Reference19Ideal.τ).loc Cert.Reference19Ideal.main_arg1) = m ((c.tc : Thread Cert.Kernel19Ideal.nD Cert.Kernel19Ideal.τ).loc Cert.Kernel19Ideal.main_arg1)
      ∧ m' ((c.tc : Thread Cert.Reference19Ideal.nD Cert.Reference19Ideal.τ).loc Cert.Reference19Ideal.main_arg2) = m ((c.tc : Thread Cert.Kernel19Ideal.nD Cert.Kernel19Ideal.τ).loc Cert.Kernel19Ideal.main_arg2)
      ∧ m' ((c.tc : Thread Cert.Reference19Ideal.nD Cert.Reference19Ideal.τ).loc Cert.Reference19Ideal.main_arg3) = m ((c.tc : Thread Cert.Kernel19Ideal.nD Cert.Kernel19Ideal.τ).loc Cert.Kernel19Ideal.main_arg3)) →
    ∃ (v0 : (c : Dev Cert.Kernel19Ideal.nD) → Buf (Elt Ideal) ((c.tc : Thread Cert.Kernel19Ideal.nD Cert.Kernel19Ideal.τ).loc Cert.Kernel19Ideal.main_v0_0)) (v1 : (c : Dev Cert.Kernel19Ideal.nD) → Buf (Elt Ideal) ((c.tc : Thread Cert.Kernel19Ideal.nD Cert.Kernel19Ideal.τ).loc Cert.Kernel19Ideal.main_v0_1)) (v2 : (c : Dev Cert.Kernel19Ideal.nD) → Buf (Elt Ideal) ((c.tc : Thread Cert.Kernel19Ideal.nD Cert.Kernel19Ideal.τ).loc Cert.Kernel19Ideal.main_v0_2)),
      θ_run (Cert.Kernel19Ideal.defs (F := Ideal)) (onTc (τ := Cert.Kernel19Ideal.τ) (Cert.Kernel19Ideal.main (F := Ideal))) ⟨m, fun _ => 0, g⟩ (fun r => ∀ c : Dev Cert.Kernel19Ideal.nD,
          r.2.mem ((c.tc : Thread Cert.Kernel19Ideal.nD Cert.Kernel19Ideal.τ).loc Cert.Kernel19Ideal.main_v0_0) = v0 c
          ∧ r.2.mem ((c.tc : Thread Cert.Kernel19Ideal.nD Cert.Kernel19Ideal.τ).loc Cert.Kernel19Ideal.main_v0_1) = v1 c
          ∧ r.2.mem ((c.tc : Thread Cert.Kernel19Ideal.nD Cert.Kernel19Ideal.τ).loc Cert.Kernel19Ideal.main_v0_2) = v2 c
          ∧ r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
          ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1)
          ∧ r.2.mem ((c.tc : Thread Cert.Kernel19Ideal.nD Cert.Kernel19Ideal.τ).loc Cert.Kernel19Ideal.main_arg2) = m ((c.tc : Thread Cert.Kernel19Ideal.nD Cert.Kernel19Ideal.τ).loc Cert.Kernel19Ideal.main_arg2)
          ∧ r.2.mem ((c.tc : Thread Cert.Kernel19Ideal.nD Cert.Kernel19Ideal.τ).loc Cert.Kernel19Ideal.main_arg3) = m ((c.tc : Thread Cert.Kernel19Ideal.nD Cert.Kernel19Ideal.τ).loc Cert.Kernel19Ideal.main_arg3))
      ∧ θ_run (Cert.Reference19Ideal.defs (F := Ideal)) (onTc (τ := Cert.Reference19Ideal.τ) (Cert.Reference19Ideal.main (F := Ideal))) ⟨m', fun _ => 0, g'⟩ (fun r => ∀ c : Dev Cert.Reference19Ideal.nD,
          r.2.mem ((c.tc : Thread Cert.Reference19Ideal.nD Cert.Reference19Ideal.τ).loc Cert.Reference19Ideal.main_v23) = v0 c
          ∧ r.2.mem ((c.tc : Thread Cert.Reference19Ideal.nD Cert.Reference19Ideal.τ).loc Cert.Reference19Ideal.main_v4) = v1 c
          ∧ r.2.mem ((c.tc : Thread Cert.Reference19Ideal.nD Cert.Reference19Ideal.τ).loc Cert.Reference19Ideal.main_v10) = v2 c
          ∧ r.2.mem ((c.tc : Thread Cert.Reference19Ideal.nD Cert.Reference19Ideal.τ).loc Cert.Reference19Ideal.main_arg0) = m' ((c.tc : Thread Cert.Reference19Ideal.nD Cert.Reference19Ideal.τ).loc Cert.Reference19Ideal.main_arg0)
          ∧ r.2.mem ((c.tc : Thread Cert.Reference19Ideal.nD Cert.Reference19Ideal.τ).loc Cert.Reference19Ideal.main_arg1) = m' ((c.tc : Thread Cert.Reference19Ideal.nD Cert.Reference19Ideal.τ).loc Cert.Reference19Ideal.main_arg1)
          ∧ r.2.mem ((c.tc : Thread Cert.Reference19Ideal.nD Cert.Reference19Ideal.τ).loc Cert.Reference19Ideal.main_arg2) = m' ((c.tc : Thread Cert.Reference19Ideal.nD Cert.Reference19Ideal.τ).loc Cert.Reference19Ideal.main_arg2)
          ∧ r.2.mem ((c.tc : Thread Cert.Reference19Ideal.nD Cert.Reference19Ideal.τ).loc Cert.Reference19Ideal.main_arg3) = m' ((c.tc : Thread Cert.Reference19Ideal.nD Cert.Reference19Ideal.τ).loc Cert.Reference19Ideal.main_arg3))

def preserves_Kernel20_Kernel20Ideal : Prop :=
  True

def algebraic_Kernel20Ideal_Reference20Ideal [hKernel20Ideal : Cert.Kernel20Ideal.Facts] [hReference20Ideal : Cert.Reference20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg)
    (m' : (ℓ : Loc Cert.Reference20Ideal.nD Cert.Reference20Ideal.τ Cert.Reference20Ideal.sig) → Buf (Elt Ideal) ℓ) (g' : Dev Cert.Reference20Ideal.nD → PrngReg), Pre_Kernel20Ideal m →
    (∀ c : Dev Cert.Kernel20Ideal.nD,
      m' ((c.tc : Thread Cert.Reference20Ideal.nD Cert.Reference20Ideal.τ).loc Cert.Reference20Ideal.main_arg0) = m ((c.tc : Thread Cert.Kernel20Ideal.nD Cert.Kernel20Ideal.τ).loc Cert.Kernel20Ideal.main_arg0)
      ∧ m' ((c.tc : Thread Cert.Reference20Ideal.nD Cert.Reference20Ideal.τ).loc Cert.Reference20Ideal.main_arg1) = m ((c.tc : Thread Cert.Kernel20Ideal.nD Cert.Kernel20Ideal.τ).loc Cert.Kernel20Ideal.main_arg1)
      ∧ m' ((c.tc : Thread Cert.Reference20Ideal.nD Cert.Reference20Ideal.τ).loc Cert.Reference20Ideal.main_arg2) = m ((c.tc : Thread Cert.Kernel20Ideal.nD Cert.Kernel20Ideal.τ).loc Cert.Kernel20Ideal.main_arg2)
      ∧ m' ((c.tc : Thread Cert.Reference20Ideal.nD Cert.Reference20Ideal.τ).loc Cert.Reference20Ideal.main_arg3) = m ((c.tc : Thread Cert.Kernel20Ideal.nD Cert.Kernel20Ideal.τ).loc Cert.Kernel20Ideal.main_arg3)) →
    ∃ (v0 : (c : Dev Cert.Kernel20Ideal.nD) → Buf (Elt Ideal) ((c.tc : Thread Cert.Kernel20Ideal.nD Cert.Kernel20Ideal.τ).loc Cert.Kernel20Ideal.main_v0_0)) (v1 : (c : Dev Cert.Kernel20Ideal.nD) → Buf (Elt Ideal) ((c.tc : Thread Cert.Kernel20Ideal.nD Cert.Kernel20Ideal.τ).loc Cert.Kernel20Ideal.main_v0_1)) (v2 : (c : Dev Cert.Kernel20Ideal.nD) → Buf (Elt Ideal) ((c.tc : Thread Cert.Kernel20Ideal.nD Cert.Kernel20Ideal.τ).loc Cert.Kernel20Ideal.main_v0_2)),
      θ_run (Cert.Kernel20Ideal.defs (F := Ideal)) (onTc (τ := Cert.Kernel20Ideal.τ) (Cert.Kernel20Ideal.main (F := Ideal))) ⟨m, fun _ => 0, g⟩ (fun r => ∀ c : Dev Cert.Kernel20Ideal.nD,
          r.2.mem ((c.tc : Thread Cert.Kernel20Ideal.nD Cert.Kernel20Ideal.τ).loc Cert.Kernel20Ideal.main_v0_0) = v0 c
          ∧ r.2.mem ((c.tc : Thread Cert.Kernel20Ideal.nD Cert.Kernel20Ideal.τ).loc Cert.Kernel20Ideal.main_v0_1) = v1 c
          ∧ r.2.mem ((c.tc : Thread Cert.Kernel20Ideal.nD Cert.Kernel20Ideal.τ).loc Cert.Kernel20Ideal.main_v0_2) = v2 c
          ∧ r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
          ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1)
          ∧ r.2.mem ((c.tc : Thread Cert.Kernel20Ideal.nD Cert.Kernel20Ideal.τ).loc Cert.Kernel20Ideal.main_arg2) = m ((c.tc : Thread Cert.Kernel20Ideal.nD Cert.Kernel20Ideal.τ).loc Cert.Kernel20Ideal.main_arg2)
          ∧ r.2.mem ((c.tc : Thread Cert.Kernel20Ideal.nD Cert.Kernel20Ideal.τ).loc Cert.Kernel20Ideal.main_arg3) = m ((c.tc : Thread Cert.Kernel20Ideal.nD Cert.Kernel20Ideal.τ).loc Cert.Kernel20Ideal.main_arg3))
      ∧ θ_run (Cert.Reference20Ideal.defs (F := Ideal)) (onTc (τ := Cert.Reference20Ideal.τ) (Cert.Reference20Ideal.main (F := Ideal))) ⟨m', fun _ => 0, g'⟩ (fun r => ∀ c : Dev Cert.Reference20Ideal.nD,
          r.2.mem ((c.tc : Thread Cert.Reference20Ideal.nD Cert.Reference20Ideal.τ).loc Cert.Reference20Ideal.main_v23) = v0 c
          ∧ r.2.mem ((c.tc : Thread Cert.Reference20Ideal.nD Cert.Reference20Ideal.τ).loc Cert.Reference20Ideal.main_v4) = v1 c
          ∧ r.2.mem ((c.tc : Thread Cert.Reference20Ideal.nD Cert.Reference20Ideal.τ).loc Cert.Reference20Ideal.main_v10) = v2 c
          ∧ r.2.mem ((c.tc : Thread Cert.Reference20Ideal.nD Cert.Reference20Ideal.τ).loc Cert.Reference20Ideal.main_arg0) = m' ((c.tc : Thread Cert.Reference20Ideal.nD Cert.Reference20Ideal.τ).loc Cert.Reference20Ideal.main_arg0)
          ∧ r.2.mem ((c.tc : Thread Cert.Reference20Ideal.nD Cert.Reference20Ideal.τ).loc Cert.Reference20Ideal.main_arg1) = m' ((c.tc : Thread Cert.Reference20Ideal.nD Cert.Reference20Ideal.τ).loc Cert.Reference20Ideal.main_arg1)
          ∧ r.2.mem ((c.tc : Thread Cert.Reference20Ideal.nD Cert.Reference20Ideal.τ).loc Cert.Reference20Ideal.main_arg2) = m' ((c.tc : Thread Cert.Reference20Ideal.nD Cert.Reference20Ideal.τ).loc Cert.Reference20Ideal.main_arg2)
          ∧ r.2.mem ((c.tc : Thread Cert.Reference20Ideal.nD Cert.Reference20Ideal.τ).loc Cert.Reference20Ideal.main_arg3) = m' ((c.tc : Thread Cert.Reference20Ideal.nD Cert.Reference20Ideal.τ).loc Cert.Reference20Ideal.main_arg3))

def preserves_Kernel21_Kernel21Ideal : Prop :=
  True

def algebraic_Kernel21Ideal_Reference21Ideal_pre_norm_finite [hKernel21Ideal : Cert.Kernel21Ideal.Facts] [hReference21Ideal : Cert.Reference21Ideal.Facts] [hPre_norm_finite : Cert.Pre_norm_finite.Facts] : Prop :=
  ∀ (m : (ℓ : Loc Cert.Kernel21Ideal.nD Cert.Kernel21Ideal.τ Cert.Kernel21Ideal.sig) → Buf (Elt Ideal) ℓ) (g : Dev Cert.Kernel21Ideal.nD → PrngReg)
    (m' : (ℓ : Loc Cert.Reference21Ideal.nD Cert.Reference21Ideal.τ Cert.Reference21Ideal.sig) → Buf (Elt Ideal) ℓ) (g' : Dev Cert.Reference21Ideal.nD → PrngReg), Pre_Kernel21Ideal_norm_finite m →
    (∀ c : Dev Cert.Kernel21Ideal.nD,
      m' ((c.tc : Thread Cert.Reference21Ideal.nD Cert.Reference21Ideal.τ).loc Cert.Reference21Ideal.main_arg0) = m ((c.tc : Thread Cert.Kernel21Ideal.nD Cert.Kernel21Ideal.τ).loc Cert.Kernel21Ideal.main_arg0)
      ∧ m' ((c.tc : Thread Cert.Reference21Ideal.nD Cert.Reference21Ideal.τ).loc Cert.Reference21Ideal.main_arg1) = m ((c.tc : Thread Cert.Kernel21Ideal.nD Cert.Kernel21Ideal.τ).loc Cert.Kernel21Ideal.main_arg1)
      ∧ m' ((c.tc : Thread Cert.Reference21Ideal.nD Cert.Reference21Ideal.τ).loc Cert.Reference21Ideal.main_arg2) = m ((c.tc : Thread Cert.Kernel21Ideal.nD Cert.Kernel21Ideal.τ).loc Cert.Kernel21Ideal.main_arg2)
      ∧ m' ((c.tc : Thread Cert.Reference21Ideal.nD Cert.Reference21Ideal.τ).loc Cert.Reference21Ideal.main_arg3) = m ((c.tc : Thread Cert.Kernel21Ideal.nD Cert.Kernel21Ideal.τ).loc Cert.Kernel21Ideal.main_arg3)) →
    ∃ (v0 : (c : Dev Cert.Kernel21Ideal.nD) → Buf (Elt Ideal) ((c.tc : Thread Cert.Kernel21Ideal.nD Cert.Kernel21Ideal.τ).loc Cert.Kernel21Ideal.main_v0_0)) (v1 : (c : Dev Cert.Kernel21Ideal.nD) → Buf (Elt Ideal) ((c.tc : Thread Cert.Kernel21Ideal.nD Cert.Kernel21Ideal.τ).loc Cert.Kernel21Ideal.main_v0_1)),
      θ_run (Cert.Kernel21Ideal.defs (F := Ideal)) (onTc (τ := Cert.Kernel21Ideal.τ) (Cert.Kernel21Ideal.main (F := Ideal))) ⟨m, fun _ => 0, g⟩ (fun r => ∀ c : Dev Cert.Kernel21Ideal.nD,
          r.2.mem ((c.tc : Thread Cert.Kernel21Ideal.nD Cert.Kernel21Ideal.τ).loc Cert.Kernel21Ideal.main_v0_0) = v0 c
          ∧ r.2.mem ((c.tc : Thread Cert.Kernel21Ideal.nD Cert.Kernel21Ideal.τ).loc Cert.Kernel21Ideal.main_v0_1) = v1 c
          ∧ r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0)
          ∧ r.2.mem ((c.tc : Thread Cert.Kernel21Ideal.nD Cert.Kernel21Ideal.τ).loc Cert.Kernel21Ideal.main_arg1) = m ((c.tc : Thread Cert.Kernel21Ideal.nD Cert.Kernel21Ideal.τ).loc Cert.Kernel21Ideal.main_arg1)
          ∧ r.2.mem ((c.tc : Thread Cert.Kernel21Ideal.nD Cert.Kernel21Ideal.τ).loc Cert.Kernel21Ideal.main_arg2) = m ((c.tc : Thread Cert.Kernel21Ideal.nD Cert.Kernel21Ideal.τ).loc Cert.Kernel21Ideal.main_arg2)
          ∧ r.2.mem ((c.tc : Thread Cert.Kernel21Ideal.nD Cert.Kernel21Ideal.τ).loc Cert.Kernel21Ideal.main_arg3) = m ((c.tc : Thread Cert.Kernel21Ideal.nD Cert.Kernel21Ideal.τ).loc Cert.Kernel21Ideal.main_arg3))
      ∧ θ_run (Cert.Reference21Ideal.defs (F := Ideal)) (onTc (τ := Cert.Reference21Ideal.τ) (Cert.Reference21Ideal.main (F := Ideal))) ⟨m', fun _ => 0, g'⟩ (fun r => ∀ c : Dev Cert.Reference21Ideal.nD,
          r.2.mem ((c.tc : Thread Cert.Reference21Ideal.nD Cert.Reference21Ideal.τ).loc Cert.Reference21Ideal.main_v34) = v0 c
          ∧ r.2.mem ((c.tc : Thread Cert.Reference21Ideal.nD Cert.Reference21Ideal.τ).loc Cert.Reference21Ideal.main_v17) = v1 c
          ∧ r.2.mem ((c.tc : Thread Cert.Reference21Ideal.nD Cert.Reference21Ideal.τ).loc Cert.Reference21Ideal.main_arg0) = m' ((c.tc : Thread Cert.Reference21Ideal.nD Cert.Reference21Ideal.τ).loc Cert.Reference21Ideal.main_arg0)
          ∧ r.2.mem ((c.tc : Thread Cert.Reference21Ideal.nD Cert.Reference21Ideal.τ).loc Cert.Reference21Ideal.main_arg1) = m' ((c.tc : Thread Cert.Reference21Ideal.nD Cert.Reference21Ideal.τ).loc Cert.Reference21Ideal.main_arg1)
          ∧ r.2.mem ((c.tc : Thread Cert.Reference21Ideal.nD Cert.Reference21Ideal.τ).loc Cert.Reference21Ideal.main_arg2) = m' ((c.tc : Thread Cert.Reference21Ideal.nD Cert.Reference21Ideal.τ).loc Cert.Reference21Ideal.main_arg2)
          ∧ r.2.mem ((c.tc : Thread Cert.Reference21Ideal.nD Cert.Reference21Ideal.τ).loc Cert.Reference21Ideal.main_arg3) = m' ((c.tc : Thread Cert.Reference21Ideal.nD Cert.Reference21Ideal.τ).loc Cert.Reference21Ideal.main_arg3))

def preserves_Kernel22_Kernel22Ideal : Prop :=
  True

def algebraic_Kernel22Ideal_Reference22Ideal_pre_loss_finite [hKernel22Ideal : Cert.Kernel22Ideal.Facts] [hReference22Ideal : Cert.Reference22Ideal.Facts] [hPre_loss_finite : Cert.Pre_loss_finite.Facts] : Prop :=
  ∀ (m : (ℓ : Loc Cert.Kernel22Ideal.nD Cert.Kernel22Ideal.τ Cert.Kernel22Ideal.sig) → Buf (Elt Ideal) ℓ) (g : Dev Cert.Kernel22Ideal.nD → PrngReg)
    (m' : (ℓ : Loc Cert.Reference22Ideal.nD Cert.Reference22Ideal.τ Cert.Reference22Ideal.sig) → Buf (Elt Ideal) ℓ) (g' : Dev Cert.Reference22Ideal.nD → PrngReg), Pre_Kernel22Ideal_loss_finite m →
    (∀ c : Dev Cert.Kernel22Ideal.nD,
      m' ((c.tc : Thread Cert.Reference22Ideal.nD Cert.Reference22Ideal.τ).loc Cert.Reference22Ideal.main_arg0) = m ((c.tc : Thread Cert.Kernel22Ideal.nD Cert.Kernel22Ideal.τ).loc Cert.Kernel22Ideal.main_arg0)
      ∧ m' ((c.tc : Thread Cert.Reference22Ideal.nD Cert.Reference22Ideal.τ).loc Cert.Reference22Ideal.main_arg1) = m ((c.tc : Thread Cert.Kernel22Ideal.nD Cert.Kernel22Ideal.τ).loc Cert.Kernel22Ideal.main_arg1)
      ∧ m' ((c.tc : Thread Cert.Reference22Ideal.nD Cert.Reference22Ideal.τ).loc Cert.Reference22Ideal.main_arg2) = m ((c.tc : Thread Cert.Kernel22Ideal.nD Cert.Kernel22Ideal.τ).loc Cert.Kernel22Ideal.main_arg2)) →
    ∃ (v0 : (c : Dev Cert.Kernel22Ideal.nD) → Buf (Elt Ideal) ((c.tc : Thread Cert.Kernel22Ideal.nD Cert.Kernel22Ideal.τ).loc Cert.Kernel22Ideal.main_v0_0)) (v1 : (c : Dev Cert.Kernel22Ideal.nD) → Buf (Elt Ideal) ((c.tc : Thread Cert.Kernel22Ideal.nD Cert.Kernel22Ideal.τ).loc Cert.Kernel22Ideal.main_v0_1)) (v2 : (c : Dev Cert.Kernel22Ideal.nD) → Buf (Elt Ideal) ((c.tc : Thread Cert.Kernel22Ideal.nD Cert.Kernel22Ideal.τ).loc Cert.Kernel22Ideal.main_v0_2)),
      θ_run (Cert.Kernel22Ideal.defs (F := Ideal)) (onTc (τ := Cert.Kernel22Ideal.τ) (Cert.Kernel22Ideal.main (F := Ideal))) ⟨m, fun _ => 0, g⟩ (fun r => ∀ c : Dev Cert.Kernel22Ideal.nD,
          r.2.mem ((c.tc : Thread Cert.Kernel22Ideal.nD Cert.Kernel22Ideal.τ).loc Cert.Kernel22Ideal.main_v0_0) = v0 c
          ∧ r.2.mem ((c.tc : Thread Cert.Kernel22Ideal.nD Cert.Kernel22Ideal.τ).loc Cert.Kernel22Ideal.main_v0_1) = v1 c
          ∧ r.2.mem ((c.tc : Thread Cert.Kernel22Ideal.nD Cert.Kernel22Ideal.τ).loc Cert.Kernel22Ideal.main_v0_2) = v2 c
          ∧ r.2.mem ((c.tc : Thread Cert.Kernel22Ideal.nD Cert.Kernel22Ideal.τ).loc Cert.Kernel22Ideal.main_arg0) = m ((c.tc : Thread Cert.Kernel22Ideal.nD Cert.Kernel22Ideal.τ).loc Cert.Kernel22Ideal.main_arg0)
          ∧ r.2.mem ((c.tc : Thread Cert.Kernel22Ideal.nD Cert.Kernel22Ideal.τ).loc Cert.Kernel22Ideal.main_arg1) = m ((c.tc : Thread Cert.Kernel22Ideal.nD Cert.Kernel22Ideal.τ).loc Cert.Kernel22Ideal.main_arg1)
          ∧ r.2.mem ((c.tc : Thread Cert.Kernel22Ideal.nD Cert.Kernel22Ideal.τ).loc Cert.Kernel22Ideal.main_arg2) = m ((c.tc : Thread Cert.Kernel22Ideal.nD Cert.Kernel22Ideal.τ).loc Cert.Kernel22Ideal.main_arg2))
      ∧ θ_run (Cert.Reference22Ideal.defs (F := Ideal)) (onTc (τ := Cert.Reference22Ideal.τ) (Cert.Reference22Ideal.main (F := Ideal))) ⟨m', fun _ => 0, g'⟩ (fun r => ∀ c : Dev Cert.Reference22Ideal.nD,
          r.2.mem ((c.tc : Thread Cert.Reference22Ideal.nD Cert.Reference22Ideal.τ).loc Cert.Reference22Ideal.main_v51) = v0 c
          ∧ r.2.mem ((c.tc : Thread Cert.Reference22Ideal.nD Cert.Reference22Ideal.τ).loc Cert.Reference22Ideal.main_v50) = v1 c
          ∧ r.2.mem ((c.tc : Thread Cert.Reference22Ideal.nD Cert.Reference22Ideal.τ).loc Cert.Reference22Ideal.main_v34) = v2 c
          ∧ r.2.mem ((c.tc : Thread Cert.Reference22Ideal.nD Cert.Reference22Ideal.τ).loc Cert.Reference22Ideal.main_arg0) = m' ((c.tc : Thread Cert.Reference22Ideal.nD Cert.Reference22Ideal.τ).loc Cert.Reference22Ideal.main_arg0)
          ∧ r.2.mem ((c.tc : Thread Cert.Reference22Ideal.nD Cert.Reference22Ideal.τ).loc Cert.Reference22Ideal.main_arg1) = m' ((c.tc : Thread Cert.Reference22Ideal.nD Cert.Reference22Ideal.τ).loc Cert.Reference22Ideal.main_arg1)
          ∧ r.2.mem ((c.tc : Thread Cert.Reference22Ideal.nD Cert.Reference22Ideal.τ).loc Cert.Reference22Ideal.main_arg2) = m' ((c.tc : Thread Cert.Reference22Ideal.nD Cert.Reference22Ideal.τ).loc Cert.Reference22Ideal.main_arg2))

def preserves_Kernel23_Kernel23Ideal : Prop :=
  True

def algebraic_Kernel23Ideal_Reference23Ideal_pre_gate_finite [hKernel23Ideal : Cert.Kernel23Ideal.Facts] [hReference23Ideal : Cert.Reference23Ideal.Facts] [hPre_gate_finite : Cert.Pre_gate_finite.Facts] : Prop :=
  ∀ (m : (ℓ : Loc Cert.Kernel23Ideal.nD Cert.Kernel23Ideal.τ Cert.Kernel23Ideal.sig) → Buf (Elt Ideal) ℓ) (g : Dev Cert.Kernel23Ideal.nD → PrngReg)
    (m' : (ℓ : Loc Cert.Reference23Ideal.nD Cert.Reference23Ideal.τ Cert.Reference23Ideal.sig) → Buf (Elt Ideal) ℓ) (g' : Dev Cert.Reference23Ideal.nD → PrngReg), Pre_Kernel23Ideal_gate_finite m →
    (∀ c : Dev Cert.Kernel23Ideal.nD,
      m' ((c.tc : Thread Cert.Reference23Ideal.nD Cert.Reference23Ideal.τ).loc Cert.Reference23Ideal.main_arg0) = m ((c.tc : Thread Cert.Kernel23Ideal.nD Cert.Kernel23Ideal.τ).loc Cert.Kernel23Ideal.main_arg0)
      ∧ m' ((c.tc : Thread Cert.Reference23Ideal.nD Cert.Reference23Ideal.τ).loc Cert.Reference23Ideal.main_arg1) = m ((c.tc : Thread Cert.Kernel23Ideal.nD Cert.Kernel23Ideal.τ).loc Cert.Kernel23Ideal.main_arg1)
      ∧ m' ((c.tc : Thread Cert.Reference23Ideal.nD Cert.Reference23Ideal.τ).loc Cert.Reference23Ideal.main_arg2) = m ((c.tc : Thread Cert.Kernel23Ideal.nD Cert.Kernel23Ideal.τ).loc Cert.Kernel23Ideal.main_arg2)
      ∧ m' ((c.tc : Thread Cert.Reference23Ideal.nD Cert.Reference23Ideal.τ).loc Cert.Reference23Ideal.main_arg3) = m ((c.tc : Thread Cert.Kernel23Ideal.nD Cert.Kernel23Ideal.τ).loc Cert.Kernel23Ideal.main_arg3)
      ∧ m' ((c.tc : Thread Cert.Reference23Ideal.nD Cert.Reference23Ideal.τ).loc Cert.Reference23Ideal.main_arg4) = m ((c.tc : Thread Cert.Kernel23Ideal.nD Cert.Kernel23Ideal.τ).loc Cert.Kernel23Ideal.main_arg4)) →
    ∃ (v0 : (c : Dev Cert.Kernel23Ideal.nD) → Buf (Elt Ideal) ((c.tc : Thread Cert.Kernel23Ideal.nD Cert.Kernel23Ideal.τ).loc Cert.Kernel23Ideal.main_v0_0)) (v1 : (c : Dev Cert.Kernel23Ideal.nD) → Buf (Elt Ideal) ((c.tc : Thread Cert.Kernel23Ideal.nD Cert.Kernel23Ideal.τ).loc Cert.Kernel23Ideal.main_v0_1)) (v2 : (c : Dev Cert.Kernel23Ideal.nD) → Buf (Elt Ideal) ((c.tc : Thread Cert.Kernel23Ideal.nD Cert.Kernel23Ideal.τ).loc Cert.Kernel23Ideal.main_v0_2)),
      θ_run (Cert.Kernel23Ideal.defs (F := Ideal)) (onTc (τ := Cert.Kernel23Ideal.τ) (Cert.Kernel23Ideal.main (F := Ideal))) ⟨m, fun _ => 0, g⟩ (fun r => ∀ c : Dev Cert.Kernel23Ideal.nD,
          r.2.mem ((c.tc : Thread Cert.Kernel23Ideal.nD Cert.Kernel23Ideal.τ).loc Cert.Kernel23Ideal.main_v0_0) = v0 c
          ∧ r.2.mem ((c.tc : Thread Cert.Kernel23Ideal.nD Cert.Kernel23Ideal.τ).loc Cert.Kernel23Ideal.main_v0_1) = v1 c
          ∧ r.2.mem ((c.tc : Thread Cert.Kernel23Ideal.nD Cert.Kernel23Ideal.τ).loc Cert.Kernel23Ideal.main_v0_2) = v2 c
          ∧ r.2.mem ((c.tc : Thread Cert.Kernel23Ideal.nD Cert.Kernel23Ideal.τ).loc Cert.Kernel23Ideal.main_arg0) = m ((c.tc : Thread Cert.Kernel23Ideal.nD Cert.Kernel23Ideal.τ).loc Cert.Kernel23Ideal.main_arg0)
          ∧ r.2.mem ((c.tc : Thread Cert.Kernel23Ideal.nD Cert.Kernel23Ideal.τ).loc Cert.Kernel23Ideal.main_arg1) = m ((c.tc : Thread Cert.Kernel23Ideal.nD Cert.Kernel23Ideal.τ).loc Cert.Kernel23Ideal.main_arg1)
          ∧ r.2.mem ((c.tc : Thread Cert.Kernel23Ideal.nD Cert.Kernel23Ideal.τ).loc Cert.Kernel23Ideal.main_arg2) = m ((c.tc : Thread Cert.Kernel23Ideal.nD Cert.Kernel23Ideal.τ).loc Cert.Kernel23Ideal.main_arg2)
          ∧ r.2.mem ((c.tc : Thread Cert.Kernel23Ideal.nD Cert.Kernel23Ideal.τ).loc Cert.Kernel23Ideal.main_arg3) = m ((c.tc : Thread Cert.Kernel23Ideal.nD Cert.Kernel23Ideal.τ).loc Cert.Kernel23Ideal.main_arg3)
          ∧ r.2.mem ((c.tc : Thread Cert.Kernel23Ideal.nD Cert.Kernel23Ideal.τ).loc Cert.Kernel23Ideal.main_arg4) = m ((c.tc : Thread Cert.Kernel23Ideal.nD Cert.Kernel23Ideal.τ).loc Cert.Kernel23Ideal.main_arg4))
      ∧ θ_run (Cert.Reference23Ideal.defs (F := Ideal)) (onTc (τ := Cert.Reference23Ideal.τ) (Cert.Reference23Ideal.main (F := Ideal))) ⟨m', fun _ => 0, g'⟩ (fun r => ∀ c : Dev Cert.Reference23Ideal.nD,
          r.2.mem ((c.tc : Thread Cert.Reference23Ideal.nD Cert.Reference23Ideal.τ).loc Cert.Reference23Ideal.main_v23) = v0 c
          ∧ r.2.mem ((c.tc : Thread Cert.Reference23Ideal.nD Cert.Reference23Ideal.τ).loc Cert.Reference23Ideal.main_v24) = v1 c
          ∧ r.2.mem ((c.tc : Thread Cert.Reference23Ideal.nD Cert.Reference23Ideal.τ).loc Cert.Reference23Ideal.main_v19) = v2 c
          ∧ r.2.mem ((c.tc : Thread Cert.Reference23Ideal.nD Cert.Reference23Ideal.τ).loc Cert.Reference23Ideal.main_arg0) = m' ((c.tc : Thread Cert.Reference23Ideal.nD Cert.Reference23Ideal.τ).loc Cert.Reference23Ideal.main_arg0)
          ∧ r.2.mem ((c.tc : Thread Cert.Reference23Ideal.nD Cert.Reference23Ideal.τ).loc Cert.Reference23Ideal.main_arg1) = m' ((c.tc : Thread Cert.Reference23Ideal.nD Cert.Reference23Ideal.τ).loc Cert.Reference23Ideal.main_arg1)
          ∧ r.2.mem ((c.tc : Thread Cert.Reference23Ideal.nD Cert.Reference23Ideal.τ).loc Cert.Reference23Ideal.main_arg2) = m' ((c.tc : Thread Cert.Reference23Ideal.nD Cert.Reference23Ideal.τ).loc Cert.Reference23Ideal.main_arg2)
          ∧ r.2.mem ((c.tc : Thread Cert.Reference23Ideal.nD Cert.Reference23Ideal.τ).loc Cert.Reference23Ideal.main_arg3) = m' ((c.tc : Thread Cert.Reference23Ideal.nD Cert.Reference23Ideal.τ).loc Cert.Reference23Ideal.main_arg3)
          ∧ r.2.mem ((c.tc : Thread Cert.Reference23Ideal.nD Cert.Reference23Ideal.τ).loc Cert.Reference23Ideal.main_arg4) = m' ((c.tc : Thread Cert.Reference23Ideal.nD Cert.Reference23Ideal.τ).loc Cert.Reference23Ideal.main_arg4))

def preserves_Kernel24_Kernel24Ideal : Prop :=
  True

def algebraic_Kernel24Ideal_Reference24Ideal [hKernel24Ideal : Cert.Kernel24Ideal.Facts] [hReference24Ideal : Cert.Reference24Ideal.Facts] : Prop :=
  ∀ (m : (ℓ : Loc Cert.Kernel24Ideal.nD Cert.Kernel24Ideal.τ Cert.Kernel24Ideal.sig) → Buf (Elt Ideal) ℓ) (g : Dev Cert.Kernel24Ideal.nD → PrngReg)
    (m' : (ℓ : Loc Cert.Reference24Ideal.nD Cert.Reference24Ideal.τ Cert.Reference24Ideal.sig) → Buf (Elt Ideal) ℓ) (g' : Dev Cert.Reference24Ideal.nD → PrngReg), Pre_Kernel24Ideal m →
    (∀ c : Dev Cert.Kernel24Ideal.nD,
      m' ((c.tc : Thread Cert.Reference24Ideal.nD Cert.Reference24Ideal.τ).loc Cert.Reference24Ideal.main_arg0) = m ((c.tc : Thread Cert.Kernel24Ideal.nD Cert.Kernel24Ideal.τ).loc Cert.Kernel24Ideal.main_arg0)
      ∧ m' ((c.tc : Thread Cert.Reference24Ideal.nD Cert.Reference24Ideal.τ).loc Cert.Reference24Ideal.main_arg1) = m ((c.tc : Thread Cert.Kernel24Ideal.nD Cert.Kernel24Ideal.τ).loc Cert.Kernel24Ideal.main_arg1)) →
    ∃ (v0 : (c : Dev Cert.Kernel24Ideal.nD) → Buf (Elt Ideal) ((c.tc : Thread Cert.Kernel24Ideal.nD Cert.Kernel24Ideal.τ).loc Cert.Kernel24Ideal.main_v0)),
      θ_run (Cert.Kernel24Ideal.defs (F := Ideal)) (onTc (τ := Cert.Kernel24Ideal.τ) (Cert.Kernel24Ideal.main (F := Ideal))) ⟨m, fun _ => 0, g⟩ (fun r => ∀ c : Dev Cert.Kernel24Ideal.nD,
          r.2.mem ((c.tc : Thread Cert.Kernel24Ideal.nD Cert.Kernel24Ideal.τ).loc Cert.Kernel24Ideal.main_v0) = v0 c
          ∧ r.2.mem ((c.tc : Thread Cert.Kernel24Ideal.nD Cert.Kernel24Ideal.τ).loc Cert.Kernel24Ideal.main_arg0) = m ((c.tc : Thread Cert.Kernel24Ideal.nD Cert.Kernel24Ideal.τ).loc Cert.Kernel24Ideal.main_arg0)
          ∧ r.2.mem ((c.tc : Thread Cert.Kernel24Ideal.nD Cert.Kernel24Ideal.τ).loc Cert.Kernel24Ideal.main_arg1) = m ((c.tc : Thread Cert.Kernel24Ideal.nD Cert.Kernel24Ideal.τ).loc Cert.Kernel24Ideal.main_arg1))
      ∧ θ_run (Cert.Reference24Ideal.defs (F := Ideal)) (onTc (τ := Cert.Reference24Ideal.τ) (Cert.Reference24Ideal.main (F := Ideal))) ⟨m', fun _ => 0, g'⟩ (fun r => ∀ c : Dev Cert.Reference24Ideal.nD,
          r.2.mem ((c.tc : Thread Cert.Reference24Ideal.nD Cert.Reference24Ideal.τ).loc Cert.Reference24Ideal.main_v5) = v0 c
          ∧ r.2.mem ((c.tc : Thread Cert.Reference24Ideal.nD Cert.Reference24Ideal.τ).loc Cert.Reference24Ideal.main_arg0) = m' ((c.tc : Thread Cert.Reference24Ideal.nD Cert.Reference24Ideal.τ).loc Cert.Reference24Ideal.main_arg0)
          ∧ r.2.mem ((c.tc : Thread Cert.Reference24Ideal.nD Cert.Reference24Ideal.τ).loc Cert.Reference24Ideal.main_arg1) = m' ((c.tc : Thread Cert.Reference24Ideal.nD Cert.Reference24Ideal.τ).loc Cert.Reference24Ideal.main_arg1))

def preserves_Kernel25_Kernel25Ideal : Prop :=
  True

def algebraic_Kernel25Ideal_Reference25Ideal [hKernel25Ideal : Cert.Kernel25Ideal.Facts] [hReference25Ideal : Cert.Reference25Ideal.Facts] : Prop :=
  ∀ (m : (ℓ : Loc Cert.Kernel25Ideal.nD Cert.Kernel25Ideal.τ Cert.Kernel25Ideal.sig) → Buf (Elt Ideal) ℓ) (g : Dev Cert.Kernel25Ideal.nD → PrngReg)
    (m' : (ℓ : Loc Cert.Reference25Ideal.nD Cert.Reference25Ideal.τ Cert.Reference25Ideal.sig) → Buf (Elt Ideal) ℓ) (g' : Dev Cert.Reference25Ideal.nD → PrngReg), Pre_Kernel25Ideal m →
    (∀ c : Dev Cert.Kernel25Ideal.nD,
      m' ((c.tc : Thread Cert.Reference25Ideal.nD Cert.Reference25Ideal.τ).loc Cert.Reference25Ideal.main_arg0) = m ((c.tc : Thread Cert.Kernel25Ideal.nD Cert.Kernel25Ideal.τ).loc Cert.Kernel25Ideal.main_arg0)
      ∧ m' ((c.tc : Thread Cert.Reference25Ideal.nD Cert.Reference25Ideal.τ).loc Cert.Reference25Ideal.main_arg1) = m ((c.tc : Thread Cert.Kernel25Ideal.nD Cert.Kernel25Ideal.τ).loc Cert.Kernel25Ideal.main_arg1)) →
    ∃ (v0 : (c : Dev Cert.Kernel25Ideal.nD) → Buf (Elt Ideal) ((c.tc : Thread Cert.Kernel25Ideal.nD Cert.Kernel25Ideal.τ).loc Cert.Kernel25Ideal.main_v0)),
      θ_run (Cert.Kernel25Ideal.defs (F := Ideal)) (onTc (τ := Cert.Kernel25Ideal.τ) (Cert.Kernel25Ideal.main (F := Ideal))) ⟨m, fun _ => 0, g⟩ (fun r => ∀ c : Dev Cert.Kernel25Ideal.nD,
          r.2.mem ((c.tc : Thread Cert.Kernel25Ideal.nD Cert.Kernel25Ideal.τ).loc Cert.Kernel25Ideal.main_v0) = v0 c
          ∧ r.2.mem ((c.tc : Thread Cert.Kernel25Ideal.nD Cert.Kernel25Ideal.τ).loc Cert.Kernel25Ideal.main_arg0) = m ((c.tc : Thread Cert.Kernel25Ideal.nD Cert.Kernel25Ideal.τ).loc Cert.Kernel25Ideal.main_arg0)
          ∧ r.2.mem ((c.tc : Thread Cert.Kernel25Ideal.nD Cert.Kernel25Ideal.τ).loc Cert.Kernel25Ideal.main_arg1) = m ((c.tc : Thread Cert.Kernel25Ideal.nD Cert.Kernel25Ideal.τ).loc Cert.Kernel25Ideal.main_arg1))
      ∧ θ_run (Cert.Reference25Ideal.defs (F := Ideal)) (onTc (τ := Cert.Reference25Ideal.τ) (Cert.Reference25Ideal.main (F := Ideal))) ⟨m', fun _ => 0, g'⟩ (fun r => ∀ c : Dev Cert.Reference25Ideal.nD,
          r.2.mem ((c.tc : Thread Cert.Reference25Ideal.nD Cert.Reference25Ideal.τ).loc Cert.Reference25Ideal.main_v4) = v0 c
          ∧ r.2.mem ((c.tc : Thread Cert.Reference25Ideal.nD Cert.Reference25Ideal.τ).loc Cert.Reference25Ideal.main_arg0) = m' ((c.tc : Thread Cert.Reference25Ideal.nD Cert.Reference25Ideal.τ).loc Cert.Reference25Ideal.main_arg0)
          ∧ r.2.mem ((c.tc : Thread Cert.Reference25Ideal.nD Cert.Reference25Ideal.τ).loc Cert.Reference25Ideal.main_arg1) = m' ((c.tc : Thread Cert.Reference25Ideal.nD Cert.Reference25Ideal.τ).loc Cert.Reference25Ideal.main_arg1))

def preserves_Kernel26_Kernel26Ideal : Prop :=
  True

def algebraic_Kernel26Ideal_Reference26Ideal [hKernel26Ideal : Cert.Kernel26Ideal.Facts] [hReference26Ideal : Cert.Reference26Ideal.Facts] : Prop :=
  ∀ (m : (ℓ : Loc Cert.Kernel26Ideal.nD Cert.Kernel26Ideal.τ Cert.Kernel26Ideal.sig) → Buf (Elt Ideal) ℓ) (g : Dev Cert.Kernel26Ideal.nD → PrngReg)
    (m' : (ℓ : Loc Cert.Reference26Ideal.nD Cert.Reference26Ideal.τ Cert.Reference26Ideal.sig) → Buf (Elt Ideal) ℓ) (g' : Dev Cert.Reference26Ideal.nD → PrngReg), Pre_Kernel26Ideal m →
    (∀ c : Dev Cert.Kernel26Ideal.nD,
      m' ((c.tc : Thread Cert.Reference26Ideal.nD Cert.Reference26Ideal.τ).loc Cert.Reference26Ideal.main_arg0) = m ((c.tc : Thread Cert.Kernel26Ideal.nD Cert.Kernel26Ideal.τ).loc Cert.Kernel26Ideal.main_arg0)
      ∧ m' ((c.tc : Thread Cert.Reference26Ideal.nD Cert.Reference26Ideal.τ).loc Cert.Reference26Ideal.main_arg1) = m ((c.tc : Thread Cert.Kernel26Ideal.nD Cert.Kernel26Ideal.τ).loc Cert.Kernel26Ideal.main_arg1)) →
    ∃ (v0 : (c : Dev Cert.Kernel26Ideal.nD) → Buf (Elt Ideal) ((c.tc : Thread Cert.Kernel26Ideal.nD Cert.Kernel26Ideal.τ).loc Cert.Kernel26Ideal.main_v0)),
      θ_run (Cert.Kernel26Ideal.defs (F := Ideal)) (onTc (τ := Cert.Kernel26Ideal.τ) (Cert.Kernel26Ideal.main (F := Ideal))) ⟨m, fun _ => 0, g⟩ (fun r => ∀ c : Dev Cert.Kernel26Ideal.nD,
          r.2.mem ((c.tc : Thread Cert.Kernel26Ideal.nD Cert.Kernel26Ideal.τ).loc Cert.Kernel26Ideal.main_v0) = v0 c
          ∧ r.2.mem ((c.tc : Thread Cert.Kernel26Ideal.nD Cert.Kernel26Ideal.τ).loc Cert.Kernel26Ideal.main_arg0) = m ((c.tc : Thread Cert.Kernel26Ideal.nD Cert.Kernel26Ideal.τ).loc Cert.Kernel26Ideal.main_arg0)
          ∧ r.2.mem ((c.tc : Thread Cert.Kernel26Ideal.nD Cert.Kernel26Ideal.τ).loc Cert.Kernel26Ideal.main_arg1) = m ((c.tc : Thread Cert.Kernel26Ideal.nD Cert.Kernel26Ideal.τ).loc Cert.Kernel26Ideal.main_arg1))
      ∧ θ_run (Cert.Reference26Ideal.defs (F := Ideal)) (onTc (τ := Cert.Reference26Ideal.τ) (Cert.Reference26Ideal.main (F := Ideal))) ⟨m', fun _ => 0, g'⟩ (fun r => ∀ c : Dev Cert.Reference26Ideal.nD,
          r.2.mem ((c.tc : Thread Cert.Reference26Ideal.nD Cert.Reference26Ideal.τ).loc Cert.Reference26Ideal.main_v2) = v0 c
          ∧ r.2.mem ((c.tc : Thread Cert.Reference26Ideal.nD Cert.Reference26Ideal.τ).loc Cert.Reference26Ideal.main_arg0) = m' ((c.tc : Thread Cert.Reference26Ideal.nD Cert.Reference26Ideal.τ).loc Cert.Reference26Ideal.main_arg0)
          ∧ r.2.mem ((c.tc : Thread Cert.Reference26Ideal.nD Cert.Reference26Ideal.τ).loc Cert.Reference26Ideal.main_arg1) = m' ((c.tc : Thread Cert.Reference26Ideal.nD Cert.Reference26Ideal.τ).loc Cert.Reference26Ideal.main_arg1))

def preserves_Kernel27_Kernel27Ideal : Prop :=
  True

def algebraic_Kernel27Ideal_Reference27Ideal [hKernel27Ideal : Cert.Kernel27Ideal.Facts] [hReference27Ideal : Cert.Reference27Ideal.Facts] : Prop :=
  ∀ (m : (ℓ : Loc Cert.Kernel27Ideal.nD Cert.Kernel27Ideal.τ Cert.Kernel27Ideal.sig) → Buf (Elt Ideal) ℓ) (g : Dev Cert.Kernel27Ideal.nD → PrngReg)
    (m' : (ℓ : Loc Cert.Reference27Ideal.nD Cert.Reference27Ideal.τ Cert.Reference27Ideal.sig) → Buf (Elt Ideal) ℓ) (g' : Dev Cert.Reference27Ideal.nD → PrngReg), Pre_Kernel27Ideal m →
    (∀ c : Dev Cert.Kernel27Ideal.nD,
      m' ((c.tc : Thread Cert.Reference27Ideal.nD Cert.Reference27Ideal.τ).loc Cert.Reference27Ideal.main_arg0) = m ((c.tc : Thread Cert.Kernel27Ideal.nD Cert.Kernel27Ideal.τ).loc Cert.Kernel27Ideal.main_arg0)
      ∧ m' ((c.tc : Thread Cert.Reference27Ideal.nD Cert.Reference27Ideal.τ).loc Cert.Reference27Ideal.main_arg1) = m ((c.tc : Thread Cert.Kernel27Ideal.nD Cert.Kernel27Ideal.τ).loc Cert.Kernel27Ideal.main_arg1)
      ∧ m' ((c.tc : Thread Cert.Reference27Ideal.nD Cert.Reference27Ideal.τ).loc Cert.Reference27Ideal.main_arg2) = m ((c.tc : Thread Cert.Kernel27Ideal.nD Cert.Kernel27Ideal.τ).loc Cert.Kernel27Ideal.main_arg2)) →
    ∃ (v0 : (c : Dev Cert.Kernel27Ideal.nD) → Buf (Elt Ideal) ((c.tc : Thread Cert.Kernel27Ideal.nD Cert.Kernel27Ideal.τ).loc Cert.Kernel27Ideal.main_v0)),
      θ_run (Cert.Kernel27Ideal.defs (F := Ideal)) (onTc (τ := Cert.Kernel27Ideal.τ) (Cert.Kernel27Ideal.main (F := Ideal))) ⟨m, fun _ => 0, g⟩ (fun r => ∀ c : Dev Cert.Kernel27Ideal.nD,
          r.2.mem ((c.tc : Thread Cert.Kernel27Ideal.nD Cert.Kernel27Ideal.τ).loc Cert.Kernel27Ideal.main_v0) = v0 c
          ∧ r.2.mem ((c.tc : Thread Cert.Kernel27Ideal.nD Cert.Kernel27Ideal.τ).loc Cert.Kernel27Ideal.main_arg0) = m ((c.tc : Thread Cert.Kernel27Ideal.nD Cert.Kernel27Ideal.τ).loc Cert.Kernel27Ideal.main_arg0)
          ∧ r.2.mem ((c.tc : Thread Cert.Kernel27Ideal.nD Cert.Kernel27Ideal.τ).loc Cert.Kernel27Ideal.main_arg1) = m ((c.tc : Thread Cert.Kernel27Ideal.nD Cert.Kernel27Ideal.τ).loc Cert.Kernel27Ideal.main_arg1)
          ∧ r.2.mem ((c.tc : Thread Cert.Kernel27Ideal.nD Cert.Kernel27Ideal.τ).loc Cert.Kernel27Ideal.main_arg2) = m ((c.tc : Thread Cert.Kernel27Ideal.nD Cert.Kernel27Ideal.τ).loc Cert.Kernel27Ideal.main_arg2))
      ∧ θ_run (Cert.Reference27Ideal.defs (F := Ideal)) (onTc (τ := Cert.Reference27Ideal.τ) (Cert.Reference27Ideal.main (F := Ideal))) ⟨m', fun _ => 0, g'⟩ (fun r => ∀ c : Dev Cert.Reference27Ideal.nD,
          r.2.mem ((c.tc : Thread Cert.Reference27Ideal.nD Cert.Reference27Ideal.τ).loc Cert.Reference27Ideal.main_v14) = v0 c
          ∧ r.2.mem ((c.tc : Thread Cert.Reference27Ideal.nD Cert.Reference27Ideal.τ).loc Cert.Reference27Ideal.main_arg0) = m' ((c.tc : Thread Cert.Reference27Ideal.nD Cert.Reference27Ideal.τ).loc Cert.Reference27Ideal.main_arg0)
          ∧ r.2.mem ((c.tc : Thread Cert.Reference27Ideal.nD Cert.Reference27Ideal.τ).loc Cert.Reference27Ideal.main_arg1) = m' ((c.tc : Thread Cert.Reference27Ideal.nD Cert.Reference27Ideal.τ).loc Cert.Reference27Ideal.main_arg1)
          ∧ r.2.mem ((c.tc : Thread Cert.Reference27Ideal.nD Cert.Reference27Ideal.τ).loc Cert.Reference27Ideal.main_arg2) = m' ((c.tc : Thread Cert.Reference27Ideal.nD Cert.Reference27Ideal.τ).loc Cert.Reference27Ideal.main_arg2))

def preserves_Kernel28_Kernel28Ideal : Prop :=
  True

def algebraic_Kernel28Ideal_Reference28Ideal [hKernel28Ideal : Cert.Kernel28Ideal.Facts] [hReference28Ideal : Cert.Reference28Ideal.Facts] : Prop :=
  ∀ (m : (ℓ : Loc Cert.Kernel28Ideal.nD Cert.Kernel28Ideal.τ Cert.Kernel28Ideal.sig) → Buf (Elt Ideal) ℓ) (g : Dev Cert.Kernel28Ideal.nD → PrngReg)
    (m' : (ℓ : Loc Cert.Reference28Ideal.nD Cert.Reference28Ideal.τ Cert.Reference28Ideal.sig) → Buf (Elt Ideal) ℓ) (g' : Dev Cert.Reference28Ideal.nD → PrngReg), Pre_Kernel28Ideal m →
    (∀ c : Dev Cert.Kernel28Ideal.nD,
      m' ((c.tc : Thread Cert.Reference28Ideal.nD Cert.Reference28Ideal.τ).loc Cert.Reference28Ideal.main_arg0) = m ((c.tc : Thread Cert.Kernel28Ideal.nD Cert.Kernel28Ideal.τ).loc Cert.Kernel28Ideal.main_arg0)
      ∧ m' ((c.tc : Thread Cert.Reference28Ideal.nD Cert.Reference28Ideal.τ).loc Cert.Reference28Ideal.main_arg1) = m ((c.tc : Thread Cert.Kernel28Ideal.nD Cert.Kernel28Ideal.τ).loc Cert.Kernel28Ideal.main_arg1)) →
    ∃ (v0 : (c : Dev Cert.Kernel28Ideal.nD) → Buf (Elt Ideal) ((c.tc : Thread Cert.Kernel28Ideal.nD Cert.Kernel28Ideal.τ).loc Cert.Kernel28Ideal.main_v0)),
      θ_run (Cert.Kernel28Ideal.defs (F := Ideal)) (onTc (τ := Cert.Kernel28Ideal.τ) (Cert.Kernel28Ideal.main (F := Ideal))) ⟨m, fun _ => 0, g⟩ (fun r => ∀ c : Dev Cert.Kernel28Ideal.nD,
          r.2.mem ((c.tc : Thread Cert.Kernel28Ideal.nD Cert.Kernel28Ideal.τ).loc Cert.Kernel28Ideal.main_v0) = v0 c
          ∧ r.2.mem ((c.tc : Thread Cert.Kernel28Ideal.nD Cert.Kernel28Ideal.τ).loc Cert.Kernel28Ideal.main_arg0) = m ((c.tc : Thread Cert.Kernel28Ideal.nD Cert.Kernel28Ideal.τ).loc Cert.Kernel28Ideal.main_arg0)
          ∧ r.2.mem ((c.tc : Thread Cert.Kernel28Ideal.nD Cert.Kernel28Ideal.τ).loc Cert.Kernel28Ideal.main_arg1) = m ((c.tc : Thread Cert.Kernel28Ideal.nD Cert.Kernel28Ideal.τ).loc Cert.Kernel28Ideal.main_arg1))
      ∧ θ_run (Cert.Reference28Ideal.defs (F := Ideal)) (onTc (τ := Cert.Reference28Ideal.τ) (Cert.Reference28Ideal.main (F := Ideal))) ⟨m', fun _ => 0, g'⟩ (fun r => ∀ c : Dev Cert.Reference28Ideal.nD,
          r.2.mem ((c.tc : Thread Cert.Reference28Ideal.nD Cert.Reference28Ideal.τ).loc Cert.Reference28Ideal.main_v3) = v0 c
          ∧ r.2.mem ((c.tc : Thread Cert.Reference28Ideal.nD Cert.Reference28Ideal.τ).loc Cert.Reference28Ideal.main_arg0) = m' ((c.tc : Thread Cert.Reference28Ideal.nD Cert.Reference28Ideal.τ).loc Cert.Reference28Ideal.main_arg0)
          ∧ r.2.mem ((c.tc : Thread Cert.Reference28Ideal.nD Cert.Reference28Ideal.τ).loc Cert.Reference28Ideal.main_arg1) = m' ((c.tc : Thread Cert.Reference28Ideal.nD Cert.Reference28Ideal.τ).loc Cert.Reference28Ideal.main_arg1))

def preserves_Kernel29_Kernel29Ideal : Prop :=
  True

def algebraic_Kernel29Ideal_Reference29Ideal [hKernel29Ideal : Cert.Kernel29Ideal.Facts] [hReference29Ideal : Cert.Reference29Ideal.Facts] : Prop :=
  ∀ (m : (ℓ : Loc Cert.Kernel29Ideal.nD Cert.Kernel29Ideal.τ Cert.Kernel29Ideal.sig) → Buf (Elt Ideal) ℓ) (g : Dev Cert.Kernel29Ideal.nD → PrngReg)
    (m' : (ℓ : Loc Cert.Reference29Ideal.nD Cert.Reference29Ideal.τ Cert.Reference29Ideal.sig) → Buf (Elt Ideal) ℓ) (g' : Dev Cert.Reference29Ideal.nD → PrngReg), Pre_Kernel29Ideal m →
    (∀ c : Dev Cert.Kernel29Ideal.nD,
      m' ((c.tc : Thread Cert.Reference29Ideal.nD Cert.Reference29Ideal.τ).loc Cert.Reference29Ideal.main_arg0) = m ((c.tc : Thread Cert.Kernel29Ideal.nD Cert.Kernel29Ideal.τ).loc Cert.Kernel29Ideal.main_arg0)
      ∧ m' ((c.tc : Thread Cert.Reference29Ideal.nD Cert.Reference29Ideal.τ).loc Cert.Reference29Ideal.main_arg1) = m ((c.tc : Thread Cert.Kernel29Ideal.nD Cert.Kernel29Ideal.τ).loc Cert.Kernel29Ideal.main_arg1)) →
    ∃ (v0 : (c : Dev Cert.Kernel29Ideal.nD) → Buf (Elt Ideal) ((c.tc : Thread Cert.Kernel29Ideal.nD Cert.Kernel29Ideal.τ).loc Cert.Kernel29Ideal.main_v0)),
      θ_run (Cert.Kernel29Ideal.defs (F := Ideal)) (onTc (τ := Cert.Kernel29Ideal.τ) (Cert.Kernel29Ideal.main (F := Ideal))) ⟨m, fun _ => 0, g⟩ (fun r => ∀ c : Dev Cert.Kernel29Ideal.nD,
          r.2.mem ((c.tc : Thread Cert.Kernel29Ideal.nD Cert.Kernel29Ideal.τ).loc Cert.Kernel29Ideal.main_v0) = v0 c
          ∧ r.2.mem ((c.tc : Thread Cert.Kernel29Ideal.nD Cert.Kernel29Ideal.τ).loc Cert.Kernel29Ideal.main_arg0) = m ((c.tc : Thread Cert.Kernel29Ideal.nD Cert.Kernel29Ideal.τ).loc Cert.Kernel29Ideal.main_arg0)
          ∧ r.2.mem ((c.tc : Thread Cert.Kernel29Ideal.nD Cert.Kernel29Ideal.τ).loc Cert.Kernel29Ideal.main_arg1) = m ((c.tc : Thread Cert.Kernel29Ideal.nD Cert.Kernel29Ideal.τ).loc Cert.Kernel29Ideal.main_arg1))
      ∧ θ_run (Cert.Reference29Ideal.defs (F := Ideal)) (onTc (τ := Cert.Reference29Ideal.τ) (Cert.Reference29Ideal.main (F := Ideal))) ⟨m', fun _ => 0, g'⟩ (fun r => ∀ c : Dev Cert.Reference29Ideal.nD,
          r.2.mem ((c.tc : Thread Cert.Reference29Ideal.nD Cert.Reference29Ideal.τ).loc Cert.Reference29Ideal.main_v12) = v0 c
          ∧ r.2.mem ((c.tc : Thread Cert.Reference29Ideal.nD Cert.Reference29Ideal.τ).loc Cert.Reference29Ideal.main_arg0) = m' ((c.tc : Thread Cert.Reference29Ideal.nD Cert.Reference29Ideal.τ).loc Cert.Reference29Ideal.main_arg0)
          ∧ r.2.mem ((c.tc : Thread Cert.Reference29Ideal.nD Cert.Reference29Ideal.τ).loc Cert.Reference29Ideal.main_arg1) = m' ((c.tc : Thread Cert.Reference29Ideal.nD Cert.Reference29Ideal.τ).loc Cert.Reference29Ideal.main_arg1))

def preserves_Kernel30_Kernel30Ideal : Prop :=
  True

def algebraic_Kernel30Ideal_Reference30Ideal [hKernel30Ideal : Cert.Kernel30Ideal.Facts] [hReference30Ideal : Cert.Reference30Ideal.Facts] : Prop :=
  ∀ (m : (ℓ : Loc Cert.Kernel30Ideal.nD Cert.Kernel30Ideal.τ Cert.Kernel30Ideal.sig) → Buf (Elt Ideal) ℓ) (g : Dev Cert.Kernel30Ideal.nD → PrngReg)
    (m' : (ℓ : Loc Cert.Reference30Ideal.nD Cert.Reference30Ideal.τ Cert.Reference30Ideal.sig) → Buf (Elt Ideal) ℓ) (g' : Dev Cert.Reference30Ideal.nD → PrngReg), Pre_Kernel30Ideal m →
    (∀ c : Dev Cert.Kernel30Ideal.nD,
      m' ((c.tc : Thread Cert.Reference30Ideal.nD Cert.Reference30Ideal.τ).loc Cert.Reference30Ideal.main_arg0) = m ((c.tc : Thread Cert.Kernel30Ideal.nD Cert.Kernel30Ideal.τ).loc Cert.Kernel30Ideal.main_arg0)
      ∧ m' ((c.tc : Thread Cert.Reference30Ideal.nD Cert.Reference30Ideal.τ).loc Cert.Reference30Ideal.main_arg1) = m ((c.tc : Thread Cert.Kernel30Ideal.nD Cert.Kernel30Ideal.τ).loc Cert.Kernel30Ideal.main_arg1)
      ∧ m' ((c.tc : Thread Cert.Reference30Ideal.nD Cert.Reference30Ideal.τ).loc Cert.Reference30Ideal.main_arg2) = m ((c.tc : Thread Cert.Kernel30Ideal.nD Cert.Kernel30Ideal.τ).loc Cert.Kernel30Ideal.main_arg2)
      ∧ m' ((c.tc : Thread Cert.Reference30Ideal.nD Cert.Reference30Ideal.τ).loc Cert.Reference30Ideal.main_arg3) = m ((c.tc : Thread Cert.Kernel30Ideal.nD Cert.Kernel30Ideal.τ).loc Cert.Kernel30Ideal.main_arg3)
      ∧ m' ((c.tc : Thread Cert.Reference30Ideal.nD Cert.Reference30Ideal.τ).loc Cert.Reference30Ideal.main_arg4) = m ((c.tc : Thread Cert.Kernel30Ideal.nD Cert.Kernel30Ideal.τ).loc Cert.Kernel30Ideal.main_arg4)
      ∧ m' ((c.tc : Thread Cert.Reference30Ideal.nD Cert.Reference30Ideal.τ).loc Cert.Reference30Ideal.main_arg5) = m ((c.tc : Thread Cert.Kernel30Ideal.nD Cert.Kernel30Ideal.τ).loc Cert.Kernel30Ideal.main_arg5)
      ∧ m' ((c.tc : Thread Cert.Reference30Ideal.nD Cert.Reference30Ideal.τ).loc Cert.Reference30Ideal.main_arg6) = m ((c.tc : Thread Cert.Kernel30Ideal.nD Cert.Kernel30Ideal.τ).loc Cert.Kernel30Ideal.main_arg6)
      ∧ m' ((c.tc : Thread Cert.Reference30Ideal.nD Cert.Reference30Ideal.τ).loc Cert.Reference30Ideal.main_arg7) = m ((c.tc : Thread Cert.Kernel30Ideal.nD Cert.Kernel30Ideal.τ).loc Cert.Kernel30Ideal.main_arg7)
      ∧ m' ((c.tc : Thread Cert.Reference30Ideal.nD Cert.Reference30Ideal.τ).loc Cert.Reference30Ideal.main_arg8) = m ((c.tc : Thread Cert.Kernel30Ideal.nD Cert.Kernel30Ideal.τ).loc Cert.Kernel30Ideal.main_arg8)
      ∧ m' ((c.tc : Thread Cert.Reference30Ideal.nD Cert.Reference30Ideal.τ).loc Cert.Reference30Ideal.main_arg9) = m ((c.tc : Thread Cert.Kernel30Ideal.nD Cert.Kernel30Ideal.τ).loc Cert.Kernel30Ideal.main_arg9)
      ∧ m' ((c.tc : Thread Cert.Reference30Ideal.nD Cert.Reference30Ideal.τ).loc Cert.Reference30Ideal.main_arg10) = m ((c.tc : Thread Cert.Kernel30Ideal.nD Cert.Kernel30Ideal.τ).loc Cert.Kernel30Ideal.main_arg10)) →
    ∃ (v0 : (c : Dev Cert.Kernel30Ideal.nD) → Buf (Elt Ideal) ((c.tc : Thread Cert.Kernel30Ideal.nD Cert.Kernel30Ideal.τ).loc Cert.Kernel30Ideal.main_v0_1)),
      θ_run (Cert.Kernel30Ideal.defs (F := Ideal)) (onTc (τ := Cert.Kernel30Ideal.τ) (Cert.Kernel30Ideal.main (F := Ideal))) ⟨m, fun _ => 0, g⟩ (fun r => ∀ c : Dev Cert.Kernel30Ideal.nD,
          r.2.mem ((c.tc : Thread Cert.Kernel30Ideal.nD Cert.Kernel30Ideal.τ).loc Cert.Kernel30Ideal.main_v0_1) = v0 c
          ∧ r.2.mem ((c.tc : Thread Cert.Kernel30Ideal.nD Cert.Kernel30Ideal.τ).loc Cert.Kernel30Ideal.main_arg0) = m ((c.tc : Thread Cert.Kernel30Ideal.nD Cert.Kernel30Ideal.τ).loc Cert.Kernel30Ideal.main_arg0)
          ∧ r.2.mem ((c.tc : Thread Cert.Kernel30Ideal.nD Cert.Kernel30Ideal.τ).loc Cert.Kernel30Ideal.main_arg1) = m ((c.tc : Thread Cert.Kernel30Ideal.nD Cert.Kernel30Ideal.τ).loc Cert.Kernel30Ideal.main_arg1)
          ∧ r.2.mem ((c.tc : Thread Cert.Kernel30Ideal.nD Cert.Kernel30Ideal.τ).loc Cert.Kernel30Ideal.main_arg2) = m ((c.tc : Thread Cert.Kernel30Ideal.nD Cert.Kernel30Ideal.τ).loc Cert.Kernel30Ideal.main_arg2)
          ∧ r.2.mem ((c.tc : Thread Cert.Kernel30Ideal.nD Cert.Kernel30Ideal.τ).loc Cert.Kernel30Ideal.main_arg3) = m ((c.tc : Thread Cert.Kernel30Ideal.nD Cert.Kernel30Ideal.τ).loc Cert.Kernel30Ideal.main_arg3)
          ∧ r.2.mem ((c.tc : Thread Cert.Kernel30Ideal.nD Cert.Kernel30Ideal.τ).loc Cert.Kernel30Ideal.main_arg4) = m ((c.tc : Thread Cert.Kernel30Ideal.nD Cert.Kernel30Ideal.τ).loc Cert.Kernel30Ideal.main_arg4)
          ∧ r.2.mem ((c.tc : Thread Cert.Kernel30Ideal.nD Cert.Kernel30Ideal.τ).loc Cert.Kernel30Ideal.main_arg5) = m ((c.tc : Thread Cert.Kernel30Ideal.nD Cert.Kernel30Ideal.τ).loc Cert.Kernel30Ideal.main_arg5)
          ∧ r.2.mem ((c.tc : Thread Cert.Kernel30Ideal.nD Cert.Kernel30Ideal.τ).loc Cert.Kernel30Ideal.main_arg6) = m ((c.tc : Thread Cert.Kernel30Ideal.nD Cert.Kernel30Ideal.τ).loc Cert.Kernel30Ideal.main_arg6)
          ∧ r.2.mem ((c.tc : Thread Cert.Kernel30Ideal.nD Cert.Kernel30Ideal.τ).loc Cert.Kernel30Ideal.main_arg7) = m ((c.tc : Thread Cert.Kernel30Ideal.nD Cert.Kernel30Ideal.τ).loc Cert.Kernel30Ideal.main_arg7)
          ∧ r.2.mem ((c.tc : Thread Cert.Kernel30Ideal.nD Cert.Kernel30Ideal.τ).loc Cert.Kernel30Ideal.main_arg8) = m ((c.tc : Thread Cert.Kernel30Ideal.nD Cert.Kernel30Ideal.τ).loc Cert.Kernel30Ideal.main_arg8)
          ∧ r.2.mem ((c.tc : Thread Cert.Kernel30Ideal.nD Cert.Kernel30Ideal.τ).loc Cert.Kernel30Ideal.main_arg9) = m ((c.tc : Thread Cert.Kernel30Ideal.nD Cert.Kernel30Ideal.τ).loc Cert.Kernel30Ideal.main_arg9)
          ∧ r.2.mem ((c.tc : Thread Cert.Kernel30Ideal.nD Cert.Kernel30Ideal.τ).loc Cert.Kernel30Ideal.main_arg10) = m ((c.tc : Thread Cert.Kernel30Ideal.nD Cert.Kernel30Ideal.τ).loc Cert.Kernel30Ideal.main_arg10))
      ∧ θ_run (Cert.Reference30Ideal.defs (F := Ideal)) (onTc (τ := Cert.Reference30Ideal.τ) (Cert.Reference30Ideal.main (F := Ideal))) ⟨m', fun _ => 0, g'⟩ (fun r => ∀ c : Dev Cert.Reference30Ideal.nD,
          r.2.mem ((c.tc : Thread Cert.Reference30Ideal.nD Cert.Reference30Ideal.τ).loc Cert.Reference30Ideal.main_v22) = v0 c
          ∧ r.2.mem ((c.tc : Thread Cert.Reference30Ideal.nD Cert.Reference30Ideal.τ).loc Cert.Reference30Ideal.main_arg0) = m' ((c.tc : Thread Cert.Reference30Ideal.nD Cert.Reference30Ideal.τ).loc Cert.Reference30Ideal.main_arg0)
          ∧ r.2.mem ((c.tc : Thread Cert.Reference30Ideal.nD Cert.Reference30Ideal.τ).loc Cert.Reference30Ideal.main_arg1) = m' ((c.tc : Thread Cert.Reference30Ideal.nD Cert.Reference30Ideal.τ).loc Cert.Reference30Ideal.main_arg1)
          ∧ r.2.mem ((c.tc : Thread Cert.Reference30Ideal.nD Cert.Reference30Ideal.τ).loc Cert.Reference30Ideal.main_arg2) = m' ((c.tc : Thread Cert.Reference30Ideal.nD Cert.Reference30Ideal.τ).loc Cert.Reference30Ideal.main_arg2)
          ∧ r.2.mem ((c.tc : Thread Cert.Reference30Ideal.nD Cert.Reference30Ideal.τ).loc Cert.Reference30Ideal.main_arg3) = m' ((c.tc : Thread Cert.Reference30Ideal.nD Cert.Reference30Ideal.τ).loc Cert.Reference30Ideal.main_arg3)
          ∧ r.2.mem ((c.tc : Thread Cert.Reference30Ideal.nD Cert.Reference30Ideal.τ).loc Cert.Reference30Ideal.main_arg4) = m' ((c.tc : Thread Cert.Reference30Ideal.nD Cert.Reference30Ideal.τ).loc Cert.Reference30Ideal.main_arg4)
          ∧ r.2.mem ((c.tc : Thread Cert.Reference30Ideal.nD Cert.Reference30Ideal.τ).loc Cert.Reference30Ideal.main_arg5) = m' ((c.tc : Thread Cert.Reference30Ideal.nD Cert.Reference30Ideal.τ).loc Cert.Reference30Ideal.main_arg5)
          ∧ r.2.mem ((c.tc : Thread Cert.Reference30Ideal.nD Cert.Reference30Ideal.τ).loc Cert.Reference30Ideal.main_arg6) = m' ((c.tc : Thread Cert.Reference30Ideal.nD Cert.Reference30Ideal.τ).loc Cert.Reference30Ideal.main_arg6)
          ∧ r.2.mem ((c.tc : Thread Cert.Reference30Ideal.nD Cert.Reference30Ideal.τ).loc Cert.Reference30Ideal.main_arg7) = m' ((c.tc : Thread Cert.Reference30Ideal.nD Cert.Reference30Ideal.τ).loc Cert.Reference30Ideal.main_arg7)
          ∧ r.2.mem ((c.tc : Thread Cert.Reference30Ideal.nD Cert.Reference30Ideal.τ).loc Cert.Reference30Ideal.main_arg8) = m' ((c.tc : Thread Cert.Reference30Ideal.nD Cert.Reference30Ideal.τ).loc Cert.Reference30Ideal.main_arg8)
          ∧ r.2.mem ((c.tc : Thread Cert.Reference30Ideal.nD Cert.Reference30Ideal.τ).loc Cert.Reference30Ideal.main_arg9) = m' ((c.tc : Thread Cert.Reference30Ideal.nD Cert.Reference30Ideal.τ).loc Cert.Reference30Ideal.main_arg9)
          ∧ r.2.mem ((c.tc : Thread Cert.Reference30Ideal.nD Cert.Reference30Ideal.τ).loc Cert.Reference30Ideal.main_arg10) = m' ((c.tc : Thread Cert.Reference30Ideal.nD Cert.Reference30Ideal.τ).loc Cert.Reference30Ideal.main_arg10))

def preserves_Kernel31_Kernel31Ideal : Prop :=
  True

def algebraic_Kernel31Ideal_Reference31Ideal [hKernel31Ideal : Cert.Kernel31Ideal.Facts] [hReference31Ideal : Cert.Reference31Ideal.Facts] : Prop :=
  ∀ (m : (ℓ : Loc Cert.Kernel31Ideal.nD Cert.Kernel31Ideal.τ Cert.Kernel31Ideal.sig) → Buf (Elt Ideal) ℓ) (g : Dev Cert.Kernel31Ideal.nD → PrngReg)
    (m' : (ℓ : Loc Cert.Reference31Ideal.nD Cert.Reference31Ideal.τ Cert.Reference31Ideal.sig) → Buf (Elt Ideal) ℓ) (g' : Dev Cert.Reference31Ideal.nD → PrngReg), Pre_Kernel31Ideal m →
    (∀ c : Dev Cert.Kernel31Ideal.nD,
      m' ((c.tc : Thread Cert.Reference31Ideal.nD Cert.Reference31Ideal.τ).loc Cert.Reference31Ideal.main_arg0) = m ((c.tc : Thread Cert.Kernel31Ideal.nD Cert.Kernel31Ideal.τ).loc Cert.Kernel31Ideal.main_arg0)
      ∧ m' ((c.tc : Thread Cert.Reference31Ideal.nD Cert.Reference31Ideal.τ).loc Cert.Reference31Ideal.main_arg1) = m ((c.tc : Thread Cert.Kernel31Ideal.nD Cert.Kernel31Ideal.τ).loc Cert.Kernel31Ideal.main_arg1)
      ∧ m' ((c.tc : Thread Cert.Reference31Ideal.nD Cert.Reference31Ideal.τ).loc Cert.Reference31Ideal.main_arg2) = m ((c.tc : Thread Cert.Kernel31Ideal.nD Cert.Kernel31Ideal.τ).loc Cert.Kernel31Ideal.main_arg2)
      ∧ m' ((c.tc : Thread Cert.Reference31Ideal.nD Cert.Reference31Ideal.τ).loc Cert.Reference31Ideal.main_arg3) = m ((c.tc : Thread Cert.Kernel31Ideal.nD Cert.Kernel31Ideal.τ).loc Cert.Kernel31Ideal.main_arg3)
      ∧ m' ((c.tc : Thread Cert.Reference31Ideal.nD Cert.Reference31Ideal.τ).loc Cert.Reference31Ideal.main_arg4) = m ((c.tc : Thread Cert.Kernel31Ideal.nD Cert.Kernel31Ideal.τ).loc Cert.Kernel31Ideal.main_arg4)
      ∧ m' ((c.tc : Thread Cert.Reference31Ideal.nD Cert.Reference31Ideal.τ).loc Cert.Reference31Ideal.main_arg5) = m ((c.tc : Thread Cert.Kernel31Ideal.nD Cert.Kernel31Ideal.τ).loc Cert.Kernel31Ideal.main_arg5)
      ∧ m' ((c.tc : Thread Cert.Reference31Ideal.nD Cert.Reference31Ideal.τ).loc Cert.Reference31Ideal.main_arg6) = m ((c.tc : Thread Cert.Kernel31Ideal.nD Cert.Kernel31Ideal.τ).loc Cert.Kernel31Ideal.main_arg6)) →
    ∃ (v0 : (c : Dev Cert.Kernel31Ideal.nD) → Buf (Elt Ideal) ((c.tc : Thread Cert.Kernel31Ideal.nD Cert.Kernel31Ideal.τ).loc Cert.Kernel31Ideal.main_v0_5)),
      θ_run (Cert.Kernel31Ideal.defs (F := Ideal)) (onTc (τ := Cert.Kernel31Ideal.τ) (Cert.Kernel31Ideal.main (F := Ideal))) ⟨m, fun _ => 0, g⟩ (fun r => ∀ c : Dev Cert.Kernel31Ideal.nD,
          r.2.mem ((c.tc : Thread Cert.Kernel31Ideal.nD Cert.Kernel31Ideal.τ).loc Cert.Kernel31Ideal.main_v0_5) = v0 c
          ∧ r.2.mem ((c.tc : Thread Cert.Kernel31Ideal.nD Cert.Kernel31Ideal.τ).loc Cert.Kernel31Ideal.main_arg0) = m ((c.tc : Thread Cert.Kernel31Ideal.nD Cert.Kernel31Ideal.τ).loc Cert.Kernel31Ideal.main_arg0)
          ∧ r.2.mem ((c.tc : Thread Cert.Kernel31Ideal.nD Cert.Kernel31Ideal.τ).loc Cert.Kernel31Ideal.main_arg1) = m ((c.tc : Thread Cert.Kernel31Ideal.nD Cert.Kernel31Ideal.τ).loc Cert.Kernel31Ideal.main_arg1)
          ∧ r.2.mem ((c.tc : Thread Cert.Kernel31Ideal.nD Cert.Kernel31Ideal.τ).loc Cert.Kernel31Ideal.main_arg2) = m ((c.tc : Thread Cert.Kernel31Ideal.nD Cert.Kernel31Ideal.τ).loc Cert.Kernel31Ideal.main_arg2)
          ∧ r.2.mem ((c.tc : Thread Cert.Kernel31Ideal.nD Cert.Kernel31Ideal.τ).loc Cert.Kernel31Ideal.main_arg3) = m ((c.tc : Thread Cert.Kernel31Ideal.nD Cert.Kernel31Ideal.τ).loc Cert.Kernel31Ideal.main_arg3)
          ∧ r.2.mem ((c.tc : Thread Cert.Kernel31Ideal.nD Cert.Kernel31Ideal.τ).loc Cert.Kernel31Ideal.main_arg4) = m ((c.tc : Thread Cert.Kernel31Ideal.nD Cert.Kernel31Ideal.τ).loc Cert.Kernel31Ideal.main_arg4)
          ∧ r.2.mem ((c.tc : Thread Cert.Kernel31Ideal.nD Cert.Kernel31Ideal.τ).loc Cert.Kernel31Ideal.main_arg5) = m ((c.tc : Thread Cert.Kernel31Ideal.nD Cert.Kernel31Ideal.τ).loc Cert.Kernel31Ideal.main_arg5)
          ∧ r.2.mem ((c.tc : Thread Cert.Kernel31Ideal.nD Cert.Kernel31Ideal.τ).loc Cert.Kernel31Ideal.main_arg6) = m ((c.tc : Thread Cert.Kernel31Ideal.nD Cert.Kernel31Ideal.τ).loc Cert.Kernel31Ideal.main_arg6))
      ∧ θ_run (Cert.Reference31Ideal.defs (F := Ideal)) (onTc (τ := Cert.Reference31Ideal.τ) (Cert.Reference31Ideal.main (F := Ideal))) ⟨m', fun _ => 0, g'⟩ (fun r => ∀ c : Dev Cert.Reference31Ideal.nD,
          r.2.mem ((c.tc : Thread Cert.Reference31Ideal.nD Cert.Reference31Ideal.τ).loc Cert.Reference31Ideal.main_v21) = v0 c
          ∧ r.2.mem ((c.tc : Thread Cert.Reference31Ideal.nD Cert.Reference31Ideal.τ).loc Cert.Reference31Ideal.main_arg0) = m' ((c.tc : Thread Cert.Reference31Ideal.nD Cert.Reference31Ideal.τ).loc Cert.Reference31Ideal.main_arg0)
          ∧ r.2.mem ((c.tc : Thread Cert.Reference31Ideal.nD Cert.Reference31Ideal.τ).loc Cert.Reference31Ideal.main_arg1) = m' ((c.tc : Thread Cert.Reference31Ideal.nD Cert.Reference31Ideal.τ).loc Cert.Reference31Ideal.main_arg1)
          ∧ r.2.mem ((c.tc : Thread Cert.Reference31Ideal.nD Cert.Reference31Ideal.τ).loc Cert.Reference31Ideal.main_arg2) = m' ((c.tc : Thread Cert.Reference31Ideal.nD Cert.Reference31Ideal.τ).loc Cert.Reference31Ideal.main_arg2)
          ∧ r.2.mem ((c.tc : Thread Cert.Reference31Ideal.nD Cert.Reference31Ideal.τ).loc Cert.Reference31Ideal.main_arg3) = m' ((c.tc : Thread Cert.Reference31Ideal.nD Cert.Reference31Ideal.τ).loc Cert.Reference31Ideal.main_arg3)
          ∧ r.2.mem ((c.tc : Thread Cert.Reference31Ideal.nD Cert.Reference31Ideal.τ).loc Cert.Reference31Ideal.main_arg4) = m' ((c.tc : Thread Cert.Reference31Ideal.nD Cert.Reference31Ideal.τ).loc Cert.Reference31Ideal.main_arg4)
          ∧ r.2.mem ((c.tc : Thread Cert.Reference31Ideal.nD Cert.Reference31Ideal.τ).loc Cert.Reference31Ideal.main_arg5) = m' ((c.tc : Thread Cert.Reference31Ideal.nD Cert.Reference31Ideal.τ).loc Cert.Reference31Ideal.main_arg5)
          ∧ r.2.mem ((c.tc : Thread Cert.Reference31Ideal.nD Cert.Reference31Ideal.τ).loc Cert.Reference31Ideal.main_arg6) = m' ((c.tc : Thread Cert.Reference31Ideal.nD Cert.Reference31Ideal.τ).loc Cert.Reference31Ideal.main_arg6))

def preserves_Kernel32_Kernel32Ideal : Prop :=
  True

def algebraic_Kernel32Ideal_Reference32Ideal_pre_embed_finite [hKernel32Ideal : Cert.Kernel32Ideal.Facts] [hReference32Ideal : Cert.Reference32Ideal.Facts] [hPre_embed_finite : Cert.Pre_embed_finite.Facts] : Prop :=
  ∀ (m : (ℓ : Loc Cert.Kernel32Ideal.nD Cert.Kernel32Ideal.τ Cert.Kernel32Ideal.sig) → Buf (Elt Ideal) ℓ) (g : Dev Cert.Kernel32Ideal.nD → PrngReg)
    (m' : (ℓ : Loc Cert.Reference32Ideal.nD Cert.Reference32Ideal.τ Cert.Reference32Ideal.sig) → Buf (Elt Ideal) ℓ) (g' : Dev Cert.Reference32Ideal.nD → PrngReg), Pre_Kernel32Ideal_embed_finite m →
    (∀ c : Dev Cert.Kernel32Ideal.nD,
      m' ((c.tc : Thread Cert.Reference32Ideal.nD Cert.Reference32Ideal.τ).loc Cert.Reference32Ideal.main_arg0) = m ((c.tc : Thread Cert.Kernel32Ideal.nD Cert.Kernel32Ideal.τ).loc Cert.Kernel32Ideal.main_arg0)
      ∧ m' ((c.tc : Thread Cert.Reference32Ideal.nD Cert.Reference32Ideal.τ).loc Cert.Reference32Ideal.main_arg1) = m ((c.tc : Thread Cert.Kernel32Ideal.nD Cert.Kernel32Ideal.τ).loc Cert.Kernel32Ideal.main_arg1)
      ∧ m' ((c.tc : Thread Cert.Reference32Ideal.nD Cert.Reference32Ideal.τ).loc Cert.Reference32Ideal.main_arg2) = m ((c.tc : Thread Cert.Kernel32Ideal.nD Cert.Kernel32Ideal.τ).loc Cert.Kernel32Ideal.main_arg2)
      ∧ m' ((c.tc : Thread Cert.Reference32Ideal.nD Cert.Reference32Ideal.τ).loc Cert.Reference32Ideal.main_arg3) = m ((c.tc : Thread Cert.Kernel32Ideal.nD Cert.Kernel32Ideal.τ).loc Cert.Kernel32Ideal.main_arg3)) →
    ∃ (v0 : (c : Dev Cert.Kernel32Ideal.nD) → Buf (Elt Ideal) ((c.tc : Thread Cert.Kernel32Ideal.nD Cert.Kernel32Ideal.τ).loc Cert.Kernel32Ideal.main_v0_0)) (v1 : (c : Dev Cert.Kernel32Ideal.nD) → Buf (Elt Ideal) ((c.tc : Thread Cert.Kernel32Ideal.nD Cert.Kernel32Ideal.τ).loc Cert.Kernel32Ideal.main_v0_1)) (v2 : (c : Dev Cert.Kernel32Ideal.nD) → Buf (Elt Ideal) ((c.tc : Thread Cert.Kernel32Ideal.nD Cert.Kernel32Ideal.τ).loc Cert.Kernel32Ideal.main_v0_2)),
      θ_run (Cert.Kernel32Ideal.defs (F := Ideal)) (onTc (τ := Cert.Kernel32Ideal.τ) (Cert.Kernel32Ideal.main (F := Ideal))) ⟨m, fun _ => 0, g⟩ (fun r => ∀ c : Dev Cert.Kernel32Ideal.nD,
          r.2.mem ((c.tc : Thread Cert.Kernel32Ideal.nD Cert.Kernel32Ideal.τ).loc Cert.Kernel32Ideal.main_v0_0) = v0 c
          ∧ r.2.mem ((c.tc : Thread Cert.Kernel32Ideal.nD Cert.Kernel32Ideal.τ).loc Cert.Kernel32Ideal.main_v0_1) = v1 c
          ∧ r.2.mem ((c.tc : Thread Cert.Kernel32Ideal.nD Cert.Kernel32Ideal.τ).loc Cert.Kernel32Ideal.main_v0_2) = v2 c
          ∧ r.2.mem ((c.tc : Thread Cert.Kernel32Ideal.nD Cert.Kernel32Ideal.τ).loc Cert.Kernel32Ideal.main_arg0) = m ((c.tc : Thread Cert.Kernel32Ideal.nD Cert.Kernel32Ideal.τ).loc Cert.Kernel32Ideal.main_arg0)
          ∧ r.2.mem ((c.tc : Thread Cert.Kernel32Ideal.nD Cert.Kernel32Ideal.τ).loc Cert.Kernel32Ideal.main_arg1) = m ((c.tc : Thread Cert.Kernel32Ideal.nD Cert.Kernel32Ideal.τ).loc Cert.Kernel32Ideal.main_arg1)
          ∧ r.2.mem ((c.tc : Thread Cert.Kernel32Ideal.nD Cert.Kernel32Ideal.τ).loc Cert.Kernel32Ideal.main_arg2) = m ((c.tc : Thread Cert.Kernel32Ideal.nD Cert.Kernel32Ideal.τ).loc Cert.Kernel32Ideal.main_arg2)
          ∧ r.2.mem ((c.tc : Thread Cert.Kernel32Ideal.nD Cert.Kernel32Ideal.τ).loc Cert.Kernel32Ideal.main_arg3) = m ((c.tc : Thread Cert.Kernel32Ideal.nD Cert.Kernel32Ideal.τ).loc Cert.Kernel32Ideal.main_arg3))
      ∧ θ_run (Cert.Reference32Ideal.defs (F := Ideal)) (onTc (τ := Cert.Reference32Ideal.τ) (Cert.Reference32Ideal.main (F := Ideal))) ⟨m', fun _ => 0, g'⟩ (fun r => ∀ c : Dev Cert.Reference32Ideal.nD,
          r.2.mem ((c.tc : Thread Cert.Reference32Ideal.nD Cert.Reference32Ideal.τ).loc Cert.Reference32Ideal.main_v35) = v0 c
          ∧ r.2.mem ((c.tc : Thread Cert.Reference32Ideal.nD Cert.Reference32Ideal.τ).loc Cert.Reference32Ideal.main_v36) = v1 c
          ∧ r.2.mem ((c.tc : Thread Cert.Reference32Ideal.nD Cert.Reference32Ideal.τ).loc Cert.Reference32Ideal.main_v17) = v2 c
          ∧ r.2.mem ((c.tc : Thread Cert.Reference32Ideal.nD Cert.Reference32Ideal.τ).loc Cert.Reference32Ideal.main_arg0) = m' ((c.tc : Thread Cert.Reference32Ideal.nD Cert.Reference32Ideal.τ).loc Cert.Reference32Ideal.main_arg0)
          ∧ r.2.mem ((c.tc : Thread Cert.Reference32Ideal.nD Cert.Reference32Ideal.τ).loc Cert.Reference32Ideal.main_arg1) = m' ((c.tc : Thread Cert.Reference32Ideal.nD Cert.Reference32Ideal.τ).loc Cert.Reference32Ideal.main_arg1)
          ∧ r.2.mem ((c.tc : Thread Cert.Reference32Ideal.nD Cert.Reference32Ideal.τ).loc Cert.Reference32Ideal.main_arg2) = m' ((c.tc : Thread Cert.Reference32Ideal.nD Cert.Reference32Ideal.τ).loc Cert.Reference32Ideal.main_arg2)
          ∧ r.2.mem ((c.tc : Thread Cert.Reference32Ideal.nD Cert.Reference32Ideal.τ).loc Cert.Reference32Ideal.main_arg3) = m' ((c.tc : Thread Cert.Reference32Ideal.nD Cert.Reference32Ideal.τ).loc Cert.Reference32Ideal.main_arg3))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hKernel13 : Cert.Kernel13.Facts) (hKernel13Ideal : Cert.Kernel13Ideal.Facts) (hReference13Ideal : Cert.Reference13Ideal.Facts) (hKernel14 : Cert.Kernel14.Facts) (hKernel14Ideal : Cert.Kernel14Ideal.Facts) (hReference14Ideal : Cert.Reference14Ideal.Facts) (hKernel15 : Cert.Kernel15.Facts) (hKernel15Ideal : Cert.Kernel15Ideal.Facts) (hReference15Ideal : Cert.Reference15Ideal.Facts) (hKernel16 : Cert.Kernel16.Facts) (hKernel16Ideal : Cert.Kernel16Ideal.Facts) (hReference16Ideal : Cert.Reference16Ideal.Facts) (hKernel17 : Cert.Kernel17.Facts) (hKernel17Ideal : Cert.Kernel17Ideal.Facts) (hReference17Ideal : Cert.Reference17Ideal.Facts) (hKernel18 : Cert.Kernel18.Facts) (hKernel18Ideal : Cert.Kernel18Ideal.Facts) (hReference18Ideal : Cert.Reference18Ideal.Facts) (hKernel19 : Cert.Kernel19.Facts) (hKernel19Ideal : Cert.Kernel19Ideal.Facts) (hReference19Ideal : Cert.Reference19Ideal.Facts) (hKernel20 : Cert.Kernel20.Facts) (hKernel20Ideal : Cert.Kernel20Ideal.Facts) (hReference20Ideal : Cert.Reference20Ideal.Facts) (hKernel21 : Cert.Kernel21.Facts) (hKernel21Ideal : Cert.Kernel21Ideal.Facts) (hReference21Ideal : Cert.Reference21Ideal.Facts) (hKernel22 : Cert.Kernel22.Facts) (hKernel22Ideal : Cert.Kernel22Ideal.Facts) (hReference22Ideal : Cert.Reference22Ideal.Facts) (hKernel23 : Cert.Kernel23.Facts) (hKernel23Ideal : Cert.Kernel23Ideal.Facts) (hReference23Ideal : Cert.Reference23Ideal.Facts) (hKernel24 : Cert.Kernel24.Facts) (hKernel24Ideal : Cert.Kernel24Ideal.Facts) (hReference24Ideal : Cert.Reference24Ideal.Facts) (hKernel25 : Cert.Kernel25.Facts) (hKernel25Ideal : Cert.Kernel25Ideal.Facts) (hReference25Ideal : Cert.Reference25Ideal.Facts) (hKernel26 : Cert.Kernel26.Facts) (hKernel26Ideal : Cert.Kernel26Ideal.Facts) (hReference26Ideal : Cert.Reference26Ideal.Facts) (hKernel27 : Cert.Kernel27.Facts) (hKernel27Ideal : Cert.Kernel27Ideal.Facts) (hReference27Ideal : Cert.Reference27Ideal.Facts) (hKernel28 : Cert.Kernel28.Facts) (hKernel28Ideal : Cert.Kernel28Ideal.Facts) (hReference28Ideal : Cert.Reference28Ideal.Facts) (hKernel29 : Cert.Kernel29.Facts) (hKernel29Ideal : Cert.Kernel29Ideal.Facts) (hReference29Ideal : Cert.Reference29Ideal.Facts) (hKernel30 : Cert.Kernel30.Facts) (hKernel30Ideal : Cert.Kernel30Ideal.Facts) (hReference30Ideal : Cert.Reference30Ideal.Facts) (hKernel31 : Cert.Kernel31.Facts) (hKernel31Ideal : Cert.Kernel31Ideal.Facts) (hReference31Ideal : Cert.Reference31Ideal.Facts) (hKernel32 : Cert.Kernel32.Facts) (hKernel32Ideal : Cert.Kernel32Ideal.Facts) (hReference32Ideal : Cert.Reference32Ideal.Facts) (hPre_norm_finite : Cert.Pre_norm_finite.Facts) (hPre_loss_finite : Cert.Pre_loss_finite.Facts) (hPre_gate_finite : Cert.Pre_gate_finite.Facts) (hPre_embed_finite : Cert.Pre_embed_finite.Facts) (hOn_first_rows : Cert.On_first_rows.Facts) (hOn_ret_rows : Cert.On_ret_rows.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel12 (hKernel12 := hKernel12)
    ∧ quiescent_Kernel12Ideal (hKernel12Ideal := hKernel12Ideal)
    ∧ quiescent_Reference12Ideal (hReference12Ideal := hReference12Ideal)
    ∧ quiescent_Kernel13 (hKernel13 := hKernel13)
    ∧ quiescent_Kernel13Ideal (hKernel13Ideal := hKernel13Ideal)
    ∧ quiescent_Reference13Ideal (hReference13Ideal := hReference13Ideal)
    ∧ quiescent_Kernel14 (hKernel14 := hKernel14)
    ∧ quiescent_Kernel14Ideal (hKernel14Ideal := hKernel14Ideal)
    ∧ quiescent_Reference14Ideal (hReference14Ideal := hReference14Ideal)
    ∧ quiescent_Kernel15 (hKernel15 := hKernel15)
    ∧ quiescent_Kernel15Ideal (hKernel15Ideal := hKernel15Ideal)
    ∧ quiescent_Reference15Ideal (hReference15Ideal := hReference15Ideal)
    ∧ quiescent_Kernel16 (hKernel16 := hKernel16)
    ∧ quiescent_Kernel16Ideal (hKernel16Ideal := hKernel16Ideal)
    ∧ quiescent_Reference16Ideal (hReference16Ideal := hReference16Ideal)
    ∧ quiescent_Kernel17 (hKernel17 := hKernel17)
    ∧ quiescent_Kernel17Ideal (hKernel17Ideal := hKernel17Ideal)
    ∧ quiescent_Reference17Ideal (hReference17Ideal := hReference17Ideal)
    ∧ quiescent_Kernel18 (hKernel18 := hKernel18)
    ∧ quiescent_Kernel18Ideal (hKernel18Ideal := hKernel18Ideal)
    ∧ quiescent_Reference18Ideal (hReference18Ideal := hReference18Ideal)
    ∧ quiescent_Kernel19 (hKernel19 := hKernel19)
    ∧ quiescent_Kernel19Ideal (hKernel19Ideal := hKernel19Ideal)
    ∧ quiescent_Reference19Ideal (hReference19Ideal := hReference19Ideal)
    ∧ quiescent_Kernel20 (hKernel20 := hKernel20)
    ∧ quiescent_Kernel20Ideal (hKernel20Ideal := hKernel20Ideal)
    ∧ quiescent_Reference20Ideal (hReference20Ideal := hReference20Ideal)
    ∧ quiescent_Kernel21 (hKernel21 := hKernel21)
    ∧ quiescent_Kernel21Ideal (hKernel21Ideal := hKernel21Ideal)
    ∧ quiescent_Kernel21Ideal_pre_norm_finite (hKernel21Ideal := hKernel21Ideal) (hPre_norm_finite := hPre_norm_finite)
    ∧ quiescent_Reference21Ideal (hReference21Ideal := hReference21Ideal)
    ∧ quiescent_Reference21Ideal_pre_norm_finite (hReference21Ideal := hReference21Ideal) (hPre_norm_finite := hPre_norm_finite)
    ∧ quiescent_Kernel22 (hKernel22 := hKernel22)
    ∧ quiescent_Kernel22Ideal (hKernel22Ideal := hKernel22Ideal)
    ∧ quiescent_Kernel22Ideal_pre_loss_finite (hKernel22Ideal := hKernel22Ideal) (hPre_loss_finite := hPre_loss_finite)
    ∧ quiescent_Reference22Ideal (hReference22Ideal := hReference22Ideal)
    ∧ quiescent_Reference22Ideal_pre_loss_finite (hReference22Ideal := hReference22Ideal) (hPre_loss_finite := hPre_loss_finite)
    ∧ quiescent_Kernel23 (hKernel23 := hKernel23)
    ∧ quiescent_Kernel23Ideal (hKernel23Ideal := hKernel23Ideal)
    ∧ quiescent_Kernel23Ideal_pre_gate_finite (hKernel23Ideal := hKernel23Ideal) (hPre_gate_finite := hPre_gate_finite)
    ∧ quiescent_Reference23Ideal (hReference23Ideal := hReference23Ideal)
    ∧ quiescent_Reference23Ideal_pre_gate_finite (hReference23Ideal := hReference23Ideal) (hPre_gate_finite := hPre_gate_finite)
    ∧ quiescent_Kernel24 (hKernel24 := hKernel24)
    ∧ quiescent_Kernel24Ideal (hKernel24Ideal := hKernel24Ideal)
    ∧ quiescent_Reference24Ideal (hReference24Ideal := hReference24Ideal)
    ∧ quiescent_Kernel25 (hKernel25 := hKernel25)
    ∧ quiescent_Kernel25Ideal (hKernel25Ideal := hKernel25Ideal)
    ∧ quiescent_Reference25Ideal (hReference25Ideal := hReference25Ideal)
    ∧ quiescent_Kernel26 (hKernel26 := hKernel26)
    ∧ quiescent_Kernel26Ideal (hKernel26Ideal := hKernel26Ideal)
    ∧ quiescent_Reference26Ideal (hReference26Ideal := hReference26Ideal)
    ∧ quiescent_Kernel27 (hKernel27 := hKernel27)
    ∧ quiescent_Kernel27Ideal (hKernel27Ideal := hKernel27Ideal)
    ∧ quiescent_Reference27Ideal (hReference27Ideal := hReference27Ideal)
    ∧ quiescent_Kernel28 (hKernel28 := hKernel28)
    ∧ quiescent_Kernel28Ideal (hKernel28Ideal := hKernel28Ideal)
    ∧ quiescent_Reference28Ideal (hReference28Ideal := hReference28Ideal)
    ∧ quiescent_Kernel29 (hKernel29 := hKernel29)
    ∧ quiescent_Kernel29Ideal (hKernel29Ideal := hKernel29Ideal)
    ∧ quiescent_Reference29Ideal (hReference29Ideal := hReference29Ideal)
    ∧ quiescent_Kernel30 (hKernel30 := hKernel30)
    ∧ quiescent_Kernel30Ideal (hKernel30Ideal := hKernel30Ideal)
    ∧ quiescent_Reference30Ideal (hReference30Ideal := hReference30Ideal)
    ∧ quiescent_Kernel31 (hKernel31 := hKernel31)
    ∧ quiescent_Kernel31Ideal (hKernel31Ideal := hKernel31Ideal)
    ∧ quiescent_Reference31Ideal (hReference31Ideal := hReference31Ideal)
    ∧ quiescent_Kernel32 (hKernel32 := hKernel32)
    ∧ quiescent_Kernel32Ideal (hKernel32Ideal := hKernel32Ideal)
    ∧ quiescent_Kernel32Ideal_pre_embed_finite (hKernel32Ideal := hKernel32Ideal) (hPre_embed_finite := hPre_embed_finite)
    ∧ quiescent_Reference32Ideal (hReference32Ideal := hReference32Ideal)
    ∧ quiescent_Reference32Ideal_pre_embed_finite (hReference32Ideal := hReference32Ideal) (hPre_embed_finite := hPre_embed_finite)
    ∧ preserves_Kernel_KernelIdeal
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal_on_first_rows (hKernel3Ideal := hKernel3Ideal) (hReference3Ideal := hReference3Ideal) (hOn_first_rows := hOn_first_rows)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal_on_ret_rows (hKernel11Ideal := hKernel11Ideal) (hReference11Ideal := hReference11Ideal) (hOn_ret_rows := hOn_ret_rows)
    ∧ preserves_Kernel12_Kernel12Ideal
    ∧ algebraic_Kernel12Ideal_Reference12Ideal (hKernel12Ideal := hKernel12Ideal) (hReference12Ideal := hReference12Ideal)
    ∧ preserves_Kernel13_Kernel13Ideal
    ∧ algebraic_Kernel13Ideal_Reference13Ideal (hKernel13Ideal := hKernel13Ideal) (hReference13Ideal := hReference13Ideal)
    ∧ preserves_Kernel14_Kernel14Ideal
    ∧ algebraic_Kernel14Ideal_Reference14Ideal (hKernel14Ideal := hKernel14Ideal) (hReference14Ideal := hReference14Ideal)
    ∧ preserves_Kernel15_Kernel15Ideal
    ∧ algebraic_Kernel15Ideal_Reference15Ideal (hKernel15Ideal := hKernel15Ideal) (hReference15Ideal := hReference15Ideal)
    ∧ preserves_Kernel16_Kernel16Ideal
    ∧ algebraic_Kernel16Ideal_Reference16Ideal (hKernel16Ideal := hKernel16Ideal) (hReference16Ideal := hReference16Ideal)
    ∧ preserves_Kernel17_Kernel17Ideal
    ∧ algebraic_Kernel17Ideal_Reference17Ideal (hKernel17Ideal := hKernel17Ideal) (hReference17Ideal := hReference17Ideal)
    ∧ preserves_Kernel18_Kernel18Ideal
    ∧ algebraic_Kernel18Ideal_Reference18Ideal (hKernel18Ideal := hKernel18Ideal) (hReference18Ideal := hReference18Ideal)
    ∧ preserves_Kernel19_Kernel19Ideal
    ∧ algebraic_Kernel19Ideal_Reference19Ideal (hKernel19Ideal := hKernel19Ideal) (hReference19Ideal := hReference19Ideal)
    ∧ preserves_Kernel20_Kernel20Ideal
    ∧ algebraic_Kernel20Ideal_Reference20Ideal (hKernel20Ideal := hKernel20Ideal) (hReference20Ideal := hReference20Ideal)
    ∧ preserves_Kernel21_Kernel21Ideal
    ∧ algebraic_Kernel21Ideal_Reference21Ideal_pre_norm_finite (hKernel21Ideal := hKernel21Ideal) (hReference21Ideal := hReference21Ideal) (hPre_norm_finite := hPre_norm_finite)
    ∧ preserves_Kernel22_Kernel22Ideal
    ∧ algebraic_Kernel22Ideal_Reference22Ideal_pre_loss_finite (hKernel22Ideal := hKernel22Ideal) (hReference22Ideal := hReference22Ideal) (hPre_loss_finite := hPre_loss_finite)
    ∧ preserves_Kernel23_Kernel23Ideal
    ∧ algebraic_Kernel23Ideal_Reference23Ideal_pre_gate_finite (hKernel23Ideal := hKernel23Ideal) (hReference23Ideal := hReference23Ideal) (hPre_gate_finite := hPre_gate_finite)
    ∧ preserves_Kernel24_Kernel24Ideal
    ∧ algebraic_Kernel24Ideal_Reference24Ideal (hKernel24Ideal := hKernel24Ideal) (hReference24Ideal := hReference24Ideal)
    ∧ preserves_Kernel25_Kernel25Ideal
    ∧ algebraic_Kernel25Ideal_Reference25Ideal (hKernel25Ideal := hKernel25Ideal) (hReference25Ideal := hReference25Ideal)
    ∧ preserves_Kernel26_Kernel26Ideal
    ∧ algebraic_Kernel26Ideal_Reference26Ideal (hKernel26Ideal := hKernel26Ideal) (hReference26Ideal := hReference26Ideal)
    ∧ preserves_Kernel27_Kernel27Ideal
    ∧ algebraic_Kernel27Ideal_Reference27Ideal (hKernel27Ideal := hKernel27Ideal) (hReference27Ideal := hReference27Ideal)
    ∧ preserves_Kernel28_Kernel28Ideal
    ∧ algebraic_Kernel28Ideal_Reference28Ideal (hKernel28Ideal := hKernel28Ideal) (hReference28Ideal := hReference28Ideal)
    ∧ preserves_Kernel29_Kernel29Ideal
    ∧ algebraic_Kernel29Ideal_Reference29Ideal (hKernel29Ideal := hKernel29Ideal) (hReference29Ideal := hReference29Ideal)
    ∧ preserves_Kernel30_Kernel30Ideal
    ∧ algebraic_Kernel30Ideal_Reference30Ideal (hKernel30Ideal := hKernel30Ideal) (hReference30Ideal := hReference30Ideal)
    ∧ preserves_Kernel31_Kernel31Ideal
    ∧ algebraic_Kernel31Ideal_Reference31Ideal (hKernel31Ideal := hKernel31Ideal) (hReference31Ideal := hReference31Ideal)
    ∧ preserves_Kernel32_Kernel32Ideal
    ∧ algebraic_Kernel32Ideal_Reference32Ideal_pre_embed_finite (hKernel32Ideal := hKernel32Ideal) (hReference32Ideal := hReference32Ideal) (hPre_embed_finite := hPre_embed_finite)
-- ==== On_first_rows.lean ====
abbrev S4224x8192 : Shape := ⟨2, ![4224, 8192]⟩
abbrev S2048x8192 : Shape := ⟨2, ![2048, 8192]⟩
abbrev S4224x2048 : Shape := ⟨2, ![4224, 2048]⟩
abbrev S_ : Shape := ⟨0, ![]⟩

class Facts : Prop where
  bcast_S_S4224x2048 : S_.BroadcastsInDim S4224x2048 (![] : Fin 0 → Fin S4224x2048.rank)

variable [Facts]

def fn {F : FTy → Type} [FloatOps F] (main_arg0 : FVec F S4224x8192 .bf16) (main_arg1 : FVec F S2048x8192 .bf16) : IVec S4224x2048 1 :=
  let main_v0 : IVec S4224x2048 32 := iotaInDim S4224x2048 32 0
  let main_c : IVec S_ 32 := constantI S_ 32 1408#32
  let main_v1 : IVec S4224x2048 32 := broadcastInDim S4224x2048 ![] bcast_S_S4224x2048 main_c
  let main_v2 : IVec S4224x2048 1 := cmpi .slt main_v0 main_v1
  main_v2
-- ==== On_ret_rows.lean ====
abbrev S4224x2048 : Shape := ⟨2, ![4224, 2048]⟩
abbrev S3072x2048 : Shape := ⟨2, ![3072, 2048]⟩
abbrev S_ : Shape := ⟨0, ![]⟩

class Facts : Prop where
  bcast_S_S3072x2048 : S_.BroadcastsInDim S3072x2048 (![] : Fin 0 → Fin S3072x2048.rank)

variable [Facts]

def fn {F : FTy → Type} [FloatOps F] (main_arg0 : FVec F S4224x2048 .bf16) (main_arg1 : FVec F S4224x2048 .f32) : IVec S3072x2048 1 :=
  let main_v0 : IVec S3072x2048 32 := iotaInDim S3072x2048 32 0
  let main_c : IVec S_ 32 := constantI S_ 32 2048#32
  let main_v1 : IVec S3072x2048 32 := broadcastInDim S3072x2048 ![] bcast_S_S3072x2048 main_c
  let main_v2 : IVec S3072x2048 1 := cmpi .slt main_v0 main_v1
  main_v2
-- ==== Pre_embed_finite.lean ====
abbrev S4224x2048 : Shape := ⟨2, ![4224, 2048]⟩
abbrev S1x2048 : Shape := ⟨2, ![1, 2048]⟩
abbrev S_ : Shape := ⟨0, ![]⟩

class Facts : Prop where
  bcast_S_S4224x2048 : S_.BroadcastsInDim S4224x2048 (![] : Fin 0 → Fin S4224x2048.rank)
  bcast_S_S1x2048 : S_.BroadcastsInDim S1x2048 (![] : Fin 0 → Fin S1x2048.rank)

variable [Facts]

def fn {F : FTy → Type} [FloatOps F] (main_arg0 : FVec F S4224x2048 .f32) (main_arg1 : FVec F S1x2048 .f32) (main_arg2 : FVec F S4224x2048 .f32) (main_arg3 : FVec F S4224x2048 .f32) : IVec S4224x2048 1 × IVec S1x2048 1 × IVec S4224x2048 1 :=
  let main_v0 : FVec F S4224x2048 .f32 := Host.absf main_arg0
  let main_cst : FVec F S_ .f32 := constant S_ .f32 0x7F800000#32
  let main_v1 : FVec F S4224x2048 .f32 := broadcastInDim S4224x2048 ![] bcast_S_S4224x2048 main_cst
  let main_v2 : IVec S4224x2048 1 := cmpf .olt main_v0 main_v1
  let main_v3 : FVec F S1x2048 .f32 := Host.absf main_arg1
  let main_cst_0 : FVec F S_ .f32 := constant S_ .f32 0x7F800000#32
  let main_v4 : FVec F S1x2048 .f32 := broadcastInDim S1x2048 ![] bcast_S_S1x2048 main_cst_0
  let main_v5 : IVec S1x2048 1 := cmpf .olt main_v3 main_v4
  let main_v6 : FVec F S4224x2048 .f32 := Host.absf main_arg2
  let main_cst_1 : FVec F S_ .f32 := constant S_ .f32 0x7F800000#32
  let main_v7 : FVec F S4224x2048 .f32 := broadcastInDim S4224x2048 ![] bcast_S_S4224x2048 main_cst_1
  let main_v8 : IVec S4224x2048 1 := cmpf .olt main_v6 main_v7
  (main_v2, main_v5, main_v8)
-- ==== Pre_gate_finite.lean ====
abbrev S4224x3072 : Shape := ⟨2, ![4224, 3072]⟩
abbrev S4224x1024 : Shape := ⟨2, ![4224, 1024]⟩
abbrev S4224x8192 : Shape := ⟨2, ![4224, 8192]⟩
abbrev S_ : Shape := ⟨0, ![]⟩

class Facts : Prop where
  bcast_S_S4224x3072 : S_.BroadcastsInDim S4224x3072 (![] : Fin 0 → Fin S4224x3072.rank)
  bitsLt_bf16_f32 : FTy.bits .bf16 < FTy.bits .f32
  bcast_S_S4224x1024 : S_.BroadcastsInDim S4224x1024 (![] : Fin 0 → Fin S4224x1024.rank)

variable [Facts]

def fn {F : FTy → Type} [FloatOps F] (main_arg0 : FVec F S4224x3072 .f32) (main_arg1 : FVec F S4224x1024 .bf16) (main_arg2 : FVec F S4224x1024 .f32) (main_arg3 : FVec F S4224x8192 .f32) (main_arg4 : FVec F S4224x8192 .bf16) : IVec S4224x3072 1 × IVec S4224x1024 1 :=
  let main_v0 : FVec F S4224x3072 .f32 := Host.absf main_arg0
  let main_cst : FVec F S_ .f32 := constant S_ .f32 0x7F800000#32
  let main_v1 : FVec F S4224x3072 .f32 := broadcastInDim S4224x3072 ![] bcast_S_S4224x3072 main_cst
  let main_v2 : IVec S4224x3072 1 := cmpf .olt main_v0 main_v1
  let main_v3 : FVec F S4224x1024 .f32 := (extf .f32 · bitsLt_bf16_f32) main_arg1
  let main_v4 : FVec F S4224x1024 .f32 := Host.absf main_v3
  let main_cst_0 : FVec F S_ .f32 := constant S_ .f32 0x7F800000#32
  let main_v5 : FVec F S4224x1024 .f32 := broadcastInDim S4224x1024 ![] bcast_S_S4224x1024 main_cst_0
  let main_v6 : IVec S4224x1024 1 := cmpf .olt main_v4 main_v5
  (main_v2, main_v6)
-- ==== Pre_loss_finite.lean ====
abbrev S4224x2048 : Shape := ⟨2, ![4224, 2048]⟩
abbrev S1x2048 : Shape := ⟨2, ![1, 2048]⟩
abbrev S4096x2048 : Shape := ⟨2, ![4096, 2048]⟩
abbrev S_ : Shape := ⟨0, ![]⟩

class Facts : Prop where
  bcast_S_S4224x2048 : S_.BroadcastsInDim S4224x2048 (![] : Fin 0 → Fin S4224x2048.rank)
  bcast_S_S1x2048 : S_.BroadcastsInDim S1x2048 (![] : Fin 0 → Fin S1x2048.rank)
  bcast_S_S4096x2048 : S_.BroadcastsInDim S4096x2048 (![] : Fin 0 → Fin S4096x2048.rank)

variable [Facts]

def fn {F : FTy → Type} [FloatOps F] (main_arg0 : FVec F S4224x2048 .f32) (main_arg1 : FVec F S1x2048 .f32) (main_arg2 : FVec F S4096x2048 .f32) : IVec S4224x2048 1 × IVec S1x2048 1 × IVec S4096x2048 1 :=
  let main_v0 : FVec F S4224x2048 .f32 := Host.absf main_arg0
  let main_cst : FVec F S_ .f32 := constant S_ .f32 0x7F800000#32
  let main_v1 : FVec F S4224x2048 .f32 := broadcastInDim S4224x2048 ![] bcast_S_S4224x2048 main_cst
  let main_v2 : IVec S4224x2048 1 := cmpf .olt main_v0 main_v1
  let main_v3 : FVec F S1x2048 .f32 := Host.absf main_arg1
  let main_cst_0 : FVec F S_ .f32 := constant S_ .f32 0x7F800000#32
  let main_v4 : FVec F S1x2048 .f32 := broadcastInDim S1x2048 ![] bcast_S_S1x2048 main_cst_0
  let main_v5 : IVec S1x2048 1 := cmpf .olt main_v3 main_v4
  let main_v6 : FVec F S4096x2048 .f32 := Host.absf main_arg2
  let main_cst_1 : FVec F S_ .f32 := constant S_ .f32 0x7F800000#32
  let main_v7 : FVec F S4096x2048 .f32 := broadcastInDim S4096x2048 ![] bcast_S_S4096x2048 main_cst_1
  let main_v8 : IVec S4096x2048 1 := cmpf .olt main_v6 main_v7
  (main_v2, main_v5, main_v8)
-- ==== Pre_norm_finite.lean ====
abbrev S4224x2048 : Shape := ⟨2, ![4224, 2048]⟩
abbrev S1x2048 : Shape := ⟨2, ![1, 2048]⟩
abbrev S_ : Shape := ⟨0, ![]⟩

class Facts : Prop where
  bcast_S_S4224x2048 : S_.BroadcastsInDim S4224x2048 (![] : Fin 0 → Fin S4224x2048.rank)
  bcast_S_S1x2048 : S_.BroadcastsInDim S1x2048 (![] : Fin 0 → Fin S1x2048.rank)

variable [Facts]

def fn {F : FTy → Type} [FloatOps F] (main_arg0 : FVec F S4224x2048 .f32) (main_arg1 : FVec F S1x2048 .f32) (main_arg2 : FVec F S4224x2048 .f32) (main_arg3 : FVec F S4224x2048 .f32) : IVec S4224x2048 1 × IVec S1x2048 1 × IVec S4224x2048 1 :=
  let main_v0 : FVec F S4224x2048 .f32 := Host.absf main_arg0
  let main_cst : FVec F S_ .f32 := constant S_ .f32 0x7F800000#32
  let main_v1 : FVec F S4224x2048 .f32 := broadcastInDim S4224x2048 ![] bcast_S_S4224x2048 main_cst
  let main_v2 : IVec S4224x2048 1 := cmpf .olt main_v0 main_v1
  let main_v3 : FVec F S1x2048 .f32 := Host.absf main_arg1
  let main_cst_0 : FVec F S_ .f32 := constant S_ .f32 0x7F800000#32
  let main_v4 : FVec F S1x2048 .f32 := broadcastInDim S1x2048 ![] bcast_S_S1x2048 main_cst_0
  let main_v5 : IVec S1x2048 1 := cmpf .olt main_v3 main_v4
  let main_v6 : FVec F S4224x2048 .f32 := Host.absf main_arg2
  let main_cst_1 : FVec F S_ .f32 := constant S_ .f32 0x7F800000#32
  let main_v7 : FVec F S4224x2048 .f32 := broadcastInDim S4224x2048 ![] bcast_S_S4224x2048 main_cst_1
  let main_v8 : IVec S4224x2048 1 := cmpf .olt main_v6 main_v7
  (main_v2, main_v5, main_v8)
-- ==== Kernel.lean ====
abbrev S4112x8192 : Shape := ⟨2, ![4112, 8192]⟩
abbrev S1x2048 : Shape := ⟨2, ![1, 2048]⟩
abbrev S4112x2048 : Shape := ⟨2, ![4112, 2048]⟩
abbrev S_ : Shape := ⟨0, ![]⟩
abbrev S4224x8192 : Shape := ⟨2, ![4224, 8192]⟩
abbrev S4224x2048 : Shape := ⟨2, ![4224, 2048]⟩
abbrev S4224 : Shape := ⟨1, ![4224]⟩
abbrev S64 : Shape := ⟨1, ![64]⟩
abbrev S4224x1 : Shape := ⟨2, ![4224, 1]⟩
abbrev S1x64 : Shape := ⟨2, ![1, 64]⟩
abbrev S4224x64 : Shape := ⟨2, ![4224, 64]⟩
abbrev S4224x128 : Shape := ⟨2, ![4224, 128]⟩
abbrev S8 : Shape := ⟨1, ![8]⟩
abbrev S128 : Shape := ⟨1, ![128]⟩
abbrev S128x1 : Shape := ⟨2, ![128, 1]⟩
abbrev S1x128 : Shape := ⟨2, ![1, 128]⟩
abbrev S128x128 : Shape := ⟨2, ![128, 128]⟩
abbrev S8x1x1 : Shape := ⟨3, ![8, 1, 1]⟩
abbrev S1x128x128 : Shape := ⟨3, ![1, 128, 128]⟩
abbrev S8x128x128 : Shape := ⟨3, ![8, 128, 128]⟩
abbrev S8x1 : Shape := ⟨2, ![8, 1]⟩
abbrev S8x128 : Shape := ⟨2, ![8, 128]⟩
abbrev S8x128x1 : Shape := ⟨3, ![8, 128, 1]⟩
abbrev S8x1x256 : Shape := ⟨3, ![8, 1, 256]⟩
abbrev S4112 : Shape := ⟨1, ![4112]⟩
abbrev S4112x1 : Shape := ⟨2, ![4112, 1]⟩
abbrev S4112x64 : Shape := ⟨2, ![4112, 64]⟩
abbrev S1x4112x8192 : Shape := ⟨3, ![1, 4112, 8192]⟩
abbrev S1x4112x1024 : Shape := ⟨3, ![1, 4112, 1024]⟩
abbrev S1x4112x2048 : Shape := ⟨3, ![1, 4112, 2048]⟩
abbrev S1x4112x8x128 : Shape := ⟨4, ![1, 4112, 8, 128]⟩
abbrev S1x4112x8x64 : Shape := ⟨4, ![1, 4112, 8, 64]⟩
abbrev S1x4112x1x64 : Shape := ⟨4, ![1, 4112, 1, 64]⟩
abbrev S1x4112x8x256 : Shape := ⟨4, ![1, 4112, 8, 256]⟩
abbrev S1x112x8x128 : Shape := ⟨4, ![1, 112, 8, 128]⟩
abbrev S1x4224x8x128 : Shape := ⟨4, ![1, 4224, 8, 128]⟩
abbrev S1x33x128x8x128 : Shape := ⟨5, ![1, 33, 128, 8, 128]⟩
abbrev S1x8x33x128x128 : Shape := ⟨5, ![1, 8, 33, 128, 128]⟩
abbrev S1x112x8x256 : Shape := ⟨4, ![1, 112, 8, 256]⟩
abbrev S1x4224x8x256 : Shape := ⟨4, ![1, 4224, 8, 256]⟩
abbrev S1x33x128x8x256 : Shape := ⟨5, ![1, 33, 128, 8, 256]⟩
abbrev S1x8x33x128x256 : Shape := ⟨5, ![1, 8, 33, 128, 256]⟩
abbrev S1x8x1x128x128 : Shape := ⟨5, ![1, 8, 1, 128, 128]⟩
abbrev S1x8x1x128x1 : Shape := ⟨5, ![1, 8, 1, 128, 1]⟩
abbrev S33x1x8x128x256 : Shape := ⟨5, ![33, 1, 8, 128, 256]⟩
abbrev S1x1x8x1x1 : Shape := ⟨5, ![1, 1, 8, 1, 1]⟩
abbrev S1x1x8x128x256 : Shape := ⟨5, ![1, 1, 8, 128, 256]⟩
abbrev S11x1x8x128x256 : Shape := ⟨5, ![11, 1, 8, 128, 256]⟩
abbrev S4112x8x256 : Shape := ⟨3, ![4112, 8, 256]⟩
abbrev S33x8x128x256 : Shape := ⟨4, ![33, 8, 128, 256]⟩
abbrev S8x33x128x256 : Shape := ⟨4, ![8, 33, 128, 256]⟩
abbrev S128x1024 : Shape := ⟨2, ![128, 1024]⟩
abbrev S128x2048 : Shape := ⟨2, ![128, 2048]⟩
abbrev S8x1x128x256 : Shape := ⟨4, ![8, 1, 128, 256]⟩
abbrev S128x6144 : Shape := ⟨2, ![128, 6144]⟩
abbrev S8x128x256 : Shape := ⟨3, ![8, 128, 256]⟩
abbrev S128x256 : Shape := ⟨2, ![128, 256]⟩
abbrev S1x256 : Shape := ⟨2, ![1, 256]⟩
abbrev S256 : Shape := ⟨1, ![256]⟩
abbrev S1x1x256 : Shape := ⟨3, ![1, 1, 256]⟩
abbrev S1x1x128x256 : Shape := ⟨4, ![1, 1, 128, 256]⟩
abbrev S1x128x256 : Shape := ⟨3, ![1, 128, 256]⟩

abbrev nBuf : Space → Nat
  | .hbm => 371
  | .vmem => 27
  | .smem => 0
  | _ => 0

abbrev hbmTy0_0 (i : Nat) : BufTy := match i % 128 with
  | 0 => ⟨S4112x8192, .f32⟩
  | 1 => ⟨S1x2048, .f32⟩
  | 2 => ⟨S4112x2048, .f32⟩
  | 3 => ⟨S_, .i32⟩
  | 4 => ⟨S_, .f32⟩
  | 5 => ⟨S4224x8192, .f32⟩
  | 6 => ⟨S_, .i32⟩
  | 7 => ⟨S_, .f32⟩
  | 8 => ⟨S4224x2048, .f32⟩
  | 9 => ⟨S4224, .f32⟩
  | 10 => ⟨S_, .f32⟩
  | 11 => ⟨S4224, .f32⟩
  | 12 => ⟨S4224, .f32⟩
  | 13 => ⟨S64, .f32⟩
  | 14 => ⟨S_, .f32⟩
  | 15 => ⟨S64, .f32⟩
  | 16 => ⟨S64, .f32⟩
  | 17 => ⟨S_, .f32⟩
  | 18 => ⟨S64, .f32⟩
  | 19 => ⟨S64, .f32⟩
  | 20 => ⟨S64, .f32⟩
  | 21 => ⟨S_, .f32⟩
  | 22 => ⟨S64, .f32⟩
  | 23 => ⟨S64, .f32⟩
  | 24 => ⟨S_, .f32⟩
  | 25 => ⟨S64, .f32⟩
  | 26 => ⟨S64, .f32⟩
  | 27 => ⟨S4224x1, .f32⟩
  | 28 => ⟨S1x64, .f32⟩
  | 29 => ⟨S4224x64, .f32⟩
  | 30 => ⟨S4224x64, .f32⟩
  | 31 => ⟨S4224x64, .f32⟩
  | 32 => ⟨S4224x64, .f32⟩
  | 33 => ⟨S4224x64, .f32⟩
  | 34 => ⟨S4224x128, .f32⟩
  | 35 => ⟨S4224x64, .f32⟩
  | 36 => ⟨S4224x128, .f32⟩
  | 37 => ⟨S8, .f32⟩
  | 38 => ⟨S_, .f32⟩
  | 39 => ⟨S8, .f32⟩
  | 40 => ⟨S8, .f32⟩
  | 41 => ⟨S_, .f32⟩
  | 42 => ⟨S8, .f32⟩
  | 43 => ⟨S8, .f32⟩
  | 44 => ⟨S8, .f32⟩
  | 45 => ⟨S8, .f32⟩
  | 46 => ⟨S8, .f32⟩
  | 47 => ⟨S128, .f32⟩
  | 48 => ⟨S128x1, .f32⟩
  | 49 => ⟨S1x128, .f32⟩
  | 50 => ⟨S128x128, .f32⟩
  | 51 => ⟨S128x128, .f32⟩
  | 52 => ⟨S128x128, .f32⟩
  | 53 => ⟨S_, .f32⟩
  | 54 => ⟨S128x128, .f32⟩
  | 55 => ⟨S128x128, .i1⟩
  | 56 => ⟨S8x1x1, .f32⟩
  | 57 => ⟨S_, .f32⟩
  | 58 => ⟨S128x128, .f32⟩
  | 59 => ⟨S128x128, .f32⟩
  | 60 => ⟨S1x128x128, .f32⟩
  | 61 => ⟨S8x128x128, .f32⟩
  | 62 => ⟨S8x128x128, .f32⟩
  | 63 => ⟨S8x128x128, .f32⟩
  | 64 => ⟨S8x128x128, .f32⟩
  | 65 => ⟨S_, .f32⟩
  | 66 => ⟨S_, .f32⟩
  | 67 => ⟨S8x128x128, .i1⟩
  | 68 => ⟨S8x128x128, .f32⟩
  | 69 => ⟨S8x128x128, .f32⟩
  | 70 => ⟨S8x1, .f32⟩
  | 71 => ⟨S_, .f32⟩
  | 72 => ⟨S128, .f32⟩
  | 73 => ⟨S128, .f32⟩
  | 74 => ⟨S1x128, .f32⟩
  | 75 => ⟨S8x128, .f32⟩
  | 76 => ⟨S8x128, .f32⟩
  | 77 => ⟨S8x128, .f32⟩
  | 78 => ⟨S8x128, .f32⟩
  | 79 => ⟨S8x1, .f32⟩
  | 80 => ⟨S_, .f32⟩
  | 81 => ⟨S128, .f32⟩
  | 82 => ⟨S128, .f32⟩
  | 83 => ⟨S1x128, .f32⟩
  | 84 => ⟨S8x128, .f32⟩
  | 85 => ⟨S8x128, .f32⟩
  | 86 => ⟨S8x128, .f32⟩
  | 87 => ⟨S8x128, .f32⟩
  | 88 => ⟨S_, .f32⟩
  | 89 => ⟨S8, .f32⟩
  | 90 => ⟨S8, .f32⟩
  | 91 => ⟨S8, .f32⟩
  | 92 => ⟨S8x128x1, .f32⟩
  | 93 => ⟨S8x128x128, .f32⟩
  | 94 => ⟨S8x128x1, .f32⟩
  | 95 => ⟨S8x128x128, .f32⟩
  | 96 => ⟨S8x1x1, .f32⟩
  | 97 => ⟨S8x1x256, .f32⟩
  | 98 => ⟨S4112, .f32⟩
  | 99 => ⟨S64, .f32⟩
  | 100 => ⟨S_, .f32⟩
  | 101 => ⟨S64, .f32⟩
  | 102 => ⟨S64, .f32⟩
  | 103 => ⟨S_, .f32⟩
  | 104 => ⟨S64, .f32⟩
  | 105 => ⟨S64, .f32⟩
  | 106 => ⟨S64, .f32⟩
  | 107 => ⟨S_, .f32⟩
  | 108 => ⟨S64, .f32⟩
  | 109 => ⟨S64, .f32⟩
  | 110 => ⟨S_, .f32⟩
  | 111 => ⟨S64, .f32⟩
  | 112 => ⟨S64, .f32⟩
  | 113 => ⟨S4112x1, .f32⟩
  | 114 => ⟨S1x64, .f32⟩
  | 115 => ⟨S4112x64, .f32⟩
  | 116 => ⟨S4112x64, .f32⟩
  | 117 => ⟨S4112x64, .f32⟩
  | 118 => ⟨S4112x64, .f32⟩
  | 119 => ⟨S4112x64, .f32⟩
  | 120 => ⟨S1x4112x8192, .f32⟩
  | 121 => ⟨S1x4112x1024, .f32⟩
  | 122 => ⟨S1x4112x1024, .f32⟩
  | 123 => ⟨S1x4112x2048, .f32⟩
  | 124 => ⟨S1x4112x2048, .f32⟩
  | 125 => ⟨S1x4112x1024, .f32⟩
  | 126 => ⟨S1x4112x1024, .f32⟩
  | 127 => ⟨S1x4112x8x128, .f32⟩
  | _ => ⟨S4112x8192, .f32⟩

abbrev hbmTy0_1 (i : Nat) : BufTy := match i % 128 with
  | 0 => ⟨S1x4112x8x64, .f32⟩
  | 1 => ⟨S1x4112x8x64, .f32⟩
  | 2 => ⟨S1x4112x1x64, .f32⟩
  | 3 => ⟨S1x4112x1x64, .f32⟩
  | 4 => ⟨S1x4112x8x64, .f32⟩
  | 5 => ⟨S1x4112x8x64, .f32⟩
  | 6 => ⟨S1x4112x8x64, .f32⟩
  | 7 => ⟨S1x4112x8x64, .f32⟩
  | 8 => ⟨S1x4112x8x64, .f32⟩
  | 9 => ⟨S1x4112x8x64, .f32⟩
  | 10 => ⟨S1x4112x8x64, .f32⟩
  | 11 => ⟨S1x4112x8x64, .f32⟩
  | 12 => ⟨S1x4112x8x64, .f32⟩
  | 13 => ⟨S1x4112x8x64, .f32⟩
  | 14 => ⟨S1x4112x8x128, .f32⟩
  | 15 => ⟨S1x4112x8x128, .f32⟩
  | 16 => ⟨S1x4112x8x64, .f32⟩
  | 17 => ⟨S1x4112x8x64, .f32⟩
  | 18 => ⟨S1x4112x1x64, .f32⟩
  | 19 => ⟨S1x4112x1x64, .f32⟩
  | 20 => ⟨S1x4112x8x64, .f32⟩
  | 21 => ⟨S1x4112x8x64, .f32⟩
  | 22 => ⟨S1x4112x8x64, .f32⟩
  | 23 => ⟨S1x4112x8x64, .f32⟩
  | 24 => ⟨S1x4112x8x64, .f32⟩
  | 25 => ⟨S1x4112x8x64, .f32⟩
  | 26 => ⟨S1x4112x8x64, .f32⟩
  | 27 => ⟨S1x4112x8x64, .f32⟩
  | 28 => ⟨S1x4112x8x64, .f32⟩
  | 29 => ⟨S1x4112x8x64, .f32⟩
  | 30 => ⟨S1x4112x8x128, .f32⟩
  | 31 => ⟨S_, .f32⟩
  | 32 => ⟨S1x4112x8x128, .f32⟩
  | 33 => ⟨S1x4112x8x128, .f32⟩
  | 34 => ⟨S1x4112x8x256, .f32⟩
  | 35 => ⟨S_, .f32⟩
  | 36 => ⟨S1x112x8x128, .f32⟩
  | 37 => ⟨S1x4224x8x128, .f32⟩
  | 38 => ⟨S1x33x128x8x128, .f32⟩
  | 39 => ⟨S1x8x33x128x128, .f32⟩
  | 40 => ⟨S_, .f32⟩
  | 41 => ⟨S1x112x8x128, .f32⟩
  | 42 => ⟨S1x4224x8x128, .f32⟩
  | 43 => ⟨S1x33x128x8x128, .f32⟩
  | 44 => ⟨S1x8x33x128x128, .f32⟩
  | 45 => ⟨S_, .f32⟩
  | 46 => ⟨S1x112x8x256, .f32⟩
  | 47 => ⟨S1x4224x8x256, .f32⟩
  | 48 => ⟨S1x33x128x8x256, .f32⟩
  | 49 => ⟨S1x8x33x128x256, .f32⟩
  | 50 => ⟨S8, .f32⟩
  | 51 => ⟨S_, .f32⟩
  | 52 => ⟨S8, .f32⟩
  | 53 => ⟨S8, .f32⟩
  | 54 => ⟨S_, .f32⟩
  | 55 => ⟨S8, .f32⟩
  | 56 => ⟨S8, .f32⟩
  | 57 => ⟨S8, .f32⟩
  | 58 => ⟨S8, .f32⟩
  | 59 => ⟨S8, .f32⟩
  | 60 => ⟨S128, .f32⟩
  | 61 => ⟨S128x1, .f32⟩
  | 62 => ⟨S1x128, .f32⟩
  | 63 => ⟨S128x128, .f32⟩
  | 64 => ⟨S128x128, .f32⟩
  | 65 => ⟨S128x128, .f32⟩
  | 66 => ⟨S_, .f32⟩
  | 67 => ⟨S128x128, .f32⟩
  | 68 => ⟨S128x128, .i1⟩
  | 69 => ⟨S8x1x1, .f32⟩
  | 70 => ⟨S_, .f32⟩
  | 71 => ⟨S128x128, .f32⟩
  | 72 => ⟨S128x128, .f32⟩
  | 73 => ⟨S1x128x128, .f32⟩
  | 74 => ⟨S8x128x128, .f32⟩
  | 75 => ⟨S8x128x128, .f32⟩
  | 76 => ⟨S8x128x128, .f32⟩
  | 77 => ⟨S8x128x128, .f32⟩
  | 78 => ⟨S_, .f32⟩
  | 79 => ⟨S_, .f32⟩
  | 80 => ⟨S8x128x128, .i1⟩
  | 81 => ⟨S8x128x128, .f32⟩
  | 82 => ⟨S8x128x128, .f32⟩
  | 83 => ⟨S1x8x33x128x128, .f32⟩
  | 84 => ⟨S1x8x1x128x128, .f32⟩
  | 85 => ⟨S1x8x33x128x128, .f32⟩
  | 86 => ⟨S1x8x33x128x128, .f32⟩
  | 87 => ⟨S1x8x33x128x256, .f32⟩
  | 88 => ⟨S8x1, .f32⟩
  | 89 => ⟨S_, .f32⟩
  | 90 => ⟨S128, .f32⟩
  | 91 => ⟨S128, .f32⟩
  | 92 => ⟨S1x128, .f32⟩
  | 93 => ⟨S8x128, .f32⟩
  | 94 => ⟨S8x128, .f32⟩
  | 95 => ⟨S8x128, .f32⟩
  | 96 => ⟨S8x128, .f32⟩
  | 97 => ⟨S1x8x1x128x1, .f32⟩
  | 98 => ⟨S1x8x33x128x128, .f32⟩
  | 99 => ⟨S1x8x33x128x128, .f32⟩
  | 100 => ⟨S33x1x8x128x256, .f32⟩
  | 101 => ⟨S_, .f32⟩
  | 102 => ⟨S8, .f32⟩
  | 103 => ⟨S8, .f32⟩
  | 104 => ⟨S8, .f32⟩
  | 105 => ⟨S1x1x8x1x1, .f32⟩
  | 106 => ⟨S1x1x8x128x256, .f32⟩
  | 107 => ⟨S1x1x8x128x256, .f32⟩
  | 108 => ⟨S_, .f32⟩
  | 109 => ⟨S1x1x8x128x256, .f32⟩
  | 110 => ⟨S11x1x8x128x256, .f32⟩
  | 111 => ⟨S11x1x8x128x256, .f32⟩
  | 112 => ⟨S11x1x8x128x256, .f32⟩
  | 113 => ⟨S1x1x8x128x256, .f32⟩
  | 114 => ⟨S1x1x8x128x256, .f32⟩
  | 115 => ⟨S1x1x8x128x256, .f32⟩
  | 116 => ⟨S1x1x8x128x256, .f32⟩
  | 117 => ⟨S1x1x8x128x256, .f32⟩
  | 118 => ⟨S1x1x8x128x256, .f32⟩
  | 119 => ⟨S1x1x8x128x256, .f32⟩
  | 120 => ⟨S1x1x8x128x256, .f32⟩
  | 121 => ⟨S1x1x8x128x256, .f32⟩
  | 122 => ⟨S1x1x8x128x256, .f32⟩
  | 123 => ⟨S1x1x8x128x256, .f32⟩
  | 124 => ⟨S1x1x8x128x256, .f32⟩
  | 125 => ⟨S1x1x8x128x256, .f32⟩
  | 126 => ⟨S1x1x8x128x256, .f32⟩
  | 127 => ⟨S1x1x8x128x256, .f32⟩
  | _ => ⟨S4112x8192, .f32⟩

abbrev hbmTy0_2 (i : Nat) : BufTy := match i % 128 with
  | 0 => ⟨S1x1x8x128x256, .f32⟩
  | 1 => ⟨S1x1x8x128x256, .f32⟩
  | 2 => ⟨S1x1x8x128x256, .f32⟩
  | 3 => ⟨S1x1x8x128x256, .f32⟩
  | 4 => ⟨S1x1x8x128x256, .f32⟩
  | 5 => ⟨S1x1x8x128x256, .f32⟩
  | 6 => ⟨S1x1x8x128x256, .f32⟩
  | 7 => ⟨S1x1x8x128x256, .f32⟩
  | 8 => ⟨S1x1x8x128x256, .f32⟩
  | 9 => ⟨S1x1x8x128x256, .f32⟩
  | 10 => ⟨S1x1x8x128x256, .f32⟩
  | 11 => ⟨S1x1x8x128x256, .f32⟩
  | 12 => ⟨S1x1x8x128x256, .f32⟩
  | 13 => ⟨S1x1x8x128x256, .f32⟩
  | 14 => ⟨S1x1x8x128x256, .f32⟩
  | 15 => ⟨S1x1x8x128x256, .f32⟩
  | 16 => ⟨S1x1x8x128x256, .f32⟩
  | 17 => ⟨S1x1x8x128x256, .f32⟩
  | 18 => ⟨S11x1x8x128x256, .f32⟩
  | 19 => ⟨S1x1x8x128x256, .f32⟩
  | 20 => ⟨S1x1x8x128x256, .f32⟩
  | 21 => ⟨S1x1x8x128x256, .f32⟩
  | 22 => ⟨S1x1x8x128x256, .f32⟩
  | 23 => ⟨S1x1x8x128x256, .f32⟩
  | 24 => ⟨S1x1x8x128x256, .f32⟩
  | 25 => ⟨S1x1x8x128x256, .f32⟩
  | 26 => ⟨S1x1x8x128x256, .f32⟩
  | 27 => ⟨S1x1x8x128x256, .f32⟩
  | 28 => ⟨S1x1x8x128x256, .f32⟩
  | 29 => ⟨S1x1x8x128x256, .f32⟩
  | 30 => ⟨S1x1x8x128x256, .f32⟩
  | 31 => ⟨S1x1x8x128x256, .f32⟩
  | 32 => ⟨S1x1x8x128x256, .f32⟩
  | 33 => ⟨S1x1x8x128x256, .f32⟩
  | 34 => ⟨S1x1x8x128x256, .f32⟩
  | 35 => ⟨S1x1x8x128x256, .f32⟩
  | 36 => ⟨S1x1x8x128x256, .f32⟩
  | 37 => ⟨S1x1x8x128x256, .f32⟩
  | 38 => ⟨S1x1x8x128x256, .f32⟩
  | 39 => ⟨S1x1x8x128x256, .f32⟩
  | 40 => ⟨S1x1x8x128x256, .f32⟩
  | 41 => ⟨S1x1x8x128x256, .f32⟩
  | 42 => ⟨S1x1x8x128x256, .f32⟩
  | 43 => ⟨S1x1x8x128x256, .f32⟩
  | 44 => ⟨S1x1x8x128x256, .f32⟩
  | 45 => ⟨S1x1x8x128x256, .f32⟩
  | 46 => ⟨S1x1x8x128x256, .f32⟩
  | 47 => ⟨S1x1x8x128x256, .f32⟩
  | 48 => ⟨S1x1x8x128x256, .f32⟩
  | 49 => ⟨S1x1x8x128x256, .f32⟩
  | 50 => ⟨S1x1x8x128x256, .f32⟩
  | 51 => ⟨S1x1x8x128x256, .f32⟩
  | 52 => ⟨S11x1x8x128x256, .f32⟩
  | 53 => ⟨S1x1x8x128x256, .f32⟩
  | 54 => ⟨S1x1x8x128x256, .f32⟩
  | 55 => ⟨S1x1x8x128x256, .f32⟩
  | 56 => ⟨S1x1x8x128x256, .f32⟩
  | 57 => ⟨S1x1x8x128x256, .f32⟩
  | 58 => ⟨S1x1x8x128x256, .f32⟩
  | 59 => ⟨S1x1x8x128x256, .f32⟩
  | 60 => ⟨S1x1x8x128x256, .f32⟩
  | 61 => ⟨S1x1x8x128x256, .f32⟩
  | 62 => ⟨S1x1x8x128x256, .f32⟩
  | 63 => ⟨S1x1x8x128x256, .f32⟩
  | 64 => ⟨S1x1x8x128x256, .f32⟩
  | 65 => ⟨S1x1x8x128x256, .f32⟩
  | 66 => ⟨S1x1x8x128x256, .f32⟩
  | 67 => ⟨S1x1x8x128x256, .f32⟩
  | 68 => ⟨S1x1x8x128x256, .f32⟩
  | 69 => ⟨S1x1x8x128x256, .f32⟩
  | 70 => ⟨S1x1x8x128x256, .f32⟩
  | 71 => ⟨S1x1x8x128x256, .f32⟩
  | 72 => ⟨S1x1x8x128x256, .f32⟩
  | 73 => ⟨S1x1x8x128x256, .f32⟩
  | 74 => ⟨S1x1x8x128x256, .f32⟩
  | 75 => ⟨S1x1x8x128x256, .f32⟩
  | 76 => ⟨S1x1x8x128x256, .f32⟩
  | 77 => ⟨S1x1x8x128x256, .f32⟩
  | 78 => ⟨S1x1x8x128x256, .f32⟩
  | 79 => ⟨S1x1x8x128x256, .f32⟩
  | 80 => ⟨S1x1x8x128x256, .f32⟩
  | 81 => ⟨S1x1x8x128x256, .f32⟩
  | 82 => ⟨S1x1x8x128x256, .f32⟩
  | 83 => ⟨S1x1x8x128x256, .f32⟩
  | 84 => ⟨S1x1x8x128x256, .f32⟩
  | 85 => ⟨S1x1x8x128x256, .f32⟩
  | 86 => ⟨S11x1x8x128x256, .f32⟩
  | 87 => ⟨S33x1x8x128x256, .f32⟩
  | 88 => ⟨S8x1, .f32⟩
  | 89 => ⟨S_, .f32⟩
  | 90 => ⟨S128, .f32⟩
  | 91 => ⟨S128, .f32⟩
  | 92 => ⟨S1x128, .f32⟩
  | 93 => ⟨S8x128, .f32⟩
  | 94 => ⟨S8x128, .f32⟩
  | 95 => ⟨S8x128, .f32⟩
  | 96 => ⟨S8x128, .f32⟩
  | 97 => ⟨S1x8x1x128x1, .f32⟩
  | 98 => ⟨S1x8x33x128x128, .f32⟩
  | 99 => ⟨S1x8x33x128x128, .f32⟩
  | 100 => ⟨S1x8x33x128x256, .f32⟩
  | 101 => ⟨S1x8x33x128x256, .f32⟩
  | 102 => ⟨S1x33x128x8x256, .f32⟩
  | 103 => ⟨S1x4224x8x256, .f32⟩
  | 104 => ⟨S1x4112x8x256, .f32⟩
  | 105 => ⟨S4112x8x256, .f32⟩
  | 106 => ⟨S4112x2048, .f32⟩
  | 107 => ⟨S_, .i32⟩
  | 108 => ⟨S_, .f32⟩
  | 109 => ⟨S4224x2048, .f32⟩
  | 110 => ⟨S33x8x128x256, .f32⟩
  | 111 => ⟨S8x33x128x256, .f32⟩
  | 112 => ⟨S8x33x128x256, .bf16⟩
  | 113 => ⟨S4224x8192, .bf16⟩
  | 114 => ⟨S8x1x256, .f32⟩
  | _ => ⟨S4112x8192, .f32⟩

abbrev hbmTy (i : Nat) : BufTy := match i / 128 with
  | 0 => hbmTy0_0 i
  | 1 => hbmTy0_1 i
  | 2 => hbmTy0_2 i
  | _ => ⟨S4112x8192, .f32⟩

abbrev bufTy : (tb : Table) → Fin (tcTables nBuf tb) → BufTy
  | .hbm, ⟨i, _⟩ => hbmTy i
  | .local _ .vmem, ⟨0, _⟩ => ⟨S128x1024, .f32⟩
  | .local _ .vmem, ⟨1, _⟩ => ⟨S128x1024, .f32⟩
  | .local _ .vmem, ⟨2, _⟩ => ⟨S128x1024, .f32⟩
  | .local _ .vmem, ⟨3, _⟩ => ⟨S128x1024, .f32⟩
  | .local _ .vmem, ⟨4, _⟩ => ⟨S128x2048, .f32⟩
  | .local _ .vmem, ⟨5, _⟩ => ⟨S128x2048, .f32⟩
  | .local _ .vmem, ⟨6, _⟩ => ⟨S128x2048, .f32⟩
  | .local _ .vmem, ⟨7, _⟩ => ⟨S128x2048, .f32⟩
  | .local _ .vmem, ⟨8, _⟩ => ⟨S128x128, .f32⟩
  | .local _ .vmem, ⟨9, _⟩ => ⟨S128x128, .f32⟩
  | .local _ .vmem, ⟨10, _⟩ => ⟨S128x128, .f32⟩
  | .local _ .vmem, ⟨11, _⟩ => ⟨S128x128, .f32⟩
  | .local _ .vmem, ⟨12, _⟩ => ⟨S8x128x128, .f32⟩
  | .local _ .vmem, ⟨13, _⟩ => ⟨S8x128x128, .f32⟩
  | .local _ .vmem, ⟨14, _⟩ => ⟨S8x128x128, .f32⟩
  | .local _ .vmem, ⟨15, _⟩ => ⟨S8x1x256, .f32⟩
  | .local _ .vmem, ⟨16, _⟩ => ⟨S1x2048, .f32⟩
  | .local _ .vmem, ⟨17, _⟩ => ⟨S128x2048, .f32⟩
  | .local _ .vmem, ⟨18, _⟩ => ⟨S128x2048, .f32⟩
  | .local _ .vmem, ⟨19, _⟩ => ⟨S128x2048, .f32⟩
  | .local _ .vmem, ⟨20, _⟩ => ⟨S128x2048, .f32⟩
  | .local _ .vmem, ⟨21, _⟩ => ⟨S8x1x128x256, .bf16⟩
  | .local _ .vmem, ⟨22, _⟩ => ⟨S8x1x128x256, .bf16⟩
  | .local _ .vmem, ⟨23, _⟩ => ⟨S128x6144, .bf16⟩
  | .local _ .vmem, ⟨24, _⟩ => ⟨S128x6144, .bf16⟩
  | .local _ .vmem, ⟨25, _⟩ => ⟨S8x1x256, .f32⟩
  | .local _ .vmem, ⟨26, _⟩ => ⟨S8x128x256, .f32⟩
  | _, _ => ⟨S4112x8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_call0_v0 : Ref sig .tc := ⟨.hbm, 4, rfl⟩
abbrev main_v0 : Ref sig .tc := ⟨.hbm, 5, rfl⟩
abbrev main_c_0 : Ref sig .tc := ⟨.hbm, 6, rfl⟩
abbrev main_call1_v0 : Ref sig .tc := ⟨.hbm, 7, rfl⟩
abbrev main_v1 : Ref sig .tc := ⟨.hbm, 8, rfl⟩
abbrev main_v2 : Ref sig .tc := ⟨.hbm, 9, rfl⟩
abbrev main_cst : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_cst_1 : Ref sig .tc := ⟨.hbm, 14, rfl⟩
abbrev main_v6 : Ref sig .tc := ⟨.hbm, 15, rfl⟩
abbrev main_v7 : Ref sig .tc := ⟨.hbm, 16, rfl⟩
abbrev main_cst_2 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst_3 : Ref sig .tc := ⟨.hbm, 21, rfl⟩
abbrev main_v11 : Ref sig .tc := ⟨.hbm, 22, rfl⟩
abbrev main_v12 : Ref sig .tc := ⟨.hbm, 23, rfl⟩
abbrev main_cst_4 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_cst_5 : Ref sig .tc := ⟨.hbm, 38, rfl⟩
abbrev main_v26 : Ref sig .tc := ⟨.hbm, 39, rfl⟩
abbrev main_v27 : Ref sig .tc := ⟨.hbm, 40, rfl⟩
abbrev main_cst_6 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_cst_7 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_cst_8 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_cst_9 : Ref sig .tc := ⟨.hbm, 65, rfl⟩
abbrev main_call2_v0 : Ref sig .tc := ⟨.hbm, 66, rfl⟩
abbrev main_call2_v1 : Ref sig .tc := ⟨.hbm, 67, rfl⟩
abbrev main_call2_v2 : Ref sig .tc := ⟨.hbm, 68, rfl⟩
abbrev main_v49 : Ref sig .tc := ⟨.hbm, 69, rfl⟩
abbrev main_v50 : Ref sig .tc := ⟨.hbm, 70, rfl⟩
abbrev main_cst_10 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_cst_11 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩
abbrev main_v64 : Ref sig .tc := ⟨.hbm, 86, rfl⟩
abbrev main_v65 : Ref sig .tc := ⟨.hbm, 87, rfl⟩
abbrev main_cst_12 : Ref sig .tc := ⟨.hbm, 88, rfl⟩
abbrev main_v66 : Ref sig .tc := ⟨.hbm, 89, rfl⟩
abbrev main_v67 : Ref sig .tc := ⟨.hbm, 90, rfl⟩
abbrev main_v68 : Ref sig .tc := ⟨.hbm, 91, rfl⟩
abbrev main_v69 : Ref sig .tc := ⟨.hbm, 92, rfl⟩
abbrev main_v70 : Ref sig .tc := ⟨.hbm, 93, rfl⟩
abbrev main_v71 : Ref sig .tc := ⟨.hbm, 94, rfl⟩
abbrev main_v72 : Ref sig .tc := ⟨.hbm, 95, rfl⟩
abbrev main_v73 : Ref sig .tc := ⟨.hbm, 96, rfl⟩
abbrev main_v74 : Ref sig .tc := ⟨.hbm, 97, rfl⟩
abbrev main_v75 : Ref sig .tc := ⟨.hbm, 98, rfl⟩
abbrev main_v76 : Ref sig .tc := ⟨.hbm, 99, rfl⟩
abbrev main_cst_13 : Ref sig .tc := ⟨.hbm, 100, rfl⟩
abbrev main_v77 : Ref sig .tc := ⟨.hbm, 101, rfl⟩
abbrev main_v78 : Ref sig .tc := ⟨.hbm, 102, rfl⟩
abbrev main_cst_14 : Ref sig .tc := ⟨.hbm, 103, rfl⟩
abbrev main_v79 : Ref sig .tc := ⟨.hbm, 104, rfl⟩
abbrev main_v80 : Ref sig .tc := ⟨.hbm, 105, rfl⟩
abbrev main_v81 : Ref sig .tc := ⟨.hbm, 106, rfl⟩
abbrev main_cst_15 : Ref sig .tc := ⟨.hbm, 107, rfl⟩
abbrev main_v82 : Ref sig .tc := ⟨.hbm, 108, rfl⟩
abbrev main_v83 : Ref sig .tc := ⟨.hbm, 109, rfl⟩
abbrev main_cst_16 : Ref sig .tc := ⟨.hbm, 110, rfl⟩
abbrev main_v84 : Ref sig .tc := ⟨.hbm, 111, rfl⟩
abbrev main_v85 : Ref sig .tc := ⟨.hbm, 112, rfl⟩
abbrev main_v86 : Ref sig .tc := ⟨.hbm, 113, rfl⟩
abbrev main_v87 : Ref sig .tc := ⟨.hbm, 114, rfl⟩
abbrev main_v88 : Ref sig .tc := ⟨.hbm, 115, rfl⟩
abbrev main_v89 : Ref sig .tc := ⟨.hbm, 116, rfl⟩
abbrev main_v90 : Ref sig .tc := ⟨.hbm, 117, rfl⟩
abbrev main_v91 : Ref sig .tc := ⟨.hbm, 118, rfl⟩
abbrev main_v92 : Ref sig .tc := ⟨.hbm, 119, rfl⟩
abbrev main_v93 : Ref sig .tc := ⟨.hbm, 120, rfl⟩
abbrev main_v94 : Ref sig .tc := ⟨.hbm, 121, rfl⟩
abbrev main_v95 : Ref sig .tc := ⟨.hbm, 122, rfl⟩
abbrev main_v96 : Ref sig .tc := ⟨.hbm, 123, rfl⟩
abbrev main_v97 : Ref sig .tc := ⟨.hbm, 124, rfl⟩
abbrev main_v98 : Ref sig .tc := ⟨.hbm, 125, rfl⟩
abbrev main_v99 : Ref sig .tc := ⟨.hbm, 126, rfl⟩
abbrev main_v100 : Ref sig .tc := ⟨.hbm, 127, rfl⟩
abbrev main_v101 : Ref sig .tc := ⟨.hbm, 128, rfl⟩
abbrev main_v102 : Ref sig .tc := ⟨.hbm, 129, rfl⟩
abbrev main_v103 : Ref sig .tc := ⟨.hbm, 130, rfl⟩
abbrev main_v104 : Ref sig .tc := ⟨.hbm, 131, rfl⟩
abbrev main_v105 : Ref sig .tc := ⟨.hbm, 132, rfl⟩
abbrev main_v106 : Ref sig .tc := ⟨.hbm, 133, rfl⟩
abbrev main_v107 : Ref sig .tc := ⟨.hbm, 134, rfl⟩
abbrev main_v108 : Ref sig .tc := ⟨.hbm, 135, rfl⟩
abbrev main_v109 : Ref sig .tc := ⟨.hbm, 136, rfl⟩
abbrev main_v110 : Ref sig .tc := ⟨.hbm, 137, rfl⟩
abbrev main_v111 : Ref sig .tc := ⟨.hbm, 138, rfl⟩
abbrev main_v112 : Ref sig .tc := ⟨.hbm, 139, rfl⟩
abbrev main_v113 : Ref sig .tc := ⟨.hbm, 140, rfl⟩
abbrev main_v114 : Ref sig .tc := ⟨.hbm, 141, rfl⟩
abbrev main_v115 : Ref sig .tc := ⟨.hbm, 142, rfl⟩
abbrev main_v116 : Ref sig .tc := ⟨.hbm, 143, rfl⟩
abbrev main_v117 : Ref sig .tc := ⟨.hbm, 144, rfl⟩
abbrev main_v118 : Ref sig .tc := ⟨.hbm, 145, rfl⟩
abbrev main_v119 : Ref sig .tc := ⟨.hbm, 146, rfl⟩
abbrev main_v120 : Ref sig .tc := ⟨.hbm, 147, rfl⟩
abbrev main_v121 : Ref sig .tc := ⟨.hbm, 148, rfl⟩
abbrev main_v122 : Ref sig .tc := ⟨.hbm, 149, rfl⟩
abbrev main_v123 : Ref sig .tc := ⟨.hbm, 150, rfl⟩
abbrev main_v124 : Ref sig .tc := ⟨.hbm, 151, rfl⟩
abbrev main_v125 : Ref sig .tc := ⟨.hbm, 152, rfl⟩
abbrev main_v126 : Ref sig .tc := ⟨.hbm, 153, rfl⟩
abbrev main_v127 : Ref sig .tc := ⟨.hbm, 154, rfl⟩
abbrev main_v128 : Ref sig .tc := ⟨.hbm, 155, rfl⟩
abbrev main_v129 : Ref sig .tc := ⟨.hbm, 156, rfl⟩
abbrev main_v130 : Ref sig .tc := ⟨.hbm, 157, rfl⟩
abbrev main_v131 : Ref sig .tc := ⟨.hbm, 158, rfl⟩
abbrev main_cst_17 : Ref sig .tc := ⟨.hbm, 159, rfl⟩
abbrev main_v132 : Ref sig .tc := ⟨.hbm, 160, rfl⟩
abbrev main_v133 : Ref sig .tc := ⟨.hbm, 161, rfl⟩
abbrev main_v134 : Ref sig .tc := ⟨.hbm, 162, rfl⟩
abbrev main_cst_18 : Ref sig .tc := ⟨.hbm, 163, rfl⟩
abbrev main_v135 : Ref sig .tc := ⟨.hbm, 164, rfl⟩
abbrev main_v136 : Ref sig .tc := ⟨.hbm, 165, rfl⟩
abbrev main_v137 : Ref sig .tc := ⟨.hbm, 166, rfl⟩
abbrev main_v138 : Ref sig .tc := ⟨.hbm, 167, rfl⟩
abbrev main_cst_19 : Ref sig .tc := ⟨.hbm, 168, rfl⟩
abbrev main_v139 : Ref sig .tc := ⟨.hbm, 169, rfl⟩
abbrev main_v140 : Ref sig .tc := ⟨.hbm, 170, rfl⟩
abbrev main_v141 : Ref sig .tc := ⟨.hbm, 171, rfl⟩
abbrev main_v142 : Ref sig .tc := ⟨.hbm, 172, rfl⟩
abbrev main_cst_20 : Ref sig .tc := ⟨.hbm, 173, rfl⟩
abbrev main_v143 : Ref sig .tc := ⟨.hbm, 174, rfl⟩
abbrev main_v144 : Ref sig .tc := ⟨.hbm, 175, rfl⟩
abbrev main_v145 : Ref sig .tc := ⟨.hbm, 176, rfl⟩
abbrev main_v146 : Ref sig .tc := ⟨.hbm, 177, rfl⟩
abbrev main_v147 : Ref sig .tc := ⟨.hbm, 178, rfl⟩
abbrev main_cst_21 : Ref sig .tc := ⟨.hbm, 179, rfl⟩
abbrev main_v148 : Ref sig .tc := ⟨.hbm, 180, rfl⟩
abbrev main_v149 : Ref sig .tc := ⟨.hbm, 181, rfl⟩
abbrev main_cst_22 : Ref sig .tc := ⟨.hbm, 182, rfl⟩
abbrev main_v150 : Ref sig .tc := ⟨.hbm, 183, rfl⟩
abbrev main_v151 : Ref sig .tc := ⟨.hbm, 184, rfl⟩
abbrev main_v152 : Ref sig .tc := ⟨.hbm, 185, rfl⟩
abbrev main_v153 : Ref sig .tc := ⟨.hbm, 186, rfl⟩
abbrev main_v154 : Ref sig .tc := ⟨.hbm, 187, rfl⟩
abbrev main_v155 : Ref sig .tc := ⟨.hbm, 188, rfl⟩
abbrev main_v156 : Ref sig .tc := ⟨.hbm, 189, rfl⟩
abbrev main_v157 : Ref sig .tc := ⟨.hbm, 190, rfl⟩
abbrev main_v158 : Ref sig .tc := ⟨.hbm, 191, rfl⟩
abbrev main_v159 : Ref sig .tc := ⟨.hbm, 192, rfl⟩
abbrev main_v160 : Ref sig .tc := ⟨.hbm, 193, rfl⟩
abbrev main_cst_23 : Ref sig .tc := ⟨.hbm, 194, rfl⟩
abbrev main_v161 : Ref sig .tc := ⟨.hbm, 195, rfl⟩
abbrev main_v162 : Ref sig .tc := ⟨.hbm, 196, rfl⟩
abbrev main_v163 : Ref sig .tc := ⟨.hbm, 197, rfl⟩
abbrev main_cst_24 : Ref sig .tc := ⟨.hbm, 198, rfl⟩
abbrev main_v164 : Ref sig .tc := ⟨.hbm, 199, rfl⟩
abbrev main_v165 : Ref sig .tc := ⟨.hbm, 200, rfl⟩
abbrev main_v166 : Ref sig .tc := ⟨.hbm, 201, rfl⟩
abbrev main_v167 : Ref sig .tc := ⟨.hbm, 202, rfl⟩
abbrev main_v168 : Ref sig .tc := ⟨.hbm, 203, rfl⟩
abbrev main_v169 : Ref sig .tc := ⟨.hbm, 204, rfl⟩
abbrev main_v170 : Ref sig .tc := ⟨.hbm, 205, rfl⟩
abbrev main_cst_25 : Ref sig .tc := ⟨.hbm, 206, rfl⟩
abbrev main_call3_v0 : Ref sig .tc := ⟨.hbm, 207, rfl⟩
abbrev main_call3_v1 : Ref sig .tc := ⟨.hbm, 208, rfl⟩
abbrev main_call3_v2 : Ref sig .tc := ⟨.hbm, 209, rfl⟩
abbrev main_v171 : Ref sig .tc := ⟨.hbm, 210, rfl⟩
abbrev main_v172 : Ref sig .tc := ⟨.hbm, 211, rfl⟩
abbrev main_v173 : Ref sig .tc := ⟨.hbm, 212, rfl⟩
abbrev main_v174 : Ref sig .tc := ⟨.hbm, 213, rfl⟩
abbrev main_v175 : Ref sig .tc := ⟨.hbm, 214, rfl⟩
abbrev main_v176 : Ref sig .tc := ⟨.hbm, 215, rfl⟩
abbrev main_v177 : Ref sig .tc := ⟨.hbm, 216, rfl⟩
abbrev main_cst_26 : Ref sig .tc := ⟨.hbm, 217, rfl⟩
abbrev main_v178 : Ref sig .tc := ⟨.hbm, 218, rfl⟩
abbrev main_v179 : Ref sig .tc := ⟨.hbm, 219, rfl⟩
abbrev main_v180 : Ref sig .tc := ⟨.hbm, 220, rfl⟩
abbrev main_v181 : Ref sig .tc := ⟨.hbm, 221, rfl⟩
abbrev main_v182 : Ref sig .tc := ⟨.hbm, 222, rfl⟩
abbrev main_v183 : Ref sig .tc := ⟨.hbm, 223, rfl⟩
abbrev main_v184 : Ref sig .tc := ⟨.hbm, 224, rfl⟩
abbrev main_v185 : Ref sig .tc := ⟨.hbm, 225, rfl⟩
abbrev main_v186 : Ref sig .tc := ⟨.hbm, 226, rfl⟩
abbrev main_v187 : Ref sig .tc := ⟨.hbm, 227, rfl⟩
abbrev main_v188 : Ref sig .tc := ⟨.hbm, 228, rfl⟩
abbrev main_cst_27 : Ref sig .tc := ⟨.hbm, 229, rfl⟩
abbrev main_v189 : Ref sig .tc := ⟨.hbm, 230, rfl⟩
abbrev main_v190 : Ref sig .tc := ⟨.hbm, 231, rfl⟩
abbrev main_v191 : Ref sig .tc := ⟨.hbm, 232, rfl⟩
abbrev main_v192 : Ref sig .tc := ⟨.hbm, 233, rfl⟩
abbrev main_v193 : Ref sig .tc := ⟨.hbm, 234, rfl⟩
abbrev main_v194 : Ref sig .tc := ⟨.hbm, 235, rfl⟩
abbrev main_cst_28 : Ref sig .tc := ⟨.hbm, 236, rfl⟩
abbrev main_v195 : Ref sig .tc := ⟨.hbm, 237, rfl⟩
abbrev main_v196 : Ref sig .tc := ⟨.hbm, 238, rfl⟩
abbrev main_v197 : Ref sig .tc := ⟨.hbm, 239, rfl⟩
abbrev main_v198 : Ref sig .tc := ⟨.hbm, 240, rfl⟩
abbrev main_v199 : Ref sig .tc := ⟨.hbm, 241, rfl⟩
abbrev main_v200 : Ref sig .tc := ⟨.hbm, 242, rfl⟩
abbrev main_v201 : Ref sig .tc := ⟨.hbm, 243, rfl⟩
abbrev main_v202 : Ref sig .tc := ⟨.hbm, 244, rfl⟩
abbrev main_v203 : Ref sig .tc := ⟨.hbm, 245, rfl⟩
abbrev main_v204 : Ref sig .tc := ⟨.hbm, 246, rfl⟩
abbrev main_v205 : Ref sig .tc := ⟨.hbm, 247, rfl⟩
abbrev main_v206 : Ref sig .tc := ⟨.hbm, 248, rfl⟩
abbrev main_v207 : Ref sig .tc := ⟨.hbm, 249, rfl⟩
abbrev main_v208 : Ref sig .tc := ⟨.hbm, 250, rfl⟩
abbrev main_v209 : Ref sig .tc := ⟨.hbm, 251, rfl⟩
abbrev main_v210 : Ref sig .tc := ⟨.hbm, 252, rfl⟩
abbrev main_v211 : Ref sig .tc := ⟨.hbm, 253, rfl⟩
abbrev main_v212 : Ref sig .tc := ⟨.hbm, 254, rfl⟩
abbrev main_v213 : Ref sig .tc := ⟨.hbm, 255, rfl⟩
abbrev main_v214 : Ref sig .tc := ⟨.hbm, 256, rfl⟩
abbrev main_v215 : Ref sig .tc := ⟨.hbm, 257, rfl⟩
abbrev main_v216 : Ref sig .tc := ⟨.hbm, 258, rfl⟩
abbrev main_v217 : Ref sig .tc := ⟨.hbm, 259, rfl⟩
abbrev main_v218 : Ref sig .tc := ⟨.hbm, 260, rfl⟩
abbrev main_v219 : Ref sig .tc := ⟨.hbm, 261, rfl⟩
abbrev main_v220 : Ref sig .tc := ⟨.hbm, 262, rfl⟩
abbrev main_v221 : Ref sig .tc := ⟨.hbm, 263, rfl⟩
abbrev main_v222 : Ref sig .tc := ⟨.hbm, 264, rfl⟩
abbrev main_v223 : Ref sig .tc := ⟨.hbm, 265, rfl⟩
abbrev main_v224 : Ref sig .tc := ⟨.hbm, 266, rfl⟩
abbrev main_v225 : Ref sig .tc := ⟨.hbm, 267, rfl⟩
abbrev main_v226 : Ref sig .tc := ⟨.hbm, 268, rfl⟩
abbrev main_v227 : Ref sig .tc := ⟨.hbm, 269, rfl⟩
abbrev main_v228 : Ref sig .tc := ⟨.hbm, 270, rfl⟩
abbrev main_v229 : Ref sig .tc := ⟨.hbm, 271, rfl⟩
abbrev main_v230 : Ref sig .tc := ⟨.hbm, 272, rfl⟩
abbrev main_v231 : Ref sig .tc := ⟨.hbm, 273, rfl⟩
abbrev main_v232 : Ref sig .tc := ⟨.hbm, 274, rfl⟩
abbrev main_v233 : Ref sig .tc := ⟨.hbm, 275, rfl⟩
abbrev main_v234 : Ref sig .tc := ⟨.hbm, 276, rfl⟩
abbrev main_v235 : Ref sig .tc := ⟨.hbm, 277, rfl⟩
abbrev main_v236 : Ref sig .tc := ⟨.hbm, 278, rfl⟩
abbrev main_v237 : Ref sig .tc := ⟨.hbm, 279, rfl⟩
abbrev main_v238 : Ref sig .tc := ⟨.hbm, 280, rfl⟩
abbrev main_v239 : Ref sig .tc := ⟨.hbm, 281, rfl⟩
abbrev main_v240 : Ref sig .tc := ⟨.hbm, 282, rfl⟩
abbrev main_v241 : Ref sig .tc := ⟨.hbm, 283, rfl⟩
abbrev main_v242 : Ref sig .tc := ⟨.hbm, 284, rfl⟩
abbrev main_v243 : Ref sig .tc := ⟨.hbm, 285, rfl⟩
abbrev main_v244 : Ref sig .tc := ⟨.hbm, 286, rfl⟩
abbrev main_v245 : Ref sig .tc := ⟨.hbm, 287, rfl⟩
abbrev main_v246 : Ref sig .tc := ⟨.hbm, 288, rfl⟩
abbrev main_v247 : Ref sig .tc := ⟨.hbm, 289, rfl⟩
abbrev main_v248 : Ref sig .tc := ⟨.hbm, 290, rfl⟩
abbrev main_v249 : Ref sig .tc := ⟨.hbm, 291, rfl⟩
abbrev main_v250 : Ref sig .tc := ⟨.hbm, 292, rfl⟩
abbrev main_v251 : Ref sig .tc := ⟨.hbm, 293, rfl⟩
abbrev main_v252 : Ref sig .tc := ⟨.hbm, 294, rfl⟩
abbrev main_v253 : Ref sig .tc := ⟨.hbm, 295, rfl⟩
abbrev main_v254 : Ref sig .tc := ⟨.hbm, 296, rfl⟩
abbrev main_v255 : Ref sig .tc := ⟨.hbm, 297, rfl⟩
abbrev main_v256 : Ref sig .tc := ⟨.hbm, 298, rfl⟩
abbrev main_v257 : Ref sig .tc := ⟨.hbm, 299, rfl⟩
abbrev main_v258 : Ref sig .tc := ⟨.hbm, 300, rfl⟩
abbrev main_v259 : Ref sig .tc := ⟨.hbm, 301, rfl⟩
abbrev main_v260 : Ref sig .tc := ⟨.hbm, 302, rfl⟩
abbrev main_v261 : Ref sig .tc := ⟨.hbm, 303, rfl⟩
abbrev main_v262 : Ref sig .tc := ⟨.hbm, 304, rfl⟩
abbrev main_v263 : Ref sig .tc := ⟨.hbm, 305, rfl⟩
abbrev main_v264 : Ref sig .tc := ⟨.hbm, 306, rfl⟩
abbrev main_v265 : Ref sig .tc := ⟨.hbm, 307, rfl⟩
abbrev main_v266 : Ref sig .tc := ⟨.hbm, 308, rfl⟩
abbrev main_v267 : Ref sig .tc := ⟨.hbm, 309, rfl⟩
abbrev main_v268 : Ref sig .tc := ⟨.hbm, 310, rfl⟩
abbrev main_v269 : Ref sig .tc := ⟨.hbm, 311, rfl⟩
abbrev main_v270 : Ref sig .tc := ⟨.hbm, 312, rfl⟩
abbrev main_v271 : Ref sig .tc := ⟨.hbm, 313, rfl⟩
abbrev main_v272 : Ref sig .tc := ⟨.hbm, 314, rfl⟩
abbrev main_v273 : Ref sig .tc := ⟨.hbm, 315, rfl⟩
abbrev main_v274 : Ref sig .tc := ⟨.hbm, 316, rfl⟩
abbrev main_v275 : Ref sig .tc := ⟨.hbm, 317, rfl⟩
abbrev main_v276 : Ref sig .tc := ⟨.hbm, 318, rfl⟩
abbrev main_v277 : Ref sig .tc := ⟨.hbm, 319, rfl⟩
abbrev main_v278 : Ref sig .tc := ⟨.hbm, 320, rfl⟩
abbrev main_v279 : Ref sig .tc := ⟨.hbm, 321, rfl⟩
abbrev main_v280 : Ref sig .tc := ⟨.hbm, 322, rfl⟩
abbrev main_v281 : Ref sig .tc := ⟨.hbm, 323, rfl⟩
abbrev main_v282 : Ref sig .tc := ⟨.hbm, 324, rfl⟩
abbrev main_v283 : Ref sig .tc := ⟨.hbm, 325, rfl⟩
abbrev main_v284 : Ref sig .tc := ⟨.hbm, 326, rfl⟩
abbrev main_v285 : Ref sig .tc := ⟨.hbm, 327, rfl⟩
abbrev main_v286 : Ref sig .tc := ⟨.hbm, 328, rfl⟩
abbrev main_v287 : Ref sig .tc := ⟨.hbm, 329, rfl⟩
abbrev main_v288 : Ref sig .tc := ⟨.hbm, 330, rfl⟩
abbrev main_v289 : Ref sig .tc := ⟨.hbm, 331, rfl⟩
abbrev main_v290 : Ref sig .tc := ⟨.hbm, 332, rfl⟩
abbrev main_v291 : Ref sig .tc := ⟨.hbm, 333, rfl⟩
abbrev main_v292 : Ref sig .tc := ⟨.hbm, 334, rfl⟩
abbrev main_v293 : Ref sig .tc := ⟨.hbm, 335, rfl⟩
abbrev main_v294 : Ref sig .tc := ⟨.hbm, 336, rfl⟩
abbrev main_v295 : Ref sig .tc := ⟨.hbm, 337, rfl⟩
abbrev main_v296 : Ref sig .tc := ⟨.hbm, 338, rfl⟩
abbrev main_v297 : Ref sig .tc := ⟨.hbm, 339, rfl⟩
abbrev main_v298 : Ref sig .tc := ⟨.hbm, 340, rfl⟩
abbrev main_v299 : Ref sig .tc := ⟨.hbm, 341, rfl⟩
abbrev main_v300 : Ref sig .tc := ⟨.hbm, 342, rfl⟩
abbrev main_v301 : Ref sig .tc := ⟨.hbm, 343, rfl⟩
abbrev main_v302 : Ref sig .tc := ⟨.hbm, 344, rfl⟩
abbrev main_cst_29 : Ref sig .tc := ⟨.hbm, 345, rfl⟩
abbrev main_v303 : Ref sig .tc := ⟨.hbm, 346, rfl⟩
abbrev main_v304 : Ref sig .tc := ⟨.hbm, 347, rfl⟩
abbrev main_v305 : Ref sig .tc := ⟨.hbm, 348, rfl⟩
abbrev main_v306 : Ref sig .tc := ⟨.hbm, 349, rfl⟩
abbrev main_v307 : Ref sig .tc := ⟨.hbm, 350, rfl⟩
abbrev main_v308 : Ref sig .tc := ⟨.hbm, 351, rfl⟩
abbrev main_v309 : Ref sig .tc := ⟨.hbm, 352, rfl⟩
abbrev main_v310 : Ref sig .tc := ⟨.hbm, 353, rfl⟩
abbrev main_v311 : Ref sig .tc := ⟨.hbm, 354, rfl⟩
abbrev main_v312 : Ref sig .tc := ⟨.hbm, 355, rfl⟩
abbrev main_v313 : Ref sig .tc := ⟨.hbm, 356, rfl⟩
abbrev main_v314 : Ref sig .tc := ⟨.hbm, 357, rfl⟩
abbrev main_v315 : Ref sig .tc := ⟨.hbm, 358, rfl⟩
abbrev main_v316 : Ref sig .tc := ⟨.hbm, 359, rfl⟩
abbrev main_v317 : Ref sig .tc := ⟨.hbm, 360, rfl⟩
abbrev main_v318 : Ref sig .tc := ⟨.hbm, 361, rfl⟩
abbrev main_v319 : Ref sig .tc := ⟨.hbm, 362, rfl⟩
abbrev main_c_30 : Ref sig .tc := ⟨.hbm, 363, rfl⟩
abbrev main_call4_v0 : Ref sig .tc := ⟨.hbm, 364, rfl⟩
abbrev main_v320 : Ref sig .tc := ⟨.hbm, 365, rfl⟩
abbrev main_v321 : Ref sig .tc := ⟨.hbm, 366, rfl⟩
abbrev main_v322 : Ref sig .tc := ⟨.hbm, 367, rfl⟩
abbrev main_v323 : Ref sig .tc := ⟨.hbm, 368, rfl⟩
abbrev main_v324_0 : Ref sig .tc := ⟨.hbm, 369, rfl⟩
abbrev main_v324_1 : Ref sig .tc := ⟨.hbm, 370, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg10_0 : Ref sig .tc := ⟨.vmem, 16, rfl⟩
abbrev cc0_stg11_0 : Ref sig .tc := ⟨.vmem, 17, rfl⟩
abbrev cc0_stg11_1 : Ref sig .tc := ⟨.vmem, 18, rfl⟩
abbrev cc0_stg12_0 : Ref sig .tc := ⟨.vmem, 19, rfl⟩
abbrev cc0_stg12_1 : Ref sig .tc := ⟨.vmem, 20, rfl⟩
abbrev cc0_stg13_0 : Ref sig .tc := ⟨.vmem, 21, rfl⟩
abbrev cc0_stg13_1 : Ref sig .tc := ⟨.vmem, 22, rfl⟩
abbrev cc0_stg14_0 : Ref sig .tc := ⟨.vmem, 23, rfl⟩
abbrev cc0_stg14_1 : Ref sig .tc := ⟨.vmem, 24, rfl⟩
abbrev cc0_stg15_0 : Ref sig .tc := ⟨.vmem, 25, rfl⟩
abbrev cc0_scratch0 : Ref sig .tc := ⟨.vmem, 26, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem9_0 : DmaSem sig := 15
abbrev cc0_sem10_0 : DmaSem sig := 16
abbrev cc0_sem11_0 : DmaSem sig := 17
abbrev cc0_sem11_1 : DmaSem sig := 18
abbrev cc0_sem12_0 : DmaSem sig := 19
abbrev cc0_sem12_1 : DmaSem sig := 20
abbrev cc0_sem13_0 : DmaSem sig := 21
abbrev cc0_sem13_1 : DmaSem sig := 22
abbrev cc0_sem14_0 : DmaSem sig := 23
abbrev cc0_sem14_1 : DmaSem sig := 24
abbrev cc0_sem15_0 : DmaSem sig := 25

abbrev nD : Nat := 1
abbrev τ : Topo := Topo.v7x

variable {F : FTy → Type} [FloatOps F]

abbrev grid0 : Pipeline.Grid := ⟨2, ![1, 33], ![false, false]⟩

def cc0_transform_0 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.subi c32_i32 arg1
  let c0_i32 : BitVec 32 := 0#32
  ![v0.toNat, arg0.toNat]

def cc0_transform_1 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.subi c32_i32 arg1
  let c1_i32 : BitVec 32 := 1#32
  let v1 : BitVec 32 := Scalar.addi c1_i32 arg0
  let c0_i32 : BitVec 32 := 0#32
  ![v0.toNat, v1.toNat]

def cc0_transform_2 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.subi c32_i32 arg1
  let c1_i32 : BitVec 32 := 1#32
  let v1 : BitVec 32 := Scalar.addi c1_i32 arg0
  let c0_i32 : BitVec 32 := 0#32
  ![v0.toNat, v1.toNat]

def cc0_transform_3 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.subi c32_i32 arg1
  let c2_i32 : BitVec 32 := 2#32
  let v1 : BitVec 32 := Scalar.addi c2_i32 arg0
  let c0_i32 : BitVec 32 := 0#32
  ![v0.toNat, v1.toNat]

def cc0_transform_4 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.subi c32_i32 arg1
  let c0_i32 : BitVec 32 := 0#32
  let c0_i32_0 : BitVec 32 := 0#32
  ![v0.toNat, c0_i32.toNat]

def cc0_transform_5 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.subi c32_i32 arg1
  let c0_i32 : BitVec 32 := 0#32
  let c0_i32_0 : BitVec 32 := 0#32
  ![v0.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_11 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.subi c32_i32 arg1
  let c0_i32 : BitVec 32 := 0#32
  ![v0.toNat, arg0.toNat]

def cc0_transform_12 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.subi c32_i32 arg1
  let c0_i32 : BitVec 32 := 0#32
  ![v0.toNat, arg0.toNat]

def cc0_transform_13 (i : grid0.Coords) : Fin 4 → Nat :=
  let arg0 : BitVec 32 := BitVec.ofNat 32 (i 0).val
  let arg1 : BitVec 32 := BitVec.ofNat 32 (i 1).val
  let c32_i32 : BitVec 32 := 32#32
  let v0 : BitVec 32 := Scalar.subi c32_i32 arg1
  let c0_i32 : BitVec 32 := 0#32
  let c0_i32_0 : BitVec 32 := 0#32
  let c0_i32_1 : BitVec 32 := 0#32
  ![arg0.toNat, v0.toNat, c0_i32.toNat, c0_i32_0.toNat]

def cc0_transform_14 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.subi c32_i32 arg1
  let c0_i32 : BitVec 32 := 0#32
  let c0_i32_0 : BitVec 32 := 0#32
  ![v0.toNat, c0_i32.toNat]

def cc0_transform_15 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S128x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S128x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S128x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S128x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S128x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S128x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 1 → Memref sig .tc .vmem S8x128x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true, false]

abbrev stage0_7 : Fin 1 → Memref sig .tc .vmem S8x128x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true, false]

abbrev stage0_8 : Fin 1 → Memref sig .tc .vmem S8x128x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![true, false]

abbrev stage0_9 : Fin 1 → Memref sig .tc .vmem S8x1x256 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![true, false]

abbrev stage0_10 : Fin 1 → Memref sig .tc .vmem S1x2048 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![true, false]

abbrev stage0_11 : Fin 2 → Memref sig .tc .vmem S128x2048 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S128x2048 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S8x1x128x256 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]

abbrev stage0_14 : Fin 2 → Memref sig .tc .vmem S128x6144 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![false, true]

abbrev stage0_15 : Fin 1 → Memref sig .tc .vmem S8x1x256 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![true, false]
-- ==== ReferenceIdeal.lean ====
abbrev S4112x8192 : Shape := ⟨2, ![4112, 8192]⟩
abbrev S1x2048 : Shape := ⟨2, ![1, 2048]⟩
abbrev S4112x2048 : Shape := ⟨2, ![4112, 2048]⟩
abbrev S4112 : Shape := ⟨1, ![4112]⟩
abbrev S64 : Shape := ⟨1, ![64]⟩
abbrev S_ : Shape := ⟨0, ![]⟩
abbrev S4112x1 : Shape := ⟨2, ![4112, 1]⟩
abbrev S1x64 : Shape := ⟨2, ![1, 64]⟩
abbrev S4112x64 : Shape := ⟨2, ![4112, 64]⟩
abbrev S1x4112x8192 : Shape := ⟨3, ![1, 4112, 8192]⟩
abbrev S1x4112x1024 : Shape := ⟨3, ![1, 4112, 1024]⟩
abbrev S1x4112x2048 : Shape := ⟨3, ![1, 4112, 2048]⟩
abbrev S1x4112x8x128 : Shape := ⟨4, ![1, 4112, 8, 128]⟩
abbrev S1x4112x8x64 : Shape := ⟨4, ![1, 4112, 8, 64]⟩
abbrev S1x4112x1x64 : Shape := ⟨4, ![1, 4112, 1, 64]⟩
abbrev S1x4112x8x256 : Shape := ⟨4, ![1, 4112, 8, 256]⟩
abbrev S1x112x8x128 : Shape := ⟨4, ![1, 112, 8, 128]⟩
abbrev S1x4224x8x128 : Shape := ⟨4, ![1, 4224, 8, 128]⟩
abbrev S1x33x128x8x128 : Shape := ⟨5, ![1, 33, 128, 8, 128]⟩
abbrev S1x8x33x128x128 : Shape := ⟨5, ![1, 8, 33, 128, 128]⟩
abbrev S1x112x8x256 : Shape := ⟨4, ![1, 112, 8, 256]⟩
abbrev S1x4224x8x256 : Shape := ⟨4, ![1, 4224, 8, 256]⟩
abbrev S1x33x128x8x256 : Shape := ⟨5, ![1, 33, 128, 8, 256]⟩
abbrev S1x8x33x128x256 : Shape := ⟨5, ![1, 8, 33, 128, 256]⟩
abbrev S8 : Shape := ⟨1, ![8]⟩
abbrev S128 : Shape := ⟨1, ![128]⟩
abbrev S128x1 : Shape := ⟨2, ![128, 1]⟩
abbrev S1x128 : Shape := ⟨2, ![1, 128]⟩
abbrev S128x128 : Shape := ⟨2, ![128, 128]⟩
abbrev S8x1x1 : Shape := ⟨3, ![8, 1, 1]⟩
abbrev S1x128x128 : Shape := ⟨3, ![1, 128, 128]⟩
abbrev S8x128x128 : Shape := ⟨3, ![8, 128, 128]⟩
abbrev S1x8x1x128x128 : Shape := ⟨5, ![1, 8, 1, 128, 128]⟩
abbrev S8x1 : Shape := ⟨2, ![8, 1]⟩
abbrev S8x128 : Shape := ⟨2, ![8, 128]⟩
abbrev S1x8x1x128x1 : Shape := ⟨5, ![1, 8, 1, 128, 1]⟩
abbrev S33x1x8x128x256 : Shape := ⟨5, ![33, 1, 8, 128, 256]⟩
abbrev S1x1x8x1x1 : Shape := ⟨5, ![1, 1, 8, 1, 1]⟩
abbrev S1x1x8x128x256 : Shape := ⟨5, ![1, 1, 8, 128, 256]⟩
abbrev S11x1x8x128x256 : Shape := ⟨5, ![11, 1, 8, 128, 256]⟩
abbrev S1x4112x8 : Shape := ⟨3, ![1, 4112, 8]⟩
abbrev S1x4112x8x1 : Shape := ⟨4, ![1, 4112, 8, 1]⟩
abbrev S1x1x2048 : Shape := ⟨3, ![1, 1, 2048]⟩
abbrev S2048 : Shape := ⟨1, ![2048]⟩
abbrev S4112x8 : Shape := ⟨2, ![4112, 8]⟩
abbrev S1x8x33x256x128 : Shape := ⟨5, ![1, 8, 33, 256, 128]⟩
abbrev S33x1x8x256x128 : Shape := ⟨5, ![33, 1, 8, 256, 128]⟩
abbrev S33x1x8x128x128 : Shape := ⟨5, ![33, 1, 8, 128, 128]⟩
abbrev S112x8192 : Shape := ⟨2, ![112, 8192]⟩
abbrev S4224x8192 : Shape := ⟨2, ![4224, 8192]⟩
abbrev S8x1x256 : Shape := ⟨3, ![8, 1, 256]⟩

abbrev nBuf : Space → Nat
  | .hbm => 539
  | .vmem => 0
  | .smem => 0
  | _ => 0

abbrev hbmTy0_0 (i : Nat) : BufTy := match i % 128 with
  | 0 => ⟨S4112x8192, .f32⟩
  | 1 => ⟨S1x2048, .f32⟩
  | 2 => ⟨S4112x2048, .f32⟩
  | 3 => ⟨S4112, .f32⟩
  | 4 => ⟨S64, .f32⟩
  | 5 => ⟨S_, .f32⟩
  | 6 => ⟨S64, .f32⟩
  | 7 => ⟨S64, .f32⟩
  | 8 => ⟨S_, .f32⟩
  | 9 => ⟨S64, .f32⟩
  | 10 => ⟨S64, .f32⟩
  | 11 => ⟨S64, .f32⟩
  | 12 => ⟨S_, .f32⟩
  | 13 => ⟨S64, .f32⟩
  | 14 => ⟨S64, .f32⟩
  | 15 => ⟨S_, .f32⟩
  | 16 => ⟨S64, .f32⟩
  | 17 => ⟨S64, .f32⟩
  | 18 => ⟨S4112x1, .f32⟩
  | 19 => ⟨S1x64, .f32⟩
  | 20 => ⟨S4112x64, .f32⟩
  | 21 => ⟨S4112x64, .f32⟩
  | 22 => ⟨S4112x64, .f32⟩
  | 23 => ⟨S4112x64, .f32⟩
  | 24 => ⟨S4112x64, .f32⟩
  | 25 => ⟨S1x4112x8192, .f32⟩
  | 26 => ⟨S1x4112x1024, .f32⟩
  | 27 => ⟨S1x4112x1024, .f32⟩
  | 28 => ⟨S1x4112x2048, .f32⟩
  | 29 => ⟨S1x4112x2048, .f32⟩
  | 30 => ⟨S1x4112x1024, .f32⟩
  | 31 => ⟨S1x4112x1024, .f32⟩
  | 32 => ⟨S1x4112x8x128, .f32⟩
  | 33 => ⟨S1x4112x8x64, .f32⟩
  | 34 => ⟨S1x4112x8x64, .f32⟩
  | 35 => ⟨S1x4112x1x64, .f32⟩
  | 36 => ⟨S1x4112x1x64, .f32⟩
  | 37 => ⟨S1x4112x8x64, .f32⟩
  | 38 => ⟨S1x4112x8x64, .f32⟩
  | 39 => ⟨S1x4112x8x64, .f32⟩
  | 40 => ⟨S1x4112x8x64, .f32⟩
  | 41 => ⟨S1x4112x8x64, .f32⟩
  | 42 => ⟨S1x4112x8x64, .f32⟩
  | 43 => ⟨S1x4112x8x64, .f32⟩
  | 44 => ⟨S1x4112x8x64, .f32⟩
  | 45 => ⟨S1x4112x8x64, .f32⟩
  | 46 => ⟨S1x4112x8x64, .f32⟩
  | 47 => ⟨S1x4112x8x128, .f32⟩
  | 48 => ⟨S1x4112x8x128, .f32⟩
  | 49 => ⟨S1x4112x8x64, .f32⟩
  | 50 => ⟨S1x4112x8x64, .f32⟩
  | 51 => ⟨S1x4112x1x64, .f32⟩
  | 52 => ⟨S1x4112x1x64, .f32⟩
  | 53 => ⟨S1x4112x8x64, .f32⟩
  | 54 => ⟨S1x4112x8x64, .f32⟩
  | 55 => ⟨S1x4112x8x64, .f32⟩
  | 56 => ⟨S1x4112x8x64, .f32⟩
  | 57 => ⟨S1x4112x8x64, .f32⟩
  | 58 => ⟨S1x4112x8x64, .f32⟩
  | 59 => ⟨S1x4112x8x64, .f32⟩
  | 60 => ⟨S1x4112x8x64, .f32⟩
  | 61 => ⟨S1x4112x8x64, .f32⟩
  | 62 => ⟨S1x4112x8x64, .f32⟩
  | 63 => ⟨S1x4112x8x128, .f32⟩
  | 64 => ⟨S_, .f32⟩
  | 65 => ⟨S1x4112x8x128, .f32⟩
  | 66 => ⟨S1x4112x8x128, .f32⟩
  | 67 => ⟨S1x4112x8x256, .f32⟩
  | 68 => ⟨S_, .f32⟩
  | 69 => ⟨S1x112x8x128, .f32⟩
  | 70 => ⟨S1x4224x8x128, .f32⟩
  | 71 => ⟨S_, .f32⟩
  | 72 => ⟨S1x112x8x128, .f32⟩
  | 73 => ⟨S1x33x128x8x128, .f32⟩
  | 74 => ⟨S1x8x33x128x128, .f32⟩
  | 75 => ⟨S_, .f32⟩
  | 76 => ⟨S1x112x8x128, .f32⟩
  | 77 => ⟨S1x4224x8x128, .f32⟩
  | 78 => ⟨S_, .f32⟩
  | 79 => ⟨S1x112x8x128, .f32⟩
  | 80 => ⟨S1x33x128x8x128, .f32⟩
  | 81 => ⟨S1x8x33x128x128, .f32⟩
  | 82 => ⟨S_, .f32⟩
  | 83 => ⟨S1x112x8x256, .f32⟩
  | 84 => ⟨S1x4224x8x256, .f32⟩
  | 85 => ⟨S_, .f32⟩
  | 86 => ⟨S1x112x8x256, .f32⟩
  | 87 => ⟨S1x33x128x8x256, .f32⟩
  | 88 => ⟨S1x8x33x128x256, .f32⟩
  | 89 => ⟨S8, .f32⟩
  | 90 => ⟨S_, .f32⟩
  | 91 => ⟨S8, .f32⟩
  | 92 => ⟨S8, .f32⟩
  | 93 => ⟨S_, .f32⟩
  | 94 => ⟨S8, .f32⟩
  | 95 => ⟨S8, .f32⟩
  | 96 => ⟨S8, .f32⟩
  | 97 => ⟨S8, .f32⟩
  | 98 => ⟨S8, .f32⟩
  | 99 => ⟨S128, .f32⟩
  | 100 => ⟨S128x1, .f32⟩
  | 101 => ⟨S1x128, .f32⟩
  | 102 => ⟨S128x128, .f32⟩
  | 103 => ⟨S128x128, .f32⟩
  | 104 => ⟨S128x128, .f32⟩
  | 105 => ⟨S_, .f32⟩
  | 106 => ⟨S128x128, .f32⟩
  | 107 => ⟨S128x128, .i1⟩
  | 108 => ⟨S8x1x1, .f32⟩
  | 109 => ⟨S_, .f32⟩
  | 110 => ⟨S128x128, .f32⟩
  | 111 => ⟨S128x128, .f32⟩
  | 112 => ⟨S1x128x128, .f32⟩
  | 113 => ⟨S8x128x128, .f32⟩
  | 114 => ⟨S8x128x128, .f32⟩
  | 115 => ⟨S8x128x128, .f32⟩
  | 116 => ⟨S8x128x128, .f32⟩
  | 117 => ⟨S_, .f32⟩
  | 118 => ⟨S_, .f32⟩
  | 119 => ⟨S8x128x128, .i1⟩
  | 120 => ⟨S8x128x128, .f32⟩
  | 121 => ⟨S8x128x128, .f32⟩
  | 122 => ⟨S1x8x33x128x128, .f32⟩
  | 123 => ⟨S1x8x1x128x128, .f32⟩
  | 124 => ⟨S1x8x33x128x128, .f32⟩
  | 125 => ⟨S1x8x33x128x128, .f32⟩
  | 126 => ⟨S1x8x33x128x256, .f32⟩
  | 127 => ⟨S8x1, .f32⟩
  | _ => ⟨S4112x8192, .f32⟩

abbrev hbmTy0_1 (i : Nat) : BufTy := match i % 128 with
  | 0 => ⟨S_, .f32⟩
  | 1 => ⟨S128, .f32⟩
  | 2 => ⟨S128, .f32⟩
  | 3 => ⟨S1x128, .f32⟩
  | 4 => ⟨S8x128, .f32⟩
  | 5 => ⟨S8x128, .f32⟩
  | 6 => ⟨S8x128, .f32⟩
  | 7 => ⟨S8x128, .f32⟩
  | 8 => ⟨S1x8x1x128x1, .f32⟩
  | 9 => ⟨S1x8x33x128x128, .f32⟩
  | 10 => ⟨S1x8x33x128x128, .f32⟩
  | 11 => ⟨S33x1x8x128x256, .f32⟩
  | 12 => ⟨S_, .f32⟩
  | 13 => ⟨S8, .f32⟩
  | 14 => ⟨S8, .f32⟩
  | 15 => ⟨S8, .f32⟩
  | 16 => ⟨S1x1x8x1x1, .f32⟩
  | 17 => ⟨S1x1x8x128x256, .f32⟩
  | 18 => ⟨S1x1x8x128x256, .f32⟩
  | 19 => ⟨S_, .f32⟩
  | 20 => ⟨S1x1x8x128x256, .f32⟩
  | 21 => ⟨S11x1x8x128x256, .f32⟩
  | 22 => ⟨S11x1x8x128x256, .f32⟩
  | 23 => ⟨S11x1x8x128x256, .f32⟩
  | 24 => ⟨S1x1x8x128x256, .f32⟩
  | 25 => ⟨S1x1x8x128x256, .f32⟩
  | 26 => ⟨S1x1x8x128x256, .f32⟩
  | 27 => ⟨S1x1x8x128x256, .f32⟩
  | 28 => ⟨S1x1x8x128x256, .f32⟩
  | 29 => ⟨S1x1x8x128x256, .f32⟩
  | 30 => ⟨S1x1x8x128x256, .f32⟩
  | 31 => ⟨S1x1x8x128x256, .f32⟩
  | 32 => ⟨S1x1x8x128x256, .f32⟩
  | 33 => ⟨S1x1x8x128x256, .f32⟩
  | 34 => ⟨S1x1x8x128x256, .f32⟩
  | 35 => ⟨S1x1x8x128x256, .f32⟩
  | 36 => ⟨S1x1x8x128x256, .f32⟩
  | 37 => ⟨S1x1x8x128x256, .f32⟩
  | 38 => ⟨S1x1x8x128x256, .f32⟩
  | 39 => ⟨S1x1x8x128x256, .f32⟩
  | 40 => ⟨S1x1x8x128x256, .f32⟩
  | 41 => ⟨S1x1x8x128x256, .f32⟩
  | 42 => ⟨S1x1x8x128x256, .f32⟩
  | 43 => ⟨S1x1x8x128x256, .f32⟩
  | 44 => ⟨S1x1x8x128x256, .f32⟩
  | 45 => ⟨S1x1x8x128x256, .f32⟩
  | 46 => ⟨S1x1x8x128x256, .f32⟩
  | 47 => ⟨S1x1x8x128x256, .f32⟩
  | 48 => ⟨S1x1x8x128x256, .f32⟩
  | 49 => ⟨S1x1x8x128x256, .f32⟩
  | 50 => ⟨S1x1x8x128x256, .f32⟩
  | 51 => ⟨S1x1x8x128x256, .f32⟩
  | 52 => ⟨S1x1x8x128x256, .f32⟩
  | 53 => ⟨S1x1x8x128x256, .f32⟩
  | 54 => ⟨S1x1x8x128x256, .f32⟩
  | 55 => ⟨S1x1x8x128x256, .f32⟩
  | 56 => ⟨S1x1x8x128x256, .f32⟩
  | 57 => ⟨S11x1x8x128x256, .f32⟩
  | 58 => ⟨S_, .f32⟩
  | 59 => ⟨S1x1x8x128x256, .f32⟩
  | 60 => ⟨S1x1x8x128x256, .f32⟩
  | 61 => ⟨S1x1x8x128x256, .f32⟩
  | 62 => ⟨S1x1x8x128x256, .f32⟩
  | 63 => ⟨S1x1x8x128x256, .f32⟩
  | 64 => ⟨S1x1x8x128x256, .f32⟩
  | 65 => ⟨S1x1x8x128x256, .f32⟩
  | 66 => ⟨S1x1x8x128x256, .f32⟩
  | 67 => ⟨S1x1x8x128x256, .f32⟩
  | 68 => ⟨S1x1x8x128x256, .f32⟩
  | 69 => ⟨S1x1x8x128x256, .f32⟩
  | 70 => ⟨S1x1x8x128x256, .f32⟩
  | 71 => ⟨S1x1x8x128x256, .f32⟩
  | 72 => ⟨S1x1x8x128x256, .f32⟩
  | 73 => ⟨S1x1x8x128x256, .f32⟩
  | 74 => ⟨S1x1x8x128x256, .f32⟩
  | 75 => ⟨S1x1x8x128x256, .f32⟩
  | 76 => ⟨S1x1x8x128x256, .f32⟩
  | 77 => ⟨S1x1x8x128x256, .f32⟩
  | 78 => ⟨S1x1x8x128x256, .f32⟩
  | 79 => ⟨S1x1x8x128x256, .f32⟩
  | 80 => ⟨S1x1x8x128x256, .f32⟩
  | 81 => ⟨S1x1x8x128x256, .f32⟩
  | 82 => ⟨S1x1x8x128x256, .f32⟩
  | 83 => ⟨S1x1x8x128x256, .f32⟩
  | 84 => ⟨S1x1x8x128x256, .f32⟩
  | 85 => ⟨S1x1x8x128x256, .f32⟩
  | 86 => ⟨S1x1x8x128x256, .f32⟩
  | 87 => ⟨S1x1x8x128x256, .f32⟩
  | 88 => ⟨S1x1x8x128x256, .f32⟩
  | 89 => ⟨S1x1x8x128x256, .f32⟩
  | 90 => ⟨S1x1x8x128x256, .f32⟩
  | 91 => ⟨S1x1x8x128x256, .f32⟩
  | 92 => ⟨S1x1x8x128x256, .f32⟩
  | 93 => ⟨S11x1x8x128x256, .f32⟩
  | 94 => ⟨S1x1x8x128x256, .f32⟩
  | 95 => ⟨S1x1x8x128x256, .f32⟩
  | 96 => ⟨S1x1x8x128x256, .f32⟩
  | 97 => ⟨S1x1x8x128x256, .f32⟩
  | 98 => ⟨S1x1x8x128x256, .f32⟩
  | 99 => ⟨S1x1x8x128x256, .f32⟩
  | 100 => ⟨S1x1x8x128x256, .f32⟩
  | 101 => ⟨S1x1x8x128x256, .f32⟩
  | 102 => ⟨S1x1x8x128x256, .f32⟩
  | 103 => ⟨S1x1x8x128x256, .f32⟩
  | 104 => ⟨S1x1x8x128x256, .f32⟩
  | 105 => ⟨S1x1x8x128x256, .f32⟩
  | 106 => ⟨S1x1x8x128x256, .f32⟩
  | 107 => ⟨S1x1x8x128x256, .f32⟩
  | 108 => ⟨S1x1x8x128x256, .f32⟩
  | 109 => ⟨S1x1x8x128x256, .f32⟩
  | 110 => ⟨S1x1x8x128x256, .f32⟩
  | 111 => ⟨S1x1x8x128x256, .f32⟩
  | 112 => ⟨S1x1x8x128x256, .f32⟩
  | 113 => ⟨S1x1x8x128x256, .f32⟩
  | 114 => ⟨S1x1x8x128x256, .f32⟩
  | 115 => ⟨S1x1x8x128x256, .f32⟩
  | 116 => ⟨S1x1x8x128x256, .f32⟩
  | 117 => ⟨S1x1x8x128x256, .f32⟩
  | 118 => ⟨S1x1x8x128x256, .f32⟩
  | 119 => ⟨S1x1x8x128x256, .f32⟩
  | 120 => ⟨S1x1x8x128x256, .f32⟩
  | 121 => ⟨S1x1x8x128x256, .f32⟩
  | 122 => ⟨S1x1x8x128x256, .f32⟩
  | 123 => ⟨S1x1x8x128x256, .f32⟩
  | 124 => ⟨S1x1x8x128x256, .f32⟩
  | 125 => ⟨S1x1x8x128x256, .f32⟩
  | 126 => ⟨S1x1x8x128x256, .f32⟩
  | 127 => ⟨S11x1x8x128x256, .f32⟩
  | _ => ⟨S4112x8192, .f32⟩

abbrev hbmTy0_2 (i : Nat) : BufTy := match i % 128 with
  | 0 => ⟨S33x1x8x128x256, .f32⟩
  | 1 => ⟨S8x1, .f32⟩
  | 2 => ⟨S_, .f32⟩
  | 3 => ⟨S128, .f32⟩
  | 4 => ⟨S128, .f32⟩
  | 5 => ⟨S1x128, .f32⟩
  | 6 => ⟨S8x128, .f32⟩
  | 7 => ⟨S8x128, .f32⟩
  | 8 => ⟨S8x128, .f32⟩
  | 9 => ⟨S8x128, .f32⟩
  | 10 => ⟨S1x8x1x128x1, .f32⟩
  | 11 => ⟨S1x8x33x128x128, .f32⟩
  | 12 => ⟨S1x8x33x128x128, .f32⟩
  | 13 => ⟨S1x8x33x128x256, .f32⟩
  | 14 => ⟨S1x8x33x128x256, .f32⟩
  | 15 => ⟨S1x33x128x8x256, .f32⟩
  | 16 => ⟨S1x4224x8x256, .f32⟩
  | 17 => ⟨S1x4112x8x256, .f32⟩
  | 18 => ⟨S1x4112x8x256, .f32⟩
  | 19 => ⟨S_, .f32⟩
  | 20 => ⟨S1x4112x8, .f32⟩
  | 21 => ⟨S1x4112x8x1, .f32⟩
  | 22 => ⟨S_, .f32⟩
  | 23 => ⟨S1x4112x8x1, .f32⟩
  | 24 => ⟨S1x4112x8x1, .f32⟩
  | 25 => ⟨S_, .f32⟩
  | 26 => ⟨S1x4112x8x1, .f32⟩
  | 27 => ⟨S1x4112x8x1, .f32⟩
  | 28 => ⟨S1x4112x8x1, .f32⟩
  | 29 => ⟨S1x4112x8x1, .f32⟩
  | 30 => ⟨S_, .f32⟩
  | 31 => ⟨S1x4112x8x1, .f32⟩
  | 32 => ⟨S1x4112x8x1, .f32⟩
  | 33 => ⟨S1x4112x8x256, .f32⟩
  | 34 => ⟨S1x4112x8x256, .f32⟩
  | 35 => ⟨S1x4112x2048, .f32⟩
  | 36 => ⟨S1x1x2048, .f32⟩
  | 37 => ⟨S1x4112x2048, .f32⟩
  | 38 => ⟨S1x4112x2048, .f32⟩
  | 39 => ⟨S1x4112x2048, .f32⟩
  | 40 => ⟨S1x4112x2048, .f32⟩
  | 41 => ⟨S_, .f32⟩
  | 42 => ⟨S1x4112x2048, .f32⟩
  | 43 => ⟨S1x4112x2048, .f32⟩
  | 44 => ⟨S_, .f32⟩
  | 45 => ⟨S1x4112x2048, .f32⟩
  | 46 => ⟨S1x4112x2048, .f32⟩
  | 47 => ⟨S_, .f32⟩
  | 48 => ⟨S1x4112x2048, .f32⟩
  | 49 => ⟨S1x4112x2048, .f32⟩
  | 50 => ⟨S1x4112x2048, .f32⟩
  | 51 => ⟨S1x4112x2048, .f32⟩
  | 52 => ⟨S1x4112x2048, .f32⟩
  | 53 => ⟨S1x4112x2048, .f32⟩
  | 54 => ⟨S1x4112x2048, .f32⟩
  | 55 => ⟨S1x4112x2048, .f32⟩
  | 56 => ⟨S1x4112x2048, .f32⟩
  | 57 => ⟨S1x4112x2048, .f32⟩
  | 58 => ⟨S1x4112x2048, .f32⟩
  | 59 => ⟨S1x4112x2048, .f32⟩
  | 60 => ⟨S1x4112x2048, .f32⟩
  | 61 => ⟨S_, .f32⟩
  | 62 => ⟨S1x2048, .f32⟩
  | 63 => ⟨S1x1x2048, .f32⟩
  | 64 => ⟨S1x4112x2048, .f32⟩
  | 65 => ⟨S1x4112x2048, .f32⟩
  | 66 => ⟨S_, .f32⟩
  | 67 => ⟨S2048, .f32⟩
  | 68 => ⟨S1x2048, .f32⟩
  | 69 => ⟨S1x4112x8x256, .f32⟩
  | 70 => ⟨S1x4112x8x256, .f32⟩
  | 71 => ⟨S_, .f32⟩
  | 72 => ⟨S1x4112x8, .f32⟩
  | 73 => ⟨S1x4112x8x1, .f32⟩
  | 74 => ⟨S1x4112x8x256, .f32⟩
  | 75 => ⟨S1x4112x8x256, .f32⟩
  | 76 => ⟨S1x4112x8x1, .f32⟩
  | 77 => ⟨S_, .f32⟩
  | 78 => ⟨S1x4112x8x1, .f32⟩
  | 79 => ⟨S1x4112x8x1, .f32⟩
  | 80 => ⟨S_, .f32⟩
  | 81 => ⟨S4112x8, .f32⟩
  | 82 => ⟨S1x4112x8, .f32⟩
  | 83 => ⟨S1x4112x8x256, .f32⟩
  | 84 => ⟨S1x4112x8x256, .f32⟩
  | 85 => ⟨S1x4112x8x256, .f32⟩
  | 86 => ⟨S1x4112x8x256, .f32⟩
  | 87 => ⟨S1x4112x8x256, .f32⟩
  | 88 => ⟨S_, .f32⟩
  | 89 => ⟨S1x4224x8x256, .f32⟩
  | 90 => ⟨S1x33x128x8x256, .f32⟩
  | 91 => ⟨S1x8x33x128x256, .f32⟩
  | 92 => ⟨S1x8x33x256x128, .f32⟩
  | 93 => ⟨S33x1x8x128x256, .f32⟩
  | 94 => ⟨S1x8x33x128x128, .f32⟩
  | 95 => ⟨S1x8x33x128x128, .f32⟩
  | 96 => ⟨S1x8x33x128x128, .f32⟩
  | 97 => ⟨S11x1x8x128x256, .f32⟩
  | 98 => ⟨S11x1x8x128x256, .f32⟩
  | 99 => ⟨S11x1x8x128x256, .f32⟩
  | 100 => ⟨S1x1x8x128x256, .f32⟩
  | 101 => ⟨S1x1x8x128x256, .f32⟩
  | 102 => ⟨S1x1x8x128x256, .f32⟩
  | 103 => ⟨S1x1x8x128x256, .f32⟩
  | 104 => ⟨S1x1x8x128x256, .f32⟩
  | 105 => ⟨S1x1x8x128x256, .f32⟩
  | 106 => ⟨S1x1x8x128x256, .f32⟩
  | 107 => ⟨S1x1x8x128x256, .f32⟩
  | 108 => ⟨S1x1x8x128x256, .f32⟩
  | 109 => ⟨S1x1x8x128x256, .f32⟩
  | 110 => ⟨S1x1x8x128x256, .f32⟩
  | 111 => ⟨S1x1x8x128x256, .f32⟩
  | 112 => ⟨S1x1x8x128x256, .f32⟩
  | 113 => ⟨S1x1x8x128x256, .f32⟩
  | 114 => ⟨S1x1x8x128x256, .f32⟩
  | 115 => ⟨S1x1x8x128x256, .f32⟩
  | 116 => ⟨S1x1x8x128x256, .f32⟩
  | 117 => ⟨S1x1x8x128x256, .f32⟩
  | 118 => ⟨S1x1x8x128x256, .f32⟩
  | 119 => ⟨S1x1x8x128x256, .f32⟩
  | 120 => ⟨S1x1x8x128x256, .f32⟩
  | 121 => ⟨S1x1x8x128x256, .f32⟩
  | 122 => ⟨S1x1x8x128x256, .f32⟩
  | 123 => ⟨S1x1x8x128x256, .f32⟩
  | 124 => ⟨S1x1x8x128x256, .f32⟩
  | 125 => ⟨S1x1x8x128x256, .f32⟩
  | 126 => ⟨S1x1x8x128x256, .f32⟩
  | 127 => ⟨S1x1x8x128x256, .f32⟩
  | _ => ⟨S4112x8192, .f32⟩

abbrev hbmTy0_3 (i : Nat) : BufTy := match i % 128 with
  | 0 => ⟨S1x1x8x128x256, .f32⟩
  | 1 => ⟨S1x1x8x128x256, .f32⟩
  | 2 => ⟨S1x1x8x128x256, .f32⟩
  | 3 => ⟨S_, .f32⟩
  | 4 => ⟨S1x1x8x128x256, .f32⟩
  | 5 => ⟨S11x1x8x128x256, .f32⟩
  | 6 => ⟨S1x1x8x128x256, .f32⟩
  | 7 => ⟨S1x1x8x128x256, .f32⟩
  | 8 => ⟨S1x1x8x128x256, .f32⟩
  | 9 => ⟨S1x1x8x128x256, .f32⟩
  | 10 => ⟨S1x1x8x128x256, .f32⟩
  | 11 => ⟨S1x1x8x128x256, .f32⟩
  | 12 => ⟨S1x1x8x128x256, .f32⟩
  | 13 => ⟨S1x1x8x128x256, .f32⟩
  | 14 => ⟨S1x1x8x128x256, .f32⟩
  | 15 => ⟨S1x1x8x128x256, .f32⟩
  | 16 => ⟨S1x1x8x128x256, .f32⟩
  | 17 => ⟨S1x1x8x128x256, .f32⟩
  | 18 => ⟨S1x1x8x128x256, .f32⟩
  | 19 => ⟨S1x1x8x128x256, .f32⟩
  | 20 => ⟨S1x1x8x128x256, .f32⟩
  | 21 => ⟨S1x1x8x128x256, .f32⟩
  | 22 => ⟨S1x1x8x128x256, .f32⟩
  | 23 => ⟨S1x1x8x128x256, .f32⟩
  | 24 => ⟨S1x1x8x128x256, .f32⟩
  | 25 => ⟨S1x1x8x128x256, .f32⟩
  | 26 => ⟨S1x1x8x128x256, .f32⟩
  | 27 => ⟨S1x1x8x128x256, .f32⟩
  | 28 => ⟨S1x1x8x128x256, .f32⟩
  | 29 => ⟨S1x1x8x128x256, .f32⟩
  | 30 => ⟨S1x1x8x128x256, .f32⟩
  | 31 => ⟨S1x1x8x128x256, .f32⟩
  | 32 => ⟨S1x1x8x128x256, .f32⟩
  | 33 => ⟨S1x1x8x128x256, .f32⟩
  | 34 => ⟨S1x1x8x128x256, .f32⟩
  | 35 => ⟨S1x1x8x128x256, .f32⟩
  | 36 => ⟨S1x1x8x128x256, .f32⟩
  | 37 => ⟨S1x1x8x128x256, .f32⟩
  | 38 => ⟨S1x1x8x128x256, .f32⟩
  | 39 => ⟨S11x1x8x128x256, .f32⟩
  | 40 => ⟨S1x1x8x128x256, .f32⟩
  | 41 => ⟨S1x1x8x128x256, .f32⟩
  | 42 => ⟨S1x1x8x128x256, .f32⟩
  | 43 => ⟨S1x1x8x128x256, .f32⟩
  | 44 => ⟨S1x1x8x128x256, .f32⟩
  | 45 => ⟨S1x1x8x128x256, .f32⟩
  | 46 => ⟨S1x1x8x128x256, .f32⟩
  | 47 => ⟨S1x1x8x128x256, .f32⟩
  | 48 => ⟨S1x1x8x128x256, .f32⟩
  | 49 => ⟨S1x1x8x128x256, .f32⟩
  | 50 => ⟨S1x1x8x128x256, .f32⟩
  | 51 => ⟨S1x1x8x128x256, .f32⟩
  | 52 => ⟨S1x1x8x128x256, .f32⟩
  | 53 => ⟨S1x1x8x128x256, .f32⟩
  | 54 => ⟨S1x1x8x128x256, .f32⟩
  | 55 => ⟨S1x1x8x128x256, .f32⟩
  | 56 => ⟨S1x1x8x128x256, .f32⟩
  | 57 => ⟨S1x1x8x128x256, .f32⟩
  | 58 => ⟨S1x1x8x128x256, .f32⟩
  | 59 => ⟨S1x1x8x128x256, .f32⟩
  | 60 => ⟨S1x1x8x128x256, .f32⟩
  | 61 => ⟨S1x1x8x128x256, .f32⟩
  | 62 => ⟨S1x1x8x128x256, .f32⟩
  | 63 => ⟨S1x1x8x128x256, .f32⟩
  | 64 => ⟨S1x1x8x128x256, .f32⟩
  | 65 => ⟨S1x1x8x128x256, .f32⟩
  | 66 => ⟨S1x1x8x128x256, .f32⟩
  | 67 => ⟨S1x1x8x128x256, .f32⟩
  | 68 => ⟨S1x1x8x128x256, .f32⟩
  | 69 => ⟨S1x1x8x128x256, .f32⟩
  | 70 => ⟨S1x1x8x128x256, .f32⟩
  | 71 => ⟨S11x1x8x128x256, .f32⟩
  | 72 => ⟨S33x1x8x128x256, .f32⟩
  | 73 => ⟨S33x1x8x256x128, .f32⟩
  | 74 => ⟨S1x8x33x128x256, .f32⟩
  | 75 => ⟨S33x1x8x128x128, .f32⟩
  | 76 => ⟨S1x8x33x128x128, .f32⟩
  | 77 => ⟨S1x8x33x128x128, .f32⟩
  | 78 => ⟨S1x8x33x128x128, .f32⟩
  | 79 => ⟨S1x8x33x256x128, .f32⟩
  | 80 => ⟨S1x8x33x128x256, .f32⟩
  | 81 => ⟨S1x8x33x128x256, .f32⟩
  | 82 => ⟨S1x8x33x128x128, .f32⟩
  | 83 => ⟨S1x8x33x128x128, .f32⟩
  | 84 => ⟨S1x8x33x128x128, .f32⟩
  | 85 => ⟨S1x8x33x128x128, .f32⟩
  | 86 => ⟨S1x8x33x128x128, .f32⟩
  | 87 => ⟨S1x8x33x128x128, .f32⟩
  | 88 => ⟨S1x8x33x128x128, .f32⟩
  | 89 => ⟨S1x33x128x8x256, .f32⟩
  | 90 => ⟨S1x4224x8x256, .f32⟩
  | 91 => ⟨S1x112x8x256, .f32⟩
  | 92 => ⟨S1x4112x8x256, .f32⟩
  | 93 => ⟨S1x33x128x8x128, .f32⟩
  | 94 => ⟨S1x4224x8x128, .f32⟩
  | 95 => ⟨S1x112x8x128, .f32⟩
  | 96 => ⟨S1x4112x8x128, .f32⟩
  | 97 => ⟨S1x33x128x8x128, .f32⟩
  | 98 => ⟨S1x4224x8x128, .f32⟩
  | 99 => ⟨S1x112x8x128, .f32⟩
  | 100 => ⟨S1x4112x8x128, .f32⟩
  | 101 => ⟨S1x4112x2048, .f32⟩
  | 102 => ⟨S_, .f32⟩
  | 103 => ⟨S1x4112x8x128, .f32⟩
  | 104 => ⟨S1x4112x8x128, .f32⟩
  | 105 => ⟨S1x4112x8x64, .f32⟩
  | 106 => ⟨S1x4112x8x64, .f32⟩
  | 107 => ⟨S1x4112x8x64, .f32⟩
  | 108 => ⟨S1x4112x8x64, .f32⟩
  | 109 => ⟨S1x4112x8x64, .f32⟩
  | 110 => ⟨S1x4112x8x64, .f32⟩
  | 111 => ⟨S1x4112x8x64, .f32⟩
  | 112 => ⟨S1x4112x8x64, .f32⟩
  | 113 => ⟨S1x4112x8x64, .f32⟩
  | 114 => ⟨S1x4112x8x64, .f32⟩
  | 115 => ⟨S1x4112x8x64, .f32⟩
  | 116 => ⟨S1x4112x8x64, .f32⟩
  | 117 => ⟨S1x4112x8x64, .f32⟩
  | 118 => ⟨S_, .f32⟩
  | 119 => ⟨S1x4112x8x128, .f32⟩
  | 120 => ⟨S_, .f32⟩
  | 121 => ⟨S1x4112x8x128, .f32⟩
  | 122 => ⟨S1x4112x8x128, .f32⟩
  | 123 => ⟨S1x4112x1024, .f32⟩
  | 124 => ⟨S1x4112x8x64, .f32⟩
  | 125 => ⟨S1x4112x8x64, .f32⟩
  | 126 => ⟨S1x4112x8x64, .f32⟩
  | 127 => ⟨S1x4112x8x64, .f32⟩
  | _ => ⟨S4112x8192, .f32⟩

abbrev hbmTy0_4 (i : Nat) : BufTy := match i % 128 with
  | 0 => ⟨S1x4112x8x64, .f32⟩
  | 1 => ⟨S1x4112x8x64, .f32⟩
  | 2 => ⟨S1x4112x8x64, .f32⟩
  | 3 => ⟨S1x4112x8x64, .f32⟩
  | 4 => ⟨S1x4112x8x64, .f32⟩
  | 5 => ⟨S1x4112x8x64, .f32⟩
  | 6 => ⟨S1x4112x8x64, .f32⟩
  | 7 => ⟨S1x4112x8x64, .f32⟩
  | 8 => ⟨S1x4112x8x64, .f32⟩
  | 9 => ⟨S_, .f32⟩
  | 10 => ⟨S1x4112x8x128, .f32⟩
  | 11 => ⟨S_, .f32⟩
  | 12 => ⟨S1x4112x8x128, .f32⟩
  | 13 => ⟨S1x4112x8x128, .f32⟩
  | 14 => ⟨S1x4112x1024, .f32⟩
  | 15 => ⟨S_, .f32⟩
  | 16 => ⟨S1x4112x1024, .f32⟩
  | 17 => ⟨S_, .f32⟩
  | 18 => ⟨S1x4112x1024, .f32⟩
  | 19 => ⟨S1x4112x8192, .f32⟩
  | 20 => ⟨S_, .f32⟩
  | 21 => ⟨S4112x8192, .f32⟩
  | 22 => ⟨S_, .f32⟩
  | 23 => ⟨S112x8192, .f32⟩
  | 24 => ⟨S4224x8192, .f32⟩
  | 25 => ⟨S4224x8192, .bf16⟩
  | 26 => ⟨S8x1x256, .f32⟩
  | _ => ⟨S4112x8192, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | _ => ⟨S4112x8192, .f32⟩

abbrev bufTy : (tb : Table) → Fin (tcTables nBuf tb) → BufTy
  | .hbm, ⟨i, _⟩ => hbmTy i
  | _, _ => ⟨S4112x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_v8 : Ref sig .tc := ⟨.hbm, 14, rfl⟩
abbrev main_cst_2 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩
abbrev main_v35 : Ref sig .tc := ⟨.hbm, 42, rfl⟩
abbrev main_v36 : Ref sig .tc := ⟨.hbm, 43, rfl⟩
abbrev main_v37 : Ref sig .tc := ⟨.hbm, 44, rfl⟩
abbrev main_v38 : Ref sig .tc := ⟨.hbm, 45, rfl⟩
abbrev main_v39 : Ref sig .tc := ⟨.hbm, 46, rfl⟩
abbrev main_v40 : Ref sig .tc := ⟨.hbm, 47, rfl⟩
abbrev main_v41 : Ref sig .tc := ⟨.hbm, 48, rfl⟩
abbrev main_v42 : Ref sig .tc := ⟨.hbm, 49, rfl⟩
abbrev main_v43 : Ref sig .tc := ⟨.hbm, 50, rfl⟩
abbrev main_v44 : Ref sig .tc := ⟨.hbm, 51, rfl⟩
abbrev main_v45 : Ref sig .tc := ⟨.hbm, 52, rfl⟩
abbrev main_v46 : Ref sig .tc := ⟨.hbm, 53, rfl⟩
abbrev main_v47 : Ref sig .tc := ⟨.hbm, 54, rfl⟩
abbrev main_v48 : Ref sig .tc := ⟨.hbm, 55, rfl⟩
abbrev main_v49 : Ref sig .tc := ⟨.hbm, 56, rfl⟩
abbrev main_v50 : Ref sig .tc := ⟨.hbm, 57, rfl⟩
abbrev main_v51 : Ref sig .tc := ⟨.hbm, 58, rfl⟩
abbrev main_v52 : Ref sig .tc := ⟨.hbm, 59, rfl⟩
abbrev main_v53 : Ref sig .tc := ⟨.hbm, 60, rfl⟩
abbrev main_v54 : Ref sig .tc := ⟨.hbm, 61, rfl⟩
abbrev main_v55 : Ref sig .tc := ⟨.hbm, 62, rfl⟩
abbrev main_v56 : Ref sig .tc := ⟨.hbm, 63, rfl⟩
abbrev main_cst_3 : Ref sig .tc := ⟨.hbm, 64, rfl⟩
abbrev main_v57 : Ref sig .tc := ⟨.hbm, 65, rfl⟩
abbrev main_v58 : Ref sig .tc := ⟨.hbm, 66, rfl⟩
abbrev main_v59 : Ref sig .tc := ⟨.hbm, 67, rfl⟩
abbrev main_cst_4 : Ref sig .tc := ⟨.hbm, 68, rfl⟩
abbrev main_v60 : Ref sig .tc := ⟨.hbm, 69, rfl⟩
abbrev main_v61 : Ref sig .tc := ⟨.hbm, 70, rfl⟩
abbrev main_cst_5 : Ref sig .tc := ⟨.hbm, 71, rfl⟩
abbrev main_v62 : Ref sig .tc := ⟨.hbm, 72, rfl⟩
abbrev main_v63 : Ref sig .tc := ⟨.hbm, 73, rfl⟩
abbrev main_v64 : Ref sig .tc := ⟨.hbm, 74, rfl⟩
abbrev main_cst_6 : Ref sig .tc := ⟨.hbm, 75, rfl⟩
abbrev main_v65 : Ref sig .tc := ⟨.hbm, 76, rfl⟩
abbrev main_v66 : Ref sig .tc := ⟨.hbm, 77, rfl⟩
abbrev main_cst_7 : Ref sig .tc := ⟨.hbm, 78, rfl⟩
abbrev main_v67 : Ref sig .tc := ⟨.hbm, 79, rfl⟩
abbrev main_v68 : Ref sig .tc := ⟨.hbm, 80, rfl⟩
abbrev main_v69 : Ref sig .tc := ⟨.hbm, 81, rfl⟩
abbrev main_cst_8 : Ref sig .tc := ⟨.hbm, 82, rfl⟩
abbrev main_v70 : Ref sig .tc := ⟨.hbm, 83, rfl⟩
abbrev main_v71 : Ref sig .tc := ⟨.hbm, 84, rfl⟩
abbrev main_cst_9 : Ref sig .tc := ⟨.hbm, 85, rfl⟩
abbrev main_v72 : Ref sig .tc := ⟨.hbm, 86, rfl⟩
abbrev main_v73 : Ref sig .tc := ⟨.hbm, 87, rfl⟩
abbrev main_v74 : Ref sig .tc := ⟨.hbm, 88, rfl⟩
abbrev main_v75 : Ref sig .tc := ⟨.hbm, 89, rfl⟩
abbrev main_cst_10 : Ref sig .tc := ⟨.hbm, 90, rfl⟩
abbrev main_v76 : Ref sig .tc := ⟨.hbm, 91, rfl⟩
abbrev main_v77 : Ref sig .tc := ⟨.hbm, 92, rfl⟩
abbrev main_cst_11 : Ref sig .tc := ⟨.hbm, 93, rfl⟩
abbrev main_v78 : Ref sig .tc := ⟨.hbm, 94, rfl⟩
abbrev main_v79 : Ref sig .tc := ⟨.hbm, 95, rfl⟩
abbrev main_v80 : Ref sig .tc := ⟨.hbm, 96, rfl⟩
abbrev main_v81 : Ref sig .tc := ⟨.hbm, 97, rfl⟩
abbrev main_v82 : Ref sig .tc := ⟨.hbm, 98, rfl⟩
abbrev main_v83 : Ref sig .tc := ⟨.hbm, 99, rfl⟩
abbrev main_v84 : Ref sig .tc := ⟨.hbm, 100, rfl⟩
abbrev main_v85 : Ref sig .tc := ⟨.hbm, 101, rfl⟩
abbrev main_v86 : Ref sig .tc := ⟨.hbm, 102, rfl⟩
abbrev main_v87 : Ref sig .tc := ⟨.hbm, 103, rfl⟩
abbrev main_v88 : Ref sig .tc := ⟨.hbm, 104, rfl⟩
abbrev main_cst_12 : Ref sig .tc := ⟨.hbm, 105, rfl⟩
abbrev main_v89 : Ref sig .tc := ⟨.hbm, 106, rfl⟩
abbrev main_v90 : Ref sig .tc := ⟨.hbm, 107, rfl⟩
abbrev main_v91 : Ref sig .tc := ⟨.hbm, 108, rfl⟩
abbrev main_cst_13 : Ref sig .tc := ⟨.hbm, 109, rfl⟩
abbrev main_v92 : Ref sig .tc := ⟨.hbm, 110, rfl⟩
abbrev main_v93 : Ref sig .tc := ⟨.hbm, 111, rfl⟩
abbrev main_v94 : Ref sig .tc := ⟨.hbm, 112, rfl⟩
abbrev main_v95 : Ref sig .tc := ⟨.hbm, 113, rfl⟩
abbrev main_v96 : Ref sig .tc := ⟨.hbm, 114, rfl⟩
abbrev main_v97 : Ref sig .tc := ⟨.hbm, 115, rfl⟩
abbrev main_v98 : Ref sig .tc := ⟨.hbm, 116, rfl⟩
abbrev main_cst_14 : Ref sig .tc := ⟨.hbm, 117, rfl⟩
abbrev main_call0_v0 : Ref sig .tc := ⟨.hbm, 118, rfl⟩
abbrev main_call0_v1 : Ref sig .tc := ⟨.hbm, 119, rfl⟩
abbrev main_call0_v2 : Ref sig .tc := ⟨.hbm, 120, rfl⟩
abbrev main_v99 : Ref sig .tc := ⟨.hbm, 121, rfl⟩
abbrev main_v100 : Ref sig .tc := ⟨.hbm, 122, rfl⟩
abbrev main_v101 : Ref sig .tc := ⟨.hbm, 123, rfl⟩
abbrev main_v102 : Ref sig .tc := ⟨.hbm, 124, rfl⟩
abbrev main_v103 : Ref sig .tc := ⟨.hbm, 125, rfl⟩
abbrev main_v104 : Ref sig .tc := ⟨.hbm, 126, rfl⟩
abbrev main_v105 : Ref sig .tc := ⟨.hbm, 127, rfl⟩
abbrev main_cst_15 : Ref sig .tc := ⟨.hbm, 128, rfl⟩
abbrev main_v106 : Ref sig .tc := ⟨.hbm, 129, rfl⟩
abbrev main_v107 : Ref sig .tc := ⟨.hbm, 130, rfl⟩
abbrev main_v108 : Ref sig .tc := ⟨.hbm, 131, rfl⟩
abbrev main_v109 : Ref sig .tc := ⟨.hbm, 132, rfl⟩
abbrev main_v110 : Ref sig .tc := ⟨.hbm, 133, rfl⟩
abbrev main_v111 : Ref sig .tc := ⟨.hbm, 134, rfl⟩
abbrev main_v112 : Ref sig .tc := ⟨.hbm, 135, rfl⟩
abbrev main_v113 : Ref sig .tc := ⟨.hbm, 136, rfl⟩
abbrev main_v114 : Ref sig .tc := ⟨.hbm, 137, rfl⟩
abbrev main_v115 : Ref sig .tc := ⟨.hbm, 138, rfl⟩
abbrev main_v116 : Ref sig .tc := ⟨.hbm, 139, rfl⟩
abbrev main_cst_16 : Ref sig .tc := ⟨.hbm, 140, rfl⟩
abbrev main_v117 : Ref sig .tc := ⟨.hbm, 141, rfl⟩
abbrev main_v118 : Ref sig .tc := ⟨.hbm, 142, rfl⟩
abbrev main_v119 : Ref sig .tc := ⟨.hbm, 143, rfl⟩
abbrev main_v120 : Ref sig .tc := ⟨.hbm, 144, rfl⟩
abbrev main_v121 : Ref sig .tc := ⟨.hbm, 145, rfl⟩
abbrev main_v122 : Ref sig .tc := ⟨.hbm, 146, rfl⟩
abbrev main_cst_17 : Ref sig .tc := ⟨.hbm, 147, rfl⟩
abbrev main_v123 : Ref sig .tc := ⟨.hbm, 148, rfl⟩
abbrev main_v124 : Ref sig .tc := ⟨.hbm, 149, rfl⟩
abbrev main_v125 : Ref sig .tc := ⟨.hbm, 150, rfl⟩
abbrev main_v126 : Ref sig .tc := ⟨.hbm, 151, rfl⟩
abbrev main_v127 : Ref sig .tc := ⟨.hbm, 152, rfl⟩
abbrev main_v128 : Ref sig .tc := ⟨.hbm, 153, rfl⟩
abbrev main_v129 : Ref sig .tc := ⟨.hbm, 154, rfl⟩
abbrev main_v130 : Ref sig .tc := ⟨.hbm, 155, rfl⟩
abbrev main_v131 : Ref sig .tc := ⟨.hbm, 156, rfl⟩
abbrev main_v132 : Ref sig .tc := ⟨.hbm, 157, rfl⟩
abbrev main_v133 : Ref sig .tc := ⟨.hbm, 158, rfl⟩
abbrev main_v134 : Ref sig .tc := ⟨.hbm, 159, rfl⟩
abbrev main_v135 : Ref sig .tc := ⟨.hbm, 160, rfl⟩
abbrev main_v136 : Ref sig .tc := ⟨.hbm, 161, rfl⟩
abbrev main_v137 : Ref sig .tc := ⟨.hbm, 162, rfl⟩
abbrev main_v138 : Ref sig .tc := ⟨.hbm, 163, rfl⟩
abbrev main_v139 : Ref sig .tc := ⟨.hbm, 164, rfl⟩
abbrev main_v140 : Ref sig .tc := ⟨.hbm, 165, rfl⟩
abbrev main_v141 : Ref sig .tc := ⟨.hbm, 166, rfl⟩
abbrev main_v142 : Ref sig .tc := ⟨.hbm, 167, rfl⟩
abbrev main_v143 : Ref sig .tc := ⟨.hbm, 168, rfl⟩
abbrev main_v144 : Ref sig .tc := ⟨.hbm, 169, rfl⟩
abbrev main_v145 : Ref sig .tc := ⟨.hbm, 170, rfl⟩
abbrev main_v146 : Ref sig .tc := ⟨.hbm, 171, rfl⟩
abbrev main_v147 : Ref sig .tc := ⟨.hbm, 172, rfl⟩
abbrev main_v148 : Ref sig .tc := ⟨.hbm, 173, rfl⟩
abbrev main_v149 : Ref sig .tc := ⟨.hbm, 174, rfl⟩
abbrev main_v150 : Ref sig .tc := ⟨.hbm, 175, rfl⟩
abbrev main_v151 : Ref sig .tc := ⟨.hbm, 176, rfl⟩
abbrev main_v152 : Ref sig .tc := ⟨.hbm, 177, rfl⟩
abbrev main_v153 : Ref sig .tc := ⟨.hbm, 178, rfl⟩
abbrev main_v154 : Ref sig .tc := ⟨.hbm, 179, rfl⟩
abbrev main_v155 : Ref sig .tc := ⟨.hbm, 180, rfl⟩
abbrev main_v156 : Ref sig .tc := ⟨.hbm, 181, rfl⟩
abbrev main_v157 : Ref sig .tc := ⟨.hbm, 182, rfl⟩
abbrev main_v158 : Ref sig .tc := ⟨.hbm, 183, rfl⟩
abbrev main_v159 : Ref sig .tc := ⟨.hbm, 184, rfl⟩
abbrev main_v160 : Ref sig .tc := ⟨.hbm, 185, rfl⟩
abbrev main_cst_18 : Ref sig .tc := ⟨.hbm, 186, rfl⟩
abbrev main_v161 : Ref sig .tc := ⟨.hbm, 187, rfl⟩
abbrev main_v162 : Ref sig .tc := ⟨.hbm, 188, rfl⟩
abbrev main_v163 : Ref sig .tc := ⟨.hbm, 189, rfl⟩
abbrev main_v164 : Ref sig .tc := ⟨.hbm, 190, rfl⟩
abbrev main_v165 : Ref sig .tc := ⟨.hbm, 191, rfl⟩
abbrev main_v166 : Ref sig .tc := ⟨.hbm, 192, rfl⟩
abbrev main_v167 : Ref sig .tc := ⟨.hbm, 193, rfl⟩
abbrev main_v168 : Ref sig .tc := ⟨.hbm, 194, rfl⟩
abbrev main_v169 : Ref sig .tc := ⟨.hbm, 195, rfl⟩
abbrev main_v170 : Ref sig .tc := ⟨.hbm, 196, rfl⟩
abbrev main_v171 : Ref sig .tc := ⟨.hbm, 197, rfl⟩
abbrev main_v172 : Ref sig .tc := ⟨.hbm, 198, rfl⟩
abbrev main_v173 : Ref sig .tc := ⟨.hbm, 199, rfl⟩
abbrev main_v174 : Ref sig .tc := ⟨.hbm, 200, rfl⟩
abbrev main_v175 : Ref sig .tc := ⟨.hbm, 201, rfl⟩
abbrev main_v176 : Ref sig .tc := ⟨.hbm, 202, rfl⟩
abbrev main_v177 : Ref sig .tc := ⟨.hbm, 203, rfl⟩
abbrev main_v178 : Ref sig .tc := ⟨.hbm, 204, rfl⟩
abbrev main_v179 : Ref sig .tc := ⟨.hbm, 205, rfl⟩
abbrev main_v180 : Ref sig .tc := ⟨.hbm, 206, rfl⟩
abbrev main_v181 : Ref sig .tc := ⟨.hbm, 207, rfl⟩
abbrev main_v182 : Ref sig .tc := ⟨.hbm, 208, rfl⟩
abbrev main_v183 : Ref sig .tc := ⟨.hbm, 209, rfl⟩
abbrev main_v184 : Ref sig .tc := ⟨.hbm, 210, rfl⟩
abbrev main_v185 : Ref sig .tc := ⟨.hbm, 211, rfl⟩
abbrev main_v186 : Ref sig .tc := ⟨.hbm, 212, rfl⟩
abbrev main_v187 : Ref sig .tc := ⟨.hbm, 213, rfl⟩
abbrev main_v188 : Ref sig .tc := ⟨.hbm, 214, rfl⟩
abbrev main_v189 : Ref sig .tc := ⟨.hbm, 215, rfl⟩
abbrev main_v190 : Ref sig .tc := ⟨.hbm, 216, rfl⟩
abbrev main_v191 : Ref sig .tc := ⟨.hbm, 217, rfl⟩
abbrev main_v192 : Ref sig .tc := ⟨.hbm, 218, rfl⟩
abbrev main_v193 : Ref sig .tc := ⟨.hbm, 219, rfl⟩
abbrev main_v194 : Ref sig .tc := ⟨.hbm, 220, rfl⟩
abbrev main_v195 : Ref sig .tc := ⟨.hbm, 221, rfl⟩
abbrev main_v196 : Ref sig .tc := ⟨.hbm, 222, rfl⟩
abbrev main_v197 : Ref sig .tc := ⟨.hbm, 223, rfl⟩
abbrev main_v198 : Ref sig .tc := ⟨.hbm, 224, rfl⟩
abbrev main_v199 : Ref sig .tc := ⟨.hbm, 225, rfl⟩
abbrev main_v200 : Ref sig .tc := ⟨.hbm, 226, rfl⟩
abbrev main_v201 : Ref sig .tc := ⟨.hbm, 227, rfl⟩
abbrev main_v202 : Ref sig .tc := ⟨.hbm, 228, rfl⟩
abbrev main_v203 : Ref sig .tc := ⟨.hbm, 229, rfl⟩
abbrev main_v204 : Ref sig .tc := ⟨.hbm, 230, rfl⟩
abbrev main_v205 : Ref sig .tc := ⟨.hbm, 231, rfl⟩
abbrev main_v206 : Ref sig .tc := ⟨.hbm, 232, rfl⟩
abbrev main_v207 : Ref sig .tc := ⟨.hbm, 233, rfl⟩
abbrev main_v208 : Ref sig .tc := ⟨.hbm, 234, rfl⟩
abbrev main_v209 : Ref sig .tc := ⟨.hbm, 235, rfl⟩
abbrev main_v210 : Ref sig .tc := ⟨.hbm, 236, rfl⟩
abbrev main_v211 : Ref sig .tc := ⟨.hbm, 237, rfl⟩
abbrev main_v212 : Ref sig .tc := ⟨.hbm, 238, rfl⟩
abbrev main_v213 : Ref sig .tc := ⟨.hbm, 239, rfl⟩
abbrev main_v214 : Ref sig .tc := ⟨.hbm, 240, rfl⟩
abbrev main_v215 : Ref sig .tc := ⟨.hbm, 241, rfl⟩
abbrev main_v216 : Ref sig .tc := ⟨.hbm, 242, rfl⟩
abbrev main_v217 : Ref sig .tc := ⟨.hbm, 243, rfl⟩
abbrev main_v218 : Ref sig .tc := ⟨.hbm, 244, rfl⟩
abbrev main_v219 : Ref sig .tc := ⟨.hbm, 245, rfl⟩
abbrev main_v220 : Ref sig .tc := ⟨.hbm, 246, rfl⟩
abbrev main_v221 : Ref sig .tc := ⟨.hbm, 247, rfl⟩
abbrev main_v222 : Ref sig .tc := ⟨.hbm, 248, rfl⟩
abbrev main_v223 : Ref sig .tc := ⟨.hbm, 249, rfl⟩
abbrev main_v224 : Ref sig .tc := ⟨.hbm, 250, rfl⟩
abbrev main_v225 : Ref sig .tc := ⟨.hbm, 251, rfl⟩
abbrev main_v226 : Ref sig .tc := ⟨.hbm, 252, rfl⟩
abbrev main_v227 : Ref sig .tc := ⟨.hbm, 253, rfl⟩
abbrev main_v228 : Ref sig .tc := ⟨.hbm, 254, rfl⟩
abbrev main_v229 : Ref sig .tc := ⟨.hbm, 255, rfl⟩
abbrev main_v230 : Ref sig .tc := ⟨.hbm, 256, rfl⟩
abbrev main_v231 : Ref sig .tc := ⟨.hbm, 257, rfl⟩
abbrev main_cst_19 : Ref sig .tc := ⟨.hbm, 258, rfl⟩
abbrev main_v232 : Ref sig .tc := ⟨.hbm, 259, rfl⟩
abbrev main_v233 : Ref sig .tc := ⟨.hbm, 260, rfl⟩
abbrev main_v234 : Ref sig .tc := ⟨.hbm, 261, rfl⟩
abbrev main_v235 : Ref sig .tc := ⟨.hbm, 262, rfl⟩
abbrev main_v236 : Ref sig .tc := ⟨.hbm, 263, rfl⟩
abbrev main_v237 : Ref sig .tc := ⟨.hbm, 264, rfl⟩
abbrev main_v238 : Ref sig .tc := ⟨.hbm, 265, rfl⟩
abbrev main_v239 : Ref sig .tc := ⟨.hbm, 266, rfl⟩
abbrev main_v240 : Ref sig .tc := ⟨.hbm, 267, rfl⟩
abbrev main_v241 : Ref sig .tc := ⟨.hbm, 268, rfl⟩
abbrev main_v242 : Ref sig .tc := ⟨.hbm, 269, rfl⟩
abbrev main_v243 : Ref sig .tc := ⟨.hbm, 270, rfl⟩
abbrev main_v244 : Ref sig .tc := ⟨.hbm, 271, rfl⟩
abbrev main_v245 : Ref sig .tc := ⟨.hbm, 272, rfl⟩
abbrev main_v246 : Ref sig .tc := ⟨.hbm, 273, rfl⟩
abbrev main_v247 : Ref sig .tc := ⟨.hbm, 274, rfl⟩
abbrev main_cst_20 : Ref sig .tc := ⟨.hbm, 275, rfl⟩
abbrev main_v248 : Ref sig .tc := ⟨.hbm, 276, rfl⟩
abbrev main_v249 : Ref sig .tc := ⟨.hbm, 277, rfl⟩
abbrev main_cst_21 : Ref sig .tc := ⟨.hbm, 278, rfl⟩
abbrev main_v250 : Ref sig .tc := ⟨.hbm, 279, rfl⟩
abbrev main_v251 : Ref sig .tc := ⟨.hbm, 280, rfl⟩
abbrev main_cst_22 : Ref sig .tc := ⟨.hbm, 281, rfl⟩
abbrev main_v252 : Ref sig .tc := ⟨.hbm, 282, rfl⟩
abbrev main_v253 : Ref sig .tc := ⟨.hbm, 283, rfl⟩
abbrev main_v254 : Ref sig .tc := ⟨.hbm, 284, rfl⟩
abbrev main_v255 : Ref sig .tc := ⟨.hbm, 285, rfl⟩
abbrev main_cst_23 : Ref sig .tc := ⟨.hbm, 286, rfl⟩
abbrev main_v256 : Ref sig .tc := ⟨.hbm, 287, rfl⟩
abbrev main_v257 : Ref sig .tc := ⟨.hbm, 288, rfl⟩
abbrev main_v258 : Ref sig .tc := ⟨.hbm, 289, rfl⟩
abbrev main_v259 : Ref sig .tc := ⟨.hbm, 290, rfl⟩
abbrev main_v260 : Ref sig .tc := ⟨.hbm, 291, rfl⟩
abbrev main_v261 : Ref sig .tc := ⟨.hbm, 292, rfl⟩
abbrev main_v262 : Ref sig .tc := ⟨.hbm, 293, rfl⟩
abbrev main_v263 : Ref sig .tc := ⟨.hbm, 294, rfl⟩
abbrev main_call1_v0 : Ref sig .tc := ⟨.hbm, 295, rfl⟩
abbrev main_call1_v1 : Ref sig .tc := ⟨.hbm, 296, rfl⟩
abbrev main_call1_cst : Ref sig .tc := ⟨.hbm, 297, rfl⟩
abbrev main_call1_v2 : Ref sig .tc := ⟨.hbm, 298, rfl⟩
abbrev main_call1_v3 : Ref sig .tc := ⟨.hbm, 299, rfl⟩
abbrev main_call1_cst_0 : Ref sig .tc := ⟨.hbm, 300, rfl⟩
abbrev main_call1_v4 : Ref sig .tc := ⟨.hbm, 301, rfl⟩
abbrev main_v264_2 : Ref sig .tc := ⟨.hbm, 302, rfl⟩
abbrev main_call1_cst_1 : Ref sig .tc := ⟨.hbm, 303, rfl⟩
abbrev main_call1_v6 : Ref sig .tc := ⟨.hbm, 304, rfl⟩
abbrev main_call1_v7 : Ref sig .tc := ⟨.hbm, 305, rfl⟩
abbrev main_v264_1 : Ref sig .tc := ⟨.hbm, 306, rfl⟩
abbrev main_v264_0 : Ref sig .tc := ⟨.hbm, 307, rfl⟩
abbrev main_v265 : Ref sig .tc := ⟨.hbm, 308, rfl⟩
abbrev main_v266 : Ref sig .tc := ⟨.hbm, 309, rfl⟩
abbrev main_v267 : Ref sig .tc := ⟨.hbm, 310, rfl⟩
abbrev main_v268 : Ref sig .tc := ⟨.hbm, 311, rfl⟩
abbrev main_call2_v0 : Ref sig .tc := ⟨.hbm, 312, rfl⟩
abbrev main_call2_v1 : Ref sig .tc := ⟨.hbm, 313, rfl⟩
abbrev main_call2_v2 : Ref sig .tc := ⟨.hbm, 314, rfl⟩
abbrev main_v269 : Ref sig .tc := ⟨.hbm, 315, rfl⟩
abbrev main_v270 : Ref sig .tc := ⟨.hbm, 316, rfl⟩
abbrev main_cst_24 : Ref sig .tc := ⟨.hbm, 317, rfl⟩
abbrev main_v271 : Ref sig .tc := ⟨.hbm, 318, rfl⟩
abbrev main_v272 : Ref sig .tc := ⟨.hbm, 319, rfl⟩
abbrev main_v273 : Ref sig .tc := ⟨.hbm, 320, rfl⟩
abbrev main_v274 : Ref sig .tc := ⟨.hbm, 321, rfl⟩
abbrev main_cst_25 : Ref sig .tc := ⟨.hbm, 322, rfl⟩
abbrev main_v275 : Ref sig .tc := ⟨.hbm, 323, rfl⟩
abbrev main_v276 : Ref sig .tc := ⟨.hbm, 324, rfl⟩
abbrev main_v277 : Ref sig .tc := ⟨.hbm, 325, rfl⟩
abbrev main_v278 : Ref sig .tc := ⟨.hbm, 326, rfl⟩
abbrev main_cst_26 : Ref sig .tc := ⟨.hbm, 327, rfl⟩
abbrev main_v279 : Ref sig .tc := ⟨.hbm, 328, rfl⟩
abbrev main_v280 : Ref sig .tc := ⟨.hbm, 329, rfl⟩
abbrev main_v281 : Ref sig .tc := ⟨.hbm, 330, rfl⟩
abbrev main_v282 : Ref sig .tc := ⟨.hbm, 331, rfl⟩
abbrev main_v283 : Ref sig .tc := ⟨.hbm, 332, rfl⟩
abbrev main_cst_27 : Ref sig .tc := ⟨.hbm, 333, rfl⟩
abbrev main_v284 : Ref sig .tc := ⟨.hbm, 334, rfl⟩
abbrev main_v285 : Ref sig .tc := ⟨.hbm, 335, rfl⟩
abbrev main_cst_28 : Ref sig .tc := ⟨.hbm, 336, rfl⟩
abbrev main_v286 : Ref sig .tc := ⟨.hbm, 337, rfl⟩
abbrev main_v287 : Ref sig .tc := ⟨.hbm, 338, rfl⟩
abbrev main_v288 : Ref sig .tc := ⟨.hbm, 339, rfl⟩
abbrev main_v289 : Ref sig .tc := ⟨.hbm, 340, rfl⟩
abbrev main_v290 : Ref sig .tc := ⟨.hbm, 341, rfl⟩
abbrev main_v291 : Ref sig .tc := ⟨.hbm, 342, rfl⟩
abbrev main_v292 : Ref sig .tc := ⟨.hbm, 343, rfl⟩
abbrev main_cst_29 : Ref sig .tc := ⟨.hbm, 344, rfl⟩
abbrev main_v293 : Ref sig .tc := ⟨.hbm, 345, rfl⟩
abbrev main_v294 : Ref sig .tc := ⟨.hbm, 346, rfl⟩
abbrev main_v295 : Ref sig .tc := ⟨.hbm, 347, rfl⟩
abbrev main_v296 : Ref sig .tc := ⟨.hbm, 348, rfl⟩
abbrev main_v297 : Ref sig .tc := ⟨.hbm, 349, rfl⟩
abbrev main_v298 : Ref sig .tc := ⟨.hbm, 350, rfl⟩
abbrev main_v299 : Ref sig .tc := ⟨.hbm, 351, rfl⟩
abbrev main_v300 : Ref sig .tc := ⟨.hbm, 352, rfl⟩
abbrev main_v301 : Ref sig .tc := ⟨.hbm, 353, rfl⟩
abbrev main_v302 : Ref sig .tc := ⟨.hbm, 354, rfl⟩
abbrev main_v303 : Ref sig .tc := ⟨.hbm, 355, rfl⟩
abbrev main_v304 : Ref sig .tc := ⟨.hbm, 356, rfl⟩
abbrev main_v305 : Ref sig .tc := ⟨.hbm, 357, rfl⟩
abbrev main_v306 : Ref sig .tc := ⟨.hbm, 358, rfl⟩
abbrev main_v307 : Ref sig .tc := ⟨.hbm, 359, rfl⟩
abbrev main_v308 : Ref sig .tc := ⟨.hbm, 360, rfl⟩
abbrev main_v309 : Ref sig .tc := ⟨.hbm, 361, rfl⟩
abbrev main_v310 : Ref sig .tc := ⟨.hbm, 362, rfl⟩
abbrev main_v311 : Ref sig .tc := ⟨.hbm, 363, rfl⟩
abbrev main_v312 : Ref sig .tc := ⟨.hbm, 364, rfl⟩
abbrev main_v313 : Ref sig .tc := ⟨.hbm, 365, rfl⟩
abbrev main_v314 : Ref sig .tc := ⟨.hbm, 366, rfl⟩
abbrev main_v315 : Ref sig .tc := ⟨.hbm, 367, rfl⟩
abbrev main_v316 : Ref sig .tc := ⟨.hbm, 368, rfl⟩
abbrev main_v317 : Ref sig .tc := ⟨.hbm, 369, rfl⟩
abbrev main_v318 : Ref sig .tc := ⟨.hbm, 370, rfl⟩
abbrev main_v319 : Ref sig .tc := ⟨.hbm, 371, rfl⟩
abbrev main_v320 : Ref sig .tc := ⟨.hbm, 372, rfl⟩
abbrev main_v321 : Ref sig .tc := ⟨.hbm, 373, rfl⟩
abbrev main_v322 : Ref sig .tc := ⟨.hbm, 374, rfl⟩
abbrev main_v323 : Ref sig .tc := ⟨.hbm, 375, rfl⟩
abbrev main_v324 : Ref sig .tc := ⟨.hbm, 376, rfl⟩
abbrev main_v325 : Ref sig .tc := ⟨.hbm, 377, rfl⟩
abbrev main_v326 : Ref sig .tc := ⟨.hbm, 378, rfl⟩
abbrev main_v327 : Ref sig .tc := ⟨.hbm, 379, rfl⟩
abbrev main_v328 : Ref sig .tc := ⟨.hbm, 380, rfl⟩
abbrev main_v329 : Ref sig .tc := ⟨.hbm, 381, rfl⟩
abbrev main_v330 : Ref sig .tc := ⟨.hbm, 382, rfl⟩
abbrev main_v331 : Ref sig .tc := ⟨.hbm, 383, rfl⟩
abbrev main_v332 : Ref sig .tc := ⟨.hbm, 384, rfl⟩
abbrev main_v333 : Ref sig .tc := ⟨.hbm, 385, rfl⟩
abbrev main_v334 : Ref sig .tc := ⟨.hbm, 386, rfl⟩
abbrev main_cst_30 : Ref sig .tc := ⟨.hbm, 387, rfl⟩
abbrev main_v335 : Ref sig .tc := ⟨.hbm, 388, rfl⟩
abbrev main_v336 : Ref sig .tc := ⟨.hbm, 389, rfl⟩
abbrev main_v337 : Ref sig .tc := ⟨.hbm, 390, rfl⟩
abbrev main_v338 : Ref sig .tc := ⟨.hbm, 391, rfl⟩
abbrev main_v339 : Ref sig .tc := ⟨.hbm, 392, rfl⟩
abbrev main_v340 : Ref sig .tc := ⟨.hbm, 393, rfl⟩
abbrev main_v341 : Ref sig .tc := ⟨.hbm, 394, rfl⟩
abbrev main_v342 : Ref sig .tc := ⟨.hbm, 395, rfl⟩
abbrev main_v343 : Ref sig .tc := ⟨.hbm, 396, rfl⟩
abbrev main_v344 : Ref sig .tc := ⟨.hbm, 397, rfl⟩
abbrev main_v345 : Ref sig .tc := ⟨.hbm, 398, rfl⟩
abbrev main_v346 : Ref sig .tc := ⟨.hbm, 399, rfl⟩
abbrev main_v347 : Ref sig .tc := ⟨.hbm, 400, rfl⟩
abbrev main_v348 : Ref sig .tc := ⟨.hbm, 401, rfl⟩
abbrev main_v349 : Ref sig .tc := ⟨.hbm, 402, rfl⟩
abbrev main_v350 : Ref sig .tc := ⟨.hbm, 403, rfl⟩
abbrev main_v351 : Ref sig .tc := ⟨.hbm, 404, rfl⟩
abbrev main_v352 : Ref sig .tc := ⟨.hbm, 405, rfl⟩
abbrev main_v353 : Ref sig .tc := ⟨.hbm, 406, rfl⟩
abbrev main_v354 : Ref sig .tc := ⟨.hbm, 407, rfl⟩
abbrev main_v355 : Ref sig .tc := ⟨.hbm, 408, rfl⟩
abbrev main_v356 : Ref sig .tc := ⟨.hbm, 409, rfl⟩
abbrev main_v357 : Ref sig .tc := ⟨.hbm, 410, rfl⟩
abbrev main_v358 : Ref sig .tc := ⟨.hbm, 411, rfl⟩
abbrev main_v359 : Ref sig .tc := ⟨.hbm, 412, rfl⟩
abbrev main_v360 : Ref sig .tc := ⟨.hbm, 413, rfl⟩
abbrev main_v361 : Ref sig .tc := ⟨.hbm, 414, rfl⟩
abbrev main_v362 : Ref sig .tc := ⟨.hbm, 415, rfl⟩
abbrev main_v363 : Ref sig .tc := ⟨.hbm, 416, rfl⟩
abbrev main_v364 : Ref sig .tc := ⟨.hbm, 417, rfl⟩
abbrev main_v365 : Ref sig .tc := ⟨.hbm, 418, rfl⟩
abbrev main_v366 : Ref sig .tc := ⟨.hbm, 419, rfl⟩
abbrev main_v367 : Ref sig .tc := ⟨.hbm, 420, rfl⟩
abbrev main_v368 : Ref sig .tc := ⟨.hbm, 421, rfl⟩
abbrev main_v369 : Ref sig .tc := ⟨.hbm, 422, rfl⟩
abbrev main_v370 : Ref sig .tc := ⟨.hbm, 423, rfl⟩
abbrev main_v371 : Ref sig .tc := ⟨.hbm, 424, rfl⟩
abbrev main_v372 : Ref sig .tc := ⟨.hbm, 425, rfl⟩
abbrev main_v373 : Ref sig .tc := ⟨.hbm, 426, rfl⟩
abbrev main_v374 : Ref sig .tc := ⟨.hbm, 427, rfl⟩
abbrev main_v375 : Ref sig .tc := ⟨.hbm, 428, rfl⟩
abbrev main_v376 : Ref sig .tc := ⟨.hbm, 429, rfl⟩
abbrev main_v377 : Ref sig .tc := ⟨.hbm, 430, rfl⟩
abbrev main_v378 : Ref sig .tc := ⟨.hbm, 431, rfl⟩
abbrev main_v379 : Ref sig .tc := ⟨.hbm, 432, rfl⟩
abbrev main_v380 : Ref sig .tc := ⟨.hbm, 433, rfl⟩
abbrev main_v381 : Ref sig .tc := ⟨.hbm, 434, rfl⟩
abbrev main_v382 : Ref sig .tc := ⟨.hbm, 435, rfl⟩
abbrev main_v383 : Ref sig .tc := ⟨.hbm, 436, rfl⟩
abbrev main_v384 : Ref sig .tc := ⟨.hbm, 437, rfl⟩
abbrev main_v385 : Ref sig .tc := ⟨.hbm, 438, rfl⟩
abbrev main_v386 : Ref sig .tc := ⟨.hbm, 439, rfl⟩
abbrev main_v387 : Ref sig .tc := ⟨.hbm, 440, rfl⟩
abbrev main_v388 : Ref sig .tc := ⟨.hbm, 441, rfl⟩
abbrev main_v389 : Ref sig .tc := ⟨.hbm, 442, rfl⟩
abbrev main_v390 : Ref sig .tc := ⟨.hbm, 443, rfl⟩
abbrev main_v391 : Ref sig .tc := ⟨.hbm, 444, rfl⟩
abbrev main_v392 : Ref sig .tc := ⟨.hbm, 445, rfl⟩
abbrev main_v393 : Ref sig .tc := ⟨.hbm, 446, rfl⟩
abbrev main_v394 : Ref sig .tc := ⟨.hbm, 447, rfl⟩
abbrev main_v395 : Ref sig .tc := ⟨.hbm, 448, rfl⟩
abbrev main_v396 : Ref sig .tc := ⟨.hbm, 449, rfl⟩
abbrev main_v397 : Ref sig .tc := ⟨.hbm, 450, rfl⟩
abbrev main_v398 : Ref sig .tc := ⟨.hbm, 451, rfl⟩
abbrev main_v399 : Ref sig .tc := ⟨.hbm, 452, rfl⟩
abbrev main_v400 : Ref sig .tc := ⟨.hbm, 453, rfl⟩
abbrev main_v401 : Ref sig .tc := ⟨.hbm, 454, rfl⟩
abbrev main_v402 : Ref sig .tc := ⟨.hbm, 455, rfl⟩
abbrev main_v403 : Ref sig .tc := ⟨.hbm, 456, rfl⟩
abbrev main_v404 : Ref sig .tc := ⟨.hbm, 457, rfl⟩
abbrev main_v405 : Ref sig .tc := ⟨.hbm, 458, rfl⟩
abbrev main_v406 : Ref sig .tc := ⟨.hbm, 459, rfl⟩
abbrev main_v407 : Ref sig .tc := ⟨.hbm, 460, rfl⟩
abbrev main_v408 : Ref sig .tc := ⟨.hbm, 461, rfl⟩
abbrev main_v409 : Ref sig .tc := ⟨.hbm, 462, rfl⟩
abbrev main_v410 : Ref sig .tc := ⟨.hbm, 463, rfl⟩
abbrev main_v411 : Ref sig .tc := ⟨.hbm, 464, rfl⟩
abbrev main_v412 : Ref sig .tc := ⟨.hbm, 465, rfl⟩
abbrev main_v413 : Ref sig .tc := ⟨.hbm, 466, rfl⟩
abbrev main_v414 : Ref sig .tc := ⟨.hbm, 467, rfl⟩
abbrev main_v415 : Ref sig .tc := ⟨.hbm, 468, rfl⟩
abbrev main_v416 : Ref sig .tc := ⟨.hbm, 469, rfl⟩
abbrev main_v417 : Ref sig .tc := ⟨.hbm, 470, rfl⟩
abbrev main_v418 : Ref sig .tc := ⟨.hbm, 471, rfl⟩
abbrev main_v419 : Ref sig .tc := ⟨.hbm, 472, rfl⟩
abbrev main_v420 : Ref sig .tc := ⟨.hbm, 473, rfl⟩
abbrev main_v421 : Ref sig .tc := ⟨.hbm, 474, rfl⟩
abbrev main_v422 : Ref sig .tc := ⟨.hbm, 475, rfl⟩
abbrev main_v423 : Ref sig .tc := ⟨.hbm, 476, rfl⟩
abbrev main_v424 : Ref sig .tc := ⟨.hbm, 477, rfl⟩
abbrev main_v425 : Ref sig .tc := ⟨.hbm, 478, rfl⟩
abbrev main_v426 : Ref sig .tc := ⟨.hbm, 479, rfl⟩
abbrev main_v427 : Ref sig .tc := ⟨.hbm, 480, rfl⟩
abbrev main_v428 : Ref sig .tc := ⟨.hbm, 481, rfl⟩
abbrev main_v429 : Ref sig .tc := ⟨.hbm, 482, rfl⟩
abbrev main_v430 : Ref sig .tc := ⟨.hbm, 483, rfl⟩
abbrev main_v431 : Ref sig .tc := ⟨.hbm, 484, rfl⟩
abbrev main_v432 : Ref sig .tc := ⟨.hbm, 485, rfl⟩
abbrev main_cst_31 : Ref sig .tc := ⟨.hbm, 486, rfl⟩
abbrev main_v433 : Ref sig .tc := ⟨.hbm, 487, rfl⟩
abbrev main_v434 : Ref sig .tc := ⟨.hbm, 488, rfl⟩
abbrev main_v435 : Ref sig .tc := ⟨.hbm, 489, rfl⟩
abbrev main_v436 : Ref sig .tc := ⟨.hbm, 490, rfl⟩
abbrev main_v437 : Ref sig .tc := ⟨.hbm, 491, rfl⟩
abbrev main_v438 : Ref sig .tc := ⟨.hbm, 492, rfl⟩
abbrev main_v439 : Ref sig .tc := ⟨.hbm, 493, rfl⟩
abbrev main_v440 : Ref sig .tc := ⟨.hbm, 494, rfl⟩
abbrev main_v441 : Ref sig .tc := ⟨.hbm, 495, rfl⟩
abbrev main_v442 : Ref sig .tc := ⟨.hbm, 496, rfl⟩
abbrev main_v443 : Ref sig .tc := ⟨.hbm, 497, rfl⟩
abbrev main_v444 : Ref sig .tc := ⟨.hbm, 498, rfl⟩
abbrev main_v445 : Ref sig .tc := ⟨.hbm, 499, rfl⟩
abbrev main_v446 : Ref sig .tc := ⟨.hbm, 500, rfl⟩
abbrev main_v447 : Ref sig .tc := ⟨.hbm, 501, rfl⟩
abbrev main_cst_32 : Ref sig .tc := ⟨.hbm, 502, rfl⟩
abbrev main_v448 : Ref sig .tc := ⟨.hbm, 503, rfl⟩
abbrev main_cst_33 : Ref sig .tc := ⟨.hbm, 504, rfl⟩
abbrev main_v449 : Ref sig .tc := ⟨.hbm, 505, rfl⟩
abbrev main_v450 : Ref sig .tc := ⟨.hbm, 506, rfl⟩
abbrev main_v451 : Ref sig .tc := ⟨.hbm, 507, rfl⟩
abbrev main_v452 : Ref sig .tc := ⟨.hbm, 508, rfl⟩
abbrev main_v453 : Ref sig .tc := ⟨.hbm, 509, rfl⟩
abbrev main_v454 : Ref sig .tc := ⟨.hbm, 510, rfl⟩
abbrev main_v455 : Ref sig .tc := ⟨.hbm, 511, rfl⟩
abbrev main_v456 : Ref sig .tc := ⟨.hbm, 512, rfl⟩
abbrev main_v457 : Ref sig .tc := ⟨.hbm, 513, rfl⟩
abbrev main_v458 : Ref sig .tc := ⟨.hbm, 514, rfl⟩
abbrev main_v459 : Ref sig .tc := ⟨.hbm, 515, rfl⟩
abbrev main_v460 : Ref sig .tc := ⟨.hbm, 516, rfl⟩
abbrev main_v461 : Ref sig .tc := ⟨.hbm, 517, rfl⟩
abbrev main_v462 : Ref sig .tc := ⟨.hbm, 518, rfl⟩
abbrev main_v463 : Ref sig .tc := ⟨.hbm, 519, rfl⟩
abbrev main_v464 : Ref sig .tc := ⟨.hbm, 520, rfl⟩
abbrev main_cst_34 : Ref sig .tc := ⟨.hbm, 521, rfl⟩
abbrev main_v465 : Ref sig .tc := ⟨.hbm, 522, rfl⟩
abbrev main_cst_35 : Ref sig .tc := ⟨.hbm, 523, rfl⟩
abbrev main_v466 : Ref sig .tc := ⟨.hbm, 524, rfl⟩
abbrev main_v467 : Ref sig .tc := ⟨.hbm, 525, rfl⟩
abbrev main_v468 : Ref sig .tc := ⟨.hbm, 526, rfl⟩
abbrev main_cst_36 : Ref sig .tc := ⟨.hbm, 527, rfl⟩
abbrev main_v469 : Ref sig .tc := ⟨.hbm, 528, rfl⟩
abbrev main_cst_37 : Ref sig .tc := ⟨.hbm, 529, rfl⟩
abbrev main_v470 : Ref sig .tc := ⟨.hbm, 530, rfl⟩
abbrev main_v471 : Ref sig .tc := ⟨.hbm, 531, rfl⟩
abbrev main_cst_38 : Ref sig .tc := ⟨.hbm, 532, rfl⟩
abbrev main_v472 : Ref sig .tc := ⟨.hbm, 533, rfl⟩
abbrev main_cst_39 : Ref sig .tc := ⟨.hbm, 534, rfl⟩
abbrev main_v473 : Ref sig .tc := ⟨.hbm, 535, rfl⟩
abbrev main_v474 : Ref sig .tc := ⟨.hbm, 536, rfl⟩
abbrev main_v475 : Ref sig .tc := ⟨.hbm, 537, rfl⟩
abbrev main_v476 : Ref sig .tc := ⟨.hbm, 538, rfl⟩

abbrev nD : Nat := 1
abbrev τ : Topo := Topo.v7x

variable {F : FTy → Type} [FloatOps F]
-- ==== Kernel2.lean ====
abbrev S4224x2048 : Shape := ⟨2, ![4224, 2048]⟩
abbrev S4224x8192 : Shape := ⟨2, ![4224, 8192]⟩
abbrev S2048x8192 : Shape := ⟨2, ![2048, 8192]⟩
abbrev S1408x1024 : Shape := ⟨2, ![1408, 1024]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4224x2048, .bf16⟩
  | .hbm, ⟨1, _⟩ => ⟨S4224x8192, .bf16⟩
  | .hbm, ⟨2, _⟩ => ⟨S2048x8192, .f32⟩
  | .local _ .vmem, ⟨0, _⟩ => ⟨S1408x1024, .bf16⟩
  | .local _ .vmem, ⟨1, _⟩ => ⟨S1408x1024, .bf16⟩
  | .local _ .vmem, ⟨2, _⟩ => ⟨S1408x1024, .bf16⟩
  | .local _ .vmem, ⟨3, _⟩ => ⟨S1408x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S4224x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 8, 3], ![false, false, false]⟩

def k0_cond2 (i : grid0.Coords) : BitVec 1 :=
  let arg2 : BitVec 32 := BitVec.ofNat 32 (i 2).val
  let c2_i32 : BitVec 32 := 2#32
  let v11 : BitVec 1 := Scalar.cmpi .eq arg2 c2_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  let v1 : BitVec 32 := Scalar.addi arg0 c0_i32_0
  let c0_i32_1 : BitVec 32 := 0#32
  ![v0.toNat, v1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  let v1 : BitVec 32 := Scalar.addi arg1 c0_i32_0
  let c0_i32_1 : BitVec 32 := 0#32
  ![v0.toNat, v1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1408x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1408x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference2Ideal.lean ====
abbrev S4224x2048 : Shape := ⟨2, ![4224, 2048]⟩
abbrev S4224x8192 : Shape := ⟨2, ![4224, 8192]⟩
abbrev S_ : Shape := ⟨0, ![]⟩
abbrev S2048x8192 : Shape := ⟨2, ![2048, 8192]⟩
abbrev S8192x2048 : Shape := ⟨2, ![8192, 2048]⟩

abbrev nBuf : Space → Nat
  | .hbm => 9
  | .vmem => 0
  | .smem => 0
  | _ => 0

abbrev bufTy : (tb : Table) → Fin (tcTables nBuf tb) → BufTy
  | .hbm, ⟨0, _⟩ => ⟨S4224x2048, .bf16⟩
  | .hbm, ⟨1, _⟩ => ⟨S4224x8192, .bf16⟩
  | .hbm, ⟨2, _⟩ => ⟨S_, .f32⟩
  | .hbm, ⟨3, _⟩ => ⟨S2048x8192, .f32⟩
  | .hbm, ⟨4, _⟩ => ⟨S4224x2048, .f32⟩
  | .hbm, ⟨5, _⟩ => ⟨S4224x8192, .f32⟩
  | .hbm, ⟨6, _⟩ => ⟨S4224x8192, .f32⟩
  | .hbm, ⟨7, _⟩ => ⟨S8192x2048, .f32⟩
  | .hbm, ⟨8, _⟩ => ⟨S2048x8192, .f32⟩
  | _, _ => ⟨S4224x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel3.lean ====
abbrev S4224x8192 : Shape := ⟨2, ![4224, 8192]⟩
abbrev S2048x8192 : Shape := ⟨2, ![2048, 8192]⟩
abbrev S4224x2048 : Shape := ⟨2, ![4224, 2048]⟩
abbrev S1408x2048 : Shape := ⟨2, ![1408, 2048]⟩
abbrev S512x2048 : Shape := ⟨2, ![512, 2048]⟩
abbrev S1408x512 : Shape := ⟨2, ![1408, 512]⟩

abbrev nBuf : Space → Nat
  | .hbm => 3
  | .vmem => 7
  | .smem => 0
  | _ => 0

abbrev bufTy : (tb : Table) → Fin (tcTables nBuf tb) → BufTy
  | .hbm, ⟨0, _⟩ => ⟨S4224x8192, .bf16⟩
  | .hbm, ⟨1, _⟩ => ⟨S2048x8192, .bf16⟩
  | .hbm, ⟨2, _⟩ => ⟨S4224x2048, .f32⟩
  | .local _ .vmem, ⟨0, _⟩ => ⟨S1408x2048, .bf16⟩
  | .local _ .vmem, ⟨1, _⟩ => ⟨S1408x2048, .bf16⟩
  | .local _ .vmem, ⟨2, _⟩ => ⟨S512x2048, .bf16⟩
  | .local _ .vmem, ⟨3, _⟩ => ⟨S512x2048, .bf16⟩
  | .local _ .vmem, ⟨4, _⟩ => ⟨S1408x512, .f32⟩
  | .local _ .vmem, ⟨5, _⟩ => ⟨S1408x512, .f32⟩
  | .local _ .vmem, ⟨6, _⟩ => ⟨S1408x512, .f32⟩
  | _, _ => ⟨S4224x8192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 4, 4], ![false, false, false]⟩

def k0_cond2 (i : grid0.Coords) : BitVec 1 :=
  let arg2 : BitVec 32 := BitVec.ofNat 32 (i 2).val
  let c3_i32 : BitVec 32 := 3#32
  let v11 : BitVec 1 := Scalar.cmpi .eq arg2 c3_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  let v1 : BitVec 32 := Scalar.addi arg2 c0_i32_0
  let c0_i32_1 : BitVec 32 := 0#32
  ![v0.toNat, v1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  let v1 : BitVec 32 := Scalar.addi arg2 c0_i32_0
  let c0_i32_1 : BitVec 32 := 0#32
  ![v0.toNat, v1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1408x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1408x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference3Ideal.lean ====
abbrev S4224x8192 : Shape := ⟨2, ![4224, 8192]⟩
abbrev S2048x8192 : Shape := ⟨2, ![2048, 8192]⟩
abbrev S_ : Shape := ⟨0, ![]⟩
abbrev S4224x2048 : Shape := ⟨2, ![4224, 2048]⟩

abbrev nBuf : Space → Nat
  | .hbm => 8
  | .vmem => 0
  | .smem => 0
  | _ => 0

abbrev bufTy : (tb : Table) → Fin (tcTables nBuf tb) → BufTy
  | .hbm, ⟨0, _⟩ => ⟨S4224x8192, .bf16⟩
  | .hbm, ⟨1, _⟩ => ⟨S2048x8192, .bf16⟩
  | .hbm, ⟨2, _⟩ => ⟨S_, .f32⟩
  | .hbm, ⟨3, _⟩ => ⟨S4224x2048, .f32⟩
  | .hbm, ⟨4, _⟩ => ⟨S2048x8192, .f32⟩
  | .hbm, ⟨5, _⟩ => ⟨S4224x8192, .f32⟩
  | .hbm, ⟨6, _⟩ => ⟨S4224x8192, .f32⟩
  | .hbm, ⟨7, _⟩ => ⟨S4224x2048, .f32⟩
  | _, _ => ⟨S4224x8192, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel4.lean ====
abbrev S4224x8192 : Shape := ⟨2, ![4224, 8192]⟩
abbrev S2048x8192 : Shape := ⟨2, ![2048, 8192]⟩
abbrev S4224x2048 : Shape := ⟨2, ![4224, 2048]⟩
abbrev S1408x2048 : Shape := ⟨2, ![1408, 2048]⟩
abbrev S512x2048 : Shape := ⟨2, ![512, 2048]⟩
abbrev S1408x512 : Shape := ⟨2, ![1408, 512]⟩

abbrev nBuf : Space → Nat
  | .hbm => 4
  | .vmem => 7
  | .smem => 0
  | _ => 0

abbrev bufTy : (tb : Table) → Fin (tcTables nBuf tb) → BufTy
  | .hbm, ⟨0, _⟩ => ⟨S4224x8192, .bf16⟩
  | .hbm, ⟨1, _⟩ => ⟨S2048x8192, .bf16⟩
  | .hbm, ⟨2, _⟩ => ⟨S4224x2048, .f32⟩
  | .hbm, ⟨3, _⟩ => ⟨S4224x2048, .f32⟩
  | .local _ .vmem, ⟨0, _⟩ => ⟨S1408x2048, .bf16⟩
  | .local _ .vmem, ⟨1, _⟩ => ⟨S1408x2048, .bf16⟩
  | .local _ .vmem, ⟨2, _⟩ => ⟨S512x2048, .bf16⟩
  | .local _ .vmem, ⟨3, _⟩ => ⟨S512x2048, .bf16⟩
  | .local _ .vmem, ⟨4, _⟩ => ⟨S1408x512, .f32⟩
  | .local _ .vmem, ⟨5, _⟩ => ⟨S1408x512, .f32⟩
  | .local _ .vmem, ⟨6, _⟩ => ⟨S1408x512, .f32⟩
  | _, _ => ⟨S4224x8192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 4, 4], ![false, false, false]⟩

def k0_cond2 (i : grid0.Coords) : BitVec 1 :=
  let arg2 : BitVec 32 := BitVec.ofNat 32 (i 2).val
  let c3_i32 : BitVec 32 := 3#32
  let v11 : BitVec 1 := Scalar.cmpi .eq arg2 c3_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.addi arg0 c1_i32
  let c0_i32 : BitVec 32 := 0#32
  let v1 : BitVec 32 := Scalar.addi arg2 c0_i32
  let c0_i32_0 : BitVec 32 := 0#32
  ![v0.toNat, v1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  let v1 : BitVec 32 := Scalar.addi arg2 c0_i32_0
  let c0_i32_1 : BitVec 32 := 0#32
  ![v0.toNat, v1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.addi arg0 c1_i32
  let c0_i32 : BitVec 32 := 0#32
  let v1 : BitVec 32 := Scalar.addi arg1 c0_i32
  let c0_i32_0 : BitVec 32 := 0#32
  ![v0.toNat, v1.toNat]

abbrev stage0_0 : Fin 2 → Memref sig .tc .vmem S1408x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1408x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference4Ideal.lean ====
abbrev S4224x8192 : Shape := ⟨2, ![4224, 8192]⟩
abbrev S2048x8192 : Shape := ⟨2, ![2048, 8192]⟩
abbrev S4224x2048 : Shape := ⟨2, ![4224, 2048]⟩
abbrev S1408x2048 : Shape := ⟨2, ![1408, 2048]⟩
abbrev S2816x8192 : Shape := ⟨2, ![2816, 8192]⟩
abbrev S_ : Shape := ⟨0, ![]⟩
abbrev S2816x2048 : Shape := ⟨2, ![2816, 2048]⟩

abbrev nBuf : Space → Nat
  | .hbm => 12
  | .vmem => 0
  | .smem => 0
  | _ => 0

abbrev bufTy : (tb : Table) → Fin (tcTables nBuf tb) → BufTy
  | .hbm, ⟨0, _⟩ => ⟨S4224x8192, .bf16⟩
  | .hbm, ⟨1, _⟩ => ⟨S2048x8192, .bf16⟩
  | .hbm, ⟨2, _⟩ => ⟨S4224x2048, .f32⟩
  | .hbm, ⟨3, _⟩ => ⟨S1408x2048, .f32⟩
  | .hbm, ⟨4, _⟩ => ⟨S2816x8192, .bf16⟩
  | .hbm, ⟨5, _⟩ => ⟨S_, .f32⟩
  | .hbm, ⟨6, _⟩ => ⟨S2816x2048, .f32⟩
  | .hbm, ⟨7, _⟩ => ⟨S2048x8192, .f32⟩
  | .hbm, ⟨8, _⟩ => ⟨S2816x8192, .f32⟩
  | .hbm, ⟨9, _⟩ => ⟨S2816x8192, .f32⟩
  | .hbm, ⟨10, _⟩ => ⟨S2816x2048, .f32⟩
  | .hbm, ⟨11, _⟩ => ⟨S4224x2048, .f32⟩
  | _, _ => ⟨S4224x8192, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩

abbrev nD : Nat := 1
abbrev τ : Topo := Topo.v7x

variable {F : FTy → Type} [FloatOps F]
-- ==== Kernel5.lean ====
abbrev S4224x2048 : Shape := ⟨2, ![4224, 2048]⟩
abbrev S2048x6272 : Shape := ⟨2, ![2048, 6272]⟩
abbrev S4224x6272 : Shape := ⟨2, ![4224, 6272]⟩
abbrev S1408x2048 : Shape := ⟨2, ![1408, 2048]⟩
abbrev S2048x896 : Shape := ⟨2, ![2048, 896]⟩
abbrev S1408x896 : Shape := ⟨2, ![1408, 896]⟩

abbrev nBuf : Space → Nat
  | .hbm => 3
  | .vmem => 6
  | .smem => 0
  | _ => 0

abbrev bufTy : (tb : Table) → Fin (tcTables nBuf tb) → BufTy
  | .hbm, ⟨0, _⟩ => ⟨S4224x2048, .bf16⟩
  | .hbm, ⟨1, _⟩ => ⟨S2048x6272, .bf16⟩
  | .hbm, ⟨2, _⟩ => ⟨S4224x6272, .f32⟩
  | .local _ .vmem, ⟨0, _⟩ => ⟨S1408x2048, .bf16⟩
  | .local _ .vmem, ⟨1, _⟩ => ⟨S1408x2048, .bf16⟩
  | .local _ .vmem, ⟨2, _⟩ => ⟨S2048x896, .bf16⟩
  | .local _ .vmem, ⟨3, _⟩ => ⟨S2048x896, .bf16⟩
  | .local _ .vmem, ⟨4, _⟩ => ⟨S1408x896, .f32⟩
  | .local _ .vmem, ⟨5, _⟩ => ⟨S1408x896, .f32⟩
  | _, _ => ⟨S4224x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![3, 7, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  let v1 : BitVec 32 := Scalar.addi arg2 c0_i32_0
  let c0_i32_1 : BitVec 32 := 0#32
  ![v0.toNat, v1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  let v1 : BitVec 32 := Scalar.addi arg1 c0_i32_0
  let c0_i32_1 : BitVec 32 := 0#32
  ![v0.toNat, v1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1408x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x896 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1408x896 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference5Ideal.lean ====
abbrev S4224x2048 : Shape := ⟨2, ![4224, 2048]⟩
abbrev S2048x6272 : Shape := ⟨2, ![2048, 6272]⟩
abbrev S4224x6272 : Shape := ⟨2, ![4224, 6272]⟩

abbrev nBuf : Space → Nat
  | .hbm => 5
  | .vmem => 0
  | .smem => 0
  | _ => 0

abbrev bufTy : (tb : Table) → Fin (tcTables nBuf tb) → BufTy
  | .hbm, ⟨0, _⟩ => ⟨S4224x2048, .bf16⟩
  | .hbm, ⟨1, _⟩ => ⟨S2048x6272, .bf16⟩
  | .hbm, ⟨2, _⟩ => ⟨S4224x2048, .f32⟩
  | .hbm, ⟨3, _⟩ => ⟨S2048x6272, .f32⟩
  | .hbm, ⟨4, _⟩ => ⟨S4224x6272, .f32⟩
  | _, _ => ⟨S4224x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Kernel6.lean ====
abbrev S4224x2048 : Shape := ⟨2, ![4224, 2048]⟩
abbrev S4224x6272 : Shape := ⟨2, ![4224, 6272]⟩
abbrev S2048x6272 : Shape := ⟨2, ![2048, 6272]⟩
abbrev S1408x1024 : Shape := ⟨2, ![1408, 1024]⟩
abbrev S1408x896 : Shape := ⟨2, ![1408, 896]⟩
abbrev S1024x896 : Shape := ⟨2, ![1024, 896]⟩

abbrev nBuf : Space → Nat
  | .hbm => 3
  | .vmem => 7
  | .smem => 0
  | _ => 0

abbrev bufTy : (tb : Table) → Fin (tcTables nBuf tb) → BufTy
  | .hbm, ⟨0, _⟩ => ⟨S4224x2048, .bf16⟩
  | .hbm, ⟨1, _⟩ => ⟨S4224x6272, .bf16⟩
  | .hbm, ⟨2, _⟩ => ⟨S2048x6272, .f32⟩
  | .local _ .vmem, ⟨0, _⟩ => ⟨S1408x1024, .bf16⟩
  | .local _ .vmem, ⟨1, _⟩ => ⟨S1408x1024, .bf16⟩
  | .local _ .vmem, ⟨2, _⟩ => ⟨S1408x896, .bf16⟩
  | .local _ .vmem, ⟨3, _⟩ => ⟨S1408x896, .bf16⟩
  | .local _ .vmem, ⟨4, _⟩ => ⟨S1024x896, .f32⟩
  | .local _ .vmem, ⟨5, _⟩ => ⟨S1024x896, .f32⟩
  | .local _ .vmem, ⟨6, _⟩ => ⟨S1024x896, .f32⟩
  | _, _ => ⟨S4224x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 7, 3], ![false, false, false]⟩

def k0_cond2 (i : grid0.Coords) : BitVec 1 :=
  let arg2 : BitVec 32 := BitVec.ofNat 32 (i 2).val
  let c2_i32 : BitVec 32 := 2#32
  let v11 : BitVec 1 := Scalar.cmpi .eq arg2 c2_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  let v1 : BitVec 32 := Scalar.addi arg0 c0_i32_0
  let c0_i32_1 : BitVec 32 := 0#32
  ![v0.toNat, v1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  let v1 : BitVec 32 := Scalar.addi arg1 c0_i32_0
  let c0_i32_1 : BitVec 32 := 0#32
  ![v0.toNat, v1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1408x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1408x896 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x896 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference6Ideal.lean ====
abbrev S4224x2048 : Shape := ⟨2, ![4224, 2048]⟩
abbrev S4224x6272 : Shape := ⟨2, ![4224, 6272]⟩
abbrev S_ : Shape := ⟨0, ![]⟩
abbrev S2048x6272 : Shape := ⟨2, ![2048, 6272]⟩
abbrev S6272x2048 : Shape := ⟨2, ![6272, 2048]⟩

abbrev nBuf : Space → Nat
  | .hbm => 9
  | .vmem => 0
  | .smem => 0
  | _ => 0

abbrev bufTy : (tb : Table) → Fin (tcTables nBuf tb) → BufTy
  | .hbm, ⟨0, _⟩ => ⟨S4224x2048, .bf16⟩
  | .hbm, ⟨1, _⟩ => ⟨S4224x6272, .bf16⟩
  | .hbm, ⟨2, _⟩ => ⟨S_, .f32⟩
  | .hbm, ⟨3, _⟩ => ⟨S2048x6272, .f32⟩
  | .hbm, ⟨4, _⟩ => ⟨S4224x2048, .f32⟩
  | .hbm, ⟨5, _⟩ => ⟨S4224x6272, .f32⟩
  | .hbm, ⟨6, _⟩ => ⟨S4224x6272, .f32⟩
  | .hbm, ⟨7, _⟩ => ⟨S6272x2048, .f32⟩
  | .hbm, ⟨8, _⟩ => ⟨S2048x6272, .f32⟩
  | _, _ => ⟨S4224x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel7.lean ====
abbrev S4224x6272 : Shape := ⟨2, ![4224, 6272]⟩
abbrev S2048x6272 : Shape := ⟨2, ![2048, 6272]⟩
abbrev S4224x2048 : Shape := ⟨2, ![4224, 2048]⟩
abbrev S1408x896 : Shape := ⟨2, ![1408, 896]⟩
abbrev S512x896 : Shape := ⟨2, ![512, 896]⟩
abbrev S1408x512 : Shape := ⟨2, ![1408, 512]⟩

abbrev nBuf : Space → Nat
  | .hbm => 3
  | .vmem => 7
  | .smem => 0
  | _ => 0

abbrev bufTy : (tb : Table) → Fin (tcTables nBuf tb) → BufTy
  | .hbm, ⟨0, _⟩ => ⟨S4224x6272, .bf16⟩
  | .hbm, ⟨1, _⟩ => ⟨S2048x6272, .bf16⟩
  | .hbm, ⟨2, _⟩ => ⟨S4224x2048, .f32⟩
  | .local _ .vmem, ⟨0, _⟩ => ⟨S1408x896, .bf16⟩
  | .local _ .vmem, ⟨1, _⟩ => ⟨S1408x896, .bf16⟩
  | .local _ .vmem, ⟨2, _⟩ => ⟨S512x896, .bf16⟩
  | .local _ .vmem, ⟨3, _⟩ => ⟨S512x896, .bf16⟩
  | .local _ .vmem, ⟨4, _⟩ => ⟨S1408x512, .f32⟩
  | .local _ .vmem, ⟨5, _⟩ => ⟨S1408x512, .f32⟩
  | .local _ .vmem, ⟨6, _⟩ => ⟨S1408x512, .f32⟩
  | _, _ => ⟨S4224x6272, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![3, 4, 7], ![false, false, false]⟩

def k0_cond2 (i : grid0.Coords) : BitVec 1 :=
  let arg2 : BitVec 32 := BitVec.ofNat 32 (i 2).val
  let c6_i32 : BitVec 32 := 6#32
  let v11 : BitVec 1 := Scalar.cmpi .eq arg2 c6_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  let v1 : BitVec 32 := Scalar.addi arg2 c0_i32_0
  let c0_i32_1 : BitVec 32 := 0#32
  ![v0.toNat, v1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  let v1 : BitVec 32 := Scalar.addi arg2 c0_i32_0
  let c0_i32_1 : BitVec 32 := 0#32
  ![v0.toNat, v1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1408x896 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x896 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1408x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference7Ideal.lean ====
abbrev S4224x6272 : Shape := ⟨2, ![4224, 6272]⟩
abbrev S2048x6272 : Shape := ⟨2, ![2048, 6272]⟩
abbrev S_ : Shape := ⟨0, ![]⟩
abbrev S4224x2048 : Shape := ⟨2, ![4224, 2048]⟩

abbrev nBuf : Space → Nat
  | .hbm => 8
  | .vmem => 0
  | .smem => 0
  | _ => 0

abbrev bufTy : (tb : Table) → Fin (tcTables nBuf tb) → BufTy
  | .hbm, ⟨0, _⟩ => ⟨S4224x6272, .bf16⟩
  | .hbm, ⟨1, _⟩ => ⟨S2048x6272, .bf16⟩
  | .hbm, ⟨2, _⟩ => ⟨S_, .f32⟩
  | .hbm, ⟨3, _⟩ => ⟨S4224x2048, .f32⟩
  | .hbm, ⟨4, _⟩ => ⟨S2048x6272, .f32⟩
  | .hbm, ⟨5, _⟩ => ⟨S4224x6272, .f32⟩
  | .hbm, ⟨6, _⟩ => ⟨S4224x6272, .f32⟩
  | .hbm, ⟨7, _⟩ => ⟨S4224x2048, .f32⟩
  | _, _ => ⟨S4224x6272, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel8.lean ====
abbrev S4224x2048 : Shape := ⟨2, ![4224, 2048]⟩
abbrev S2048x2048 : Shape := ⟨2, ![2048, 2048]⟩
abbrev S1408x1024 : Shape := ⟨2, ![1408, 1024]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4224x2048, .bf16⟩
  | .hbm, ⟨1, _⟩ => ⟨S4224x2048, .f32⟩
  | .hbm, ⟨2, _⟩ => ⟨S2048x2048, .f32⟩
  | .local _ .vmem, ⟨0, _⟩ => ⟨S1408x1024, .bf16⟩
  | .local _ .vmem, ⟨1, _⟩ => ⟨S1408x1024, .bf16⟩
  | .local _ .vmem, ⟨2, _⟩ => ⟨S1408x1024, .f32⟩
  | .local _ .vmem, ⟨3, _⟩ => ⟨S1408x1024, .f32⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S4224x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 2, 3], ![false, false, false]⟩

def k0_cond2 (i : grid0.Coords) : BitVec 1 :=
  let arg2 : BitVec 32 := BitVec.ofNat 32 (i 2).val
  let c2_i32 : BitVec 32 := 2#32
  let v12 : BitVec 1 := Scalar.cmpi .eq arg2 c2_i32
  let v13 : BitVec 32 := Scalar.extui v12
  let c0_i32_8 : BitVec 32 := 0#32
  let v14 : BitVec 1 := Scalar.cmpi .ne v13 c0_i32_8
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  let v1 : BitVec 32 := Scalar.addi arg0 c0_i32_0
  let c0_i32_1 : BitVec 32 := 0#32
  ![v0.toNat, v1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  let v1 : BitVec 32 := Scalar.addi arg1 c0_i32_0
  let c0_i32_1 : BitVec 32 := 0#32
  ![v0.toNat, v1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1408x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1408x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference8Ideal.lean ====
abbrev S4224x2048 : Shape := ⟨2, ![4224, 2048]⟩
abbrev S_ : Shape := ⟨0, ![]⟩
abbrev S2048x2048 : Shape := ⟨2, ![2048, 2048]⟩

abbrev nBuf : Space → Nat
  | .hbm => 8
  | .vmem => 0
  | .smem => 0
  | _ => 0

abbrev bufTy : (tb : Table) → Fin (tcTables nBuf tb) → BufTy
  | .hbm, ⟨0, _⟩ => ⟨S4224x2048, .bf16⟩
  | .hbm, ⟨1, _⟩ => ⟨S4224x2048, .f32⟩
  | .hbm, ⟨2, _⟩ => ⟨S_, .f32⟩
  | .hbm, ⟨3, _⟩ => ⟨S2048x2048, .f32⟩
  | .hbm, ⟨4, _⟩ => ⟨S4224x2048, .f32⟩
  | .hbm, ⟨5, _⟩ => ⟨S4224x2048, .f32⟩
  | .hbm, ⟨6, _⟩ => ⟨S2048x2048, .f32⟩
  | .hbm, ⟨7, _⟩ => ⟨S2048x2048, .f32⟩
  | _, _ => ⟨S4224x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel9.lean ====
abbrev S4224x2048 : Shape := ⟨2, ![4224, 2048]⟩
abbrev S2048x2048 : Shape := ⟨2, ![2048, 2048]⟩
abbrev S1408x1024 : Shape := ⟨2, ![1408, 1024]⟩
abbrev S512x1024 : Shape := ⟨2, ![512, 1024]⟩
abbrev S1408x512 : Shape := ⟨2, ![1408, 512]⟩

abbrev nBuf : Space → Nat
  | .hbm => 3
  | .vmem => 7
  | .smem => 0
  | _ => 0

abbrev bufTy : (tb : Table) → Fin (tcTables nBuf tb) → BufTy
  | .hbm, ⟨0, _⟩ => ⟨S4224x2048, .f32⟩
  | .hbm, ⟨1, _⟩ => ⟨S2048x2048, .bf16⟩
  | .hbm, ⟨2, _⟩ => ⟨S4224x2048, .f32⟩
  | .local _ .vmem, ⟨0, _⟩ => ⟨S1408x1024, .f32⟩
  | .local _ .vmem, ⟨1, _⟩ => ⟨S1408x1024, .f32⟩
  | .local _ .vmem, ⟨2, _⟩ => ⟨S512x1024, .bf16⟩
  | .local _ .vmem, ⟨3, _⟩ => ⟨S512x1024, .bf16⟩
  | .local _ .vmem, ⟨4, _⟩ => ⟨S1408x512, .f32⟩
  | .local _ .vmem, ⟨5, _⟩ => ⟨S1408x512, .f32⟩
  | .local _ .vmem, ⟨6, _⟩ => ⟨S1408x512, .f32⟩
  | _, _ => ⟨S4224x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![3, 4, 2], ![false, false, false]⟩

def k0_cond2 (i : grid0.Coords) : BitVec 1 :=
  let arg2 : BitVec 32 := BitVec.ofNat 32 (i 2).val
  let c1_i32 : BitVec 32 := 1#32
  let v12 : BitVec 1 := Scalar.cmpi .eq arg2 c1_i32
  let v13 : BitVec 32 := Scalar.extui v12
  let c0_i32_8 : BitVec 32 := 0#32
  let v14 : BitVec 1 := Scalar.cmpi .ne v13 c0_i32_8
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  let v1 : BitVec 32 := Scalar.addi arg2 c0_i32_0
  let c0_i32_1 : BitVec 32 := 0#32
  ![v0.toNat, v1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  let v1 : BitVec 32 := Scalar.addi arg2 c0_i32_0
  let c0_i32_1 : BitVec 32 := 0#32
  ![v0.toNat, v1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1408x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1408x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference9Ideal.lean ====
abbrev S4224x2048 : Shape := ⟨2, ![4224, 2048]⟩
abbrev S2048x2048 : Shape := ⟨2, ![2048, 2048]⟩
abbrev S_ : Shape := ⟨0, ![]⟩

abbrev nBuf : Space → Nat
  | .hbm => 7
  | .vmem => 0
  | .smem => 0
  | _ => 0

abbrev bufTy : (tb : Table) → Fin (tcTables nBuf tb) → BufTy
  | .hbm, ⟨0, _⟩ => ⟨S4224x2048, .f32⟩
  | .hbm, ⟨1, _⟩ => ⟨S2048x2048, .bf16⟩
  | .hbm, ⟨2, _⟩ => ⟨S_, .f32⟩
  | .hbm, ⟨3, _⟩ => ⟨S4224x2048, .f32⟩
  | .hbm, ⟨4, _⟩ => ⟨S2048x2048, .f32⟩
  | .hbm, ⟨5, _⟩ => ⟨S4224x2048, .f32⟩
  | .hbm, ⟨6, _⟩ => ⟨S4224x2048, .f32⟩
  | _, _ => ⟨S4224x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel10.lean ====
abbrev S4224x2048 : Shape := ⟨2, ![4224, 2048]⟩
abbrev S2048x2048 : Shape := ⟨2, ![2048, 2048]⟩
abbrev S1408x2048 : Shape := ⟨2, ![1408, 2048]⟩
abbrev S2048x512 : Shape := ⟨2, ![2048, 512]⟩
abbrev S1408x512 : Shape := ⟨2, ![1408, 512]⟩

abbrev nBuf : Space → Nat
  | .hbm => 4
  | .vmem => 8
  | .smem => 0
  | _ => 0

abbrev bufTy : (tb : Table) → Fin (tcTables nBuf tb) → BufTy
  | .hbm, ⟨0, _⟩ => ⟨S4224x2048, .bf16⟩
  | .hbm, ⟨1, _⟩ => ⟨S2048x2048, .bf16⟩
  | .hbm, ⟨2, _⟩ => ⟨S4224x2048, .f32⟩
  | .hbm, ⟨3, _⟩ => ⟨S4224x2048, .f32⟩
  | .local _ .vmem, ⟨0, _⟩ => ⟨S1408x2048, .bf16⟩
  | .local _ .vmem, ⟨1, _⟩ => ⟨S1408x2048, .bf16⟩
  | .local _ .vmem, ⟨2, _⟩ => ⟨S2048x512, .bf16⟩
  | .local _ .vmem, ⟨3, _⟩ => ⟨S2048x512, .bf16⟩
  | .local _ .vmem, ⟨4, _⟩ => ⟨S1408x512, .f32⟩
  | .local _ .vmem, ⟨5, _⟩ => ⟨S1408x512, .f32⟩
  | .local _ .vmem, ⟨6, _⟩ => ⟨S1408x512, .f32⟩
  | .local _ .vmem, ⟨7, _⟩ => ⟨S1408x512, .f32⟩
  | _, _ => ⟨S4224x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![3, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  let v1 : BitVec 32 := Scalar.addi arg2 c0_i32_0
  let c0_i32_1 : BitVec 32 := 0#32
  ![v0.toNat, v1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  let v1 : BitVec 32 := Scalar.addi arg1 c0_i32_0
  let c0_i32_1 : BitVec 32 := 0#32
  ![v0.toNat, v1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1408x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1408x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1408x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Reference10Ideal.lean ====
abbrev S4224x2048 : Shape := ⟨2, ![4224, 2048]⟩
abbrev S2048x2048 : Shape := ⟨2, ![2048, 2048]⟩

abbrev nBuf : Space → Nat
  | .hbm => 7
  | .vmem => 0
  | .smem => 0
  | _ => 0

abbrev bufTy : (tb : Table) → Fin (tcTables nBuf tb) → BufTy
  | .hbm, ⟨0, _⟩ => ⟨S4224x2048, .bf16⟩
  | .hbm, ⟨1, _⟩ => ⟨S2048x2048, .bf16⟩
  | .hbm, ⟨2, _⟩ => ⟨S4224x2048, .f32⟩
  | .hbm, ⟨3, _⟩ => ⟨S4224x2048, .f32⟩
  | .hbm, ⟨4, _⟩ => ⟨S2048x2048, .f32⟩
  | .hbm, ⟨5, _⟩ => ⟨S4224x2048, .f32⟩
  | .hbm, ⟨6, _⟩ => ⟨S4224x2048, .f32⟩
  | _, _ => ⟨S4224x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel11.lean ====
abbrev S4224x2048 : Shape := ⟨2, ![4224, 2048]⟩
abbrev S3072x2048 : Shape := ⟨2, ![3072, 2048]⟩
abbrev S1408x1024 : Shape := ⟨2, ![1408, 1024]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4224x2048, .bf16⟩
  | .hbm, ⟨1, _⟩ => ⟨S4224x2048, .f32⟩
  | .hbm, ⟨2, _⟩ => ⟨S3072x2048, .f32⟩
  | .local _ .vmem, ⟨0, _⟩ => ⟨S1408x1024, .bf16⟩
  | .local _ .vmem, ⟨1, _⟩ => ⟨S1408x1024, .bf16⟩
  | .local _ .vmem, ⟨2, _⟩ => ⟨S1408x1024, .f32⟩
  | .local _ .vmem, ⟨3, _⟩ => ⟨S1408x1024, .f32⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S4224x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 2, 3], ![false, false, false]⟩

def k0_cond2 (i : grid0.Coords) : BitVec 1 :=
  let arg2 : BitVec 32 := BitVec.ofNat 32 (i 2).val
  let c2_i32 : BitVec 32 := 2#32
  let v12 : BitVec 1 := Scalar.cmpi .eq arg2 c2_i32
  let v13 : BitVec 32 := Scalar.extui v12
  let c0_i32_8 : BitVec 32 := 0#32
  let v14 : BitVec 1 := Scalar.cmpi .ne v13 c0_i32_8
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  let v1 : BitVec 32 := Scalar.addi arg0 c0_i32_0
  let c0_i32_1 : BitVec 32 := 0#32
  ![v0.toNat, v1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  let v1 : BitVec 32 := Scalar.addi arg1 c0_i32_0
  let c0_i32_1 : BitVec 32 := 0#32
  ![v0.toNat, v1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1408x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1408x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference11Ideal.lean ====
abbrev S4224x2048 : Shape := ⟨2, ![4224, 2048]⟩
abbrev S_ : Shape := ⟨0, ![]⟩
abbrev S2048x2048 : Shape := ⟨2, ![2048, 2048]⟩
abbrev S1024x2048 : Shape := ⟨2, ![1024, 2048]⟩
abbrev S3072x2048 : Shape := ⟨2, ![3072, 2048]⟩

abbrev nBuf : Space → Nat
  | .hbm => 11
  | .vmem => 0
  | .smem => 0
  | _ => 0

abbrev bufTy : (tb : Table) → Fin (tcTables nBuf tb) → BufTy
  | .hbm, ⟨0, _⟩ => ⟨S4224x2048, .bf16⟩
  | .hbm, ⟨1, _⟩ => ⟨S4224x2048, .f32⟩
  | .hbm, ⟨2, _⟩ => ⟨S_, .f32⟩
  | .hbm, ⟨3, _⟩ => ⟨S2048x2048, .f32⟩
  | .hbm, ⟨4, _⟩ => ⟨S4224x2048, .f32⟩
  | .hbm, ⟨5, _⟩ => ⟨S4224x2048, .f32⟩
  | .hbm, ⟨6, _⟩ => ⟨S2048x2048, .f32⟩
  | .hbm, ⟨7, _⟩ => ⟨S2048x2048, .f32⟩
  | .hbm, ⟨8, _⟩ => ⟨S_, .f32⟩
  | .hbm, ⟨9, _⟩ => ⟨S1024x2048, .f32⟩
  | .hbm, ⟨10, _⟩ => ⟨S3072x2048, .f32⟩
  | _, _ => ⟨S4224x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst_0 : Ref sig .tc := ⟨.hbm, 8, rfl⟩
abbrev main_v5 : Ref sig .tc := ⟨.hbm, 9, rfl⟩
abbrev main_v6 : Ref sig .tc := ⟨.hbm, 10, rfl⟩

abbrev nD : Nat := 1
abbrev τ : Topo := Topo.v7x

variable {F : FTy → Type} [FloatOps F]
-- ==== Kernel12.lean ====
abbrev S4224x1024 : Shape := ⟨2, ![4224, 1024]⟩
abbrev S4224x2048 : Shape := ⟨2, ![4224, 2048]⟩
abbrev S3072x2048 : Shape := ⟨2, ![3072, 2048]⟩
abbrev S1408x1024 : Shape := ⟨2, ![1408, 1024]⟩
abbrev S1024x1024 : Shape := ⟨2, ![1024, 1024]⟩

abbrev nBuf : Space → Nat
  | .hbm => 4
  | .vmem => 7
  | .smem => 0
  | _ => 0

abbrev bufTy : (tb : Table) → Fin (tcTables nBuf tb) → BufTy
  | .hbm, ⟨0, _⟩ => ⟨S4224x1024, .bf16⟩
  | .hbm, ⟨1, _⟩ => ⟨S4224x2048, .f32⟩
  | .hbm, ⟨2, _⟩ => ⟨S3072x2048, .f32⟩
  | .hbm, ⟨3, _⟩ => ⟨S3072x2048, .f32⟩
  | .local _ .vmem, ⟨0, _⟩ => ⟨S1408x1024, .bf16⟩
  | .local _ .vmem, ⟨1, _⟩ => ⟨S1408x1024, .bf16⟩
  | .local _ .vmem, ⟨2, _⟩ => ⟨S1408x1024, .f32⟩
  | .local _ .vmem, ⟨3, _⟩ => ⟨S1408x1024, .f32⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S4224x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 2, 3], ![false, false, false]⟩

def k0_cond2 (i : grid0.Coords) : BitVec 1 :=
  let arg2 : BitVec 32 := BitVec.ofNat 32 (i 2).val
  let c2_i32 : BitVec 32 := 2#32
  let v12 : BitVec 1 := Scalar.cmpi .eq arg2 c2_i32
  let v13 : BitVec 32 := Scalar.extui v12
  let c0_i32_8 : BitVec 32 := 0#32
  let v14 : BitVec 1 := Scalar.cmpi .ne v13 c0_i32_8
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  let v1 : BitVec 32 := Scalar.addi arg0 c0_i32_0
  let c0_i32_1 : BitVec 32 := 0#32
  ![v0.toNat, v1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  let v1 : BitVec 32 := Scalar.addi arg1 c0_i32_0
  let c0_i32_1 : BitVec 32 := 0#32
  ![v0.toNat, v1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.addi arg0 c2_i32
  let c0_i32 : BitVec 32 := 0#32
  let v1 : BitVec 32 := Scalar.addi arg1 c0_i32
  let c0_i32_0 : BitVec 32 := 0#32
  ![v0.toNat, v1.toNat]

abbrev stage0_0 : Fin 2 → Memref sig .tc .vmem S1408x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1408x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference12Ideal.lean ====
abbrev S4224x1024 : Shape := ⟨2, ![4224, 1024]⟩
abbrev S4224x2048 : Shape := ⟨2, ![4224, 2048]⟩
abbrev S3072x2048 : Shape := ⟨2, ![3072, 2048]⟩
abbrev S2048x2048 : Shape := ⟨2, ![2048, 2048]⟩
abbrev S_ : Shape := ⟨0, ![]⟩
abbrev S1024x2048 : Shape := ⟨2, ![1024, 2048]⟩
abbrev S2048x1024 : Shape := ⟨2, ![2048, 1024]⟩

abbrev nBuf : Space → Nat
  | .hbm => 11
  | .vmem => 0
  | .smem => 0
  | _ => 0

abbrev bufTy : (tb : Table) → Fin (tcTables nBuf tb) → BufTy
  | .hbm, ⟨0, _⟩ => ⟨S4224x1024, .bf16⟩
  | .hbm, ⟨1, _⟩ => ⟨S4224x2048, .f32⟩
  | .hbm, ⟨2, _⟩ => ⟨S3072x2048, .f32⟩
  | .hbm, ⟨3, _⟩ => ⟨S2048x2048, .f32⟩
  | .hbm, ⟨4, _⟩ => ⟨S_, .f32⟩
  | .hbm, ⟨5, _⟩ => ⟨S1024x2048, .f32⟩
  | .hbm, ⟨6, _⟩ => ⟨S4224x1024, .f32⟩
  | .hbm, ⟨7, _⟩ => ⟨S4224x2048, .f32⟩
  | .hbm, ⟨8, _⟩ => ⟨S2048x1024, .f32⟩
  | .hbm, ⟨9, _⟩ => ⟨S1024x2048, .f32⟩
  | .hbm, ⟨10, _⟩ => ⟨S3072x2048, .f32⟩
  | _, _ => ⟨S4224x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩

abbrev nD : Nat := 1
abbrev τ : Topo := Topo.v7x

variable {F : FTy → Type} [FloatOps F]
-- ==== Kernel13.lean ====
abbrev S4224x2048 : Shape := ⟨2, ![4224, 2048]⟩
abbrev S3072x2048 : Shape := ⟨2, ![3072, 2048]⟩
abbrev S4224x3072 : Shape := ⟨2, ![4224, 3072]⟩
abbrev S1408x1024 : Shape := ⟨2, ![1408, 1024]⟩
abbrev S512x1024 : Shape := ⟨2, ![512, 1024]⟩
abbrev S1408x512 : Shape := ⟨2, ![1408, 512]⟩

abbrev nBuf : Space → Nat
  | .hbm => 3
  | .vmem => 7
  | .smem => 0
  | _ => 0

abbrev bufTy : (tb : Table) → Fin (tcTables nBuf tb) → BufTy
  | .hbm, ⟨0, _⟩ => ⟨S4224x2048, .f32⟩
  | .hbm, ⟨1, _⟩ => ⟨S3072x2048, .bf16⟩
  | .hbm, ⟨2, _⟩ => ⟨S4224x3072, .f32⟩
  | .local _ .vmem, ⟨0, _⟩ => ⟨S1408x1024, .f32⟩
  | .local _ .vmem, ⟨1, _⟩ => ⟨S1408x1024, .f32⟩
  | .local _ .vmem, ⟨2, _⟩ => ⟨S512x1024, .bf16⟩
  | .local _ .vmem, ⟨3, _⟩ => ⟨S512x1024, .bf16⟩
  | .local _ .vmem, ⟨4, _⟩ => ⟨S1408x512, .f32⟩
  | .local _ .vmem, ⟨5, _⟩ => ⟨S1408x512, .f32⟩
  | .local _ .vmem, ⟨6, _⟩ => ⟨S1408x512, .f32⟩
  | _, _ => ⟨S4224x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![3, 6, 2], ![false, false, false]⟩

def k0_cond2 (i : grid0.Coords) : BitVec 1 :=
  let arg2 : BitVec 32 := BitVec.ofNat 32 (i 2).val
  let c1_i32 : BitVec 32 := 1#32
  let v12 : BitVec 1 := Scalar.cmpi .eq arg2 c1_i32
  let v13 : BitVec 32 := Scalar.extui v12
  let c0_i32_8 : BitVec 32 := 0#32
  let v14 : BitVec 1 := Scalar.cmpi .ne v13 c0_i32_8
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  let v1 : BitVec 32 := Scalar.addi arg2 c0_i32_0
  let c0_i32_1 : BitVec 32 := 0#32
  ![v0.toNat, v1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  let v1 : BitVec 32 := Scalar.addi arg2 c0_i32_0
  let c0_i32_1 : BitVec 32 := 0#32
  ![v0.toNat, v1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1408x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1408x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference13Ideal.lean ====
abbrev S4224x2048 : Shape := ⟨2, ![4224, 2048]⟩
abbrev S3072x2048 : Shape := ⟨2, ![3072, 2048]⟩
abbrev S_ : Shape := ⟨0, ![]⟩
abbrev S4224x3072 : Shape := ⟨2, ![4224, 3072]⟩

abbrev nBuf : Space → Nat
  | .hbm => 7
  | .vmem => 0
  | .smem => 0
  | _ => 0

abbrev bufTy : (tb : Table) → Fin (tcTables nBuf tb) → BufTy
  | .hbm, ⟨0, _⟩ => ⟨S4224x2048, .f32⟩
  | .hbm, ⟨1, _⟩ => ⟨S3072x2048, .bf16⟩
  | .hbm, ⟨2, _⟩ => ⟨S_, .f32⟩
  | .hbm, ⟨3, _⟩ => ⟨S4224x3072, .f32⟩
  | .hbm, ⟨4, _⟩ => ⟨S3072x2048, .f32⟩
  | .hbm, ⟨5, _⟩ => ⟨S4224x2048, .f32⟩
  | .hbm, ⟨6, _⟩ => ⟨S4224x3072, .f32⟩
  | _, _ => ⟨S4224x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel14.lean ====
abbrev S4224x2048 : Shape := ⟨2, ![4224, 2048]⟩
abbrev S4224x1024 : Shape := ⟨2, ![4224, 1024]⟩
abbrev S3072x2048 : Shape := ⟨2, ![3072, 2048]⟩
abbrev S1408x1024 : Shape := ⟨2, ![1408, 1024]⟩
abbrev S1024x512 : Shape := ⟨2, ![1024, 512]⟩
abbrev S1408x512 : Shape := ⟨2, ![1408, 512]⟩

abbrev nBuf : Space → Nat
  | .hbm => 5
  | .vmem => 13
  | .smem => 0
  | _ => 0

abbrev bufTy : (tb : Table) → Fin (tcTables nBuf tb) → BufTy
  | .hbm, ⟨0, _⟩ => ⟨S4224x2048, .bf16⟩
  | .hbm, ⟨1, _⟩ => ⟨S4224x1024, .bf16⟩
  | .hbm, ⟨2, _⟩ => ⟨S3072x2048, .bf16⟩
  | .hbm, ⟨3, _⟩ => ⟨S4224x2048, .f32⟩
  | .hbm, ⟨4, _⟩ => ⟨S4224x2048, .f32⟩
  | .local _ .vmem, ⟨0, _⟩ => ⟨S1408x1024, .bf16⟩
  | .local _ .vmem, ⟨1, _⟩ => ⟨S1408x1024, .bf16⟩
  | .local _ .vmem, ⟨2, _⟩ => ⟨S1024x512, .bf16⟩
  | .local _ .vmem, ⟨3, _⟩ => ⟨S1024x512, .bf16⟩
  | .local _ .vmem, ⟨4, _⟩ => ⟨S1408x1024, .bf16⟩
  | .local _ .vmem, ⟨5, _⟩ => ⟨S1408x1024, .bf16⟩
  | .local _ .vmem, ⟨6, _⟩ => ⟨S1024x512, .bf16⟩
  | .local _ .vmem, ⟨7, _⟩ => ⟨S1024x512, .bf16⟩
  | .local _ .vmem, ⟨8, _⟩ => ⟨S1408x512, .f32⟩
  | .local _ .vmem, ⟨9, _⟩ => ⟨S1408x512, .f32⟩
  | .local _ .vmem, ⟨10, _⟩ => ⟨S1408x512, .f32⟩
  | .local _ .vmem, ⟨11, _⟩ => ⟨S1408x512, .f32⟩
  | .local _ .vmem, ⟨12, _⟩ => ⟨S1408x512, .f32⟩
  | _, _ => ⟨S4224x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨3, ![3, 4, 3], ![false, false, false]⟩

def k0_cond4 (i : grid0.Coords) : BitVec 1 :=
  let arg2 : BitVec 32 := BitVec.ofNat 32 (i 2).val
  let c2_i32_5 : BitVec 32 := 2#32
  let v13 : BitVec 1 := Scalar.cmpi .eq arg2 c2_i32_5
  let v14 : BitVec 32 := Scalar.extui v13
  let c0_i32_6 : BitVec 32 := 0#32
  let v15 : BitVec 1 := Scalar.cmpi .ne v14 c0_i32_6
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  let v1 : BitVec 32 := Scalar.subi arg2 c0_i32_0
  let c0_i32_1 : BitVec 32 := 0#32
  let c1_i32 : BitVec 32 := 1#32
  let v2 : BitVec 32 := Scalar.maxsi c0_i32_1 v1
  let v3 : BitVec 32 := Scalar.minsi c1_i32 v2
  let c0_i32_2 : BitVec 32 := 0#32
  let v4 : BitVec 32 := Scalar.addi v3 c0_i32_2
  let c0_i32_3 : BitVec 32 := 0#32
  ![v0.toNat, v4.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.subi arg2 c0_i32
  let c0_i32_0 : BitVec 32 := 0#32
  let c1_i32 : BitVec 32 := 1#32
  let v1 : BitVec 32 := Scalar.maxsi c0_i32_0 v0
  let v2 : BitVec 32 := Scalar.minsi c1_i32 v1
  let c0_i32_1 : BitVec 32 := 0#32
  let v3 : BitVec 32 := Scalar.addi v2 c0_i32_1
  let c0_i32_2 : BitVec 32 := 0#32
  let v4 : BitVec 32 := Scalar.addi arg1 c0_i32_2
  let c0_i32_3 : BitVec 32 := 0#32
  ![v3.toNat, v4.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c2_i32 : BitVec 32 := 2#32
  let v1 : BitVec 32 := Scalar.subi arg2 c2_i32
  let c0_i32_0 : BitVec 32 := 0#32
  let c0_i32_1 : BitVec 32 := 0#32
  let v2 : BitVec 32 := Scalar.maxsi c0_i32_0 v1
  let v3 : BitVec 32 := Scalar.minsi c0_i32_1 v2
  let c0_i32_2 : BitVec 32 := 0#32
  let v4 : BitVec 32 := Scalar.addi v3 c0_i32_2
  let c0_i32_3 : BitVec 32 := 0#32
  ![v0.toNat, v4.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.subi arg2 c2_i32
  let c0_i32 : BitVec 32 := 0#32
  let c0_i32_0 : BitVec 32 := 0#32
  let v1 : BitVec 32 := Scalar.maxsi c0_i32 v0
  let v2 : BitVec 32 := Scalar.minsi c0_i32_0 v1
  let c2_i32_1 : BitVec 32 := 2#32
  let v3 : BitVec 32 := Scalar.addi v2 c2_i32_1
  let c0_i32_2 : BitVec 32 := 0#32
  let v4 : BitVec 32 := Scalar.addi arg1 c0_i32_2
  let c0_i32_3 : BitVec 32 := 0#32
  ![v3.toNat, v4.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1408x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1408x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, true]

abbrev stage0_3 : Fin 2 → Memref sig .tc .vmem S1024x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true, true]

abbrev stage0_4 : Fin 2 → Memref sig .tc .vmem S1408x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S1408x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]
-- ==== Reference14Ideal.lean ====
abbrev S4224x2048 : Shape := ⟨2, ![4224, 2048]⟩
abbrev S4224x1024 : Shape := ⟨2, ![4224, 1024]⟩
abbrev S3072x2048 : Shape := ⟨2, ![3072, 2048]⟩
abbrev S4224x3072 : Shape := ⟨2, ![4224, 3072]⟩

abbrev nBuf : Space → Nat
  | .hbm => 9
  | .vmem => 0
  | .smem => 0
  | _ => 0

abbrev bufTy : (tb : Table) → Fin (tcTables nBuf tb) → BufTy
  | .hbm, ⟨0, _⟩ => ⟨S4224x2048, .bf16⟩
  | .hbm, ⟨1, _⟩ => ⟨S4224x1024, .bf16⟩
  | .hbm, ⟨2, _⟩ => ⟨S3072x2048, .bf16⟩
  | .hbm, ⟨3, _⟩ => ⟨S4224x2048, .f32⟩
  | .hbm, ⟨4, _⟩ => ⟨S4224x3072, .bf16⟩
  | .hbm, ⟨5, _⟩ => ⟨S4224x3072, .f32⟩
  | .hbm, ⟨6, _⟩ => ⟨S3072x2048, .f32⟩
  | .hbm, ⟨7, _⟩ => ⟨S4224x2048, .f32⟩
  | .hbm, ⟨8, _⟩ => ⟨S4224x2048, .f32⟩
  | _, _ => ⟨S4224x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩

abbrev nD : Nat := 1
abbrev τ : Topo := Topo.v7x

variable {F : FTy → Type} [FloatOps F]
-- ==== Kernel15.lean ====
abbrev S2048x2048 : Shape := ⟨2, ![2048, 2048]⟩
abbrev S256x2048 : Shape := ⟨2, ![256, 2048]⟩

abbrev nBuf : Space → Nat
  | .hbm => 7
  | .vmem => 14
  | .smem => 0
  | _ => 0

abbrev bufTy : (tb : Table) → Fin (tcTables nBuf tb) → BufTy
  | .hbm, ⟨0, _⟩ => ⟨S2048x2048, .f32⟩
  | .hbm, ⟨1, _⟩ => ⟨S2048x2048, .f32⟩
  | .hbm, ⟨2, _⟩ => ⟨S2048x2048, .f32⟩
  | .hbm, ⟨3, _⟩ => ⟨S2048x2048, .f32⟩
  | .hbm, ⟨4, _⟩ => ⟨S2048x2048, .f32⟩
  | .hbm, ⟨5, _⟩ => ⟨S2048x2048, .f32⟩
  | .hbm, ⟨6, _⟩ => ⟨S2048x2048, .f32⟩
  | .local _ .vmem, ⟨0, _⟩ => ⟨S256x2048, .f32⟩
  | .local _ .vmem, ⟨1, _⟩ => ⟨S256x2048, .f32⟩
  | .local _ .vmem, ⟨2, _⟩ => ⟨S256x2048, .f32⟩
  | .local _ .vmem, ⟨3, _⟩ => ⟨S256x2048, .f32⟩
  | .local _ .vmem, ⟨4, _⟩ => ⟨S256x2048, .f32⟩
  | .local _ .vmem, ⟨5, _⟩ => ⟨S256x2048, .f32⟩
  | .local _ .vmem, ⟨6, _⟩ => ⟨S256x2048, .f32⟩
  | .local _ .vmem, ⟨7, _⟩ => ⟨S256x2048, .f32⟩
  | .local _ .vmem, ⟨8, _⟩ => ⟨S256x2048, .f32⟩
  | .local _ .vmem, ⟨9, _⟩ => ⟨S256x2048, .f32⟩
  | .local _ .vmem, ⟨10, _⟩ => ⟨S256x2048, .f32⟩
  | .local _ .vmem, ⟨11, _⟩ => ⟨S256x2048, .f32⟩
  | .local _ .vmem, ⟨12, _⟩ => ⟨S256x2048, .f32⟩
  | .local _ .vmem, ⟨13, _⟩ => ⟨S256x2048, .f32⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference15Ideal.lean ====
abbrev S2048x2048 : Shape := ⟨2, ![2048, 2048]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S2048x2048, .f32⟩
  | .hbm, ⟨2, _⟩ => ⟨S2048x2048, .f32⟩
  | .hbm, ⟨3, _⟩ => ⟨S2048x2048, .f32⟩
  | .hbm, ⟨4, _⟩ => ⟨S_, .f32⟩
  | .hbm, ⟨5, _⟩ => ⟨S2048x2048, .f32⟩
  | .hbm, ⟨6, _⟩ => ⟨S2048x2048, .f32⟩
  | .hbm, ⟨7, _⟩ => ⟨S_, .f32⟩
  | .hbm, ⟨8, _⟩ => ⟨S2048x2048, .f32⟩
  | .hbm, ⟨9, _⟩ => ⟨S2048x2048, .f32⟩
  | .hbm, ⟨10, _⟩ => ⟨S2048x2048, .f32⟩
  | .hbm, ⟨11, _⟩ => ⟨S_, .f32⟩
  | .hbm, ⟨12, _⟩ => ⟨S2048x2048, .f32⟩
  | .hbm, ⟨13, _⟩ => ⟨S2048x2048, .f32⟩
  | .hbm, ⟨14, _⟩ => ⟨S2048x2048, .f32⟩
  | .hbm, ⟨15, _⟩ => ⟨S_, .f32⟩
  | .hbm, ⟨16, _⟩ => ⟨S2048x2048, .f32⟩
  | .hbm, ⟨17, _⟩ => ⟨S2048x2048, .f32⟩
  | .hbm, ⟨18, _⟩ => ⟨S2048x2048, .f32⟩
  | .hbm, ⟨19, _⟩ => ⟨S_, .f32⟩
  | .hbm, ⟨20, _⟩ => ⟨S2048x2048, .f32⟩
  | .hbm, ⟨21, _⟩ => ⟨S2048x2048, .f32⟩
  | .hbm, ⟨22, _⟩ => ⟨S_, .f32⟩
  | .hbm, ⟨23, _⟩ => ⟨S2048x2048, .f32⟩
  | .hbm, ⟨24, _⟩ => ⟨S2048x2048, .f32⟩
  | .hbm, ⟨25, _⟩ => ⟨S2048x2048, .f32⟩
  | .hbm, ⟨26, _⟩ => ⟨S_, .f32⟩
  | .hbm, ⟨27, _⟩ => ⟨S2048x2048, .f32⟩
  | .hbm, ⟨28, _⟩ => ⟨S2048x2048, .f32⟩
  | .hbm, ⟨29, _⟩ => ⟨S2048x2048, .f32⟩
  | .hbm, ⟨30, _⟩ => ⟨S_, .f32⟩
  | .hbm, ⟨31, _⟩ => ⟨S2048x2048, .f32⟩
  | .hbm, ⟨32, _⟩ => ⟨S2048x2048, .f32⟩
  | .hbm, ⟨33, _⟩ => ⟨S2048x2048, .f32⟩
  | .hbm, ⟨34, _⟩ => ⟨S_, .f32⟩
  | .hbm, ⟨35, _⟩ => ⟨S2048x2048, .f32⟩
  | .hbm, ⟨36, _⟩ => ⟨S2048x2048, .f32⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel16.lean ====
abbrev S256x1024 : Shape := ⟨2, ![256, 1024]⟩

abbrev nBuf : Space → Nat
  | .hbm => 7
  | .vmem => 7
  | .smem => 0
  | _ => 0

abbrev bufTy : (tb : Table) → Fin (tcTables nBuf tb) → BufTy
  | .hbm, ⟨0, _⟩ => ⟨S256x1024, .f32⟩
  | .hbm, ⟨1, _⟩ => ⟨S256x1024, .f32⟩
  | .hbm, ⟨2, _⟩ => ⟨S256x1024, .f32⟩
  | .hbm, ⟨3, _⟩ => ⟨S256x1024, .f32⟩
  | .hbm, ⟨4, _⟩ => ⟨S256x1024, .f32⟩
  | .hbm, ⟨5, _⟩ => ⟨S256x1024, .f32⟩
  | .hbm, ⟨6, _⟩ => ⟨S256x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | _, _ => ⟨S256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S256x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S256x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S256x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S256x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S256x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S256x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S256x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== Reference16Ideal.lean ====
abbrev S256x1024 : Shape := ⟨2, ![256, 1024]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S256x1024, .f32⟩
  | .hbm, ⟨1, _⟩ => ⟨S256x1024, .f32⟩
  | .hbm, ⟨2, _⟩ => ⟨S256x1024, .f32⟩
  | .hbm, ⟨3, _⟩ => ⟨S256x1024, .f32⟩
  | .hbm, ⟨4, _⟩ => ⟨S_, .f32⟩
  | .hbm, ⟨5, _⟩ => ⟨S256x1024, .f32⟩
  | .hbm, ⟨6, _⟩ => ⟨S256x1024, .f32⟩
  | .hbm, ⟨7, _⟩ => ⟨S_, .f32⟩
  | .hbm, ⟨8, _⟩ => ⟨S256x1024, .f32⟩
  | .hbm, ⟨9, _⟩ => ⟨S256x1024, .f32⟩
  | .hbm, ⟨10, _⟩ => ⟨S256x1024, .f32⟩
  | .hbm, ⟨11, _⟩ => ⟨S_, .f32⟩
  | .hbm, ⟨12, _⟩ => ⟨S256x1024, .f32⟩
  | .hbm, ⟨13, _⟩ => ⟨S256x1024, .f32⟩
  | .hbm, ⟨14, _⟩ => ⟨S256x1024, .f32⟩
  | .hbm, ⟨15, _⟩ => ⟨S_, .f32⟩
  | .hbm, ⟨16, _⟩ => ⟨S256x1024, .f32⟩
  | .hbm, ⟨17, _⟩ => ⟨S256x1024, .f32⟩
  | .hbm, ⟨18, _⟩ => ⟨S256x1024, .f32⟩
  | .hbm, ⟨19, _⟩ => ⟨S_, .f32⟩
  | .hbm, ⟨20, _⟩ => ⟨S256x1024, .f32⟩
  | .hbm, ⟨21, _⟩ => ⟨S256x1024, .f32⟩
  | .hbm, ⟨22, _⟩ => ⟨S_, .f32⟩
  | .hbm, ⟨23, _⟩ => ⟨S256x1024, .f32⟩
  | .hbm, ⟨24, _⟩ => ⟨S256x1024, .f32⟩
  | .hbm, ⟨25, _⟩ => ⟨S256x1024, .f32⟩
  | .hbm, ⟨26, _⟩ => ⟨S_, .f32⟩
  | .hbm, ⟨27, _⟩ => ⟨S256x1024, .f32⟩
  | .hbm, ⟨28, _⟩ => ⟨S256x1024, .f32⟩
  | .hbm, ⟨29, _⟩ => ⟨S256x1024, .f32⟩
  | .hbm, ⟨30, _⟩ => ⟨S_, .f32⟩
  | .hbm, ⟨31, _⟩ => ⟨S256x1024, .f32⟩
  | .hbm, ⟨32, _⟩ => ⟨S256x1024, .f32⟩
  | .hbm, ⟨33, _⟩ => ⟨S256x1024, .f32⟩
  | .hbm, ⟨34, _⟩ => ⟨S_, .f32⟩
  | .hbm, ⟨35, _⟩ => ⟨S256x1024, .f32⟩
  | .hbm, ⟨36, _⟩ => ⟨S256x1024, .f32⟩
  | _, _ => ⟨S256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel17.lean ====
abbrev S768x2048 : Shape := ⟨2, ![768, 2048]⟩
abbrev S256x2048 : Shape := ⟨2, ![256, 2048]⟩

abbrev nBuf : Space → Nat
  | .hbm => 7
  | .vmem => 14
  | .smem => 0
  | _ => 0

abbrev bufTy : (tb : Table) → Fin (tcTables nBuf tb) → BufTy
  | .hbm, ⟨0, _⟩ => ⟨S768x2048, .f32⟩
  | .hbm, ⟨1, _⟩ => ⟨S768x2048, .f32⟩
  | .hbm, ⟨2, _⟩ => ⟨S768x2048, .f32⟩
  | .hbm, ⟨3, _⟩ => ⟨S768x2048, .f32⟩
  | .hbm, ⟨4, _⟩ => ⟨S768x2048, .f32⟩
  | .hbm, ⟨5, _⟩ => ⟨S768x2048, .f32⟩
  | .hbm, ⟨6, _⟩ => ⟨S768x2048, .f32⟩
  | .local _ .vmem, ⟨0, _⟩ => ⟨S256x2048, .f32⟩
  | .local _ .vmem, ⟨1, _⟩ => ⟨S256x2048, .f32⟩
  | .local _ .vmem, ⟨2, _⟩ => ⟨S256x2048, .f32⟩
  | .local _ .vmem, ⟨3, _⟩ => ⟨S256x2048, .f32⟩
  | .local _ .vmem, ⟨4, _⟩ => ⟨S256x2048, .f32⟩
  | .local _ .vmem, ⟨5, _⟩ => ⟨S256x2048, .f32⟩
  | .local _ .vmem, ⟨6, _⟩ => ⟨S256x2048, .f32⟩
  | .local _ .vmem, ⟨7, _⟩ => ⟨S256x2048, .f32⟩
  | .local _ .vmem, ⟨8, _⟩ => ⟨S256x2048, .f32⟩
  | .local _ .vmem, ⟨9, _⟩ => ⟨S256x2048, .f32⟩
  | .local _ .vmem, ⟨10, _⟩ => ⟨S256x2048, .f32⟩
  | .local _ .vmem, ⟨11, _⟩ => ⟨S256x2048, .f32⟩
  | .local _ .vmem, ⟨12, _⟩ => ⟨S256x2048, .f32⟩
  | .local _ .vmem, ⟨13, _⟩ => ⟨S256x2048, .f32⟩
  | _, _ => ⟨S768x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![3], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference17Ideal.lean ====
abbrev S768x2048 : Shape := ⟨2, ![768, 2048]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S768x2048, .f32⟩
  | .hbm, ⟨1, _⟩ => ⟨S768x2048, .f32⟩
  | .hbm, ⟨2, _⟩ => ⟨S768x2048, .f32⟩
  | .hbm, ⟨3, _⟩ => ⟨S768x2048, .f32⟩
  | .hbm, ⟨4, _⟩ => ⟨S_, .f32⟩
  | .hbm, ⟨5, _⟩ => ⟨S768x2048, .f32⟩
  | .hbm, ⟨6, _⟩ => ⟨S768x2048, .f32⟩
  | .hbm, ⟨7, _⟩ => ⟨S_, .f32⟩
  | .hbm, ⟨8, _⟩ => ⟨S768x2048, .f32⟩
  | .hbm, ⟨9, _⟩ => ⟨S768x2048, .f32⟩
  | .hbm, ⟨10, _⟩ => ⟨S768x2048, .f32⟩
  | .hbm, ⟨11, _⟩ => ⟨S_, .f32⟩
  | .hbm, ⟨12, _⟩ => ⟨S768x2048, .f32⟩
  | .hbm, ⟨13, _⟩ => ⟨S768x2048, .f32⟩
  | .hbm, ⟨14, _⟩ => ⟨S768x2048, .f32⟩
  | .hbm, ⟨15, _⟩ => ⟨S_, .f32⟩
  | .hbm, ⟨16, _⟩ => ⟨S768x2048, .f32⟩
  | .hbm, ⟨17, _⟩ => ⟨S768x2048, .f32⟩
  | .hbm, ⟨18, _⟩ => ⟨S768x2048, .f32⟩
  | .hbm, ⟨19, _⟩ => ⟨S_, .f32⟩
  | .hbm, ⟨20, _⟩ => ⟨S768x2048, .f32⟩
  | .hbm, ⟨21, _⟩ => ⟨S768x2048, .f32⟩
  | .hbm, ⟨22, _⟩ => ⟨S_, .f32⟩
  | .hbm, ⟨23, _⟩ => ⟨S768x2048, .f32⟩
  | .hbm, ⟨24, _⟩ => ⟨S768x2048, .f32⟩
  | .hbm, ⟨25, _⟩ => ⟨S768x2048, .f32⟩
  | .hbm, ⟨26, _⟩ => ⟨S_, .f32⟩
  | .hbm, ⟨27, _⟩ => ⟨S768x2048, .f32⟩
  | .hbm, ⟨28, _⟩ => ⟨S768x2048, .f32⟩
  | .hbm, ⟨29, _⟩ => ⟨S768x2048, .f32⟩
  | .hbm, ⟨30, _⟩ => ⟨S_, .f32⟩
  | .hbm, ⟨31, _⟩ => ⟨S768x2048, .f32⟩
  | .hbm, ⟨32, _⟩ => ⟨S768x2048, .f32⟩
  | .hbm, ⟨33, _⟩ => ⟨S768x2048, .f32⟩
  | .hbm, ⟨34, _⟩ => ⟨S_, .f32⟩
  | .hbm, ⟨35, _⟩ => ⟨S768x2048, .f32⟩
  | .hbm, ⟨36, _⟩ => ⟨S768x2048, .f32⟩
  | _, _ => ⟨S768x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel18.lean ====
abbrev S2048x1540 : Shape := ⟨2, ![2048, 1540]⟩
abbrev S256x1540 : Shape := ⟨2, ![256, 1540]⟩

abbrev nBuf : Space → Nat
  | .hbm => 7
  | .vmem => 14
  | .smem => 0
  | _ => 0

abbrev bufTy : (tb : Table) → Fin (tcTables nBuf tb) → BufTy
  | .hbm, ⟨0, _⟩ => ⟨S2048x1540, .f32⟩
  | .hbm, ⟨1, _⟩ => ⟨S2048x1540, .f32⟩
  | .hbm, ⟨2, _⟩ => ⟨S2048x1540, .f32⟩
  | .hbm, ⟨3, _⟩ => ⟨S2048x1540, .f32⟩
  | .hbm, ⟨4, _⟩ => ⟨S2048x1540, .f32⟩
  | .hbm, ⟨5, _⟩ => ⟨S2048x1540, .f32⟩
  | .hbm, ⟨6, _⟩ => ⟨S2048x1540, .f32⟩
  | .local _ .vmem, ⟨0, _⟩ => ⟨S256x1540, .f32⟩
  | .local _ .vmem, ⟨1, _⟩ => ⟨S256x1540, .f32⟩
  | .local _ .vmem, ⟨2, _⟩ => ⟨S256x1540, .f32⟩
  | .local _ .vmem, ⟨3, _⟩ => ⟨S256x1540, .f32⟩
  | .local _ .vmem, ⟨4, _⟩ => ⟨S256x1540, .f32⟩
  | .local _ .vmem, ⟨5, _⟩ => ⟨S256x1540, .f32⟩
  | .local _ .vmem, ⟨6, _⟩ => ⟨S256x1540, .f32⟩
  | .local _ .vmem, ⟨7, _⟩ => ⟨S256x1540, .f32⟩
  | .local _ .vmem, ⟨8, _⟩ => ⟨S256x1540, .f32⟩
  | .local _ .vmem, ⟨9, _⟩ => ⟨S256x1540, .f32⟩
  | .local _ .vmem, ⟨10, _⟩ => ⟨S256x1540, .f32⟩
  | .local _ .vmem, ⟨11, _⟩ => ⟨S256x1540, .f32⟩
  | .local _ .vmem, ⟨12, _⟩ => ⟨S256x1540, .f32⟩
  | .local _ .vmem, ⟨13, _⟩ => ⟨S256x1540, .f32⟩
  | _, _ => ⟨S2048x1540, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1540 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1540 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1540 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1540 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1540 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1540 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1540 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference18Ideal.lean ====
abbrev S2048x1540 : Shape := ⟨2, ![2048, 1540]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S2048x1540, .f32⟩
  | .hbm, ⟨1, _⟩ => ⟨S2048x1540, .f32⟩
  | .hbm, ⟨2, _⟩ => ⟨S2048x1540, .f32⟩
  | .hbm, ⟨3, _⟩ => ⟨S2048x1540, .f32⟩
  | .hbm, ⟨4, _⟩ => ⟨S_, .f32⟩
  | .hbm, ⟨5, _⟩ => ⟨S2048x1540, .f32⟩
  | .hbm, ⟨6, _⟩ => ⟨S2048x1540, .f32⟩
  | .hbm, ⟨7, _⟩ => ⟨S_, .f32⟩
  | .hbm, ⟨8, _⟩ => ⟨S2048x1540, .f32⟩
  | .hbm, ⟨9, _⟩ => ⟨S2048x1540, .f32⟩
  | .hbm, ⟨10, _⟩ => ⟨S2048x1540, .f32⟩
  | .hbm, ⟨11, _⟩ => ⟨S_, .f32⟩
  | .hbm, ⟨12, _⟩ => ⟨S2048x1540, .f32⟩
  | .hbm, ⟨13, _⟩ => ⟨S2048x1540, .f32⟩
  | .hbm, ⟨14, _⟩ => ⟨S2048x1540, .f32⟩
  | .hbm, ⟨15, _⟩ => ⟨S_, .f32⟩
  | .hbm, ⟨16, _⟩ => ⟨S2048x1540, .f32⟩
  | .hbm, ⟨17, _⟩ => ⟨S2048x1540, .f32⟩
  | .hbm, ⟨18, _⟩ => ⟨S2048x1540, .f32⟩
  | .hbm, ⟨19, _⟩ => ⟨S_, .f32⟩
  | .hbm, ⟨20, _⟩ => ⟨S2048x1540, .f32⟩
  | .hbm, ⟨21, _⟩ => ⟨S2048x1540, .f32⟩
  | .hbm, ⟨22, _⟩ => ⟨S_, .f32⟩
  | .hbm, ⟨23, _⟩ => ⟨S2048x1540, .f32⟩
  | .hbm, ⟨24, _⟩ => ⟨S2048x1540, .f32⟩
  | .hbm, ⟨25, _⟩ => ⟨S2048x1540, .f32⟩
  | .hbm, ⟨26, _⟩ => ⟨S_, .f32⟩
  | .hbm, ⟨27, _⟩ => ⟨S2048x1540, .f32⟩
  | .hbm, ⟨28, _⟩ => ⟨S2048x1540, .f32⟩
  | .hbm, ⟨29, _⟩ => ⟨S2048x1540, .f32⟩
  | .hbm, ⟨30, _⟩ => ⟨S_, .f32⟩
  | .hbm, ⟨31, _⟩ => ⟨S2048x1540, .f32⟩
  | .hbm, ⟨32, _⟩ => ⟨S2048x1540, .f32⟩
  | .hbm, ⟨33, _⟩ => ⟨S2048x1540, .f32⟩
  | .hbm, ⟨34, _⟩ => ⟨S_, .f32⟩
  | .hbm, ⟨35, _⟩ => ⟨S2048x1540, .f32⟩
  | .hbm, ⟨36, _⟩ => ⟨S2048x1540, .f32⟩
  | _, _ => ⟨S2048x1540, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel19.lean ====
abbrev S512x2048 : Shape := ⟨2, ![512, 2048]⟩
abbrev S256x2048 : Shape := ⟨2, ![256, 2048]⟩

abbrev nBuf : Space → Nat
  | .hbm => 7
  | .vmem => 14
  | .smem => 0
  | _ => 0

abbrev bufTy : (tb : Table) → Fin (tcTables nBuf tb) → BufTy
  | .hbm, ⟨0, _⟩ => ⟨S512x2048, .f32⟩
  | .hbm, ⟨1, _⟩ => ⟨S512x2048, .f32⟩
  | .hbm, ⟨2, _⟩ => ⟨S512x2048, .f32⟩
  | .hbm, ⟨3, _⟩ => ⟨S512x2048, .f32⟩
  | .hbm, ⟨4, _⟩ => ⟨S512x2048, .f32⟩
  | .hbm, ⟨5, _⟩ => ⟨S512x2048, .f32⟩
  | .hbm, ⟨6, _⟩ => ⟨S512x2048, .f32⟩
  | .local _ .vmem, ⟨0, _⟩ => ⟨S256x2048, .f32⟩
  | .local _ .vmem, ⟨1, _⟩ => ⟨S256x2048, .f32⟩
  | .local _ .vmem, ⟨2, _⟩ => ⟨S256x2048, .f32⟩
  | .local _ .vmem, ⟨3, _⟩ => ⟨S256x2048, .f32⟩
  | .local _ .vmem, ⟨4, _⟩ => ⟨S256x2048, .f32⟩
  | .local _ .vmem, ⟨5, _⟩ => ⟨S256x2048, .f32⟩
  | .local _ .vmem, ⟨6, _⟩ => ⟨S256x2048, .f32⟩
  | .local _ .vmem, ⟨7, _⟩ => ⟨S256x2048, .f32⟩
  | .local _ .vmem, ⟨8, _⟩ => ⟨S256x2048, .f32⟩
  | .local _ .vmem, ⟨9, _⟩ => ⟨S256x2048, .f32⟩
  | .local _ .vmem, ⟨10, _⟩ => ⟨S256x2048, .f32⟩
  | .local _ .vmem, ⟨11, _⟩ => ⟨S256x2048, .f32⟩
  | .local _ .vmem, ⟨12, _⟩ => ⟨S256x2048, .f32⟩
  | .local _ .vmem, ⟨13, _⟩ => ⟨S256x2048, .f32⟩
  | _, _ => ⟨S512x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference19Ideal.lean ====
abbrev S512x2048 : Shape := ⟨2, ![512, 2048]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S512x2048, .f32⟩
  | .hbm, ⟨1, _⟩ => ⟨S512x2048, .f32⟩
  | .hbm, ⟨2, _⟩ => ⟨S512x2048, .f32⟩
  | .hbm, ⟨3, _⟩ => ⟨S512x2048, .f32⟩
  | .hbm, ⟨4, _⟩ => ⟨S_, .f32⟩
  | .hbm, ⟨5, _⟩ => ⟨S512x2048, .f32⟩
  | .hbm, ⟨6, _⟩ => ⟨S512x2048, .f32⟩
  | .hbm, ⟨7, _⟩ => ⟨S_, .f32⟩
  | .hbm, ⟨8, _⟩ => ⟨S512x2048, .f32⟩
  | .hbm, ⟨9, _⟩ => ⟨S512x2048, .f32⟩
  | .hbm, ⟨10, _⟩ => ⟨S512x2048, .f32⟩
  | .hbm, ⟨11, _⟩ => ⟨S_, .f32⟩
  | .hbm, ⟨12, _⟩ => ⟨S512x2048, .f32⟩
  | .hbm, ⟨13, _⟩ => ⟨S512x2048, .f32⟩
  | .hbm, ⟨14, _⟩ => ⟨S512x2048, .f32⟩
  | .hbm, ⟨15, _⟩ => ⟨S_, .f32⟩
  | .hbm, ⟨16, _⟩ => ⟨S512x2048, .f32⟩
  | .hbm, ⟨17, _⟩ => ⟨S512x2048, .f32⟩
  | .hbm, ⟨18, _⟩ => ⟨S512x2048, .f32⟩
  | .hbm, ⟨19, _⟩ => ⟨S_, .f32⟩
  | .hbm, ⟨20, _⟩ => ⟨S512x2048, .f32⟩
  | .hbm, ⟨21, _⟩ => ⟨S512x2048, .f32⟩
  | .hbm, ⟨22, _⟩ => ⟨S_, .f32⟩
  | .hbm, ⟨23, _⟩ => ⟨S512x2048, .f32⟩
  | .hbm, ⟨24, _⟩ => ⟨S512x2048, .f32⟩
  | .hbm, ⟨25, _⟩ => ⟨S512x2048, .f32⟩
  | .hbm, ⟨26, _⟩ => ⟨S_, .f32⟩
  | .hbm, ⟨27, _⟩ => ⟨S512x2048, .f32⟩
  | .hbm, ⟨28, _⟩ => ⟨S512x2048, .f32⟩
  | .hbm, ⟨29, _⟩ => ⟨S512x2048, .f32⟩
  | .hbm, ⟨30, _⟩ => ⟨S_, .f32⟩
  | .hbm, ⟨31, _⟩ => ⟨S512x2048, .f32⟩
  | .hbm, ⟨32, _⟩ => ⟨S512x2048, .f32⟩
  | .hbm, ⟨33, _⟩ => ⟨S512x2048, .f32⟩
  | .hbm, ⟨34, _⟩ => ⟨S_, .f32⟩
  | .hbm, ⟨35, _⟩ => ⟨S512x2048, .f32⟩
  | .hbm, ⟨36, _⟩ => ⟨S512x2048, .f32⟩
  | _, _ => ⟨S512x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel20.lean ====
abbrev S576x512 : Shape := ⟨2, ![576, 512]⟩

abbrev nBuf : Space → Nat
  | .hbm => 7
  | .vmem => 7
  | .smem => 0
  | _ => 0

abbrev bufTy : (tb : Table) → Fin (tcTables nBuf tb) → BufTy
  | .hbm, ⟨0, _⟩ => ⟨S576x512, .f32⟩
  | .hbm, ⟨1, _⟩ => ⟨S576x512, .f32⟩
  | .hbm, ⟨2, _⟩ => ⟨S576x512, .f32⟩
  | .hbm, ⟨3, _⟩ => ⟨S576x512, .f32⟩
  | .hbm, ⟨4, _⟩ => ⟨S576x512, .f32⟩
  | .hbm, ⟨5, _⟩ => ⟨S576x512, .f32⟩
  | .hbm, ⟨6, _⟩ => ⟨S576x512, .f32⟩
  | .local _ .vmem, ⟨0, _⟩ => ⟨S576x512, .f32⟩
  | .local _ .vmem, ⟨1, _⟩ => ⟨S576x512, .f32⟩
  | .local _ .vmem, ⟨2, _⟩ => ⟨S576x512, .f32⟩
  | .local _ .vmem, ⟨3, _⟩ => ⟨S576x512, .f32⟩
  | .local _ .vmem, ⟨4, _⟩ => ⟨S576x512, .f32⟩
  | .local _ .vmem, ⟨5, _⟩ => ⟨S576x512, .f32⟩
  | .local _ .vmem, ⟨6, _⟩ => ⟨S576x512, .f32⟩
  | _, _ => ⟨S576x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S576x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S576x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S576x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S576x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S576x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S576x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S576x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== Reference20Ideal.lean ====
abbrev S576x512 : Shape := ⟨2, ![576, 512]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S576x512, .f32⟩
  | .hbm, ⟨1, _⟩ => ⟨S576x512, .f32⟩
  | .hbm, ⟨2, _⟩ => ⟨S576x512, .f32⟩
  | .hbm, ⟨3, _⟩ => ⟨S576x512, .f32⟩
  | .hbm, ⟨4, _⟩ => ⟨S_, .f32⟩
  | .hbm, ⟨5, _⟩ => ⟨S576x512, .f32⟩
  | .hbm, ⟨6, _⟩ => ⟨S576x512, .f32⟩
  | .hbm, ⟨7, _⟩ => ⟨S_, .f32⟩
  | .hbm, ⟨8, _⟩ => ⟨S576x512, .f32⟩
  | .hbm, ⟨9, _⟩ => ⟨S576x512, .f32⟩
  | .hbm, ⟨10, _⟩ => ⟨S576x512, .f32⟩
  | .hbm, ⟨11, _⟩ => ⟨S_, .f32⟩
  | .hbm, ⟨12, _⟩ => ⟨S576x512, .f32⟩
  | .hbm, ⟨13, _⟩ => ⟨S576x512, .f32⟩
  | .hbm, ⟨14, _⟩ => ⟨S576x512, .f32⟩
  | .hbm, ⟨15, _⟩ => ⟨S_, .f32⟩
  | .hbm, ⟨16, _⟩ => ⟨S576x512, .f32⟩
  | .hbm, ⟨17, _⟩ => ⟨S576x512, .f32⟩
  | .hbm, ⟨18, _⟩ => ⟨S576x512, .f32⟩
  | .hbm, ⟨19, _⟩ => ⟨S_, .f32⟩
  | .hbm, ⟨20, _⟩ => ⟨S576x512, .f32⟩
  | .hbm, ⟨21, _⟩ => ⟨S576x512, .f32⟩
  | .hbm, ⟨22, _⟩ => ⟨S_, .f32⟩
  | .hbm, ⟨23, _⟩ => ⟨S576x512, .f32⟩
  | .hbm, ⟨24, _⟩ => ⟨S576x512, .f32⟩
  | .hbm, ⟨25, _⟩ => ⟨S576x512, .f32⟩
  | .hbm, ⟨26, _⟩ => ⟨S_, .f32⟩
  | .hbm, ⟨27, _⟩ => ⟨S576x512, .f32⟩
  | .hbm, ⟨28, _⟩ => ⟨S576x512, .f32⟩
  | .hbm, ⟨29, _⟩ => ⟨S576x512, .f32⟩
  | .hbm, ⟨30, _⟩ => ⟨S_, .f32⟩
  | .hbm, ⟨31, _⟩ => ⟨S576x512, .f32⟩
  | .hbm, ⟨32, _⟩ => ⟨S576x512, .f32⟩
  | .hbm, ⟨33, _⟩ => ⟨S576x512, .f32⟩
  | .hbm, ⟨34, _⟩ => ⟨S_, .f32⟩
  | .hbm, ⟨35, _⟩ => ⟨S576x512, .f32⟩
  | .hbm, ⟨36, _⟩ => ⟨S576x512, .f32⟩
  | _, _ => ⟨S576x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel21.lean ====
abbrev S4224x2048 : Shape := ⟨2, ![4224, 2048]⟩
abbrev S1x2048 : Shape := ⟨2, ![1, 2048]⟩
abbrev S384x2048 : Shape := ⟨2, ![384, 2048]⟩
abbrev S384 : Shape := ⟨1, ![384]⟩
abbrev S384x1 : Shape := ⟨2, ![384, 1]⟩
abbrev S2048 : Shape := ⟨1, ![2048]⟩

abbrev nBuf : Space → Nat
  | .hbm => 6
  | .vmem => 10
  | .smem => 0
  | _ => 0

abbrev bufTy : (tb : Table) → Fin (tcTables nBuf tb) → BufTy
  | .hbm, ⟨0, _⟩ => ⟨S4224x2048, .f32⟩
  | .hbm, ⟨1, _⟩ => ⟨S1x2048, .f32⟩
  | .hbm, ⟨2, _⟩ => ⟨S4224x2048, .f32⟩
  | .hbm, ⟨3, _⟩ => ⟨S4224x2048, .f32⟩
  | .hbm, ⟨4, _⟩ => ⟨S4224x2048, .f32⟩
  | .hbm, ⟨5, _⟩ => ⟨S1x2048, .f32⟩
  | .local _ .vmem, ⟨0, _⟩ => ⟨S384x2048, .f32⟩
  | .local _ .vmem, ⟨1, _⟩ => ⟨S384x2048, .f32⟩
  | .local _ .vmem, ⟨2, _⟩ => ⟨S384x2048, .f32⟩
  | .local _ .vmem, ⟨3, _⟩ => ⟨S384x2048, .f32⟩
  | .local _ .vmem, ⟨4, _⟩ => ⟨S1x2048, .f32⟩
  | .local _ .vmem, ⟨5, _⟩ => ⟨S384x2048, .f32⟩
  | .local _ .vmem, ⟨6, _⟩ => ⟨S384x2048, .f32⟩
  | .local _ .vmem, ⟨7, _⟩ => ⟨S384x2048, .f32⟩
  | .local _ .vmem, ⟨8, _⟩ => ⟨S384x2048, .f32⟩
  | .local _ .vmem, ⟨9, _⟩ => ⟨S1x2048, .f32⟩
  | _, _ => ⟨S4224x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9

abbrev nD : Nat := 1
abbrev τ : Topo := Topo.v7x

variable {F : FTy → Type} [FloatOps F]

abbrev grid0 : Pipeline.Grid := ⟨1, ![11], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S384x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S384x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S384x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S384x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== Reference21Ideal.lean ====
abbrev S4224x2048 : Shape := ⟨2, ![4224, 2048]⟩
abbrev S1x2048 : Shape := ⟨2, ![1, 2048]⟩
abbrev S_ : Shape := ⟨0, ![]⟩
abbrev S4224 : Shape := ⟨1, ![4224]⟩
abbrev S4224x1 : Shape := ⟨2, ![4224, 1]⟩
abbrev S2048 : Shape := ⟨1, ![2048]⟩

abbrev nBuf : Space → Nat
  | .hbm => 47
  | .vmem => 0
  | .smem => 0
  | _ => 0

abbrev bufTy : (tb : Table) → Fin (tcTables nBuf tb) → BufTy
  | .hbm, ⟨0, _⟩ => ⟨S4224x2048, .f32⟩
  | .hbm, ⟨1, _⟩ => ⟨S1x2048, .f32⟩
  | .hbm, ⟨2, _⟩ => ⟨S4224x2048, .f32⟩
  | .hbm, ⟨3, _⟩ => ⟨S4224x2048, .f32⟩
  | .hbm, ⟨4, _⟩ => ⟨S4224x2048, .f32⟩
  | .hbm, ⟨5, _⟩ => ⟨S_, .f32⟩
  | .hbm, ⟨6, _⟩ => ⟨S4224, .f32⟩
  | .hbm, ⟨7, _⟩ => ⟨S4224x1, .f32⟩
  | .hbm, ⟨8, _⟩ => ⟨S_, .f32⟩
  | .hbm, ⟨9, _⟩ => ⟨S4224x1, .f32⟩
  | .hbm, ⟨10, _⟩ => ⟨S4224x1, .f32⟩
  | .hbm, ⟨11, _⟩ => ⟨S_, .f32⟩
  | .hbm, ⟨12, _⟩ => ⟨S4224x1, .f32⟩
  | .hbm, ⟨13, _⟩ => ⟨S4224x1, .f32⟩
  | .hbm, ⟨14, _⟩ => ⟨S4224x1, .f32⟩
  | .hbm, ⟨15, _⟩ => ⟨S4224x1, .f32⟩
  | .hbm, ⟨16, _⟩ => ⟨S_, .f32⟩
  | .hbm, ⟨17, _⟩ => ⟨S4224x1, .f32⟩
  | .hbm, ⟨18, _⟩ => ⟨S4224x1, .f32⟩
  | .hbm, ⟨19, _⟩ => ⟨S4224x2048, .f32⟩
  | .hbm, ⟨20, _⟩ => ⟨S4224x2048, .f32⟩
  | .hbm, ⟨21, _⟩ => ⟨S4224x2048, .f32⟩
  | .hbm, ⟨22, _⟩ => ⟨S4224x2048, .f32⟩
  | .hbm, ⟨23, _⟩ => ⟨S4224x2048, .f32⟩
  | .hbm, ⟨24, _⟩ => ⟨S_, .f32⟩
  | .hbm, ⟨25, _⟩ => ⟨S2048, .f32⟩
  | .hbm, ⟨26, _⟩ => ⟨S1x2048, .f32⟩
  | .hbm, ⟨27, _⟩ => ⟨S4224x2048, .f32⟩
  | .hbm, ⟨28, _⟩ => ⟨S4224x2048, .f32⟩
  | .hbm, ⟨29, _⟩ => ⟨S4224x2048, .f32⟩
  | .hbm, ⟨30, _⟩ => ⟨S_, .f32⟩
  | .hbm, ⟨31, _⟩ => ⟨S4224, .f32⟩
  | .hbm, ⟨32, _⟩ => ⟨S4224x1, .f32⟩
  | .hbm, ⟨33, _⟩ => ⟨S4224x2048, .f32⟩
  | .hbm, ⟨34, _⟩ => ⟨S4224x2048, .f32⟩
  | .hbm, ⟨35, _⟩ => ⟨S4224x2048, .f32⟩
  | .hbm, ⟨36, _⟩ => ⟨S4224x1, .f32⟩
  | .hbm, ⟨37, _⟩ => ⟨S_, .f32⟩
  | .hbm, ⟨38, _⟩ => ⟨S4224x1, .f32⟩
  | .hbm, ⟨39, _⟩ => ⟨S4224x1, .f32⟩
  | .hbm, ⟨40, _⟩ => ⟨S_, .f32⟩
  | .hbm, ⟨41, _⟩ => ⟨S4224, .f32⟩
  | .hbm, ⟨42, _⟩ => ⟨S4224x2048, .f32⟩
  | .hbm, ⟨43, _⟩ => ⟨S4224x2048, .f32⟩
  | .hbm, ⟨44, _⟩ => ⟨S4224x2048, .f32⟩
  | .hbm, ⟨45, _⟩ => ⟨S4224x2048, .f32⟩
  | .hbm, ⟨46, _⟩ => ⟨S4224x2048, .f32⟩
  | _, _ => ⟨S4224x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_cst_3 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_4 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_cst_5 : Ref sig .tc := ⟨.hbm, 37, rfl⟩
abbrev main_v27 : Ref sig .tc := ⟨.hbm, 38, rfl⟩
abbrev main_v28 : Ref sig .tc := ⟨.hbm, 39, rfl⟩
abbrev main_cst_6 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩

abbrev nD : Nat := 1
abbrev τ : Topo := Topo.v7x

variable {F : FTy → Type} [FloatOps F]
-- ==== Kernel22.lean ====
abbrev S4224x2048 : Shape := ⟨2, ![4224, 2048]⟩
abbrev S1x2048 : Shape := ⟨2, ![1, 2048]⟩
abbrev S4096x2048 : Shape := ⟨2, ![4096, 2048]⟩
abbrev S1x1 : Shape := ⟨2, ![1, 1]⟩
abbrev S128x2048 : Shape := ⟨2, ![128, 2048]⟩
abbrev S128 : Shape := ⟨1, ![128]⟩
abbrev S128x1 : Shape := ⟨2, ![128, 1]⟩
abbrev S1 : Shape := ⟨1, ![1]⟩
abbrev S2048 : Shape := ⟨1, ![2048]⟩

abbrev nBuf : Space → Nat
  | .hbm => 6
  | .vmem => 9
  | .smem => 0
  | _ => 0

abbrev bufTy : (tb : Table) → Fin (tcTables nBuf tb) → BufTy
  | .hbm, ⟨0, _⟩ => ⟨S4224x2048, .f32⟩
  | .hbm, ⟨1, _⟩ => ⟨S1x2048, .f32⟩
  | .hbm, ⟨2, _⟩ => ⟨S4096x2048, .f32⟩
  | .hbm, ⟨3, _⟩ => ⟨S1x1, .f32⟩
  | .hbm, ⟨4, _⟩ => ⟨S4224x2048, .f32⟩
  | .hbm, ⟨5, _⟩ => ⟨S1x2048, .f32⟩
  | .local _ .vmem, ⟨0, _⟩ => ⟨S128x2048, .f32⟩
  | .local _ .vmem, ⟨1, _⟩ => ⟨S128x2048, .f32⟩
  | .local _ .vmem, ⟨2, _⟩ => ⟨S1x2048, .f32⟩
  | .local _ .vmem, ⟨3, _⟩ => ⟨S128x2048, .f32⟩
  | .local _ .vmem, ⟨4, _⟩ => ⟨S128x2048, .f32⟩
  | .local _ .vmem, ⟨5, _⟩ => ⟨S1x1, .f32⟩
  | .local _ .vmem, ⟨6, _⟩ => ⟨S128x2048, .f32⟩
  | .local _ .vmem, ⟨7, _⟩ => ⟨S128x2048, .f32⟩
  | .local _ .vmem, ⟨8, _⟩ => ⟨S1x2048, .f32⟩
  | _, _ => ⟨S4224x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_v0_2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8

abbrev nD : Nat := 1
abbrev τ : Topo := Topo.v7x

variable {F : FTy → Type} [FloatOps F]

abbrev grid0 : Pipeline.Grid := ⟨1, ![33], ![false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg0 : BitVec 32 := BitVec.ofNat 32 (i 0).val
  let c0_i32_1 : BitVec 32 := 0#32
  let v3 : BitVec 1 := Scalar.cmpi .sgt arg0 c0_i32_1
  let v4 : BitVec 32 := Scalar.extui v3
  let c0_i32_2 : BitVec 32 := 0#32
  let v5 : BitVec 1 := Scalar.cmpi .ne v4 c0_i32_2
  v5

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S128x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S128x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S128x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== Reference22Ideal.lean ====
abbrev S4224x2048 : Shape := ⟨2, ![4224, 2048]⟩
abbrev S1x2048 : Shape := ⟨2, ![1, 2048]⟩
abbrev S4096x2048 : Shape := ⟨2, ![4096, 2048]⟩
abbrev S_ : Shape := ⟨0, ![]⟩
abbrev S4224 : Shape := ⟨1, ![4224]⟩
abbrev S4224x1 : Shape := ⟨2, ![4224, 1]⟩
abbrev S4096 : Shape := ⟨1, ![4096]⟩
abbrev S2048 : Shape := ⟨1, ![2048]⟩
abbrev S1x1 : Shape := ⟨2, ![1, 1]⟩

abbrev nBuf : Space → Nat
  | .hbm => 72
  | .vmem => 0
  | .smem => 0
  | _ => 0

abbrev bufTy : (tb : Table) → Fin (tcTables nBuf tb) → BufTy
  | .hbm, ⟨0, _⟩ => ⟨S4224x2048, .f32⟩
  | .hbm, ⟨1, _⟩ => ⟨S1x2048, .f32⟩
  | .hbm, ⟨2, _⟩ => ⟨S4096x2048, .f32⟩
  | .hbm, ⟨3, _⟩ => ⟨S4224x2048, .f32⟩
  | .hbm, ⟨4, _⟩ => ⟨S_, .f32⟩
  | .hbm, ⟨5, _⟩ => ⟨S4224, .f32⟩
  | .hbm, ⟨6, _⟩ => ⟨S4224x1, .f32⟩
  | .hbm, ⟨7, _⟩ => ⟨S_, .f32⟩
  | .hbm, ⟨8, _⟩ => ⟨S4224x1, .f32⟩
  | .hbm, ⟨9, _⟩ => ⟨S4224x1, .f32⟩
  | .hbm, ⟨10, _⟩ => ⟨S_, .f32⟩
  | .hbm, ⟨11, _⟩ => ⟨S4224x1, .f32⟩
  | .hbm, ⟨12, _⟩ => ⟨S4224x1, .f32⟩
  | .hbm, ⟨13, _⟩ => ⟨S4224x1, .f32⟩
  | .hbm, ⟨14, _⟩ => ⟨S4224x1, .f32⟩
  | .hbm, ⟨15, _⟩ => ⟨S_, .f32⟩
  | .hbm, ⟨16, _⟩ => ⟨S4224x1, .f32⟩
  | .hbm, ⟨17, _⟩ => ⟨S4224x1, .f32⟩
  | .hbm, ⟨18, _⟩ => ⟨S4224x2048, .f32⟩
  | .hbm, ⟨19, _⟩ => ⟨S4224x2048, .f32⟩
  | .hbm, ⟨20, _⟩ => ⟨S4224x2048, .f32⟩
  | .hbm, ⟨21, _⟩ => ⟨S4224x2048, .f32⟩
  | .hbm, ⟨22, _⟩ => ⟨S4096x2048, .f32⟩
  | .hbm, ⟨23, _⟩ => ⟨S4096x2048, .f32⟩
  | .hbm, ⟨24, _⟩ => ⟨S4096x2048, .f32⟩
  | .hbm, ⟨25, _⟩ => ⟨S_, .f32⟩
  | .hbm, ⟨26, _⟩ => ⟨S4096x2048, .f32⟩
  | .hbm, ⟨27, _⟩ => ⟨S4096x2048, .f32⟩
  | .hbm, ⟨28, _⟩ => ⟨S_, .f32⟩
  | .hbm, ⟨29, _⟩ => ⟨S4096, .f32⟩
  | .hbm, ⟨30, _⟩ => ⟨S_, .f32⟩
  | .hbm, ⟨31, _⟩ => ⟨S4096, .f32⟩
  | .hbm, ⟨32, _⟩ => ⟨S4096, .f32⟩
  | .hbm, ⟨33, _⟩ => ⟨S_, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S4096, .f32⟩
  | .hbm, ⟨41, _⟩ => ⟨S_, .f32⟩
  | .hbm, ⟨42, _⟩ => ⟨S4096, .f32⟩
  | .hbm, ⟨43, _⟩ => ⟨S4096, .f32⟩
  | .hbm, ⟨44, _⟩ => ⟨S4096x2048, .f32⟩
  | .hbm, ⟨45, _⟩ => ⟨S4096x2048, .f32⟩
  | .hbm, ⟨46, _⟩ => ⟨S_, .f32⟩
  | .hbm, ⟨47, _⟩ => ⟨S4224x2048, .f32⟩
  | .hbm, ⟨48, _⟩ => ⟨S4224x2048, .f32⟩
  | .hbm, ⟨49, _⟩ => ⟨S_, .f32⟩
  | .hbm, ⟨50, _⟩ => ⟨S2048, .f32⟩
  | .hbm, ⟨51, _⟩ => ⟨S1x2048, .f32⟩
  | .hbm, ⟨52, _⟩ => ⟨S4224x2048, .f32⟩
  | .hbm, ⟨53, _⟩ => ⟨S4224x2048, .f32⟩
  | .hbm, ⟨54, _⟩ => ⟨S4224x2048, .f32⟩
  | .hbm, ⟨55, _⟩ => ⟨S_, .f32⟩
  | .hbm, ⟨56, _⟩ => ⟨S4224, .f32⟩
  | .hbm, ⟨57, _⟩ => ⟨S4224x1, .f32⟩
  | .hbm, ⟨58, _⟩ => ⟨S4224x2048, .f32⟩
  | .hbm, ⟨59, _⟩ => ⟨S4224x2048, .f32⟩
  | .hbm, ⟨60, _⟩ => ⟨S4224x1, .f32⟩
  | .hbm, ⟨61, _⟩ => ⟨S_, .f32⟩
  | .hbm, ⟨62, _⟩ => ⟨S4224x1, .f32⟩
  | .hbm, ⟨63, _⟩ => ⟨S4224x1, .f32⟩
  | .hbm, ⟨64, _⟩ => ⟨S_, .f32⟩
  | .hbm, ⟨65, _⟩ => ⟨S4224, .f32⟩
  | .hbm, ⟨66, _⟩ => ⟨S4224x2048, .f32⟩
  | .hbm, ⟨67, _⟩ => ⟨S4224x2048, .f32⟩
  | .hbm, ⟨68, _⟩ => ⟨S4224x2048, .f32⟩
  | .hbm, ⟨69, _⟩ => ⟨S4224x2048, .f32⟩
  | .hbm, ⟨70, _⟩ => ⟨S4224x2048, .f32⟩
  | .hbm, ⟨71, _⟩ => ⟨S1x1, .f32⟩
  | _, _ => ⟨S4224x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst_2 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_cst_3 : Ref sig .tc := ⟨.hbm, 25, rfl⟩
abbrev main_v18 : Ref sig .tc := ⟨.hbm, 26, rfl⟩
abbrev main_v19 : Ref sig .tc := ⟨.hbm, 27, rfl⟩
abbrev main_cst_4 : Ref sig .tc := ⟨.hbm, 28, rfl⟩
abbrev main_v20 : Ref sig .tc := ⟨.hbm, 29, rfl⟩
abbrev main_cst_5 : Ref sig .tc := ⟨.hbm, 30, rfl⟩
abbrev main_v21 : Ref sig .tc := ⟨.hbm, 31, rfl⟩
abbrev main_v22 : Ref sig .tc := ⟨.hbm, 32, rfl⟩
abbrev main_cst_6 : Ref sig .tc := ⟨.hbm, 33, rfl⟩
abbrev main_v23 : Ref sig .tc := ⟨.hbm, 34, rfl⟩
abbrev main_cst_7 : Ref sig .tc := ⟨.hbm, 35, rfl⟩
abbrev main_v24 : Ref sig .tc := ⟨.hbm, 36, rfl⟩
abbrev main_cst_8 : Ref sig .tc := ⟨.hbm, 37, rfl⟩
abbrev main_cst_9 : Ref sig .tc := ⟨.hbm, 38, rfl⟩
abbrev main_v25 : Ref sig .tc := ⟨.hbm, 39, rfl⟩
abbrev main_v26 : Ref sig .tc := ⟨.hbm, 40, rfl⟩
abbrev main_cst_10 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_cst_11 : Ref sig .tc := ⟨.hbm, 46, rfl⟩
abbrev main_v31 : Ref sig .tc := ⟨.hbm, 47, rfl⟩
abbrev main_v32 : Ref sig .tc := ⟨.hbm, 48, rfl⟩
abbrev main_cst_12 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_cst_13 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_cst_14 : Ref sig .tc := ⟨.hbm, 61, rfl⟩
abbrev main_v43 : Ref sig .tc := ⟨.hbm, 62, rfl⟩
abbrev main_v44 : Ref sig .tc := ⟨.hbm, 63, rfl⟩
abbrev main_cst_15 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩

abbrev nD : Nat := 1
abbrev τ : Topo := Topo.v7x

variable {F : FTy → Type} [FloatOps F]
-- ==== Kernel23.lean ====
abbrev S4224x3072 : Shape := ⟨2, ![4224, 3072]⟩
abbrev S4224x1024 : Shape := ⟨2, ![4224, 1024]⟩
abbrev S4224x8192 : Shape := ⟨2, ![4224, 8192]⟩
abbrev S384x1024 : Shape := ⟨2, ![384, 1024]⟩

abbrev nBuf : Space → Nat
  | .hbm => 8
  | .vmem => 14
  | .smem => 0
  | _ => 0

abbrev bufTy : (tb : Table) → Fin (tcTables nBuf tb) → BufTy
  | .hbm, ⟨0, _⟩ => ⟨S4224x3072, .f32⟩
  | .hbm, ⟨1, _⟩ => ⟨S4224x1024, .bf16⟩
  | .hbm, ⟨2, _⟩ => ⟨S4224x1024, .f32⟩
  | .hbm, ⟨3, _⟩ => ⟨S4224x8192, .f32⟩
  | .hbm, ⟨4, _⟩ => ⟨S4224x8192, .bf16⟩
  | .hbm, ⟨5, _⟩ => ⟨S4224x8192, .bf16⟩
  | .hbm, ⟨6, _⟩ => ⟨S4224x1024, .bf16⟩
  | .hbm, ⟨7, _⟩ => ⟨S4224x1024, .f32⟩
  | .local _ .vmem, ⟨0, _⟩ => ⟨S384x1024, .f32⟩
  | .local _ .vmem, ⟨1, _⟩ => ⟨S384x1024, .f32⟩
  | .local _ .vmem, ⟨2, _⟩ => ⟨S384x1024, .bf16⟩
  | .local _ .vmem, ⟨3, _⟩ => ⟨S384x1024, .bf16⟩
  | .local _ .vmem, ⟨4, _⟩ => ⟨S384x1024, .f32⟩
  | .local _ .vmem, ⟨5, _⟩ => ⟨S384x1024, .f32⟩
  | .local _ .vmem, ⟨6, _⟩ => ⟨S384x1024, .f32⟩
  | .local _ .vmem, ⟨7, _⟩ => ⟨S384x1024, .f32⟩
  | .local _ .vmem, ⟨8, _⟩ => ⟨S384x1024, .bf16⟩
  | .local _ .vmem, ⟨9, _⟩ => ⟨S384x1024, .bf16⟩
  | .local _ .vmem, ⟨10, _⟩ => ⟨S384x1024, .bf16⟩
  | .local _ .vmem, ⟨11, _⟩ => ⟨S384x1024, .bf16⟩
  | .local _ .vmem, ⟨12, _⟩ => ⟨S384x1024, .f32⟩
  | .local _ .vmem, ⟨13, _⟩ => ⟨S384x1024, .f32⟩
  | _, _ => ⟨S4224x3072, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![11], ![false]⟩

def cc0_transform_0 (i : grid0.Coords) : Fin 2 → Nat :=
  let arg0 : BitVec 32 := BitVec.ofNat 32 (i 0).val
  let c2_i32 : BitVec 32 := 2#32
  let c0_i32 : BitVec 32 := 0#32
  ![arg0.toNat, c2_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c7_i32 : BitVec 32 := 7#32
  let c0_i32 : BitVec 32 := 0#32
  ![arg0.toNat, c7_i32.toNat]

def cc0_transform_5 (i : grid0.Coords) : Fin 2 → Nat :=
  let arg0 : BitVec 32 := BitVec.ofNat 32 (i 0).val
  let c7_i32 : BitVec 32 := 7#32
  let c0_i32 : BitVec 32 := 0#32
  ![arg0.toNat, c7_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S384x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S384x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S384x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S384x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S384x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S384x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S384x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference23Ideal.lean ====
abbrev S4224x3072 : Shape := ⟨2, ![4224, 3072]⟩
abbrev S4224x1024 : Shape := ⟨2, ![4224, 1024]⟩
abbrev S4224x8192 : Shape := ⟨2, ![4224, 8192]⟩
abbrev S_ : Shape := ⟨0, ![]⟩
abbrev S4224x7168 : Shape := ⟨2, ![4224, 7168]⟩

abbrev nBuf : Space → Nat
  | .hbm => 48
  | .vmem => 0
  | .smem => 0
  | _ => 0

abbrev bufTy : (tb : Table) → Fin (tcTables nBuf tb) → BufTy
  | .hbm, ⟨0, _⟩ => ⟨S4224x3072, .f32⟩
  | .hbm, ⟨1, _⟩ => ⟨S4224x1024, .bf16⟩
  | .hbm, ⟨2, _⟩ => ⟨S4224x1024, .f32⟩
  | .hbm, ⟨3, _⟩ => ⟨S4224x8192, .f32⟩
  | .hbm, ⟨4, _⟩ => ⟨S4224x8192, .bf16⟩
  | .hbm, ⟨5, _⟩ => ⟨S4224x1024, .f32⟩
  | .hbm, ⟨6, _⟩ => ⟨S4224x1024, .f32⟩
  | .hbm, ⟨7, _⟩ => ⟨S4224x1024, .f32⟩
  | .hbm, ⟨8, _⟩ => ⟨S4224x1024, .f32⟩
  | .hbm, ⟨9, _⟩ => ⟨S_, .f32⟩
  | .hbm, ⟨10, _⟩ => ⟨S4224x1024, .f32⟩
  | .hbm, ⟨11, _⟩ => ⟨S4224x1024, .f32⟩
  | .hbm, ⟨12, _⟩ => ⟨S_, .f32⟩
  | .hbm, ⟨13, _⟩ => ⟨S4224x1024, .f32⟩
  | .hbm, ⟨14, _⟩ => ⟨S4224x1024, .f32⟩
  | .hbm, ⟨15, _⟩ => ⟨S_, .f32⟩
  | .hbm, ⟨16, _⟩ => ⟨S4224x1024, .f32⟩
  | .hbm, ⟨17, _⟩ => ⟨S4224x1024, .f32⟩
  | .hbm, ⟨18, _⟩ => ⟨S4224x1024, .f32⟩
  | .hbm, ⟨19, _⟩ => ⟨S4224x1024, .f32⟩
  | .hbm, ⟨20, _⟩ => ⟨S4224x1024, .f32⟩
  | .hbm, ⟨21, _⟩ => ⟨S4224x1024, .f32⟩
  | .hbm, ⟨22, _⟩ => ⟨S_, .f32⟩
  | .hbm, ⟨23, _⟩ => ⟨S4224x1024, .f32⟩
  | .hbm, ⟨24, _⟩ => ⟨S4224x1024, .f32⟩
  | .hbm, ⟨25, _⟩ => ⟨S_, .f32⟩
  | .hbm, ⟨26, _⟩ => ⟨S4224x1024, .f32⟩
  | .hbm, ⟨27, _⟩ => ⟨S4224x1024, .f32⟩
  | .hbm, ⟨28, _⟩ => ⟨S_, .f32⟩
  | .hbm, ⟨29, _⟩ => ⟨S4224x1024, .f32⟩
  | .hbm, ⟨30, _⟩ => ⟨S4224x1024, .f32⟩
  | .hbm, ⟨31, _⟩ => ⟨S4224x1024, .f32⟩
  | .hbm, ⟨32, _⟩ => ⟨S4224x1024, .f32⟩
  | .hbm, ⟨33, _⟩ => ⟨S4224x1024, .f32⟩
  | .hbm, ⟨34, _⟩ => ⟨S4224x1024, .f32⟩
  | .hbm, ⟨35, _⟩ => ⟨S4224x1024, .f32⟩
  | .hbm, ⟨36, _⟩ => ⟨S4224x1024, .f32⟩
  | .hbm, ⟨37, _⟩ => ⟨S4224x1024, .f32⟩
  | .hbm, ⟨38, _⟩ => ⟨S4224x1024, .f32⟩
  | .hbm, ⟨39, _⟩ => ⟨S4224x1024, .f32⟩
  | .hbm, ⟨40, _⟩ => ⟨S4224x1024, .f32⟩
  | .hbm, ⟨41, _⟩ => ⟨S4224x1024, .f32⟩
  | .hbm, ⟨42, _⟩ => ⟨S4224x1024, .f32⟩
  | .hbm, ⟨43, _⟩ => ⟨S4224x1024, .f32⟩
  | .hbm, ⟨44, _⟩ => ⟨S4224x7168, .bf16⟩
  | .hbm, ⟨45, _⟩ => ⟨S4224x1024, .bf16⟩
  | .hbm, ⟨46, _⟩ => ⟨S4224x8192, .bf16⟩
  | .hbm, ⟨47, _⟩ => ⟨S4224x1024, .bf16⟩
  | _, _ => ⟨S4224x3072, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_call0_v0 : Ref sig .tc := ⟨.hbm, 20, rfl⟩
abbrev main_call0_v1 : Ref sig .tc := ⟨.hbm, 21, rfl⟩
abbrev main_call0_cst : Ref sig .tc := ⟨.hbm, 22, rfl⟩
abbrev main_call0_v2 : Ref sig .tc := ⟨.hbm, 23, rfl⟩
abbrev main_call0_v3 : Ref sig .tc := ⟨.hbm, 24, rfl⟩
abbrev main_call0_cst_0 : Ref sig .tc := ⟨.hbm, 25, rfl⟩
abbrev main_call0_v4 : Ref sig .tc := ⟨.hbm, 26, rfl⟩
abbrev main_v12_2 : Ref sig .tc := ⟨.hbm, 27, rfl⟩
abbrev main_call0_cst_1 : Ref sig .tc := ⟨.hbm, 28, rfl⟩
abbrev main_call0_v6 : Ref sig .tc := ⟨.hbm, 29, rfl⟩
abbrev main_call0_v7 : Ref sig .tc := ⟨.hbm, 30, rfl⟩
abbrev main_v12_1 : Ref sig .tc := ⟨.hbm, 31, rfl⟩
abbrev main_v12_0 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_call1_v0 : Ref sig .tc := ⟨.hbm, 37, rfl⟩
abbrev main_call1_v1 : Ref sig .tc := ⟨.hbm, 38, rfl⟩
abbrev main_call1_v2 : Ref sig .tc := ⟨.hbm, 39, rfl⟩
abbrev main_v17 : Ref sig .tc := ⟨.hbm, 40, rfl⟩
abbrev main_v18 : Ref sig .tc := ⟨.hbm, 41, rfl⟩
abbrev main_v19 : Ref sig .tc := ⟨.hbm, 42, rfl⟩
abbrev main_v20 : Ref sig .tc := ⟨.hbm, 43, rfl⟩
abbrev main_v21 : Ref sig .tc := ⟨.hbm, 44, rfl⟩
abbrev main_v22 : Ref sig .tc := ⟨.hbm, 45, rfl⟩
abbrev main_v23 : Ref sig .tc := ⟨.hbm, 46, rfl⟩
abbrev main_v24 : Ref sig .tc := ⟨.hbm, 47, rfl⟩

abbrev nD : Nat := 1
abbrev τ : Topo := Topo.v7x

variable {F : FTy → Type} [FloatOps F]
-- ==== Kernel24.lean ====
abbrev S4224x1024 : Shape := ⟨2, ![4224, 1024]⟩
abbrev S1024x1024 : Shape := ⟨2, ![1024, 1024]⟩
abbrev S1408x1024 : Shape := ⟨2, ![1408, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4224x1024, .bf16⟩
  | .hbm, ⟨1, _⟩ => ⟨S4224x1024, .bf16⟩
  | .hbm, ⟨2, _⟩ => ⟨S1024x1024, .f32⟩
  | .local _ .vmem, ⟨0, _⟩ => ⟨S1408x1024, .bf16⟩
  | .local _ .vmem, ⟨1, _⟩ => ⟨S1408x1024, .bf16⟩
  | .local _ .vmem, ⟨2, _⟩ => ⟨S1408x1024, .bf16⟩
  | .local _ .vmem, ⟨3, _⟩ => ⟨S1408x1024, .bf16⟩
  | .local _ .vmem, ⟨4, _⟩ => ⟨S1024x1024, .f32⟩
  | .local _ .vmem, ⟨5, _⟩ => ⟨S1024x1024, .f32⟩
  | _, _ => ⟨S4224x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 3], ![false, false, false]⟩

def k0_cond2 (i : grid0.Coords) : BitVec 1 :=
  let arg2 : BitVec 32 := BitVec.ofNat 32 (i 2).val
  let c2_i32 : BitVec 32 := 2#32
  let v11 : BitVec 1 := Scalar.cmpi .eq arg2 c2_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  let v1 : BitVec 32 := Scalar.addi arg0 c0_i32_0
  let c0_i32_1 : BitVec 32 := 0#32
  ![v0.toNat, v1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  let v1 : BitVec 32 := Scalar.addi arg1 c0_i32_0
  let c0_i32_1 : BitVec 32 := 0#32
  ![v0.toNat, v1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1408x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1408x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== Reference24Ideal.lean ====
abbrev S4224x1024 : Shape := ⟨2, ![4224, 1024]⟩
abbrev S_ : Shape := ⟨0, ![]⟩
abbrev S1024x1024 : Shape := ⟨2, ![1024, 1024]⟩

abbrev nBuf : Space → Nat
  | .hbm => 9
  | .vmem => 0
  | .smem => 0
  | _ => 0

abbrev bufTy : (tb : Table) → Fin (tcTables nBuf tb) → BufTy
  | .hbm, ⟨0, _⟩ => ⟨S4224x1024, .bf16⟩
  | .hbm, ⟨1, _⟩ => ⟨S4224x1024, .bf16⟩
  | .hbm, ⟨2, _⟩ => ⟨S_, .f32⟩
  | .hbm, ⟨3, _⟩ => ⟨S1024x1024, .f32⟩
  | .hbm, ⟨4, _⟩ => ⟨S4224x1024, .f32⟩
  | .hbm, ⟨5, _⟩ => ⟨S4224x1024, .f32⟩
  | .hbm, ⟨6, _⟩ => ⟨S4224x1024, .f32⟩
  | .hbm, ⟨7, _⟩ => ⟨S1024x1024, .f32⟩
  | .hbm, ⟨8, _⟩ => ⟨S1024x1024, .f32⟩
  | _, _ => ⟨S4224x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel25.lean ====
abbrev S4224x6272 : Shape := ⟨2, ![4224, 6272]⟩
abbrev S4224x1024 : Shape := ⟨2, ![4224, 1024]⟩
abbrev S128x1024 : Shape := ⟨2, ![128, 1024]⟩
abbrev S1408x128 : Shape := ⟨2, ![1408, 128]⟩
abbrev S1408x1024 : Shape := ⟨2, ![1408, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4224x6272, .f32⟩
  | .hbm, ⟨1, _⟩ => ⟨S4224x1024, .f32⟩
  | .hbm, ⟨2, _⟩ => ⟨S128x1024, .f32⟩
  | .local _ .vmem, ⟨0, _⟩ => ⟨S1408x128, .f32⟩
  | .local _ .vmem, ⟨1, _⟩ => ⟨S1408x128, .f32⟩
  | .local _ .vmem, ⟨2, _⟩ => ⟨S1408x1024, .f32⟩
  | .local _ .vmem, ⟨3, _⟩ => ⟨S1408x1024, .f32⟩
  | .local _ .vmem, ⟨4, _⟩ => ⟨S128x1024, .f32⟩
  | .local _ .vmem, ⟨5, _⟩ => ⟨S128x1024, .f32⟩
  | _, _ => ⟨S4224x6272, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 3], ![false, false, false]⟩

def k0_cond2 (i : grid0.Coords) : BitVec 1 :=
  let arg2 : BitVec 32 := BitVec.ofNat 32 (i 2).val
  let c2_i32 : BitVec 32 := 2#32
  let v13 : BitVec 1 := Scalar.cmpi .eq arg2 c2_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c48_i32 : BitVec 32 := 48#32
  let v1 : BitVec 32 := Scalar.addi arg0 c48_i32
  let c0_i32_0 : BitVec 32 := 0#32
  ![v0.toNat, v1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  let v1 : BitVec 32 := Scalar.addi arg1 c0_i32_0
  let c0_i32_1 : BitVec 32 := 0#32
  ![v0.toNat, v1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1408x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1408x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S128x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== Reference25Ideal.lean ====
abbrev S4224x6272 : Shape := ⟨2, ![4224, 6272]⟩
abbrev S4224x1024 : Shape := ⟨2, ![4224, 1024]⟩
abbrev S4224x128 : Shape := ⟨2, ![4224, 128]⟩
abbrev S_ : Shape := ⟨0, ![]⟩
abbrev S128x1024 : Shape := ⟨2, ![128, 1024]⟩
abbrev S1024x128 : Shape := ⟨2, ![1024, 128]⟩

abbrev nBuf : Space → Nat
  | .hbm => 8
  | .vmem => 0
  | .smem => 0
  | _ => 0

abbrev bufTy : (tb : Table) → Fin (tcTables nBuf tb) → BufTy
  | .hbm, ⟨0, _⟩ => ⟨S4224x6272, .f32⟩
  | .hbm, ⟨1, _⟩ => ⟨S4224x1024, .f32⟩
  | .hbm, ⟨2, _⟩ => ⟨S4224x128, .f32⟩
  | .hbm, ⟨3, _⟩ => ⟨S_, .f32⟩
  | .hbm, ⟨4, _⟩ => ⟨S128x1024, .f32⟩
  | .hbm, ⟨5, _⟩ => ⟨S4224x1024, .f32⟩
  | .hbm, ⟨6, _⟩ => ⟨S1024x128, .f32⟩
  | .hbm, ⟨7, _⟩ => ⟨S128x1024, .f32⟩
  | _, _ => ⟨S4224x6272, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel26.lean ====
abbrev S4224x1024 : Shape := ⟨2, ![4224, 1024]⟩
abbrev S1024x1024 : Shape := ⟨2, ![1024, 1024]⟩
abbrev S1408x1024 : Shape := ⟨2, ![1408, 1024]⟩
abbrev S1024x512 : Shape := ⟨2, ![1024, 512]⟩
abbrev S1408x512 : Shape := ⟨2, ![1408, 512]⟩

abbrev nBuf : Space → Nat
  | .hbm => 3
  | .vmem => 6
  | .smem => 0
  | _ => 0

abbrev bufTy : (tb : Table) → Fin (tcTables nBuf tb) → BufTy
  | .hbm, ⟨0, _⟩ => ⟨S4224x1024, .bf16⟩
  | .hbm, ⟨1, _⟩ => ⟨S1024x1024, .bf16⟩
  | .hbm, ⟨2, _⟩ => ⟨S4224x1024, .f32⟩
  | .local _ .vmem, ⟨0, _⟩ => ⟨S1408x1024, .bf16⟩
  | .local _ .vmem, ⟨1, _⟩ => ⟨S1408x1024, .bf16⟩
  | .local _ .vmem, ⟨2, _⟩ => ⟨S1024x512, .bf16⟩
  | .local _ .vmem, ⟨3, _⟩ => ⟨S1024x512, .bf16⟩
  | .local _ .vmem, ⟨4, _⟩ => ⟨S1408x512, .f32⟩
  | .local _ .vmem, ⟨5, _⟩ => ⟨S1408x512, .f32⟩
  | _, _ => ⟨S4224x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![3, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  let v1 : BitVec 32 := Scalar.addi arg2 c0_i32_0
  let c0_i32_1 : BitVec 32 := 0#32
  ![v0.toNat, v1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  let v1 : BitVec 32 := Scalar.addi arg1 c0_i32_0
  let c0_i32_1 : BitVec 32 := 0#32
  ![v0.toNat, v1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1408x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1408x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference26Ideal.lean ====
abbrev S4224x1024 : Shape := ⟨2, ![4224, 1024]⟩
abbrev S1024x1024 : Shape := ⟨2, ![1024, 1024]⟩

abbrev nBuf : Space → Nat
  | .hbm => 5
  | .vmem => 0
  | .smem => 0
  | _ => 0

abbrev bufTy : (tb : Table) → Fin (tcTables nBuf tb) → BufTy
  | .hbm, ⟨0, _⟩ => ⟨S4224x1024, .bf16⟩
  | .hbm, ⟨1, _⟩ => ⟨S1024x1024, .bf16⟩
  | .hbm, ⟨2, _⟩ => ⟨S4224x1024, .f32⟩
  | .hbm, ⟨3, _⟩ => ⟨S1024x1024, .f32⟩
  | .hbm, ⟨4, _⟩ => ⟨S4224x1024, .f32⟩
  | _, _ => ⟨S4224x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Kernel27.lean ====
abbrev S4224x1024 : Shape := ⟨2, ![4224, 1024]⟩
abbrev S1024x1024 : Shape := ⟨2, ![1024, 1024]⟩
abbrev S4224x8192 : Shape := ⟨2, ![4224, 8192]⟩
abbrev S1408x1024 : Shape := ⟨2, ![1408, 1024]⟩
abbrev S1024x512 : Shape := ⟨2, ![1024, 512]⟩
abbrev S1408x512 : Shape := ⟨2, ![1408, 512]⟩

abbrev nBuf : Space → Nat
  | .hbm => 4
  | .vmem => 10
  | .smem => 0
  | _ => 0

abbrev bufTy : (tb : Table) → Fin (tcTables nBuf tb) → BufTy
  | .hbm, ⟨0, _⟩ => ⟨S4224x1024, .bf16⟩
  | .hbm, ⟨1, _⟩ => ⟨S1024x1024, .bf16⟩
  | .hbm, ⟨2, _⟩ => ⟨S4224x8192, .f32⟩
  | .hbm, ⟨3, _⟩ => ⟨S4224x1024, .bf16⟩
  | .local _ .vmem, ⟨0, _⟩ => ⟨S1408x1024, .bf16⟩
  | .local _ .vmem, ⟨1, _⟩ => ⟨S1408x1024, .bf16⟩
  | .local _ .vmem, ⟨2, _⟩ => ⟨S1024x512, .bf16⟩
  | .local _ .vmem, ⟨3, _⟩ => ⟨S1024x512, .bf16⟩
  | .local _ .vmem, ⟨4, _⟩ => ⟨S1408x512, .bf16⟩
  | .local _ .vmem, ⟨5, _⟩ => ⟨S1408x512, .bf16⟩
  | .local _ .vmem, ⟨6, _⟩ => ⟨S1408x512, .f32⟩
  | .local _ .vmem, ⟨7, _⟩ => ⟨S1408x512, .f32⟩
  | .local _ .vmem, ⟨8, _⟩ => ⟨S1408x512, .bf16⟩
  | .local _ .vmem, ⟨9, _⟩ => ⟨S1408x512, .bf16⟩
  | _, _ => ⟨S4224x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨3, ![3, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  let v1 : BitVec 32 := Scalar.addi arg2 c0_i32_0
  let c0_i32_1 : BitVec 32 := 0#32
  ![v0.toNat, v1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  let v1 : BitVec 32 := Scalar.addi arg1 c0_i32_0
  let c0_i32_1 : BitVec 32 := 0#32
  ![v0.toNat, v1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c14_i32 : BitVec 32 := 14#32
  let v0 : BitVec 32 := Scalar.addi c14_i32 arg1
  let c0_i32 : BitVec 32 := 0#32
  ![arg0.toNat, v0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1408x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1408x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1408x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S1408x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]
-- ==== Reference27Ideal.lean ====
abbrev S4224x1024 : Shape := ⟨2, ![4224, 1024]⟩
abbrev S1024x1024 : Shape := ⟨2, ![1024, 1024]⟩
abbrev S4224x8192 : Shape := ⟨2, ![4224, 8192]⟩
abbrev S_ : Shape := ⟨0, ![]⟩

abbrev nBuf : Space → Nat
  | .hbm => 28
  | .vmem => 0
  | .smem => 0
  | _ => 0

abbrev bufTy : (tb : Table) → Fin (tcTables nBuf tb) → BufTy
  | .hbm, ⟨0, _⟩ => ⟨S4224x1024, .bf16⟩
  | .hbm, ⟨1, _⟩ => ⟨S1024x1024, .bf16⟩
  | .hbm, ⟨2, _⟩ => ⟨S4224x8192, .f32⟩
  | .hbm, ⟨3, _⟩ => ⟨S4224x1024, .f32⟩
  | .hbm, ⟨4, _⟩ => ⟨S1024x1024, .f32⟩
  | .hbm, ⟨5, _⟩ => ⟨S4224x1024, .f32⟩
  | .hbm, ⟨6, _⟩ => ⟨S4224x1024, .f32⟩
  | .hbm, ⟨7, _⟩ => ⟨S4224x1024, .f32⟩
  | .hbm, ⟨8, _⟩ => ⟨S4224x1024, .f32⟩
  | .hbm, ⟨9, _⟩ => ⟨S4224x1024, .f32⟩
  | .hbm, ⟨10, _⟩ => ⟨S_, .f32⟩
  | .hbm, ⟨11, _⟩ => ⟨S4224x1024, .f32⟩
  | .hbm, ⟨12, _⟩ => ⟨S4224x1024, .f32⟩
  | .hbm, ⟨13, _⟩ => ⟨S_, .f32⟩
  | .hbm, ⟨14, _⟩ => ⟨S4224x1024, .f32⟩
  | .hbm, ⟨15, _⟩ => ⟨S4224x1024, .f32⟩
  | .hbm, ⟨16, _⟩ => ⟨S4224x1024, .f32⟩
  | .hbm, ⟨17, _⟩ => ⟨S4224x1024, .f32⟩
  | .hbm, ⟨18, _⟩ => ⟨S4224x1024, .f32⟩
  | .hbm, ⟨19, _⟩ => ⟨S_, .f32⟩
  | .hbm, ⟨20, _⟩ => ⟨S4224x1024, .f32⟩
  | .hbm, ⟨21, _⟩ => ⟨S4224x1024, .f32⟩
  | .hbm, ⟨22, _⟩ => ⟨S_, .f32⟩
  | .hbm, ⟨23, _⟩ => ⟨S4224x1024, .f32⟩
  | .hbm, ⟨24, _⟩ => ⟨S4224x1024, .f32⟩
  | .hbm, ⟨25, _⟩ => ⟨S4224x1024, .f32⟩
  | .hbm, ⟨26, _⟩ => ⟨S4224x1024, .f32⟩
  | .hbm, ⟨27, _⟩ => ⟨S4224x1024, .bf16⟩
  | _, _ => ⟨S4224x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_cst : Ref sig .tc := ⟨.hbm, 10, rfl⟩
abbrev main_v7 : Ref sig .tc := ⟨.hbm, 11, rfl⟩
abbrev main_v8 : Ref sig .tc := ⟨.hbm, 12, rfl⟩
abbrev main_cst_0 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_call0_v0 : Ref sig .tc := ⟨.hbm, 17, rfl⟩
abbrev main_call0_v1 : Ref sig .tc := ⟨.hbm, 18, rfl⟩
abbrev main_call0_cst : Ref sig .tc := ⟨.hbm, 19, rfl⟩
abbrev main_call0_v2 : Ref sig .tc := ⟨.hbm, 20, rfl⟩
abbrev main_call0_v3 : Ref sig .tc := ⟨.hbm, 21, rfl⟩
abbrev main_call0_cst_0 : Ref sig .tc := ⟨.hbm, 22, rfl⟩
abbrev main_call0_v4 : Ref sig .tc := ⟨.hbm, 23, rfl⟩
abbrev main_call0_v5 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩

abbrev nD : Nat := 1
abbrev τ : Topo := Topo.v7x

variable {F : FTy → Type} [FloatOps F]
-- ==== Kernel28.lean ====
abbrev S4224x1024 : Shape := ⟨2, ![4224, 1024]⟩
abbrev S128x1024 : Shape := ⟨2, ![128, 1024]⟩
abbrev S4224x128 : Shape := ⟨2, ![4224, 128]⟩
abbrev S1408x1024 : Shape := ⟨2, ![1408, 1024]⟩
abbrev S1408x128 : Shape := ⟨2, ![1408, 128]⟩

abbrev nBuf : Space → Nat
  | .hbm => 3
  | .vmem => 5
  | .smem => 0
  | _ => 0

abbrev bufTy : (tb : Table) → Fin (tcTables nBuf tb) → BufTy
  | .hbm, ⟨0, _⟩ => ⟨S4224x1024, .f32⟩
  | .hbm, ⟨1, _⟩ => ⟨S128x1024, .f32⟩
  | .hbm, ⟨2, _⟩ => ⟨S4224x128, .bf16⟩
  | .local _ .vmem, ⟨0, _⟩ => ⟨S1408x1024, .f32⟩
  | .local _ .vmem, ⟨1, _⟩ => ⟨S1408x1024, .f32⟩
  | .local _ .vmem, ⟨2, _⟩ => ⟨S128x1024, .f32⟩
  | .local _ .vmem, ⟨3, _⟩ => ⟨S1408x128, .bf16⟩
  | .local _ .vmem, ⟨4, _⟩ => ⟨S1408x128, .bf16⟩
  | _, _ => ⟨S4224x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![3, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  let v1 : BitVec 32 := Scalar.addi arg2 c0_i32_0
  let c0_i32_1 : BitVec 32 := 0#32
  ![v0.toNat, v1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  let v1 : BitVec 32 := Scalar.addi arg2 c0_i32_0
  let c0_i32_1 : BitVec 32 := 0#32
  ![v0.toNat, v1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1408x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S128x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1408x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference28Ideal.lean ====
abbrev S4224x1024 : Shape := ⟨2, ![4224, 1024]⟩
abbrev S128x1024 : Shape := ⟨2, ![128, 1024]⟩
abbrev S_ : Shape := ⟨0, ![]⟩
abbrev S4224x128 : Shape := ⟨2, ![4224, 128]⟩

abbrev nBuf : Space → Nat
  | .hbm => 7
  | .vmem => 0
  | .smem => 0
  | _ => 0

abbrev bufTy : (tb : Table) → Fin (tcTables nBuf tb) → BufTy
  | .hbm, ⟨0, _⟩ => ⟨S4224x1024, .f32⟩
  | .hbm, ⟨1, _⟩ => ⟨S128x1024, .f32⟩
  | .hbm, ⟨2, _⟩ => ⟨S_, .f32⟩
  | .hbm, ⟨3, _⟩ => ⟨S4224x128, .f32⟩
  | .hbm, ⟨4, _⟩ => ⟨S4224x1024, .f32⟩
  | .hbm, ⟨5, _⟩ => ⟨S4224x128, .f32⟩
  | .hbm, ⟨6, _⟩ => ⟨S4224x128, .bf16⟩
  | _, _ => ⟨S4224x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel29.lean ====
abbrev S4224x2048 : Shape := ⟨2, ![4224, 2048]⟩
abbrev S1x2048 : Shape := ⟨2, ![1, 2048]⟩
abbrev S384x2048 : Shape := ⟨2, ![384, 2048]⟩
abbrev S384 : Shape := ⟨1, ![384]⟩
abbrev S384x1 : Shape := ⟨2, ![384, 1]⟩

abbrev nBuf : Space → Nat
  | .hbm => 3
  | .vmem => 5
  | .smem => 0
  | _ => 0

abbrev bufTy : (tb : Table) → Fin (tcTables nBuf tb) → BufTy
  | .hbm, ⟨0, _⟩ => ⟨S4224x2048, .f32⟩
  | .hbm, ⟨1, _⟩ => ⟨S1x2048, .f32⟩
  | .hbm, ⟨2, _⟩ => ⟨S4224x2048, .bf16⟩
  | .local _ .vmem, ⟨0, _⟩ => ⟨S384x2048, .f32⟩
  | .local _ .vmem, ⟨1, _⟩ => ⟨S384x2048, .f32⟩
  | .local _ .vmem, ⟨2, _⟩ => ⟨S1x2048, .f32⟩
  | .local _ .vmem, ⟨3, _⟩ => ⟨S384x2048, .bf16⟩
  | .local _ .vmem, ⟨4, _⟩ => ⟨S384x2048, .bf16⟩
  | _, _ => ⟨S4224x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![11], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S384x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S384x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference29Ideal.lean ====
abbrev S4224x2048 : Shape := ⟨2, ![4224, 2048]⟩
abbrev S1x2048 : Shape := ⟨2, ![1, 2048]⟩
abbrev S_ : Shape := ⟨0, ![]⟩
abbrev S4224 : Shape := ⟨1, ![4224]⟩
abbrev S4224x1 : Shape := ⟨2, ![4224, 1]⟩

abbrev nBuf : Space → Nat
  | .hbm => 18
  | .vmem => 0
  | .smem => 0
  | _ => 0

abbrev bufTy : (tb : Table) → Fin (tcTables nBuf tb) → BufTy
  | .hbm, ⟨0, _⟩ => ⟨S4224x2048, .f32⟩
  | .hbm, ⟨1, _⟩ => ⟨S1x2048, .f32⟩
  | .hbm, ⟨2, _⟩ => ⟨S4224x2048, .f32⟩
  | .hbm, ⟨3, _⟩ => ⟨S_, .f32⟩
  | .hbm, ⟨4, _⟩ => ⟨S4224, .f32⟩
  | .hbm, ⟨5, _⟩ => ⟨S4224x1, .f32⟩
  | .hbm, ⟨6, _⟩ => ⟨S_, .f32⟩
  | .hbm, ⟨7, _⟩ => ⟨S4224x1, .f32⟩
  | .hbm, ⟨8, _⟩ => ⟨S4224x1, .f32⟩
  | .hbm, ⟨9, _⟩ => ⟨S_, .f32⟩
  | .hbm, ⟨10, _⟩ => ⟨S4224x1, .f32⟩
  | .hbm, ⟨11, _⟩ => ⟨S4224x1, .f32⟩
  | .hbm, ⟨12, _⟩ => ⟨S4224x1, .f32⟩
  | .hbm, ⟨13, _⟩ => ⟨S4224x2048, .f32⟩
  | .hbm, ⟨14, _⟩ => ⟨S4224x2048, .f32⟩
  | .hbm, ⟨15, _⟩ => ⟨S4224x2048, .f32⟩
  | .hbm, ⟨16, _⟩ => ⟨S4224x2048, .f32⟩
  | .hbm, ⟨17, _⟩ => ⟨S4224x2048, .bf16⟩
  | _, _ => ⟨S4224x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩

abbrev nD : Nat := 1
abbrev τ : Topo := Topo.v7x

variable {F : FTy → Type} [FloatOps F]
-- ==== Kernel30.lean ====
abbrev S4224x8192 : Shape := ⟨2, ![4224, 8192]⟩
abbrev S4224x128 : Shape := ⟨2, ![4224, 128]⟩
abbrev S8x128x128 : Shape := ⟨3, ![8, 128, 128]⟩
abbrev S8x1x256 : Shape := ⟨3, ![8, 1, 256]⟩
abbrev S1x2048 : Shape := ⟨2, ![1, 2048]⟩
abbrev S4224x2048 : Shape := ⟨2, ![4224, 2048]⟩
abbrev S4224x3072 : Shape := ⟨2, ![4224, 3072]⟩
abbrev S8x33x128x256 : Shape := ⟨4, ![8, 33, 128, 256]⟩
abbrev S128x1024 : Shape := ⟨2, ![128, 1024]⟩
abbrev S128x2048 : Shape := ⟨2, ![128, 2048]⟩
abbrev S128x128 : Shape := ⟨2, ![128, 128]⟩
abbrev S8x1x128x256 : Shape := ⟨4, ![8, 1, 128, 256]⟩
abbrev S128x6144 : Shape := ⟨2, ![128, 6144]⟩
abbrev S8x128x256 : Shape := ⟨3, ![8, 128, 256]⟩
abbrev S128x256 : Shape := ⟨2, ![128, 256]⟩
abbrev S1x256 : Shape := ⟨2, ![1, 256]⟩
abbrev S128 : Shape := ⟨1, ![128]⟩
abbrev S128x1 : Shape := ⟨2, ![128, 1]⟩
abbrev S256 : Shape := ⟨1, ![256]⟩
abbrev S1x1x256 : Shape := ⟨3, ![1, 1, 256]⟩
abbrev S1x128x128 : Shape := ⟨3, ![1, 128, 128]⟩
abbrev S1x1x128x256 : Shape := ⟨4, ![1, 1, 128, 256]⟩
abbrev S1x128x256 : Shape := ⟨3, ![1, 128, 256]⟩

abbrev nBuf : Space → Nat
  | .hbm => 13
  | .vmem => 27
  | .smem => 0
  | _ => 0

abbrev bufTy : (tb : Table) → Fin (tcTables nBuf tb) → BufTy
  | .hbm, ⟨0, _⟩ => ⟨S4224x8192, .f32⟩
  | .hbm, ⟨1, _⟩ => ⟨S4224x128, .f32⟩
  | .hbm, ⟨2, _⟩ => ⟨S4224x128, .f32⟩
  | .hbm, ⟨3, _⟩ => ⟨S8x128x128, .f32⟩
  | .hbm, ⟨4, _⟩ => ⟨S8x128x128, .f32⟩
  | .hbm, ⟨5, _⟩ => ⟨S8x128x128, .f32⟩
  | .hbm, ⟨6, _⟩ => ⟨S8x1x256, .f32⟩
  | .hbm, ⟨7, _⟩ => ⟨S1x2048, .f32⟩
  | .hbm, ⟨8, _⟩ => ⟨S4224x2048, .f32⟩
  | .hbm, ⟨9, _⟩ => ⟨S4224x3072, .f32⟩
  | .hbm, ⟨10, _⟩ => ⟨S8x33x128x256, .bf16⟩
  | .hbm, ⟨11, _⟩ => ⟨S4224x8192, .bf16⟩
  | .hbm, ⟨12, _⟩ => ⟨S8x1x256, .f32⟩
  | .local _ .vmem, ⟨0, _⟩ => ⟨S128x1024, .f32⟩
  | .local _ .vmem, ⟨1, _⟩ => ⟨S128x1024, .f32⟩
  | .local _ .vmem, ⟨2, _⟩ => ⟨S128x1024, .f32⟩
  | .local _ .vmem, ⟨3, _⟩ => ⟨S128x1024, .f32⟩
  | .local _ .vmem, ⟨4, _⟩ => ⟨S128x2048, .f32⟩
  | .local _ .vmem, ⟨5, _⟩ => ⟨S128x2048, .f32⟩
  | .local _ .vmem, ⟨6, _⟩ => ⟨S128x2048, .f32⟩
  | .local _ .vmem, ⟨7, _⟩ => ⟨S128x2048, .f32⟩
  | .local _ .vmem, ⟨8, _⟩ => ⟨S128x128, .f32⟩
  | .local _ .vmem, ⟨9, _⟩ => ⟨S128x128, .f32⟩
  | .local _ .vmem, ⟨10, _⟩ => ⟨S128x128, .f32⟩
  | .local _ .vmem, ⟨11, _⟩ => ⟨S128x128, .f32⟩
  | .local _ .vmem, ⟨12, _⟩ => ⟨S8x128x128, .f32⟩
  | .local _ .vmem, ⟨13, _⟩ => ⟨S8x128x128, .f32⟩
  | .local _ .vmem, ⟨14, _⟩ => ⟨S8x128x128, .f32⟩
  | .local _ .vmem, ⟨15, _⟩ => ⟨S8x1x256, .f32⟩
  | .local _ .vmem, ⟨16, _⟩ => ⟨S1x2048, .f32⟩
  | .local _ .vmem, ⟨17, _⟩ => ⟨S128x2048, .f32⟩
  | .local _ .vmem, ⟨18, _⟩ => ⟨S128x2048, .f32⟩
  | .local _ .vmem, ⟨19, _⟩ => ⟨S128x2048, .f32⟩
  | .local _ .vmem, ⟨20, _⟩ => ⟨S128x2048, .f32⟩
  | .local _ .vmem, ⟨21, _⟩ => ⟨S8x1x128x256, .bf16⟩
  | .local _ .vmem, ⟨22, _⟩ => ⟨S8x1x128x256, .bf16⟩
  | .local _ .vmem, ⟨23, _⟩ => ⟨S128x6144, .bf16⟩
  | .local _ .vmem, ⟨24, _⟩ => ⟨S128x6144, .bf16⟩
  | .local _ .vmem, ⟨25, _⟩ => ⟨S8x1x256, .f32⟩
  | .local _ .vmem, ⟨26, _⟩ => ⟨S8x128x256, .f32⟩
  | _, _ => ⟨S4224x8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0_0 : Ref sig .tc := ⟨.hbm, 11, rfl⟩
abbrev main_v0_1 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg10_0 : Ref sig .tc := ⟨.vmem, 16, rfl⟩
abbrev cc0_stg11_0 : Ref sig .tc := ⟨.vmem, 17, rfl⟩
abbrev cc0_stg11_1 : Ref sig .tc := ⟨.vmem, 18, rfl⟩
abbrev cc0_stg12_0 : Ref sig .tc := ⟨.vmem, 19, rfl⟩
abbrev cc0_stg12_1 : Ref sig .tc := ⟨.vmem, 20, rfl⟩
abbrev cc0_stg13_0 : Ref sig .tc := ⟨.vmem, 21, rfl⟩
abbrev cc0_stg13_1 : Ref sig .tc := ⟨.vmem, 22, rfl⟩
abbrev cc0_stg14_0 : Ref sig .tc := ⟨.vmem, 23, rfl⟩
abbrev cc0_stg14_1 : Ref sig .tc := ⟨.vmem, 24, rfl⟩
abbrev cc0_stg15_0 : Ref sig .tc := ⟨.vmem, 25, rfl⟩
abbrev cc0_scratch0 : Ref sig .tc := ⟨.vmem, 26, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem9_0 : DmaSem sig := 15
abbrev cc0_sem10_0 : DmaSem sig := 16
abbrev cc0_sem11_0 : DmaSem sig := 17
abbrev cc0_sem11_1 : DmaSem sig := 18
abbrev cc0_sem12_0 : DmaSem sig := 19
abbrev cc0_sem12_1 : DmaSem sig := 20
abbrev cc0_sem13_0 : DmaSem sig := 21
abbrev cc0_sem13_1 : DmaSem sig := 22
abbrev cc0_sem14_0 : DmaSem sig := 23
abbrev cc0_sem14_1 : DmaSem sig := 24
abbrev cc0_sem15_0 : DmaSem sig := 25

abbrev nD : Nat := 1
abbrev τ : Topo := Topo.v7x

variable {F : FTy → Type} [FloatOps F]

abbrev grid0 : Pipeline.Grid := ⟨2, ![1, 33], ![false, false]⟩

def cc0_transform_0 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.subi c32_i32 arg1
  let c0_i32 : BitVec 32 := 0#32
  ![v0.toNat, arg0.toNat]

def cc0_transform_1 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.subi c32_i32 arg1
  let c1_i32 : BitVec 32 := 1#32
  let v1 : BitVec 32 := Scalar.addi c1_i32 arg0
  let c0_i32 : BitVec 32 := 0#32
  ![v0.toNat, v1.toNat]

def cc0_transform_2 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.subi c32_i32 arg1
  let c1_i32 : BitVec 32 := 1#32
  let v1 : BitVec 32 := Scalar.addi c1_i32 arg0
  let c0_i32 : BitVec 32 := 0#32
  ![v0.toNat, v1.toNat]

def cc0_transform_3 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.subi c32_i32 arg1
  let c2_i32 : BitVec 32 := 2#32
  let v1 : BitVec 32 := Scalar.addi c2_i32 arg0
  let c0_i32 : BitVec 32 := 0#32
  ![v0.toNat, v1.toNat]

def cc0_transform_4 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.subi c32_i32 arg1
  let c0_i32 : BitVec 32 := 0#32
  let c0_i32_0 : BitVec 32 := 0#32
  ![v0.toNat, c0_i32.toNat]

def cc0_transform_5 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.subi c32_i32 arg1
  let c0_i32 : BitVec 32 := 0#32
  let c0_i32_0 : BitVec 32 := 0#32
  ![v0.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_11 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.subi c32_i32 arg1
  let c0_i32 : BitVec 32 := 0#32
  ![v0.toNat, arg0.toNat]

def cc0_transform_12 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.subi c32_i32 arg1
  let c0_i32 : BitVec 32 := 0#32
  ![v0.toNat, arg0.toNat]

def cc0_transform_13 (i : grid0.Coords) : Fin 4 → Nat :=
  let arg0 : BitVec 32 := BitVec.ofNat 32 (i 0).val
  let arg1 : BitVec 32 := BitVec.ofNat 32 (i 1).val
  let c32_i32 : BitVec 32 := 32#32
  let v0 : BitVec 32 := Scalar.subi c32_i32 arg1
  let c0_i32 : BitVec 32 := 0#32
  let c0_i32_0 : BitVec 32 := 0#32
  let c0_i32_1 : BitVec 32 := 0#32
  ![arg0.toNat, v0.toNat, c0_i32.toNat, c0_i32_0.toNat]

def cc0_transform_14 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.subi c32_i32 arg1
  let c0_i32 : BitVec 32 := 0#32
  let c0_i32_0 : BitVec 32 := 0#32
  ![v0.toNat, c0_i32.toNat]

def cc0_transform_15 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S128x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S128x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S128x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S128x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S128x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S128x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 1 → Memref sig .tc .vmem S8x128x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true, false]

abbrev stage0_7 : Fin 1 → Memref sig .tc .vmem S8x128x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true, false]

abbrev stage0_8 : Fin 1 → Memref sig .tc .vmem S8x128x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![true, false]

abbrev stage0_9 : Fin 1 → Memref sig .tc .vmem S8x1x256 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![true, false]

abbrev stage0_10 : Fin 1 → Memref sig .tc .vmem S1x2048 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![true, false]

abbrev stage0_11 : Fin 2 → Memref sig .tc .vmem S128x2048 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S128x2048 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S8x1x128x256 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]

abbrev stage0_14 : Fin 2 → Memref sig .tc .vmem S128x6144 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![false, true]

abbrev stage0_15 : Fin 1 → Memref sig .tc .vmem S8x1x256 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![true, false]
-- ==== Reference30Ideal.lean ====
abbrev S4224x8192 : Shape := ⟨2, ![4224, 8192]⟩
abbrev S4224x128 : Shape := ⟨2, ![4224, 128]⟩
abbrev S8x128x128 : Shape := ⟨3, ![8, 128, 128]⟩
abbrev S8x1x256 : Shape := ⟨3, ![8, 1, 256]⟩
abbrev S1x2048 : Shape := ⟨2, ![1, 2048]⟩
abbrev S4224x2048 : Shape := ⟨2, ![4224, 2048]⟩
abbrev S4224x3072 : Shape := ⟨2, ![4224, 3072]⟩
abbrev S8x33x128x256 : Shape := ⟨4, ![8, 33, 128, 256]⟩
abbrev S4224x8x256 : Shape := ⟨3, ![4224, 8, 256]⟩
abbrev S_ : Shape := ⟨0, ![]⟩
abbrev S4224x8 : Shape := ⟨2, ![4224, 8]⟩
abbrev S4224x8x1 : Shape := ⟨3, ![4224, 8, 1]⟩
abbrev S2048 : Shape := ⟨1, ![2048]⟩

abbrev nBuf : Space → Nat
  | .hbm => 46
  | .vmem => 0
  | .smem => 0
  | _ => 0

abbrev bufTy : (tb : Table) → Fin (tcTables nBuf tb) → BufTy
  | .hbm, ⟨0, _⟩ => ⟨S4224x8192, .f32⟩
  | .hbm, ⟨1, _⟩ => ⟨S4224x128, .f32⟩
  | .hbm, ⟨2, _⟩ => ⟨S4224x128, .f32⟩
  | .hbm, ⟨3, _⟩ => ⟨S8x128x128, .f32⟩
  | .hbm, ⟨4, _⟩ => ⟨S8x128x128, .f32⟩
  | .hbm, ⟨5, _⟩ => ⟨S8x128x128, .f32⟩
  | .hbm, ⟨6, _⟩ => ⟨S8x1x256, .f32⟩
  | .hbm, ⟨7, _⟩ => ⟨S1x2048, .f32⟩
  | .hbm, ⟨8, _⟩ => ⟨S4224x2048, .f32⟩
  | .hbm, ⟨9, _⟩ => ⟨S4224x3072, .f32⟩
  | .hbm, ⟨10, _⟩ => ⟨S8x33x128x256, .bf16⟩
  | .hbm, ⟨11, _⟩ => ⟨S4224x2048, .f32⟩
  | .hbm, ⟨12, _⟩ => ⟨S4224x8x256, .f32⟩
  | .hbm, ⟨13, _⟩ => ⟨S4224x8x256, .f32⟩
  | .hbm, ⟨14, _⟩ => ⟨S_, .f32⟩
  | .hbm, ⟨15, _⟩ => ⟨S4224x8, .f32⟩
  | .hbm, ⟨16, _⟩ => ⟨S4224x8x1, .f32⟩
  | .hbm, ⟨17, _⟩ => ⟨S_, .f32⟩
  | .hbm, ⟨18, _⟩ => ⟨S4224x8x1, .f32⟩
  | .hbm, ⟨19, _⟩ => ⟨S4224x8x1, .f32⟩
  | .hbm, ⟨20, _⟩ => ⟨S_, .f32⟩
  | .hbm, ⟨21, _⟩ => ⟨S4224x8x1, .f32⟩
  | .hbm, ⟨22, _⟩ => ⟨S4224x8x1, .f32⟩
  | .hbm, ⟨23, _⟩ => ⟨S4224x8x1, .f32⟩
  | .hbm, ⟨24, _⟩ => ⟨S4224x8x256, .f32⟩
  | .hbm, ⟨25, _⟩ => ⟨S4224x8x256, .f32⟩
  | .hbm, ⟨26, _⟩ => ⟨S4224x2048, .f32⟩
  | .hbm, ⟨27, _⟩ => ⟨S4224x2048, .f32⟩
  | .hbm, ⟨28, _⟩ => ⟨S4224x2048, .f32⟩
  | .hbm, ⟨29, _⟩ => ⟨S4224x2048, .f32⟩
  | .hbm, ⟨30, _⟩ => ⟨S4224x2048, .f32⟩
  | .hbm, ⟨31, _⟩ => ⟨S_, .f32⟩
  | .hbm, ⟨32, _⟩ => ⟨S4224x2048, .f32⟩
  | .hbm, ⟨33, _⟩ => ⟨S4224x2048, .f32⟩
  | .hbm, ⟨34, _⟩ => ⟨S_, .f32⟩
  | .hbm, ⟨35, _⟩ => ⟨S4224x2048, .f32⟩
  | .hbm, ⟨36, _⟩ => ⟨S4224x2048, .f32⟩
  | .hbm, ⟨37, _⟩ => ⟨S4224x2048, .f32⟩
  | .hbm, ⟨38, _⟩ => ⟨S4224x2048, .f32⟩
  | .hbm, ⟨39, _⟩ => ⟨S4224x2048, .f32⟩
  | .hbm, ⟨40, _⟩ => ⟨S4224x2048, .f32⟩
  | .hbm, ⟨41, _⟩ => ⟨S4224x2048, .f32⟩
  | .hbm, ⟨42, _⟩ => ⟨S_, .f32⟩
  | .hbm, ⟨43, _⟩ => ⟨S2048, .f32⟩
  | .hbm, ⟨44, _⟩ => ⟨S1x2048, .f32⟩
  | .hbm, ⟨45, _⟩ => ⟨S8x1x256, .f32⟩
  | _, _ => ⟨S4224x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_cst : Ref sig .tc := ⟨.hbm, 14, rfl⟩
abbrev main_v3 : Ref sig .tc := ⟨.hbm, 15, rfl⟩
abbrev main_v4 : Ref sig .tc := ⟨.hbm, 16, rfl⟩
abbrev main_cst_0 : Ref sig .tc := ⟨.hbm, 17, rfl⟩
abbrev main_v5 : Ref sig .tc := ⟨.hbm, 18, rfl⟩
abbrev main_v6 : Ref sig .tc := ⟨.hbm, 19, rfl⟩
abbrev main_cst_1 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_call0_v0 : Ref sig .tc := ⟨.hbm, 29, rfl⟩
abbrev main_call0_v1 : Ref sig .tc := ⟨.hbm, 30, rfl⟩
abbrev main_call0_cst : Ref sig .tc := ⟨.hbm, 31, rfl⟩
abbrev main_call0_v2 : Ref sig .tc := ⟨.hbm, 32, rfl⟩
abbrev main_call0_v3 : Ref sig .tc := ⟨.hbm, 33, rfl⟩
abbrev main_call0_cst_0 : Ref sig .tc := ⟨.hbm, 34, rfl⟩
abbrev main_call0_v4 : Ref sig .tc := ⟨.hbm, 35, rfl⟩
abbrev main_call0_v5 : Ref sig .tc := ⟨.hbm, 36, rfl⟩
abbrev main_v15 : Ref sig .tc := ⟨.hbm, 37, rfl⟩
abbrev main_v16 : Ref sig .tc := ⟨.hbm, 38, rfl⟩
abbrev main_v17 : Ref sig .tc := ⟨.hbm, 39, rfl⟩
abbrev main_v18 : Ref sig .tc := ⟨.hbm, 40, rfl⟩
abbrev main_v19 : Ref sig .tc := ⟨.hbm, 41, rfl⟩
abbrev main_cst_2 : Ref sig .tc := ⟨.hbm, 42, rfl⟩
abbrev main_v20 : Ref sig .tc := ⟨.hbm, 43, rfl⟩
abbrev main_v21 : Ref sig .tc := ⟨.hbm, 44, rfl⟩
abbrev main_v22 : Ref sig .tc := ⟨.hbm, 45, rfl⟩

abbrev nD : Nat := 1
abbrev τ : Topo := Topo.v7x

variable {F : FTy → Type} [FloatOps F]
-- ==== Kernel31.lean ====
abbrev S4224x6272 : Shape := ⟨2, ![4224, 6272]⟩
abbrev S128x1024 : Shape := ⟨2, ![128, 1024]⟩
abbrev S1x1024 : Shape := ⟨2, ![1, 1024]⟩
abbrev S1x2048 : Shape := ⟨2, ![1, 2048]⟩
abbrev S4224x2048 : Shape := ⟨2, ![4224, 2048]⟩
abbrev S4x33x512x256 : Shape := ⟨4, ![4, 33, 512, 256]⟩
abbrev S4224x1024 : Shape := ⟨2, ![4224, 1024]⟩
abbrev S4x1x512 : Shape := ⟨3, ![4, 1, 512]⟩
abbrev S4x1x256 : Shape := ⟨3, ![4, 1, 256]⟩
abbrev S128x256 : Shape := ⟨2, ![128, 256]⟩
abbrev S128x512 : Shape := ⟨2, ![128, 512]⟩
abbrev S128x128 : Shape := ⟨2, ![128, 128]⟩
abbrev S1x256 : Shape := ⟨2, ![1, 256]⟩
abbrev S1x512 : Shape := ⟨2, ![1, 512]⟩
abbrev S1x1x512x256 : Shape := ⟨4, ![1, 1, 512, 256]⟩
abbrev S1x1x512 : Shape := ⟨3, ![1, 1, 512]⟩
abbrev S1x1x256 : Shape := ⟨3, ![1, 1, 256]⟩
abbrev S512x256 : Shape := ⟨2, ![512, 256]⟩
abbrev S128 : Shape := ⟨1, ![128]⟩
abbrev S128x1 : Shape := ⟨2, ![128, 1]⟩
abbrev S512 : Shape := ⟨1, ![512]⟩
abbrev S256 : Shape := ⟨1, ![256]⟩
abbrev S16x1 : Shape := ⟨2, ![16, 1]⟩
abbrev S16x128 : Shape := ⟨2, ![16, 128]⟩
abbrev S16x256 : Shape := ⟨2, ![16, 256]⟩
abbrev S16 : Shape := ⟨1, ![16]⟩

abbrev nBuf : Space → Nat
  | .hbm => 14
  | .vmem => 43
  | .smem => 0
  | _ => 0

abbrev bufTy : (tb : Table) → Fin (tcTables nBuf tb) → BufTy
  | .hbm, ⟨0, _⟩ => ⟨S4224x6272, .f32⟩
  | .hbm, ⟨1, _⟩ => ⟨S128x1024, .f32⟩
  | .hbm, ⟨2, _⟩ => ⟨S1x1024, .f32⟩
  | .hbm, ⟨3, _⟩ => ⟨S1x2048, .f32⟩
  | .hbm, ⟨4, _⟩ => ⟨S4224x2048, .f32⟩
  | .hbm, ⟨5, _⟩ => ⟨S4224x2048, .f32⟩
  | .hbm, ⟨6, _⟩ => ⟨S4x33x512x256, .f32⟩
  | .hbm, ⟨7, _⟩ => ⟨S4224x1024, .bf16⟩
  | .hbm, ⟨8, _⟩ => ⟨S4224x1024, .bf16⟩
  | .hbm, ⟨9, _⟩ => ⟨S4224x2048, .bf16⟩
  | .hbm, ⟨10, _⟩ => ⟨S4224x2048, .bf16⟩
  | .hbm, ⟨11, _⟩ => ⟨S4224x1024, .f32⟩
  | .hbm, ⟨12, _⟩ => ⟨S4x1x512, .f32⟩
  | .hbm, ⟨13, _⟩ => ⟨S4x1x256, .f32⟩
  | .local _ .vmem, ⟨0, _⟩ => ⟨S128x256, .f32⟩
  | .local _ .vmem, ⟨1, _⟩ => ⟨S128x256, .f32⟩
  | .local _ .vmem, ⟨2, _⟩ => ⟨S128x256, .f32⟩
  | .local _ .vmem, ⟨3, _⟩ => ⟨S128x256, .f32⟩
  | .local _ .vmem, ⟨4, _⟩ => ⟨S128x512, .f32⟩
  | .local _ .vmem, ⟨5, _⟩ => ⟨S128x512, .f32⟩
  | .local _ .vmem, ⟨6, _⟩ => ⟨S128x512, .f32⟩
  | .local _ .vmem, ⟨7, _⟩ => ⟨S128x512, .f32⟩
  | .local _ .vmem, ⟨8, _⟩ => ⟨S128x128, .f32⟩
  | .local _ .vmem, ⟨9, _⟩ => ⟨S128x128, .f32⟩
  | .local _ .vmem, ⟨10, _⟩ => ⟨S128x256, .f32⟩
  | .local _ .vmem, ⟨11, _⟩ => ⟨S128x256, .f32⟩
  | .local _ .vmem, ⟨12, _⟩ => ⟨S1x256, .f32⟩
  | .local _ .vmem, ⟨13, _⟩ => ⟨S1x256, .f32⟩
  | .local _ .vmem, ⟨14, _⟩ => ⟨S1x512, .f32⟩
  | .local _ .vmem, ⟨15, _⟩ => ⟨S1x512, .f32⟩
  | .local _ .vmem, ⟨16, _⟩ => ⟨S128x512, .f32⟩
  | .local _ .vmem, ⟨17, _⟩ => ⟨S128x512, .f32⟩
  | .local _ .vmem, ⟨18, _⟩ => ⟨S128x512, .f32⟩
  | .local _ .vmem, ⟨19, _⟩ => ⟨S128x512, .f32⟩
  | .local _ .vmem, ⟨20, _⟩ => ⟨S1x1x512x256, .f32⟩
  | .local _ .vmem, ⟨21, _⟩ => ⟨S1x1x512x256, .f32⟩
  | .local _ .vmem, ⟨22, _⟩ => ⟨S128x256, .bf16⟩
  | .local _ .vmem, ⟨23, _⟩ => ⟨S128x256, .bf16⟩
  | .local _ .vmem, ⟨24, _⟩ => ⟨S128x256, .bf16⟩
  | .local _ .vmem, ⟨25, _⟩ => ⟨S128x256, .bf16⟩
  | .local _ .vmem, ⟨26, _⟩ => ⟨S128x512, .bf16⟩
  | .local _ .vmem, ⟨27, _⟩ => ⟨S128x512, .bf16⟩
  | .local _ .vmem, ⟨28, _⟩ => ⟨S128x512, .bf16⟩
  | .local _ .vmem, ⟨29, _⟩ => ⟨S128x512, .bf16⟩
  | .local _ .vmem, ⟨30, _⟩ => ⟨S128x256, .f32⟩
  | .local _ .vmem, ⟨31, _⟩ => ⟨S128x256, .f32⟩
  | .local _ .vmem, ⟨32, _⟩ => ⟨S1x1x512, .f32⟩
  | .local _ .vmem, ⟨33, _⟩ => ⟨S1x1x512, .f32⟩
  | .local _ .vmem, ⟨34, _⟩ => ⟨S1x1x256, .f32⟩
  | .local _ .vmem, ⟨35, _⟩ => ⟨S1x1x256, .f32⟩
  | .local _ .vmem, ⟨36, _⟩ => ⟨S512x256, .f32⟩
  | .local _ .vmem, ⟨37, _⟩ => ⟨S128x256, .f32⟩
  | .local _ .vmem, ⟨38, _⟩ => ⟨S128x256, .f32⟩
  | .local _ .vmem, ⟨39, _⟩ => ⟨S128x512, .f32⟩
  | .local _ .vmem, ⟨40, _⟩ => ⟨S128x256, .f32⟩
  | .local _ .vmem, ⟨41, _⟩ => ⟨S128x256, .f32⟩
  | .local _ .vmem, ⟨42, _⟩ => ⟨S128x256, .f32⟩
  | _, _ => ⟨S4224x6272, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | _, _ => false

abbrev semScoped : Fin 0 → Bool
  | ⟨_, h⟩ => absurd h (Nat.not_lt_zero _)

abbrev dmaSemScoped : Fin 36 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | _ => false

abbrev sig : RefSig :=
  ofTc nBuf bufTy 0 36 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0_0 : Ref sig .tc := ⟨.hbm, 7, rfl⟩
abbrev main_v0_1 : Ref sig .tc := ⟨.hbm, 8, rfl⟩
abbrev main_v0_2 : Ref sig .tc := ⟨.hbm, 9, rfl⟩
abbrev main_v0_3 : Ref sig .tc := ⟨.hbm, 10, rfl⟩
abbrev main_v0_4 : Ref sig .tc := ⟨.hbm, 11, rfl⟩
abbrev main_v0_5 : Ref sig .tc := ⟨.hbm, 12, rfl⟩
abbrev main_v0_6 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_stg13_0 : Ref sig .tc := ⟨.vmem, 26, rfl⟩
abbrev cc0_stg13_1 : Ref sig .tc := ⟨.vmem, 27, rfl⟩
abbrev cc0_stg14_0 : Ref sig .tc := ⟨.vmem, 28, rfl⟩
abbrev cc0_stg14_1 : Ref sig .tc := ⟨.vmem, 29, rfl⟩
abbrev cc0_stg15_0 : Ref sig .tc := ⟨.vmem, 30, rfl⟩
abbrev cc0_stg15_1 : Ref sig .tc := ⟨.vmem, 31, rfl⟩
abbrev cc0_stg16_0 : Ref sig .tc := ⟨.vmem, 32, rfl⟩
abbrev cc0_stg16_1 : Ref sig .tc := ⟨.vmem, 33, rfl⟩
abbrev cc0_stg17_0 : Ref sig .tc := ⟨.vmem, 34, rfl⟩
abbrev cc0_stg17_1 : Ref sig .tc := ⟨.vmem, 35, rfl⟩
abbrev cc0_scratch0 : Ref sig .tc := ⟨.vmem, 36, rfl⟩
abbrev cc0_scratch1 : Ref sig .tc := ⟨.vmem, 37, rfl⟩
abbrev cc0_scratch2 : Ref sig .tc := ⟨.vmem, 38, rfl⟩
abbrev cc0_scratch3 : Ref sig .tc := ⟨.vmem, 39, rfl⟩
abbrev cc0_scratch4 : Ref sig .tc := ⟨.vmem, 40, rfl⟩
abbrev cc0_scratch5 : Ref sig .tc := ⟨.vmem, 41, rfl⟩
abbrev cc0_scratch6 : Ref sig .tc := ⟨.vmem, 42, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25
abbrev cc0_sem13_0 : DmaSem sig := 26
abbrev cc0_sem13_1 : DmaSem sig := 27
abbrev cc0_sem14_0 : DmaSem sig := 28
abbrev cc0_sem14_1 : DmaSem sig := 29
abbrev cc0_sem15_0 : DmaSem sig := 30
abbrev cc0_sem15_1 : DmaSem sig := 31
abbrev cc0_sem16_0 : DmaSem sig := 32
abbrev cc0_sem16_1 : DmaSem sig := 33
abbrev cc0_sem17_0 : DmaSem sig := 34
abbrev cc0_sem17_1 : DmaSem sig := 35

abbrev nD : Nat := 1
abbrev τ : Topo := Topo.v7x

variable {F : FTy → Type} [FloatOps F]

abbrev grid0 : Pipeline.Grid := ⟨2, ![4, 33], ![false, false]⟩

def cc0_transform_0 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.subi c32_i32 arg1
  let c0_i32 : BitVec 32 := 0#32
  ![v0.toNat, arg0.toNat]

def cc0_transform_1 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.subi c32_i32 arg1
  let c4_i32 : BitVec 32 := 4#32
  let v1 : BitVec 32 := Scalar.addi c4_i32 arg0
  let c0_i32 : BitVec 32 := 0#32
  ![v0.toNat, v1.toNat]

def cc0_transform_2 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.subi c32_i32 arg1
  let c4_i32 : BitVec 32 := 4#32
  let v1 : BitVec 32 := Scalar.addi c4_i32 arg0
  let c0_i32 : BitVec 32 := 0#32
  ![v0.toNat, v1.toNat]

def cc0_transform_3 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.subi c32_i32 arg1
  let c8_i32 : BitVec 32 := 8#32
  let v1 : BitVec 32 := Scalar.addi c8_i32 arg0
  let c0_i32 : BitVec 32 := 0#32
  ![v0.toNat, v1.toNat]

def cc0_transform_4 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.subi c32_i32 arg1
  let c48_i32 : BitVec 32 := 48#32
  let c0_i32 : BitVec 32 := 0#32
  ![v0.toNat, c48_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_8 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.subi c32_i32 arg1
  let c0_i32 : BitVec 32 := 0#32
  ![v0.toNat, arg0.toNat]

def cc0_transform_9 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.subi c32_i32 arg1
  let c0_i32 : BitVec 32 := 0#32
  ![v0.toNat, arg0.toNat]

def cc0_transform_10 (i : grid0.Coords) : Fin 4 → Nat :=
  let arg0 : BitVec 32 := BitVec.ofNat 32 (i 0).val
  let arg1 : BitVec 32 := BitVec.ofNat 32 (i 1).val
  let c32_i32 : BitVec 32 := 32#32
  let v0 : BitVec 32 := Scalar.subi c32_i32 arg1
  let c0_i32 : BitVec 32 := 0#32
  let c0_i32_0 : BitVec 32 := 0#32
  let c0_i32_1 : BitVec 32 := 0#32
  ![arg0.toNat, v0.toNat, c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.subi c32_i32 arg1
  let c0_i32 : BitVec 32 := 0#32
  ![v0.toNat, arg0.toNat]

def cc0_transform_12 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.subi c32_i32 arg1
  let c0_i32 : BitVec 32 := 0#32
  ![v0.toNat, arg0.toNat]

def cc0_transform_13 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.subi c32_i32 arg1
  let c0_i32 : BitVec 32 := 0#32
  ![v0.toNat, arg0.toNat]

def cc0_transform_14 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.subi c32_i32 arg1
  let c0_i32 : BitVec 32 := 0#32
  ![v0.toNat, arg0.toNat]

def cc0_transform_15 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.subi c32_i32 arg1
  let c0_i32 : BitVec 32 := 0#32
  ![v0.toNat, arg0.toNat]

def cc0_transform_16 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_17 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S128x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S128x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S128x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S128x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S128x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S128x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S128x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S128x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x1x512x256 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S128x256 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S128x256 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S128x512 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]

abbrev stage0_14 : Fin 2 → Memref sig .tc .vmem S128x512 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]

abbrev stage0_15 : Fin 2 → Memref sig .tc .vmem S128x256 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, true]

abbrev stage0_16 : Fin 2 → Memref sig .tc .vmem S1x1x512 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true, false]

abbrev stage0_17 : Fin 2 → Memref sig .tc .vmem S1x1x256 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true, false]
-- ==== Reference31Ideal.lean ====
abbrev S4224x6272 : Shape := ⟨2, ![4224, 6272]⟩
abbrev S128x1024 : Shape := ⟨2, ![128, 1024]⟩
abbrev S1x1024 : Shape := ⟨2, ![1, 1024]⟩
abbrev S1x2048 : Shape := ⟨2, ![1, 2048]⟩
abbrev S4224x2048 : Shape := ⟨2, ![4224, 2048]⟩
abbrev S4x33x512x256 : Shape := ⟨4, ![4, 33, 512, 256]⟩
abbrev S4224x4x512 : Shape := ⟨3, ![4224, 4, 512]⟩
abbrev S_ : Shape := ⟨0, ![]⟩
abbrev S4224x4 : Shape := ⟨2, ![4224, 4]⟩
abbrev S4224x4x1 : Shape := ⟨3, ![4224, 4, 1]⟩
abbrev S2048 : Shape := ⟨1, ![2048]⟩
abbrev S4x1x512 : Shape := ⟨3, ![4, 1, 512]⟩

abbrev nBuf : Space → Nat
  | .hbm => 41
  | .vmem => 0
  | .smem => 0
  | _ => 0

abbrev bufTy : (tb : Table) → Fin (tcTables nBuf tb) → BufTy
  | .hbm, ⟨0, _⟩ => ⟨S4224x6272, .f32⟩
  | .hbm, ⟨1, _⟩ => ⟨S128x1024, .f32⟩
  | .hbm, ⟨2, _⟩ => ⟨S1x1024, .f32⟩
  | .hbm, ⟨3, _⟩ => ⟨S1x2048, .f32⟩
  | .hbm, ⟨4, _⟩ => ⟨S4224x2048, .f32⟩
  | .hbm, ⟨5, _⟩ => ⟨S4224x2048, .f32⟩
  | .hbm, ⟨6, _⟩ => ⟨S4x33x512x256, .f32⟩
  | .hbm, ⟨7, _⟩ => ⟨S4224x2048, .f32⟩
  | .hbm, ⟨8, _⟩ => ⟨S4224x4x512, .f32⟩
  | .hbm, ⟨9, _⟩ => ⟨S4224x4x512, .f32⟩
  | .hbm, ⟨10, _⟩ => ⟨S_, .f32⟩
  | .hbm, ⟨11, _⟩ => ⟨S4224x4, .f32⟩
  | .hbm, ⟨12, _⟩ => ⟨S4224x4x1, .f32⟩
  | .hbm, ⟨13, _⟩ => ⟨S_, .f32⟩
  | .hbm, ⟨14, _⟩ => ⟨S4224x4x1, .f32⟩
  | .hbm, ⟨15, _⟩ => ⟨S4224x4x1, .f32⟩
  | .hbm, ⟨16, _⟩ => ⟨S_, .f32⟩
  | .hbm, ⟨17, _⟩ => ⟨S4224x4x1, .f32⟩
  | .hbm, ⟨18, _⟩ => ⟨S4224x4x1, .f32⟩
  | .hbm, ⟨19, _⟩ => ⟨S4224x4x1, .f32⟩
  | .hbm, ⟨20, _⟩ => ⟨S4224x4x512, .f32⟩
  | .hbm, ⟨21, _⟩ => ⟨S4224x4x512, .f32⟩
  | .hbm, ⟨22, _⟩ => ⟨S4224x2048, .f32⟩
  | .hbm, ⟨23, _⟩ => ⟨S4224x2048, .f32⟩
  | .hbm, ⟨24, _⟩ => ⟨S4224x2048, .f32⟩
  | .hbm, ⟨25, _⟩ => ⟨S4224x2048, .f32⟩
  | .hbm, ⟨26, _⟩ => ⟨S4224x2048, .f32⟩
  | .hbm, ⟨27, _⟩ => ⟨S_, .f32⟩
  | .hbm, ⟨28, _⟩ => ⟨S4224x2048, .f32⟩
  | .hbm, ⟨29, _⟩ => ⟨S4224x2048, .f32⟩
  | .hbm, ⟨30, _⟩ => ⟨S_, .f32⟩
  | .hbm, ⟨31, _⟩ => ⟨S4224x2048, .f32⟩
  | .hbm, ⟨32, _⟩ => ⟨S4224x2048, .f32⟩
  | .hbm, ⟨33, _⟩ => ⟨S4224x2048, .f32⟩
  | .hbm, ⟨34, _⟩ => ⟨S4224x2048, .f32⟩
  | .hbm, ⟨35, _⟩ => ⟨S4224x2048, .f32⟩
  | .hbm, ⟨36, _⟩ => ⟨S4224x2048, .f32⟩
  | .hbm, ⟨37, _⟩ => ⟨S_, .f32⟩
  | .hbm, ⟨38, _⟩ => ⟨S2048, .f32⟩
  | .hbm, ⟨39, _⟩ => ⟨S1x2048, .f32⟩
  | .hbm, ⟨40, _⟩ => ⟨S4x1x512, .f32⟩
  | _, _ => ⟨S4224x6272, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_cst : Ref sig .tc := ⟨.hbm, 10, rfl⟩
abbrev main_v3 : Ref sig .tc := ⟨.hbm, 11, rfl⟩
abbrev main_v4 : Ref sig .tc := ⟨.hbm, 12, rfl⟩
abbrev main_cst_0 : Ref sig .tc := ⟨.hbm, 13, rfl⟩
abbrev main_v5 : Ref sig .tc := ⟨.hbm, 14, rfl⟩
abbrev main_v6 : Ref sig .tc := ⟨.hbm, 15, rfl⟩
abbrev main_cst_1 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_call0_v0 : Ref sig .tc := ⟨.hbm, 25, rfl⟩
abbrev main_call0_v1 : Ref sig .tc := ⟨.hbm, 26, rfl⟩
abbrev main_call0_cst : Ref sig .tc := ⟨.hbm, 27, rfl⟩
abbrev main_call0_v2 : Ref sig .tc := ⟨.hbm, 28, rfl⟩
abbrev main_call0_v3 : Ref sig .tc := ⟨.hbm, 29, rfl⟩
abbrev main_call0_cst_0 : Ref sig .tc := ⟨.hbm, 30, rfl⟩
abbrev main_call0_v4 : Ref sig .tc := ⟨.hbm, 31, rfl⟩
abbrev main_call0_v5 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_cst_2 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩

abbrev nD : Nat := 1
abbrev τ : Topo := Topo.v7x

variable {F : FTy → Type} [FloatOps F]
-- ==== Kernel32.lean ====
abbrev S4224x2048 : Shape := ⟨2, ![4224, 2048]⟩
abbrev S1x2048 : Shape := ⟨2, ![1, 2048]⟩
abbrev S4096x2048 : Shape := ⟨2, ![4096, 2048]⟩
abbrev S16x2048 : Shape := ⟨2, ![16, 2048]⟩
abbrev S128x2048 : Shape := ⟨2, ![128, 2048]⟩
abbrev S128 : Shape := ⟨1, ![128]⟩
abbrev S128x1 : Shape := ⟨2, ![128, 1]⟩
abbrev S2048 : Shape := ⟨1, ![2048]⟩

abbrev nBuf : Space → Nat
  | .hbm => 7
  | .vmem => 11
  | .smem => 0
  | _ => 0

abbrev bufTy : (tb : Table) → Fin (tcTables nBuf tb) → BufTy
  | .hbm, ⟨0, _⟩ => ⟨S4224x2048, .f32⟩
  | .hbm, ⟨1, _⟩ => ⟨S1x2048, .f32⟩
  | .hbm, ⟨2, _⟩ => ⟨S4224x2048, .f32⟩
  | .hbm, ⟨3, _⟩ => ⟨S4224x2048, .f32⟩
  | .hbm, ⟨4, _⟩ => ⟨S4096x2048, .f32⟩
  | .hbm, ⟨5, _⟩ => ⟨S16x2048, .f32⟩
  | .hbm, ⟨6, _⟩ => ⟨S1x2048, .f32⟩
  | .local _ .vmem, ⟨0, _⟩ => ⟨S128x2048, .f32⟩
  | .local _ .vmem, ⟨1, _⟩ => ⟨S128x2048, .f32⟩
  | .local _ .vmem, ⟨2, _⟩ => ⟨S128x2048, .f32⟩
  | .local _ .vmem, ⟨3, _⟩ => ⟨S128x2048, .f32⟩
  | .local _ .vmem, ⟨4, _⟩ => ⟨S1x2048, .f32⟩
  | .local _ .vmem, ⟨5, _⟩ => ⟨S128x2048, .f32⟩
  | .local _ .vmem, ⟨6, _⟩ => ⟨S128x2048, .f32⟩
  | .local _ .vmem, ⟨7, _⟩ => ⟨S128x2048, .f32⟩
  | .local _ .vmem, ⟨8, _⟩ => ⟨S128x2048, .f32⟩
  | .local _ .vmem, ⟨9, _⟩ => ⟨S16x2048, .f32⟩
  | .local _ .vmem, ⟨10, _⟩ => ⟨S1x2048, .f32⟩
  | _, _ => ⟨S4224x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem6_0 : DmaSem sig := 10

abbrev nD : Nat := 1
abbrev τ : Topo := Topo.v7x

variable {F : FTy → Type} [FloatOps F]

abbrev grid0 : Pipeline.Grid := ⟨1, ![33], ![false]⟩

def k0_cond2 (i : grid0.Coords) : BitVec 1 :=
  let arg0 : BitVec 32 := BitVec.ofNat 32 (i 0).val
  let c0_i32_12 : BitVec 32 := 0#32
  let v30 : BitVec 1 := Scalar.cmpi .sgt arg0 c0_i32_12
  let v31 : BitVec 32 := Scalar.extui v30
  let c0_i32_13 : BitVec 32 := 0#32
  let v32 : BitVec 1 := Scalar.cmpi .ne v31 c0_i32_13
  v32

def k0_cond1 (i : grid0.Coords) : BitVec 1 :=
  let arg0 : BitVec 32 := BitVec.ofNat 32 (i 0).val
  let c0_i32 : BitVec 32 := 0#32
  let v27 : BitVec 1 := Scalar.cmpi .eq arg0 c0_i32
  let v28 : BitVec 32 := Scalar.extui v27
  let c0_i32_11 : BitVec 32 := 0#32
  let v29 : BitVec 1 := Scalar.cmpi .ne v28 c0_i32_11
  v29

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S128x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S128x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S16x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== Reference32Ideal.lean ====
abbrev S4224x2048 : Shape := ⟨2, ![4224, 2048]⟩
abbrev S1x2048 : Shape := ⟨2, ![1, 2048]⟩
abbrev S_ : Shape := ⟨0, ![]⟩
abbrev S4224 : Shape := ⟨1, ![4224]⟩
abbrev S4224x1 : Shape := ⟨2, ![4224, 1]⟩
abbrev S2048 : Shape := ⟨1, ![2048]⟩
abbrev S4096x2048 : Shape := ⟨2, ![4096, 2048]⟩
abbrev S16x2048 : Shape := ⟨2, ![16, 2048]⟩

abbrev nBuf : Space → Nat
  | .hbm => 49
  | .vmem => 0
  | .smem => 0
  | _ => 0

abbrev bufTy : (tb : Table) → Fin (tcTables nBuf tb) → BufTy
  | .hbm, ⟨0, _⟩ => ⟨S4224x2048, .f32⟩
  | .hbm, ⟨1, _⟩ => ⟨S1x2048, .f32⟩
  | .hbm, ⟨2, _⟩ => ⟨S4224x2048, .f32⟩
  | .hbm, ⟨3, _⟩ => ⟨S4224x2048, .f32⟩
  | .hbm, ⟨4, _⟩ => ⟨S4224x2048, .f32⟩
  | .hbm, ⟨5, _⟩ => ⟨S_, .f32⟩
  | .hbm, ⟨6, _⟩ => ⟨S4224, .f32⟩
  | .hbm, ⟨7, _⟩ => ⟨S4224x1, .f32⟩
  | .hbm, ⟨8, _⟩ => ⟨S_, .f32⟩
  | .hbm, ⟨9, _⟩ => ⟨S4224x1, .f32⟩
  | .hbm, ⟨10, _⟩ => ⟨S4224x1, .f32⟩
  | .hbm, ⟨11, _⟩ => ⟨S_, .f32⟩
  | .hbm, ⟨12, _⟩ => ⟨S4224x1, .f32⟩
  | .hbm, ⟨13, _⟩ => ⟨S4224x1, .f32⟩
  | .hbm, ⟨14, _⟩ => ⟨S4224x1, .f32⟩
  | .hbm, ⟨15, _⟩ => ⟨S4224x1, .f32⟩
  | .hbm, ⟨16, _⟩ => ⟨S_, .f32⟩
  | .hbm, ⟨17, _⟩ => ⟨S4224x1, .f32⟩
  | .hbm, ⟨18, _⟩ => ⟨S4224x1, .f32⟩
  | .hbm, ⟨19, _⟩ => ⟨S4224x2048, .f32⟩
  | .hbm, ⟨20, _⟩ => ⟨S4224x2048, .f32⟩
  | .hbm, ⟨21, _⟩ => ⟨S4224x2048, .f32⟩
  | .hbm, ⟨22, _⟩ => ⟨S4224x2048, .f32⟩
  | .hbm, ⟨23, _⟩ => ⟨S4224x2048, .f32⟩
  | .hbm, ⟨24, _⟩ => ⟨S_, .f32⟩
  | .hbm, ⟨25, _⟩ => ⟨S2048, .f32⟩
  | .hbm, ⟨26, _⟩ => ⟨S1x2048, .f32⟩
  | .hbm, ⟨27, _⟩ => ⟨S4224x2048, .f32⟩
  | .hbm, ⟨28, _⟩ => ⟨S4224x2048, .f32⟩
  | .hbm, ⟨29, _⟩ => ⟨S4224x2048, .f32⟩
  | .hbm, ⟨30, _⟩ => ⟨S_, .f32⟩
  | .hbm, ⟨31, _⟩ => ⟨S4224, .f32⟩
  | .hbm, ⟨32, _⟩ => ⟨S4224x1, .f32⟩
  | .hbm, ⟨33, _⟩ => ⟨S4224x2048, .f32⟩
  | .hbm, ⟨34, _⟩ => ⟨S4224x2048, .f32⟩
  | .hbm, ⟨35, _⟩ => ⟨S4224x2048, .f32⟩
  | .hbm, ⟨36, _⟩ => ⟨S4224x1, .f32⟩
  | .hbm, ⟨37, _⟩ => ⟨S_, .f32⟩
  | .hbm, ⟨38, _⟩ => ⟨S4224x1, .f32⟩
  | .hbm, ⟨39, _⟩ => ⟨S4224x1, .f32⟩
  | .hbm, ⟨40, _⟩ => ⟨S_, .f32⟩
  | .hbm, ⟨41, _⟩ => ⟨S4224, .f32⟩
  | .hbm, ⟨42, _⟩ => ⟨S4224x2048, .f32⟩
  | .hbm, ⟨43, _⟩ => ⟨S4224x2048, .f32⟩
  | .hbm, ⟨44, _⟩ => ⟨S4224x2048, .f32⟩
  | .hbm, ⟨45, _⟩ => ⟨S4224x2048, .f32⟩
  | .hbm, ⟨46, _⟩ => ⟨S4224x2048, .f32⟩
  | .hbm, ⟨47, _⟩ => ⟨S4096x2048, .f32⟩
  | .hbm, ⟨48, _⟩ => ⟨S16x2048, .f32⟩
  | _, _ => ⟨S4224x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_cst_3 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_4 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_cst_5 : Ref sig .tc := ⟨.hbm, 37, rfl⟩
abbrev main_v27 : Ref sig .tc := ⟨.hbm, 38, rfl⟩
abbrev main_v28 : Ref sig .tc := ⟨.hbm, 39, rfl⟩
abbrev main_cst_6 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩

abbrev nD : Nat := 1
abbrev τ : Topo := Topo.v7x

variable {F : FTy → Type} [FloatOps F]
-- ==== Proof.Products.lean ====
/-
  Products of two arrays at one entry of the result, by the axes they are summed along.
-/
module

public import Idealize.ShloMosaic.Lib.Pipeline.ValueKit
public import Idealize.ShloMosaic.Lib.Pipeline.ReadBack
public import Idealize.ShloMosaic.Lib.Pointwise

@[expose] public section

noncomputable section

namespace Cert.Products

open Idealize.ShloMosaic

/-- The product along the rows of both arrays: entry `(a, b)` of `xᵀ y`. -/
def overRows {K A B : ℕ} (x : (⟨2, ![K, A]⟩ : Shape).Idx → EReal) (y : (⟨2, ![K, B]⟩ : Shape).Idx → EReal) (a : Fin A) (b : Fin B) : EReal :=
  ∑ k : Fin K, x (ix2 k a) * y (ix2 k b)

/-- The product along the columns of both arrays: entry `(a, b)` of `x yᵀ`. -/
def overColumns {A B K : ℕ} (x : (⟨2, ![A, K]⟩ : Shape).Idx → EReal) (y : (⟨2, ![B, K]⟩ : Shape).Idx → EReal) (a : Fin A) (b : Fin B) : EReal :=
  ∑ k : Fin K, x (ix2 a k) * y (ix2 b k)

/-- Entry `(a, b)` of `x y`. -/
def plain {A K B : ℕ} (x : (⟨2, ![A, K]⟩ : Shape).Idx → EReal) (y : (⟨2, ![K, B]⟩ : Shape).Idx → EReal) (a : Fin A) (b : Fin B) : EReal :=
  ∑ k : Fin K, x (ix2 a k) * y (ix2 k b)

end Cert.Products

end
-- ==== Proof.Product2.lean ====
/-
  The weight gradient of the first input projection: what the kernel's
  array ends holding at an index is the product of the whole arrays there.
-/
module

public import proofs.«01_k».proof.Proof.Gen.Kernel2Ideal.Value
public import proofs.«01_k».proof.Proof.Products
public import proofs.«01_k».proof.Defs
public import proofs.«01_k».proof.Proof.Gen.Reference2Ideal.Run
public import Idealize.ShloMosaic.Lib.Quiescent
public import Idealize.ShloMosaic.Lib.Tactic.ValueTie

@[expose] public section

set_option maxRecDepth 16384

noncomputable section

namespace Cert.Kernel2Ideal.Value

open Cert.Kernel2Ideal Cert.Kernel2Ideal.Gen Cert.Products Idealize.ShloMosaic Idealize.ShloMosaic.TcCoe Idealize.SL.Sem

variable (m : (ℓ : Loc nD τ sig) → Buf (Elt Ideal) ℓ)

/-- The product of the two blocks point `t` reads, at an entry of the block it fills. -/
def term (c : Dev nD) (t : Fin cfg0.N) (j : S1024x1024.Idx) : EReal :=
  overRows (K := 1408) (A := 1024) (B := 1024) (iblk m c 0 t) (iblk m c 1 t) (j 0) (j 1)

/-- The first point of a run leaves its own product in the accumulator. -/
theorem first (c : Dev nD) (t : Fin cfg0.N) (h : t.val % 3 = 0) (j : S1024x1024.Idx) :
    (outsAt0 m c t.val t.isLt).2 j = (fun _ : S1024x1024.Idx => (0 : EReal)) j + term m c t j := by
  rw [outsAt0_A m c t h (by omega)]
  dsimp only
  frame_out
  unfold k0_pay2 k0_pay1 term overRows
  pointwise

/-- Every other point adds its product to the accumulator. -/
theorem next (c : Dev nD) (t : Fin cfg0.N) (h : ¬t.val % 3 = 0) (j : S1024x1024.Idx) :
    (outsAt0 m c t.val t.isLt).2 j
      = (outsAt0 m c (t.val - 1) (Nat.lt_of_le_of_lt (Nat.sub_le _ _) t.isLt)).2 j + term m c t j := by
  by_cases hl : t.val % 3 = 2
  · rw [outsAt0_C m c t h hl]
    dsimp only
    frame_out
    unfold k0_pay2 term overRows
    pointwise
    rw [read_unread_whole]
  · rw [outsAt0_B m c t h hl]
    dsimp only
    frame_out
    unfold k0_pay2 term overRows
    pointwise
    rw [read_unread_whole]

/-- The last point of a run writes the accumulator back. -/
theorem last (c : Dev nD) (t : Fin cfg0.N) (hl : t.val % 3 = 2) :
    (outsAt0 m c t.val t.isLt).1 = (outsAt0 m c t.val t.isLt).2 := by
  rw [outsAt0_C m c t (by omega) hl]
  dsimp only
  frame_out

/-- The blocks point `t` reads and fills. -/
theorem places : ∀ t : Fin cfg0.N, win0_0.index t = ![t.val % 3, t.val / 24] ∧ win0_1.index t = ![t.val % 3, t.val / 3 % 8] ∧ win0_2.index t = ![t.val / 24, t.val / 3 % 8] :=
  (by decide +kernel : ∀ t : Fin grid0.N, _)

/-- What the last point of a run leaves in the block it writes back. -/
theorem block (c : Dev nD) (t : Fin cfg0.N) (hl : t.val % 3 = 2) (j : S1024x1024.Idx) (a : Fin 2048) (b : Fin 8192)
    (ha : a.val = (t.val / 24) * 1024 + (j 0).val) (hb : b.val = t.val / 3 % 8 * 1024 + (j 1).val) :
    (outsAt0 m c t.val t.isLt).1 j
      = overRows (K := 4224) (m ((c.tc : Thread nD τ).loc main_arg0)) (m ((c.tc : Thread nD τ).loc main_arg1)) a b := by
  rw [last m c t hl]
  refine (Pipeline.eq_sum_fin_of_reset_step_apply_of_flush (fun n h => (outsAt0 m c n h).2) 3 (fun _ => (0 : EReal)) (term m c)
    (first m c) (next m c) t hl j).trans ?_
  rw [zero_add]
  refine Fin.sum_mul_add_congr fun s k hk => ?_
  have hd := places ⟨3 * (t.val / 3) + s.val, Pipeline.run_point_lt_of_flush t hl s⟩
  congr 1
  · blk_ext [iblk, V, hd.1]
  · blk_ext [iblk, V, hd.2.1]

/-- What the array ends holding. -/
theorem final (c : Dev nD) : (dats m 0 c).arrAt 2 cfg0.N = fun i => overRows (K := 4224) (A := 2048) (B := 8192) (m ((c.tc : Thread nD τ).loc main_arg0)) (m ((c.tc : Thread nD τ).loc main_arg1)) (i 0) (i 1) := by
  refine (dats m 0 c).arrAt_eq_of_covers 2 _ (by decide +kernel) fun t hf y => ?_
  have h2 := (flush0_2 t).mp hf
  have hp := (places t).2.2
  blk_simp
  rw [after0_2]
  exact block m c t h2 _ _ _ (by blk_simp [hp]) (by blk_simp [hp])

end Cert.Kernel2Ideal.Value

namespace Cert.Proof

open Cert.Products Idealize.ShloMosaic Idealize.SL.Sem

/-- The reference runs, leaves its arguments unchanged and every counter at zero. -/
theorem quiescent_Reference2Ideal : quiescent_Reference2Ideal := fun m ρ _ =>
  (θ_run Cert.Reference2Ideal.defs _ _).mono (fun r h => ⟨fun c => (h c).2, sem_eq_zero_of_no_sems (by decide) r.2⟩)
    (Cert.Reference2Ideal.Value.run (F := Ideal) m ρ)

/-- Kernel and reference compute the same array. -/
theorem algebraic_Kernel2Ideal_Reference2Ideal : algebraic_Kernel2Ideal_Reference2Ideal := by
  intro m ρ m' ρ' _ hagree
  refine ⟨_, Cert.Kernel2Ideal.Value.run_blocks (F := Ideal) m ρ, ?_⟩
  refine (θ_run Cert.Reference2Ideal.defs _ _).mono (fun _ h c => ⟨?_, (h c).2⟩) (Cert.Reference2Ideal.Value.run (F := Ideal) m' ρ')
  rw [(h c).1, Cert.Kernel2Ideal.Value.final]
  simp only [hagree c]
  clean_types
  funext i
  unfold overRows
  pointwise
  exact Finset.sum_congr rfl fun k _ => mul_comm _ _

end Cert.Proof

end
-- ==== Proof.Product3.lean ====
/-
  The gradient of the first input projection's input, the rows of the first block: what the kernel's array ends holding at an index is the
  product of the whole arrays there, and kernel and reference agree.
-/
module

public import proofs.«01_k».proof.Proof.Gen.Kernel3Ideal.Value
public import proofs.«01_k».proof.Proof.Products
public import proofs.«01_k».proof.Defs
public import proofs.«01_k».proof.Proof.Gen.Reference3Ideal.Run
public import proofs.«01_k».proof.Proof.Gen.On_first_rows
public import Idealize.ShloMosaic.Lib.Quiescent
public import Idealize.ShloMosaic.Lib.Tactic.ValueTie

@[expose] public section

set_option maxRecDepth 16384

noncomputable section

namespace Cert.Kernel3Ideal.Value

open Cert.Kernel3Ideal Cert.Kernel3Ideal.Gen Cert.Products Idealize.ShloMosaic Idealize.ShloMosaic.TcCoe Idealize.SL.Sem

variable (m : (ℓ : Loc nD τ sig) → Buf (Elt Ideal) ℓ)

/-- The product of the two blocks point `t` reads, at an entry of the block it fills. -/
def term (c : Dev nD) (t : Fin cfg0.N) (j : S1408x512.Idx) : EReal :=
  overColumns (K := 2048) (A := 1408) (B := 512) (iblk m c 0 t) (iblk m c 1 t) (j 0) (j 1)

/-- The first point of a run leaves its own product in the accumulator. -/
theorem first (c : Dev nD) (t : Fin cfg0.N) (h : t.val % 4 = 0) (j : S1408x512.Idx) :
    (outsAt0 m c t.val t.isLt).2 j = (fun _ : S1408x512.Idx => (0 : EReal)) j + term m c t j := by
  rw [outsAt0_A m c t h (by omega)]
  dsimp only
  frame_out
  unfold k0_pay2 k0_pay1 term overColumns
  pointwise

/-- Every other point adds its product to the accumulator. -/
theorem next (c : Dev nD) (t : Fin cfg0.N) (h : ¬t.val % 4 = 0) (j : S1408x512.Idx) :
    (outsAt0 m c t.val t.isLt).2 j
      = (outsAt0 m c (t.val - 1) (Nat.lt_of_le_of_lt (Nat.sub_le _ _) t.isLt)).2 j + term m c t j := by
  by_cases hl : t.val % 4 = 3
  · rw [outsAt0_C m c t h hl]
    dsimp only
    frame_out
    unfold k0_pay2 term overColumns
    pointwise
    rw [read_unread_whole]
  · rw [outsAt0_B m c t h hl]
    dsimp only
    frame_out
    unfold k0_pay2 term overColumns
    pointwise
    rw [read_unread_whole]

/-- The last point of a run writes the accumulator back. -/
theorem last (c : Dev nD) (t : Fin cfg0.N) (hl : t.val % 4 = 3) :
    (outsAt0 m c t.val t.isLt).1 = (outsAt0 m c t.val t.isLt).2 := by
  rw [outsAt0_C m c t (by omega) hl]
  dsimp only
  frame_out

/-- The blocks point `t` reads and fills. -/
theorem places : ∀ t : Fin cfg0.N, win0_0.index t = ![t.val / 16, t.val % 4] ∧ win0_1.index t = ![t.val / 4 % 4, t.val % 4] ∧ win0_2.index t = ![t.val / 16, t.val / 4 % 4] :=
  (by decide +kernel : ∀ t : Fin grid0.N, _)

/-- What the last point of a run leaves in the block it writes back. -/
theorem block (c : Dev nD) (t : Fin cfg0.N) (hl : t.val % 4 = 3) (j : S1408x512.Idx) (a : Fin 4224) (b : Fin 2048)
    (ha : a.val = (t.val / 16) * 1408 + (j 0).val) (hb : b.val = t.val / 4 % 4 * 512 + (j 1).val) :
    (outsAt0 m c t.val t.isLt).1 j
      = overColumns (K := 8192) (m ((c.tc : Thread nD τ).loc main_arg0)) (m ((c.tc : Thread nD τ).loc main_arg1)) a b := by
  rw [last m c t hl]
  refine (Pipeline.eq_sum_fin_of_reset_step_apply_of_flush (fun n h => (outsAt0 m c n h).2) 4 (fun _ => (0 : EReal)) (term m c)
    (first m c) (next m c) t hl j).trans ?_
  rw [zero_add]
  refine Fin.sum_mul_add_congr fun s k hk => ?_
  have hd := places ⟨4 * (t.val / 4) + s.val, Pipeline.run_point_lt_of_flush t hl s⟩
  congr 1
  · blk_ext [iblk, V, hd.1]
  · blk_ext [iblk, V, hd.2.1]

/-- What the array ends holding. -/
theorem final (c : Dev nD) : (dats m 0 c).arrAt 2 cfg0.N = fun i : S4224x2048.Idx =>
    if (i 0).val < 1408 then overColumns (K := 8192) (A := 4224) (B := 2048) (m ((c.tc : Thread nD τ).loc main_arg0)) (m ((c.tc : Thread nD τ).loc main_arg1)) (i 0) (i 1)
    else (dats m 0 c).A 2 i := by
  refine (dats m 0 c).arrAt_eq_of_coversWhere 2 _ (fun β => β 0 < 1) (by decide +kernel) (fun t hf y => ?_) (fun j => ?_)
  · have h2 := (flush0_2 t).mp hf
    have hp := (places t).2.2
    blk_simp
    rw [after0_2]
    exact block m c t h2 _ _ _ (by blk_simp [hp]) (by blk_simp [hp])
  · blk_simp [Pipeline.Window.cell_apply]
    omega

end Cert.Kernel3Ideal.Value

namespace Cert.Proof

open Cert.Products Idealize.ShloMosaic Idealize.SL.Sem

/-- The reference runs, leaves its arguments unchanged and every counter at zero. -/
theorem quiescent_Reference3Ideal : quiescent_Reference3Ideal := fun m ρ _ =>
  (θ_run Cert.Reference3Ideal.defs _ _).mono (fun r h => ⟨fun c => (h c).2, sem_eq_zero_of_no_sems (by decide) r.2⟩)
    (Cert.Reference3Ideal.Value.run (F := Ideal) m ρ)

/-- Kernel and reference compute the same array where the mask is set. -/
theorem algebraic_Kernel3Ideal_Reference3Ideal_on_first_rows : algebraic_Kernel3Ideal_Reference3Ideal_on_first_rows := by
  intro m ρ m' ρ' _ hagree
  refine ⟨_, (θ_run Cert.Kernel3Ideal.defs _ _).mono (fun _ h c => ⟨fun i _ => congrFun (h c).1 i, (h c).2⟩) (Cert.Kernel3Ideal.Value.run_blocks (F := Ideal) m ρ), ?_⟩
  refine (θ_run Cert.Reference3Ideal.defs _ _).mono (fun _ h c => ⟨fun i hi => ?_, (h c).2⟩) (Cert.Reference3Ideal.Value.run (F := Ideal) m' ρ')
  rw [(h c).1, Cert.Kernel3Ideal.Value.final]
  simp only [hagree c]
  clean_types
  unfold overColumns
  have hr : (i 0).val < 1408 := by
    revert hi
    unfold Cert.On_first_rows.fn
    pointwise
    have hi := (i 0).isLt
    exact (WordCmp.cmpi_slt_ofNat_eq_one_iff (by simp at hi; omega) (by decide)).mp
  rw [if_pos hr]
  pointwise

end Cert.Proof

end
-- ==== Proof.Product4.lean ====
/-
  The gradient of the first input projection's input, the rows after the first block: what the kernel's array ends holding at an index is the
  product of the whole arrays there, and kernel and reference agree.
-/
module

public import proofs.«01_k».proof.Proof.Gen.Kernel4Ideal.Value
public import proofs.«01_k».proof.Proof.Products
public import proofs.«01_k».proof.Defs
public import proofs.«01_k».proof.Proof.Gen.Reference4Ideal.Run
public import Idealize.ShloMosaic.Lib.Quiescent
public import Idealize.ShloMosaic.Lib.Tactic.ValueTie

@[expose] public section

set_option maxRecDepth 16384

noncomputable section

namespace Cert.Kernel4Ideal.Value

open Cert.Kernel4Ideal Cert.Kernel4Ideal.Gen Cert.Products Idealize.ShloMosaic Idealize.ShloMosaic.TcCoe Idealize.SL.Sem

variable (m : (ℓ : Loc nD τ sig) → Buf (Elt Ideal) ℓ)

/-- The product of the two blocks point `t` reads, at an entry of the block it fills. -/
def term (c : Dev nD) (t : Fin cfg0.N) (j : S1408x512.Idx) : EReal :=
  overColumns (K := 2048) (A := 1408) (B := 512) (iblk m c 0 t) (iblk m c 1 t) (j 0) (j 1)

/-- The first point of a run leaves its own product in the accumulator. -/
theorem first (c : Dev nD) (t : Fin cfg0.N) (h : t.val % 4 = 0) (j : S1408x512.Idx) :
    (outsAt0 m c t.val t.isLt).2 j = (fun _ : S1408x512.Idx => (0 : EReal)) j + term m c t j := by
  rw [outsAt0_A m c t h (by omega)]
  dsimp only
  frame_out
  unfold k0_pay2 k0_pay1 term overColumns
  pointwise

/-- Every other point adds its product to the accumulator. -/
theorem next (c : Dev nD) (t : Fin cfg0.N) (h : ¬t.val % 4 = 0) (j : S1408x512.Idx) :
    (outsAt0 m c t.val t.isLt).2 j
      = (outsAt0 m c (t.val - 1) (Nat.lt_of_le_of_lt (Nat.sub_le _ _) t.isLt)).2 j + term m c t j := by
  by_cases hl : t.val % 4 = 3
  · rw [outsAt0_C m c t h hl]
    dsimp only
    frame_out
    unfold k0_pay2 term overColumns
    pointwise
    rw [read_unread_whole]
  · rw [outsAt0_B m c t h hl]
    dsimp only
    frame_out
    unfold k0_pay2 term overColumns
    pointwise
    rw [read_unread_whole]

/-- The last point of a run writes the accumulator back. -/
theorem last (c : Dev nD) (t : Fin cfg0.N) (hl : t.val % 4 = 3) :
    (outsAt0 m c t.val t.isLt).1 = (outsAt0 m c t.val t.isLt).2 := by
  rw [outsAt0_C m c t (by omega) hl]
  dsimp only
  frame_out

/-- The blocks point `t` reads and fills. -/
theorem places : ∀ t : Fin cfg0.N, win0_0.index t = ![t.val / 16 + 1, t.val % 4] ∧ win0_1.index t = ![t.val / 4 % 4, t.val % 4] ∧ win0_2.index t = ![t.val / 16 + 1, t.val / 4 % 4] :=
  (by decide +kernel : ∀ t : Fin grid0.N, _)

/-- What the last point of a run leaves in the block it writes back. -/
theorem block (c : Dev nD) (t : Fin cfg0.N) (hl : t.val % 4 = 3) (j : S1408x512.Idx) (a : Fin 4224) (b : Fin 2048)
    (ha : a.val = (t.val / 16 + 1) * 1408 + (j 0).val) (hb : b.val = t.val / 4 % 4 * 512 + (j 1).val) :
    (outsAt0 m c t.val t.isLt).1 j
      = overColumns (K := 8192) (m ((c.tc : Thread nD τ).loc main_arg0)) (m ((c.tc : Thread nD τ).loc main_arg1)) a b := by
  rw [last m c t hl]
  refine (Pipeline.eq_sum_fin_of_reset_step_apply_of_flush (fun n h => (outsAt0 m c n h).2) 4 (fun _ => (0 : EReal)) (term m c)
    (first m c) (next m c) t hl j).trans ?_
  rw [zero_add]
  refine Fin.sum_mul_add_congr fun s k hk => ?_
  have hd := places ⟨4 * (t.val / 4) + s.val, Pipeline.run_point_lt_of_flush t hl s⟩
  congr 1
  · blk_ext [iblk, V, hd.1]
  · blk_ext [iblk, V, hd.2.1]

/-- What the array ends holding. -/
theorem final (c : Dev nD) : (dats m 0 c).arrAt 2 cfg0.N = fun i : S4224x2048.Idx =>
    if 1408 ≤ (i 0).val then overColumns (K := 8192) (A := 4224) (B := 2048) (m ((c.tc : Thread nD τ).loc main_arg0)) (m ((c.tc : Thread nD τ).loc main_arg1)) (i 0) (i 1)
    else (dats m 0 c).A 2 i := by
  refine (dats m 0 c).arrAt_eq_of_coversWhere 2 _ (fun β => 1 ≤ β 0) (by decide +kernel) (fun t hf y => ?_) (fun j => ?_)
  · have h2 := (flush0_2 t).mp hf
    have hp := (places t).2.2
    blk_simp
    rw [after0_2]
    exact block m c t h2 _ _ _ (by blk_simp [hp]) (by blk_simp [hp])
  · blk_simp [Pipeline.Window.cell_apply]
    omega

end Cert.Kernel4Ideal.Value

namespace Cert.Proof

open Cert.Products Idealize.ShloMosaic Idealize.SL.Sem

/-- The reference runs, leaves its arguments unchanged and every counter at zero. -/
theorem quiescent_Reference4Ideal : quiescent_Reference4Ideal := fun m ρ _ =>
  (θ_run Cert.Reference4Ideal.defs _ _).mono (fun r h => ⟨fun c => (h c).2, sem_eq_zero_of_no_sems (by decide) r.2⟩)
    (Cert.Reference4Ideal.Value.run (F := Ideal) m ρ)

/-- Kernel and reference compute the same array. -/
theorem algebraic_Kernel4Ideal_Reference4Ideal : algebraic_Kernel4Ideal_Reference4Ideal := by
  intro m ρ m' ρ' _ hagree
  refine ⟨_, Cert.Kernel4Ideal.Value.run_blocks (F := Ideal) m ρ, ?_⟩
  refine (θ_run Cert.Reference4Ideal.defs _ _).mono (fun _ h c => ⟨?_, (h c).2⟩) (Cert.Reference4Ideal.Value.run (F := Ideal) m' ρ')
  rw [(h c).1, Cert.Kernel4Ideal.Value.final]
  simp only [hagree c]
  clean_types
  funext i
  unfold overColumns
  pointwise
  by_cases hr : (i 0).val < 1408
  · refine (dif_pos hr).trans (Eq.trans ?_ (if_neg (by omega)).symm)
    rw [Cert.Kernel4Ideal.Gen.A_eq]
    exact (congrFun (hagree c).2.2 i).trans (congrFun (Cert.Kernel4Ideal.Gen.V_main_arg2 m c) i).symm
  · refine (dif_neg hr).trans (Eq.trans ?_ (if_pos (by omega)).symm)
    rw [(hagree c).1, (hagree c).2.1]
    refine Finset.sum_congr rfl fun k _ => ?_
    congr 3
    exact Fin.ext (by dsimp only; omega)

end Cert.Proof

end
-- ==== Proof.Product5.lean ====
/-
  The input projection of the third mixer: what the kernel's array ends holding at an index is the
  product of the whole arrays there, and kernel and reference agree.
-/
module

public import proofs.«01_k».proof.Proof.Gen.Kernel5Ideal.Value
public import proofs.«01_k».proof.Proof.Products
public import proofs.«01_k».proof.Defs
public import proofs.«01_k».proof.Proof.Gen.Reference5Ideal.Run
public import Idealize.ShloMosaic.Lib.Quiescent
public import Idealize.ShloMosaic.Lib.Tactic.ValueTie

@[expose] public section

set_option maxRecDepth 16384

noncomputable section

namespace Cert.Kernel5Ideal.Value

open Cert.Kernel5Ideal Cert.Kernel5Ideal.Gen Cert.Products Idealize.ShloMosaic Idealize.ShloMosaic.TcCoe Idealize.SL.Sem

variable (m : (ℓ : Loc nD τ sig) → Buf (Elt Ideal) ℓ)

/-- The blocks point `t` reads and fills. -/
theorem places : ∀ t : Fin cfg0.N, win0_0.index t = ![t.val / 7, 0] ∧ win0_1.index t = ![0, t.val % 7] ∧ win0_2.index t = ![t.val / 7, t.val % 7] :=
  (by decide +kernel : ∀ t : Fin grid0.N, _)

/-- What one point writes, at an entry of its block: the product of the two blocks it reads. -/
theorem written (x : S1408x2048.Idx → EReal) (w : S2048x896.Idx → EReal) (j : S1408x896.Idx) :
    out0_2 (F := Ideal) x w j = plain (K := 2048) x w (j 0) (j 1) := by
  unfold out0_2
  frame_out
  unfold k0_pay1 plain
  pointwise

/-- The product of the two blocks point `t` reads is the product of the whole arrays at the entry it fills. -/
theorem block (c : Dev nD) (t : Fin cfg0.N) (j : S1408x896.Idx) (a : Fin 4224) (b : Fin 6272)
    (ha : a.val = t.val / 7 * 1408 + (j 0).val) (hb : b.val = t.val % 7 * 896 + (j 1).val) :
    plain (A := 1408) (K := 2048) (B := 896) (iblk m c 0 t) (iblk m c 1 t) (j 0) (j 1)
      = plain (K := 2048) (m ((c.tc : Thread nD τ).loc main_arg0)) (m ((c.tc : Thread nD τ).loc main_arg1)) a b := by
  have hp := places t
  refine Finset.sum_congr rfl fun k _ => ?_
  congr 1
  · blk_ext [iblk, V, hp.1]
  · blk_ext [iblk, V, hp.2.1]

/-- What the array ends holding. -/
theorem final (c : Dev nD) : (dats m 0 c).arrAt 2 cfg0.N = fun i : S4224x6272.Idx =>
    plain (A := 4224) (K := 2048) (B := 6272) (m ((c.tc : Thread nD τ).loc main_arg0)) (m ((c.tc : Thread nD τ).loc main_arg1)) (i 0) (i 1) := by
  refine (dats m 0 c).arrAt_eq_of_covers 2 _ (by decide +kernel) fun t hf y => ?_
  have hp := (places t).2.2
  blk_simp
  rw [after0_2, written]
  exact block m c t _ _ _ (by blk_simp [hp]) (by blk_simp [hp])

end Cert.Kernel5Ideal.Value

namespace Cert.Proof

open Cert.Products Idealize.ShloMosaic Idealize.SL.Sem

/-- The reference runs, leaves its arguments unchanged and every counter at zero. -/
theorem quiescent_Reference5Ideal : quiescent_Reference5Ideal := fun m ρ _ =>
  (θ_run Cert.Reference5Ideal.defs _ _).mono (fun r h => ⟨fun c => (h c).2, sem_eq_zero_of_no_sems (by decide) r.2⟩)
    (Cert.Reference5Ideal.Value.run (F := Ideal) m ρ)

/-- Kernel and reference compute the same array. -/
theorem algebraic_Kernel5Ideal_Reference5Ideal : algebraic_Kernel5Ideal_Reference5Ideal := by
  intro m ρ m' ρ' _ hagree
  refine ⟨_, Cert.Kernel5Ideal.Value.run_blocks (F := Ideal) m ρ, ?_⟩
  refine (θ_run Cert.Reference5Ideal.defs _ _).mono (fun _ h c => ⟨?_, (h c).2⟩) (Cert.Reference5Ideal.Value.run (F := Ideal) m' ρ')
  rw [(h c).1, Cert.Kernel5Ideal.Value.final]
  simp only [hagree c]
  clean_types
  funext i
  unfold plain
  pointwise

end Cert.Proof

end
-- ==== Proof.Product6.lean ====
/-
  The weight gradient of the third mixer's input projection: what the kernel's array ends holding at an index is the
  product of the whole arrays there, and kernel and reference agree.
-/
module

public import proofs.«01_k».proof.Proof.Gen.Kernel6Ideal.Value
public import proofs.«01_k».proof.Proof.Products
public import proofs.«01_k».proof.Defs
public import proofs.«01_k».proof.Proof.Gen.Reference6Ideal.Run
public import Idealize.ShloMosaic.Lib.Quiescent
public import Idealize.ShloMosaic.Lib.Tactic.ValueTie

@[expose] public section

set_option maxRecDepth 16384

noncomputable section

namespace Cert.Kernel6Ideal.Value

open Cert.Kernel6Ideal Cert.Kernel6Ideal.Gen Cert.Products Idealize.ShloMosaic Idealize.ShloMosaic.TcCoe Idealize.SL.Sem

variable (m : (ℓ : Loc nD τ sig) → Buf (Elt Ideal) ℓ)

/-- The product of the two blocks point `t` reads, at an entry of the block it fills. -/
def term (c : Dev nD) (t : Fin cfg0.N) (j : S1024x896.Idx) : EReal :=
  overRows (K := 1408) (A := 1024) (B := 896) (iblk m c 0 t) (iblk m c 1 t) (j 0) (j 1)

/-- The first point of a run leaves its own product in the accumulator. -/
theorem first (c : Dev nD) (t : Fin cfg0.N) (h : t.val % 3 = 0) (j : S1024x896.Idx) :
    (outsAt0 m c t.val t.isLt).2 j = (fun _ : S1024x896.Idx => (0 : EReal)) j + term m c t j := by
  rw [outsAt0_A m c t h (by omega)]
  dsimp only
  frame_out
  unfold k0_pay2 k0_pay1 term overRows
  pointwise

/-- Every other point adds its product to the accumulator. -/
theorem next (c : Dev nD) (t : Fin cfg0.N) (h : ¬t.val % 3 = 0) (j : S1024x896.Idx) :
    (outsAt0 m c t.val t.isLt).2 j
      = (outsAt0 m c (t.val - 1) (Nat.lt_of_le_of_lt (Nat.sub_le _ _) t.isLt)).2 j + term m c t j := by
  by_cases hl : t.val % 3 = 2
  · rw [outsAt0_C m c t h hl]
    dsimp only
    frame_out
    unfold k0_pay2 term overRows
    pointwise
    rw [read_unread_whole]
  · rw [outsAt0_B m c t h hl]
    dsimp only
    frame_out
    unfold k0_pay2 term overRows
    pointwise
    rw [read_unread_whole]

/-- The last point of a run writes the accumulator back. -/
theorem last (c : Dev nD) (t : Fin cfg0.N) (hl : t.val % 3 = 2) :
    (outsAt0 m c t.val t.isLt).1 = (outsAt0 m c t.val t.isLt).2 := by
  rw [outsAt0_C m c t (by omega) hl]
  dsimp only
  frame_out

/-- The blocks point `t` reads and fills. -/
theorem places : ∀ t : Fin cfg0.N, win0_0.index t = ![t.val % 3, t.val / 21] ∧ win0_1.index t = ![t.val % 3, t.val / 3 % 7] ∧ win0_2.index t = ![t.val / 21, t.val / 3 % 7] :=
  (by decide +kernel : ∀ t : Fin grid0.N, _)

/-- What the last point of a run leaves in the block it writes back. -/
theorem block (c : Dev nD) (t : Fin cfg0.N) (hl : t.val % 3 = 2) (j : S1024x896.Idx) (a : Fin 2048) (b : Fin 6272)
    (ha : a.val = (t.val / 21) * 1024 + (j 0).val) (hb : b.val = t.val / 3 % 7 * 896 + (j 1).val) :
    (outsAt0 m c t.val t.isLt).1 j
      = overRows (K := 4224) (m ((c.tc : Thread nD τ).loc main_arg0)) (m ((c.tc : Thread nD τ).loc main_arg1)) a b := by
  rw [last m c t hl]
  refine (Pipeline.eq_sum_fin_of_reset_step_apply_of_flush (fun n h => (outsAt0 m c n h).2) 3 (fun _ => (0 : EReal)) (term m c)
    (first m c) (next m c) t hl j).trans ?_
  rw [zero_add]
  refine Fin.sum_mul_add_congr fun s k hk => ?_
  have hd := places ⟨3 * (t.val / 3) + s.val, Pipeline.run_point_lt_of_flush t hl s⟩
  congr 1
  · blk_ext [iblk, V, hd.1]
  · blk_ext [iblk, V, hd.2.1]

/-- What the array ends holding. -/
theorem final (c : Dev nD) : (dats m 0 c).arrAt 2 cfg0.N = fun i => overRows (K := 4224) (A := 2048) (B := 6272) (m ((c.tc : Thread nD τ).loc main_arg0)) (m ((c.tc : Thread nD τ).loc main_arg1)) (i 0) (i 1) := by
  refine (dats m 0 c).arrAt_eq_of_covers 2 _ (by decide +kernel) fun t hf y => ?_
  have h2 := (flush0_2 t).mp hf
  have hp := (places t).2.2
  blk_simp
  rw [after0_2]
  exact block m c t h2 _ _ _ (by blk_simp [hp]) (by blk_simp [hp])

end Cert.Kernel6Ideal.Value

namespace Cert.Proof

open Cert.Products Idealize.ShloMosaic Idealize.SL.Sem

/-- The reference runs, leaves its arguments unchanged and every counter at zero. -/
theorem quiescent_Reference6Ideal : quiescent_Reference6Ideal := fun m ρ _ =>
  (θ_run Cert.Reference6Ideal.defs _ _).mono (fun r h => ⟨fun c => (h c).2, sem_eq_zero_of_no_sems (by decide) r.2⟩)
    (Cert.Reference6Ideal.Value.run (F := Ideal) m ρ)

/-- Kernel and reference compute the same array. -/
theorem algebraic_Kernel6Ideal_Reference6Ideal : algebraic_Kernel6Ideal_Reference6Ideal := by
  intro m ρ m' ρ' _ hagree
  refine ⟨_, Cert.Kernel6Ideal.Value.run_blocks (F := Ideal) m ρ, ?_⟩
  refine (θ_run Cert.Reference6Ideal.defs _ _).mono (fun _ h c => ⟨?_, (h c).2⟩) (Cert.Reference6Ideal.Value.run (F := Ideal) m' ρ')
  rw [(h c).1, Cert.Kernel6Ideal.Value.final]
  simp only [hagree c]
  clean_types
  funext i
  unfold overRows
  pointwise
  exact Finset.sum_congr rfl fun k _ => mul_comm _ _

end Cert.Proof

end
-- ==== Proof.Product7.lean ====
/-
  The gradient of the third mixer's input: what the kernel's array ends holding at an index is the
  product of the whole arrays there, and kernel and reference agree.
-/
module

public import proofs.«01_k».proof.Proof.Gen.Kernel7Ideal.Value
public import proofs.«01_k».proof.Proof.Products
public import proofs.«01_k».proof.Defs
public import proofs.«01_k».proof.Proof.Gen.Reference7Ideal.Run
public import Idealize.ShloMosaic.Lib.Quiescent
public import Idealize.ShloMosaic.Lib.Tactic.ValueTie

@[expose] public section

set_option maxRecDepth 16384

noncomputable section

namespace Cert.Kernel7Ideal.Value

open Cert.Kernel7Ideal Cert.Kernel7Ideal.Gen Cert.Products Idealize.ShloMosaic Idealize.ShloMosaic.TcCoe Idealize.SL.Sem

variable (m : (ℓ : Loc nD τ sig) → Buf (Elt Ideal) ℓ)

/-- The product of the two blocks point `t` reads, at an entry of the block it fills. -/
def term (c : Dev nD) (t : Fin cfg0.N) (j : S1408x512.Idx) : EReal :=
  overColumns (K := 896) (A := 1408) (B := 512) (iblk m c 0 t) (iblk m c 1 t) (j 0) (j 1)

/-- The first point of a run leaves its own product in the accumulator. -/
theorem first (c : Dev nD) (t : Fin cfg0.N) (h : t.val % 7 = 0) (j : S1408x512.Idx) :
    (outsAt0 m c t.val t.isLt).2 j = (fun _ : S1408x512.Idx => (0 : EReal)) j + term m c t j := by
  rw [outsAt0_A m c t h (by omega)]
  dsimp only
  frame_out
  unfold k0_pay2 k0_pay1 term overColumns
  pointwise

/-- Every other point adds its product to the accumulator. -/
theorem next (c : Dev nD) (t : Fin cfg0.N) (h : ¬t.val % 7 = 0) (j : S1408x512.Idx) :
    (outsAt0 m c t.val t.isLt).2 j
      = (outsAt0 m c (t.val - 1) (Nat.lt_of_le_of_lt (Nat.sub_le _ _) t.isLt)).2 j + term m c t j := by
  by_cases hl : t.val % 7 = 6
  · rw [outsAt0_C m c t h hl]
    dsimp only
    frame_out
    unfold k0_pay2 term overColumns
    pointwise
    rw [read_unread_whole]
  · rw [outsAt0_B m c t h hl]
    dsimp only
    frame_out
    unfold k0_pay2 term overColumns
    pointwise
    rw [read_unread_whole]

/-- The last point of a run writes the accumulator back. -/
theorem last (c : Dev nD) (t : Fin cfg0.N) (hl : t.val % 7 = 6) :
    (outsAt0 m c t.val t.isLt).1 = (outsAt0 m c t.val t.isLt).2 := by
  rw [outsAt0_C m c t (by omega) hl]
  dsimp only
  frame_out

/-- The blocks point `t` reads and fills. -/
theorem places : ∀ t : Fin cfg0.N, win0_0.index t = ![t.val / 28, t.val % 7] ∧ win0_1.index t = ![t.val / 7 % 4, t.val % 7] ∧ win0_2.index t = ![t.val / 28, t.val / 7 % 4] :=
  (by decide +kernel : ∀ t : Fin grid0.N, _)

/-- What the last point of a run leaves in the block it writes back. -/
theorem block (c : Dev nD) (t : Fin cfg0.N) (hl : t.val % 7 = 6) (j : S1408x512.Idx) (a : Fin 4224) (b : Fin 2048)
    (ha : a.val = (t.val / 28) * 1408 + (j 0).val) (hb : b.val = t.val / 7 % 4 * 512 + (j 1).val) :
    (outsAt0 m c t.val t.isLt).1 j
      = overColumns (K := 6272) (m ((c.tc : Thread nD τ).loc main_arg0)) (m ((c.tc : Thread nD τ).loc main_arg1)) a b := by
  rw [last m c t hl]
  refine (Pipeline.eq_sum_fin_of_reset_step_apply_of_flush (fun n h => (outsAt0 m c n h).2) 7 (fun _ => (0 : EReal)) (term m c)
    (first m c) (next m c) t hl j).trans ?_
  rw [zero_add]
  refine Fin.sum_mul_add_congr fun s k hk => ?_
  have hd := places ⟨7 * (t.val / 7) + s.val, Pipeline.run_point_lt_of_flush t hl s⟩
  congr 1
  · blk_ext [iblk, V, hd.1]
  · blk_ext [iblk, V, hd.2.1]

/-- What the array ends holding. -/
theorem final (c : Dev nD) : (dats m 0 c).arrAt 2 cfg0.N = fun i => overColumns (K := 6272) (A := 4224) (B := 2048) (m ((c.tc : Thread nD τ).loc main_arg0)) (m ((c.tc : Thread nD τ).loc main_arg1)) (i 0) (i 1) := by
  refine (dats m 0 c).arrAt_eq_of_covers 2 _ (by decide +kernel) fun t hf y => ?_
  have h2 := (flush0_2 t).mp hf
  have hp := (places t).2.2
  blk_simp
  rw [after0_2]
  exact block m c t h2 _ _ _ (by blk_simp [hp]) (by blk_simp [hp])

end Cert.Kernel7Ideal.Value

namespace Cert.Proof

open Cert.Products Idealize.ShloMosaic Idealize.SL.Sem

/-- The reference runs, leaves its arguments unchanged and every counter at zero. -/
theorem quiescent_Reference7Ideal : quiescent_Reference7Ideal := fun m ρ _ =>
  (θ_run Cert.Reference7Ideal.defs _ _).mono (fun r h => ⟨fun c => (h c).2, sem_eq_zero_of_no_sems (by decide) r.2⟩)
    (Cert.Reference7Ideal.Value.run (F := Ideal) m ρ)

/-- Kernel and reference compute the same array. -/
theorem algebraic_Kernel7Ideal_Reference7Ideal : algebraic_Kernel7Ideal_Reference7Ideal := by
  intro m ρ m' ρ' _ hagree
  refine ⟨_, Cert.Kernel7Ideal.Value.run_blocks (F := Ideal) m ρ, ?_⟩
  refine (θ_run Cert.Reference7Ideal.defs _ _).mono (fun _ h c => ⟨?_, (h c).2⟩) (Cert.Reference7Ideal.Value.run (F := Ideal) m' ρ')
  rw [(h c).1, Cert.Kernel7Ideal.Value.final]
  simp only [hagree c]
  clean_types
  funext i
  unfold overColumns
  pointwise

end Cert.Proof

end
-- ==== Proof.Product8.lean ====
/-
  The weight gradient of the third mixer's output projection: what the kernel's array ends holding at an index is the
  product of the whole arrays there, and kernel and reference agree.
-/
module

public import proofs.«01_k».proof.Proof.Gen.Kernel8Ideal.Value
public import proofs.«01_k».proof.Proof.Products
public import proofs.«01_k».proof.Defs
public import proofs.«01_k».proof.Proof.Gen.Reference8Ideal.Run
public import Idealize.ShloMosaic.Lib.Quiescent
public import Idealize.ShloMosaic.Lib.Tactic.ValueTie

@[expose] public section

set_option maxRecDepth 16384

noncomputable section

namespace Cert.Kernel8Ideal.Value

open Cert.Kernel8Ideal Cert.Kernel8Ideal.Gen Cert.Products Idealize.ShloMosaic Idealize.ShloMosaic.TcCoe Idealize.SL.Sem

variable (m : (ℓ : Loc nD τ sig) → Buf (Elt Ideal) ℓ)

/-- The product of the two blocks point `t` reads, at an entry of the block it fills. -/
def term (c : Dev nD) (t : Fin cfg0.N) (j : S1024x1024.Idx) : EReal :=
  overRows (K := 1408) (A := 1024) (B := 1024) (iblk m c 0 t) (iblk m c 1 t) (j 0) (j 1)

/-- The first point of a run leaves its own product in the accumulator. -/
theorem first (c : Dev nD) (t : Fin cfg0.N) (h : t.val % 3 = 0) (j : S1024x1024.Idx) :
    (outsAt0 m c t.val t.isLt).2 j = (fun _ : S1024x1024.Idx => (0 : EReal)) j + term m c t j := by
  rw [outsAt0_A m c t h (by omega)]
  dsimp only
  frame_out
  unfold k0_pay2 k0_pay1 term overRows
  pointwise

/-- Every other point adds its product to the accumulator. -/
theorem next (c : Dev nD) (t : Fin cfg0.N) (h : ¬t.val % 3 = 0) (j : S1024x1024.Idx) :
    (outsAt0 m c t.val t.isLt).2 j
      = (outsAt0 m c (t.val - 1) (Nat.lt_of_le_of_lt (Nat.sub_le _ _) t.isLt)).2 j + term m c t j := by
  by_cases hl : t.val % 3 = 2
  · rw [outsAt0_C m c t h hl]
    dsimp only
    frame_out
    unfold k0_pay2 term overRows
    pointwise
    rw [read_unread_whole]
  · rw [outsAt0_B m c t h hl]
    dsimp only
    frame_out
    unfold k0_pay2 term overRows
    pointwise
    rw [read_unread_whole]

/-- The last point of a run writes the accumulator back. -/
theorem last (c : Dev nD) (t : Fin cfg0.N) (hl : t.val % 3 = 2) :
    (outsAt0 m c t.val t.isLt).1 = (outsAt0 m c t.val t.isLt).2 := by
  rw [outsAt0_C m c t (by omega) hl]
  dsimp only
  frame_out

/-- The blocks point `t` reads and fills. -/
theorem places : ∀ t : Fin cfg0.N, win0_0.index t = ![t.val % 3, t.val / 6] ∧ win0_1.index t = ![t.val % 3, t.val / 3 % 2] ∧ win0_2.index t = ![t.val / 6, t.val / 3 % 2] :=
  (by decide +kernel : ∀ t : Fin grid0.N, _)

/-- What the last point of a run leaves in the block it writes back. -/
theorem block (c : Dev nD) (t : Fin cfg0.N) (hl : t.val % 3 = 2) (j : S1024x1024.Idx) (a : Fin 2048) (b : Fin 2048)
    (ha : a.val = (t.val / 6) * 1024 + (j 0).val) (hb : b.val = t.val / 3 % 2 * 1024 + (j 1).val) :
    (outsAt0 m c t.val t.isLt).1 j
      = overRows (K := 4224) (m ((c.tc : Thread nD τ).loc main_arg0)) (m ((c.tc : Thread nD τ).loc main_arg1)) a b := by
  rw [last m c t hl]
  refine (Pipeline.eq_sum_fin_of_reset_step_apply_of_flush (fun n h => (outsAt0 m c n h).2) 3 (fun _ => (0 : EReal)) (term m c)
    (first m c) (next m c) t hl j).trans ?_
  rw [zero_add]
  refine Fin.sum_mul_add_congr fun s k hk => ?_
  have hd := places ⟨3 * (t.val / 3) + s.val, Pipeline.run_point_lt_of_flush t hl s⟩
  congr 1
  · blk_ext [iblk, V, hd.1]
  · blk_ext [iblk, V, hd.2.1]

/-- What the array ends holding. -/
theorem final (c : Dev nD) : (dats m 0 c).arrAt 2 cfg0.N = fun i => overRows (K := 4224) (A := 2048) (B := 2048) (m ((c.tc : Thread nD τ).loc main_arg0)) (m ((c.tc : Thread nD τ).loc main_arg1)) (i 0) (i 1) := by
  refine (dats m 0 c).arrAt_eq_of_covers 2 _ (by decide +kernel) fun t hf y => ?_
  have h2 := (flush0_2 t).mp hf
  have hp := (places t).2.2
  blk_simp
  rw [after0_2]
  exact block m c t h2 _ _ _ (by blk_simp [hp]) (by blk_simp [hp])

end Cert.Kernel8Ideal.Value

namespace Cert.Proof

open Cert.Products Idealize.ShloMosaic Idealize.SL.Sem

/-- The reference runs, leaves its arguments unchanged and every counter at zero. -/
theorem quiescent_Reference8Ideal : quiescent_Reference8Ideal := fun m ρ _ =>
  (θ_run Cert.Reference8Ideal.defs _ _).mono (fun r h => ⟨fun c => (h c).2, sem_eq_zero_of_no_sems (by decide) r.2⟩)
    (Cert.Reference8Ideal.Value.run (F := Ideal) m ρ)

/-- Kernel and reference compute the same array. -/
theorem algebraic_Kernel8Ideal_Reference8Ideal : algebraic_Kernel8Ideal_Reference8Ideal := by
  intro m ρ m' ρ' _ hagree
  refine ⟨_, Cert.Kernel8Ideal.Value.run_blocks (F := Ideal) m ρ, ?_⟩
  refine (θ_run Cert.Reference8Ideal.defs _ _).mono (fun _ h c => ⟨?_, (h c).2⟩) (Cert.Reference8Ideal.Value.run (F := Ideal) m' ρ')
  rw [(h c).1, Cert.Kernel8Ideal.Value.final]
  simp only [hagree c]
  clean_types
  funext i
  unfold overRows
  pointwise
  exact Finset.sum_congr rfl fun k _ => mul_comm _ _

end Cert.Proof

end
-- ==== Proof.Product9.lean ====
/-
  The gradient of the third mixer's output: what the kernel's array ends holding at an index is the
  product of the whole arrays there, and kernel and reference agree.
-/
module

public import proofs.«01_k».proof.Proof.Gen.Kernel9Ideal.Value
public import proofs.«01_k».proof.Proof.Products
public import proofs.«01_k».proof.Defs
public import proofs.«01_k».proof.Proof.Gen.Reference9Ideal.Run
public import Idealize.ShloMosaic.Lib.Quiescent
public import Idealize.ShloMosaic.Lib.Tactic.ValueTie

@[expose] public section

set_option maxRecDepth 16384

noncomputable section

namespace Cert.Kernel9Ideal.Value

open Cert.Kernel9Ideal Cert.Kernel9Ideal.Gen Cert.Products Idealize.ShloMosaic Idealize.ShloMosaic.TcCoe Idealize.SL.Sem

variable (m : (ℓ : Loc nD τ sig) → Buf (Elt Ideal) ℓ)

/-- The product of the two blocks point `t` reads, at an entry of the block it fills. -/
def term (c : Dev nD) (t : Fin cfg0.N) (j : S1408x512.Idx) : EReal :=
  overColumns (K := 1024) (A := 1408) (B := 512) (iblk m c 0 t) (iblk m c 1 t) (j 0) (j 1)

/-- The first point of a run leaves its own product in the accumulator. -/
theorem first (c : Dev nD) (t : Fin cfg0.N) (h : t.val % 2 = 0) (j : S1408x512.Idx) :
    (outsAt0 m c t.val t.isLt).2 j = (fun _ : S1408x512.Idx => (0 : EReal)) j + term m c t j := by
  rw [outsAt0_A m c t h (by omega)]
  dsimp only
  frame_out
  unfold k0_pay2 k0_pay1 term overColumns
  pointwise

/-- Every other point adds its product to the accumulator. -/
theorem next (c : Dev nD) (t : Fin cfg0.N) (h : ¬t.val % 2 = 0) (j : S1408x512.Idx) :
    (outsAt0 m c t.val t.isLt).2 j
      = (outsAt0 m c (t.val - 1) (Nat.lt_of_le_of_lt (Nat.sub_le _ _) t.isLt)).2 j + term m c t j := by
  rw [outsAt0_B m c t h (by omega)]
  dsimp only
  frame_out
  unfold k0_pay2 term overColumns
  pointwise
  rw [read_unread_whole]

/-- The last point of a run writes the accumulator back. -/
theorem last (c : Dev nD) (t : Fin cfg0.N) (hl : t.val % 2 = 1) :
    (outsAt0 m c t.val t.isLt).1 = (outsAt0 m c t.val t.isLt).2 := by
  rw [outsAt0_B m c t (by omega) hl]
  dsimp only
  frame_out

/-- The blocks point `t` reads and fills. -/
theorem places : ∀ t : Fin cfg0.N, win0_0.index t = ![t.val / 8, t.val % 2] ∧ win0_1.index t = ![t.val / 2 % 4, t.val % 2] ∧ win0_2.index t = ![t.val / 8, t.val / 2 % 4] :=
  (by decide +kernel : ∀ t : Fin grid0.N, _)

/-- What the last point of a run leaves in the block it writes back. -/
theorem block (c : Dev nD) (t : Fin cfg0.N) (hl : t.val % 2 = 1) (j : S1408x512.Idx) (a : Fin 4224) (b : Fin 2048)
    (ha : a.val = (t.val / 8) * 1408 + (j 0).val) (hb : b.val = t.val / 2 % 4 * 512 + (j 1).val) :
    (outsAt0 m c t.val t.isLt).1 j
      = overColumns (K := 2048) (m ((c.tc : Thread nD τ).loc main_arg0)) (m ((c.tc : Thread nD τ).loc main_arg1)) a b := by
  rw [last m c t hl]
  refine (Pipeline.eq_sum_fin_of_reset_step_apply_of_flush (fun n h => (outsAt0 m c n h).2) 2 (fun _ => (0 : EReal)) (term m c)
    (first m c) (next m c) t hl j).trans ?_
  rw [zero_add]
  refine Fin.sum_mul_add_congr fun s k hk => ?_
  have hd := places ⟨2 * (t.val / 2) + s.val, Pipeline.run_point_lt_of_flush t hl s⟩
  congr 1
  · blk_ext [iblk, V, hd.1]
  · blk_ext [iblk, V, hd.2.1]

/-- What the array ends holding. -/
theorem final (c : Dev nD) : (dats m 0 c).arrAt 2 cfg0.N = fun i => overColumns (K := 2048) (A := 4224) (B := 2048) (m ((c.tc : Thread nD τ).loc main_arg0)) (m ((c.tc : Thread nD τ).loc main_arg1)) (i 0) (i 1) := by
  refine (dats m 0 c).arrAt_eq_of_covers 2 _ (by decide +kernel) fun t hf y => ?_
  have h2 := (flush0_2 t).mp hf
  have hp := (places t).2.2
  blk_simp
  rw [after0_2]
  exact block m c t h2 _ _ _ (by blk_simp [hp]) (by blk_simp [hp])

end Cert.Kernel9Ideal.Value

namespace Cert.Proof

open Cert.Products Idealize.ShloMosaic Idealize.SL.Sem

/-- The reference runs, leaves its arguments unchanged and every counter at zero. -/
theorem quiescent_Reference9Ideal : quiescent_Reference9Ideal := fun m ρ _ =>
  (θ_run Cert.Reference9Ideal.defs _ _).mono (fun r h => ⟨fun c => (h c).2, sem_eq_zero_of_no_sems (by decide) r.2⟩)
    (Cert.Reference9Ideal.Value.run (F := Ideal) m ρ)

/-- Kernel and reference compute the same array. -/
theorem algebraic_Kernel9Ideal_Reference9Ideal : algebraic_Kernel9Ideal_Reference9Ideal := by
  intro m ρ m' ρ' _ hagree
  refine ⟨_, Cert.Kernel9Ideal.Value.run_blocks (F := Ideal) m ρ, ?_⟩
  refine (θ_run Cert.Reference9Ideal.defs _ _).mono (fun _ h c => ⟨?_, (h c).2⟩) (Cert.Reference9Ideal.Value.run (F := Ideal) m' ρ')
  rw [(h c).1, Cert.Kernel9Ideal.Value.final]
  simp only [hagree c]
  clean_types
  funext i
  unfold overColumns
  pointwise

end Cert.Proof

end
-- ==== Proof.Product10.lean ====
/-
  The output projection of the third mixer, with the residual added: what the kernel's array ends holding at an index is the
  product of the whole arrays there plus the residual, and kernel and reference agree.
-/
module

public import proofs.«01_k».proof.Proof.Gen.Kernel10Ideal.Value
public import proofs.«01_k».proof.Proof.Products
public import proofs.«01_k».proof.Defs
public import proofs.«01_k».proof.Proof.Gen.Reference10Ideal.Run
public import Idealize.ShloMosaic.Lib.Quiescent
public import Idealize.ShloMosaic.Lib.Tactic.ValueTie

@[expose] public section

set_option maxRecDepth 16384

noncomputable section

namespace Cert.Kernel10Ideal.Value

open Cert.Kernel10Ideal Cert.Kernel10Ideal.Gen Cert.Products Idealize.ShloMosaic Idealize.ShloMosaic.TcCoe Idealize.SL.Sem

variable (m : (ℓ : Loc nD τ sig) → Buf (Elt Ideal) ℓ)

/-- The blocks point `t` reads and fills. -/
theorem places : ∀ t : Fin cfg0.N, win0_0.index t = ![t.val / 4, 0] ∧ win0_1.index t = ![0, t.val % 4] ∧ win0_2.index t = ![t.val / 4, t.val % 4] ∧ win0_3.index t = ![t.val / 4, t.val % 4] :=
  (by decide +kernel : ∀ t : Fin grid0.N, _)

/-- What one point writes, at an entry of its block: the product of the first two blocks it reads plus the third. -/
theorem written (x : S1408x2048.Idx → EReal) (w : S2048x512.Idx → EReal) (h : S1408x512.Idx → EReal) (j : S1408x512.Idx) :
    out0_3 (F := Ideal) x w h j = plain (K := 2048) x w (j 0) (j 1) + h j := by
  unfold out0_3
  frame_out
  unfold k0_pay1 plain
  pointwise

/-- What the array ends holding. -/
theorem final (c : Dev nD) : (dats m 0 c).arrAt 3 cfg0.N = fun i : S4224x2048.Idx =>
    plain (A := 4224) (K := 2048) (B := 2048) (m ((c.tc : Thread nD τ).loc main_arg0)) (m ((c.tc : Thread nD τ).loc main_arg1)) (i 0) (i 1) + m ((c.tc : Thread nD τ).loc main_arg2) i := by
  refine (dats m 0 c).arrAt_eq_of_covers 3 _ (by decide +kernel) fun t hf y => ?_
  have hp := places t
  blk_simp
  rw [after0_3, written]
  unfold plain
  refine congrArg₂ (· + ·) (Finset.sum_congr rfl fun k _ => ?_) ?_
  · congr 1
    · blk_ext [iblk, V, hp.1, hp.2.2.2]
    · blk_ext [iblk, V, hp.2.1, hp.2.2.2]
  · blk_ext [iblk, V, hp.2.2.1, hp.2.2.2]

end Cert.Kernel10Ideal.Value

namespace Cert.Proof

open Cert.Products Idealize.ShloMosaic Idealize.SL.Sem

/-- The reference runs, leaves its arguments unchanged and every counter at zero. -/
theorem quiescent_Reference10Ideal : quiescent_Reference10Ideal := fun m ρ _ =>
  (θ_run Cert.Reference10Ideal.defs _ _).mono (fun r h => ⟨fun c => (h c).2, sem_eq_zero_of_no_sems (by decide) r.2⟩)
    (Cert.Reference10Ideal.Value.run (F := Ideal) m ρ)

/-- Kernel and reference compute the same array. -/
theorem algebraic_Kernel10Ideal_Reference10Ideal : algebraic_Kernel10Ideal_Reference10Ideal := by
  intro m ρ m' ρ' _ hagree
  refine ⟨_, Cert.Kernel10Ideal.Value.run_blocks (F := Ideal) m ρ, ?_⟩
  refine (θ_run Cert.Reference10Ideal.defs _ _).mono (fun _ h c => ⟨?_, (h c).2⟩) (Cert.Reference10Ideal.Value.run (F := Ideal) m' ρ')
  rw [(h c).1, Cert.Kernel10Ideal.Value.final]
  simp only [hagree c]
  clean_types
  funext i
  unfold plain
  pointwise
  exact add_comm _ _

end Cert.Proof

end
-- ==== Proof.Product11.lean ====
/-
  The weight gradient of the first two mixers' output projection, the first mixer's rows: what the kernel's array ends holding at an index is the
  product of the whole arrays there, and kernel and reference agree.
-/
module

public import proofs.«01_k».proof.Proof.Gen.Kernel11Ideal.Value
public import proofs.«01_k».proof.Proof.Products
public import proofs.«01_k».proof.Defs
public import proofs.«01_k».proof.Proof.Gen.Reference11Ideal.Run
public import proofs.«01_k».proof.Proof.Gen.On_ret_rows
public import Idealize.ShloMosaic.Lib.Quiescent
public import Idealize.ShloMosaic.Lib.Tactic.ValueTie

@[expose] public section

set_option maxRecDepth 16384

noncomputable section

namespace Cert.Kernel11Ideal.Value

open Cert.Kernel11Ideal Cert.Kernel11Ideal.Gen Cert.Products Idealize.ShloMosaic Idealize.ShloMosaic.TcCoe Idealize.SL.Sem

variable (m : (ℓ : Loc nD τ sig) → Buf (Elt Ideal) ℓ)

/-- The product of the two blocks point `t` reads, at an entry of the block it fills. -/
def term (c : Dev nD) (t : Fin cfg0.N) (j : S1024x1024.Idx) : EReal :=
  overRows (K := 1408) (A := 1024) (B := 1024) (iblk m c 0 t) (iblk m c 1 t) (j 0) (j 1)

/-- The first point of a run leaves its own product in the accumulator. -/
theorem first (c : Dev nD) (t : Fin cfg0.N) (h : t.val % 3 = 0) (j : S1024x1024.Idx) :
    (outsAt0 m c t.val t.isLt).2 j = (fun _ : S1024x1024.Idx => (0 : EReal)) j + term m c t j := by
  rw [outsAt0_A m c t h (by omega)]
  dsimp only
  frame_out
  unfold k0_pay2 k0_pay1 term overRows
  pointwise

/-- Every other point adds its product to the accumulator. -/
theorem next (c : Dev nD) (t : Fin cfg0.N) (h : ¬t.val % 3 = 0) (j : S1024x1024.Idx) :
    (outsAt0 m c t.val t.isLt).2 j
      = (outsAt0 m c (t.val - 1) (Nat.lt_of_le_of_lt (Nat.sub_le _ _) t.isLt)).2 j + term m c t j := by
  by_cases hl : t.val % 3 = 2
  · rw [outsAt0_C m c t h hl]
    dsimp only
    frame_out
    unfold k0_pay2 term overRows
    pointwise
    rw [read_unread_whole]
  · rw [outsAt0_B m c t h hl]
    dsimp only
    frame_out
    unfold k0_pay2 term overRows
    pointwise
    rw [read_unread_whole]

/-- The last point of a run writes the accumulator back. -/
theorem last (c : Dev nD) (t : Fin cfg0.N) (hl : t.val % 3 = 2) :
    (outsAt0 m c t.val t.isLt).1 = (outsAt0 m c t.val t.isLt).2 := by
  rw [outsAt0_C m c t (by omega) hl]
  dsimp only
  frame_out

/-- The blocks point `t` reads and fills. -/
theorem places : ∀ t : Fin cfg0.N, win0_0.index t = ![t.val % 3, t.val / 6] ∧ win0_1.index t = ![t.val % 3, t.val / 3 % 2] ∧ win0_2.index t = ![t.val / 6, t.val / 3 % 2] :=
  (by decide +kernel : ∀ t : Fin grid0.N, _)

/-- What the last point of a run leaves in the block it writes back. -/
theorem block (c : Dev nD) (t : Fin cfg0.N) (hl : t.val % 3 = 2) (j : S1024x1024.Idx) (a : Fin 2048) (b : Fin 2048)
    (ha : a.val = (t.val / 6) * 1024 + (j 0).val) (hb : b.val = t.val / 3 % 2 * 1024 + (j 1).val) :
    (outsAt0 m c t.val t.isLt).1 j
      = overRows (K := 4224) (m ((c.tc : Thread nD τ).loc main_arg0)) (m ((c.tc : Thread nD τ).loc main_arg1)) a b := by
  rw [last m c t hl]
  refine (Pipeline.eq_sum_fin_of_reset_step_apply_of_flush (fun n h => (outsAt0 m c n h).2) 3 (fun _ => (0 : EReal)) (term m c)
    (first m c) (next m c) t hl j).trans ?_
  rw [zero_add]
  refine Fin.sum_mul_add_congr fun s k hk => ?_
  have hd := places ⟨3 * (t.val / 3) + s.val, Pipeline.run_point_lt_of_flush t hl s⟩
  congr 1
  · blk_ext [iblk, V, hd.1]
  · blk_ext [iblk, V, hd.2.1]

/-- What the array ends holding. -/
theorem final (c : Dev nD) : (dats m 0 c).arrAt 2 cfg0.N = fun i : S3072x2048.Idx =>
    if (i 0).val < 2048 then overRows (K := 4224) (A := 2048) (B := 2048) (m ((c.tc : Thread nD τ).loc main_arg0)) (m ((c.tc : Thread nD τ).loc main_arg1)) ⟨(i 0).val % 2048, Nat.mod_lt _ (by decide)⟩ (i 1)
    else (dats m 0 c).A 2 i := by
  refine (dats m 0 c).arrAt_eq_of_coversWhere 2 _ (fun β => β 0 < 2) (by decide +kernel) (fun t hf y => ?_) (fun j => ?_)
  · have h2 := (flush0_2 t).mp hf
    have hp := (places t).2.2
    blk_simp
    rw [after0_2]
    refine block m c t h2 _ _ _ ?_ (by blk_simp [hp])
    blk_simp [hp]
    have ht : t.val < 12 := t.isLt
    have hy : (y 0).val < 1024 := (y 0).isLt
    show (t.val / 6 * 1024 + (y 0).val) % 2048 = _
    omega
  · blk_simp [Pipeline.Window.cell_apply]
    omega

end Cert.Kernel11Ideal.Value

namespace Cert.Proof

open Cert.Products Idealize.ShloMosaic Idealize.SL.Sem

/-- The reference runs, leaves its arguments unchanged and every counter at zero. -/
theorem quiescent_Reference11Ideal : quiescent_Reference11Ideal := fun m ρ _ =>
  (θ_run Cert.Reference11Ideal.defs _ _).mono (fun r h => ⟨fun c => (h c).2, sem_eq_zero_of_no_sems (by decide) r.2⟩)
    (Cert.Reference11Ideal.Value.run (F := Ideal) m ρ)

/-- Kernel and reference compute the same array where the mask is set. -/
theorem algebraic_Kernel11Ideal_Reference11Ideal_on_ret_rows : algebraic_Kernel11Ideal_Reference11Ideal_on_ret_rows := by
  intro m ρ m' ρ' _ hagree
  refine ⟨_, (θ_run Cert.Kernel11Ideal.defs _ _).mono (fun _ h c => ⟨fun i _ => congrFun (h c).1 i, (h c).2⟩) (Cert.Kernel11Ideal.Value.run_blocks (F := Ideal) m ρ), ?_⟩
  refine (θ_run Cert.Reference11Ideal.defs _ _).mono (fun _ h c => ⟨fun i hi => ?_, (h c).2⟩) (Cert.Reference11Ideal.Value.run (F := Ideal) m' ρ')
  rw [(h c).1, Cert.Kernel11Ideal.Value.final]
  simp only [hagree c]
  clean_types
  unfold overRows
  have hr : (i 0).val < 2048 := by
    revert hi
    unfold Cert.On_ret_rows.fn
    pointwise
    have hi := (i 0).isLt
    exact (WordCmp.cmpi_slt_ofNat_eq_one_iff (by simp at hi; omega) (by decide)).mp
  pointwise
  rw [dif_pos hr, if_pos hr]
  refine Finset.sum_congr rfl fun k _ => (mul_comm _ _).trans ?_
  simp only [Nat.mod_eq_of_lt hr]

end Cert.Proof

end
-- ==== Proof.Product12.lean ====
/-
  The weight gradient of the first two mixers' output projection, the second mixer's rows: what the kernel's array ends holding at an index is the
  product of the whole arrays there, and kernel and reference agree.
-/
module

public import proofs.«01_k».proof.Proof.Gen.Kernel12Ideal.Value
public import proofs.«01_k».proof.Proof.Products
public import proofs.«01_k».proof.Defs
public import proofs.«01_k».proof.Proof.Gen.Reference12Ideal.Run
public import Idealize.ShloMosaic.Lib.Quiescent
public import Idealize.ShloMosaic.Lib.Tactic.ValueTie

@[expose] public section

set_option maxRecDepth 16384

noncomputable section

namespace Cert.Kernel12Ideal.Value

open Cert.Kernel12Ideal Cert.Kernel12Ideal.Gen Cert.Products Idealize.ShloMosaic Idealize.ShloMosaic.TcCoe Idealize.SL.Sem

variable (m : (ℓ : Loc nD τ sig) → Buf (Elt Ideal) ℓ)

/-- The product of the two blocks point `t` reads, at an entry of the block it fills. -/
def term (c : Dev nD) (t : Fin cfg0.N) (j : S1024x1024.Idx) : EReal :=
  overRows (K := 1408) (A := 1024) (B := 1024) (iblk m c 0 t) (iblk m c 1 t) (j 0) (j 1)

/-- The first point of a run leaves its own product in the accumulator. -/
theorem first (c : Dev nD) (t : Fin cfg0.N) (h : t.val % 3 = 0) (j : S1024x1024.Idx) :
    (outsAt0 m c t.val t.isLt).2 j = (fun _ : S1024x1024.Idx => (0 : EReal)) j + term m c t j := by
  rw [outsAt0_A m c t h (by omega)]
  dsimp only
  frame_out
  unfold k0_pay2 k0_pay1 term overRows
  pointwise

/-- Every other point adds its product to the accumulator. -/
theorem next (c : Dev nD) (t : Fin cfg0.N) (h : ¬t.val % 3 = 0) (j : S1024x1024.Idx) :
    (outsAt0 m c t.val t.isLt).2 j
      = (outsAt0 m c (t.val - 1) (Nat.lt_of_le_of_lt (Nat.sub_le _ _) t.isLt)).2 j + term m c t j := by
  by_cases hl : t.val % 3 = 2
  · rw [outsAt0_C m c t h hl]
    dsimp only
    frame_out
    unfold k0_pay2 term overRows
    pointwise
    rw [read_unread_whole]
  · rw [outsAt0_B m c t h hl]
    dsimp only
    frame_out
    unfold k0_pay2 term overRows
    pointwise
    rw [read_unread_whole]

/-- The last point of a run writes the accumulator back. -/
theorem last (c : Dev nD) (t : Fin cfg0.N) (hl : t.val % 3 = 2) :
    (outsAt0 m c t.val t.isLt).1 = (outsAt0 m c t.val t.isLt).2 := by
  rw [outsAt0_C m c t (by omega) hl]
  dsimp only
  frame_out

/-- The blocks point `t` reads and fills. -/
theorem places : ∀ t : Fin cfg0.N, win0_0.index t = ![t.val % 3, t.val / 6] ∧ win0_1.index t = ![t.val % 3, t.val / 3 % 2] ∧ win0_2.index t = ![t.val / 6 + 2, t.val / 3 % 2] :=
  (by decide +kernel : ∀ t : Fin grid0.N, _)

/-- What the last point of a run leaves in the block it writes back. -/
theorem block (c : Dev nD) (t : Fin cfg0.N) (hl : t.val % 3 = 2) (j : S1024x1024.Idx) (a : Fin 1024) (b : Fin 2048)
    (ha : a.val = (t.val / 6) * 1024 + (j 0).val) (hb : b.val = t.val / 3 % 2 * 1024 + (j 1).val) :
    (outsAt0 m c t.val t.isLt).1 j
      = overRows (K := 4224) (m ((c.tc : Thread nD τ).loc main_arg0)) (m ((c.tc : Thread nD τ).loc main_arg1)) a b := by
  rw [last m c t hl]
  refine (Pipeline.eq_sum_fin_of_reset_step_apply_of_flush (fun n h => (outsAt0 m c n h).2) 3 (fun _ => (0 : EReal)) (term m c)
    (first m c) (next m c) t hl j).trans ?_
  rw [zero_add]
  refine Fin.sum_mul_add_congr fun s k hk => ?_
  have hd := places ⟨3 * (t.val / 3) + s.val, Pipeline.run_point_lt_of_flush t hl s⟩
  congr 1
  · blk_ext [iblk, V, hd.1]
  · blk_ext [iblk, V, hd.2.1]

/-- What the array ends holding. -/
theorem final (c : Dev nD) : (dats m 0 c).arrAt 2 cfg0.N = fun i : S3072x2048.Idx =>
    if 2048 ≤ (i 0).val then overRows (K := 4224) (A := 1024) (B := 2048) (m ((c.tc : Thread nD τ).loc main_arg0)) (m ((c.tc : Thread nD τ).loc main_arg1)) ⟨((i 0).val - 2048) % 1024, Nat.mod_lt _ (by decide)⟩ (i 1)
    else (dats m 0 c).A 2 i := by
  refine (dats m 0 c).arrAt_eq_of_coversWhere 2 _ (fun β => 2 ≤ β 0) (by decide +kernel) (fun t hf y => ?_) (fun j => ?_)
  · have h2 := (flush0_2 t).mp hf
    have hp := (places t).2.2
    blk_simp
    rw [after0_2]
    refine block m c t h2 _ _ _ ?_ (by blk_simp [hp])
    blk_simp [hp]
    have ht : t.val < 6 := t.isLt
    have hy : (y 0).val < 1024 := (y 0).isLt
    show ((t.val / 6 + 2) * 1024 + (y 0).val - 2048) % 1024 = _
    omega
  · blk_simp [Pipeline.Window.cell_apply]
    omega

end Cert.Kernel12Ideal.Value

namespace Cert.Proof

open Cert.Products Idealize.ShloMosaic Idealize.SL.Sem

/-- The reference runs, leaves its arguments unchanged and every counter at zero. -/
theorem quiescent_Reference12Ideal : quiescent_Reference12Ideal := fun m ρ _ =>
  (θ_run Cert.Reference12Ideal.defs _ _).mono (fun r h => ⟨fun c => (h c).2, sem_eq_zero_of_no_sems (by decide) r.2⟩)
    (Cert.Reference12Ideal.Value.run (F := Ideal) m ρ)

/-- Kernel and reference compute the same array. -/
theorem algebraic_Kernel12Ideal_Reference12Ideal : algebraic_Kernel12Ideal_Reference12Ideal := by
  intro m ρ m' ρ' _ hagree
  refine ⟨_, Cert.Kernel12Ideal.Value.run_blocks (F := Ideal) m ρ, ?_⟩
  refine (θ_run Cert.Reference12Ideal.defs _ _).mono (fun _ h c => ⟨?_, (h c).2⟩) (Cert.Reference12Ideal.Value.run (F := Ideal) m' ρ')
  rw [(h c).1, Cert.Kernel12Ideal.Value.final]
  simp only [hagree c]
  clean_types
  funext i
  unfold overRows
  pointwise
  by_cases hr : (i 0).val < 2048
  · refine (dif_pos hr).trans (Eq.trans ?_ (if_neg (by omega)).symm)
    rw [Cert.Kernel12Ideal.Gen.A_eq]
    exact (congrFun (hagree c).2.2 i).trans (congrFun (Cert.Kernel12Ideal.Gen.V_main_arg2 m c) i).symm
  · refine (dif_neg hr).trans (Eq.trans ?_ (if_pos (by omega)).symm)
    rw [(hagree c).1, (hagree c).2.1]
    refine Finset.sum_congr rfl fun k _ => (mul_comm _ _).trans ?_
    have hi := (i 0).isLt
    congr 3
    exact Fin.ext (by simp at hi ⊢; omega)

end Cert.Proof

end
-- ==== Proof.Product13.lean ====
/-
  The gradient of the first two mixers' outputs: what the kernel's array ends holding at an index is the
  product of the whole arrays there, and kernel and reference agree.
-/
module

public import proofs.«01_k».proof.Proof.Gen.Kernel13Ideal.Value
public import proofs.«01_k».proof.Proof.Products
public import proofs.«01_k».proof.Defs
public import proofs.«01_k».proof.Proof.Gen.Reference13Ideal.Run
public import Idealize.ShloMosaic.Lib.Quiescent
public import Idealize.ShloMosaic.Lib.Tactic.ValueTie

@[expose] public section

set_option maxRecDepth 16384

noncomputable section

namespace Cert.Kernel13Ideal.Value

open Cert.Kernel13Ideal Cert.Kernel13Ideal.Gen Cert.Products Idealize.ShloMosaic Idealize.ShloMosaic.TcCoe Idealize.SL.Sem

variable (m : (ℓ : Loc nD τ sig) → Buf (Elt Ideal) ℓ)

/-- The product of the two blocks point `t` reads, at an entry of the block it fills. -/
def term (c : Dev nD) (t : Fin cfg0.N) (j : S1408x512.Idx) : EReal :=
  overColumns (K := 1024) (A := 1408) (B := 512) (iblk m c 0 t) (iblk m c 1 t) (j 0) (j 1)

/-- The first point of a run leaves its own product in the accumulator. -/
theorem first (c : Dev nD) (t : Fin cfg0.N) (h : t.val % 2 = 0) (j : S1408x512.Idx) :
    (outsAt0 m c t.val t.isLt).2 j = (fun _ : S1408x512.Idx => (0 : EReal)) j + term m c t j := by
  rw [outsAt0_A m c t h (by omega)]
  dsimp only
  frame_out
  unfold k0_pay2 k0_pay1 term overColumns
  pointwise

/-- Every other point adds its product to the accumulator. -/
theorem next (c : Dev nD) (t : Fin cfg0.N) (h : ¬t.val % 2 = 0) (j : S1408x512.Idx) :
    (outsAt0 m c t.val t.isLt).2 j
      = (outsAt0 m c (t.val - 1) (Nat.lt_of_le_of_lt (Nat.sub_le _ _) t.isLt)).2 j + term m c t j := by
  rw [outsAt0_B m c t h (by omega)]
  dsimp only
  frame_out
  unfold k0_pay2 term overColumns
  pointwise
  rw [read_unread_whole]

/-- The last point of a run writes the accumulator back. -/
theorem last (c : Dev nD) (t : Fin cfg0.N) (hl : t.val % 2 = 1) :
    (outsAt0 m c t.val t.isLt).1 = (outsAt0 m c t.val t.isLt).2 := by
  rw [outsAt0_B m c t (by omega) hl]
  dsimp only
  frame_out

/-- The blocks point `t` reads and fills. -/
theorem places : ∀ t : Fin cfg0.N, win0_0.index t = ![t.val / 12, t.val % 2] ∧ win0_1.index t = ![t.val / 2 % 6, t.val % 2] ∧ win0_2.index t = ![t.val / 12, t.val / 2 % 6] :=
  (by decide +kernel : ∀ t : Fin grid0.N, _)

/-- What the last point of a run leaves in the block it writes back. -/
theorem block (c : Dev nD) (t : Fin cfg0.N) (hl : t.val % 2 = 1) (j : S1408x512.Idx) (a : Fin 4224) (b : Fin 3072)
    (ha : a.val = (t.val / 12) * 1408 + (j 0).val) (hb : b.val = t.val / 2 % 6 * 512 + (j 1).val) :
    (outsAt0 m c t.val t.isLt).1 j
      = overColumns (K := 2048) (m ((c.tc : Thread nD τ).loc main_arg0)) (m ((c.tc : Thread nD τ).loc main_arg1)) a b := by
  rw [last m c t hl]
  refine (Pipeline.eq_sum_fin_of_reset_step_apply_of_flush (fun n h => (outsAt0 m c n h).2) 2 (fun _ => (0 : EReal)) (term m c)
    (first m c) (next m c) t hl j).trans ?_
  rw [zero_add]
  refine Fin.sum_mul_add_congr fun s k hk => ?_
  have hd := places ⟨2 * (t.val / 2) + s.val, Pipeline.run_point_lt_of_flush t hl s⟩
  congr 1
  · blk_ext [iblk, V, hd.1]
  · blk_ext [iblk, V, hd.2.1]

/-- What the array ends holding. -/
theorem final (c : Dev nD) : (dats m 0 c).arrAt 2 cfg0.N = fun i => overColumns (K := 2048) (A := 4224) (B := 3072) (m ((c.tc : Thread nD τ).loc main_arg0)) (m ((c.tc : Thread nD τ).loc main_arg1)) (i 0) (i 1) := by
  refine (dats m 0 c).arrAt_eq_of_covers 2 _ (by decide +kernel) fun t hf y => ?_
  have h2 := (flush0_2 t).mp hf
  have hp := (places t).2.2
  blk_simp
  rw [after0_2]
  exact block m c t h2 _ _ _ (by blk_simp [hp]) (by blk_simp [hp])

end Cert.Kernel13Ideal.Value

namespace Cert.Proof

open Cert.Products Idealize.ShloMosaic Idealize.SL.Sem

/-- The reference runs, leaves its arguments unchanged and every counter at zero. -/
theorem quiescent_Reference13Ideal : quiescent_Reference13Ideal := fun m ρ _ =>
  (θ_run Cert.Reference13Ideal.defs _ _).mono (fun r h => ⟨fun c => (h c).2, sem_eq_zero_of_no_sems (by decide) r.2⟩)
    (Cert.Reference13Ideal.Value.run (F := Ideal) m ρ)

/-- Kernel and reference compute the same array. -/
theorem algebraic_Kernel13Ideal_Reference13Ideal : algebraic_Kernel13Ideal_Reference13Ideal := by
  intro m ρ m' ρ' _ hagree
  refine ⟨_, Cert.Kernel13Ideal.Value.run_blocks (F := Ideal) m ρ, ?_⟩
  refine (θ_run Cert.Reference13Ideal.defs _ _).mono (fun _ h c => ⟨?_, (h c).2⟩) (Cert.Reference13Ideal.Value.run (F := Ideal) m' ρ')
  rw [(h c).1, Cert.Kernel13Ideal.Value.final]
  simp only [hagree c]
  clean_types
  funext i
  unfold overColumns
  pointwise

end Cert.Proof

end
-- ==== Proof.Product14.lean ====
/-
  The output projection of the first two mixers, with the residual added: what the kernel's array ends
  holding at an index is the product of the two mixers' outputs side by side with the weights, plus the
  residual.
-/
module

public import proofs.«01_k».proof.Proof.Gen.Kernel14Ideal.Frame
public import Idealize.ShloMosaic.Lib.Pipeline.Value
public import proofs.«01_k».proof.Proof.Products
public import proofs.«01_k».proof.Defs
public import proofs.«01_k».proof.Proof.Gen.Reference14Ideal.Run
public import Idealize.ShloMosaic.Lib.Quiescent
public import Idealize.ShloMosaic.Lib.Tactic.ValueTie

@[expose] public section

set_option maxRecDepth 16384

noncomputable section

namespace Cert.Kernel14Ideal.Value

open Cert.Kernel14Ideal Cert.Kernel14Ideal.Gen Cert.Products Idealize.ShloMosaic Idealize.ShloMosaic.TcCoe Idealize.SL.Sem

variable (m : (ℓ : Loc nD τ sig) → Buf (Elt Ideal) ℓ)

/-- Two arrays side by side. -/
def beside (x : S4224x2048.Idx → EReal) (y : S4224x1024.Idx → EReal) (i : (⟨2, ![4224, 3072]⟩ : Shape).Idx) : EReal :=
  if h : (i 1).val < 2048 then x (ix2 (i 0) ⟨(i 1).val, h⟩) else y (ix2 (i 0) ⟨(i 1).val - 2048, by have := (i 1).isLt; simp at this; omega⟩)

/-- A column of the left array. -/
theorem beside_left (x : S4224x2048.Idx → EReal) (y : S4224x1024.Idx → EReal) (a : Fin 4224) (k : Fin 3072) (h : k.val < 2048) :
    beside x y (ix2 a k) = x (ix2 a ⟨k.val, h⟩) := dif_pos h

/-- A column of the right array. -/
theorem beside_right (x : S4224x2048.Idx → EReal) (y : S4224x1024.Idx → EReal) (a : Fin 4224) (k : Fin 3072) (h : ¬k.val < 2048) :
    beside x y (ix2 a k) = y (ix2 a ⟨k.val - 2048, by omega⟩) := dif_neg h

/-- The product with two arrays side by side is the sum of the products with each. -/
theorem plain_beside (x : S4224x2048.Idx → EReal) (y : S4224x1024.Idx → EReal) (w : S3072x2048.Idx → EReal) (a : Fin 4224) (b : Fin 2048) :
    plain (K := 3072) (beside x y) w a b = (∑ k : Fin 2048, x (ix2 a k) * w (ix2 ⟨k.val, by omega⟩ b))
      + ∑ k : Fin 1024, y (ix2 a k) * w (ix2 ⟨2048 + k.val, by omega⟩ b) := by
  refine (Fin.sum_univ_add (a := 2048) (b := 1024) fun k => beside x y (ix2 a k) * w (ix2 k b)).trans ?_
  refine congrArg₂ (· + ·) (Finset.sum_congr rfl fun k _ => ?_) (Finset.sum_congr rfl fun k _ => ?_)
  · rw [beside_left _ _ _ _ (show (Fin.castAdd 1024 k).val < 2048 from k.isLt)]
    rfl
  · rw [beside_right _ _ _ _ (show ¬(Fin.natAdd 2048 k).val < 2048 by simp)]
    congr 3
    exact Fin.ext (by simp)

/-- The product point `t` adds: of the first mixer's blocks at the first two points of a run, of the second's at the last. -/
def term (c : Dev nD) (t : Fin cfg0.N) (j : S1408x512.Idx) : EReal :=
  if t.val % 3 = 2 then plain (A := 1408) (K := 1024) (B := 512) (iblk m c 2 t) (iblk m c 3 t) (j 0) (j 1)
  else plain (A := 1408) (K := 1024) (B := 512) (iblk m c 0 t) (iblk m c 1 t) (j 0) (j 1)

/-- The first point of a run leaves its own product in the accumulator. -/
theorem first (c : Dev nD) (t : Fin cfg0.N) (h : t.val % 3 = 0) (j : S1408x512.Idx) :
    (outsAt0 m c t.val t.isLt).2 j = (fun _ : S1408x512.Idx => (0 : EReal)) j + term m c t j := by
  rw [outsAt0_A m c t h (by omega) (by omega) (by omega), term, if_neg (by omega)]
  dsimp only
  frame_out
  unfold k0_pay2 k0_pay1 plain
  pointwise

/-- Every other point adds its product to the accumulator. -/
theorem next (c : Dev nD) (t : Fin cfg0.N) (h : ¬t.val % 3 = 0) (j : S1408x512.Idx) :
    (outsAt0 m c t.val t.isLt).2 j
      = (outsAt0 m c (t.val - 1) (Nat.lt_of_le_of_lt (Nat.sub_le _ _) t.isLt)).2 j + term m c t j := by
  by_cases hl : t.val % 3 = 2
  · rw [outsAt0_C m c t h (by omega) hl hl, term, if_pos hl]
    dsimp only
    frame_out
    unfold k0_pay3 plain
    pointwise
    rw [read_unread_whole]
  · rw [outsAt0_B m c t h (by omega) hl hl, term, if_neg hl]
    dsimp only
    frame_out
    unfold k0_pay2 plain
    pointwise
    rw [read_unread_whole]

/-- The last point of a run writes back the accumulator plus the residual's block. -/
theorem last (c : Dev nD) (t : Fin cfg0.N) (hl : t.val % 3 = 2) (j : S1408x512.Idx) :
    (outsAt0 m c t.val t.isLt).1 j = (outsAt0 m c t.val t.isLt).2 j + (iblk m c 4 t : S1408x512.Idx → EReal) j := by
  rw [outsAt0_C m c t (by omega) (by omega) hl hl]
  dsimp only
  frame_out
  unfold k0_pay4
  pointwise

/-- The blocks point `t` reads and fills. -/
theorem places : ∀ t : Fin cfg0.N, (t.val % 3 < 2 → win0_0.index t = ![t.val / 12, t.val % 3] ∧ win0_1.index t = ![t.val % 3, t.val / 3 % 4])
    ∧ (t.val % 3 = 2 → win0_2.index t = ![t.val / 12, 0] ∧ win0_3.index t = ![2, t.val / 3 % 4])
    ∧ win0_4.index t = ![t.val / 12, t.val / 3 % 4] ∧ win0_5.index t = ![t.val / 12, t.val / 3 % 4] :=
  (by decide +kernel : ∀ t : Fin grid0.N, _)

/-- What the last point of a run leaves in the accumulator. -/
theorem block (c : Dev nD) (t : Fin cfg0.N) (hl : t.val % 3 = 2) (j : S1408x512.Idx) (a : Fin 4224) (b : Fin 2048)
    (ha : a.val = t.val / 12 * 1408 + (j 0).val) (hb : b.val = t.val / 3 % 4 * 512 + (j 1).val) :
    (outsAt0 m c t.val t.isLt).2 j
      = plain (K := 3072) (beside (m ((c.tc : Thread nD τ).loc main_arg0)) (m ((c.tc : Thread nD τ).loc main_arg1)))
          (m ((c.tc : Thread nD τ).loc main_arg2)) a b := by
  refine (Pipeline.eq_sum_fin_of_reset_step_apply_of_flush (fun n h => (outsAt0 m c n h).2) 3 (fun _ => (0 : EReal)) (term m c)
    (first m c) (next m c) t hl j).trans ?_
  rw [zero_add]
  have hd := fun s : Fin 3 => places ⟨3 * (t.val / 3) + s.val, Pipeline.run_point_lt_of_flush t hl s⟩
  have hs : ∀ s : Fin 3, term m c ⟨3 * (t.val / 3) + s.val, Pipeline.run_point_lt_of_flush t hl s⟩ j
      = ∑ k : Fin 1024, (beside (m ((c.tc : Thread nD τ).loc main_arg0)) (m ((c.tc : Thread nD τ).loc main_arg1))) (ix2 a ⟨s.val * 1024 + k.val, by omega⟩)
        * (m ((c.tc : Thread nD τ).loc main_arg2) : S3072x2048.Idx → EReal) (ix2 ⟨s.val * 1024 + k.val, by omega⟩ b) := by
    intro s
    unfold term plain
    by_cases h2 : s.val = 2
    · rw [if_pos (show (3 * (t.val / 3) + s.val) % 3 = 2 by omega)]
      refine Finset.sum_congr rfl fun k _ => ?_
      have hp := (hd s).2.1 (show (3 * (t.val / 3) + s.val) % 3 = 2 by omega)
      rw [beside_right _ _ _ _ (show ¬s.val * 1024 + k.val < 2048 by omega)]
      congr 1
      · blk_ext [iblk, V, hp.1]
      · blk_ext [iblk, V, hp.2]
    · rw [if_neg (show ¬ (3 * (t.val / 3) + s.val) % 3 = 2 by omega)]
      refine Finset.sum_congr rfl fun k _ => ?_
      have hp := (hd s).1 (show (3 * (t.val / 3) + s.val) % 3 < 2 by omega)
      rw [beside_left _ _ _ _ (show s.val * 1024 + k.val < 2048 by omega)]
      congr 1
      · blk_ext [iblk, V, hp.1]
      · blk_ext [iblk, V, hp.2]
  rw [Finset.sum_congr rfl fun s _ => hs s]
  exact Fin.sum_mul_add_congr fun s k hk => by congr 2 <;> simp [hk]

/-- What the array ends holding. -/
theorem final (c : Dev nD) : (dats m 0 c).arrAt 5 cfg0.N = fun i : S4224x2048.Idx =>
    plain (A := 4224) (K := 3072) (B := 2048) (beside (m ((c.tc : Thread nD τ).loc main_arg0)) (m ((c.tc : Thread nD τ).loc main_arg1)))
      (m ((c.tc : Thread nD τ).loc main_arg2)) (i 0) (i 1) + m ((c.tc : Thread nD τ).loc main_arg3) i := by
  refine (dats m 0 c).arrAt_eq_of_covers 5 _ (by decide +kernel) fun t hf y => ?_
  have h2 := (flush0_5 t).mp hf
  have hp := (places t).2.2
  blk_simp
  rw [after0_5, last m c t h2]
  refine congrArg₂ (· + ·) (block m c t h2 _ _ _ (by blk_simp [hp.2]) (by blk_simp [hp.2])) ?_
  blk_ext [iblk, V, hp.1, hp.2]

/-- The run, with the array the kernel returns named and the arguments unchanged. -/
theorem run_named (ρ : Dev nD → PrngReg) : θ_run defs (onTc (τ := τ) (main (F := Ideal))) ⟨m, fun _ => 0, ρ⟩ fun r => ∀ c : Dev nD,
    r.2.mem ((c : Thread nD τ).loc main_v0) = (dats m 0 c).arrAt 5 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) := by
  refine (θ_run defs _ _).mono (fun r h c => ⟨(h c).1 5, ?_, ?_, ?_, ?_⟩) (run_main m ρ)
  · exact ((h c).1 0).trans (((dats m 0 c).arrAt_in 0 rfl _).trans ((A_eq m c 0).trans (V_main_arg0 m c)))
  · exact ((h c).1 2).trans (((dats m 0 c).arrAt_in 2 rfl _).trans ((A_eq m c 2).trans (V_main_arg1 m c)))
  · exact ((h c).1 3).trans (((dats m 0 c).arrAt_in 3 rfl _).trans ((A_eq m c 3).trans (V_main_arg2 m c)))
  · exact ((h c).1 4).trans (((dats m 0 c).arrAt_in 4 rfl _).trans ((A_eq m c 4).trans (V_main_arg3 m c)))

end Cert.Kernel14Ideal.Value

namespace Cert.Proof

open Cert.Products Idealize.ShloMosaic Idealize.SL.Sem

/-- The reference runs, leaves its arguments unchanged and every counter at zero. -/
theorem quiescent_Reference14Ideal : quiescent_Reference14Ideal := fun m ρ _ =>
  (θ_run Cert.Reference14Ideal.defs _ _).mono (fun r h => ⟨fun c => (h c).2, sem_eq_zero_of_no_sems (by decide) r.2⟩)
    (Cert.Reference14Ideal.Value.run (F := Ideal) m ρ)

/-- Kernel and reference compute the same array. -/
theorem algebraic_Kernel14Ideal_Reference14Ideal : algebraic_Kernel14Ideal_Reference14Ideal := by
  intro m ρ m' ρ' _ hagree
  refine ⟨_, Cert.Kernel14Ideal.Value.run_named m ρ, ?_⟩
  refine (θ_run Cert.Reference14Ideal.defs _ _).mono (fun _ h c => ⟨?_, (h c).2⟩) (Cert.Reference14Ideal.Value.run (F := Ideal) m' ρ')
  rw [(h c).1, Cert.Kernel14Ideal.Value.final]
  simp only [hagree c]
  clean_types
  funext i
  refine Eq.trans ?_ (congrArg (· + (m (c.tc.loc Cert.Kernel14Ideal.main_arg3) : (⟨2, ![4224, 2048]⟩ : Shape).Idx → EReal) i)
    (Cert.Kernel14Ideal.Value.plain_beside _ _ _ (i 0) (i 1)).symm)
  pointwise
  rw [(hagree c).1, (hagree c).2.1]
  exact add_comm (G := EReal) _ _

end Cert.Proof

end
-- ==== Proof.Update15.lean ====
/-
  The optimiser step of `w_in_ab`: kernel and reference agree in the update and in the new moments.
-/
module

public import proofs.«01_k».proof.Proof.Gen.Kernel15Ideal.Value
public import proofs.«01_k».proof.Defs
public import proofs.«01_k».proof.Proof.Gen.Reference15Ideal.Run
public import Idealize.ShloMosaic.Lib.Quiescent
public import Idealize.ShloMosaic.Lib.Tactic.ValueTie

@[expose] public section

noncomputable section

namespace Cert.Proof

open Idealize.ShloMosaic Idealize.SL.Sem

/-- The reference runs, leaves its arguments unchanged and every counter at zero. -/
theorem quiescent_Reference15Ideal : quiescent_Reference15Ideal := fun m ρ _ =>
  (θ_run Cert.Reference15Ideal.defs _ _).mono (fun r h => ⟨fun c => (h c).2.2.2, sem_eq_zero_of_no_sems (by decide) r.2⟩)
    (Cert.Reference15Ideal.Value.run (F := Ideal) m ρ)

/-- Kernel and reference compute the same update and the same moments. -/
theorem algebraic_Kernel15Ideal_Reference15Ideal : algebraic_Kernel15Ideal_Reference15Ideal := by
  intro m ρ m' ρ' _ hagree
  refine ⟨_, _, _, Cert.Kernel15Ideal.Value.run (F := Ideal) m ρ, ?_⟩
  refine (θ_run Cert.Reference15Ideal.defs _ _).mono (fun _ h c => ⟨?_, ?_, ?_, (h c).2.2.2⟩)
    (Cert.Reference15Ideal.Value.run (F := Ideal) m' ρ')
  · rw [(h c).1]
    simp only [hagree c]
    clean_types
    funext i
    pointwise
  · rw [(h c).2.1]
    simp only [hagree c]
    clean_types
    funext i
    pointwise
  · rw [(h c).2.2.1]
    simp only [hagree c]
    clean_types
    funext i
    pointwise

end Cert.Proof

end
-- ==== Proof.Update16.lean ====
/-
  The optimiser step of `s5_w_glu`: kernel and reference agree in the update and in the new moments.
-/
module

public import proofs.«01_k».proof.Proof.Gen.Kernel16Ideal.Value
public import proofs.«01_k».proof.Defs
public import proofs.«01_k».proof.Proof.Gen.Reference16Ideal.Run
public import Idealize.ShloMosaic.Lib.Quiescent
public import Idealize.ShloMosaic.Lib.Tactic.ValueTie

@[expose] public section

noncomputable section

namespace Cert.Proof

open Idealize.ShloMosaic Idealize.SL.Sem

/-- The reference runs, leaves its arguments unchanged and every counter at zero. -/
theorem quiescent_Reference16Ideal : quiescent_Reference16Ideal := fun m ρ _ =>
  (θ_run Cert.Reference16Ideal.defs _ _).mono (fun r h => ⟨fun c => (h c).2.2.2, sem_eq_zero_of_no_sems (by decide) r.2⟩)
    (Cert.Reference16Ideal.Value.run (F := Ideal) m ρ)

/-- Kernel and reference compute the same update and the same moments. -/
theorem algebraic_Kernel16Ideal_Reference16Ideal : algebraic_Kernel16Ideal_Reference16Ideal := by
  intro m ρ m' ρ' _ hagree
  refine ⟨_, _, _, Cert.Kernel16Ideal.Value.run (F := Ideal) m ρ, ?_⟩
  refine (θ_run Cert.Reference16Ideal.defs _ _).mono (fun _ h c => ⟨?_, ?_, ?_, (h c).2.2.2⟩)
    (Cert.Reference16Ideal.Value.run (F := Ideal) m' ρ')
  · rw [(h c).1]
    simp only [hagree c]
    clean_types
    funext i
    pointwise
  · rw [(h c).2.1]
    simp only [hagree c]
    clean_types
    funext i
    pointwise
  · rw [(h c).2.2.1]
    simp only [hagree c]
    clean_types
    funext i
    pointwise

end Cert.Proof

end
-- ==== Proof.Update17.lean ====
/-
  The optimiser step of `w_out_ab`: kernel and reference agree in the update and in the new moments.
-/
module

public import proofs.«01_k».proof.Proof.Gen.Kernel17Ideal.Value
public import proofs.«01_k».proof.Defs
public import proofs.«01_k».proof.Proof.Gen.Reference17Ideal.Run
public import Idealize.ShloMosaic.Lib.Quiescent
public import Idealize.ShloMosaic.Lib.Tactic.ValueTie

@[expose] public section

noncomputable section

namespace Cert.Proof

open Idealize.ShloMosaic Idealize.SL.Sem

/-- The reference runs, leaves its arguments unchanged and every counter at zero. -/
theorem quiescent_Reference17Ideal : quiescent_Reference17Ideal := fun m ρ _ =>
  (θ_run Cert.Reference17Ideal.defs _ _).mono (fun r h => ⟨fun c => (h c).2.2.2, sem_eq_zero_of_no_sems (by decide) r.2⟩)
    (Cert.Reference17Ideal.Value.run (F := Ideal) m ρ)

/-- Kernel and reference compute the same update and the same moments. -/
theorem algebraic_Kernel17Ideal_Reference17Ideal : algebraic_Kernel17Ideal_Reference17Ideal := by
  intro m ρ m' ρ' _ hagree
  refine ⟨_, _, _, Cert.Kernel17Ideal.Value.run (F := Ideal) m ρ, ?_⟩
  refine (θ_run Cert.Reference17Ideal.defs _ _).mono (fun _ h c => ⟨?_, ?_, ?_, (h c).2.2.2⟩)
    (Cert.Reference17Ideal.Value.run (F := Ideal) m' ρ')
  · rw [(h c).1]
    simp only [hagree c]
    clean_types
    funext i
    pointwise
  · rw [(h c).2.1]
    simp only [hagree c]
    clean_types
    funext i
    pointwise
  · rw [(h c).2.2.1]
    simp only [hagree c]
    clean_types
    funext i
    pointwise

end Cert.Proof

end
-- ==== Proof.Update18.lean ====
/-
  The optimiser step of `w_in_c`: kernel and reference agree in the update and in the new moments.
-/
module

public import proofs.«01_k».proof.Proof.Gen.Kernel18Ideal.Value
public import proofs.«01_k».proof.Defs
public import proofs.«01_k».proof.Proof.Gen.Reference18Ideal.Run
public import Idealize.ShloMosaic.Lib.Quiescent
public import Idealize.ShloMosaic.Lib.Tactic.ValueTie

@[expose] public section

noncomputable section

namespace Cert.Proof

open Idealize.ShloMosaic Idealize.SL.Sem

/-- The reference runs, leaves its arguments unchanged and every counter at zero. -/
theorem quiescent_Reference18Ideal : quiescent_Reference18Ideal := fun m ρ _ =>
  (θ_run Cert.Reference18Ideal.defs _ _).mono (fun r h => ⟨fun c => (h c).2.2.2, sem_eq_zero_of_no_sems (by decide) r.2⟩)
    (Cert.Reference18Ideal.Value.run (F := Ideal) m ρ)

/-- Kernel and reference compute the same update and the same moments. -/
theorem algebraic_Kernel18Ideal_Reference18Ideal : algebraic_Kernel18Ideal_Reference18Ideal := by
  intro m ρ m' ρ' _ hagree
  refine ⟨_, _, _, Cert.Kernel18Ideal.Value.run (F := Ideal) m ρ, ?_⟩
  refine (θ_run Cert.Reference18Ideal.defs _ _).mono (fun _ h c => ⟨?_, ?_, ?_, (h c).2.2.2⟩)
    (Cert.Reference18Ideal.Value.run (F := Ideal) m' ρ')
  · rw [(h c).1]
    simp only [hagree c]
    clean_types
    funext i
    pointwise
  · rw [(h c).2.1]
    simp only [hagree c]
    clean_types
    funext i
    pointwise
  · rw [(h c).2.2.1]
    simp only [hagree c]
    clean_types
    funext i
    pointwise

end Cert.Proof

end
-- ==== Proof.Update19.lean ====
/-
  The optimiser step of `w_out_c`: kernel and reference agree in the update and in the new moments.
-/
module

public import proofs.«01_k».proof.Proof.Gen.Kernel19Ideal.Value
public import proofs.«01_k».proof.Defs
public import proofs.«01_k».proof.Proof.Gen.Reference19Ideal.Run
public import Idealize.ShloMosaic.Lib.Quiescent
public import Idealize.ShloMosaic.Lib.Tactic.ValueTie

@[expose] public section

noncomputable section

namespace Cert.Proof

open Idealize.ShloMosaic Idealize.SL.Sem

/-- The reference runs, leaves its arguments unchanged and every counter at zero. -/
theorem quiescent_Reference19Ideal : quiescent_Reference19Ideal := fun m ρ _ =>
  (θ_run Cert.Reference19Ideal.defs _ _).mono (fun r h => ⟨fun c => (h c).2.2.2, sem_eq_zero_of_no_sems (by decide) r.2⟩)
    (Cert.Reference19Ideal.Value.run (F := Ideal) m ρ)

/-- Kernel and reference compute the same update and the same moments. -/
theorem algebraic_Kernel19Ideal_Reference19Ideal : algebraic_Kernel19Ideal_Reference19Ideal := by
  intro m ρ m' ρ' _ hagree
  refine ⟨_, _, _, Cert.Kernel19Ideal.Value.run (F := Ideal) m ρ, ?_⟩
  refine (θ_run Cert.Reference19Ideal.defs _ _).mono (fun _ h c => ⟨?_, ?_, ?_, (h c).2.2.2⟩)
    (Cert.Reference19Ideal.Value.run (F := Ideal) m' ρ')
  · rw [(h c).1]
    simp only [hagree c]
    clean_types
    funext i
    pointwise
  · rw [(h c).2.1]
    simp only [hagree c]
    clean_types
    funext i
    pointwise
  · rw [(h c).2.2.1]
    simp only [hagree c]
    clean_types
    funext i
    pointwise

end Cert.Proof

end
-- ==== Proof.Update20.lean ====
/-
  The optimiser step of `the packed small parameters`: kernel and reference agree in the update and in the new moments.
-/
module

public import proofs.«01_k».proof.Proof.Gen.Kernel20Ideal.Value
public import proofs.«01_k».proof.Defs
public import proofs.«01_k».proof.Proof.Gen.Reference20Ideal.Run
public import Idealize.ShloMosaic.Lib.Quiescent
public import Idealize.ShloMosaic.Lib.Tactic.ValueTie

@[expose] public section

noncomputable section

namespace Cert.Proof

open Idealize.ShloMosaic Idealize.SL.Sem

/-- The reference runs, leaves its arguments unchanged and every counter at zero. -/
theorem quiescent_Reference20Ideal : quiescent_Reference20Ideal := fun m ρ _ =>
  (θ_run Cert.Reference20Ideal.defs _ _).mono (fun r h => ⟨fun c => (h c).2.2.2, sem_eq_zero_of_no_sems (by decide) r.2⟩)
    (Cert.Reference20Ideal.Value.run (F := Ideal) m ρ)

/-- Kernel and reference compute the same update and the same moments. -/
theorem algebraic_Kernel20Ideal_Reference20Ideal : algebraic_Kernel20Ideal_Reference20Ideal := by
  intro m ρ m' ρ' _ hagree
  refine ⟨_, _, _, Cert.Kernel20Ideal.Value.run (F := Ideal) m ρ, ?_⟩
  refine (θ_run Cert.Reference20Ideal.defs _ _).mono (fun _ h c => ⟨?_, ?_, ?_, (h c).2.2.2⟩)
    (Cert.Reference20Ideal.Value.run (F := Ideal) m' ρ')
  · rw [(h c).1]
    simp only [hagree c]
    clean_types
    funext i
    pointwise
  · rw [(h c).2.1]
    simp only [hagree c]
    clean_types
    funext i
    pointwise
  · rw [(h c).2.2.1]
    simp only [hagree c]
    clean_types
    funext i
    pointwise

end Cert.Proof

end
-- ==== Proof.Finite.lean ====
/-
  Sums, means and the root-mean-square norm over rows of numbers: where every
  entry of a row is a real number, so is what a norm and its gradient make of it,
  and two ways of writing the gradient agree.
-/
module

public import Idealize.ShloMosaic.PureOps.Ideal
public import Idealize.ShloMosaic.Lib.IdealHost
public import Idealize.ShloMosaic.Lib.Pointwise

@[expose] public section

noncomputable section

namespace Cert.Finite

open Idealize.ShloMosaic

/-- A number smaller in size than infinity is a real number. -/
theorem real_of_abs_lt {x : EReal} (h : Ideal.cmp .olt (max x (-x)) (Ideal.ofBits .f32 0x7F800000#32) = 1#1) : ∃ r : ℝ, x = r := by
  induction x with
  | coe r => exact ⟨r, rfl⟩
  | bot => simp [Ideal.cmp, Ideal.ofBits, Ideal.ieee] at h
  | top => simp [Ideal.cmp, Ideal.ofBits, Ideal.ieee] at h

/-- A product of real numbers is a real number. -/
theorem real_mul {x y : EReal} (hx : ∃ r : ℝ, x = r) (hy : ∃ r : ℝ, y = r) : ∃ r : ℝ, x * y = r := by
  obtain ⟨a, rfl⟩ := hx
  obtain ⟨b, rfl⟩ := hy
  exact ⟨a * b, (EReal.coe_mul a b).symm⟩

/-- A sum of real numbers is a real number. -/
theorem coe_sum {ι : Type} [Fintype ι] (f : ι → ℝ) : ∑ i, ((f i : ℝ) : EReal) = ((∑ i, f i : ℝ) : EReal) := by
  classical
  have h : ∀ s : Finset ι, ∑ i ∈ s, ((f i : ℝ) : EReal) = ((∑ i ∈ s, f i : ℝ) : EReal) := fun s => by
    induction s using Finset.induction_on with
    | empty => rfl
    | insert a s ha ih => rw [Finset.sum_insert ha, Finset.sum_insert ha, ih, EReal.coe_add]
  exact h _

/-- The number of columns, as written in the programs. -/
theorem width : Ideal.ofBits .f32 0x45000000#32 = ((2048 : ℝ) : EReal) := by
  simp [Ideal.ofBits, Ideal.ieee, -EReal.coe_mul]; norm_num

/-- The number added to a mean square before its root is taken. -/
def small : ℝ := 8796093 * (2 : ℝ) ^ (-43 : ℤ)

theorem small_eq : Ideal.ofBits .f32 0x358637BD#32 = (small : EReal) := by
  simp [Ideal.ofBits, Ideal.ieee, -EReal.coe_mul, small]

theorem small_pos : 0 < small := by unfold small; positivity

theorem neg_half : Ideal.ofBits .f32 0xBF000000#32 = ((-(1 / 2) : ℝ) : EReal) := by
  simp [Ideal.ofBits, Ideal.ieee, -EReal.coe_mul, -EReal.coe_neg]; norm_num

theorem half : Ideal.ofBits .f32 0x3F000000#32 = ((1 / 2 : ℝ) : EReal) := by
  simp [Ideal.ofBits, Ideal.ieee, -EReal.coe_mul]; norm_num

theorem two : Ideal.ofBits .f32 0x40000000#32 = ((2 : ℝ) : EReal) := by
  simp [Ideal.ofBits, Ideal.ieee, -EReal.coe_mul]; norm_num

/-- One over the number of columns. -/
theorem width_inv : Ideal.ofBits .f32 0x3A000000#32 = ((1 / 2048 : ℝ) : EReal) := by
  simp [Ideal.ofBits, Ideal.ieee, -EReal.coe_mul]; norm_num

/-- A row of an array. -/
def row {A K : Nat} (x : (⟨2, ![A, K]⟩ : Shape).Idx → EReal) (a : Fin A) (k : Fin K) : EReal := x (ix2 a k)

/-- A row of a cotangent, each entry times the weight of its column. -/
def through {A K : Nat} (g : (⟨2, ![A, K]⟩ : Shape).Idx → EReal) (w : (⟨2, ![1, K]⟩ : Shape).Idx → EReal) (a : Fin A) (k : Fin K) : EReal :=
  g (ix2 a k) * w (ix2 0 k)

section Norm

variable {K : Nat} (n e : EReal) (x : Fin K → EReal)

/-- The mean square of a row, with the small number added. -/
def square : EReal := Ideal.div (∑ k, x k * x k) n + e

/-- What the norm multiplies a row by. -/
def scale : EReal := Ideal.rsqrt (square n e x)

/-- The gradient of the norm as the kernels write it. -/
def grad (g : Fin K → EReal) (k : Fin K) : EReal :=
  scale n e x * (g k - x k * scale n e x * Ideal.div (∑ j, g j * (x j * scale n e x)) n)

/-- The cotangent of the mean square, as differentiation writes it; `h` is minus a half. -/
def pull (h : EReal) (g : Fin K → EReal) : EReal :=
  Ideal.div ((∑ j, x j * g j) * (h * Ideal.div (scale n e x) (square n e x))) n

end Norm

section Reals

variable {K : Nat} (n e : ℝ) (x : Fin K → ℝ)

def squareR : ℝ := (∑ k, x k * x k) * (1 / n) + e

theorem squareR_pos (hn : 0 < n) (he : 0 < e) : 0 < squareR n e x := by
  have : 0 ≤ ∑ k, x k * x k := Finset.sum_nonneg fun k _ => mul_self_nonneg _
  unfold squareR; positivity

theorem square_coe (hn : 0 < n) : square (n : EReal) (e : EReal) (fun k => (x k : EReal)) = (squareR n e x : EReal) := by
  unfold square squareR
  simp only [← EReal.coe_mul, coe_sum, Ideal.div_coe hn.ne', ← EReal.coe_add]

def scaleR : ℝ := (Real.sqrt (squareR n e x))⁻¹

theorem scale_coe (hn : 0 < n) (he : 0 < e) : scale (n : EReal) (e : EReal) (fun k => (x k : EReal)) = (scaleR n e x : EReal) := by
  have h := squareR_pos n e x hn he
  unfold scale scaleR
  rw [square_coe n e x hn, Ideal.rsqrt_coe, if_neg h.le.not_gt, if_neg h.ne']

theorem scaleR_sq (hn : 0 < n) (he : 0 < e) : scaleR n e x * scaleR n e x * squareR n e x = 1 := by
  have h := squareR_pos n e x hn he
  have hs := Real.sq_sqrt h.le
  have hp := Real.sqrt_pos.mpr h
  unfold scaleR
  field_simp
  nlinarith [hs]

def gradR (g : Fin K → ℝ) (k : Fin K) : ℝ :=
  scaleR n e x * (g k - x k * scaleR n e x * ((∑ j, g j * (x j * scaleR n e x)) * (1 / n)))

theorem grad_coe (hn : 0 < n) (he : 0 < e) (g : Fin K → ℝ) (k : Fin K) :
    grad (n : EReal) (e : EReal) (fun k => (x k : EReal)) (fun k => (g k : EReal)) k = (gradR n e x g k : EReal) := by
  unfold grad gradR
  simp only [scale_coe n e x hn he, ← EReal.coe_mul, coe_sum, Ideal.div_coe hn.ne', ← EReal.coe_sub]

def pullR (g : Fin K → ℝ) : ℝ :=
  (∑ j, x j * g j) * (-(1 / 2) * (scaleR n e x * (1 / squareR n e x))) * (1 / n)

theorem pull_coe (hn : 0 < n) (he : 0 < e) (g : Fin K → ℝ) :
    pull (n : EReal) (e : EReal) (fun k => (x k : EReal)) ((-(1 / 2) : ℝ) : EReal) (fun k => (g k : EReal)) = (pullR n e x g : EReal) := by
  have h := squareR_pos n e x hn he
  unfold pull pullR
  simp only [scale_coe n e x hn he, square_coe n e x hn, ← EReal.coe_mul, coe_sum, Ideal.div_coe hn.ne', Ideal.div_coe h.ne']

/-- The two ways of writing the gradient agree. -/
theorem gradR_eq (hn : 0 < n) (he : 0 < e) (g : Fin K → ℝ) (k : Fin K) :
    gradR n e x g k = g k * scaleR n e x + x k * pullR n e x g + pullR n e x g * x k := by
  have h := squareR_pos n e x hn he
  have h1 := scaleR_sq n e x hn he
  have h2 : scaleR n e x * (1 / squareR n e x) = scaleR n e x * scaleR n e x * scaleR n e x := by
    field_simp
    linear_combination (-scaleR n e x) * h1
  have h3 : ∑ j, g j * (x j * scaleR n e x) = scaleR n e x * ∑ j, x j * g j := by
    rw [Finset.mul_sum]
    exact Finset.sum_congr rfl fun j _ => by ring
  unfold gradR pullR
  rw [h2, h3]
  ring

end Reals

/-- Where every number is real, the kernels' gradient of the norm is the one differentiation gives. -/
theorem grad_eq {K : Nat} (n e : ℝ) (hn : 0 < n) (he : 0 < e) (x g : Fin K → EReal)
    (hx : ∀ k, ∃ r : ℝ, x k = r) (hg : ∀ k, ∃ r : ℝ, g k = r) (k : Fin K) :
    grad n e x g k = g k * scale n e x + x k * pull n e x ((-(1 / 2) : ℝ) : EReal) g + pull n e x ((-(1 / 2) : ℝ) : EReal) g * x k := by
  choose a ha using hx
  choose b hb using hg
  obtain rfl : x = fun k => (a k : EReal) := funext ha
  obtain rfl : g = fun k => (b k : EReal) := funext hb
  rw [grad_coe n e a hn he, pull_coe n e a hn he, scale_coe n e a hn he, gradR_eq n e a hn he]
  simp only [EReal.coe_add, EReal.coe_mul]

end Cert.Finite

end
-- ==== Proof.Norm21.lean ====
/-
  The gradient of the root-mean-square norm before the second layer: every point
  takes a block of rows, writes the gradient of its rows, and adds its part of
  the weight's gradient.
-/
module

public import proofs.«01_k».proof.Proof.Gen.Kernel21Ideal.Value
public import proofs.«01_k».proof.Proof.Finite
public import Idealize.ShloMosaic.Lib.Pipeline.ValueKit
public import Idealize.ShloMosaic.Lib.Pipeline.ReadBack
public import proofs.«01_k».proof.Proof.Gen.Pre_norm_finite
public import proofs.«01_k».proof.Defs
public import proofs.«01_k».proof.Proof.Gen.Reference21Ideal.Run
public import Idealize.ShloMosaic.Lib.Quiescent
public import Idealize.ShloMosaic.Lib.Tactic.ValueTie

@[expose] public section

set_option maxRecDepth 16384

noncomputable section

namespace Cert.Kernel21Ideal.Value

open Cert.Kernel21Ideal Cert.Kernel21Ideal.Gen Cert.Finite Idealize.ShloMosaic Idealize.ShloMosaic.TcCoe Idealize.SL.Sem

variable (m : (ℓ : Loc nD τ sig) → Buf (Elt Ideal) ℓ)

/-- The gradient of the rows at an entry. -/
def rowsGrad {A : Nat} (x g d : (⟨2, ![A, 2048]⟩ : Shape).Idx → EReal) (w : (⟨2, ![1, 2048]⟩ : Shape).Idx → EReal) (a : Fin A) (b : Fin 2048) : EReal :=
  d (ix2 a b) + grad (Ideal.ofBits .f32 0x45000000#32) (Ideal.ofBits .f32 0x358637BD#32) (row x a) (through g w a) b

/-- Where every number is real, the gradient of the rows is the one differentiation gives. -/
theorem rowsGrad_eq {A : Nat} (x g d : (⟨2, ![A, 2048]⟩ : Shape).Idx → EReal) (w : (⟨2, ![1, 2048]⟩ : Shape).Idx → EReal)
    (hx : ∀ i, ∃ r : ℝ, x i = r) (hg : ∀ i, ∃ r : ℝ, g i = r) (hw : ∀ i, ∃ r : ℝ, w i = r) (a : Fin A) (b : Fin 2048) :
    rowsGrad x g d w a b = d (ix2 a b) + through g w a b * scale (Ideal.ofBits .f32 0x45000000#32) (Ideal.ofBits .f32 0x358637BD#32) (row x a)
      + row x a b * pull (Ideal.ofBits .f32 0x45000000#32) (Ideal.ofBits .f32 0x358637BD#32) (row x a) (Ideal.ofBits .f32 0xBF000000#32) (through g w a)
      + pull (Ideal.ofBits .f32 0x45000000#32) (Ideal.ofBits .f32 0x358637BD#32) (row x a) (Ideal.ofBits .f32 0xBF000000#32) (through g w a) * row x a b := by
  unfold rowsGrad
  rw [width, small_eq, neg_half, grad_eq 2048 small (by norm_num) small_pos (row x a) (through g w a) (fun k => hx _) (fun k => real_mul (hg _) (hw _))]
  simp only [add_assoc]

/-- A row's part of the weight's gradient at a column. -/
def weightTerm {A : Nat} (x g : (⟨2, ![A, 2048]⟩ : Shape).Idx → EReal) (a : Fin A) (b : Fin 2048) : EReal :=
  g (ix2 a b) * (x (ix2 a b) * scale (Ideal.ofBits .f32 0x45000000#32) (Ideal.ofBits .f32 0x358637BD#32) (row x a))

/-- The block of rows a point writes. -/
theorem rows (c : Dev nD) (t : Fin cfg0.N) (j : S384x2048.Idx) :
    (outsAt0 m c t.val t.isLt).1 j = rowsGrad (A := 384) (iblk m c 1 t) (iblk m c 0 t) (iblk m c 3 t) (iblk m c 2 t) (j 0) (j 1) := by
  by_cases h : t.val % 11 = 0
  · rw [outsAt0_A m c t h]
    dsimp only
    frame_out
    unfold k0_pay3 k0_pay2 k0_pay1 rowsGrad grad scale square row through
    pointwise
  · rw [outsAt0_B m c t h]
    dsimp only
    frame_out
    unfold k0_pay3 k0_pay2 k0_pay1 rowsGrad grad scale square row through
    pointwise

/-- The part of the weight's gradient a point adds. -/
def part (c : Dev nD) (t : Fin cfg0.N) (j : S1x2048.Idx) : EReal :=
  ∑ a : Fin 384, weightTerm (A := 384) (iblk m c 1 t) (iblk m c 0 t) a (j 1)

theorem first (c : Dev nD) (t : Fin cfg0.N) (h : t.val % 11 = 0) (j : S1x2048.Idx) :
    (outsAt0 m c t.val t.isLt).2 j = (fun _ : S1x2048.Idx => (0 : EReal)) j + part m c t j := by
  rw [outsAt0_A m c t h]
  dsimp only
  frame_out
  unfold k0_pay5 k0_pay4 k0_pay2 k0_pay1 part weightTerm scale square row
  pointwise

theorem next (c : Dev nD) (t : Fin cfg0.N) (h : ¬t.val % 11 = 0) (j : S1x2048.Idx) :
    (outsAt0 m c t.val t.isLt).2 j
      = (outsAt0 m c (t.val - 1) (Nat.lt_of_le_of_lt (Nat.sub_le _ _) t.isLt)).2 j + part m c t j := by
  rw [outsAt0_B m c t h]
  dsimp only
  frame_out
  unfold k0_pay5 k0_pay2 k0_pay1 part weightTerm scale square row
  pointwise

/-- The blocks a point reads and fills. -/
theorem places : ∀ t : Fin cfg0.N, win0_0.index t = ![t.val, 0] ∧ win0_1.index t = ![t.val, 0] ∧ win0_2.index t = ![0, 0]
    ∧ win0_3.index t = ![t.val, 0] ∧ win0_4.index t = ![t.val, 0] ∧ win0_5.index t = ![0, 0] :=
  (by decide +kernel : ∀ t : Fin grid0.N, _)

/-- What the first array ends holding. -/
theorem final4 (c : Dev nD) : (dats m 0 c).arrAt 4 cfg0.N = fun i => rowsGrad (A := 4224) (m ((c.tc : Thread nD τ).loc main_arg0)) (m ((c.tc : Thread nD τ).loc main_arg2)) (m ((c.tc : Thread nD τ).loc main_arg3)) (m ((c.tc : Thread nD τ).loc main_arg1)) (i 0) (i 1) := by
  refine (dats m 0 c).arrAt_eq_of_covers 4 _ (by decide +kernel) fun t hf y => ?_
  have hp := places t
  blk_simp
  rw [after0_4, rows]
  unfold rowsGrad
  congr 1
  · blk_ext [iblk, V, hp.2.2.2.1, hp.2.2.2.2.1]
  · congr 1
    · funext k
      unfold row
      blk_ext [iblk, V, hp.2.1, hp.2.2.2.2.1]
    · funext k
      unfold through
      congr 1
      · blk_ext [iblk, V, hp.1, hp.2.2.2.2.1]
      · blk_ext [iblk, V, hp.2.2.1]
    · exact Fin.ext (by blk_simp [hp.2.2.2.2.1])

/-- What the second array ends holding. -/
theorem final5 (c : Dev nD) : (dats m 0 c).arrAt 5 cfg0.N = fun i => ∑ a : Fin 4224, weightTerm (A := 4224) (m ((c.tc : Thread nD τ).loc main_arg0)) (m ((c.tc : Thread nD τ).loc main_arg2)) a (i 1) := by
  refine (dats m 0 c).arrAt_eq_of_covers 5 _ (by decide +kernel) fun t hf y => ?_
  have h2 := (flush0_5 t).mp hf
  have hp := (places t).2.2.2.2.2
  blk_simp
  rw [after0_5]
  refine (Pipeline.eq_sum_fin_of_reset_step_apply_of_flush (fun n h => (outsAt0 m c n h).2) 11 (fun _ => (0 : EReal)) (part m c)
    (first m c) (next m c) t h2 _).trans ?_
  rw [zero_add]
  refine Fin.sum_mul_add_congr fun s k hk => ?_
  have hd := places ⟨11 * (t.val / 11) + s.val, Pipeline.run_point_lt_of_flush t h2 s⟩
  unfold weightTerm
  congr 1
  · blk_ext [iblk, V, hd.1, hp]
  · congr 1
    · blk_ext [iblk, V, hd.2.1, hp]
    · congr 1
      funext l
      unfold row
      blk_ext [iblk, V, hd.2.1, hp]

end Cert.Kernel21Ideal.Value

namespace Cert.Proof

open Cert.Finite Cert.Kernel21Ideal.Value Idealize.ShloMosaic Idealize.SL.Sem

/-- The reference runs, leaves its arguments unchanged and every counter at zero. -/
theorem quiescent_Reference21Ideal : quiescent_Reference21Ideal := fun m ρ _ =>
  (θ_run Cert.Reference21Ideal.defs _ _).mono (fun r h => ⟨fun c => (h c).2.2, sem_eq_zero_of_no_sems (by decide) r.2⟩)
    (Cert.Reference21Ideal.Value.run (F := Ideal) m ρ)

/-- Kernel and reference compute the same gradients. -/
theorem algebraic_Kernel21Ideal_Reference21Ideal : algebraic_Kernel21Ideal_Reference21Ideal_pre_norm_finite := by
  intro m ρ m' ρ' hpre hagree
  refine ⟨_, _, Cert.Kernel21Ideal.Value.run_blocks (F := Ideal) m ρ, ?_⟩
  refine (θ_run Cert.Reference21Ideal.defs _ _).mono (fun _ h c => ⟨?_, ?_, (h c).2.2⟩) (Cert.Reference21Ideal.Value.run (F := Ideal) m' ρ')
  · rw [(h c).1, Cert.Kernel21Ideal.Value.final4]
    simp only [hagree c]
    obtain ⟨hx, hw, hg⟩ := hpre c
    funext i
    refine Eq.trans ?_ (rowsGrad_eq _ _ _ _ (fun i => ?_) (fun i => ?_) (fun i => ?_) _ _).symm
    · clean_types
      unfold pull scale square row through
      pointwise
      simp only [Fin.sum_univ_one]
    · have := congrFun hx i
      revert this
      unfold Cert.Pre_norm_finite.fn
      pointwise
      exact real_of_abs_lt
    · have := congrFun hg i
      revert this
      unfold Cert.Pre_norm_finite.fn
      pointwise
      exact real_of_abs_lt
    · have := congrFun hw i
      revert this
      unfold Cert.Pre_norm_finite.fn
      pointwise
      exact real_of_abs_lt
  · rw [(h c).2.1, Cert.Kernel21Ideal.Value.final5]
    simp only [hagree c]
    clean_types
    funext i
    unfold weightTerm scale square row
    pointwise
    exact Finset.sum_congr rfl fun k _ => mul_comm _ _

end Cert.Proof

end
-- ==== Proof.Norm22.lean ====
/-
  The last norm, the mean squared error of what it gives, and the gradients of
  both: every point but the first takes a block of rows of the last layer and of
  the target, adds its part of the loss, writes the gradient of its rows, and
  adds its part of the weight's gradient.
-/
module

public import proofs.«01_k».proof.Proof.Gen.Kernel22Ideal.Value
public import proofs.«01_k».proof.Proof.Finite
public import Idealize.ShloMosaic.Lib.Pipeline.ValueKit
public import Idealize.ShloMosaic.Lib.Pipeline.ReadBack
public import proofs.«01_k».proof.Proof.Gen.Pre_loss_finite
public import proofs.«01_k».proof.Defs
public import proofs.«01_k».proof.Proof.Gen.Reference22Ideal.Run
public import Idealize.ShloMosaic.Lib.Quiescent
public import Idealize.ShloMosaic.Lib.Tactic.ValueTie

@[expose] public section

set_option maxRecDepth 16384

noncomputable section

namespace Cert.Kernel22Ideal.Value

open Cert.Kernel22Ideal Cert.Kernel22Ideal.Gen Cert.Finite Idealize.ShloMosaic Idealize.ShloMosaic.TcCoe Idealize.SL.Sem

variable (m : (ℓ : Loc nD τ sig) → Buf (Elt Ideal) ℓ)

section Rows

variable (x w t : Fin 2048 → EReal)

/-- A row after the norm, before its weight. -/
def normed (k : Fin 2048) : EReal := x k * scale (Ideal.ofBits .f32 0x45000000#32) (Ideal.ofBits .f32 0x358637BD#32) x

/-- What a row misses its target by. -/
def miss (k : Fin 2048) : EReal := normed x k * w k - t k

/-- The mean square of what a row misses its target by. -/
def missed : EReal := Ideal.div (∑ k, miss x w t k * miss x w t k) (Ideal.ofBits .f32 0x45000000#32)

/-- The gradient of the loss by a row's output. -/
def pushed (k : Fin 2048) : EReal := miss x w t k * Ideal.ofBits .f32 0x3A000000#32

/-- The gradient of the loss by a row. -/
def rowGrad (k : Fin 2048) : EReal :=
  grad (Ideal.ofBits .f32 0x45000000#32) (Ideal.ofBits .f32 0x358637BD#32) x (fun k => pushed x w t k * w k) k

/-- A row's part of the gradient by the weight. -/
def weightTerm (k : Fin 2048) : EReal := pushed x w t k * normed x k

end Rows

/-- The part of the loss a point adds. -/
def part3 (c : Dev nD) (t : Fin cfg0.N) (_ : S1x1.Idx) : EReal :=
  if t.val % 33 = 0 then 0
  else Ideal.ofBits .f32 0x3F000000#32 * ∑ a : Fin 128, missed (row (A := 128) (iblk m c 0 t) a) (row (A := 1) (iblk m c 1 t) 0) (row (A := 128) (iblk m c 2 t) a)

/-- The part of the weight's gradient a point adds. -/
def part5 (c : Dev nD) (t : Fin cfg0.N) (j : S1x2048.Idx) : EReal :=
  if t.val % 33 = 0 then 0
  else ∑ a : Fin 128, weightTerm (row (A := 128) (iblk m c 0 t) a) (row (A := 1) (iblk m c 1 t) 0) (row (A := 128) (iblk m c 2 t) a) (j 1)

theorem later {t : Fin cfg0.N} (h : ¬t.val % 33 = 0) : 1 ≤ t.val := by omega

theorem earlier {t : Fin cfg0.N} (h : t.val % 33 = 0) : ¬1 ≤ t.val := by
  have : t.val < 33 := t.isLt
  omega

/-- The block of rows a point writes. -/
theorem rows (c : Dev nD) (t : Fin cfg0.N) (j : S128x2048.Idx) :
    (outsAt0 m c t.val t.isLt).2.1 j = if t.val % 33 = 0 then 0
      else rowGrad (row (A := 128) (iblk m c 0 t) (j 0)) (row (A := 1) (iblk m c 1 t) 0) (row (A := 128) (iblk m c 2 t) (j 0)) (j 1) := by
  by_cases h : t.val % 33 = 0
  · rw [outsAt0_A m c t h (earlier h), if_pos h]
    dsimp only
    frame_out
    unfold k0_pay3
    pointwise
  · rw [outsAt0_B m c t h (later h), if_neg h]
    dsimp only
    frame_out
    unfold k0_pay4 k0_pay12 k0_pay11 k0_pay10 k0_pay8 k0_pay7 k0_pay6 rowGrad pushed miss normed grad scale square row
    pointwise

theorem first3 (c : Dev nD) (t : Fin cfg0.N) (h : t.val % 33 = 0) (j : S1x1.Idx) :
    (outsAt0 m c t.val t.isLt).1 j = (fun _ : S1x1.Idx => (0 : EReal)) j + part3 m c t j := by
  rw [outsAt0_A m c t h (earlier h), part3, if_pos h]
  dsimp only
  frame_out
  unfold k0_pay1
  pointwise

theorem next3 (c : Dev nD) (t : Fin cfg0.N) (h : ¬t.val % 33 = 0) (j : S1x1.Idx) :
    (outsAt0 m c t.val t.isLt).1 j
      = (outsAt0 m c (t.val - 1) (Nat.lt_of_le_of_lt (Nat.sub_le _ _) t.isLt)).1 j + part3 m c t j := by
  rw [outsAt0_B m c t h (later h), part3, if_neg h]
  dsimp only
  frame_out
  unfold k0_pay9 k0_pay8 k0_pay7 k0_pay6 missed miss normed scale square row
  pointwise

theorem first5 (c : Dev nD) (t : Fin cfg0.N) (h : t.val % 33 = 0) (j : S1x2048.Idx) :
    (outsAt0 m c t.val t.isLt).2.2 j = (fun _ : S1x2048.Idx => (0 : EReal)) j + part5 m c t j := by
  rw [outsAt0_A m c t h (earlier h), part5, if_pos h]
  dsimp only
  frame_out
  unfold k0_pay2
  pointwise

theorem next5 (c : Dev nD) (t : Fin cfg0.N) (h : ¬t.val % 33 = 0) (j : S1x2048.Idx) :
    (outsAt0 m c t.val t.isLt).2.2 j
      = (outsAt0 m c (t.val - 1) (Nat.lt_of_le_of_lt (Nat.sub_le _ _) t.isLt)).2.2 j + part5 m c t j := by
  rw [outsAt0_B m c t h (later h), part5, if_neg h]
  dsimp only
  frame_out
  unfold k0_pay5 k0_pay10 k0_pay8 k0_pay7 k0_pay6 weightTerm pushed miss normed scale square row
  pointwise

/-- The blocks a point reads and fills. -/
theorem places : ∀ t : Fin cfg0.N, win0_0.index t = ![t.val, 0] ∧ win0_1.index t = ![0, 0] ∧ win0_2.index t = ![t.val - 1, 0]
    ∧ win0_3.index t = ![0, 0] ∧ win0_4.index t = ![t.val, 0] ∧ win0_5.index t = ![0, 0] :=
  (by decide +kernel : ∀ t : Fin grid0.N, _)

/-- The gradient of the loss at an entry: zero in the rows that have no target. -/
def gradAt (x : (⟨2, ![4224, 2048]⟩ : Shape).Idx → EReal) (w : (⟨2, ![1, 2048]⟩ : Shape).Idx → EReal) (t : (⟨2, ![4096, 2048]⟩ : Shape).Idx → EReal)
    (a : Fin 4224) (b : Fin 2048) : EReal :=
  if h : a.val < 128 then 0 else rowGrad (row x a) (row w 0) (row t ⟨a.val - 128, by omega⟩) b

/-- The row of the last layer a row of the target goes with. -/
def below (a : Fin 4096) : Fin 4224 := ⟨128 + a.val, by omega⟩

theorem gradAt_below (x : (⟨2, ![4224, 2048]⟩ : Shape).Idx → EReal) (w : (⟨2, ![1, 2048]⟩ : Shape).Idx → EReal) (t : (⟨2, ![4096, 2048]⟩ : Shape).Idx → EReal)
    {a : Fin 4224} (l : Fin 4096) (h : a.val = 128 + l.val) (b : Fin 2048) : gradAt x w t a b = rowGrad (row x (below l)) (row w 0) (row t l) b := by
  obtain rfl : a = below l := Fin.ext h
  have : (⟨(below l).val - 128, by unfold below; dsimp only; omega⟩ : Fin 4096) = l := Fin.ext (by unfold below; dsimp only; omega)
  rw [gradAt, dif_neg (by omega), this]

theorem gradAt_above (x : (⟨2, ![4224, 2048]⟩ : Shape).Idx → EReal) (w : (⟨2, ![1, 2048]⟩ : Shape).Idx → EReal) (t : (⟨2, ![4096, 2048]⟩ : Shape).Idx → EReal)
    {a : Fin 4224} (h : a.val < 128) (b : Fin 2048) : gradAt x w t a b = 0 := dif_pos h

/-- The rows a point reads, in the whole arrays. -/
theorem read (c : Dev nD) (t : Fin cfg0.N) (h : 1 ≤ t.val) (a : Fin 128) (l : Fin 4096) (hl : l.val = (t.val - 1) * 128 + a.val) :
    row (A := 128) (iblk m c 0 t) a = row (A := 4224) (m ((c.tc : Thread nD τ).loc main_arg0)) (below l)
    ∧ row (A := 1) (iblk m c 1 t) 0 = row (A := 1) (m ((c.tc : Thread nD τ).loc main_arg1)) 0
    ∧ row (A := 128) (iblk m c 2 t) a = row (A := 4096) (m ((c.tc : Thread nD τ).loc main_arg2)) l := by
  have hp := places t
  refine ⟨funext fun k => ?_, funext fun k => ?_, funext fun k => ?_⟩
  · unfold row below
    blk_ext [iblk, V, hp.1]
  · unfold row
    blk_ext [iblk, V, hp.2.1]
  · unfold row
    blk_ext [iblk, V, hp.2.2.1, hl]

/-- What the array of the loss ends holding. -/
theorem final3 (c : Dev nD) : (dats m 0 c).arrAt 3 cfg0.N = fun _ => ∑ s : Fin 32, Ideal.ofBits .f32 0x3F000000#32 * ∑ a : Fin 128,
    missed (row (A := 4224) (m ((c.tc : Thread nD τ).loc main_arg0)) (below ⟨s.val * 128 + a.val, by omega⟩)) (row (A := 1) (m ((c.tc : Thread nD τ).loc main_arg1)) 0)
      (row (A := 4096) (m ((c.tc : Thread nD τ).loc main_arg2)) ⟨s.val * 128 + a.val, by omega⟩) := by
  refine (dats m 0 c).arrAt_eq_of_covers 3 _ (by decide +kernel) fun t hf y => ?_
  have h2 := (flush0_3 t).mp hf
  have hp := (places t).2.2.2.1
  blk_simp
  rw [after0_3]
  refine (Pipeline.eq_sum_fin_of_reset_step_apply_of_flush (fun n h => (outsAt0 m c n h).1) 33 (fun _ => (0 : EReal)) (part3 m c)
    (first3 m c) (next3 m c) t h2 _).trans ?_
  have ht : t.val / 33 = 0 := Nat.div_eq_of_lt t.isLt
  rw [zero_add, Fin.sum_univ_succ]
  refine (congrArg₂ (· + ·) (if_pos (by simp)) (Finset.sum_congr rfl fun s _ => ?_)).trans (zero_add _)
  refine (if_neg (by simp only [Fin.val_succ]; omega)).trans (congrArg _ (Finset.sum_congr rfl fun a _ => ?_))
  obtain ⟨h0, h1, h2⟩ := read m c ⟨33 * (t.val / 33) + s.succ.val, Pipeline.run_point_lt_of_flush t h2 s.succ⟩ (by simp; omega) a
    ⟨s.val * 128 + a.val, by omega⟩ (by simp [ht])
  rw [h0, h1, h2]

/-- What the array of the gradient by the last layer ends holding. -/
theorem final4 (c : Dev nD) : (dats m 0 c).arrAt 4 cfg0.N = fun i => gradAt (m ((c.tc : Thread nD τ).loc main_arg0)) (m ((c.tc : Thread nD τ).loc main_arg1)) (m ((c.tc : Thread nD τ).loc main_arg2)) (i 0) (i 1) := by
  refine (dats m 0 c).arrAt_eq_of_covers 4 _ (by decide +kernel) fun t hf y => ?_
  have hp := places t
  have ht : t.val < 33 := t.isLt
  blk_simp
  rw [after0_4, rows]
  have h0 : ((win0_4.blk t).view.emb y 0).val = t.val * 128 + (y 0).val := by blk_simp [hp.2.2.2.2.1]
  have h1 : (win0_4.blk t).view.emb y 1 = y 1 := Fin.ext (by blk_simp [hp.2.2.2.2.1])
  have hy : (y 0).val < 128 := (y 0).isLt
  by_cases h : t.val % 33 = 0
  · rw [if_pos h]
    refine (gradAt_above _ _ _ ?_ _).symm
    rw [h0]
    omega
  · have hl : (t.val - 1) * 128 + (y 0).val < 4096 := by omega
    rw [if_neg h, h1]
    refine Eq.trans ?_ (gradAt_below _ _ _ ⟨(t.val - 1) * 128 + (y 0).val, hl⟩ (h0.trans (by dsimp only; omega)) _).symm
    obtain ⟨r0, r1, r2⟩ := read m c t (by omega) (y 0) ⟨(t.val - 1) * 128 + (y 0).val, hl⟩ rfl
    rw [r0, r1, r2]

/-- What the array of the gradient by the weight ends holding. -/
theorem final5 (c : Dev nD) : (dats m 0 c).arrAt 5 cfg0.N = fun i => ∑ a : Fin 4096,
    weightTerm (row (A := 4224) (m ((c.tc : Thread nD τ).loc main_arg0)) (below a)) (row (A := 1) (m ((c.tc : Thread nD τ).loc main_arg1)) 0)
      (row (A := 4096) (m ((c.tc : Thread nD τ).loc main_arg2)) a) (i 1) := by
  refine (dats m 0 c).arrAt_eq_of_covers 5 _ (by decide +kernel) fun t hf y => ?_
  have h2 := (flush0_5 t).mp hf
  have hp := (places t).2.2.2.2.2
  have h1 : (win0_5.blk t).view.emb y 1 = y 1 := Fin.ext (by blk_simp [hp])
  blk_simp
  rw [after0_5, h1]
  refine (Pipeline.eq_sum_fin_of_reset_step_apply_of_flush (fun n h => (outsAt0 m c n h).2.2) 33 (fun _ => (0 : EReal)) (part5 m c)
    (first5 m c) (next5 m c) t h2 _).trans ?_
  have ht : t.val / 33 = 0 := Nat.div_eq_of_lt t.isLt
  rw [zero_add, Fin.sum_univ_succ]
  refine (congrArg₂ (· + ·) (if_pos (by simp)) (Finset.sum_congr rfl fun s _ => ?_)).trans
    ((zero_add _).trans (Fin.sum_mul_add_fin 32 128 (fun a : Fin 4096 =>
      weightTerm (row (A := 4224) (m ((c.tc : Thread nD τ).loc main_arg0)) (below a)) (row (A := 1) (m ((c.tc : Thread nD τ).loc main_arg1)) 0)
        (row (A := 4096) (m ((c.tc : Thread nD τ).loc main_arg2)) a) (y 1))))
  refine (if_neg (by simp only [Fin.val_succ]; omega)).trans (Finset.sum_congr rfl fun a _ => ?_)
  obtain ⟨r0, r1, r2⟩ := read m c ⟨33 * (t.val / 33) + s.succ.val, Pipeline.run_point_lt_of_flush t h2 s.succ⟩ (by simp; omega) a
    ⟨s.val * 128 + a.val, by omega⟩ (by simp [ht])
  rw [r0, r1, r2]

end Cert.Kernel22Ideal.Value

namespace Cert.Proof

open Cert Cert.Finite Cert.Kernel22Ideal.Value Idealize.ShloMosaic Idealize.SL.Sem

/-- The reference runs, leaves its arguments unchanged and every counter at zero. -/
theorem quiescent_Reference22Ideal : quiescent_Reference22Ideal := fun m ρ _ =>
  (θ_run Cert.Reference22Ideal.defs _ _).mono (fun r h => ⟨fun c => (h c).2.2.2, sem_eq_zero_of_no_sems (by decide) r.2⟩)
    (Cert.Reference22Ideal.Value.run (F := Ideal) m ρ)

/-- A real factor of a sum, taken into the sum's parts. -/
theorem part_sum (r : ℝ) (hr : 0 ≤ r) {ι : Type} [Fintype ι] (f : ι → EReal) : (r : EReal) * ∑ i, f i = ∑ i, (r : EReal) * f i := by
  classical
  have h : ∀ s : Finset ι, (r : EReal) * ∑ i ∈ s, f i = ∑ i ∈ s, (r : EReal) * f i := fun s => by
    induction s using Finset.induction_on with
    | empty => simp
    | insert a s ha ih =>
      rw [Finset.sum_insert ha, Finset.sum_insert ha, ← ih]
      exact EReal.left_distrib_of_nonneg_of_ne_top (by exact_mod_cast hr) (EReal.coe_ne_top r) _ _
  exact h _

/-- The gradient of the mean square error, in both ways of writing it. -/
theorem pushed_eq (e : EReal) : Ideal.div (Ideal.ofBits .f32 0x3F000000#32) (Ideal.ofBits .f32 0x45000000#32) * (Ideal.ofBits .f32 0x40000000#32 * e)
    = e * Ideal.ofBits .f32 0x3A000000#32 := by
  rw [half, width, two, width_inv, Ideal.div_coe (by norm_num), ← mul_assoc, ← EReal.coe_mul, ← EReal.coe_mul, mul_comm]
  norm_num

/-- Half a sum over the rows, in blocks. -/
theorem half_rows (f : Fin 4096 → EReal) : Ideal.ofBits .f32 0x3F000000#32 * ∑ l, f l
    = ∑ s : Fin 32, Ideal.ofBits .f32 0x3F000000#32 * ∑ a : Fin 128, f ⟨s.val * 128 + a.val, by omega⟩ := by
  rw [← Fin.sum_mul_add_fin 32 128 f, half, part_sum _ (by norm_num)]

/-- A sum over all rows whose first ones are zero. -/
theorem sum_below (f : Fin 4224 → EReal) (h : ∀ a : Fin 4224, a.val < 128 → f a = 0) : ∑ a, f a = ∑ l : Fin 4096, f (below l) := by
  refine (Fin.sum_univ_add (a := 128) (b := 4096) f).trans ?_
  rw [Finset.sum_eq_zero fun a _ => h _ (by simp), zero_add]
  rfl

section Cotangent

variable (x : (⟨2, ![4224, 2048]⟩ : Shape).Idx → EReal) (w : (⟨2, ![1, 2048]⟩ : Shape).Idx → EReal) (t : (⟨2, ![4096, 2048]⟩ : Shape).Idx → EReal)

/-- The cotangent of the last layer's output as differentiation writes it. -/
def cotangent (a : Fin 4224) (k : Fin 2048) : EReal :=
  if h : 128 ≤ a.val ∧ a.val - 128 < 4096 then
    Ideal.div (Ideal.ofBits .f32 0x3F000000#32) (Ideal.ofBits .f32 0x45000000#32)
      * (Ideal.ofBits .f32 0x40000000#32 * miss (row x ⟨128 + (a.val - 128), by omega⟩) (row w 0) (row t ⟨a.val - 128, h.2⟩) k)
  else 0

theorem cotangent_below (l : Fin 4096) (k : Fin 2048) : cotangent x w t (below l) k = pushed (row x (below l)) (row w 0) (row t l) k := by
  have h : (below l).val = 128 + l.val := rfl
  have h1 : (⟨(below l).val - 128, by omega⟩ : Fin 4096) = l := Fin.ext (by dsimp only; omega)
  have h2 : (⟨128 + ((below l).val - 128), by omega⟩ : Fin 4224) = below l := Fin.ext (by dsimp only; omega)
  rw [cotangent, dif_pos (by omega), pushed_eq, h1, h2, pushed]

theorem cotangent_above {a : Fin 4224} (h : a.val < 128) (k : Fin 2048) : cotangent x w t a k = 0 := dif_neg (by omega)

/-- The gradient of the loss as differentiation writes it. -/
def gradRef (a : Fin 4224) (b : Fin 2048) : EReal :=
  cotangent x w t a b * row w 0 b * scale (Ideal.ofBits .f32 0x45000000#32) (Ideal.ofBits .f32 0x358637BD#32) (row x a)
    + row x a b * pull (Ideal.ofBits .f32 0x45000000#32) (Ideal.ofBits .f32 0x358637BD#32) (row x a) (Ideal.ofBits .f32 0xBF000000#32) (fun k => cotangent x w t a k * row w 0 k)
    + pull (Ideal.ofBits .f32 0x45000000#32) (Ideal.ofBits .f32 0x358637BD#32) (row x a) (Ideal.ofBits .f32 0xBF000000#32) (fun k => cotangent x w t a k * row w 0 k) * row x a b

/-- A row after the norm is real where the row is. -/
theorem normed_real (x : Fin 2048 → EReal) (hx : ∀ k, ∃ r : ℝ, x k = r) (k : Fin 2048) : ∃ r : ℝ, normed x k = r := by
  choose a ha using hx
  obtain rfl : x = fun k => (a k : EReal) := funext ha
  unfold normed
  rw [width, small_eq, scale_coe 2048 small a (by norm_num) small_pos]
  exact ⟨_, (EReal.coe_mul _ _).symm⟩

theorem cotangent_real (hx : ∀ i, ∃ r : ℝ, x i = r) (hw : ∀ i, ∃ r : ℝ, w i = r) (ht : ∀ i, ∃ r : ℝ, t i = r) (a : Fin 4224) (k : Fin 2048) :
    ∃ r : ℝ, cotangent x w t a k = r := by
  by_cases h : a.val < 128
  · exact ⟨0, cotangent_above x w t h k⟩
  · obtain ⟨l, rfl⟩ : ∃ l : Fin 4096, a = below l := ⟨⟨a.val - 128, by omega⟩, Fin.ext (by unfold below; dsimp only; omega)⟩
    obtain ⟨p, hp⟩ := normed_real (row x (below l)) (fun k => hx _) k
    obtain ⟨q, hq⟩ := hw (ix2 0 k)
    obtain ⟨r, hr⟩ := ht (ix2 l k)
    refine ⟨(p * q - r) * (1 / 2048), ?_⟩
    rw [cotangent_below, pushed, miss, hp, width_inv, row, row, hq, hr]
    simp only [EReal.coe_mul, EReal.coe_sub]

/-- Where every number is real, the gradient of the loss is the one differentiation gives. -/
theorem gradAt_eq (hx : ∀ i, ∃ r : ℝ, x i = r) (hw : ∀ i, ∃ r : ℝ, w i = r) (ht : ∀ i, ∃ r : ℝ, t i = r) (a : Fin 4224) (b : Fin 2048) :
    gradAt x w t a b = gradRef x w t a b := by
  have h : gradAt x w t a b = grad (Ideal.ofBits .f32 0x45000000#32) (Ideal.ofBits .f32 0x358637BD#32) (row x a) (fun k => cotangent x w t a k * row w 0 k) b := by
    by_cases h : a.val < 128
    · rw [gradAt_above x w t h, grad]
      simp only [cotangent_above x w t h, zero_mul, Finset.sum_const_zero]
      rw [width, Ideal.div_coe (by norm_num), zero_mul, mul_zero, sub_zero, mul_zero]
    · obtain ⟨l, rfl⟩ : ∃ l : Fin 4096, a = below l := ⟨⟨a.val - 128, by omega⟩, Fin.ext (by unfold below; dsimp only; omega)⟩
      rw [gradAt_below x w t l rfl, rowGrad]
      simp only [cotangent_below]
  rw [h, gradRef, width, small_eq, neg_half, grad_eq 2048 small (by norm_num) small_pos (row x a) (fun k => cotangent x w t a k * row w 0 k) (fun k => hx _)
    (fun k => real_mul (cotangent_real x w t hx hw ht a k) (hw _))]

/-- The gradient by the weight, summed over all rows and over those that have a target. -/
theorem weight_sum (k : Fin 2048) : ∑ a, normed (row x a) k * cotangent x w t a k = ∑ l : Fin 4096, weightTerm (row x (below l)) (row w 0) (row t l) k := by
  rw [sum_below _ fun a ha => by rw [cotangent_above x w t ha, mul_zero]]
  exact Finset.sum_congr rfl fun l _ => by rw [cotangent_below, mul_comm, weightTerm]

end Cotangent

/-- Kernel and reference compute the same loss and gradients. -/
theorem algebraic_Kernel22Ideal_Reference22Ideal : algebraic_Kernel22Ideal_Reference22Ideal_pre_loss_finite := by
  intro m ρ m' ρ' hpre hagree
  refine ⟨_, _, _, Cert.Kernel22Ideal.Value.run_blocks (F := Ideal) m ρ, ?_⟩
  refine (θ_run Cert.Reference22Ideal.defs _ _).mono (fun _ h c => ⟨?_, ?_, ?_, (h c).2.2.2⟩) (Cert.Reference22Ideal.Value.run (F := Ideal) m' ρ')
  · rw [(h c).1, Cert.Kernel22Ideal.Value.final3]
    simp only [hagree c]
    clean_types
    funext i
    refine Eq.trans ?_ (half_rows fun l => missed (row (A := 4224) (m ((c.tc : Thread Kernel22Ideal.nD Kernel22Ideal.τ).loc Kernel22Ideal.main_arg0)) (below l))
      (row (A := 1) (m ((c.tc : Thread Kernel22Ideal.nD Kernel22Ideal.τ).loc Kernel22Ideal.main_arg1)) 0) (row (A := 4096) (m ((c.tc : Thread Kernel22Ideal.nD Kernel22Ideal.τ).loc Kernel22Ideal.main_arg2)) l))
    unfold missed miss normed scale square row below
    pointwise
  · rw [(h c).2.1, Cert.Kernel22Ideal.Value.final4]
    simp only [hagree c]
    obtain ⟨hx, hw, ht⟩ := hpre c
    funext i
    refine Eq.trans ?_ (gradAt_eq _ _ _ (fun i => ?_) (fun i => ?_) (fun i => ?_) _ _).symm
    · clean_types
      unfold Reference22Ideal.Value.res_main_v50 gradRef pull cotangent miss normed scale square row
      simp only [hagree c]
      pointwise
      simp only [Fin.sum_univ_one]
    · have := congrFun hx i
      revert this
      unfold Cert.Pre_loss_finite.fn
      pointwise
      exact real_of_abs_lt
    · have := congrFun hw i
      revert this
      unfold Cert.Pre_loss_finite.fn
      pointwise
      exact real_of_abs_lt
    · have := congrFun ht i
      revert this
      unfold Cert.Pre_loss_finite.fn
      pointwise
      exact real_of_abs_lt
  · rw [(h c).2.2.1, Cert.Kernel22Ideal.Value.final5]
    simp only [hagree c]
    clean_types
    funext i
    refine Eq.trans ?_ (weight_sum (m ((c.tc : Thread Kernel22Ideal.nD Kernel22Ideal.τ).loc Kernel22Ideal.main_arg0)) (m ((c.tc : Thread Kernel22Ideal.nD Kernel22Ideal.τ).loc Kernel22Ideal.main_arg1))
      (m ((c.tc : Thread Kernel22Ideal.nD Kernel22Ideal.τ).loc Kernel22Ideal.main_arg2)) (i 1))
    unfold cotangent miss normed scale square row
    pointwise

end Cert.Proof

end
-- ==== Proof.Norm23.lean ====
/-
  The gradient of the second mixer's gate: every point takes a block of rows and
  writes the gradients of the gate's three arguments there, one of them into its
  columns of a wider array.
-/
module

public import proofs.«01_k».proof.Proof.Gen.Kernel23Ideal.Value
public import proofs.«01_k».proof.Proof.Finite
public import Idealize.ShloMosaic.Lib.Pipeline.ValueKit
public import Idealize.ShloMosaic.Lib.Pipeline.ReadBack
public import proofs.«01_k».proof.Proof.Gen.Pre_gate_finite
public import proofs.«01_k».proof.Defs
public import proofs.«01_k».proof.Proof.Gen.Reference23Ideal.Run
public import Idealize.ShloMosaic.Lib.Quiescent
public import Idealize.ShloMosaic.Lib.Tactic.ValueTie

@[expose] public section

set_option maxRecDepth 16384

noncomputable section

namespace Cert.Gate

open Cert.Finite Idealize.ShloMosaic

/-- The logistic function, as written in the programs. -/
def sigm (x : EReal) : EReal :=
  Ideal.div 1 (1 + Ideal.exp (-x))

theorem sigm_coe (r : ℝ) : sigm r = ((1 / (1 + Real.exp (-r)) : ℝ) : EReal) := by
  have h : (1 + Real.exp (-r)) ≠ 0 := by positivity
  unfold sigm
  rw [← EReal.coe_one, ← EReal.coe_neg, Ideal.exp_coe, ← EReal.coe_add, Ideal.div_coe h, ← EReal.coe_mul, one_mul]

theorem sigm_top : sigm ⊤ = ((1 : ℝ) : EReal) := by
  unfold sigm
  rw [← EReal.coe_one, EReal.neg_top, Ideal.exp_bot, add_zero, Ideal.div_coe one_ne_zero, ← EReal.coe_mul]
  norm_num

theorem sigm_bot : sigm ⊥ = ((0 : ℝ) : EReal) := by
  unfold sigm
  rw [← EReal.coe_one, EReal.neg_bot, Ideal.exp_top, EReal.coe_add_top]
  simp [Ideal.div]

/-- The logistic function of any number is a real number. -/
theorem sigm_real (x : EReal) : ∃ r : ℝ, sigm x = r := by
  induction x with
  | coe r => exact ⟨_, sigm_coe r⟩
  | top => exact ⟨_, sigm_top⟩
  | bot => exact ⟨_, sigm_bot⟩

theorem sub_self_one : (1 : EReal) - 1 = 0 := by
  rw [← EReal.coe_one, ← EReal.coe_sub, sub_self, EReal.coe_zero]

/-- The gradient through `z` times the logistic function of `z`, as the kernel and as differentiation write it. -/
theorem silu_grad (a z : EReal) (ha : ∃ r : ℝ, a = r) :
    a * sigm z * (1 + z * (1 - sigm z))
      = a * sigm z + z * a * (sigm z * (1 - sigm z)) := by
  obtain ⟨a, rfl⟩ := ha
  induction z with
  | coe r =>
    rw [sigm_coe]
    simp only [← EReal.coe_one, ← EReal.coe_mul, ← EReal.coe_sub, ← EReal.coe_add]
    congr 1
    ring
  | top =>
    rw [sigm_top, EReal.coe_one, sub_self_one]
    simp
  | bot =>
    rw [sigm_bot]
    simp

/-- The gradient of the gate's `z`. -/
def gradZ (d g t z : EReal) : EReal := d * (g * sigm t) * sigm z * (1 + z * (1 - sigm z))

/-- The gradient of the gate's `t`. -/
def gradT (d g t z : EReal) : EReal := d * z * sigm z * g * sigm t * (1 - sigm t)

/-- The gradient of the gate's `g`. -/
def gradG (d t z : EReal) : EReal := d * z * sigm z * sigm t

theorem gradZ_eq (d g t z : EReal) (hd : ∃ r : ℝ, d = r) (hg : ∃ r : ℝ, g = r) :
    g * sigm t * d * sigm z + z * (g * sigm t * d) * (sigm z * (1 - sigm z)) = gradZ d g t z := by
  unfold gradZ
  rw [mul_comm d, silu_grad _ _ (real_mul (real_mul hg (sigm_real t)) hd)]

theorem gradT_eq (d g t z : EReal) : g * (d * (z * sigm z)) * (sigm t * (1 - sigm t)) = gradT d g t z := by
  unfold gradT
  ac_rfl

theorem gradG_eq (d t z : EReal) : d * (z * sigm z) * sigm t = gradG d t z := by
  unfold gradG
  ac_rfl

end Cert.Gate

namespace Cert.Kernel23Ideal.Value

open Cert.Kernel23Ideal Cert.Kernel23Ideal.Gen Cert.Finite Cert.Gate Idealize.ShloMosaic Idealize.ShloMosaic.TcCoe Idealize.SL.Sem

variable (m : (ℓ : Loc nD τ sig) → Buf (Elt Ideal) ℓ)

theorem blockZ (c : Dev nD) (t : Fin cfg0.N) (j : S384x1024.Idx) :
    (outsAt0 m c t).1 j = gradZ (iblk m c 0 t j) (iblk m c 1 t j) (iblk m c 2 t j) (iblk m c 3 t j) := by
  unfold outsAt0
  dsimp only
  frame_out
  unfold k0_pay5 k0_pay4 k0_pay3 k0_pay2 gradZ sigm
  pointwise
  simp only [zero_sub]

theorem blockT (c : Dev nD) (t : Fin cfg0.N) (j : S384x1024.Idx) :
    (outsAt0 m c t).2.1 j = gradT (iblk m c 0 t j) (iblk m c 1 t j) (iblk m c 2 t j) (iblk m c 3 t j) := by
  unfold outsAt0
  dsimp only
  frame_out
  unfold k0_pay7 k0_pay6 k0_pay4 k0_pay3 k0_pay2 gradT sigm
  pointwise
  simp only [zero_sub]

theorem blockG (c : Dev nD) (t : Fin cfg0.N) (j : S384x1024.Idx) :
    (outsAt0 m c t).2.2 j = gradG (iblk m c 0 t j) (iblk m c 2 t j) (iblk m c 3 t j) := by
  unfold outsAt0
  dsimp only
  frame_out
  unfold k0_pay1 k0_pay6 k0_pay4 k0_pay3 gradG sigm
  pointwise
  simp only [zero_sub]

/-- The blocks a point reads and fills. -/
theorem places : ∀ t : Fin cfg0.N, win0_0.index t = ![t.val, 2] ∧ win0_1.index t = ![t.val, 0] ∧ win0_2.index t = ![t.val, 0]
    ∧ win0_3.index t = ![t.val, 7] ∧ win0_4.index t = ![t.val, 7] ∧ win0_5.index t = ![t.val, 0] ∧ win0_6.index t = ![t.val, 0] :=
  (by decide +kernel : ∀ t : Fin grid0.N, _)

/-- The entries of the arguments a row and column of the gate read. -/
def atD (c : Dev nD) (a : Fin 4224) (b : Fin 1024) : EReal := m ((c.tc : Thread nD τ).loc main_arg0) (ix2 a (⟨2048 + b.val, by omega⟩ : Fin 3072))
def atG (c : Dev nD) (a : Fin 4224) (b : Fin 1024) : EReal := m ((c.tc : Thread nD τ).loc main_arg1) (ix2 a b)
def atT (c : Dev nD) (a : Fin 4224) (b : Fin 1024) : EReal := m ((c.tc : Thread nD τ).loc main_arg2) (ix2 a b)
def atZ (c : Dev nD) (a : Fin 4224) (b : Fin 1024) : EReal := m ((c.tc : Thread nD τ).loc main_arg3) (ix2 a (⟨7168 + b.val, by omega⟩ : Fin 8192))

section Reads

variable (c : Dev nD) (t : Fin cfg0.N) (j : S384x1024.Idx) (a : Fin 4224) (b : Fin 1024)
  (ha : a.val = t.val * 384 + (j 0).val) (hb : b.val = (j 1).val)
include ha hb

theorem readD : iblk m c 0 t j = atD m c a b := by
  unfold atD
  blk_ext [iblk, V, (places t).1]

theorem readG : iblk m c 1 t j = atG m c a b := by
  unfold atG
  blk_ext [iblk, V, (places t).2.1]

theorem readT : iblk m c 2 t j = atT m c a b := by
  unfold atT
  blk_ext [iblk, V, (places t).2.2.1]

theorem readZ : iblk m c 3 t j = atZ m c a b := by
  unfold atZ
  blk_ext [iblk, V, (places t).2.2.2.1]

theorem whereZ : (outsAt0 m c t).1 j = gradZ (atD m c a b) (atG m c a b) (atT m c a b) (atZ m c a b) := by
  rw [blockZ, readD m c t j a b ha hb, readG m c t j a b ha hb, readT m c t j a b ha hb, readZ m c t j a b ha hb]

theorem whereT : (outsAt0 m c t).2.1 j = gradT (atD m c a b) (atG m c a b) (atT m c a b) (atZ m c a b) := by
  rw [blockT, readD m c t j a b ha hb, readG m c t j a b ha hb, readT m c t j a b ha hb, readZ m c t j a b ha hb]

theorem whereG : (outsAt0 m c t).2.2 j = gradG (atD m c a b) (atT m c a b) (atZ m c a b) := by
  rw [blockG, readD m c t j a b ha hb, readT m c t j a b ha hb, readZ m c t j a b ha hb]

end Reads

/-- What the first array ends holding. -/
theorem final4 (c : Dev nD) : (dats m 0 c).arrAt 4 cfg0.N = fun i : S4224x8192.Idx =>
    if 7168 ≤ (i 1).val then
      gradZ (atD m c (i 0) ⟨(i 1).val % 1024, Nat.mod_lt _ (by decide)⟩) (atG m c (i 0) ⟨(i 1).val % 1024, Nat.mod_lt _ (by decide)⟩)
        (atT m c (i 0) ⟨(i 1).val % 1024, Nat.mod_lt _ (by decide)⟩) (atZ m c (i 0) ⟨(i 1).val % 1024, Nat.mod_lt _ (by decide)⟩)
    else (dats m 0 c).A 4 i := by
  refine (dats m 0 c).arrAt_eq_of_coversWhere 4 _ (fun β => 7 ≤ β 1) (by decide +kernel) (fun t hf y => ?_) (fun j => ?_)
  · have hp := (places t).2.2.2.2.1
    blk_simp
    rw [after0_4]
    refine whereZ m c t _ _ _ (by blk_simp [hp]) ?_
    have hy : (y 1).val < 1024 := (y 1).isLt
    blk_simp [hp]
    show (7 * 1024 + (y 1).val) % 1024 = (y 1).val
    omega
  · blk_simp [Pipeline.Window.cell_apply]
    omega

/-- What the second array ends holding. -/
theorem final5 (c : Dev nD) : (dats m 0 c).arrAt 5 cfg0.N = fun i : S4224x1024.Idx =>
    gradT (atD m c (i 0) (i 1)) (atG m c (i 0) (i 1)) (atT m c (i 0) (i 1)) (atZ m c (i 0) (i 1)) := by
  refine (dats m 0 c).arrAt_eq_of_covers 5 _ (by decide +kernel) fun t hf y => ?_
  have hp := (places t).2.2.2.2.2.1
  blk_simp
  rw [after0_5]
  exact whereT m c t _ _ _ (by blk_simp [hp]) (by blk_simp [hp])

/-- What the third array ends holding. -/
theorem final6 (c : Dev nD) : (dats m 0 c).arrAt 6 cfg0.N = fun i : S4224x1024.Idx =>
    gradG (atD m c (i 0) (i 1)) (atT m c (i 0) (i 1)) (atZ m c (i 0) (i 1)) := by
  refine (dats m 0 c).arrAt_eq_of_covers 6 _ (by decide +kernel) fun t hf y => ?_
  have hp := (places t).2.2.2.2.2.2
  blk_simp
  rw [after0_6]
  exact whereG m c t _ _ _ (by blk_simp [hp]) (by blk_simp [hp])

end Cert.Kernel23Ideal.Value

namespace Cert.Proof

open Cert.Finite Cert.Gate Cert.Kernel23Ideal.Value Idealize.ShloMosaic Idealize.SL.Sem

/-- The reference runs, leaves its arguments unchanged and every counter at zero. -/
theorem quiescent_Reference23Ideal : quiescent_Reference23Ideal := fun m ρ _ =>
  (θ_run Cert.Reference23Ideal.defs _ _).mono (fun r h => ⟨fun c => (h c).2.2.2, sem_eq_zero_of_no_sems (by decide) r.2⟩)
    (Cert.Reference23Ideal.Value.run (F := Ideal) m ρ)

/-- Kernel and reference compute the same gradients. -/
theorem algebraic_Kernel23Ideal_Reference23Ideal : algebraic_Kernel23Ideal_Reference23Ideal_pre_gate_finite := by
  intro m ρ m' ρ' hpre hagree
  refine ⟨_, _, _, Cert.Kernel23Ideal.Value.run_blocks (F := Ideal) m ρ, ?_⟩
  refine (θ_run Cert.Reference23Ideal.defs _ _).mono (fun _ h c => ⟨?_, ?_, ?_, (h c).2.2.2⟩) (Cert.Reference23Ideal.Value.run (F := Ideal) m' ρ')
  · rw [(h c).1, Cert.Kernel23Ideal.Value.final4]
    obtain ⟨hd, hg⟩ := hpre c
    simp only [hagree c]
    clear h
    clean_types
    funext i
    unfold atD atG atT atZ
    pointwise
    by_cases hr : (i 1).val < 7168
    · refine (dif_pos hr).trans (Eq.trans ?_ (if_neg (by omega)).symm)
      rw [Cert.Kernel23Ideal.Gen.A_eq]
      exact (congrFun (hagree c).2.2.2.2 i).trans (congrFun (Cert.Kernel23Ideal.Gen.V_main_arg4 m c) i).symm
    · refine (dif_neg hr).trans (Eq.trans ?_ (if_pos (by omega)).symm)
      have hi : (i 1).val < 8192 := (i 1).isLt
      have hmod : (i 1).val % 1024 = (i 1).val - 7168 := by omega
      simp only [hagree c, hmod]
      refine gradZ_eq _ _ _ _ ?_ ?_
      · have := congrFun hd (ix2 (i 0) ⟨2048 + ((i 1).val - 7168), by omega⟩)
        revert this
        unfold Cert.Pre_gate_finite.fn
        pointwise
        exact real_of_abs_lt
      · have := congrFun hg (ix2 (i 0) ⟨(i 1).val - 7168, by omega⟩)
        revert this
        unfold Cert.Pre_gate_finite.fn
        pointwise
        exact real_of_abs_lt
  · rw [(h c).2.1, Cert.Kernel23Ideal.Value.final5]
    simp only [hagree c]
    clear h
    clean_types
    funext i
    unfold atD atG atT atZ
    pointwise
    exact gradT_eq _ _ _ _
  · rw [(h c).2.2.1, Cert.Kernel23Ideal.Value.final6]
    simp only [hagree c]
    clear h
    clean_types
    funext i
    unfold atD atT atZ
    pointwise
    exact gradG_eq _ _ _

end Cert.Proof

end
-- ==== Proof.Product24.lean ====
/-
  The gradient of the second mixer's square weight: what the kernel's array ends holding at an
  index is the product of the whole arrays there, and kernel and reference agree.
-/
module

public import proofs.«01_k».proof.Proof.Gen.Kernel24Ideal.Value
public import proofs.«01_k».proof.Proof.Products
public import proofs.«01_k».proof.Defs
public import proofs.«01_k».proof.Proof.Gen.Reference24Ideal.Run
public import Idealize.ShloMosaic.Lib.Quiescent
public import Idealize.ShloMosaic.Lib.Tactic.ValueTie

@[expose] public section

set_option maxRecDepth 16384

noncomputable section

namespace Cert.Kernel24Ideal.Value

open Cert.Kernel24Ideal Cert.Kernel24Ideal.Gen Cert.Products Idealize.ShloMosaic Idealize.ShloMosaic.TcCoe Idealize.SL.Sem

variable (m : (ℓ : Loc nD τ sig) → Buf (Elt Ideal) ℓ)

/-- The product of the two blocks point `t` reads, at an entry of the block it fills. -/
def term (c : Dev nD) (t : Fin cfg0.N) (j : S1024x1024.Idx) : EReal :=
  overRows (K := 1408) (A := 1024) (B := 1024) (iblk m c 0 t) (iblk m c 1 t) (j 0) (j 1)

/-- The first point of a run leaves its own product in the accumulator. -/
theorem first (c : Dev nD) (t : Fin cfg0.N) (h : t.val % 3 = 0) (j : S1024x1024.Idx) :
    (outsAt0 m c t.val t.isLt).2 j = (fun _ : S1024x1024.Idx => (0 : EReal)) j + term m c t j := by
  rw [outsAt0_A m c t h (by omega)]
  dsimp only
  frame_out
  unfold k0_pay2 k0_pay1 term overRows
  pointwise

/-- Every other point adds its product to the accumulator. -/
theorem next (c : Dev nD) (t : Fin cfg0.N) (h : ¬t.val % 3 = 0) (j : S1024x1024.Idx) :
    (outsAt0 m c t.val t.isLt).2 j
      = (outsAt0 m c (t.val - 1) (Nat.lt_of_le_of_lt (Nat.sub_le _ _) t.isLt)).2 j + term m c t j := by
  by_cases hl : t.val % 3 = 2
  · rw [outsAt0_C m c t h hl]
    dsimp only
    frame_out
    unfold k0_pay2 term overRows
    pointwise
    rw [read_unread_whole]
  · rw [outsAt0_B m c t h hl]
    dsimp only
    frame_out
    unfold k0_pay2 term overRows
    pointwise
    rw [read_unread_whole]

/-- The last point of a run writes the accumulator back. -/
theorem last (c : Dev nD) (t : Fin cfg0.N) (hl : t.val % 3 = 2) :
    (outsAt0 m c t.val t.isLt).1 = (outsAt0 m c t.val t.isLt).2 := by
  rw [outsAt0_C m c t (by omega) hl]
  dsimp only
  frame_out

/-- The blocks point `t` reads and fills. -/
theorem places : ∀ t : Fin cfg0.N, win0_0.index t = ![t.val % 3, 0] ∧ win0_1.index t = ![t.val % 3, 0] ∧ win0_2.index t = ![0, 0] :=
  (by decide +kernel : ∀ t : Fin grid0.N, _)

/-- What the last point of a run leaves in the block it writes back. -/
theorem block (c : Dev nD) (t : Fin cfg0.N) (hl : t.val % 3 = 2) (j : S1024x1024.Idx) (a : Fin 1024) (b : Fin 1024)
    (ha : a.val = (j 0).val) (hb : b.val = (j 1).val) :
    (outsAt0 m c t.val t.isLt).1 j
      = overRows (K := 4224) (m ((c.tc : Thread nD τ).loc main_arg0)) (m ((c.tc : Thread nD τ).loc main_arg1)) a b := by
  rw [last m c t hl]
  refine (Pipeline.eq_sum_fin_of_reset_step_apply_of_flush (fun n h => (outsAt0 m c n h).2) 3 (fun _ => (0 : EReal)) (term m c)
    (first m c) (next m c) t hl j).trans ?_
  rw [zero_add]
  refine Fin.sum_mul_add_congr fun s k hk => ?_
  have hd := places ⟨3 * (t.val / 3) + s.val, Pipeline.run_point_lt_of_flush t hl s⟩
  congr 1
  · blk_ext [iblk, V, hd.1]
  · blk_ext [iblk, V, hd.2.1]

/-- What the array ends holding. -/
theorem final (c : Dev nD) : (dats m 0 c).arrAt 2 cfg0.N = fun i => overRows (K := 4224) (A := 1024) (B := 1024) (m ((c.tc : Thread nD τ).loc main_arg0)) (m ((c.tc : Thread nD τ).loc main_arg1)) (i 0) (i 1) := by
  refine (dats m 0 c).arrAt_eq_of_covers 2 _ (by decide +kernel) fun t hf y => ?_
  have h2 := (flush0_2 t).mp hf
  have hp := (places t).2.2
  blk_simp
  rw [after0_2]
  exact block m c t h2 _ _ _ (by blk_simp [hp]) (by blk_simp [hp])

end Cert.Kernel24Ideal.Value

namespace Cert.Proof

open Cert.Products Idealize.ShloMosaic Idealize.SL.Sem

/-- The reference runs, leaves its arguments unchanged and every counter at zero. -/
theorem quiescent_Reference24Ideal : quiescent_Reference24Ideal := fun m ρ _ =>
  (θ_run Cert.Reference24Ideal.defs _ _).mono (fun r h => ⟨fun c => (h c).2, sem_eq_zero_of_no_sems (by decide) r.2⟩)
    (Cert.Reference24Ideal.Value.run (F := Ideal) m ρ)

/-- Kernel and reference compute the same array. -/
theorem algebraic_Kernel24Ideal_Reference24Ideal : algebraic_Kernel24Ideal_Reference24Ideal := by
  intro m ρ m' ρ' _ hagree
  refine ⟨_, Cert.Kernel24Ideal.Value.run_blocks (F := Ideal) m ρ, ?_⟩
  refine (θ_run Cert.Reference24Ideal.defs _ _).mono (fun _ h c => ⟨?_, (h c).2⟩) (Cert.Reference24Ideal.Value.run (F := Ideal) m' ρ')
  rw [(h c).1, Cert.Kernel24Ideal.Value.final]
  simp only [hagree c]
  clean_types
  funext i
  unfold overRows
  pointwise
  exact Finset.sum_congr rfl fun k _ => mul_comm _ _

end Cert.Proof

end
-- ==== Proof.Product25.lean ====
/-
  The gradient of the third mixer's gate weight, the codes being columns of a wider array: what the kernel's array ends holding at an
  index is the product of the whole arrays there, and kernel and reference agree.
-/
module

public import proofs.«01_k».proof.Proof.Gen.Kernel25Ideal.Value
public import proofs.«01_k».proof.Proof.Products
public import proofs.«01_k».proof.Defs
public import proofs.«01_k».proof.Proof.Gen.Reference25Ideal.Run
public import Idealize.ShloMosaic.Lib.Quiescent
public import Idealize.ShloMosaic.Lib.Tactic.ValueTie

@[expose] public section

set_option maxRecDepth 16384

noncomputable section

namespace Cert.Kernel25Ideal.Value

open Cert.Kernel25Ideal Cert.Kernel25Ideal.Gen Cert.Products Idealize.ShloMosaic Idealize.ShloMosaic.TcCoe Idealize.SL.Sem

variable (m : (ℓ : Loc nD τ sig) → Buf (Elt Ideal) ℓ)

/-- The columns that hold the codes. -/
def codes (x : S4224x6272.Idx → EReal) (i : (⟨2, ![4224, 128]⟩ : Shape).Idx) : EReal :=
  x (ix2 (i 0) (⟨6144 + (i 1).val, by have := (i 1).isLt; simp at this; omega⟩ : Fin 6272))

/-- The product of the two blocks point `t` reads, at an entry of the block it fills. -/
def term (c : Dev nD) (t : Fin cfg0.N) (j : S128x1024.Idx) : EReal :=
  overRows (K := 1408) (A := 128) (B := 1024) (iblk m c 0 t) (iblk m c 1 t) (j 0) (j 1)

/-- The first point of a run leaves its own product in the accumulator. -/
theorem first (c : Dev nD) (t : Fin cfg0.N) (h : t.val % 3 = 0) (j : S128x1024.Idx) :
    (outsAt0 m c t.val t.isLt).2 j = (fun _ : S128x1024.Idx => (0 : EReal)) j + term m c t j := by
  rw [outsAt0_A m c t h (by omega)]
  dsimp only
  frame_out
  unfold k0_pay2 k0_pay1 term overRows
  pointwise

/-- Every other point adds its product to the accumulator. -/
theorem next (c : Dev nD) (t : Fin cfg0.N) (h : ¬t.val % 3 = 0) (j : S128x1024.Idx) :
    (outsAt0 m c t.val t.isLt).2 j
      = (outsAt0 m c (t.val - 1) (Nat.lt_of_le_of_lt (Nat.sub_le _ _) t.isLt)).2 j + term m c t j := by
  by_cases hl : t.val % 3 = 2
  · rw [outsAt0_C m c t h hl]
    dsimp only
    frame_out
    unfold k0_pay2 term overRows
    pointwise
    rw [read_unread_whole]
  · rw [outsAt0_B m c t h hl]
    dsimp only
    frame_out
    unfold k0_pay2 term overRows
    pointwise
    rw [read_unread_whole]

/-- The last point of a run writes the accumulator back. -/
theorem last (c : Dev nD) (t : Fin cfg0.N) (hl : t.val % 3 = 2) :
    (outsAt0 m c t.val t.isLt).1 = (outsAt0 m c t.val t.isLt).2 := by
  rw [outsAt0_C m c t (by omega) hl]
  dsimp only
  frame_out

/-- The blocks point `t` reads and fills. -/
theorem places : ∀ t : Fin cfg0.N, win0_0.index t = ![t.val % 3, 48] ∧ win0_1.index t = ![t.val % 3, 0] ∧ win0_2.index t = ![0, 0] :=
  (by decide +kernel : ∀ t : Fin grid0.N, _)

/-- What the last point of a run leaves in the block it writes back. -/
theorem block (c : Dev nD) (t : Fin cfg0.N) (hl : t.val % 3 = 2) (j : S128x1024.Idx) (a : Fin 128) (b : Fin 1024)
    (ha : a.val = (j 0).val) (hb : b.val = (j 1).val) :
    (outsAt0 m c t.val t.isLt).1 j
      = overRows (K := 4224) (A := 128) (codes (m ((c.tc : Thread nD τ).loc main_arg0))) (m ((c.tc : Thread nD τ).loc main_arg1)) a b := by
  rw [last m c t hl]
  refine (Pipeline.eq_sum_fin_of_reset_step_apply_of_flush (fun n h => (outsAt0 m c n h).2) 3 (fun _ => (0 : EReal)) (term m c)
    (first m c) (next m c) t hl j).trans ?_
  rw [zero_add]
  refine Fin.sum_mul_add_congr fun s k hk => ?_
  have hd := places ⟨3 * (t.val / 3) + s.val, Pipeline.run_point_lt_of_flush t hl s⟩
  congr 1
  · unfold codes
    blk_ext [iblk, V, hd.1]
  · blk_ext [iblk, V, hd.2.1]

/-- What the array ends holding. -/
theorem final (c : Dev nD) : (dats m 0 c).arrAt 2 cfg0.N = fun i => overRows (K := 4224) (A := 128) (B := 1024) (codes (m ((c.tc : Thread nD τ).loc main_arg0))) (m ((c.tc : Thread nD τ).loc main_arg1)) (i 0) (i 1) := by
  refine (dats m 0 c).arrAt_eq_of_covers 2 _ (by decide +kernel) fun t hf y => ?_
  have h2 := (flush0_2 t).mp hf
  have hp := (places t).2.2
  blk_simp
  rw [after0_2]
  exact block m c t h2 _ _ _ (by blk_simp [hp]) (by blk_simp [hp])

end Cert.Kernel25Ideal.Value

namespace Cert.Proof

open Cert.Products Cert.Kernel25Ideal.Value Idealize.ShloMosaic Idealize.SL.Sem

/-- The reference runs, leaves its arguments unchanged and every counter at zero. -/
theorem quiescent_Reference25Ideal : quiescent_Reference25Ideal := fun m ρ _ =>
  (θ_run Cert.Reference25Ideal.defs _ _).mono (fun r h => ⟨fun c => (h c).2, sem_eq_zero_of_no_sems (by decide) r.2⟩)
    (Cert.Reference25Ideal.Value.run (F := Ideal) m ρ)

/-- Kernel and reference compute the same array. -/
theorem algebraic_Kernel25Ideal_Reference25Ideal : algebraic_Kernel25Ideal_Reference25Ideal := by
  intro m ρ m' ρ' _ hagree
  refine ⟨_, Cert.Kernel25Ideal.Value.run_blocks (F := Ideal) m ρ, ?_⟩
  refine (θ_run Cert.Reference25Ideal.defs _ _).mono (fun _ h c => ⟨?_, (h c).2⟩) (Cert.Reference25Ideal.Value.run (F := Ideal) m' ρ')
  rw [(h c).1, Cert.Kernel25Ideal.Value.final]
  simp only [hagree c]
  clean_types
  funext i
  unfold overRows codes
  pointwise
  exact Finset.sum_congr rfl fun k _ => mul_comm _ _

end Cert.Proof

end
-- ==== Proof.Product26.lean ====
/-
  The product inside the second mixer's gate: what the kernel's array ends holding at an index is the
  product of the whole arrays there, and kernel and reference agree.
-/
module

public import proofs.«01_k».proof.Proof.Gen.Kernel26Ideal.Value
public import proofs.«01_k».proof.Proof.Products
public import proofs.«01_k».proof.Defs
public import proofs.«01_k».proof.Proof.Gen.Reference26Ideal.Run
public import Idealize.ShloMosaic.Lib.Quiescent
public import Idealize.ShloMosaic.Lib.Tactic.ValueTie

@[expose] public section

set_option maxRecDepth 16384

noncomputable section

namespace Cert.Kernel26Ideal.Value

open Cert.Kernel26Ideal Cert.Kernel26Ideal.Gen Cert.Products Idealize.ShloMosaic Idealize.ShloMosaic.TcCoe Idealize.SL.Sem

variable (m : (ℓ : Loc nD τ sig) → Buf (Elt Ideal) ℓ)

/-- The blocks point `t` reads and fills. -/
theorem places : ∀ t : Fin cfg0.N, win0_0.index t = ![t.val / 2, 0] ∧ win0_1.index t = ![0, t.val % 2] ∧ win0_2.index t = ![t.val / 2, t.val % 2] :=
  (by decide +kernel : ∀ t : Fin grid0.N, _)

/-- What one point writes, at an entry of its block: the product of the two blocks it reads. -/
theorem written (x : S1408x1024.Idx → EReal) (w : S1024x512.Idx → EReal) (j : S1408x512.Idx) :
    out0_2 (F := Ideal) x w j = plain (K := 1024) x w (j 0) (j 1) := by
  unfold out0_2
  frame_out
  unfold k0_pay1 plain
  pointwise

/-- The product of the two blocks point `t` reads is the product of the whole arrays at the entry it fills. -/
theorem block (c : Dev nD) (t : Fin cfg0.N) (j : S1408x512.Idx) (a : Fin 4224) (b : Fin 1024)
    (ha : a.val = t.val / 2 * 1408 + (j 0).val) (hb : b.val = t.val % 2 * 512 + (j 1).val) :
    plain (A := 1408) (K := 1024) (B := 512) (iblk m c 0 t) (iblk m c 1 t) (j 0) (j 1)
      = plain (K := 1024) (m ((c.tc : Thread nD τ).loc main_arg0)) (m ((c.tc : Thread nD τ).loc main_arg1)) a b := by
  have hp := places t
  refine Finset.sum_congr rfl fun k _ => ?_
  congr 1
  · blk_ext [iblk, V, hp.1]
  · blk_ext [iblk, V, hp.2.1]

/-- What the array ends holding. -/
theorem final (c : Dev nD) : (dats m 0 c).arrAt 2 cfg0.N = fun i : S4224x1024.Idx =>
    plain (A := 4224) (K := 1024) (B := 1024) (m ((c.tc : Thread nD τ).loc main_arg0)) (m ((c.tc : Thread nD τ).loc main_arg1)) (i 0) (i 1) := by
  refine (dats m 0 c).arrAt_eq_of_covers 2 _ (by decide +kernel) fun t hf y => ?_
  have hp := (places t).2.2
  blk_simp
  rw [after0_2, written]
  exact block m c t _ _ _ (by blk_simp [hp]) (by blk_simp [hp])

end Cert.Kernel26Ideal.Value

namespace Cert.Proof

open Cert.Products Idealize.ShloMosaic Idealize.SL.Sem

/-- The reference runs, leaves its arguments unchanged and every counter at zero. -/
theorem quiescent_Reference26Ideal : quiescent_Reference26Ideal := fun m ρ _ =>
  (θ_run Cert.Reference26Ideal.defs _ _).mono (fun r h => ⟨fun c => (h c).2, sem_eq_zero_of_no_sems (by decide) r.2⟩)
    (Cert.Reference26Ideal.Value.run (F := Ideal) m ρ)

/-- Kernel and reference compute the same array. -/
theorem algebraic_Kernel26Ideal_Reference26Ideal : algebraic_Kernel26Ideal_Reference26Ideal := by
  intro m ρ m' ρ' _ hagree
  refine ⟨_, Cert.Kernel26Ideal.Value.run_blocks (F := Ideal) m ρ, ?_⟩
  refine (θ_run Cert.Reference26Ideal.defs _ _).mono (fun _ h c => ⟨?_, (h c).2⟩) (Cert.Reference26Ideal.Value.run (F := Ideal) m' ρ')
  rw [(h c).1, Cert.Kernel26Ideal.Value.final]
  simp only [hagree c]
  clean_types
  funext i
  unfold plain
  pointwise

end Cert.Proof

end
-- ==== Proof.Product27.lean ====
/-
  The second mixer's gate with the product inside it: what the kernel's array ends holding at an index is what
  the whole arrays give there, and kernel and reference agree.
-/
module

public import proofs.«01_k».proof.Proof.Gen.Kernel27Ideal.Value
public import proofs.«01_k».proof.Proof.Products
public import proofs.«01_k».proof.Proof.Norm23
public import proofs.«01_k».proof.Defs
public import proofs.«01_k».proof.Proof.Gen.Reference27Ideal.Run
public import Idealize.ShloMosaic.Lib.Quiescent
public import Idealize.ShloMosaic.Lib.Tactic.ValueTie

@[expose] public section

set_option maxRecDepth 16384

noncomputable section

namespace Cert.Kernel27Ideal.Value

open Cert.Kernel27Ideal Cert.Kernel27Ideal.Gen Cert.Products Cert.Gate Idealize.ShloMosaic Idealize.ShloMosaic.TcCoe Idealize.SL.Sem

variable (m : (ℓ : Loc nD τ sig) → Buf (Elt Ideal) ℓ)

/-- The gate of three numbers. -/
def gate (g t z : EReal) : EReal := g * sigm t * (z * sigm z)

/-- The blocks point `t` reads and fills. -/
theorem places : ∀ t : Fin cfg0.N, win0_0.index t = ![t.val / 2, 0] ∧ win0_1.index t = ![0, t.val % 2] ∧ win0_2.index t = ![t.val / 2, t.val % 2]
    ∧ win0_3.index t = ![t.val / 2, 14 + t.val % 2] ∧ win0_4.index t = ![t.val / 2, t.val % 2] :=
  (by decide +kernel : ∀ t : Fin grid0.N, _)

/-- What one point writes, at an entry of its block. -/
theorem written (x : S1408x1024.Idx → EReal) (w : S1024x512.Idx → EReal) (g z : S1408x512.Idx → EReal) (j : S1408x512.Idx) :
    out0_4 (F := Ideal) x w g z j = gate (g j) (plain (K := 1024) x w (j 0) (j 1)) (z j) := by
  unfold out0_4
  frame_out
  unfold k0_pay1 plain gate sigm
  pointwise
  simp only [zero_sub]

/-- The third argument where a row and column of the gate read it. -/
def atZ (c : Dev nD) (a : Fin 4224) (b : Fin 1024) : EReal := m ((c.tc : Thread nD τ).loc main_arg2) (ix2 a (⟨7168 + b.val, by omega⟩ : Fin 8192))

/-- What the array ends holding at a row and column. -/
def whole (c : Dev nD) (a : Fin 4224) (b : Fin 1024) : EReal :=
  gate (m ((c.tc : Thread nD τ).loc main_arg0) (ix2 a b))
    (plain (A := 4224) (K := 1024) (B := 1024) (m ((c.tc : Thread nD τ).loc main_arg0)) (m ((c.tc : Thread nD τ).loc main_arg1)) a b) (atZ m c a b)

/-- What point `t` writes is what the whole arrays give at the entry it fills. -/
theorem block (c : Dev nD) (t : Fin cfg0.N) (j : S1408x512.Idx) (a : Fin 4224) (b : Fin 1024)
    (ha : a.val = t.val / 2 * 1408 + (j 0).val) (hb : b.val = t.val % 2 * 512 + (j 1).val) :
    gate (iblk m c 2 t j) (plain (A := 1408) (K := 1024) (B := 512) (iblk m c 0 t) (iblk m c 1 t) (j 0) (j 1)) (iblk m c 3 t j) = whole m c a b := by
  have hp := places t
  unfold whole
  congr 1
  · blk_ext [iblk, V, hp.2.2.1]
  · refine Finset.sum_congr rfl fun k _ => ?_
    congr 1
    · blk_ext [iblk, V, hp.1]
    · blk_ext [iblk, V, hp.2.1]
  · unfold atZ
    blk_ext [iblk, V, hp.2.2.2.1]

/-- What the array ends holding. -/
theorem final (c : Dev nD) : (dats m 0 c).arrAt 4 cfg0.N = fun i : S4224x1024.Idx => whole m c (i 0) (i 1) := by
  refine (dats m 0 c).arrAt_eq_of_covers 4 _ (by decide +kernel) fun t hf y => ?_
  have hp := (places t).2.2.2.2
  blk_simp
  rw [after0_4, written]
  exact block m c t _ _ _ (by blk_simp [hp]) (by blk_simp [hp])

end Cert.Kernel27Ideal.Value

namespace Cert.Proof

open Cert.Products Idealize.ShloMosaic Idealize.SL.Sem

/-- The reference runs, leaves its arguments unchanged and every counter at zero. -/
theorem quiescent_Reference27Ideal : quiescent_Reference27Ideal := fun m ρ _ =>
  (θ_run Cert.Reference27Ideal.defs _ _).mono (fun r h => ⟨fun c => (h c).2, sem_eq_zero_of_no_sems (by decide) r.2⟩)
    (Cert.Reference27Ideal.Value.run (F := Ideal) m ρ)

/-- Kernel and reference compute the same array. -/
theorem algebraic_Kernel27Ideal_Reference27Ideal : algebraic_Kernel27Ideal_Reference27Ideal := by
  intro m ρ m' ρ' _ hagree
  refine ⟨_, Cert.Kernel27Ideal.Value.run_blocks (F := Ideal) m ρ, ?_⟩
  refine (θ_run Cert.Reference27Ideal.defs _ _).mono (fun _ h c => ⟨?_, (h c).2⟩) (Cert.Reference27Ideal.Value.run (F := Ideal) m' ρ')
  rw [(h c).1, Cert.Kernel27Ideal.Value.final]
  unfold Cert.Kernel27Ideal.Value.whole Cert.Kernel27Ideal.Value.atZ
  simp only [hagree c]
  clear h
  clean_types
  funext i
  unfold Cert.Kernel27Ideal.Value.gate Cert.Gate.sigm plain
  pointwise

end Cert.Proof

end
-- ==== Proof.Product28.lean ====
/-
  The gradient of the codes of the third mixer's gate: what the kernel's array ends holding at an index is the
  product of the whole arrays there, and kernel and reference agree.
-/
module

public import proofs.«01_k».proof.Proof.Gen.Kernel28Ideal.Value
public import proofs.«01_k».proof.Proof.Products
public import proofs.«01_k».proof.Defs
public import proofs.«01_k».proof.Proof.Gen.Reference28Ideal.Run
public import Idealize.ShloMosaic.Lib.Quiescent
public import Idealize.ShloMosaic.Lib.Tactic.ValueTie

@[expose] public section

set_option maxRecDepth 16384

noncomputable section

namespace Cert.Kernel28Ideal.Value

open Cert.Kernel28Ideal Cert.Kernel28Ideal.Gen Cert.Products Idealize.ShloMosaic Idealize.ShloMosaic.TcCoe Idealize.SL.Sem

variable (m : (ℓ : Loc nD τ sig) → Buf (Elt Ideal) ℓ)

/-- The blocks point `t` reads and fills. -/
theorem places : ∀ t : Fin cfg0.N, win0_0.index t = ![t.val, 0] ∧ win0_1.index t = ![0, 0] ∧ win0_2.index t = ![t.val, 0] :=
  (by decide +kernel : ∀ t : Fin grid0.N, _)

/-- What one point writes, at an entry of its block: the product of the two blocks it reads. -/
theorem written (x : S1408x1024.Idx → EReal) (w : S128x1024.Idx → EReal) (j : S1408x128.Idx) :
    out0_2 (F := Ideal) x w j = overColumns (K := 1024) x w (j 0) (j 1) := by
  unfold out0_2
  frame_out
  unfold k0_pay1 overColumns
  pointwise

/-- The product of the two blocks point `t` reads is the product of the whole arrays at the entry it fills. -/
theorem block (c : Dev nD) (t : Fin cfg0.N) (j : S1408x128.Idx) (a : Fin 4224) (b : Fin 128)
    (ha : a.val = t.val * 1408 + (j 0).val) (hb : b.val = (j 1).val) :
    overColumns (A := 1408) (K := 1024) (B := 128) (iblk m c 0 t) (iblk m c 1 t) (j 0) (j 1)
      = overColumns (K := 1024) (m ((c.tc : Thread nD τ).loc main_arg0)) (m ((c.tc : Thread nD τ).loc main_arg1)) a b := by
  have hp := places t
  refine Finset.sum_congr rfl fun k _ => ?_
  congr 1
  · blk_ext [iblk, V, hp.1]
  · blk_ext [iblk, V, hp.2.1]

/-- What the array ends holding. -/
theorem final (c : Dev nD) : (dats m 0 c).arrAt 2 cfg0.N = fun i : S4224x128.Idx =>
    overColumns (A := 4224) (K := 1024) (B := 128) (m ((c.tc : Thread nD τ).loc main_arg0)) (m ((c.tc : Thread nD τ).loc main_arg1)) (i 0) (i 1) := by
  refine (dats m 0 c).arrAt_eq_of_covers 2 _ (by decide +kernel) fun t hf y => ?_
  have hp := (places t).2.2
  blk_simp
  rw [after0_2, written]
  exact block m c t _ _ _ (by blk_simp [hp]) (by blk_simp [hp])

end Cert.Kernel28Ideal.Value

namespace Cert.Proof

open Cert.Products Idealize.ShloMosaic Idealize.SL.Sem

/-- The reference runs, leaves its arguments unchanged and every counter at zero. -/
theorem quiescent_Reference28Ideal : quiescent_Reference28Ideal := fun m ρ _ =>
  (θ_run Cert.Reference28Ideal.defs _ _).mono (fun r h => ⟨fun c => (h c).2, sem_eq_zero_of_no_sems (by decide) r.2⟩)
    (Cert.Reference28Ideal.Value.run (F := Ideal) m ρ)

/-- Kernel and reference compute the same array. -/
theorem algebraic_Kernel28Ideal_Reference28Ideal : algebraic_Kernel28Ideal_Reference28Ideal := by
  intro m ρ m' ρ' _ hagree
  refine ⟨_, Cert.Kernel28Ideal.Value.run_blocks (F := Ideal) m ρ, ?_⟩
  refine (θ_run Cert.Reference28Ideal.defs _ _).mono (fun _ h c => ⟨?_, (h c).2⟩) (Cert.Reference28Ideal.Value.run (F := Ideal) m' ρ')
  rw [(h c).1, Cert.Kernel28Ideal.Value.final]
  simp only [hagree c]
  clean_types
  funext i
  unfold overColumns
  pointwise

end Cert.Proof

end
-- ==== Proof.Norm29.lean ====
/-
  The root-mean-square norm before the second layer: every point norms a block of rows, and kernel and
  reference agree.
-/
module

public import proofs.«01_k».proof.Proof.Gen.Kernel29Ideal.Value
public import proofs.«01_k».proof.Proof.Finite
public import Idealize.ShloMosaic.Lib.Pipeline.ValueKit
public import Idealize.ShloMosaic.Lib.Pipeline.ReadBack
public import proofs.«01_k».proof.Defs
public import proofs.«01_k».proof.Proof.Gen.Reference29Ideal.Run
public import Idealize.ShloMosaic.Lib.Quiescent
public import Idealize.ShloMosaic.Lib.Tactic.ValueTie

@[expose] public section

set_option maxRecDepth 16384

noncomputable section

namespace Cert.Kernel29Ideal.Value

open Cert.Kernel29Ideal Cert.Kernel29Ideal.Gen Cert.Finite Idealize.ShloMosaic Idealize.ShloMosaic.TcCoe Idealize.SL.Sem

variable (m : (ℓ : Loc nD τ sig) → Buf (Elt Ideal) ℓ)

/-- The norm of a row, times the weight, at a column. -/
def normed {A : Nat} (x : (⟨2, ![A, 2048]⟩ : Shape).Idx → EReal) (w : (⟨2, ![1, 2048]⟩ : Shape).Idx → EReal) (a : Fin A) (b : Fin 2048) : EReal :=
  x (ix2 a b) * scale (Ideal.ofBits .f32 0x45000000#32) (Ideal.ofBits .f32 0x358637BD#32) (row x a) * w (ix2 0 b)

/-- The blocks point `t` reads and fills. -/
theorem places : ∀ t : Fin cfg0.N, win0_0.index t = ![t.val, 0] ∧ win0_1.index t = ![0, 0] ∧ win0_2.index t = ![t.val, 0] :=
  (by decide +kernel : ∀ t : Fin grid0.N, _)

/-- What one point writes, at an entry of its block. -/
theorem written (x : S384x2048.Idx → EReal) (w : S1x2048.Idx → EReal) (j : S384x2048.Idx) :
    out0_2 (F := Ideal) x w j = normed (A := 384) x w (j 0) (j 1) := by
  unfold out0_2
  frame_out
  unfold k0_pay1 normed scale square row
  pointwise

/-- What the array ends holding. -/
theorem final (c : Dev nD) : (dats m 0 c).arrAt 2 cfg0.N = fun i : S4224x2048.Idx =>
    normed (A := 4224) (m ((c.tc : Thread nD τ).loc main_arg0)) (m ((c.tc : Thread nD τ).loc main_arg1)) (i 0) (i 1) := by
  refine (dats m 0 c).arrAt_eq_of_covers 2 _ (by decide +kernel) fun t hf y => ?_
  have hp := places t
  blk_simp
  rw [after0_2, written]
  unfold normed
  congr 1
  · congr 1
    · blk_ext [iblk, V, hp.1, hp.2.2]
    · congr 1
      funext k
      unfold row
      blk_ext [iblk, V, hp.1, hp.2.2]
  · blk_ext [iblk, V, hp.2.1, hp.2.2]

end Cert.Kernel29Ideal.Value

namespace Cert.Proof

open Idealize.ShloMosaic Idealize.SL.Sem

/-- The reference runs, leaves its arguments unchanged and every counter at zero. -/
theorem quiescent_Reference29Ideal : quiescent_Reference29Ideal := fun m ρ _ =>
  (θ_run Cert.Reference29Ideal.defs _ _).mono (fun r h => ⟨fun c => (h c).2, sem_eq_zero_of_no_sems (by decide) r.2⟩)
    (Cert.Reference29Ideal.Value.run (F := Ideal) m ρ)

/-- Kernel and reference compute the same array. -/
theorem algebraic_Kernel29Ideal_Reference29Ideal : algebraic_Kernel29Ideal_Reference29Ideal := by
  intro m ρ m' ρ' _ hagree
  refine ⟨_, Cert.Kernel29Ideal.Value.run_blocks (F := Ideal) m ρ, ?_⟩
  refine (θ_run Cert.Reference29Ideal.defs _ _).mono (fun _ h c => ⟨?_, (h c).2⟩) (Cert.Reference29Ideal.Value.run (F := Ideal) m' ρ')
  rw [(h c).1, Cert.Kernel29Ideal.Value.final]
  simp only [hagree c]
  clear h
  clean_types
  funext i
  unfold Cert.Kernel29Ideal.Value.normed Cert.Finite.scale Cert.Finite.square Cert.Finite.row
  pointwise

end Cert.Proof

end
-- ==== Proof.HeadNorm.lean ====
/-
  The gradient of a head-norm's weight: a row's part of it, as the kernels and
  the references write it.
-/
module

public import proofs.«01_k».proof.Proof.Finite
public import Idealize.ShloMosaic.Lib.Pipeline.FrameBody

@[expose] public section

noncomputable section

namespace Cert.HeadNorm

open Cert.Finite Idealize.ShloMosaic

/-- The logistic function, as written in the programs. -/
def sigmoid (x : EReal) : EReal :=
  Ideal.div 1 (1 + Ideal.exp (-x))

/-- A row's part of the weight's gradient at a column of a head: `d` the head's cotangent in the row, `o` what
    is normed, `z` the gate. -/
def term {K : Nat} (n : EReal) (d o z : Fin K → EReal) (k : Fin K) : EReal :=
  d k * (o k * scale n (Ideal.ofBits .f32 0x358637BD#32) o) * (z k * sigmoid (z k))

/-- The same with the factors in the order differentiation leaves. -/
theorem term_eq {K : Nat} (n : EReal) (d o z : Fin K → EReal) (k : Fin K) :
    term n d o z k = o k * scale n (Ideal.ofBits .f32 0x358637BD#32) o * (d k * (z k * sigmoid (z k))) := by
  unfold term
  ac_rfl

/-- Where one of the later stores holds an index, the earlier ones do not matter there. -/
theorem canon_append {Val : EltTy → Type} [∀ e, Nonempty (Val e)] {s : Shape} {e : EltTy} (L' : List (View.Piece Val s e)) (y : s.Idx) :
    ∀ L : List (View.Piece Val s e), (∃ p ∈ L, y ∈ p.1.set) → View.canon (L ++ L') y = View.canon L y
  | [], h => by obtain ⟨p, hp, _⟩ := h; exact absurd hp List.not_mem_nil
  | p :: L, h => by
    by_cases hy : y ∈ p.1.set
    · obtain ⟨x, rfl⟩ := p.1.exists_idx_of_mem hy
      exact (View.canon_cons_emb p.1 p.2 (L ++ L') x).trans (View.canon_cons_emb p.1 p.2 L x).symm
    · rw [List.cons_append, View.canon_cons_of_not_mem p _ hy, View.canon_cons_of_not_mem p _ hy]
      obtain ⟨q, hq, hm⟩ := h
      rcases List.mem_cons.mp hq with rfl | hq
      · exact absurd hm hy
      · exact canon_append L' y L ⟨q, hq, hm⟩

end Cert.HeadNorm

end
-- ==== Proof.Norm30.lean ====
/-
  The gradient of the retention's head-norm weight: every point adds its rows'
  part, one head after another.
-/
module

public import proofs.«01_k».proof.Proof.Gen.Kernel30Ideal.Value
public import proofs.«01_k».proof.Proof.HeadNorm
public import Idealize.ShloMosaic.Lib.Pipeline.ValueKit
public import Idealize.ShloMosaic.Lib.Pipeline.ReadBack
public import proofs.«01_k».proof.Defs
public import proofs.«01_k».proof.Proof.Gen.Reference30Ideal.Run
public import Idealize.ShloMosaic.Lib.Quiescent
public import Idealize.ShloMosaic.Lib.Tactic.ValueTie

@[expose] public section

set_option maxRecDepth 16384

noncomputable section

namespace Cert.Kernel30Ideal.Value

open Cert.Kernel30Ideal Cert.Kernel30Ideal.Gen Cert.Finite Idealize.ShloMosaic Idealize.ShloMosaic.TcCoe Idealize.SL.Sem

variable (m : (ℓ : Loc nD τ sig) → Buf (Elt Ideal) ℓ)

/-- A head's columns in a row. -/
def head {A : Nat} (x : (⟨2, ![A, 2048]⟩ : Shape).Idx → EReal) (a : Fin A) (h : Fin 8) (k : Fin 256) : EReal :=
  x (ix2 a ⟨h.val * 256 + k.val, by omega⟩)

/-- The part of the weight's gradient a point adds. -/
def part (c : Dev nD) (t : Fin cfg0.N) (j : S8x1x256.Idx) : EReal :=
  ∑ a : Fin 128, HeadNorm.term (Ideal.ofBits .f32 0x43800000#32) (head (A := 128) (X0_12 m c t) a (j 0))
    (head (A := 128) (iblk m c 11 t) a (j 0)) (head (A := 128) (iblk m c 3 t) a (j 0)) (j 2)

theorem next (c : Dev nD) (t : Fin cfg0.N) (h : ¬t.val % 33 = 0) (j : S8x1x256.Idx) :
    (outsAt0 m c t.val t.isLt).2.1 j
      = (outsAt0 m c (t.val - 1) (Nat.lt_of_le_of_lt (Nat.sub_le _ _) t.isLt)).2.1 j + part m c t j := by
  rw [outsAt0_B m c t h]
  dsimp only
  frame_out
  unfold part
  generalize (outsAt0 m c (t.val - 1) (Nat.lt_of_le_of_lt (Nat.sub_le _ _) t.isLt)).2.1 = q
  generalize X0_12 m c t = d
  generalize iblk m c 11 t = o
  generalize iblk m c 3 t = z
  canon_tiles x hx
  all_goals
    have hx0' := Nat.lt_one_iff.mp x0_lt
    have hj : j = ix3 (j 0) 0 (x 2) := by
      funext a
      fin_cases a
      · rfl
      · exact Fin.ext (by simpa using Nat.lt_one_iff.mp (j 1).isLt)
      · exact Fin.ext hx2
    open_payloads
    unfold HeadNorm.term head scale square HeadNorm.sigmoid
    pointwise
    congr 1
    · rw [hj]
      congr 1
      exact congrArg (ix3 · 0 (x 2)) (Fin.ext (by simp [hx0, hx0']))
    · refine Finset.sum_congr rfl fun a _ => ?_
      simp only [hx0, hx0', hx2, zero_sub, Nat.add_zero, Nat.zero_mul, Nat.zero_add, Nat.reduceMul]

theorem first (c : Dev nD) (t : Fin cfg0.N) (h : t.val % 33 = 0) (j : S8x1x256.Idx) :
    (outsAt0 m c t.val t.isLt).2.1 j = (fun _ : S8x1x256.Idx => (0 : EReal)) j + part m c t j := by
  rw [outsAt0_A m c t h]
  dsimp only
  frame_open
  simp (disch := decide) only [↓ View.readCov_skip, ↓ View.readCov_cons_toLoadRect, ↓ View.readCov_fill]
  frame_out
  unfold part
  generalize X0_12 m c t = d
  generalize iblk m c 11 t = o
  generalize iblk m c 3 t = z
  refine (HeadNorm.canon_append [_] j [_, _, _, _, _, _, _, _] (View.cover_of_tiled_head _ _ _ (by rfl) j)).trans ?_
  canon_tiles x hx
  all_goals
    have hx0' := Nat.lt_one_iff.mp x0_lt
    open_payloads
    unfold HeadNorm.term head scale square HeadNorm.sigmoid
    pointwise
    refine Finset.sum_congr rfl fun a _ => ?_
    simp only [hx0, hx0', hx2, zero_sub, Nat.add_zero, Nat.zero_mul, Nat.zero_add, Nat.reduceMul]

/-- The blocks a point reads and fills: the rows are taken last first. -/
theorem places : ∀ t : Fin cfg0.N, win0_3.index t = ![32 - t.val, 2] ∧ win0_11.index t = ![32 - t.val, 0] ∧ win0_12.index t = ![32 - t.val, 0]
    ∧ win0_15.index t = ![0, 0, 0] :=
  (by decide +kernel : ∀ t : Fin grid0.N, _)

/-- The gate's columns. -/
def gate (x : S4224x8192.Idx → EReal) (a : Fin 4224) (h : Fin 8) (k : Fin 256) : EReal :=
  x (ix2 a ⟨4096 + (h.val * 256 + k.val), by omega⟩)

/-- The block of the cotangent a point reads. -/
theorem cotangent (c : Dev nD) (t : Fin cfg0.N) (a : Fin 128) (b : Fin 2048) :
    X0_12 m c t (ix2 a b) = m ((c.tc : Thread nD τ).loc main_arg9) (ix2 ⟨(32 - t.val) * 128 + a.val, by have := t.isLt; change _ < 33 at this; omega⟩ ⟨b.val, by omega⟩) := by
  have hp := (places t).2.2.1
  unfold X0_12 Pipeline.Window.fill
  rw [dif_pos (moved0_12 t _)]
  blk_ext [iblk, V, hp]

/-- What the array ends holding. -/
theorem final (c : Dev nD) : (dats m 0 c).arrAt 15 cfg0.N = fun i => ∑ a : Fin 4224, HeadNorm.term (Ideal.ofBits .f32 0x43800000#32)
    (fun k => m ((c.tc : Thread nD τ).loc main_arg9) (ix2 a ⟨(i 0).val * 256 + k.val, by have := (i 0).isLt; change _ < 8 at this; omega⟩))
    (head (A := 4224) (m ((c.tc : Thread nD τ).loc main_arg8)) a (i 0)) (gate (m ((c.tc : Thread nD τ).loc main_arg0)) a (i 0)) (i 2) := by
  refine (dats m 0 c).arrAt_eq_of_covers 15 _ (by decide +kernel) fun t hf y => ?_
  have h2 := (flush0_15 t).mp hf
  have hp := (places t).2.2.2
  blk_simp
  rw [after0_15]
  refine (Pipeline.eq_sum_fin_of_reset_step_apply_of_flush (fun n h => (outsAt0 m c n h).2.1) 33 (fun _ => (0 : EReal)) (part m c)
    (first m c) (next m c) t h2 _).trans ?_
  rw [zero_add, ← Equiv.sum_comp Fin.revPerm]
  refine Fin.sum_mul_add_congr fun s k hk => ?_
  have hd := places ⟨33 * (t.val / 33) + (Fin.revPerm s).val, Pipeline.run_point_lt_of_flush t h2 _⟩
  have hs : 32 - (33 * (t.val / 33) + (Fin.revPerm s).val) = s.val := by
    have := t.isLt
    change _ < 33 at this
    have := s.isLt
    simp only [Fin.revPerm_apply, Fin.val_rev]
    omega
  have hc := cotangent m c ⟨33 * (t.val / 33) + (Fin.revPerm s).val, Pipeline.run_point_lt_of_flush t h2 _⟩
  simp only [hs] at hd hc
  congr 1
  · funext l
    unfold head
    rw [hc]
    blk_ext [hp]
  · funext l
    unfold head
    blk_ext [iblk, V, hd.2.1, hp]
  · funext l
    unfold head gate
    blk_ext [iblk, V, hd.1, hp]
  · exact Fin.ext (by blk_simp [hp])

end Cert.Kernel30Ideal.Value

namespace Cert.Proof

open Cert.Kernel30Ideal.Value Idealize.ShloMosaic Idealize.SL.Sem

/-- The reference runs, leaves its arguments unchanged and every counter at zero. -/
theorem quiescent_Reference30Ideal : quiescent_Reference30Ideal := fun m ρ _ =>
  (θ_run Cert.Reference30Ideal.defs _ _).mono (fun r h => ⟨fun c => (h c).2, sem_eq_zero_of_no_sems (by decide) r.2⟩)
    (Cert.Reference30Ideal.Value.run (F := Ideal) m ρ)

/-- Kernel and reference compute the same gradient. -/
theorem algebraic_Kernel30Ideal_Reference30Ideal : algebraic_Kernel30Ideal_Reference30Ideal := by
  intro m ρ m' ρ' _ hagree
  refine ⟨_, (θ_run Cert.Kernel30Ideal.defs _ _).mono (fun _ h c => (h c).2) (Cert.Kernel30Ideal.Value.run_blocks (F := Ideal) m ρ), ?_⟩
  refine (θ_run Cert.Reference30Ideal.defs _ _).mono (fun _ h c => ⟨?_, (h c).2⟩) (Cert.Reference30Ideal.Value.run (F := Ideal) m' ρ')
  rw [(h c).1, Cert.Kernel30Ideal.Value.final]
  simp only [hagree c]
  clear h
  clean_types
  funext i
  unfold head gate
  refine Eq.trans ?_ (Finset.sum_congr rfl fun a _ => HeadNorm.term_eq _ _ _ _ _).symm
  unfold Finite.scale Finite.square HeadNorm.sigmoid
  pointwise

end Cert.Proof

end
-- ==== Proof.Norm31.lean ====
/-
  The gradient of the linear attention's head-norm weight: a head's points add
  their rows' parts.
-/
module

public import proofs.«01_k».proof.Proof.Gen.Kernel31Ideal.Value
public import proofs.«01_k».proof.Proof.HeadNorm
public import Idealize.ShloMosaic.Lib.Pipeline.ValueKit
public import Idealize.ShloMosaic.Lib.Pipeline.ReadBack
public import proofs.«01_k».proof.Defs
public import proofs.«01_k».proof.Proof.Gen.Reference31Ideal.Run
public import Idealize.ShloMosaic.Lib.Quiescent
public import Idealize.ShloMosaic.Lib.Tactic.ValueTie

@[expose] public section

set_option maxRecDepth 16384

noncomputable section

namespace Cert.Kernel31Ideal.Value

open Cert.Kernel31Ideal Cert.Kernel31Ideal.Gen Cert.Finite Idealize.ShloMosaic Idealize.ShloMosaic.TcCoe Idealize.SL.Sem

variable (m : (ℓ : Loc nD τ sig) → Buf (Elt Ideal) ℓ)

/-- A row of a block. -/
def row (x : (⟨2, ![128, 512]⟩ : Shape).Idx → EReal) (a : Fin 128) (k : Fin 512) : EReal :=
  x (ix2 a k)

/-- The part of the weight's gradient a point adds. -/
def part (c : Dev nD) (t : Fin cfg0.N) (j : S1x1x512.Idx) : EReal :=
  ∑ a : Fin 128, HeadNorm.term (Ideal.ofBits .f32 0x44000000#32) (row (iblk m c 9 t) a) (row (iblk m c 8 t) a) (row (X0_3 m c t) a) (j 2)

theorem next (c : Dev nD) (t : Fin cfg0.N) (h : ¬t.val % 33 = 0) (j : S1x1x512.Idx) :
    (outsAt0 m c t.val t.isLt).2.2.2.2.2.1 j
      = (outsAt0 m c (t.val - 1) (Nat.lt_of_le_of_lt (Nat.sub_le _ _) t.isLt)).2.2.2.2.2.1 j + part m c t j := by
  rw [outsAt0_B m c t h]
  dsimp only
  frame_out
  unfold part
  generalize (outsAt0 m c (t.val - 1) (Nat.lt_of_le_of_lt (Nat.sub_le _ _) t.isLt)).2.2.2.2.2.1 = q
  generalize iblk m c 9 t = d
  generalize iblk m c 8 t = o
  generalize X0_3 m c t = z
  unfold k0_pay13 k0_pay8 k0_pay10 k0_pay7 k0_pay9 HeadNorm.term row scale square HeadNorm.sigmoid
  pointwise
  simp only [zero_sub]

theorem first (c : Dev nD) (t : Fin cfg0.N) (h : t.val % 33 = 0) (j : S1x1x512.Idx) :
    (outsAt0 m c t.val t.isLt).2.2.2.2.2.1 j = (fun _ : S1x1x512.Idx => (0 : EReal)) j + part m c t j := by
  rw [outsAt0_A m c t h]
  dsimp only
  frame_out
  unfold part
  generalize iblk m c 9 t = d
  generalize iblk m c 8 t = o
  generalize X0_3 m c t = z
  unfold k0_pay13 k0_pay8 k0_pay10 k0_pay7 k0_pay9 k0_pay3 HeadNorm.term row scale square HeadNorm.sigmoid
  pointwise
  simp only [zero_sub]

/-- The blocks a point reads and fills: a head's rows are taken last first. -/
theorem places : ∀ t : Fin cfg0.N, win0_3.index t = ![32 - t.val % 33, 8 + t.val / 33] ∧ win0_8.index t = ![32 - t.val % 33, t.val / 33]
    ∧ win0_9.index t = ![32 - t.val % 33, t.val / 33] ∧ win0_16.index t = ![t.val / 33, 0, 0] :=
  (by decide +kernel : ∀ t : Fin grid0.N, _)

/-- A head's columns in a row. -/
def head (x : S4224x2048.Idx → EReal) (a : Fin 4224) (h : Fin 4) (k : Fin 512) : EReal :=
  x (ix2 a ⟨h.val * 512 + k.val, by omega⟩)

/-- The gate's columns. -/
def gate (x : S4224x6272.Idx → EReal) (a : Fin 4224) (h : Fin 4) (k : Fin 512) : EReal :=
  x (ix2 a ⟨4096 + (h.val * 512 + k.val), by omega⟩)

/-- The block of the gate a point reads. -/
theorem gate_block (c : Dev nD) (t : Fin cfg0.N) (a : Fin 128) (k : Fin 512) :
    X0_3 m c t (ix2 a k) = m ((c.tc : Thread nD τ).loc main_arg0) (ix2 ⟨(32 - t.val % 33) * 128 + a.val, by omega⟩
      ⟨(8 + t.val / 33) * 512 + k.val, by have := t.isLt; change _ < 132 at this; omega⟩) := by
  have hp := (places t).1
  unfold X0_3 Pipeline.Window.fill
  rw [dif_pos (moved0_3 t _)]
  blk_ext [iblk, V, hp]

/-- What the array ends holding. -/
theorem final (c : Dev nD) : (dats m 0 c).arrAt 16 cfg0.N = fun i => ∑ a : Fin 4224, HeadNorm.term (Ideal.ofBits .f32 0x44000000#32)
    (head (m ((c.tc : Thread nD τ).loc main_arg5)) a (i 0)) (head (m ((c.tc : Thread nD τ).loc main_arg4)) a (i 0))
    (gate (m ((c.tc : Thread nD τ).loc main_arg0)) a (i 0)) (i 2) := by
  refine (dats m 0 c).arrAt_eq_of_covers 16 _ (by decide +kernel) fun t hf y => ?_
  have h2 := (flush0_16 t).mp hf
  have hp := (places t).2.2.2
  blk_simp
  rw [after0_16]
  refine (Pipeline.eq_sum_fin_of_reset_step_apply_of_flush (fun n h => (outsAt0 m c n h).2.2.2.2.2.1) 33 (fun _ => (0 : EReal)) (part m c)
    (first m c) (next m c) t h2 _).trans ?_
  rw [zero_add, ← Equiv.sum_comp Fin.revPerm]
  refine Fin.sum_mul_add_congr fun s k hk => ?_
  have hd := places ⟨33 * (t.val / 33) + (Fin.revPerm s).val, Pipeline.run_point_lt_of_flush t h2 _⟩
  have hs : 32 - (33 * (t.val / 33) + (Fin.revPerm s).val) % 33 = s.val := by
    have := s.isLt
    simp only [Fin.revPerm_apply, Fin.val_rev]
    omega
  have hq : (33 * (t.val / 33) + (Fin.revPerm s).val) / 33 = t.val / 33 := by
    have := s.isLt
    simp only [Fin.revPerm_apply, Fin.val_rev]
    omega
  have hz := gate_block m c ⟨33 * (t.val / 33) + (Fin.revPerm s).val, Pipeline.run_point_lt_of_flush t h2 _⟩
  simp only [hs, hq] at hd hz
  congr 1
  · funext l
    unfold row head
    blk_ext [iblk, V, hd.2.2.1, hp]
  · funext l
    unfold row head
    blk_ext [iblk, V, hd.2.1, hp]
  · funext l
    unfold row gate
    rw [hz]
    blk_ext [hp]
  · exact Fin.ext (by blk_simp [hp])

end Cert.Kernel31Ideal.Value

namespace Cert.Proof

open Cert.Kernel31Ideal.Value Idealize.ShloMosaic Idealize.SL.Sem

/-- The reference runs, leaves its arguments unchanged and every counter at zero. -/
theorem quiescent_Reference31Ideal : quiescent_Reference31Ideal := fun m ρ _ =>
  (θ_run Cert.Reference31Ideal.defs _ _).mono (fun r h => ⟨fun c => (h c).2, sem_eq_zero_of_no_sems (by decide) r.2⟩)
    (Cert.Reference31Ideal.Value.run (F := Ideal) m ρ)

/-- Kernel and reference compute the same gradient. -/
theorem algebraic_Kernel31Ideal_Reference31Ideal : algebraic_Kernel31Ideal_Reference31Ideal := by
  intro m ρ m' ρ' _ hagree
  refine ⟨_, (θ_run Cert.Kernel31Ideal.defs _ _).mono (fun _ h c => ⟨(h c).2.2.2.2.2.1, (h c).2.2.2.2.2.2.2⟩) (Cert.Kernel31Ideal.Value.run_blocks (F := Ideal) m ρ), ?_⟩
  refine (θ_run Cert.Reference31Ideal.defs _ _).mono (fun _ h c => ⟨?_, (h c).2⟩) (Cert.Reference31Ideal.Value.run (F := Ideal) m' ρ')
  rw [(h c).1, Cert.Kernel31Ideal.Value.final]
  simp only [hagree c]
  clear h
  clean_types
  funext i
  unfold head gate
  refine Eq.trans ?_ (Finset.sum_congr rfl fun a _ => HeadNorm.term_eq _ _ _ _ _).symm
  unfold Finite.scale Finite.square HeadNorm.sigmoid
  pointwise

end Cert.Proof

end
-- ==== Proof.Frame32.lean ====
/-
  The gradient of the first layer's norm, as a whole run. The first point writes
  the meta tokens' gradient, which the later points leave alone until the last
  one writes it back; the later points write the rows of the sequence; every
  point adds its part of the weight's gradient.
-/
module

public import proofs.«01_k».proof.Proof.Gen.Kernel32Ideal.Frame
public import proofs.«01_k».proof.Proof.Gen.Kernel32Ideal.Skeleton
public import Idealize.ShloMosaic.Lib.Pipeline.TableIdle
public import Idealize.ShloMosaic.Lib.Claim
public import Idealize.ShloMosaic.Lib.Quiescent

@[expose] public section

set_option maxRecDepth 16384

noncomputable section

namespace Cert.Kernel32Ideal.Whole

open Cert.Kernel32Ideal Cert.Kernel32Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)

/-! ## The two kinds of points -/

theorem first_iff : ∀ t : Fin cfg0.N, k0_cond1 (grid0.coords t) = 1#1 ↔ t.val % 33 = 0 :=
  (by decide +kernel : ∀ t : Fin grid0.N, k0_cond1 (grid0.coords t) = 1#1 ↔ t.val % 33 = 0)

theorem later_iff : ∀ t : Fin cfg0.N, k0_cond2 (grid0.coords t) = 1#1 ↔ ¬t.val % 33 = 0 :=
  (by decide +kernel : ∀ t : Fin grid0.N, k0_cond2 (grid0.coords t) = 1#1 ↔ ¬t.val % 33 = 0)

theorem not_later (t : Fin cfg0.N) (h : t.val % 33 = 0) : ¬k0_cond2 (grid0.coords t) = 1#1 := fun e => (later_iff t).mp e h

theorem not_first (t : Fin cfg0.N) (h : ¬t.val % 33 = 0) : ¬k0_cond1 (grid0.coords t) = 1#1 := fun e => h ((first_iff t).mp e)

/-! ## The buffers at a point, and one of each output's to state contents through -/

abbrev ms0_0 (t : Fin cfg0.N) : Memref sig .tc .vmem S128x2048 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S128x2048 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x2048 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S128x2048 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S128x2048 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S16x2048 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1x2048 .f32 := win0_6.stage (cfg0.slots t 6)
abbrev hs0_6 (t : Fin cfg0.N) : (ms0_6 t).IsWhole := hstage0_6 ((cfg0.slots t 6).cast nbuf0_6)

abbrev VO4 : View sig .tc .vmem S128x2048 .f32 := (Memref.whole cc0_stg4_0 : Memref sig .tc .vmem S128x2048 .f32).view
abbrev VO5 : View sig .tc .vmem S16x2048 .f32 := (Memref.whole cc0_stg5_0 : Memref sig .tc .vmem S16x2048 .f32).view
abbrev VO6 : View sig .tc .vmem S1x2048 .f32 := (Memref.whole cc0_stg6_0 : Memref sig .tc .vmem S1x2048 .f32).view

/-! ## The body on any buffers -/

set_option maxHeartbeats 1000000 in
/-- What the body stores at the first point, as pieces (last first): the meta tokens' block and the weight's gradient; the rows' block is left as found. -/
noncomputable def runA (c : Dev nD) (i : grid0.Coords) (arg1 : Memref sig .tc .vmem S128x2048 .f32) (harg1 : arg1.IsWhole) (arg2 : Memref sig .tc .vmem S128x2048 .f32) (harg2 : arg2.IsWhole) (arg3 : Memref sig .tc .vmem S1x2048 .f32) (harg3 : arg3.IsWhole) (arg4 : Memref sig .tc .vmem S128x2048 .f32) (harg4 : arg4.IsWhole) (arg5 : Memref sig .tc .vmem S128x2048 .f32) (harg5 : arg5.IsWhole) (arg6 : Memref sig .tc .vmem S16x2048 .f32) (harg6 : arg6.IsWhole) (arg7 : Memref sig .tc .vmem S1x2048 .f32) (harg7 : arg7.IsWhole) (hc0 : k0_cond1 i = 1#1) (hc1 : ¬k0_cond2 i = 1#1)
    (x0 x1 : Vec F S128x2048 .f32) (x2 : Vec F S1x2048 .f32) (x3 : Vec F S128x2048 .f32) (x4 : Vec F S128x2048 .f32) :
    Σ' (L5 : List (View.Piece (Elt F) S16x2048 .f32)), { L6 : List (View.Piece (Elt F) S1x2048 .f32) //
      ∀ (E : Set ℕ) (K : PUnit → sProp (MT nD τ sig Unit (Elt F) ℕ (UR sig nD τ) ℕ)),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d) ∗ (∃ d, owns (c : Thread nD τ) arg7 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ f, arg6.view.loc (c : Thread nD τ) ↦[arg6.view.set]{fullShare} arg6.view.writes (Elt F) f L5) ∗ (∃ f, arg7.view.loc (c : Thread nD τ) ↦[arg7.view.set]{fullShare} arg7.view.writes (Elt F) f L6)) -∗ K ⟨⟩))
          ⊢ wp frame (wpE (defs₀ (F := F)) Variants.none c none) E (cc0_norm_ab_bwd i arg1 harg1 arg2 harg2 arg3 harg3 arg4 harg4 arg5 harg5 arg6 harg6 arg7 harg7) K } := by
  refine ⟨?_, ?_, fun E K => ?run⟩
  case run =>
    simp only [cc0_norm_ab_bwd_eq_skeleton]; unfold cc0_norm_ab_bwd_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, Hk⟩
    obtain rfl := harg1.eq_unread hf0; obtain rfl := harg2.eq_unread hf1; obtain rfl := harg3.eq_unread hf2; obtain rfl := harg4.eq_unread hf3; obtain rfl := harg5.eq_unread hf4
    sl_exec (disch := first | sl_exact hc0 | sl_exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]; · iexists _; iexact H5
    iexists _; iexact H6

set_option maxHeartbeats 1000000 in
/-- What the body stores at a later point: the rows' block and the weight's gradient, which it reads; the meta tokens' block is left as found. -/
noncomputable def runB (c : Dev nD) (i : grid0.Coords) (arg1 : Memref sig .tc .vmem S128x2048 .f32) (harg1 : arg1.IsWhole) (arg2 : Memref sig .tc .vmem S128x2048 .f32) (harg2 : arg2.IsWhole) (arg3 : Memref sig .tc .vmem S1x2048 .f32) (harg3 : arg3.IsWhole) (arg4 : Memref sig .tc .vmem S128x2048 .f32) (harg4 : arg4.IsWhole) (arg5 : Memref sig .tc .vmem S128x2048 .f32) (harg5 : arg5.IsWhole) (arg6 : Memref sig .tc .vmem S16x2048 .f32) (harg6 : arg6.IsWhole) (arg7 : Memref sig .tc .vmem S1x2048 .f32) (harg7 : arg7.IsWhole) (hc0 : ¬k0_cond1 i = 1#1) (hc1 : k0_cond2 i = 1#1)
    (x0 x1 : Vec F S128x2048 .f32) (x2 : Vec F S1x2048 .f32) (x3 : Vec F S128x2048 .f32) (x5 : Vec F S16x2048 .f32) (x6 : Vec F S1x2048 .f32) :
    Σ' (L4 : List (View.Piece (Elt F) S128x2048 .f32)), { L6 : List (View.Piece (Elt F) S1x2048 .f32) //
      ∀ (E : Set ℕ) (K : PUnit → sProp (MT nD τ sig Unit (Elt F) ℕ (UR sig nD τ) ℕ)),
        iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d) ∗ owns (c : Thread nD τ) arg6 fullShare x5 ∗ owns (c : Thread nD τ) arg7 fullShare x6
            ∗ (iprop(owns (c : Thread nD τ) arg1 fullShare x0 ∗ owns (c : Thread nD τ) arg2 fullShare x1 ∗ owns (c : Thread nD τ) arg3 fullShare x2 ∗ owns (c : Thread nD τ) arg4 fullShare x3 ∗ (∃ f, arg5.view.loc (c : Thread nD τ) ↦[arg5.view.set]{fullShare} arg5.view.writes (Elt F) f L4) ∗ owns (c : Thread nD τ) arg6 fullShare x5 ∗ (∃ f, arg7.view.loc (c : Thread nD τ) ↦[arg7.view.set]{fullShare} arg7.view.writes (Elt F) f L6)) -∗ K ⟨⟩))
          ⊢ wp frame (wpE (defs₀ (F := F)) Variants.none c none) E (cc0_norm_ab_bwd i arg1 harg1 arg2 harg2 arg3 harg3 arg4 harg4 arg5 harg5 arg6 harg6 arg7 harg7) K } := by
  refine ⟨?_, ?_, fun E K => ?run⟩
  case run =>
    simp only [cc0_norm_ab_bwd_eq_skeleton]; unfold cc0_norm_ab_bwd_skel
    simp only [k0_part1_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%f5, %hf5, H5⟩, ⟨%f6, %hf6, H6⟩, Hk⟩
    obtain rfl := harg1.eq_unread hf0; obtain rfl := harg2.eq_unread hf1; obtain rfl := harg3.eq_unread hf2; obtain rfl := harg4.eq_unread hf3; obtain rfl := harg6.eq_unread hf5; obtain rfl := harg7.eq_unread hf6
    sl_exec (disch := first | sl_exact hc0 | sl_exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]; · iexists _; iexact H4
    isplitl [H5]
    · iexists _; isplitr; · ipureintro; exact harg6.read_unread _
      iexact H5
    iexists _; iexact H6

/-- The pieces cover the block. -/
theorem coverA5 (c : Dev nD) (i : grid0.Coords) (arg1 : Memref sig .tc .vmem S128x2048 .f32) (harg1 : arg1.IsWhole) (arg2 : Memref sig .tc .vmem S128x2048 .f32) (harg2 : arg2.IsWhole) (arg3 : Memref sig .tc .vmem S1x2048 .f32) (harg3 : arg3.IsWhole) (arg4 : Memref sig .tc .vmem S128x2048 .f32) (harg4 : arg4.IsWhole) (arg5 : Memref sig .tc .vmem S128x2048 .f32) (harg5 : arg5.IsWhole) (arg6 : Memref sig .tc .vmem S16x2048 .f32) (harg6 : arg6.IsWhole) (arg7 : Memref sig .tc .vmem S1x2048 .f32) (harg7 : arg7.IsWhole) (hc0 : k0_cond1 i = 1#1) (hc1 : ¬k0_cond2 i = 1#1)
    (x0 x1 : Vec F S128x2048 .f32) (x2 : Vec F S1x2048 .f32) (x3 : Vec F S128x2048 .f32) (x4 : Vec F S128x2048 .f32) (y : S16x2048.Idx) : ∃ pc ∈ (runA c i arg1 harg1 arg2 harg2 arg3 harg3 arg4 harg4 arg5 harg5 arg6 harg6 arg7 harg7 hc0 hc1 x0 x1 x2 x3 x4).1, y ∈ pc.1.set :=
  View.cover_of_tiledL (runA c i arg1 harg1 arg2 harg2 arg3 harg3 arg4 harg4 arg5 harg5 arg6 harg6 arg7 harg7 hc0 hc1 x0 x1 x2 x3 x4).1 S16x2048.size (by sl_kernel_rfl) y

/-- What the buffer holds after. -/
def outA5 (c : Dev nD) (i : grid0.Coords) (arg1 : Memref sig .tc .vmem S128x2048 .f32) (harg1 : arg1.IsWhole) (arg2 : Memref sig .tc .vmem S128x2048 .f32) (harg2 : arg2.IsWhole) (arg3 : Memref sig .tc .vmem S1x2048 .f32) (harg3 : arg3.IsWhole) (arg4 : Memref sig .tc .vmem S128x2048 .f32) (harg4 : arg4.IsWhole) (arg5 : Memref sig .tc .vmem S128x2048 .f32) (harg5 : arg5.IsWhole) (arg6 : Memref sig .tc .vmem S16x2048 .f32) (harg6 : arg6.IsWhole) (arg7 : Memref sig .tc .vmem S1x2048 .f32) (harg7 : arg7.IsWhole) (hc0 : k0_cond1 i = 1#1) (hc1 : ¬k0_cond2 i = 1#1)
    (x0 x1 : Vec F S128x2048 .f32) (x2 : Vec F S1x2048 .f32) (x3 : Vec F S128x2048 .f32) (x4 : Vec F S128x2048 .f32) : Vec F S16x2048 .f32 :=
  VO5.read (Elt F) (VO5.writes (Elt F) VO5.junk (runA c i arg1 harg1 arg2 harg2 arg3 harg3 arg4 harg4 arg5 harg5 arg6 harg6 arg7 harg7 hc0 hc1 x0 x1 x2 x3 x4).1)

/-- The pieces cover the block. -/
theorem coverA6 (c : Dev nD) (i : grid0.Coords) (arg1 : Memref sig .tc .vmem S128x2048 .f32) (harg1 : arg1.IsWhole) (arg2 : Memref sig .tc .vmem S128x2048 .f32) (harg2 : arg2.IsWhole) (arg3 : Memref sig .tc .vmem S1x2048 .f32) (harg3 : arg3.IsWhole) (arg4 : Memref sig .tc .vmem S128x2048 .f32) (harg4 : arg4.IsWhole) (arg5 : Memref sig .tc .vmem S128x2048 .f32) (harg5 : arg5.IsWhole) (arg6 : Memref sig .tc .vmem S16x2048 .f32) (harg6 : arg6.IsWhole) (arg7 : Memref sig .tc .vmem S1x2048 .f32) (harg7 : arg7.IsWhole) (hc0 : k0_cond1 i = 1#1) (hc1 : ¬k0_cond2 i = 1#1)
    (x0 x1 : Vec F S128x2048 .f32) (x2 : Vec F S1x2048 .f32) (x3 : Vec F S128x2048 .f32) (x4 : Vec F S128x2048 .f32) (y : S1x2048.Idx) : ∃ pc ∈ (runA c i arg1 harg1 arg2 harg2 arg3 harg3 arg4 harg4 arg5 harg5 arg6 harg6 arg7 harg7 hc0 hc1 x0 x1 x2 x3 x4).2.1, y ∈ pc.1.set :=
  View.cover_of_tiledL (runA c i arg1 harg1 arg2 harg2 arg3 harg3 arg4 harg4 arg5 harg5 arg6 harg6 arg7 harg7 hc0 hc1 x0 x1 x2 x3 x4).2.1 S1x2048.size (by sl_kernel_rfl) y

/-- What the buffer holds after. -/
def outA6 (c : Dev nD) (i : grid0.Coords) (arg1 : Memref sig .tc .vmem S128x2048 .f32) (harg1 : arg1.IsWhole) (arg2 : Memref sig .tc .vmem S128x2048 .f32) (harg2 : arg2.IsWhole) (arg3 : Memref sig .tc .vmem S1x2048 .f32) (harg3 : arg3.IsWhole) (arg4 : Memref sig .tc .vmem S128x2048 .f32) (harg4 : arg4.IsWhole) (arg5 : Memref sig .tc .vmem S128x2048 .f32) (harg5 : arg5.IsWhole) (arg6 : Memref sig .tc .vmem S16x2048 .f32) (harg6 : arg6.IsWhole) (arg7 : Memref sig .tc .vmem S1x2048 .f32) (harg7 : arg7.IsWhole) (hc0 : k0_cond1 i = 1#1) (hc1 : ¬k0_cond2 i = 1#1)
    (x0 x1 : Vec F S128x2048 .f32) (x2 : Vec F S1x2048 .f32) (x3 : Vec F S128x2048 .f32) (x4 : Vec F S128x2048 .f32) : Vec F S1x2048 .f32 :=
  VO6.read (Elt F) (VO6.writes (Elt F) VO6.junk (runA c i arg1 harg1 arg2 harg2 arg3 harg3 arg4 harg4 arg5 harg5 arg6 harg6 arg7 harg7 hc0 hc1 x0 x1 x2 x3 x4).2.1)

/-- The pieces cover the block. -/
theorem coverB4 (c : Dev nD) (i : grid0.Coords) (arg1 : Memref sig .tc .vmem S128x2048 .f32) (harg1 : arg1.IsWhole) (arg2 : Memref sig .tc .vmem S128x2048 .f32) (harg2 : arg2.IsWhole) (arg3 : Memref sig .tc .vmem S1x2048 .f32) (harg3 : arg3.IsWhole) (arg4 : Memref sig .tc .vmem S128x2048 .f32) (harg4 : arg4.IsWhole) (arg5 : Memref sig .tc .vmem S128x2048 .f32) (harg5 : arg5.IsWhole) (arg6 : Memref sig .tc .vmem S16x2048 .f32) (harg6 : arg6.IsWhole) (arg7 : Memref sig .tc .vmem S1x2048 .f32) (harg7 : arg7.IsWhole) (hc0 : ¬k0_cond1 i = 1#1) (hc1 : k0_cond2 i = 1#1)
    (x0 x1 : Vec F S128x2048 .f32) (x2 : Vec F S1x2048 .f32) (x3 : Vec F S128x2048 .f32) (x5 : Vec F S16x2048 .f32) (x6 : Vec F S1x2048 .f32) (y : S128x2048.Idx) : ∃ pc ∈ (runB c i arg1 harg1 arg2 harg2 arg3 harg3 arg4 harg4 arg5 harg5 arg6 harg6 arg7 harg7 hc0 hc1 x0 x1 x2 x3 x5 x6).1, y ∈ pc.1.set :=
  View.cover_of_tiledL (runB c i arg1 harg1 arg2 harg2 arg3 harg3 arg4 harg4 arg5 harg5 arg6 harg6 arg7 harg7 hc0 hc1 x0 x1 x2 x3 x5 x6).1 S128x2048.size (by sl_kernel_rfl) y

/-- What the buffer holds after. -/
def outB4 (c : Dev nD) (i : grid0.Coords) (arg1 : Memref sig .tc .vmem S128x2048 .f32) (harg1 : arg1.IsWhole) (arg2 : Memref sig .tc .vmem S128x2048 .f32) (harg2 : arg2.IsWhole) (arg3 : Memref sig .tc .vmem S1x2048 .f32) (harg3 : arg3.IsWhole) (arg4 : Memref sig .tc .vmem S128x2048 .f32) (harg4 : arg4.IsWhole) (arg5 : Memref sig .tc .vmem S128x2048 .f32) (harg5 : arg5.IsWhole) (arg6 : Memref sig .tc .vmem S16x2048 .f32) (harg6 : arg6.IsWhole) (arg7 : Memref sig .tc .vmem S1x2048 .f32) (harg7 : arg7.IsWhole) (hc0 : ¬k0_cond1 i = 1#1) (hc1 : k0_cond2 i = 1#1)
    (x0 x1 : Vec F S128x2048 .f32) (x2 : Vec F S1x2048 .f32) (x3 : Vec F S128x2048 .f32) (x5 : Vec F S16x2048 .f32) (x6 : Vec F S1x2048 .f32) : Vec F S128x2048 .f32 :=
  VO4.read (Elt F) (VO4.writes (Elt F) VO4.junk (runB c i arg1 harg1 arg2 harg2 arg3 harg3 arg4 harg4 arg5 harg5 arg6 harg6 arg7 harg7 hc0 hc1 x0 x1 x2 x3 x5 x6).1)

/-- The pieces cover the block. -/
theorem coverB6 (c : Dev nD) (i : grid0.Coords) (arg1 : Memref sig .tc .vmem S128x2048 .f32) (harg1 : arg1.IsWhole) (arg2 : Memref sig .tc .vmem S128x2048 .f32) (harg2 : arg2.IsWhole) (arg3 : Memref sig .tc .vmem S1x2048 .f32) (harg3 : arg3.IsWhole) (arg4 : Memref sig .tc .vmem S128x2048 .f32) (harg4 : arg4.IsWhole) (arg5 : Memref sig .tc .vmem S128x2048 .f32) (harg5 : arg5.IsWhole) (arg6 : Memref sig .tc .vmem S16x2048 .f32) (harg6 : arg6.IsWhole) (arg7 : Memref sig .tc .vmem S1x2048 .f32) (harg7 : arg7.IsWhole) (hc0 : ¬k0_cond1 i = 1#1) (hc1 : k0_cond2 i = 1#1)
    (x0 x1 : Vec F S128x2048 .f32) (x2 : Vec F S1x2048 .f32) (x3 : Vec F S128x2048 .f32) (x5 : Vec F S16x2048 .f32) (x6 : Vec F S1x2048 .f32) (y : S1x2048.Idx) : ∃ pc ∈ (runB c i arg1 harg1 arg2 harg2 arg3 harg3 arg4 harg4 arg5 harg5 arg6 harg6 arg7 harg7 hc0 hc1 x0 x1 x2 x3 x5 x6).2.1, y ∈ pc.1.set :=
  View.cover_of_tiledL (runB c i arg1 harg1 arg2 harg2 arg3 harg3 arg4 harg4 arg5 harg5 arg6 harg6 arg7 harg7 hc0 hc1 x0 x1 x2 x3 x5 x6).2.1 S1x2048.size (by sl_kernel_rfl) y

/-- What the buffer holds after. -/
def outB6 (c : Dev nD) (i : grid0.Coords) (arg1 : Memref sig .tc .vmem S128x2048 .f32) (harg1 : arg1.IsWhole) (arg2 : Memref sig .tc .vmem S128x2048 .f32) (harg2 : arg2.IsWhole) (arg3 : Memref sig .tc .vmem S1x2048 .f32) (harg3 : arg3.IsWhole) (arg4 : Memref sig .tc .vmem S128x2048 .f32) (harg4 : arg4.IsWhole) (arg5 : Memref sig .tc .vmem S128x2048 .f32) (harg5 : arg5.IsWhole) (arg6 : Memref sig .tc .vmem S16x2048 .f32) (harg6 : arg6.IsWhole) (arg7 : Memref sig .tc .vmem S1x2048 .f32) (harg7 : arg7.IsWhole) (hc0 : ¬k0_cond1 i = 1#1) (hc1 : k0_cond2 i = 1#1)
    (x0 x1 : Vec F S128x2048 .f32) (x2 : Vec F S1x2048 .f32) (x3 : Vec F S128x2048 .f32) (x5 : Vec F S16x2048 .f32) (x6 : Vec F S1x2048 .f32) : Vec F S1x2048 .f32 :=
  VO6.read (Elt F) (VO6.writes (Elt F) VO6.junk (runB c i arg1 harg1 arg2 harg2 arg3 harg3 arg4 harg4 arg5 harg5 arg6 harg6 arg7 harg7 hc0 hc1 x0 x1 x2 x3 x5 x6).2.1)

/-! ## What the outputs hold after each point -/

/-- The three outputs' buffers after each point; the first is not stored at the first point. -/
def outsAt (c : Dev nD) : (n : ℕ) → n < cfg0.N → Vec F S128x2048 .f32 × Vec F S16x2048 .f32 × Vec F S1x2048 .f32
  | 0, hn => (VO4.read (Elt F) VO4.junk, outA5 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) ((first_iff ⟨0, hn⟩).mpr (Nat.zero_mod _)) (not_later ⟨0, hn⟩ (Nat.zero_mod _)) (iblk m c 0 ⟨0, hn⟩) (iblk m c 1 ⟨0, hn⟩) (iblk m c 2 ⟨0, hn⟩) (iblk m c 3 ⟨0, hn⟩) (VO4.read (Elt F) VO4.junk), outA6 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) ((first_iff ⟨0, hn⟩).mpr (Nat.zero_mod _)) (not_later ⟨0, hn⟩ (Nat.zero_mod _)) (iblk m c 0 ⟨0, hn⟩) (iblk m c 1 ⟨0, hn⟩) (iblk m c 2 ⟨0, hn⟩) (iblk m c 3 ⟨0, hn⟩) (VO4.read (Elt F) VO4.junk))
  | n + 1, hn =>
    if h0 : (n + 1) % 33 = 0 then
      (VO4.read (Elt F) VO4.junk, outA5 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) ((first_iff ⟨n + 1, hn⟩).mpr h0) (not_later ⟨n + 1, hn⟩ h0) (iblk m c 0 ⟨n + 1, hn⟩) (iblk m c 1 ⟨n + 1, hn⟩) (iblk m c 2 ⟨n + 1, hn⟩) (iblk m c 3 ⟨n + 1, hn⟩) (VO4.read (Elt F) VO4.junk), outA6 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) ((first_iff ⟨n + 1, hn⟩).mpr h0) (not_later ⟨n + 1, hn⟩ h0) (iblk m c 0 ⟨n + 1, hn⟩) (iblk m c 1 ⟨n + 1, hn⟩) (iblk m c 2 ⟨n + 1, hn⟩) (iblk m c 3 ⟨n + 1, hn⟩) (VO4.read (Elt F) VO4.junk))
    else
      (outB4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (not_first ⟨n + 1, hn⟩ h0) ((later_iff ⟨n + 1, hn⟩).mpr h0) (iblk m c 0 ⟨n + 1, hn⟩) (iblk m c 1 ⟨n + 1, hn⟩) (iblk m c 2 ⟨n + 1, hn⟩) (iblk m c 3 ⟨n + 1, hn⟩) (outsAt c n (Nat.lt_of_succ_lt hn)).2.1 (outsAt c n (Nat.lt_of_succ_lt hn)).2.2, (outsAt c n (Nat.lt_of_succ_lt hn)).2.1, outB6 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (not_first ⟨n + 1, hn⟩ h0) ((later_iff ⟨n + 1, hn⟩).mpr h0) (iblk m c 0 ⟨n + 1, hn⟩) (iblk m c 1 ⟨n + 1, hn⟩) (iblk m c 2 ⟨n + 1, hn⟩) (iblk m c 3 ⟨n + 1, hn⟩) (outsAt c n (Nat.lt_of_succ_lt hn)).2.1 (outsAt c n (Nat.lt_of_succ_lt hn)).2.2)

theorem outsAt_A (c : Dev nD) (t : Fin cfg0.N) (h0 : t.val % 33 = 0) :
    outsAt m c t.val t.isLt = (VO4.read (Elt F) VO4.junk, outA5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) ((first_iff t).mpr h0) (not_later t h0) (iblk m c 0 t) (iblk m c 1 t) (iblk m c 2 t) (iblk m c 3 t) (VO4.read (Elt F) VO4.junk), outA6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) ((first_iff t).mpr h0) (not_later t h0) (iblk m c 0 t) (iblk m c 1 t) (iblk m c 2 t) (iblk m c 3 t) (VO4.read (Elt F) VO4.junk)) := by
  obtain ⟨n, hn⟩ := t
  cases n with
  | zero => exact rfl
  | succ n => exact (dif_pos h0).trans rfl

theorem outsAt_B (c : Dev nD) (t : Fin cfg0.N) (h0 : ¬t.val % 33 = 0) :
    outsAt m c t.val t.isLt = (outB4 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (not_first t h0) ((later_iff t).mpr h0) (iblk m c 0 t) (iblk m c 1 t) (iblk m c 2 t) (iblk m c 3 t) (outsAt m c (t.val - 1) (Nat.lt_of_le_of_lt (Nat.sub_le _ _) t.isLt)).2.1 (outsAt m c (t.val - 1) (Nat.lt_of_le_of_lt (Nat.sub_le _ _) t.isLt)).2.2, (outsAt m c (t.val - 1) (Nat.lt_of_le_of_lt (Nat.sub_le _ _) t.isLt)).2.1, outB6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (not_first t h0) ((later_iff t).mpr h0) (iblk m c 0 t) (iblk m c 1 t) (iblk m c 2 t) (iblk m c 3 t) (outsAt m c (t.val - 1) (Nat.lt_of_le_of_lt (Nat.sub_le _ _) t.isLt)).2.1 (outsAt m c (t.val - 1) (Nat.lt_of_le_of_lt (Nat.sub_le _ _) t.isLt)).2.2) := by
  obtain ⟨n, hn⟩ := t
  cases n with
  | zero => exact absurd (Nat.zero_mod _) h0
  | succ n => exact (dif_neg h0).trans rfl

/-! ## The proof data -/

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => (outsAt m c t.val t.isLt).1
    | ⟨5, _⟩ => (outsAt m c t.val t.isLt).2.1
    | ⟨6, _⟩ => (outsAt m c t.val t.isLt).2.2
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = (outsAt m c t.val t.isLt).1 := by dsimp only [dats]
theorem after0_5 (c : Dev nD) (t : Fin cfg0.N) : (dats m 0 c).after 5 t = (outsAt m c t.val t.isLt).2.1 := by dsimp only [dats]
theorem after0_6 (c : Dev nD) (t : Fin cfg0.N) : (dats m 0 c).after 6 t = (outsAt m c t.val t.isLt).2.2 := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d

/-- The weight's gradient is found as the point before left it. -/
theorem before0_6 (c : Dev nD) (t : Fin cfg0.N) (h0 : ¬t.val % 33 = 0) (d) :
    (dats m 0 c).before 6 t d = (outsAt m c (t.val - 1) (Nat.lt_of_le_of_lt (Nat.sub_le _ _) t.isLt)).2.2 := by
  have hN : t.val < 33 := lt_of_lt_of_eq t.isLt (show cfg0.N = 33 from N_0)
  rw [Dat.before_out_kept _ 6 rfl t (by omega) (Bool.eq_false_iff.mpr fun h => by have := (flush0_6 _).mp h; dsimp only at this; omega)
    (fun _ => rfl) (fun _ _ => rfl)]
  dsimp only [dats]

/-- The meta tokens' block is unwritten only at the first point. -/
theorem fresh5 (n : ℕ) (h : n ≤ cfg0.N) : cfg0.fresh 5 n = decide (n % 33 = 0) :=
  cfg0.fresh_tab 5 (fun n => decide (n % 33 = 0)) (by decide)
    (by decide +kernel : ∀ t : Fin grid0.N, decide ((t.val + 1) % 33 = 0) = (win0_5.flush t || (idle0 5 (grid0.coords t) && decide (t.val % 33 = 0)))) n h

/-- Which points leave the meta tokens' block alone. -/
theorem idle5 (t : Fin cfg0.N) (h0 : ¬t.val % 33 = 0) : cfg0.idle 5 (grid0.coords t) = true :=
  (by decide +kernel : ∀ t : Fin grid0.N, ¬t.val % 33 = 0 → idle0 5 (grid0.coords t) = true) t h0

theorem live5 (t : Fin cfg0.N) (h0 : t.val % 33 = 0) : cfg0.idle 5 (grid0.coords t) = false :=
  (by decide +kernel : ∀ t : Fin grid0.N, t.val % 33 = 0 → idle0 5 (grid0.coords t) = false) t h0

theorem live4 (t : Fin cfg0.N) (h0 : ¬t.val % 33 = 0) : cfg0.idle 4 (grid0.coords t) = false :=
  (by decide +kernel : ∀ t : Fin grid0.N, ¬t.val % 33 = 0 → idle0 4 (grid0.coords t) = false) t h0

theorem idle4 (t : Fin cfg0.N) (h0 : t.val % 33 = 0) : cfg0.idle 4 (grid0.coords t) = true :=
  (by decide +kernel : ∀ t : Fin grid0.N, t.val % 33 = 0 → idle0 4 (grid0.coords t) = true) t h0

theorem unflushed4 (t : Fin cfg0.N) (h0 : t.val % 33 = 0) : (cfg0.win 4).flush t = false :=
  (by decide +kernel : ∀ t : Fin grid0.N, t.val % 33 = 0 → win0_4.flush t = false) t h0

/-- The meta tokens' block is found as the first point left it. -/
theorem before0_5 (c : Dev nD) (t : Fin cfg0.N) (h0 : ¬t.val % 33 = 0) (d) :
    (dats m 0 c).before 5 t d = (outsAt m c (t.val - 1) (Nat.lt_of_le_of_lt (Nat.sub_le _ _) t.isLt)).2.1 := by
  have hN : t.val < 33 := lt_of_lt_of_eq t.isLt (show cfg0.N = 33 from N_0)
  rw [Dat.before_out_traj (dats m 0 c) 5 rfl (fun _ _ => rfl) (fun s hs hi hf => ?_) t.val t rfl d, fresh5 _ (Nat.le_of_lt t.isLt), decide_eq_false h0,
    if_neg Bool.false_ne_true, after0_5]
  have hs' : s.val < 33 := lt_of_lt_of_eq s.isLt (show cfg0.N = 33 from N_0)
  rw [after0_5, after0_5, outsAt_B m c s (by omega)]

theorem leaves0 (c : Dev nD) (t : Fin cfg0.N) : (dats m 0 c).leavesExact 0 t = owns (c : Thread nD τ) (ms0_0 t) fullShare (iblk m c 0 t) := by
  unfold Dat.leavesExact
  rw [show cfg0.idle 0 (grid0.coords t) = false from rfl, after0_0]
theorem leaves1 (c : Dev nD) (t : Fin cfg0.N) : (dats m 0 c).leavesExact 1 t = owns (c : Thread nD τ) (ms0_1 t) fullShare (iblk m c 1 t) := by
  unfold Dat.leavesExact
  rw [show cfg0.idle 1 (grid0.coords t) = false from rfl, after0_1]
theorem leaves2 (c : Dev nD) (t : Fin cfg0.N) : (dats m 0 c).leavesExact 2 t = owns (c : Thread nD τ) (ms0_2 t) fullShare (iblk m c 2 t) := by
  unfold Dat.leavesExact
  rw [show cfg0.idle 2 (grid0.coords t) = false from rfl, after0_2]
theorem leaves3 (c : Dev nD) (t : Fin cfg0.N) : (dats m 0 c).leavesExact 3 t = owns (c : Thread nD τ) (ms0_3 t) fullShare (iblk m c 3 t) := by
  unfold Dat.leavesExact
  rw [show cfg0.idle 3 (grid0.coords t) = false from rfl, after0_3]
theorem leaves6 (c : Dev nD) (t : Fin cfg0.N) : (dats m 0 c).leavesExact 6 t = owns (c : Thread nD τ) (ms0_6 t) fullShare (outsAt m c t.val t.isLt).2.2 := by
  unfold Dat.leavesExact
  rw [show cfg0.idle 6 (grid0.coords t) = false from rfl, after0_6]

/-- A later point leaves the meta tokens' block as it found it. -/
theorem leaves5 (c : Dev nD) (t : Fin cfg0.N) (h0 : ¬t.val % 33 = 0) :
    owns (c : Thread nD τ) (ms0_5 t) fullShare (outsAt m c (t.val - 1) (Nat.lt_of_le_of_lt (Nat.sub_le _ _) t.isLt)).2.1 ⊢ ((dats m 0 c).leavesExact 5 t : sProp (MT nD τ sig Unit (Elt F) ℕ (UR sig nD τ) ℕ)) := by
  unfold Dat.leavesExact
  rw [idle5 t h0]
  cases hf : (cfg0.win 5).flush t
  · dsimp only
    simp only [before0_5 m c t h0]
    iintro H
    iexists (outsAt m c (t.val - 1) (Nat.lt_of_le_of_lt (Nat.sub_le _ _) t.isLt)).2.1
    iexact H
  · dsimp only
    rw [after0_5, outsAt_B m c t h0]

/-! ## The body at a point -/

def bodyPre (c : Dev nD) (t : Fin cfg0.N) : sProp (MT nD τ sig Unit (Elt F) ℕ (UR sig nD τ) ℕ) :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d)))

def bodyPost (c : Dev nD) (t : Fin cfg0.N) : sProp (MT nD τ sig Unit (Elt F) ℕ (UR sig nD τ) ℕ) :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t)

set_option maxHeartbeats 1600000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3]
  rw [show (dats m 0 c).Φ t.succ = (dats m 0 c).Φ t.castSucc from rfl,
    show (dats m 0 c).owesAt () t.succ = (dats m 0 c).owesAt () t.castSucc from rfl,
    leaves0, leaves1, leaves2, leaves3, leaves6]
  by_cases h0 : t.val % 33 = 0
  · rw [(dats m 0 c).leavesExact_idle 4 t (idle4 t h0) (unflushed4 t h0),
      show (dats m 0 c).leavesExact 5 t = owns (c : Thread nD τ) (ms0_5 t) fullShare (outsAt m c t.val t.isLt).2.1 from by
        unfold Dat.leavesExact; rw [live5 t h0, after0_5],
      outsAt_A m c t h0]
    unfold outA5 outA6; dsimp only
    iintro ⟨HΦ, Ho, ⟨%d0, H0⟩, ⟨%d1, H1⟩, ⟨%d2, H2⟩, ⟨%d3, H3⟩, ⟨%d4, H4⟩, ⟨%d5, H5⟩, ⟨%d6, H6⟩⟩
    iapply ((runA c (grid0.coords t) _ _ _ _ _ _ _ _ _ _ _ _ _ _ ((first_iff t).mpr h0) (not_later t h0) (iblk m c 0 t) (iblk m c 1 t) (iblk m c 2 t) (iblk m c 3 t) _).2.2 Set.univ _)
    isplitl [H0]; · iexact H0
    isplitl [H1]; · iexact H1
    isplitl [H2]; · iexact H2
    isplitl [H3]; · iexact H3
    isplitl [H4]; · iexact H4
    isplitl [H5]; · iexists _; iexact H5
    isplitl [H6]; · iexists _; iexact H6
    iintro ⟨H0, H1, H2, H3, H4, ⟨%e5, H5⟩, ⟨%e6, H6⟩⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexists _; iexact H4
    isplitl [H5]
    · unfold owns; iexists _; isplitr
      swap; · iexact H5
      ipureintro; exact View.read_writes_of_cover _ _ _ _ _ (coverA5 c _ _ _ _ _ _ _ _ _ _ _ _ _ _ _ _ _ _ _ _ _ _)
    unfold owns; iexists _; isplitr
    swap; · iexact H6
    ipureintro; exact View.read_writes_of_cover _ _ _ _ _ (coverA6 c _ _ _ _ _ _ _ _ _ _ _ _ _ _ _ _ _ _ _ _ _ _)
  · rw [show (dats m 0 c).leavesExact 4 t = owns (c : Thread nD τ) (ms0_4 t) fullShare (outsAt m c t.val t.isLt).1 from by
        unfold Dat.leavesExact; rw [live4 t h0, after0_4],
      outsAt_B m c t h0]
    simp only [before0_5 m c t h0, before0_6 m c t h0]
    unfold outB4 outB6; dsimp only
    iintro ⟨HΦ, Ho, ⟨%d0, H0⟩, ⟨%d1, H1⟩, ⟨%d2, H2⟩, ⟨%d3, H3⟩, ⟨%d4, H4⟩, ⟨%d5, H5⟩, ⟨%d6, H6⟩⟩
    iapply ((runB c (grid0.coords t) _ _ _ _ _ _ _ _ _ _ _ _ _ _ (not_first t h0) ((later_iff t).mpr h0) (iblk m c 0 t) (iblk m c 1 t) (iblk m c 2 t) (iblk m c 3 t) _ _).2.2 Set.univ _)
    isplitl [H0]; · iexact H0
    isplitl [H1]; · iexact H1
    isplitl [H2]; · iexact H2
    isplitl [H3]; · iexact H3
    isplitl [H4]; · iexists _; iexact H4
    isplitl [H5]; · iexact H5
    isplitl [H6]; · iexact H6
    iintro ⟨H0, H1, H2, H3, ⟨%e4, H4⟩, H5, ⟨%e6, H6⟩⟩
    isplitl [HΦ]; · iexact HΦ
    isplitl [Ho]; · iexact Ho
    isplitl [H0]; · iexact H0
    isplitl [H1]; · iexact H1
    isplitl [H2]; · iexact H2
    isplitl [H3]; · iexact H3
    isplitl [H4]
    · unfold owns; iexists _; isplitr
      swap; · iexact H4
      ipureintro; exact View.read_writes_of_cover _ _ _ _ _ (coverB4 c _ _ _ _ _ _ _ _ _ _ _ _ _ _ _ _ _ _ _ _ _ _ _)
    isplitl [H5]
    · iapply (leaves5 m c t h0) $$ H5
    unfold owns; iexists _; isplitr
    swap; · iexact H6
    ipureintro; exact View.read_writes_of_cover _ _ _ _ _ (coverB6 c _ _ _ _ _ _ _ _ _ _ _ _ _ _ _ _ _ _ _ _ _ _ _)

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run -/

-- the implicit arguments are found by unifying the conclusions, which takes unfolding plain definitions in a
-- metavariable's type
set_option backward.isDefEq.respectTransparency.types false in
/-- The arrays end as the proof data says, and every counter at zero. -/
theorem run_main : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The program runs, leaves its arguments unchanged and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_and (frame_of m ρ (dats m) (A_eq m) ((θ_run defs _ _).mono (fun _ h => h.1) (run_main m ρ))) ((θ_run defs _ _).mono (fun _ h => h.2) (run_main m ρ))

/-- The run with the three results named. -/
theorem run_blocks : θ_run defs (onTc (τ := τ) (main (F := F))) ⟨m, fun _ => 0, ρ⟩ fun r => ∀ c : Dev nD,
      r.2.mem ((c : Thread nD τ).loc main_v0_0) = (dats m 0 c).arrAt 4 cfg0.N
      ∧ r.2.mem ((c : Thread nD τ).loc main_v0_1) = (dats m 0 c).arrAt 5 cfg0.N
      ∧ r.2.mem ((c : Thread nD τ).loc main_v0_2) = (dats m 0 c).arrAt 6 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun r hr => by
    have h := hr.1
    exact fun c => ⟨(h c).1 4, (h c).1 5, (h c).1 6, ((h c).1 1).trans (((dats m 0 c).arrAt_in 1 rfl _).trans ((A_eq m c 1).trans (V_main_arg0 m c))),
      ((h c).1 2).trans (((dats m 0 c).arrAt_in 2 rfl _).trans ((A_eq m c 2).trans (V_main_arg1 m c))),
      ((h c).1 0).trans (((dats m 0 c).arrAt_in 0 rfl _).trans ((A_eq m c 0).trans (V_main_arg2 m c))),
      ((h c).1 3).trans (((dats m 0 c).arrAt_in 3 rfl _).trans ((A_eq m c 3).trans (V_main_arg3 m c)))⟩)
    (run_main m ρ)

end Cert.Kernel32Ideal.Whole

end
-- ==== Proof.Same.lean ====
module

public import proofs.«01_k».proof.Proof.Frame32
public import proofs.«01_k».proof.Proof.Gen.Kernel32
public import proofs.«01_k».proof.Proof.Gen.Kernel31Ideal.Frame
public import proofs.«01_k».proof.Proof.Gen.Kernel31
public import proofs.«01_k».proof.Proof.Gen.Kernel30Ideal.Frame
public import proofs.«01_k».proof.Proof.Gen.Kernel30
public import proofs.«01_k».proof.Proof.Gen.KernelIdeal.Frame
public import proofs.«01_k».proof.Proof.Gen.Kernel
public import proofs.«01_k».proof.Defs

@[expose] public section

set_option maxRecDepth 16384

noncomputable section

/-! # Frames over words from frames over any number type

The program over the formats' words is the program over any number type, taken at words: body, table and
claim unfold to the same terms. So the frame proved over any number type is its frame too. -/

namespace Cert.Proof

open Idealize.ShloMosaic Idealize.SL.Sem

theorem quiescent_Kernel32 : Cert.quiescent_Kernel32 := by
  have h := fun m ρ (_ : True) => Cert.Kernel32Ideal.Whole.frame (F := Bits) m ρ
  refine Eq.mp ?_ h
  sl_kernel_rfl

theorem quiescent_Kernel31 : Cert.quiescent_Kernel31 := by
  have h := fun m ρ (_ : True) => Cert.Kernel31Ideal.Gen.frame (F := Bits) m ρ
  refine Eq.mp ?_ h
  sl_kernel_rfl

theorem quiescent_Kernel30 : Cert.quiescent_Kernel30 := by
  have h := fun m ρ (_ : True) => Cert.Kernel30Ideal.Gen.frame (F := Bits) m ρ
  refine Eq.mp ?_ h
  sl_kernel_rfl

theorem quiescent_Kernel : Cert.quiescent_Kernel := by
  have h := fun m ρ (_ : True) => Cert.KernelIdeal.Gen.frame (F := Bits) m ρ
  refine Eq.mp ?_ h
  sl_kernel_rfl

end Cert.Proof

end
-- ==== Proof.Norm32.lean ====
/-
  The gradient of the root-mean-square norm before the first layer: the first
  block of rows holds the padding and the meta tokens, the others the sequence.
  The rows' gradients and the weight's are those of the second layer's norm.
-/
module

public import proofs.«01_k».proof.Proof.Frame32
public import proofs.«01_k».proof.Proof.Norm21
public import Idealize.ShloMosaic.Lib.Pipeline.ValueKit
public import Idealize.ShloMosaic.Lib.Pipeline.ReadBack
public import proofs.«01_k».proof.Proof.Gen.Pre_embed_finite
public import proofs.«01_k».proof.Defs
public import proofs.«01_k».proof.Proof.Gen.Reference32Ideal.Run
public import Idealize.ShloMosaic.Lib.Quiescent
public import Idealize.ShloMosaic.Lib.Tactic.ValueTie

@[expose] public section

set_option maxRecDepth 16384

noncomputable section

namespace Cert.Kernel32Ideal.Value

open Cert.Kernel32Ideal Cert.Kernel32Ideal.Gen Cert.Kernel32Ideal.Whole Cert.Finite Idealize.ShloMosaic Idealize.ShloMosaic.TcCoe Idealize.SL.Sem
open Cert.Kernel21Ideal.Value (rowsGrad weightTerm rowsGrad_eq)

variable (m : (ℓ : Loc nD τ sig) → Buf (Elt Ideal) ℓ)

/-- The rows' gradient over the whole arrays. -/
def whole (c : Dev nD) (a : Fin 4224) (b : Fin 2048) : EReal :=
  rowsGrad (A := 4224) (m ((c.tc : Thread nD τ).loc main_arg0)) (m ((c.tc : Thread nD τ).loc main_arg2)) (m ((c.tc : Thread nD τ).loc main_arg3)) (m ((c.tc : Thread nD τ).loc main_arg1)) a b

/-- The block of rows a later point writes. -/
theorem rows (c : Dev nD) (t : Fin cfg0.N) (h : ¬t.val % 33 = 0) (j : S128x2048.Idx) :
    (outsAt m c t.val t.isLt).1 j = rowsGrad (A := 128) (iblk m c 1 t) (iblk m c 0 t) (iblk m c 3 t) (iblk m c 2 t) (j 0) (j 1) := by
  rw [outsAt_B m c t h]
  dsimp only
  frame_out
  unfold k0_pay4 k0_pay3 k0_pay2 rowsGrad grad scale square row through
  pointwise

/-- The block of meta tokens the first point writes. -/
theorem tokens (c : Dev nD) (t : Fin cfg0.N) (h : t.val % 33 = 0) (j : S16x2048.Idx) :
    (outsAt m c t.val t.isLt).2.1 j = rowsGrad (A := 128) (iblk m c 1 t) (iblk m c 0 t) (iblk m c 3 t) (iblk m c 2 t) ⟨112 + (j 0).val, by have := (j 0).isLt; simp at this; omega⟩ (j 1) := by
  rw [outsAt_A m c t h]
  dsimp only
  frame_out
  unfold k0_pay6 k0_pay4 k0_pay3 k0_pay2 rowsGrad grad scale square row through
  pointwise

/-- Later points keep it. -/
theorem tokens_kept (c : Dev nD) : ∀ (n : ℕ) (h : n < cfg0.N), (outsAt m c n h).2.1 = (outsAt m c 0 (by decide)).2.1
  | 0, _ => rfl
  | n + 1, h => by
    have hN : n + 1 < 33 := lt_of_lt_of_eq h (show cfg0.N = 33 from N_0)
    have e := congrArg (fun x => x.2.1) (outsAt_B m c ⟨n + 1, h⟩ (by dsimp only; omega))
    exact e.trans (tokens_kept c n (Nat.lt_of_succ_lt h))

/-- The part of the weight's gradient a point adds. -/
def part (c : Dev nD) (t : Fin cfg0.N) (j : S1x2048.Idx) : EReal :=
  ∑ a : Fin 128, weightTerm (A := 128) (iblk m c 1 t) (iblk m c 0 t) a (j 1)

theorem first (c : Dev nD) (t : Fin cfg0.N) (h : t.val % 33 = 0) (j : S1x2048.Idx) :
    (outsAt m c t.val t.isLt).2.2 j = (fun _ : S1x2048.Idx => (0 : EReal)) j + part m c t j := by
  rw [outsAt_A m c t h]
  dsimp only
  frame_out
  unfold k0_pay1 k0_pay5 k0_pay7 k0_pay8 k0_pay3 k0_pay2 part weightTerm scale square row
  pointwise

theorem next (c : Dev nD) (t : Fin cfg0.N) (h : ¬t.val % 33 = 0) (j : S1x2048.Idx) :
    (outsAt m c t.val t.isLt).2.2 j
      = (outsAt m c (t.val - 1) (Nat.lt_of_le_of_lt (Nat.sub_le _ _) t.isLt)).2.2 j + part m c t j := by
  rw [outsAt_B m c t h]
  dsimp only
  frame_out
  unfold k0_pay1 k0_pay7 k0_pay8 k0_pay3 k0_pay2 part weightTerm scale square row
  pointwise

/-- The blocks a point reads and fills. -/
theorem places : ∀ t : Fin cfg0.N, win0_0.index t = ![t.val, 0] ∧ win0_1.index t = ![t.val, 0] ∧ win0_2.index t = ![0, 0]
    ∧ win0_3.index t = ![t.val, 0] ∧ win0_4.index t = ![t.val - 1, 0] ∧ win0_5.index t = ![0, 0] ∧ win0_6.index t = ![0, 0] :=
  (by decide +kernel : ∀ t : Fin grid0.N, _)

/-- A point's block of rows is part of the whole. -/
theorem block (c : Dev nD) (t : Fin cfg0.N) (a : Fin 128) (b : Fin 2048) (a' : Fin 4224) (h : a'.val = t.val * 128 + a.val) :
    rowsGrad (A := 128) (iblk m c 1 t) (iblk m c 0 t) (iblk m c 3 t) (iblk m c 2 t) a b = whole m c a' b := by
  have hp := places t
  unfold whole rowsGrad
  congr 1
  · blk_ext [iblk, V, hp.2.2.2.1, h]
  · congr 1
    · funext k
      unfold row
      blk_ext [iblk, V, hp.2.1, h]
    · funext k
      unfold through
      congr 1
      · blk_ext [iblk, V, hp.1, h]
      · blk_ext [iblk, V, hp.2.2.1]

/-- What the first array ends holding. -/
theorem final4 (c : Dev nD) : (dats m 0 c).arrAt 4 cfg0.N = fun i => whole m c ⟨128 + (i 0).val, by have := (i 0).isLt; simp at this; omega⟩ (i 1) := by
  refine (dats m 0 c).arrAt_eq_of_covers 4 _ (by decide +kernel) fun t hf y => ?_
  have hp := (places t).2.2.2.2.1
  have h0 : ¬t.val % 33 = 0 := fun h => by rw [unflushed4 t h] at hf; exact Bool.false_ne_true hf
  blk_simp
  rw [after0_4, rows m c t h0]
  refine (block m c t (y 0) (y 1) _ ?_).trans (congrArg (whole m c _) (Fin.ext (by blk_simp [hp])))
  have hi : win0_4.index t 0 = t.val - 1 := by rw [hp]; rfl
  dsimp only
  rw [hi]
  have : t.val ≠ 0 := fun e => h0 (by rw [e])
  omega

/-- What the second array ends holding. -/
theorem final5 (c : Dev nD) : (dats m 0 c).arrAt 5 cfg0.N = fun i => whole m c ⟨112 + (i 0).val, by have := (i 0).isLt; simp at this; omega⟩ (i 1) := by
  refine (dats m 0 c).arrAt_eq_of_covers 5 _ (by decide +kernel) fun t hf y => ?_
  have hp := (places t).2.2.2.2.2.1
  blk_simp
  rw [after0_5, tokens_kept, tokens m c ⟨0, by decide⟩ rfl]
  refine (block m c ⟨0, by decide⟩ _ (y 1) _ ?_).trans (congrArg (whole m c _) (Fin.ext (by blk_simp [hp])))
  have hi : win0_5.index t 0 = 0 := by rw [hp]; rfl
  dsimp only
  rw [hi]
  omega

/-- What the third array ends holding. -/
theorem final6 (c : Dev nD) : (dats m 0 c).arrAt 6 cfg0.N = fun i => ∑ a : Fin 4224, weightTerm (A := 4224) (m ((c.tc : Thread nD τ).loc main_arg0)) (m ((c.tc : Thread nD τ).loc main_arg2)) a (i 1) := by
  refine (dats m 0 c).arrAt_eq_of_covers 6 _ (by decide +kernel) fun t hf y => ?_
  have h2 := (flush0_6 t).mp hf
  have hp := (places t).2.2.2.2.2.2
  blk_simp
  rw [after0_6]
  refine (Pipeline.eq_sum_fin_of_reset_step_apply_of_flush (fun n h => (outsAt m c n h).2.2) 33 (fun _ => (0 : EReal)) (part m c)
    (first m c) (next m c) t h2 _).trans ?_
  rw [zero_add]
  refine Fin.sum_mul_add_congr fun s k hk => ?_
  have hd := places ⟨33 * (t.val / 33) + s.val, Pipeline.run_point_lt_of_flush t h2 s⟩
  unfold weightTerm
  congr 1
  · blk_ext [iblk, V, hd.1, hp]
  · congr 1
    · blk_ext [iblk, V, hd.2.1, hp]
    · congr 1
      funext l
      unfold row
      blk_ext [iblk, V, hd.2.1, hp]

end Cert.Kernel32Ideal.Value

namespace Cert.Proof

open Cert.Finite Cert.Kernel32Ideal.Value Idealize.ShloMosaic Idealize.SL.Sem
open Cert.Kernel21Ideal.Value (rowsGrad weightTerm rowsGrad_eq)

/-- The reference runs, leaves its arguments unchanged and every counter at zero. -/
theorem quiescent_Reference32Ideal : quiescent_Reference32Ideal := fun m ρ _ =>
  (θ_run Cert.Reference32Ideal.defs _ _).mono (fun r h => ⟨fun c => (h c).2.2.2, sem_eq_zero_of_no_sems (by decide) r.2⟩)
    (Cert.Reference32Ideal.Value.run (F := Ideal) m ρ)

/-- The numbers the precondition is of are real. -/
theorem embed_real (m : (ℓ : Loc Cert.Kernel32Ideal.nD Cert.Kernel32Ideal.τ Cert.Kernel32Ideal.sig) → Buf (Elt Ideal) ℓ) (hpre : Pre_Kernel32Ideal_embed_finite m) (c : Dev Cert.Kernel32Ideal.nD) :
    (∀ i, ∃ r : ℝ, m ((c.tc : Thread Cert.Kernel32Ideal.nD Cert.Kernel32Ideal.τ).loc Cert.Kernel32Ideal.main_arg0) i = (r : EReal))
      ∧ (∀ i, ∃ r : ℝ, m ((c.tc : Thread Cert.Kernel32Ideal.nD Cert.Kernel32Ideal.τ).loc Cert.Kernel32Ideal.main_arg1) i = (r : EReal))
      ∧ (∀ i, ∃ r : ℝ, m ((c.tc : Thread Cert.Kernel32Ideal.nD Cert.Kernel32Ideal.τ).loc Cert.Kernel32Ideal.main_arg2) i = (r : EReal)) := by
  obtain ⟨hx, hw, hg⟩ := hpre c
  refine ⟨fun i => ?_, fun i => ?_, fun i => ?_⟩
  · have := congrFun hx i
    revert this
    unfold Cert.Pre_embed_finite.fn
    pointwise
    exact real_of_abs_lt
  · have := congrFun hw i
    revert this
    unfold Cert.Pre_embed_finite.fn
    pointwise
    exact real_of_abs_lt
  · have := congrFun hg i
    revert this
    unfold Cert.Pre_embed_finite.fn
    pointwise
    exact real_of_abs_lt

/-- Kernel and reference compute the same gradients. -/
theorem algebraic_Kernel32Ideal_Reference32Ideal : algebraic_Kernel32Ideal_Reference32Ideal_pre_embed_finite := by
  intro m ρ m' ρ' hpre hagree
  refine ⟨_, _, _, Cert.Kernel32Ideal.Whole.run_blocks (F := Ideal) m ρ, ?_⟩
  refine (θ_run Cert.Reference32Ideal.defs _ _).mono (fun _ h c => ⟨?_, ?_, ?_, (h c).2.2.2⟩) (Cert.Reference32Ideal.Value.run (F := Ideal) m' ρ')
  · rw [(h c).1, Cert.Kernel32Ideal.Value.final4]
    simp only [hagree c]
    obtain ⟨hx, hw, hg⟩ := embed_real m hpre c
    funext i
    unfold whole
    refine Eq.trans ?_ (rowsGrad_eq _ _ _ _ hx hg hw _ _).symm
    clean_types
    unfold pull scale square row through
    pointwise
    simp only [Fin.sum_univ_one]
  · rw [(h c).2.1, Cert.Kernel32Ideal.Value.final5]
    simp only [hagree c]
    obtain ⟨hx, hw, hg⟩ := embed_real m hpre c
    funext i
    unfold whole
    refine Eq.trans ?_ (rowsGrad_eq _ _ _ _ hx hg hw _ _).symm
    clean_types
    unfold pull scale square row through
    pointwise
    simp only [Fin.sum_univ_one]
  · rw [(h c).2.2.1, Cert.Kernel32Ideal.Value.final6]
    simp only [hagree c]
    clean_types
    funext i
    unfold weightTerm scale square row
    pointwise
    exact Finset.sum_congr rfl fun k _ => mul_comm _ _

end Cert.Proof

end
-- ==== Proof.lean ====
module

public import proofs.«01_k».proof.Defs
public import proofs.«01_k».proof.Proof.Gen.KernelIdeal.Frame
public import proofs.«01_k».proof.Proof.Gen.ReferenceIdeal.Run
public import proofs.«01_k».proof.Proof.Gen.Kernel2.Frame
public import proofs.«01_k».proof.Proof.Gen.Kernel2Ideal.Value
public import proofs.«01_k».proof.Proof.Gen.Reference2Ideal.Run
public import proofs.«01_k».proof.Proof.Product2
public import proofs.«01_k».proof.Proof.Gen.Kernel3.Frame
public import proofs.«01_k».proof.Proof.Gen.Kernel3Ideal.Value
public import proofs.«01_k».proof.Proof.Gen.Reference3Ideal.Run
public import proofs.«01_k».proof.Proof.Product3
public import proofs.«01_k».proof.Proof.Gen.Kernel4.Frame
public import proofs.«01_k».proof.Proof.Gen.Kernel4Ideal.Value
public import proofs.«01_k».proof.Proof.Gen.Reference4Ideal.Run
public import proofs.«01_k».proof.Proof.Product4
public import proofs.«01_k».proof.Proof.Gen.Kernel5.Frame
public import proofs.«01_k».proof.Proof.Gen.Kernel5Ideal.Value
public import proofs.«01_k».proof.Proof.Gen.Reference5Ideal.Run
public import proofs.«01_k».proof.Proof.Product5
public import proofs.«01_k».proof.Proof.Gen.Kernel6.Frame
public import proofs.«01_k».proof.Proof.Gen.Kernel6Ideal.Value
public import proofs.«01_k».proof.Proof.Gen.Reference6Ideal.Run
public import proofs.«01_k».proof.Proof.Product6
public import proofs.«01_k».proof.Proof.Gen.Kernel7.Frame
public import proofs.«01_k».proof.Proof.Gen.Kernel7Ideal.Value
public import proofs.«01_k».proof.Proof.Gen.Reference7Ideal.Run
public import proofs.«01_k».proof.Proof.Product7
public import proofs.«01_k».proof.Proof.Gen.Kernel8.Frame
public import proofs.«01_k».proof.Proof.Gen.Kernel8Ideal.Value
public import proofs.«01_k».proof.Proof.Gen.Reference8Ideal.Run
public import proofs.«01_k».proof.Proof.Product8
public import proofs.«01_k».proof.Proof.Gen.Kernel9.Frame
public import proofs.«01_k».proof.Proof.Gen.Kernel9Ideal.Value
public import proofs.«01_k».proof.Proof.Gen.Reference9Ideal.Run
public import proofs.«01_k».proof.Proof.Product9
public import proofs.«01_k».proof.Proof.Gen.Kernel10.Frame
public import proofs.«01_k».proof.Proof.Gen.Kernel10Ideal.Value
public import proofs.«01_k».proof.Proof.Gen.Reference10Ideal.Run
public import proofs.«01_k».proof.Proof.Product10
public import proofs.«01_k».proof.Proof.Gen.Kernel11.Frame
public import proofs.«01_k».proof.Proof.Gen.Kernel11Ideal.Value
public import proofs.«01_k».proof.Proof.Gen.Reference11Ideal.Run
public import proofs.«01_k».proof.Proof.Product11
public import proofs.«01_k».proof.Proof.Gen.Kernel12.Frame
public import proofs.«01_k».proof.Proof.Gen.Kernel12Ideal.Value
public import proofs.«01_k».proof.Proof.Gen.Reference12Ideal.Run
public import proofs.«01_k».proof.Proof.Product12
public import proofs.«01_k».proof.Proof.Gen.Kernel13.Frame
public import proofs.«01_k».proof.Proof.Gen.Kernel13Ideal.Value
public import proofs.«01_k».proof.Proof.Gen.Reference13Ideal.Run
public import proofs.«01_k».proof.Proof.Product13
public import proofs.«01_k».proof.Proof.Gen.Kernel14.Frame
public import proofs.«01_k».proof.Proof.Gen.Kernel14Ideal.Frame
public import proofs.«01_k».proof.Proof.Gen.Reference14Ideal.Run
public import proofs.«01_k».proof.Proof.Product14
public import proofs.«01_k».proof.Proof.Gen.Kernel15.Frame
public import proofs.«01_k».proof.Proof.Gen.Kernel15Ideal.Value
public import proofs.«01_k».proof.Proof.Gen.Reference15Ideal.Run
public import proofs.«01_k».proof.Proof.Update15
public import proofs.«01_k».proof.Proof.Gen.Kernel16.Frame
public import proofs.«01_k».proof.Proof.Gen.Kernel16Ideal.Value
public import proofs.«01_k».proof.Proof.Gen.Reference16Ideal.Run
public import proofs.«01_k».proof.Proof.Update16
public import proofs.«01_k».proof.Proof.Gen.Kernel17.Frame
public import proofs.«01_k».proof.Proof.Gen.Kernel17Ideal.Value
public import proofs.«01_k».proof.Proof.Gen.Reference17Ideal.Run
public import proofs.«01_k».proof.Proof.Update17
public import proofs.«01_k».proof.Proof.Gen.Kernel18.Frame
public import proofs.«01_k».proof.Proof.Gen.Kernel18Ideal.Value
public import proofs.«01_k».proof.Proof.Gen.Reference18Ideal.Run
public import proofs.«01_k».proof.Proof.Update18
public import proofs.«01_k».proof.Proof.Gen.Kernel19.Frame
public import proofs.«01_k».proof.Proof.Gen.Kernel19Ideal.Value
public import proofs.«01_k».proof.Proof.Gen.Reference19Ideal.Run
public import proofs.«01_k».proof.Proof.Update19
public import proofs.«01_k».proof.Proof.Gen.Kernel20.Frame
public import proofs.«01_k».proof.Proof.Gen.Kernel20Ideal.Value
public import proofs.«01_k».proof.Proof.Gen.Reference20Ideal.Run
public import proofs.«01_k».proof.Proof.Update20
public import proofs.«01_k».proof.Proof.Gen.Kernel21.Frame
public import proofs.«01_k».proof.Proof.Gen.Kernel21Ideal.Value
public import proofs.«01_k».proof.Proof.Gen.Reference21Ideal.Run
public import proofs.«01_k».proof.Proof.Norm21
public import proofs.«01_k».proof.Proof.Gen.Kernel22.Frame
public import proofs.«01_k».proof.Proof.Gen.Kernel22Ideal.Value
public import proofs.«01_k».proof.Proof.Gen.Reference22Ideal.Run
public import proofs.«01_k».proof.Proof.Norm22
public import proofs.«01_k».proof.Proof.Gen.Kernel23.Frame
public import proofs.«01_k».proof.Proof.Gen.Kernel23Ideal.Value
public import proofs.«01_k».proof.Proof.Gen.Reference23Ideal.Run
public import proofs.«01_k».proof.Proof.Norm23
public import proofs.«01_k».proof.Proof.Gen.Kernel24.Frame
public import proofs.«01_k».proof.Proof.Gen.Kernel24Ideal.Value
public import proofs.«01_k».proof.Proof.Gen.Reference24Ideal.Run
public import proofs.«01_k».proof.Proof.Product24
public import proofs.«01_k».proof.Proof.Gen.Kernel25.Frame
public import proofs.«01_k».proof.Proof.Gen.Kernel25Ideal.Value
public import proofs.«01_k».proof.Proof.Gen.Reference25Ideal.Run
public import proofs.«01_k».proof.Proof.Product25
public import proofs.«01_k».proof.Proof.Gen.Kernel26.Frame
public import proofs.«01_k».proof.Proof.Gen.Kernel26Ideal.Value
public import proofs.«01_k».proof.Proof.Gen.Reference26Ideal.Run
public import proofs.«01_k».proof.Proof.Product26
public import proofs.«01_k».proof.Proof.Gen.Kernel27.Frame
public import proofs.«01_k».proof.Proof.Gen.Kernel27Ideal.Value
public import proofs.«01_k».proof.Proof.Gen.Reference27Ideal.Run
public import proofs.«01_k».proof.Proof.Product27
public import proofs.«01_k».proof.Proof.Gen.Kernel28.Frame
public import proofs.«01_k».proof.Proof.Gen.Kernel28Ideal.Value
public import proofs.«01_k».proof.Proof.Gen.Reference28Ideal.Run
public import proofs.«01_k».proof.Proof.Product28
public import proofs.«01_k».proof.Proof.Gen.Kernel29.Frame
public import proofs.«01_k».proof.Proof.Gen.Kernel29Ideal.Value
public import proofs.«01_k».proof.Proof.Gen.Reference29Ideal.Run
public import proofs.«01_k».proof.Proof.Norm29
public import proofs.«01_k».proof.Proof.Gen.Kernel30Ideal.Value
public import proofs.«01_k».proof.Proof.Gen.Reference30Ideal.Run
public import proofs.«01_k».proof.Proof.Norm30
public import proofs.«01_k».proof.Proof.Gen.Kernel31Ideal.Value
public import proofs.«01_k».proof.Proof.Gen.Reference31Ideal.Run
public import proofs.«01_k».proof.Proof.Norm31
public import proofs.«01_k».proof.Proof.Same
public import proofs.«01_k».proof.Proof.Frame32
public import proofs.«01_k».proof.Proof.Gen.Reference32Ideal.Run
public import proofs.«01_k».proof.Proof.Norm32
public import proofs.«01_k».proof.Proof.Gen.Pre_norm_finite
public import proofs.«01_k».proof.Proof.Gen.Pre_loss_finite
public import proofs.«01_k».proof.Proof.Gen.Pre_gate_finite
public import proofs.«01_k».proof.Proof.Gen.Pre_embed_finite
public import proofs.«01_k».proof.Proof.Gen.On_first_rows
public import proofs.«01_k».proof.Proof.Gen.On_ret_rows
public import Idealize.ShloMosaic.Adequacy
public import Idealize.ShloMosaic.Init
public import Idealize.ShloMosaic.Lib.Quiescent
public import Idealize.ShloMosaic.Lib.Tactic.ValueTie

@[expose] public section

noncomputable section

namespace Cert.Proof

open Idealize.ShloMosaic Idealize.SL.Sem

theorem quiescent_ReferenceIdeal : quiescent_ReferenceIdeal := fun m ρ _ =>
  (θ_run Cert.ReferenceIdeal.defs _ _).mono (fun r h => ⟨fun c => (h c).2.2, sem_eq_zero_of_no_sems (by decide) r.2⟩)
    (Cert.ReferenceIdeal.Value.run (F := Ideal) m ρ)

theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts,
  Cert.Kernel5.Gen.facts, Cert.Kernel5Ideal.Gen.facts, Cert.Reference5Ideal.Gen.facts,
  Cert.Kernel6.Gen.facts, Cert.Kernel6Ideal.Gen.facts, Cert.Reference6Ideal.Gen.facts,
  Cert.Kernel7.Gen.facts, Cert.Kernel7Ideal.Gen.facts, Cert.Reference7Ideal.Gen.facts,
  Cert.Kernel8.Gen.facts, Cert.Kernel8Ideal.Gen.facts, Cert.Reference8Ideal.Gen.facts,
  Cert.Kernel9.Gen.facts, Cert.Kernel9Ideal.Gen.facts, Cert.Reference9Ideal.Gen.facts,
  Cert.Kernel10.Gen.facts, Cert.Kernel10Ideal.Gen.facts, Cert.Reference10Ideal.Gen.facts,
  Cert.Kernel11.Gen.facts, Cert.Kernel11Ideal.Gen.facts, Cert.Reference11Ideal.Gen.facts,
  Cert.Kernel12.Gen.facts, Cert.Kernel12Ideal.Gen.facts, Cert.Reference12Ideal.Gen.facts,
  Cert.Kernel13.Gen.facts, Cert.Kernel13Ideal.Gen.facts, Cert.Reference13Ideal.Gen.facts,
  Cert.Kernel14.Gen.facts, Cert.Kernel14Ideal.Gen.facts, Cert.Reference14Ideal.Gen.facts,
  Cert.Kernel15.Gen.facts, Cert.Kernel15Ideal.Gen.facts, Cert.Reference15Ideal.Gen.facts,
  Cert.Kernel16.Gen.facts, Cert.Kernel16Ideal.Gen.facts, Cert.Reference16Ideal.Gen.facts,
  Cert.Kernel17.Gen.facts, Cert.Kernel17Ideal.Gen.facts, Cert.Reference17Ideal.Gen.facts,
  Cert.Kernel18.Gen.facts, Cert.Kernel18Ideal.Gen.facts, Cert.Reference18Ideal.Gen.facts,
  Cert.Kernel19.Gen.facts, Cert.Kernel19Ideal.Gen.facts, Cert.Reference19Ideal.Gen.facts,
  Cert.Kernel20.Gen.facts, Cert.Kernel20Ideal.Gen.facts, Cert.Reference20Ideal.Gen.facts,
  Cert.Kernel21.Gen.facts, Cert.Kernel21Ideal.Gen.facts, Cert.Reference21Ideal.Gen.facts,
  Cert.Kernel22.Gen.facts, Cert.Kernel22Ideal.Gen.facts, Cert.Reference22Ideal.Gen.facts,
  Cert.Kernel23.Gen.facts, Cert.Kernel23Ideal.Gen.facts, Cert.Reference23Ideal.Gen.facts,
  Cert.Kernel24.Gen.facts, Cert.Kernel24Ideal.Gen.facts, Cert.Reference24Ideal.Gen.facts,
  Cert.Kernel25.Gen.facts, Cert.Kernel25Ideal.Gen.facts, Cert.Reference25Ideal.Gen.facts,
  Cert.Kernel26.Gen.facts, Cert.Kernel26Ideal.Gen.facts, Cert.Reference26Ideal.Gen.facts,
  Cert.Kernel27.Gen.facts, Cert.Kernel27Ideal.Gen.facts, Cert.Reference27Ideal.Gen.facts,
  Cert.Kernel28.Gen.facts, Cert.Kernel28Ideal.Gen.facts, Cert.Reference28Ideal.Gen.facts,
  Cert.Kernel29.Gen.facts, Cert.Kernel29Ideal.Gen.facts, Cert.Reference29Ideal.Gen.facts,
  Cert.Kernel30.Gen.facts, Cert.Kernel30Ideal.Gen.facts, Cert.Reference30Ideal.Gen.facts,
  Cert.Kernel31.Gen.facts, Cert.Kernel31Ideal.Gen.facts, Cert.Reference31Ideal.Gen.facts,
  Cert.Kernel32.Gen.facts, Cert.Kernel32Ideal.Gen.facts, Cert.Reference32Ideal.Gen.facts,
  Cert.Pre_norm_finite.Gen.facts, Cert.Pre_loss_finite.Gen.facts, Cert.Pre_gate_finite.Gen.facts, Cert.Pre_embed_finite.Gen.facts,
  Cert.On_first_rows.Gen.facts, Cert.On_ret_rows.Gen.facts,
  Cert.Proof.quiescent_Kernel, fun m ρ _ => Cert.KernelIdeal.Gen.frame m ρ, quiescent_ReferenceIdeal,
  fun m ρ _ => Cert.Kernel2.Gen.frame m ρ, fun m ρ _ => Cert.Kernel2Ideal.Gen.frame m ρ, quiescent_Reference2Ideal,
  fun m ρ _ => Cert.Kernel3.Gen.frame m ρ, fun m ρ _ => Cert.Kernel3Ideal.Gen.frame m ρ, quiescent_Reference3Ideal,
  fun m ρ _ => Cert.Kernel4.Gen.frame m ρ, fun m ρ _ => Cert.Kernel4Ideal.Gen.frame m ρ, quiescent_Reference4Ideal,
  fun m ρ _ => Cert.Kernel5.Gen.frame m ρ, fun m ρ _ => Cert.Kernel5Ideal.Gen.frame m ρ, quiescent_Reference5Ideal,
  fun m ρ _ => Cert.Kernel6.Gen.frame m ρ, fun m ρ _ => Cert.Kernel6Ideal.Gen.frame m ρ, quiescent_Reference6Ideal,
  fun m ρ _ => Cert.Kernel7.Gen.frame m ρ, fun m ρ _ => Cert.Kernel7Ideal.Gen.frame m ρ, quiescent_Reference7Ideal,
  fun m ρ _ => Cert.Kernel8.Gen.frame m ρ, fun m ρ _ => Cert.Kernel8Ideal.Gen.frame m ρ, quiescent_Reference8Ideal,
  fun m ρ _ => Cert.Kernel9.Gen.frame m ρ, fun m ρ _ => Cert.Kernel9Ideal.Gen.frame m ρ, quiescent_Reference9Ideal,
  fun m ρ _ => Cert.Kernel10.Gen.frame m ρ, fun m ρ _ => Cert.Kernel10Ideal.Gen.frame m ρ, quiescent_Reference10Ideal,
  fun m ρ _ => Cert.Kernel11.Gen.frame m ρ, fun m ρ _ => Cert.Kernel11Ideal.Gen.frame m ρ, quiescent_Reference11Ideal,
  fun m ρ _ => Cert.Kernel12.Gen.frame m ρ, fun m ρ _ => Cert.Kernel12Ideal.Gen.frame m ρ, quiescent_Reference12Ideal,
  fun m ρ _ => Cert.Kernel13.Gen.frame m ρ, fun m ρ _ => Cert.Kernel13Ideal.Gen.frame m ρ, quiescent_Reference13Ideal,
  fun m ρ _ => Cert.Kernel14.Gen.frame m ρ, fun m ρ _ => Cert.Kernel14Ideal.Gen.frame m ρ, quiescent_Reference14Ideal,
  fun m ρ _ => Cert.Kernel15.Gen.frame m ρ, fun m ρ _ => Cert.Kernel15Ideal.Gen.frame m ρ, quiescent_Reference15Ideal,
  fun m ρ _ => Cert.Kernel16.Gen.frame m ρ, fun m ρ _ => Cert.Kernel16Ideal.Gen.frame m ρ, quiescent_Reference16Ideal,
  fun m ρ _ => Cert.Kernel17.Gen.frame m ρ, fun m ρ _ => Cert.Kernel17Ideal.Gen.frame m ρ, quiescent_Reference17Ideal,
  fun m ρ _ => Cert.Kernel18.Gen.frame m ρ, fun m ρ _ => Cert.Kernel18Ideal.Gen.frame m ρ, quiescent_Reference18Ideal,
  fun m ρ _ => Cert.Kernel19.Gen.frame m ρ, fun m ρ _ => Cert.Kernel19Ideal.Gen.frame m ρ, quiescent_Reference19Ideal,
  fun m ρ _ => Cert.Kernel20.Gen.frame m ρ, fun m ρ _ => Cert.Kernel20Ideal.Gen.frame m ρ, quiescent_Reference20Ideal,
  fun m ρ _ => Cert.Kernel21.Gen.frame m ρ, fun m ρ _ => Cert.Kernel21Ideal.Gen.frame m ρ, fun m ρ _ => Cert.Kernel21Ideal.Gen.frame m ρ,
  quiescent_Reference21Ideal, fun m ρ _ => quiescent_Reference21Ideal m ρ trivial,
  fun m ρ _ => Cert.Kernel22.Gen.frame m ρ, fun m ρ _ => Cert.Kernel22Ideal.Gen.frame m ρ, fun m ρ _ => Cert.Kernel22Ideal.Gen.frame m ρ,
  quiescent_Reference22Ideal, fun m ρ _ => quiescent_Reference22Ideal m ρ trivial,
  fun m ρ _ => Cert.Kernel23.Gen.frame m ρ, fun m ρ _ => Cert.Kernel23Ideal.Gen.frame m ρ, fun m ρ _ => Cert.Kernel23Ideal.Gen.frame m ρ,
  quiescent_Reference23Ideal, fun m ρ _ => quiescent_Reference23Ideal m ρ trivial,
  fun m ρ _ => Cert.Kernel24.Gen.frame m ρ, fun m ρ _ => Cert.Kernel24Ideal.Gen.frame m ρ, quiescent_Reference24Ideal,
  fun m ρ _ => Cert.Kernel25.Gen.frame m ρ, fun m ρ _ => Cert.Kernel25Ideal.Gen.frame m ρ, quiescent_Reference25Ideal,
  fun m ρ _ => Cert.Kernel26.Gen.frame m ρ, fun m ρ _ => Cert.Kernel26Ideal.Gen.frame m ρ, quiescent_Reference26Ideal,
  fun m ρ _ => Cert.Kernel27.Gen.frame m ρ, fun m ρ _ => Cert.Kernel27Ideal.Gen.frame m ρ, quiescent_Reference27Ideal,
  fun m ρ _ => Cert.Kernel28.Gen.frame m ρ, fun m ρ _ => Cert.Kernel28Ideal.Gen.frame m ρ, quiescent_Reference28Ideal,
  fun m ρ _ => Cert.Kernel29.Gen.frame m ρ, fun m ρ _ => Cert.Kernel29Ideal.Gen.frame m ρ, quiescent_Reference29Ideal,
  Cert.Proof.quiescent_Kernel30, fun m ρ _ => Cert.Kernel30Ideal.Gen.frame m ρ, quiescent_Reference30Ideal,
  Cert.Proof.quiescent_Kernel31, fun m ρ _ => Cert.Kernel31Ideal.Gen.frame m ρ, quiescent_Reference31Ideal,
  Cert.Proof.quiescent_Kernel32, fun m ρ _ => Cert.Kernel32Ideal.Whole.frame m ρ, fun m ρ _ => Cert.Kernel32Ideal.Whole.frame m ρ,
  quiescent_Reference32Ideal, fun m ρ _ => quiescent_Reference32Ideal m ρ trivial,
  trivial, trivial, algebraic_Kernel2Ideal_Reference2Ideal,
  trivial, algebraic_Kernel3Ideal_Reference3Ideal_on_first_rows,
  trivial, algebraic_Kernel4Ideal_Reference4Ideal,
  trivial, algebraic_Kernel5Ideal_Reference5Ideal,
  trivial, algebraic_Kernel6Ideal_Reference6Ideal,
  trivial, algebraic_Kernel7Ideal_Reference7Ideal,
  trivial, algebraic_Kernel8Ideal_Reference8Ideal,
  trivial, algebraic_Kernel9Ideal_Reference9Ideal,
  trivial, algebraic_Kernel10Ideal_Reference10Ideal,
  trivial, algebraic_Kernel11Ideal_Reference11Ideal_on_ret_rows,
  trivial, algebraic_Kernel12Ideal_Reference12Ideal,
  trivial, algebraic_Kernel13Ideal_Reference13Ideal,
  trivial, algebraic_Kernel14Ideal_Reference14Ideal,
  trivial, algebraic_Kernel15Ideal_Reference15Ideal,
  trivial, algebraic_Kernel16Ideal_Reference16Ideal,
  trivial, algebraic_Kernel17Ideal_Reference17Ideal,
  trivial, algebraic_Kernel18Ideal_Reference18Ideal,
  trivial, algebraic_Kernel19Ideal_Reference19Ideal,
  trivial, algebraic_Kernel20Ideal_Reference20Ideal,
  trivial, algebraic_Kernel21Ideal_Reference21Ideal,
  trivial, algebraic_Kernel22Ideal_Reference22Ideal,
  trivial, algebraic_Kernel23Ideal_Reference23Ideal,
  trivial, algebraic_Kernel24Ideal_Reference24Ideal,
  trivial, algebraic_Kernel25Ideal_Reference25Ideal,
  trivial, algebraic_Kernel26Ideal_Reference26Ideal,
  trivial, algebraic_Kernel27Ideal_Reference27Ideal,
  trivial, algebraic_Kernel28Ideal_Reference28Ideal,
  trivial, algebraic_Kernel29Ideal_Reference29Ideal,
  trivial, algebraic_Kernel30Ideal_Reference30Ideal,
  trivial, algebraic_Kernel31Ideal_Reference31Ideal,
  trivial, algebraic_Kernel32Ideal_Reference32Ideal⟩

end Cert.Proof

end
